-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Finish [hPre_labels_in_vocab : Cert.Pre_labels_in_vocab.Facts] (m : (ℓ : Loc Cert.Finish.nD Cert.Finish.τ Cert.Finish.sig) → Buf (Elt Bits) ℓ) : Prop :=
  ∀ c : Dev Cert.Finish.nD,
    (Cert.Pre_labels_in_vocab.fn (F := Bits) (m ((c.tc : Thread Cert.Finish.nD Cert.Finish.τ).loc Cert.Finish.main_arg0)) (m ((c.tc : Thread Cert.Finish.nD Cert.Finish.τ).loc Cert.Finish.main_arg1)) (m ((c.tc : Thread Cert.Finish.nD Cert.Finish.τ).loc Cert.Finish.main_arg2)) (m ((c.tc : Thread Cert.Finish.nD Cert.Finish.τ).loc Cert.Finish.main_arg3)) (m ((c.tc : Thread Cert.Finish.nD Cert.Finish.τ).loc Cert.Finish.main_arg4)) (m ((c.tc : Thread Cert.Finish.nD Cert.Finish.τ).loc Cert.Finish.main_arg5)) (m ((c.tc : Thread Cert.Finish.nD Cert.Finish.τ).loc Cert.Finish.main_arg6)) (m ((c.tc : Thread Cert.Finish.nD Cert.Finish.τ).loc Cert.Finish.main_arg7)) (m ((c.tc : Thread Cert.Finish.nD Cert.Finish.τ).loc Cert.Finish.main_arg8)) (m ((c.tc : Thread Cert.Finish.nD Cert.Finish.τ).loc Cert.Finish.main_arg9)) (m ((c.tc : Thread Cert.Finish.nD Cert.Finish.τ).loc Cert.Finish.main_arg10)) (m ((c.tc : Thread Cert.Finish.nD Cert.Finish.τ).loc Cert.Finish.main_arg11))) = (fun _ => 1#1)

def Pre_FinishIdeal [hPre_labels_in_vocab : Cert.Pre_labels_in_vocab.Facts] (m : (ℓ : Loc Cert.FinishIdeal.nD Cert.FinishIdeal.τ Cert.FinishIdeal.sig) → Buf (Elt Ideal) ℓ) : Prop :=
  ∀ c : Dev Cert.FinishIdeal.nD,
    (Cert.Pre_labels_in_vocab.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5)) (m ((c.tc : Thread Cert.FinishIdeal.nD Cert.FinishIdeal.τ).loc Cert.FinishIdeal.main_arg6)) (m ((c.tc : Thread Cert.FinishIdeal.nD Cert.FinishIdeal.τ).loc Cert.FinishIdeal.main_arg7)) (m ((c.tc : Thread Cert.FinishIdeal.nD Cert.FinishIdeal.τ).loc Cert.FinishIdeal.main_arg8)) (m ((c.tc : Thread Cert.FinishIdeal.nD Cert.FinishIdeal.τ).loc Cert.FinishIdeal.main_arg9)) (m ((c.tc : Thread Cert.FinishIdeal.nD Cert.FinishIdeal.τ).loc Cert.FinishIdeal.main_arg10)) (m ((c.tc : Thread Cert.FinishIdeal.nD Cert.FinishIdeal.τ).loc Cert.FinishIdeal.main_arg11))) = (fun _ => 1#1)

def Pre_FinishIdeal_finish_inputs [hPre_finish_inputs : Cert.Pre_finish_inputs.Facts] (m : (ℓ : Loc Cert.FinishIdeal.nD Cert.FinishIdeal.τ Cert.FinishIdeal.sig) → Buf (Elt Ideal) ℓ) : Prop :=
  ∀ c : Dev Cert.FinishIdeal.nD,
    (Cert.Pre_finish_inputs.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5)) (m ((c.tc : Thread Cert.FinishIdeal.nD Cert.FinishIdeal.τ).loc Cert.FinishIdeal.main_arg6)) (m ((c.tc : Thread Cert.FinishIdeal.nD Cert.FinishIdeal.τ).loc Cert.FinishIdeal.main_arg7)) (m ((c.tc : Thread Cert.FinishIdeal.nD Cert.FinishIdeal.τ).loc Cert.FinishIdeal.main_arg8)) (m ((c.tc : Thread Cert.FinishIdeal.nD Cert.FinishIdeal.τ).loc Cert.FinishIdeal.main_arg9)) (m ((c.tc : Thread Cert.FinishIdeal.nD Cert.FinishIdeal.τ).loc Cert.FinishIdeal.main_arg10)) (m ((c.tc : Thread Cert.FinishIdeal.nD Cert.FinishIdeal.τ).loc Cert.FinishIdeal.main_arg11))).1 = (fun _ => 1#1)
    ∧ (Cert.Pre_finish_inputs.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5)) (m ((c.tc : Thread Cert.FinishIdeal.nD Cert.FinishIdeal.τ).loc Cert.FinishIdeal.main_arg6)) (m ((c.tc : Thread Cert.FinishIdeal.nD Cert.FinishIdeal.τ).loc Cert.FinishIdeal.main_arg7)) (m ((c.tc : Thread Cert.FinishIdeal.nD Cert.FinishIdeal.τ).loc Cert.FinishIdeal.main_arg8)) (m ((c.tc : Thread Cert.FinishIdeal.nD Cert.FinishIdeal.τ).loc Cert.FinishIdeal.main_arg9)) (m ((c.tc : Thread Cert.FinishIdeal.nD Cert.FinishIdeal.τ).loc Cert.FinishIdeal.main_arg10)) (m ((c.tc : Thread Cert.FinishIdeal.nD Cert.FinishIdeal.τ).loc Cert.FinishIdeal.main_arg11))).2.1 = (fun _ => 1#1)
    ∧ (Cert.Pre_finish_inputs.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5)) (m ((c.tc : Thread Cert.FinishIdeal.nD Cert.FinishIdeal.τ).loc Cert.FinishIdeal.main_arg6)) (m ((c.tc : Thread Cert.FinishIdeal.nD Cert.FinishIdeal.τ).loc Cert.FinishIdeal.main_arg7)) (m ((c.tc : Thread Cert.FinishIdeal.nD Cert.FinishIdeal.τ).loc Cert.FinishIdeal.main_arg8)) (m ((c.tc : Thread Cert.FinishIdeal.nD Cert.FinishIdeal.τ).loc Cert.FinishIdeal.main_arg9)) (m ((c.tc : Thread Cert.FinishIdeal.nD Cert.FinishIdeal.τ).loc Cert.FinishIdeal.main_arg10)) (m ((c.tc : Thread Cert.FinishIdeal.nD Cert.FinishIdeal.τ).loc Cert.FinishIdeal.main_arg11))).2.2.1 = (fun _ => 1#1)
    ∧ (Cert.Pre_finish_inputs.fn (F := Ideal) (m ((c.tc : Thread Cert.FinishIdeal.nD Cert.FinishIdeal.τ).loc Cert.FinishIdeal.main_arg0)) (m ((c.tc : Thread Cert.FinishIdeal.nD Cert.FinishIdeal.τ).loc Cert.FinishIdeal.main_arg1)) (m ((c.tc : Thread Cert.FinishIdeal.nD Cert.FinishIdeal.τ).loc Cert.FinishIdeal.main_arg2)) (m ((c.tc : Thread Cert.FinishIdeal.nD Cert.FinishIdeal.τ).loc Cert.FinishIdeal.main_arg3)) (m ((c.tc : Thread Cert.FinishIdeal.nD Cert.FinishIdeal.τ).loc Cert.FinishIdeal.main_arg4)) (m ((c.tc : Thread Cert.FinishIdeal.nD Cert.FinishIdeal.τ).loc Cert.FinishIdeal.main_arg5)) (m ((c.tc : Thread Cert.FinishIdeal.nD Cert.FinishIdeal.τ).loc Cert.FinishIdeal.main_arg6)) (m ((c.tc : Thread Cert.FinishIdeal.nD Cert.FinishIdeal.τ).loc Cert.FinishIdeal.main_arg7)) (m ((c.tc : Thread Cert.FinishIdeal.nD Cert.FinishIdeal.τ).loc Cert.FinishIdeal.main_arg8)) (m ((c.tc : Thread Cert.FinishIdeal.nD Cert.FinishIdeal.τ).loc Cert.FinishIdeal.main_arg9)) (m ((c.tc : Thread Cert.FinishIdeal.nD Cert.FinishIdeal.τ).loc Cert.FinishIdeal.main_arg10)) (m ((c.tc : Thread Cert.FinishIdeal.nD Cert.FinishIdeal.τ).loc Cert.FinishIdeal.main_arg11))).2.2.2 = (fun _ => 1#1)

def Pre_FinishReferenceIdeal (m : (ℓ : Loc Cert.FinishReferenceIdeal.nD Cert.FinishReferenceIdeal.τ Cert.FinishReferenceIdeal.sig) → Buf (Elt Ideal) ℓ) : Prop :=
  True

def Pre_FinishReferenceIdeal_finish_inputs [hPre_finish_inputs : Cert.Pre_finish_inputs.Facts] (m : (ℓ : Loc Cert.FinishReferenceIdeal.nD Cert.FinishReferenceIdeal.τ Cert.FinishReferenceIdeal.sig) → Buf (Elt Ideal) ℓ) : Prop :=
  ∀ c : Dev Cert.FinishReferenceIdeal.nD,
    (Cert.Pre_finish_inputs.fn (F := Ideal) (m ((c.tc : Thread Cert.FinishReferenceIdeal.nD Cert.FinishReferenceIdeal.τ).loc Cert.FinishReferenceIdeal.main_arg0)) (m ((c.tc : Thread Cert.FinishReferenceIdeal.nD Cert.FinishReferenceIdeal.τ).loc Cert.FinishReferenceIdeal.main_arg1)) (m ((c.tc : Thread Cert.FinishReferenceIdeal.nD Cert.FinishReferenceIdeal.τ).loc Cert.FinishReferenceIdeal.main_arg2)) (m ((c.tc : Thread Cert.FinishReferenceIdeal.nD Cert.FinishReferenceIdeal.τ).loc Cert.FinishReferenceIdeal.main_arg3)) (m ((c.tc : Thread Cert.FinishReferenceIdeal.nD Cert.FinishReferenceIdeal.τ).loc Cert.FinishReferenceIdeal.main_arg4)) (m ((c.tc : Thread Cert.FinishReferenceIdeal.nD Cert.FinishReferenceIdeal.τ).loc Cert.FinishReferenceIdeal.main_arg5)) (m ((c.tc : Thread Cert.FinishReferenceIdeal.nD Cert.FinishReferenceIdeal.τ).loc Cert.FinishReferenceIdeal.main_arg6)) (m ((c.tc : Thread Cert.FinishReferenceIdeal.nD Cert.FinishReferenceIdeal.τ).loc Cert.FinishReferenceIdeal.main_arg7)) (m ((c.tc : Thread Cert.FinishReferenceIdeal.nD Cert.FinishReferenceIdeal.τ).loc Cert.FinishReferenceIdeal.main_arg8)) (m ((c.tc : Thread Cert.FinishReferenceIdeal.nD Cert.FinishReferenceIdeal.τ).loc Cert.FinishReferenceIdeal.main_arg9)) (m ((c.tc : Thread Cert.FinishReferenceIdeal.nD Cert.FinishReferenceIdeal.τ).loc Cert.FinishReferenceIdeal.main_arg10)) (m ((c.tc : Thread Cert.FinishReferenceIdeal.nD Cert.FinishReferenceIdeal.τ).loc Cert.FinishReferenceIdeal.main_arg11))).1 = (fun _ => 1#1)
    ∧ (Cert.Pre_finish_inputs.fn (F := Ideal) (m ((c.tc : Thread Cert.FinishReferenceIdeal.nD Cert.FinishReferenceIdeal.τ).loc Cert.FinishReferenceIdeal.main_arg0)) (m ((c.tc : Thread Cert.FinishReferenceIdeal.nD Cert.FinishReferenceIdeal.τ).loc Cert.FinishReferenceIdeal.main_arg1)) (m ((c.tc : Thread Cert.FinishReferenceIdeal.nD Cert.FinishReferenceIdeal.τ).loc Cert.FinishReferenceIdeal.main_arg2)) (m ((c.tc : Thread Cert.FinishReferenceIdeal.nD Cert.FinishReferenceIdeal.τ).loc Cert.FinishReferenceIdeal.main_arg3)) (m ((c.tc : Thread Cert.FinishReferenceIdeal.nD Cert.FinishReferenceIdeal.τ).loc Cert.FinishReferenceIdeal.main_arg4)) (m ((c.tc : Thread Cert.FinishReferenceIdeal.nD Cert.FinishReferenceIdeal.τ).loc Cert.FinishReferenceIdeal.main_arg5)) (m ((c.tc : Thread Cert.FinishReferenceIdeal.nD Cert.FinishReferenceIdeal.τ).loc Cert.FinishReferenceIdeal.main_arg6)) (m ((c.tc : Thread Cert.FinishReferenceIdeal.nD Cert.FinishReferenceIdeal.τ).loc Cert.FinishReferenceIdeal.main_arg7)) (m ((c.tc : Thread Cert.FinishReferenceIdeal.nD Cert.FinishReferenceIdeal.τ).loc Cert.FinishReferenceIdeal.main_arg8)) (m ((c.tc : Thread Cert.FinishReferenceIdeal.nD Cert.FinishReferenceIdeal.τ).loc Cert.FinishReferenceIdeal.main_arg9)) (m ((c.tc : Thread Cert.FinishReferenceIdeal.nD Cert.FinishReferenceIdeal.τ).loc Cert.FinishReferenceIdeal.main_arg10)) (m ((c.tc : Thread Cert.FinishReferenceIdeal.nD Cert.FinishReferenceIdeal.τ).loc Cert.FinishReferenceIdeal.main_arg11))).2.1 = (fun _ => 1#1)
    ∧ (Cert.Pre_finish_inputs.fn (F := Ideal) (m ((c.tc : Thread Cert.FinishReferenceIdeal.nD Cert.FinishReferenceIdeal.τ).loc Cert.FinishReferenceIdeal.main_arg0)) (m ((c.tc : Thread Cert.FinishReferenceIdeal.nD Cert.FinishReferenceIdeal.τ).loc Cert.FinishReferenceIdeal.main_arg1)) (m ((c.tc : Thread Cert.FinishReferenceIdeal.nD Cert.FinishReferenceIdeal.τ).loc Cert.FinishReferenceIdeal.main_arg2)) (m ((c.tc : Thread Cert.FinishReferenceIdeal.nD Cert.FinishReferenceIdeal.τ).loc Cert.FinishReferenceIdeal.main_arg3)) (m ((c.tc : Thread Cert.FinishReferenceIdeal.nD Cert.FinishReferenceIdeal.τ).loc Cert.FinishReferenceIdeal.main_arg4)) (m ((c.tc : Thread Cert.FinishReferenceIdeal.nD Cert.FinishReferenceIdeal.τ).loc Cert.FinishReferenceIdeal.main_arg5)) (m ((c.tc : Thread Cert.FinishReferenceIdeal.nD Cert.FinishReferenceIdeal.τ).loc Cert.FinishReferenceIdeal.main_arg6)) (m ((c.tc : Thread Cert.FinishReferenceIdeal.nD Cert.FinishReferenceIdeal.τ).loc Cert.FinishReferenceIdeal.main_arg7)) (m ((c.tc : Thread Cert.FinishReferenceIdeal.nD Cert.FinishReferenceIdeal.τ).loc Cert.FinishReferenceIdeal.main_arg8)) (m ((c.tc : Thread Cert.FinishReferenceIdeal.nD Cert.FinishReferenceIdeal.τ).loc Cert.FinishReferenceIdeal.main_arg9)) (m ((c.tc : Thread Cert.FinishReferenceIdeal.nD Cert.FinishReferenceIdeal.τ).loc Cert.FinishReferenceIdeal.main_arg10)) (m ((c.tc : Thread Cert.FinishReferenceIdeal.nD Cert.FinishReferenceIdeal.τ).loc Cert.FinishReferenceIdeal.main_arg11))).2.2.1 = (fun _ => 1#1)
    ∧ (Cert.Pre_finish_inputs.fn (F := Ideal) (m ((c.tc : Thread Cert.FinishReferenceIdeal.nD Cert.FinishReferenceIdeal.τ).loc Cert.FinishReferenceIdeal.main_arg0)) (m ((c.tc : Thread Cert.FinishReferenceIdeal.nD Cert.FinishReferenceIdeal.τ).loc Cert.FinishReferenceIdeal.main_arg1)) (m ((c.tc : Thread Cert.FinishReferenceIdeal.nD Cert.FinishReferenceIdeal.τ).loc Cert.FinishReferenceIdeal.main_arg2)) (m ((c.tc : Thread Cert.FinishReferenceIdeal.nD Cert.FinishReferenceIdeal.τ).loc Cert.FinishReferenceIdeal.main_arg3)) (m ((c.tc : Thread Cert.FinishReferenceIdeal.nD Cert.FinishReferenceIdeal.τ).loc Cert.FinishReferenceIdeal.main_arg4)) (m ((c.tc : Thread Cert.FinishReferenceIdeal.nD Cert.FinishReferenceIdeal.τ).loc Cert.FinishReferenceIdeal.main_arg5)) (m ((c.tc : Thread Cert.FinishReferenceIdeal.nD Cert.FinishReferenceIdeal.τ).loc Cert.FinishReferenceIdeal.main_arg6)) (m ((c.tc : Thread Cert.FinishReferenceIdeal.nD Cert.FinishReferenceIdeal.τ).loc Cert.FinishReferenceIdeal.main_arg7)) (m ((c.tc : Thread Cert.FinishReferenceIdeal.nD Cert.FinishReferenceIdeal.τ).loc Cert.FinishReferenceIdeal.main_arg8)) (m ((c.tc : Thread Cert.FinishReferenceIdeal.nD Cert.FinishReferenceIdeal.τ).loc Cert.FinishReferenceIdeal.main_arg9)) (m ((c.tc : Thread Cert.FinishReferenceIdeal.nD Cert.FinishReferenceIdeal.τ).loc Cert.FinishReferenceIdeal.main_arg10)) (m ((c.tc : Thread Cert.FinishReferenceIdeal.nD Cert.FinishReferenceIdeal.τ).loc Cert.FinishReferenceIdeal.main_arg11))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Finish [hFinish : Cert.Finish.Facts] [hPre_labels_in_vocab : Cert.Pre_labels_in_vocab.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9)
      ∧ r.2.mem ((c.tc : Thread Cert.Finish.nD Cert.Finish.τ).loc Cert.Finish.main_arg10) = m ((c.tc : Thread Cert.Finish.nD Cert.Finish.τ).loc Cert.Finish.main_arg10)
      ∧ r.2.mem ((c.tc : Thread Cert.Finish.nD Cert.Finish.τ).loc Cert.Finish.main_arg11) = m ((c.tc : Thread Cert.Finish.nD Cert.Finish.τ).loc Cert.Finish.main_arg11))
      ∧ r.2.sem = fun _ => 0)

def quiescent_FinishIdeal [hFinishIdeal : Cert.FinishIdeal.Facts] [hPre_labels_in_vocab : Cert.Pre_labels_in_vocab.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
      ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
      ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11))
      ∧ r.2.sem = fun _ => 0)

def quiescent_FinishIdeal_pre_finish_inputs [hFinishIdeal : Cert.FinishIdeal.Facts] [hPre_finish_inputs : Cert.Pre_finish_inputs.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal_finish_inputs m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
      ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
      ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5)
      ∧ r.2.mem ((c.tc : Thread Cert.FinishReferenceIdeal.nD Cert.FinishReferenceIdeal.τ).loc Cert.FinishReferenceIdeal.main_arg6) = m ((c.tc : Thread Cert.FinishReferenceIdeal.nD Cert.FinishReferenceIdeal.τ).loc Cert.FinishReferenceIdeal.main_arg6)
      ∧ r.2.mem ((c.tc : Thread Cert.FinishReferenceIdeal.nD Cert.FinishReferenceIdeal.τ).loc Cert.FinishReferenceIdeal.main_arg7) = m ((c.tc : Thread Cert.FinishReferenceIdeal.nD Cert.FinishReferenceIdeal.τ).loc Cert.FinishReferenceIdeal.main_arg7)
      ∧ r.2.mem ((c.tc : Thread Cert.FinishReferenceIdeal.nD Cert.FinishReferenceIdeal.τ).loc Cert.FinishReferenceIdeal.main_arg8) = m ((c.tc : Thread Cert.FinishReferenceIdeal.nD Cert.FinishReferenceIdeal.τ).loc Cert.FinishReferenceIdeal.main_arg8)
      ∧ r.2.mem ((c.tc : Thread Cert.FinishReferenceIdeal.nD Cert.FinishReferenceIdeal.τ).loc Cert.FinishReferenceIdeal.main_arg9) = m ((c.tc : Thread Cert.FinishReferenceIdeal.nD Cert.FinishReferenceIdeal.τ).loc Cert.FinishReferenceIdeal.main_arg9)
      ∧ r.2.mem ((c.tc : Thread Cert.FinishReferenceIdeal.nD Cert.FinishReferenceIdeal.τ).loc Cert.FinishReferenceIdeal.main_arg10) = m ((c.tc : Thread Cert.FinishReferenceIdeal.nD Cert.FinishReferenceIdeal.τ).loc Cert.FinishReferenceIdeal.main_arg10)
      ∧ r.2.mem ((c.tc : Thread Cert.FinishReferenceIdeal.nD Cert.FinishReferenceIdeal.τ).loc Cert.FinishReferenceIdeal.main_arg11) = m ((c.tc : Thread Cert.FinishReferenceIdeal.nD Cert.FinishReferenceIdeal.τ).loc Cert.FinishReferenceIdeal.main_arg11))
      ∧ r.2.sem = fun _ => 0)

def quiescent_FinishReferenceIdeal_pre_finish_inputs [hFinishReferenceIdeal : Cert.FinishReferenceIdeal.Facts] [hPre_finish_inputs : Cert.Pre_finish_inputs.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal_finish_inputs m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5)
      ∧ r.2.mem ((c.tc : Thread Cert.FinishReferenceIdeal.nD Cert.FinishReferenceIdeal.τ).loc Cert.FinishReferenceIdeal.main_arg6) = m ((c.tc : Thread Cert.FinishReferenceIdeal.nD Cert.FinishReferenceIdeal.τ).loc Cert.FinishReferenceIdeal.main_arg6)
      ∧ r.2.mem ((c.tc : Thread Cert.FinishReferenceIdeal.nD Cert.FinishReferenceIdeal.τ).loc Cert.FinishReferenceIdeal.main_arg7) = m ((c.tc : Thread Cert.FinishReferenceIdeal.nD Cert.FinishReferenceIdeal.τ).loc Cert.FinishReferenceIdeal.main_arg7)
      ∧ r.2.mem ((c.tc : Thread Cert.FinishReferenceIdeal.nD Cert.FinishReferenceIdeal.τ).loc Cert.FinishReferenceIdeal.main_arg8) = m ((c.tc : Thread Cert.FinishReferenceIdeal.nD Cert.FinishReferenceIdeal.τ).loc Cert.FinishReferenceIdeal.main_arg8)
      ∧ r.2.mem ((c.tc : Thread Cert.FinishReferenceIdeal.nD Cert.FinishReferenceIdeal.τ).loc Cert.FinishReferenceIdeal.main_arg9) = m ((c.tc : Thread Cert.FinishReferenceIdeal.nD Cert.FinishReferenceIdeal.τ).loc Cert.FinishReferenceIdeal.main_arg9)
      ∧ r.2.mem ((c.tc : Thread Cert.FinishReferenceIdeal.nD Cert.FinishReferenceIdeal.τ).loc Cert.FinishReferenceIdeal.main_arg10) = m ((c.tc : Thread Cert.FinishReferenceIdeal.nD Cert.FinishReferenceIdeal.τ).loc Cert.FinishReferenceIdeal.main_arg10)
      ∧ r.2.mem ((c.tc : Thread Cert.FinishReferenceIdeal.nD Cert.FinishReferenceIdeal.τ).loc Cert.FinishReferenceIdeal.main_arg11) = m ((c.tc : Thread Cert.FinishReferenceIdeal.nD Cert.FinishReferenceIdeal.τ).loc Cert.FinishReferenceIdeal.main_arg11))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Finish_FinishIdeal : Prop :=
  IdealRules.named_const.Statement Cert.FinishIdeal.κ "log2_e" .f32 0x3FB8AA3B#32 (((Real.log 2)⁻¹ : ℝ) : EReal)

def algebraic_FinishIdeal_FinishReferenceIdeal_pre_finish_inputs [hFinishIdeal : Cert.FinishIdeal.Facts] [hFinishReferenceIdeal : Cert.FinishReferenceIdeal.Facts] [hPre_finish_inputs : Cert.Pre_finish_inputs.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal_finish_inputs m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)
      ∧ m' ((c.tc : Thread Cert.FinishReferenceIdeal.nD Cert.FinishReferenceIdeal.τ).loc Cert.FinishReferenceIdeal.main_arg4) = m ((c.tc : Thread Cert.FinishIdeal.nD Cert.FinishIdeal.τ).loc Cert.FinishIdeal.main_arg4)
      ∧ m' ((c.tc : Thread Cert.FinishReferenceIdeal.nD Cert.FinishReferenceIdeal.τ).loc Cert.FinishReferenceIdeal.main_arg5) = m ((c.tc : Thread Cert.FinishIdeal.nD Cert.FinishIdeal.τ).loc Cert.FinishIdeal.main_arg5)
      ∧ m' ((c.tc : Thread Cert.FinishReferenceIdeal.nD Cert.FinishReferenceIdeal.τ).loc Cert.FinishReferenceIdeal.main_arg6) = m ((c.tc : Thread Cert.FinishIdeal.nD Cert.FinishIdeal.τ).loc Cert.FinishIdeal.main_arg6)
      ∧ m' ((c.tc : Thread Cert.FinishReferenceIdeal.nD Cert.FinishReferenceIdeal.τ).loc Cert.FinishReferenceIdeal.main_arg7) = m ((c.tc : Thread Cert.FinishIdeal.nD Cert.FinishIdeal.τ).loc Cert.FinishIdeal.main_arg7)
      ∧ m' ((c.tc : Thread Cert.FinishReferenceIdeal.nD Cert.FinishReferenceIdeal.τ).loc Cert.FinishReferenceIdeal.main_arg8) = m ((c.tc : Thread Cert.FinishIdeal.nD Cert.FinishIdeal.τ).loc Cert.FinishIdeal.main_arg8)
      ∧ m' ((c.tc : Thread Cert.FinishReferenceIdeal.nD Cert.FinishReferenceIdeal.τ).loc Cert.FinishReferenceIdeal.main_arg9) = m ((c.tc : Thread Cert.FinishIdeal.nD Cert.FinishIdeal.τ).loc Cert.FinishIdeal.main_arg9)
      ∧ m' ((c.tc : Thread Cert.FinishReferenceIdeal.nD Cert.FinishReferenceIdeal.τ).loc Cert.FinishReferenceIdeal.main_arg10) = m ((c.tc : Thread Cert.FinishIdeal.nD Cert.FinishIdeal.τ).loc Cert.FinishIdeal.main_arg10)
      ∧ m' ((c.tc : Thread Cert.FinishReferenceIdeal.nD Cert.FinishReferenceIdeal.τ).loc Cert.FinishReferenceIdeal.main_arg11) = m ((c.tc : Thread Cert.FinishIdeal.nD Cert.FinishIdeal.τ).loc Cert.FinishIdeal.main_arg11)) →
    ∃ (v0 : (c : Dev Cert.FinishIdeal.nD) → Buf (Elt Ideal) ((c.tc : Thread Cert.FinishIdeal.nD Cert.FinishIdeal.τ).loc Cert.FinishIdeal.main_v11_0)) (v1 : (c : Dev Cert.FinishIdeal.nD) → Buf (Elt Ideal) ((c.tc : Thread Cert.FinishIdeal.nD Cert.FinishIdeal.τ).loc Cert.FinishIdeal.main_v11_1)) (v2 : (c : Dev Cert.FinishIdeal.nD) → Buf (Elt Ideal) ((c.tc : Thread Cert.FinishIdeal.nD Cert.FinishIdeal.τ).loc Cert.FinishIdeal.main_v11_2)) (v3 : (c : Dev Cert.FinishIdeal.nD) → Buf (Elt Ideal) ((c.tc : Thread Cert.FinishIdeal.nD Cert.FinishIdeal.τ).loc Cert.FinishIdeal.main_v11_3)) (v4 : (c : Dev Cert.FinishIdeal.nD) → Buf (Elt Ideal) ((c.tc : Thread Cert.FinishIdeal.nD Cert.FinishIdeal.τ).loc Cert.FinishIdeal.main_v11_4)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v11_0) = v0 c
          ∧ r.2.mem ((c.tc : Thread Cert.FinishIdeal.nD Cert.FinishIdeal.τ).loc Cert.FinishIdeal.main_v11_1) = v1 c
          ∧ r.2.mem ((c.tc : Thread Cert.FinishIdeal.nD Cert.FinishIdeal.τ).loc Cert.FinishIdeal.main_v11_2) = v2 c
          ∧ r.2.mem ((c.tc : Thread Cert.FinishIdeal.nD Cert.FinishIdeal.τ).loc Cert.FinishIdeal.main_v11_3) = v3 c
          ∧ r.2.mem ((c.tc : Thread Cert.FinishIdeal.nD Cert.FinishIdeal.τ).loc Cert.FinishIdeal.main_v11_4) = v4 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
          ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
          ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v47) = v0 c
          ∧ r.2.mem ((c.tc : Thread Cert.FinishReferenceIdeal.nD Cert.FinishReferenceIdeal.τ).loc Cert.FinishReferenceIdeal.main_v48) = v1 c
          ∧ r.2.mem ((c.tc : Thread Cert.FinishReferenceIdeal.nD Cert.FinishReferenceIdeal.τ).loc Cert.FinishReferenceIdeal.main_v49) = v2 c
          ∧ r.2.mem ((c.tc : Thread Cert.FinishReferenceIdeal.nD Cert.FinishReferenceIdeal.τ).loc Cert.FinishReferenceIdeal.main_v50) = v3 c
          ∧ r.2.mem ((c.tc : Thread Cert.FinishReferenceIdeal.nD Cert.FinishReferenceIdeal.τ).loc Cert.FinishReferenceIdeal.main_v51) = v4 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4)
          ∧ r.2.mem ((c.tc : Thread Cert.FinishReferenceIdeal.nD Cert.FinishReferenceIdeal.τ).loc Cert.FinishReferenceIdeal.main_arg5) = m' ((c.tc : Thread Cert.FinishReferenceIdeal.nD Cert.FinishReferenceIdeal.τ).loc Cert.FinishReferenceIdeal.main_arg5)
          ∧ r.2.mem ((c.tc : Thread Cert.FinishReferenceIdeal.nD Cert.FinishReferenceIdeal.τ).loc Cert.FinishReferenceIdeal.main_arg6) = m' ((c.tc : Thread Cert.FinishReferenceIdeal.nD Cert.FinishReferenceIdeal.τ).loc Cert.FinishReferenceIdeal.main_arg6)
          ∧ r.2.mem ((c.tc : Thread Cert.FinishReferenceIdeal.nD Cert.FinishReferenceIdeal.τ).loc Cert.FinishReferenceIdeal.main_arg7) = m' ((c.tc : Thread Cert.FinishReferenceIdeal.nD Cert.FinishReferenceIdeal.τ).loc Cert.FinishReferenceIdeal.main_arg7)
          ∧ r.2.mem ((c.tc : Thread Cert.FinishReferenceIdeal.nD Cert.FinishReferenceIdeal.τ).loc Cert.FinishReferenceIdeal.main_arg8) = m' ((c.tc : Thread Cert.FinishReferenceIdeal.nD Cert.FinishReferenceIdeal.τ).loc Cert.FinishReferenceIdeal.main_arg8)
          ∧ r.2.mem ((c.tc : Thread Cert.FinishReferenceIdeal.nD Cert.FinishReferenceIdeal.τ).loc Cert.FinishReferenceIdeal.main_arg9) = m' ((c.tc : Thread Cert.FinishReferenceIdeal.nD Cert.FinishReferenceIdeal.τ).loc Cert.FinishReferenceIdeal.main_arg9)
          ∧ r.2.mem ((c.tc : Thread Cert.FinishReferenceIdeal.nD Cert.FinishReferenceIdeal.τ).loc Cert.FinishReferenceIdeal.main_arg10) = m' ((c.tc : Thread Cert.FinishReferenceIdeal.nD Cert.FinishReferenceIdeal.τ).loc Cert.FinishReferenceIdeal.main_arg10)
          ∧ r.2.mem ((c.tc : Thread Cert.FinishReferenceIdeal.nD Cert.FinishReferenceIdeal.τ).loc Cert.FinishReferenceIdeal.main_arg11) = m' ((c.tc : Thread Cert.FinishReferenceIdeal.nD Cert.FinishReferenceIdeal.τ).loc Cert.FinishReferenceIdeal.main_arg11))

def Claim : Prop :=
  ∃ (hKernel : Cert.Kernel.Facts) (hKernelIdeal : Cert.KernelIdeal.Facts) (hReferenceIdeal : Cert.ReferenceIdeal.Facts) (hFinish : Cert.Finish.Facts) (hFinishIdeal : Cert.FinishIdeal.Facts) (hFinishReferenceIdeal : Cert.FinishReferenceIdeal.Facts) (hPre_labels_in_vocab : Cert.Pre_labels_in_vocab.Facts) (hPre_finish_inputs : Cert.Pre_finish_inputs.Facts),
    quiescent_Kernel (hKernel := hKernel)
    ∧ quiescent_KernelIdeal (hKernelIdeal := hKernelIdeal)
    ∧ quiescent_ReferenceIdeal (hReferenceIdeal := hReferenceIdeal)
    ∧ quiescent_Finish (hFinish := hFinish) (hPre_labels_in_vocab := hPre_labels_in_vocab)
    ∧ quiescent_FinishIdeal (hFinishIdeal := hFinishIdeal) (hPre_labels_in_vocab := hPre_labels_in_vocab)
    ∧ quiescent_FinishIdeal_pre_finish_inputs (hFinishIdeal := hFinishIdeal) (hPre_finish_inputs := hPre_finish_inputs)
    ∧ quiescent_FinishReferenceIdeal (hFinishReferenceIdeal := hFinishReferenceIdeal)
    ∧ quiescent_FinishReferenceIdeal_pre_finish_inputs (hFinishReferenceIdeal := hFinishReferenceIdeal) (hPre_finish_inputs := hPre_finish_inputs)
    ∧ preserves_Kernel_KernelIdeal
    ∧ algebraic_KernelIdeal_ReferenceIdeal (hKernelIdeal := hKernelIdeal) (hReferenceIdeal := hReferenceIdeal)
    ∧ preserves_Finish_FinishIdeal
    ∧ algebraic_FinishIdeal_FinishReferenceIdeal_pre_finish_inputs (hFinishIdeal := hFinishIdeal) (hFinishReferenceIdeal := hFinishReferenceIdeal) (hPre_finish_inputs := hPre_finish_inputs)
-- ==== Pre_finish_inputs.lean ====
abbrev S6x2560 : Shape := ⟨2, ![6, 2560]⟩
abbrev S128256 : Shape := ⟨1, ![128256]⟩
abbrev S128256x2048 : Shape := ⟨2, ![128256, 2048]⟩
abbrev S6x2560x2048 : Shape := ⟨3, ![6, 2560, 2048]⟩
abbrev S8x15360 : Shape := ⟨2, ![8, 15360]⟩
abbrev S24 : Shape := ⟨1, ![24]⟩
abbrev S12 : Shape := ⟨1, ![12]⟩
abbrev S_ : Shape := ⟨0, ![]⟩

class Facts : Prop where
  bcast_S_S6x2560 : S_.BroadcastsInDim S6x2560 (![] : Fin 0 → Fin S6x2560.rank)
  bcast_S_S128256 : S_.BroadcastsInDim S128256 (![] : Fin 0 → Fin S128256.rank)
  bcast_S_S12 : S_.BroadcastsInDim S12 (![] : Fin 0 → Fin S12.rank)

variable [Facts]

def fn_part1 {F : FTy → Type} [FloatOps F] (main_arg11 : IVec S12 32) (main_v4 : IVec S6x2560 1) (main_v9 : IVec S128256 1) (main_v14 : IVec S12 1) (main_v16 : IVec S12 1) : IVec S6x2560 1 × IVec S128256 1 × IVec S12 1 × IVec S12 1 :=
  let main_c_5 : IVec S_ 32 := constantI S_ 32 24#32
  let main_v17 : IVec S12 32 := broadcastInDim S12 ![] bcast_S_S12 main_c_5
  let main_v18 : IVec S12 1 := cmpi .slt main_arg11 main_v17
  let main_v19 : IVec S12 1 := andi main_v16 main_v18
  (main_v4, main_v9, main_v14, main_v19)

def fn {F : FTy → Type} [FloatOps F] (main_arg0 : IVec S6x2560 32) (main_arg1 : FVec F S128256 .f32) (main_arg2 : IVec S128256x2048 8) (main_arg3 : FVec F S6x2560x2048 .fp8e4m3) (main_arg4 : FVec F S6x2560 .f32) (main_arg5 : FVec F S8x15360 .f32) (main_arg6 : FVec F S8x15360 .f32) (main_arg7 : IVec S6x2560 32) (main_arg8 : IVec S6x2560 32) (main_arg9 : FVec F S24 .f32) (main_arg10 : IVec S12 32) (main_arg11 : IVec S12 32) : IVec S6x2560 1 × IVec S128256 1 × IVec S12 1 × IVec S12 1 :=
  let main_c : IVec S_ 32 := constantI S_ 32 0#32
  let main_v0 : IVec S6x2560 32 := broadcastInDim S6x2560 ![] bcast_S_S6x2560 main_c
  let main_v1 : IVec S6x2560 1 := cmpi .sge main_arg0 main_v0
  let main_c_0 : IVec S_ 32 := constantI S_ 32 128256#32
  let main_v2 : IVec S6x2560 32 := broadcastInDim S6x2560 ![] bcast_S_S6x2560 main_c_0
  let main_v3 : IVec S6x2560 1 := cmpi .slt main_arg0 main_v2
  let main_v4 : IVec S6x2560 1 := andi main_v1 main_v3
  let main_cst : FVec F S_ .f32 := constant S_ .f32 0x00000000#32
  let main_v5 : FVec F S128256 .f32 := broadcastInDim S128256 ![] bcast_S_S128256 main_cst
  let main_v6 : IVec S128256 1 := cmpf .oge main_arg1 main_v5
  let main_cst_1 : FVec F S_ .f32 := constant S_ .f32 0x7F800000#32
  let main_v7 : FVec F S128256 .f32 := broadcastInDim S128256 ![] bcast_S_S128256 main_cst_1
  let main_v8 : IVec S128256 1 := cmpf .olt main_arg1 main_v7
  let main_v9 : IVec S128256 1 := andi main_v6 main_v8
  let main_c_2 : IVec S_ 32 := constantI S_ 32 0#32
  let main_v10 : IVec S12 32 := broadcastInDim S12 ![] bcast_S_S12 main_c_2
  let main_v11 : IVec S12 1 := cmpi .sge main_arg10 main_v10
  let main_c_3 : IVec S_ 32 := constantI S_ 32 24#32
  let main_v12 : IVec S12 32 := broadcastInDim S12 ![] bcast_S_S12 main_c_3
  let main_v13 : IVec S12 1 := cmpi .slt main_arg10 main_v12
  let main_v14 : IVec S12 1 := andi main_v11 main_v13
  let main_c_4 : IVec S_ 32 := constantI S_ 32 0#32
  let main_v15 : IVec S12 32 := broadcastInDim S12 ![] bcast_S_S12 main_c_4
  let main_v16 : IVec S12 1 := cmpi .sge main_arg11 main_v15
  fn_part1 (F := F) main_arg11 main_v4 main_v9 main_v14 main_v16
-- ==== Pre_labels_in_vocab.lean ====
abbrev S6x2560 : Shape := ⟨2, ![6, 2560]⟩
abbrev S128256 : Shape := ⟨1, ![128256]⟩
abbrev S128256x2048 : Shape := ⟨2, ![128256, 2048]⟩
abbrev S6x2560x2048 : Shape := ⟨3, ![6, 2560, 2048]⟩
abbrev S8x15360 : Shape := ⟨2, ![8, 15360]⟩
abbrev S24 : Shape := ⟨1, ![24]⟩
abbrev S12 : Shape := ⟨1, ![12]⟩
abbrev S_ : Shape := ⟨0, ![]⟩

class Facts : Prop where
  bcast_S_S6x2560 : S_.BroadcastsInDim S6x2560 (![] : Fin 0 → Fin S6x2560.rank)

variable [Facts]

def fn {F : FTy → Type} [FloatOps F] (main_arg0 : IVec S6x2560 32) (main_arg1 : FVec F S128256 .f32) (main_arg2 : IVec S128256x2048 8) (main_arg3 : FVec F S6x2560x2048 .fp8e4m3) (main_arg4 : FVec F S6x2560 .f32) (main_arg5 : FVec F S8x15360 .f32) (main_arg6 : FVec F S8x15360 .f32) (main_arg7 : IVec S6x2560 32) (main_arg8 : IVec S6x2560 32) (main_arg9 : FVec F S24 .f32) (main_arg10 : IVec S12 32) (main_arg11 : IVec S12 32) : IVec S6x2560 1 :=
  let main_c : IVec S_ 32 := constantI S_ 32 0#32
  let main_v0 : IVec S6x2560 32 := broadcastInDim S6x2560 ![] bcast_S_S6x2560 main_c
  let main_v1 : IVec S6x2560 1 := cmpi .sge main_arg0 main_v0
  let main_c_0 : IVec S_ 32 := constantI S_ 32 128256#32
  let main_v2 : IVec S6x2560 32 := broadcastInDim S6x2560 ![] bcast_S_S6x2560 main_c_0
  let main_v3 : IVec S6x2560 1 := cmpi .slt main_arg0 main_v2
  let main_v4 : IVec S6x2560 1 := andi main_v1 main_v3
  main_v4
-- ==== Kernel.lean ====
abbrev S6x2560x2048 : Shape := ⟨3, ![6, 2560, 2048]⟩
abbrev S6x2560 : Shape := ⟨2, ![6, 2560]⟩
abbrev S128256x2048 : Shape := ⟨2, ![128256, 2048]⟩
abbrev S128256 : Shape := ⟨1, ![128256]⟩
abbrev S15360x2048 : Shape := ⟨2, ![15360, 2048]⟩
abbrev S167x96x8 : Shape := ⟨3, ![167, 96, 8]⟩
abbrev S167x8x96 : Shape := ⟨3, ![167, 8, 96]⟩
abbrev S1x15360 : Shape := ⟨2, ![1, 15360]⟩
abbrev S8x15360 : Shape := ⟨2, ![8, 15360]⟩
abbrev S768x2048 : Shape := ⟨2, ![768, 2048]⟩
abbrev S1x8x96 : Shape := ⟨3, ![1, 8, 96]⟩
abbrev S1024x2048 : Shape := ⟨2, ![1024, 2048]⟩
abbrev S1x1024 : Shape := ⟨2, ![1, 1024]⟩
abbrev S8x1024 : Shape := ⟨2, ![8, 1024]⟩
abbrev S8x8x1024 : Shape := ⟨3, ![8, 8, 1024]⟩
abbrev S768x128 : Shape := ⟨2, ![768, 128]⟩
abbrev S8x96 : Shape := ⟨2, ![8, 96]⟩
abbrev S8x1 : Shape := ⟨2, ![8, 1]⟩
abbrev S8x128 : Shape := ⟨2, ![8, 128]⟩
abbrev S384x2048 : Shape := ⟨2, ![384, 2048]⟩
abbrev S512x2048 : Shape := ⟨2, ![512, 2048]⟩
abbrev S384x512 : Shape := ⟨2, ![384, 512]⟩
abbrev S1x128 : Shape := ⟨2, ![1, 128]⟩
abbrev S1x8x128 : Shape := ⟨3, ![1, 8, 128]⟩
abbrev S1x8x1024 : Shape := ⟨3, ![1, 8, 1024]⟩
abbrev S1024 : Shape := ⟨1, ![1024]⟩
abbrev S15360x8 : Shape := ⟨2, ![15360, 8]⟩
abbrev S6x2560x8 : Shape := ⟨3, ![6, 2560, 8]⟩

abbrev nBuf : Space → Nat
  | .hbm => 14
  | .vmem => 15
  | .smem => 0
  | _ => 0

abbrev bufTy : (tb : Table) → Fin (tcTables nBuf tb) → BufTy
  | .hbm, ⟨0, _⟩ => ⟨S6x2560x2048, .fp8e4m3⟩
  | .hbm, ⟨1, _⟩ => ⟨S6x2560, .f32⟩
  | .hbm, ⟨2, _⟩ => ⟨S128256x2048, .fp8e4m3⟩
  | .hbm, ⟨3, _⟩ => ⟨S128256, .f32⟩
  | .hbm, ⟨4, _⟩ => ⟨S15360x2048, .fp8e4m3⟩
  | .hbm, ⟨5, _⟩ => ⟨S167x96x8, .f32⟩
  | .hbm, ⟨6, _⟩ => ⟨S167x8x96, .f32⟩
  | .hbm, ⟨7, _⟩ => ⟨S1x15360, .f32⟩
  | .hbm, ⟨8, _⟩ => ⟨S8x15360, .f32⟩
  | .hbm, ⟨9, _⟩ => ⟨S8x15360, .f32⟩
  | .hbm, ⟨10, _⟩ => ⟨S15360x8, .f32⟩
  | .hbm, ⟨11, _⟩ => ⟨S6x2560x8, .f32⟩
  | .hbm, ⟨12, _⟩ => ⟨S15360x8, .f32⟩
  | .hbm, ⟨13, _⟩ => ⟨S6x2560x8, .f32⟩
  | .local _ .vmem, ⟨0, _⟩ => ⟨S768x2048, .fp8e4m3⟩
  | .local _ .vmem, ⟨1, _⟩ => ⟨S768x2048, .fp8e4m3⟩
  | .local _ .vmem, ⟨2, _⟩ => ⟨S1x8x96, .f32⟩
  | .local _ .vmem, ⟨3, _⟩ => ⟨S1x8x96, .f32⟩
  | .local _ .vmem, ⟨4, _⟩ => ⟨S1024x2048, .fp8e4m3⟩
  | .local _ .vmem, ⟨5, _⟩ => ⟨S1024x2048, .fp8e4m3⟩
  | .local _ .vmem, ⟨6, _⟩ => ⟨S1x1024, .f32⟩
  | .local _ .vmem, ⟨7, _⟩ => ⟨S1x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x8x1024, .f32⟩
  | .local _ .vmem, ⟨13, _⟩ => ⟨S8x8x1024, .f32⟩
  | .local _ .vmem, ⟨14, _⟩ => ⟨S768x128, .f32⟩
  | _, _ => ⟨S6x2560x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![15, 167], ![false, false]⟩

def k0_off1 (i : grid0.Coords) (c0_i32_104 : BitVec 32) : Fin 3 → Nat :=
  let arg1 : BitVec 32 := BitVec.ofNat 32 (i 1).val
  let c8_i32 : BitVec 32 := 8#32
  let v585 : BitVec 32 := Scalar.muli arg1 c8_i32
  let v586 : BitVec 32 := Scalar.addi v585 c0_i32_104
  let c0_i32_105 : BitVec 32 := 0#32
  let v588 : BitVec 1 := Scalar.cmpi .sgt v586 c0_i32_105
  let v589 : BitVec 32 := Scalar.extui v588
  let c0_i32_106 : BitVec 32 := 0#32
  let v590 : BitVec 1 := Scalar.cmpi .slt v586 c0_i32_106
  let v591 : BitVec 32 := Scalar.extui v590
  let v592 : BitVec 32 := Scalar.subi v589 v591
  let c167_i32 : BitVec 32 := 167#32
  let c0_i32_107 : BitVec 32 := 0#32
  let v593 : BitVec 1 := Scalar.cmpi .sgt c167_i32 c0_i32_107
  let v594 : BitVec 32 := Scalar.extui v593
  let c0_i32_108 : BitVec 32 := 0#32
  let v595 : BitVec 1 := Scalar.cmpi .slt c167_i32 c0_i32_108
  let v596 : BitVec 32 := Scalar.extui v595
  let v597 : BitVec 32 := Scalar.subi v594 v596
  let v598 : BitVec 1 := Scalar.cmpi .ne v592 v597
  let v599 : BitVec 32 := Scalar.remsi v586 c167_i32
  let c0_i32_109 : BitVec 32 := 0#32
  let v600 : BitVec 1 := Scalar.cmpi .ne v599 c0_i32_109
  let v601 : BitVec 1 := Scalar.andi v598 v600
  let v587 : BitVec 32 := Scalar.divsi v586 c167_i32
  let c1_i32 : BitVec 32 := 1#32
  let v602 : BitVec 32 := Scalar.subi v587 c1_i32
  let v603 : BitVec 32 := Scalar.select v601 v602 v587
  let v666 : Index := Scalar.indexCast v603
  let c0_136 : Index := 0#32
  let c0_137 : Index := 0#32
  ![v666.toNat, 0, 0]
def k0_off2 (i : grid0.Coords) (c0_i32_104 : BitVec 32) : Fin 3 → Nat :=
  let arg1 : BitVec 32 := BitVec.ofNat 32 (i 1).val
  let c8_i32 : BitVec 32 := 8#32
  let v585 : BitVec 32 := Scalar.muli arg1 c8_i32
  let v586 : BitVec 32 := Scalar.addi v585 c0_i32_104
  let c0_i32_105 : BitVec 32 := 0#32
  let v588 : BitVec 1 := Scalar.cmpi .sgt v586 c0_i32_105
  let v589 : BitVec 32 := Scalar.extui v588
  let c0_i32_106 : BitVec 32 := 0#32
  let v590 : BitVec 1 := Scalar.cmpi .slt v586 c0_i32_106
  let v591 : BitVec 32 := Scalar.extui v590
  let v592 : BitVec 32 := Scalar.subi v589 v591
  let c167_i32 : BitVec 32 := 167#32
  let c0_i32_107 : BitVec 32 := 0#32
  let v593 : BitVec 1 := Scalar.cmpi .sgt c167_i32 c0_i32_107
  let v594 : BitVec 32 := Scalar.extui v593
  let c0_i32_108 : BitVec 32 := 0#32
  let v595 : BitVec 1 := Scalar.cmpi .slt c167_i32 c0_i32_108
  let v596 : BitVec 32 := Scalar.extui v595
  let v597 : BitVec 32 := Scalar.subi v594 v596
  let v598 : BitVec 1 := Scalar.cmpi .ne v592 v597
  let v599 : BitVec 32 := Scalar.remsi v586 c167_i32
  let c0_i32_109 : BitVec 32 := 0#32
  let v600 : BitVec 1 := Scalar.cmpi .ne v599 c0_i32_109
  let v601 : BitVec 1 := Scalar.andi v598 v600
  let v587 : BitVec 32 := Scalar.divsi v586 c167_i32
  let c1_i32 : BitVec 32 := 1#32
  let v602 : BitVec 32 := Scalar.subi v587 c1_i32
  let v603 : BitVec 32 := Scalar.select v601 v602 v587
  let v819 : Index := Scalar.indexCast v603
  let c0_183 : Index := 0#32
  let c128_184 : Index := 128#32
  ![v819.toNat, 0, 128]
def k0_off3 (i : grid0.Coords) (c0_i32_104 : BitVec 32) : Fin 3 → Nat :=
  let arg1 : BitVec 32 := BitVec.ofNat 32 (i 1).val
  let c8_i32 : BitVec 32 := 8#32
  let v585 : BitVec 32 := Scalar.muli arg1 c8_i32
  let v586 : BitVec 32 := Scalar.addi v585 c0_i32_104
  let c0_i32_105 : BitVec 32 := 0#32
  let v588 : BitVec 1 := Scalar.cmpi .sgt v586 c0_i32_105
  let v589 : BitVec 32 := Scalar.extui v588
  let c0_i32_106 : BitVec 32 := 0#32
  let v590 : BitVec 1 := Scalar.cmpi .slt v586 c0_i32_106
  let v591 : BitVec 32 := Scalar.extui v590
  let v592 : BitVec 32 := Scalar.subi v589 v591
  let c167_i32 : BitVec 32 := 167#32
  let c0_i32_107 : BitVec 32 := 0#32
  let v593 : BitVec 1 := Scalar.cmpi .sgt c167_i32 c0_i32_107
  let v594 : BitVec 32 := Scalar.extui v593
  let c0_i32_108 : BitVec 32 := 0#32
  let v595 : BitVec 1 := Scalar.cmpi .slt c167_i32 c0_i32_108
  let v596 : BitVec 32 := Scalar.extui v595
  let v597 : BitVec 32 := Scalar.subi v594 v596
  let v598 : BitVec 1 := Scalar.cmpi .ne v592 v597
  let v599 : BitVec 32 := Scalar.remsi v586 c167_i32
  let c0_i32_109 : BitVec 32 := 0#32
  let v600 : BitVec 1 := Scalar.cmpi .ne v599 c0_i32_109
  let v601 : BitVec 1 := Scalar.andi v598 v600
  let v587 : BitVec 32 := Scalar.divsi v586 c167_i32
  let c1_i32 : BitVec 32 := 1#32
  let v602 : BitVec 32 := Scalar.subi v587 c1_i32
  let v603 : BitVec 32 := Scalar.select v601 v602 v587
  let v972 : Index := Scalar.indexCast v603
  let c0_230 : Index := 0#32
  let c256_231 : Index := 256#32
  ![v972.toNat, 0, 256]
def k0_off4 (i : grid0.Coords) (c0_i32_104 : BitVec 32) : Fin 3 → Nat :=
  let arg1 : BitVec 32 := BitVec.ofNat 32 (i 1).val
  let c8_i32 : BitVec 32 := 8#32
  let v585 : BitVec 32 := Scalar.muli arg1 c8_i32
  let v586 : BitVec 32 := Scalar.addi v585 c0_i32_104
  let c0_i32_105 : BitVec 32 := 0#32
  let v588 : BitVec 1 := Scalar.cmpi .sgt v586 c0_i32_105
  let v589 : BitVec 32 := Scalar.extui v588
  let c0_i32_106 : BitVec 32 := 0#32
  let v590 : BitVec 1 := Scalar.cmpi .slt v586 c0_i32_106
  let v591 : BitVec 32 := Scalar.extui v590
  let v592 : BitVec 32 := Scalar.subi v589 v591
  let c167_i32 : BitVec 32 := 167#32
  let c0_i32_107 : BitVec 32 := 0#32
  let v593 : BitVec 1 := Scalar.cmpi .sgt c167_i32 c0_i32_107
  let v594 : BitVec 32 := Scalar.extui v593
  let c0_i32_108 : BitVec 32 := 0#32
  let v595 : BitVec 1 := Scalar.cmpi .slt c167_i32 c0_i32_108
  let v596 : BitVec 32 := Scalar.extui v595
  let v597 : BitVec 32 := Scalar.subi v594 v596
  let v598 : BitVec 1 := Scalar.cmpi .ne v592 v597
  let v599 : BitVec 32 := Scalar.remsi v586 c167_i32
  let c0_i32_109 : BitVec 32 := 0#32
  let v600 : BitVec 1 := Scalar.cmpi .ne v599 c0_i32_109
  let v601 : BitVec 1 := Scalar.andi v598 v600
  let v587 : BitVec 32 := Scalar.divsi v586 c167_i32
  let c1_i32 : BitVec 32 := 1#32
  let v602 : BitVec 32 := Scalar.subi v587 c1_i32
  let v603 : BitVec 32 := Scalar.select v601 v602 v587
  let v1125 : Index := Scalar.indexCast v603
  let c0_277 : Index := 0#32
  let c384_278 : Index := 384#32
  ![v1125.toNat, 0, 384]
def k0_off5 (i : grid0.Coords) (c0_i32_893 : BitVec 32) : Fin 3 → Nat :=
  let arg1 : BitVec 32 := BitVec.ofNat 32 (i 1).val
  let c8_i32_892 : BitVec 32 := 8#32
  let v3113 : BitVec 32 := Scalar.muli arg1 c8_i32_892
  let v3114 : BitVec 32 := Scalar.addi v3113 c0_i32_893
  let c0_i32_895 : BitVec 32 := 0#32
  let v3116 : BitVec 1 := Scalar.cmpi .sgt v3114 c0_i32_895
  let v3117 : BitVec 32 := Scalar.extui v3116
  let c0_i32_896 : BitVec 32 := 0#32
  let v3118 : BitVec 1 := Scalar.cmpi .slt v3114 c0_i32_896
  let v3119 : BitVec 32 := Scalar.extui v3118
  let v3120 : BitVec 32 := Scalar.subi v3117 v3119
  let c167_i32_894 : BitVec 32 := 167#32
  let c0_i32_897 : BitVec 32 := 0#32
  let v3121 : BitVec 1 := Scalar.cmpi .sgt c167_i32_894 c0_i32_897
  let v3122 : BitVec 32 := Scalar.extui v3121
  let c0_i32_898 : BitVec 32 := 0#32
  let v3123 : BitVec 1 := Scalar.cmpi .slt c167_i32_894 c0_i32_898
  let v3124 : BitVec 32 := Scalar.extui v3123
  let v3125 : BitVec 32 := Scalar.subi v3122 v3124
  let v3126 : BitVec 1 := Scalar.cmpi .ne v3120 v3125
  let v3127 : BitVec 32 := Scalar.remsi v3114 c167_i32_894
  let c0_i32_899 : BitVec 32 := 0#32
  let v3128 : BitVec 1 := Scalar.cmpi .ne v3127 c0_i32_899
  let v3129 : BitVec 1 := Scalar.andi v3126 v3128
  let v3115 : BitVec 32 := Scalar.divsi v3114 c167_i32_894
  let c1_i32_900 : BitVec 32 := 1#32
  let v3130 : BitVec 32 := Scalar.subi v3115 c1_i32_900
  let v3131 : BitVec 32 := Scalar.select v3129 v3130 v3115
  let v3194 : Index := Scalar.indexCast v3131
  let c0_927 : Index := 0#32
  let c512_928 : Index := 512#32
  ![v3194.toNat, 0, 512]
def k0_off6 (i : grid0.Coords) (c0_i32_893 : BitVec 32) : Fin 3 → Nat :=
  let arg1 : BitVec 32 := BitVec.ofNat 32 (i 1).val
  let c8_i32_892 : BitVec 32 := 8#32
  let v3113 : BitVec 32 := Scalar.muli arg1 c8_i32_892
  let v3114 : BitVec 32 := Scalar.addi v3113 c0_i32_893
  let c0_i32_895 : BitVec 32 := 0#32
  let v3116 : BitVec 1 := Scalar.cmpi .sgt v3114 c0_i32_895
  let v3117 : BitVec 32 := Scalar.extui v3116
  let c0_i32_896 : BitVec 32 := 0#32
  let v3118 : BitVec 1 := Scalar.cmpi .slt v3114 c0_i32_896
  let v3119 : BitVec 32 := Scalar.extui v3118
  let v3120 : BitVec 32 := Scalar.subi v3117 v3119
  let c167_i32_894 : BitVec 32 := 167#32
  let c0_i32_897 : BitVec 32 := 0#32
  let v3121 : BitVec 1 := Scalar.cmpi .sgt c167_i32_894 c0_i32_897
  let v3122 : BitVec 32 := Scalar.extui v3121
  let c0_i32_898 : BitVec 32 := 0#32
  let v3123 : BitVec 1 := Scalar.cmpi .slt c167_i32_894 c0_i32_898
  let v3124 : BitVec 32 := Scalar.extui v3123
  let v3125 : BitVec 32 := Scalar.subi v3122 v3124
  let v3126 : BitVec 1 := Scalar.cmpi .ne v3120 v3125
  let v3127 : BitVec 32 := Scalar.remsi v3114 c167_i32_894
  let c0_i32_899 : BitVec 32 := 0#32
  let v3128 : BitVec 1 := Scalar.cmpi .ne v3127 c0_i32_899
  let v3129 : BitVec 1 := Scalar.andi v3126 v3128
  let v3115 : BitVec 32 := Scalar.divsi v3114 c167_i32_894
  let c1_i32_900 : BitVec 32 := 1#32
  let v3130 : BitVec 32 := Scalar.subi v3115 c1_i32_900
  let v3131 : BitVec 32 := Scalar.select v3129 v3130 v3115
  let v3347 : Index := Scalar.indexCast v3131
  let c0_974 : Index := 0#32
  let c640_975 : Index := 640#32
  ![v3347.toNat, 0, 640]
def k0_off7 (i : grid0.Coords) (c0_i32_893 : BitVec 32) : Fin 3 → Nat :=
  let arg1 : BitVec 32 := BitVec.ofNat 32 (i 1).val
  let c8_i32_892 : BitVec 32 := 8#32
  let v3113 : BitVec 32 := Scalar.muli arg1 c8_i32_892
  let v3114 : BitVec 32 := Scalar.addi v3113 c0_i32_893
  let c0_i32_895 : BitVec 32 := 0#32
  let v3116 : BitVec 1 := Scalar.cmpi .sgt v3114 c0_i32_895
  let v3117 : BitVec 32 := Scalar.extui v3116
  let c0_i32_896 : BitVec 32 := 0#32
  let v3118 : BitVec 1 := Scalar.cmpi .slt v3114 c0_i32_896
  let v3119 : BitVec 32 := Scalar.extui v3118
  let v3120 : BitVec 32 := Scalar.subi v3117 v3119
  let c167_i32_894 : BitVec 32 := 167#32
  let c0_i32_897 : BitVec 32 := 0#32
  let v3121 : BitVec 1 := Scalar.cmpi .sgt c167_i32_894 c0_i32_897
  let v3122 : BitVec 32 := Scalar.extui v3121
  let c0_i32_898 : BitVec 32 := 0#32
  let v3123 : BitVec 1 := Scalar.cmpi .slt c167_i32_894 c0_i32_898
  let v3124 : BitVec 32 := Scalar.extui v3123
  let v3125 : BitVec 32 := Scalar.subi v3122 v3124
  let v3126 : BitVec 1 := Scalar.cmpi .ne v3120 v3125
  let v3127 : BitVec 32 := Scalar.remsi v3114 c167_i32_894
  let c0_i32_899 : BitVec 32 := 0#32
  let v3128 : BitVec 1 := Scalar.cmpi .ne v3127 c0_i32_899
  let v3129 : BitVec 1 := Scalar.andi v3126 v3128
  let v3115 : BitVec 32 := Scalar.divsi v3114 c167_i32_894
  let c1_i32_900 : BitVec 32 := 1#32
  let v3130 : BitVec 32 := Scalar.subi v3115 c1_i32_900
  let v3131 : BitVec 32 := Scalar.select v3129 v3130 v3115
  let v3500 : Index := Scalar.indexCast v3131
  let c0_1020 : Index := 0#32
  let c768_1021 : Index := 768#32
  ![v3500.toNat, 0, 768]
def k0_off8 (i : grid0.Coords) (c0_i32_893 : BitVec 32) : Fin 3 → Nat :=
  let arg1 : BitVec 32 := BitVec.ofNat 32 (i 1).val
  let c8_i32_892 : BitVec 32 := 8#32
  let v3113 : BitVec 32 := Scalar.muli arg1 c8_i32_892
  let v3114 : BitVec 32 := Scalar.addi v3113 c0_i32_893
  let c0_i32_895 : BitVec 32 := 0#32
  let v3116 : BitVec 1 := Scalar.cmpi .sgt v3114 c0_i32_895
  let v3117 : BitVec 32 := Scalar.extui v3116
  let c0_i32_896 : BitVec 32 := 0#32
  let v3118 : BitVec 1 := Scalar.cmpi .slt v3114 c0_i32_896
  let v3119 : BitVec 32 := Scalar.extui v3118
  let v3120 : BitVec 32 := Scalar.subi v3117 v3119
  let c167_i32_894 : BitVec 32 := 167#32
  let c0_i32_897 : BitVec 32 := 0#32
  let v3121 : BitVec 1 := Scalar.cmpi .sgt c167_i32_894 c0_i32_897
  let v3122 : BitVec 32 := Scalar.extui v3121
  let c0_i32_898 : BitVec 32 := 0#32
  let v3123 : BitVec 1 := Scalar.cmpi .slt c167_i32_894 c0_i32_898
  let v3124 : BitVec 32 := Scalar.extui v3123
  let v3125 : BitVec 32 := Scalar.subi v3122 v3124
  let v3126 : BitVec 1 := Scalar.cmpi .ne v3120 v3125
  let v3127 : BitVec 32 := Scalar.remsi v3114 c167_i32_894
  let c0_i32_899 : BitVec 32 := 0#32
  let v3128 : BitVec 1 := Scalar.cmpi .ne v3127 c0_i32_899
  let v3129 : BitVec 1 := Scalar.andi v3126 v3128
  let v3115 : BitVec 32 := Scalar.divsi v3114 c167_i32_894
  let c1_i32_900 : BitVec 32 := 1#32
  let v3130 : BitVec 32 := Scalar.subi v3115 c1_i32_900
  let v3131 : BitVec 32 := Scalar.select v3129 v3130 v3115
  let v3653 : Index := Scalar.indexCast v3131
  let c0_1066 : Index := 0#32
  let c896_1067 : Index := 896#32
  ![v3653.toNat, 0, 896]
def k0_cond2 (i : grid0.Coords) : BitVec 1 :=
  let arg1 : BitVec 32 := BitVec.ofNat 32 (i 1).val
  let c166_i32 : BitVec 32 := 166#32
  let v10693 : BitVec 1 := Scalar.cmpi .eq arg1 c166_i32
  let v10694 : BitVec 32 := Scalar.extui v10693
  let c0_i32_3260 : BitVec 32 := 0#32
  let v10695 : BitVec 1 := Scalar.cmpi .ne v10694 c0_i32_3260
  v10695

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S768x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S6x2560x2048 : Shape := ⟨3, ![6, 2560, 2048]⟩
abbrev S6x2560 : Shape := ⟨2, ![6, 2560]⟩
abbrev S128256x2048 : Shape := ⟨2, ![128256, 2048]⟩
abbrev S128256 : Shape := ⟨1, ![128256]⟩
abbrev S15360x2048 : Shape := ⟨2, ![15360, 2048]⟩
abbrev S15360x1 : Shape := ⟨2, ![15360, 1]⟩
abbrev S1x128256 : Shape := ⟨2, ![1, 128256]⟩
abbrev S15360x8 : Shape := ⟨2, ![15360, 8]⟩
abbrev S15360x128256 : Shape := ⟨2, ![15360, 128256]⟩
abbrev S15360x8x16032 : Shape := ⟨3, ![15360, 8, 16032]⟩
abbrev S15360x8x1 : Shape := ⟨3, ![15360, 8, 1]⟩
abbrev S6x2560x8 : Shape := ⟨3, ![6, 2560, 8]⟩

abbrev nBuf : Space → Nat
  | .hbm => 11
  | .vmem => 6
  | .smem => 0
  | _ => 0

abbrev bufTy : (tb : Table) → Fin (tcTables nBuf tb) → BufTy
  | .hbm, ⟨0, _⟩ => ⟨S6x2560x2048, .fp8e4m3⟩
  | .hbm, ⟨1, _⟩ => ⟨S6x2560, .f32⟩
  | .hbm, ⟨2, _⟩ => ⟨S128256x2048, .fp8e4m3⟩
  | .hbm, ⟨3, _⟩ => ⟨S128256, .f32⟩
  | .hbm, ⟨4, _⟩ => ⟨S15360x2048, .fp8e4m3⟩
  | .hbm, ⟨5, _⟩ => ⟨S15360x1, .f32⟩
  | .hbm, ⟨6, _⟩ => ⟨S1x128256, .f32⟩
  | .hbm, ⟨7, _⟩ => ⟨S15360x8, .f32⟩
  | .hbm, ⟨8, _⟩ => ⟨S15360x8, .f32⟩
  | .hbm, ⟨9, _⟩ => ⟨S6x2560x8, .f32⟩
  | .hbm, ⟨10, _⟩ => ⟨S6x2560x8, .f32⟩
  | .local _ .vmem, ⟨0, _⟩ => ⟨S15360x2048, .fp8e4m3⟩
  | .local _ .vmem, ⟨1, _⟩ => ⟨S15360x1, .f32⟩
  | .local _ .vmem, ⟨2, _⟩ => ⟨S128256x2048, .fp8e4m3⟩
  | .local _ .vmem, ⟨3, _⟩ => ⟨S1x128256, .f32⟩
  | .local _ .vmem, ⟨4, _⟩ => ⟨S15360x8, .f32⟩
  | .local _ .vmem, ⟨5, _⟩ => ⟨S15360x8, .f32⟩
  | _, _ => ⟨S6x2560x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S15360x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128256x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15360x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S15360x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Finish.lean ====
abbrev S6x2560 : Shape := ⟨2, ![6, 2560]⟩
abbrev S128256 : Shape := ⟨1, ![128256]⟩
abbrev S128256x2048 : Shape := ⟨2, ![128256, 2048]⟩
abbrev S6x2560x2048 : Shape := ⟨3, ![6, 2560, 2048]⟩
abbrev S8x15360 : Shape := ⟨2, ![8, 15360]⟩
abbrev S24 : Shape := ⟨1, ![24]⟩
abbrev S12 : Shape := ⟨1, ![12]⟩
abbrev S32064x4x2048 : Shape := ⟨3, ![32064, 4, 2048]⟩
abbrev S32064x2048x4 : Shape := ⟨3, ![32064, 2048, 4]⟩
abbrev S32064x2048 : Shape := ⟨2, ![32064, 2048]⟩
abbrev S15360x2048 : Shape := ⟨2, ![15360, 2048]⟩
abbrev S15360 : Shape := ⟨1, ![15360]⟩
abbrev S1x15360 : Shape := ⟨2, ![1, 15360]⟩
abbrev S24x1 : Shape := ⟨2, ![24, 1]⟩
abbrev S1x12 : Shape := ⟨2, ![1, 12]⟩
abbrev S512x2048 : Shape := ⟨2, ![512, 2048]⟩
abbrev S1x512 : Shape := ⟨2, ![1, 512]⟩
abbrev S8x512 : Shape := ⟨2, ![8, 512]⟩
abbrev S2x512x2048 : Shape := ⟨3, ![2, 512, 2048]⟩
abbrev S2x512x128 : Shape := ⟨3, ![2, 512, 128]⟩
abbrev S24x128 : Shape := ⟨2, ![24, 128]⟩
abbrev S2 : Shape := ⟨1, ![2]⟩
abbrev S1 : Shape := ⟨1, ![1]⟩
abbrev S_ : Shape := ⟨0, ![]⟩
abbrev S1x1x2048 : Shape := ⟨3, ![1, 1, 2048]⟩
abbrev S1x2048 : Shape := ⟨2, ![1, 2048]⟩
abbrev S1x128 : Shape := ⟨2, ![1, 128]⟩
abbrev S1x1x128 : Shape := ⟨3, ![1, 1, 128]⟩
abbrev S1x128x128 : Shape := ⟨3, ![1, 128, 128]⟩
abbrev S128x128 : Shape := ⟨2, ![128, 128]⟩
abbrev S128 : Shape := ⟨1, ![128]⟩
abbrev S512 : Shape := ⟨1, ![512]⟩
abbrev S24x512 : Shape := ⟨2, ![24, 512]⟩
abbrev S24x12 : Shape := ⟨2, ![24, 12]⟩

abbrev nBuf : Space → Nat
  | .hbm => 27
  | .vmem => 26
  | .smem => 2
  | _ => 0

abbrev bufTy : (tb : Table) → Fin (tcTables nBuf tb) → BufTy
  | .hbm, ⟨0, _⟩ => ⟨S6x2560, .i32⟩
  | .hbm, ⟨1, _⟩ => ⟨S128256, .f32⟩
  | .hbm, ⟨2, _⟩ => ⟨S128256x2048, .i8⟩
  | .hbm, ⟨3, _⟩ => ⟨S6x2560x2048, .fp8e4m3⟩
  | .hbm, ⟨4, _⟩ => ⟨S6x2560, .f32⟩
  | .hbm, ⟨5, _⟩ => ⟨S8x15360, .f32⟩
  | .hbm, ⟨6, _⟩ => ⟨S8x15360, .f32⟩
  | .hbm, ⟨7, _⟩ => ⟨S6x2560, .i32⟩
  | .hbm, ⟨8, _⟩ => ⟨S6x2560, .i32⟩
  | .hbm, ⟨9, _⟩ => ⟨S24, .f32⟩
  | .hbm, ⟨10, _⟩ => ⟨S12, .i32⟩
  | .hbm, ⟨11, _⟩ => ⟨S12, .i32⟩
  | .hbm, ⟨12, _⟩ => ⟨S32064x4x2048, .i8⟩
  | .hbm, ⟨13, _⟩ => ⟨S32064x2048x4, .i8⟩
  | .hbm, ⟨14, _⟩ => ⟨S32064x2048, .i32⟩
  | .hbm, ⟨15, _⟩ => ⟨S15360x2048, .fp8e4m3⟩
  | .hbm, ⟨16, _⟩ => ⟨S1x15360, .f32⟩
  | .hbm, ⟨17, _⟩ => ⟨S1x15360, .i32⟩
  | .hbm, ⟨18, _⟩ => ⟨S1x15360, .i32⟩
  | .hbm, ⟨19, _⟩ => ⟨S24x1, .f32⟩
  | .hbm, ⟨20, _⟩ => ⟨S1x12, .i32⟩
  | .hbm, ⟨21, _⟩ => ⟨S1x12, .i32⟩
  | .hbm, ⟨22, _⟩ => ⟨S1x15360, .f32⟩
  | .hbm, ⟨23, _⟩ => ⟨S1x15360, .f32⟩
  | .hbm, ⟨24, _⟩ => ⟨S24x1, .f32⟩
  | .hbm, ⟨25, _⟩ => ⟨S1x12, .f32⟩
  | .hbm, ⟨26, _⟩ => ⟨S1x12, .f32⟩
  | .local _ .vmem, ⟨0, _⟩ => ⟨S512x2048, .fp8e4m3⟩
  | .local _ .vmem, ⟨1, _⟩ => ⟨S512x2048, .fp8e4m3⟩
  | .local _ .vmem, ⟨2, _⟩ => ⟨S1x512, .f32⟩
  | .local _ .vmem, ⟨3, _⟩ => ⟨S1x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x512, .i32⟩
  | .local _ .vmem, ⟨9, _⟩ => ⟨S1x512, .i32⟩
  | .local _ .vmem, ⟨10, _⟩ => ⟨S1x512, .i32⟩
  | .local _ .vmem, ⟨11, _⟩ => ⟨S1x512, .i32⟩
  | .local _ .vmem, ⟨12, _⟩ => ⟨S24x1, .f32⟩
  | .local _ .vmem, ⟨13, _⟩ => ⟨S1x12, .i32⟩
  | .local _ .vmem, ⟨14, _⟩ => ⟨S1x12, .i32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S24x1, .f32⟩
  | .local _ .vmem, ⟨20, _⟩ => ⟨S1x12, .f32⟩
  | .local _ .vmem, ⟨21, _⟩ => ⟨S1x12, .f32⟩
  | .local _ .vmem, ⟨22, _⟩ => ⟨S2x512x2048, .i32⟩
  | .local _ .vmem, ⟨23, _⟩ => ⟨S2x512x128, .f32⟩
  | .local _ .vmem, ⟨24, _⟩ => ⟨S2x512x128, .i32⟩
  | .local _ .vmem, ⟨25, _⟩ => ⟨S24x128, .f32⟩
  | .local _ .smem, ⟨0, _⟩ => ⟨S15360, .i32⟩
  | .local _ .smem, ⟨1, _⟩ => ⟨S128256, .f32⟩
  | _, _ => ⟨S6x2560, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨1, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v11_3 : Ref sig .tc := ⟨.hbm, 25, rfl⟩
abbrev main_v11_4 : Ref sig .tc := ⟨.hbm, 26, rfl⟩
abbrev main_v4 : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![30], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_309 : BitVec 32 := 0#32
  let c512_i32_310 : BitVec 32 := 512#32
  let v889 : BitVec 32 := Scalar.addi c0_i32_309 c512_i32_310
  let c1_i32_311 : BitVec 32 := 1#32
  ⟨c0_i32_309, v889, c1_i32_311⟩
def k0_off1 (k0_t1 : Fin k0_t1_loop.trips) : Fin 1 → Nat :=
  let c0_i32_315 : BitVec 32 := 0#32
  let c0_i32_314 : BitVec 32 := 0#32
  let c0_i32_309 : BitVec 32 := 0#32
  let c1_i32_311 : BitVec 32 := 1#32
  let arg23 : BitVec 32 := Scf.iv c0_i32_309 c1_i32_311 k0_t1
  let c1_i32_313 : BitVec 32 := 1#32
  let v890 : BitVec 32 := Scalar.muli arg23 c1_i32_313
  let v891 : BitVec 32 := Scalar.addi c0_i32_314 v890
  let v892 : BitVec 32 := Scalar.addi c0_i32_315 v891
  let v893 : Index := Scalar.indexCast v892
  ![v893.toNat]
def k0_off2 (k0_t1 : Fin k0_t1_loop.trips) : Fin 3 → Nat :=
  let c0_i32_317 : BitVec 32 := 0#32
  let c0_i32_314 : BitVec 32 := 0#32
  let c0_i32_309 : BitVec 32 := 0#32
  let c1_i32_311 : BitVec 32 := 1#32
  let arg23 : BitVec 32 := Scf.iv c0_i32_309 c1_i32_311 k0_t1
  let c1_i32_313 : BitVec 32 := 1#32
  let v890 : BitVec 32 := Scalar.muli arg23 c1_i32_313
  let v891 : BitVec 32 := Scalar.addi c0_i32_314 v890
  let c0_i32_319 : BitVec 32 := 0#32
  ![0, v891.toNat, 0]
def k0_off3 (v894 : BitVec 32) : Fin 2 → Nat :=
  let c2_i32_316 : BitVec 32 := 2#32
  let v895 : BitVec 32 := Scalar.shrsi v894 c2_i32_316
  let c0_i32_320 : BitVec 32 := 0#32
  ![v895.toNat, 0]

def k0_off4 (v894 : BitVec 32) : Fin 1 → Nat :=
  let v901 : Index := Scalar.indexCast v894
  ![v901.toNat]

def k0_chk1 (i : grid0.Coords) (v894 : BitVec 32) : Prop :=
  (∀ (k0_h1 : k0_cond1 i = 1#1), ∀ a, (k0_off3 v894) a + S1x2048.size a ≤ S32064x2048.size a) ∧
  (∀ (k0_h1 : k0_cond1 i = 1#1), ∀ a, (k0_off4 v894) a + S1.size a ≤ S128256.size a)
theorem k0_off3_inb : ∀ (i : grid0.Coords) (v894 : BitVec 32) (k0_hw1 : k0_chk1 i v894), ∀ (k0_h1 : k0_cond1 i = 1#1), ∀ a, (k0_off3 v894) a + S1x2048.size a ≤ S32064x2048.size a := fun i v894 k0_hw1 k0_h1 => k0_hw1.1 k0_h1
theorem k0_off4_inb : ∀ (i : grid0.Coords) (v894 : BitVec 32) (k0_hw1 : k0_chk1 i v894), ∀ (k0_h1 : k0_cond1 i = 1#1), ∀ a, (k0_off4 v894) a + S1.size a ≤ S128256.size a := fun i v894 k0_hw1 k0_h1 => k0_hw1.2 k0_h1

def k0_off5 (k0_t1 : Fin k0_t1_loop.trips) : Fin 3 → Nat :=
  let c0_321 : Index := 0#32
  let c0_i32_314 : BitVec 32 := 0#32
  let c0_i32_309 : BitVec 32 := 0#32
  let c1_i32_311 : BitVec 32 := 1#32
  let arg23 : BitVec 32 := Scf.iv c0_i32_309 c1_i32_311 k0_t1
  let c1_i32_313 : BitVec 32 := 1#32
  let v890 : BitVec 32 := Scalar.muli arg23 c1_i32_313
  let v891 : BitVec 32 := Scalar.addi c0_i32_314 v890
  let v904 : Index := Scalar.indexCast v891
  let c0_322 : Index := 0#32
  ![0, v904.toNat, 0]
def k0_cond2 (i : grid0.Coords) : BitVec 1 :=
  let arg0 : BitVec 32 := BitVec.ofNat 32 (i 0).val
  let c1_i32 : BitVec 32 := 1#32
  let v4 : BitVec 32 := Scalar.addi arg0 c1_i32
  let c30_i32 : BitVec 32 := 30#32
  let v5 : BitVec 1 := Scalar.cmpi .slt v4 c30_i32
  let v6 : BitVec 32 := Scalar.extui v5
  let c0_i32_1 : BitVec 32 := 0#32
  let v7 : BitVec 1 := Scalar.cmpi .ne v6 c0_i32_1
  v7

@[reducible] def k0_t2_loop : Scf.Loop 32 :=
  let c0_i32_308 : BitVec 32 := 0#32
  let c512_i32_309 : BitVec 32 := 512#32
  let v887 : BitVec 32 := Scalar.addi c0_i32_308 c512_i32_309
  let c1_i32_310 : BitVec 32 := 1#32
  ⟨c0_i32_308, v887, c1_i32_310⟩
def k0_off6 (i : grid0.Coords) (k0_t2 : Fin k0_t2_loop.trips) : Fin 1 → Nat :=
  let arg0 : BitVec 32 := BitVec.ofNat 32 (i 0).val
  let c1_i32_306 : BitVec 32 := 1#32
  let v885 : BitVec 32 := Scalar.addi arg0 c1_i32_306
  let c512_i32_314 : BitVec 32 := 512#32
  let v890 : BitVec 32 := Scalar.muli v885 c512_i32_314
  let c0_i32_313 : BitVec 32 := 0#32
  let c0_i32_308 : BitVec 32 := 0#32
  let c1_i32_310 : BitVec 32 := 1#32
  let arg23 : BitVec 32 := Scf.iv c0_i32_308 c1_i32_310 k0_t2
  let c1_i32_312 : BitVec 32 := 1#32
  let v888 : BitVec 32 := Scalar.muli arg23 c1_i32_312
  let v889 : BitVec 32 := Scalar.addi c0_i32_313 v888
  let v891 : BitVec 32 := Scalar.addi v890 v889
  let v892 : Index := Scalar.indexCast v891
  ![v892.toNat]
def k0_off7 (i : grid0.Coords) : Fin 1 → Nat :=
  let c1_i32_307 : BitVec 32 := 1#32
  let arg0 : BitVec 32 := BitVec.ofNat 32 (i 0).val
  let c2_i32 : BitVec 32 := 2#32
  let v3 : BitVec 32 := Scalar.remsi arg0 c2_i32
  let v886 : BitVec 32 := Scalar.subi c1_i32_307 v3
  ![v886.toNat]
def k0_off8 (i : grid0.Coords) (k0_t2 : Fin k0_t2_loop.trips) : Fin 3 → Nat :=
  let c1_i32_307 : BitVec 32 := 1#32
  let arg0 : BitVec 32 := BitVec.ofNat 32 (i 0).val
  let c2_i32 : BitVec 32 := 2#32
  let v3 : BitVec 32 := Scalar.remsi arg0 c2_i32
  let v886 : BitVec 32 := Scalar.subi c1_i32_307 v3
  let c0_i32_313 : BitVec 32 := 0#32
  let c0_i32_308 : BitVec 32 := 0#32
  let c1_i32_310 : BitVec 32 := 1#32
  let arg23 : BitVec 32 := Scf.iv c0_i32_308 c1_i32_310 k0_t2
  let c1_i32_312 : BitVec 32 := 1#32
  let v888 : BitVec 32 := Scalar.muli arg23 c1_i32_312
  let v889 : BitVec 32 := Scalar.addi c0_i32_313 v888
  let c0_i32_316 : BitVec 32 := 0#32
  ![v886.toNat, v889.toNat, 0]
def k0_off9 (v893 : BitVec 32) : Fin 2 → Nat :=
  let c2_i32_315 : BitVec 32 := 2#32
  let v894 : BitVec 32 := Scalar.shrsi v893 c2_i32_315
  let c0_i32_317 : BitVec 32 := 0#32
  ![v894.toNat, 0]

def k0_off10 (v893 : BitVec 32) : Fin 1 → Nat :=
  let v900 : Index := Scalar.indexCast v893
  ![v900.toNat]

def k0_chk2 (i : grid0.Coords) (v893 : BitVec 32) : Prop :=
  (∀ (k0_h2 : k0_cond2 i = 1#1), ∀ a, (k0_off9 v893) a + S1x2048.size a ≤ S32064x2048.size a) ∧
  (∀ (k0_h2 : k0_cond2 i = 1#1), ∀ a, (k0_off10 v893) a + S1.size a ≤ S128256.size a)
theorem k0_off9_inb : ∀ (i : grid0.Coords) (v893 : BitVec 32) (k0_hw2 : k0_chk2 i v893), ∀ (k0_h2 : k0_cond2 i = 1#1), ∀ a, (k0_off9 v893) a + S1x2048.size a ≤ S32064x2048.size a := fun i v893 k0_hw2 k0_h2 => k0_hw2.1 k0_h2
theorem k0_off10_inb : ∀ (i : grid0.Coords) (v893 : BitVec 32) (k0_hw2 : k0_chk2 i v893), ∀ (k0_h2 : k0_cond2 i = 1#1), ∀ a, (k0_off10 v893) a + S1.size a ≤ S128256.size a := fun i v893 k0_hw2 k0_h2 => k0_hw2.2 k0_h2

def k0_off11 (i : grid0.Coords) (k0_t2 : Fin k0_t2_loop.trips) : Fin 3 → Nat :=
  let c1_i32_307 : BitVec 32 := 1#32
  let arg0 : BitVec 32 := BitVec.ofNat 32 (i 0).val
  let c2_i32 : BitVec 32 := 2#32
  let v3 : BitVec 32 := Scalar.remsi arg0 c2_i32
  let v886 : BitVec 32 := Scalar.subi c1_i32_307 v3
  let v903 : Index := Scalar.indexCast v886
  let c0_i32_313 : BitVec 32 := 0#32
  let c0_i32_308 : BitVec 32 := 0#32
  let c1_i32_310 : BitVec 32 := 1#32
  let arg23 : BitVec 32 := Scf.iv c0_i32_308 c1_i32_310 k0_t2
  let c1_i32_312 : BitVec 32 := 1#32
  let v888 : BitVec 32 := Scalar.muli arg23 c1_i32_312
  let v889 : BitVec 32 := Scalar.addi c0_i32_313 v888
  let v904 : Index := Scalar.indexCast v889
  let c0_318 : Index := 0#32
  ![v903.toNat, v904.toNat, 0]
@[reducible] def k0_t3_loop : Scf.Loop 32 :=
  let c0_i32_2 : BitVec 32 := 0#32
  let c512_i32 : BitVec 32 := 512#32
  let v8 : BitVec 32 := Scalar.addi c0_i32_2 c512_i32
  let c1_i32_3 : BitVec 32 := 1#32
  ⟨c0_i32_2, v8, c1_i32_3⟩
def k0_off12 (i : grid0.Coords) : Fin 1 → Nat :=
  let arg0 : BitVec 32 := BitVec.ofNat 32 (i 0).val
  let c2_i32 : BitVec 32 := 2#32
  let v3 : BitVec 32 := Scalar.remsi arg0 c2_i32
  ![v3.toNat]
def k0_off13 (i : grid0.Coords) (k0_t3 : Fin k0_t3_loop.trips) : Fin 3 → Nat :=
  let arg0 : BitVec 32 := BitVec.ofNat 32 (i 0).val
  let c2_i32 : BitVec 32 := 2#32
  let v3 : BitVec 32 := Scalar.remsi arg0 c2_i32
  let c0_i32_307 : BitVec 32 := 0#32
  let c0_i32_2 : BitVec 32 := 0#32
  let c1_i32_3 : BitVec 32 := 1#32
  let arg23 : BitVec 32 := Scf.iv c0_i32_2 c1_i32_3 k0_t3
  let c1_i32_306 : BitVec 32 := 1#32
  let v885 : BitVec 32 := Scalar.muli arg23 c1_i32_306
  let v886 : BitVec 32 := Scalar.addi c0_i32_307 v885
  let c0_i32_308 : BitVec 32 := 0#32
  ![v3.toNat, v886.toNat, 0]
def k0_off14 (i : grid0.Coords) : Fin 3 → Nat :=
  let arg0 : BitVec 32 := BitVec.ofNat 32 (i 0).val
  let c2_i32 : BitVec 32 := 2#32
  let v3 : BitVec 32 := Scalar.remsi arg0 c2_i32
  let v9 : Index := Scalar.indexCast v3
  let c0 : Index := 0#32
  let c0_5 : Index := 0#32
  ![v9.toNat, 0, 0]
def k0_off15 (i : grid0.Coords) : Fin 3 → Nat :=
  let arg0 : BitVec 32 := BitVec.ofNat 32 (i 0).val
  let c2_i32 : BitVec 32 := 2#32
  let v3 : BitVec 32 := Scalar.remsi arg0 c2_i32
  let v13 : Index := Scalar.indexCast v3
  let c0_6 : Index := 0#32
  let c0_7 : Index := 0#32
  ![v13.toNat, 0, 0]
def k0_off16 (i : grid0.Coords) : Fin 3 → Nat :=
  let arg0 : BitVec 32 := BitVec.ofNat 32 (i 0).val
  let c2_i32 : BitVec 32 := 2#32
  let v3 : BitVec 32 := Scalar.remsi arg0 c2_i32
  let v25 : Index := Scalar.indexCast v3
  let c0_10 : Index := 0#32
  let c128 : Index := 128#32
  ![v25.toNat, 0, 128]
def k0_off17 (i : grid0.Coords) : Fin 3 → Nat :=
  let arg0 : BitVec 32 := BitVec.ofNat 32 (i 0).val
  let c2_i32 : BitVec 32 := 2#32
  let v3 : BitVec 32 := Scalar.remsi arg0 c2_i32
  let v37 : Index := Scalar.indexCast v3
  let c0_13 : Index := 0#32
  let c256 : Index := 256#32
  ![v37.toNat, 0, 256]
def k0_off18 (i : grid0.Coords) : Fin 3 → Nat :=
  let arg0 : BitVec 32 := BitVec.ofNat 32 (i 0).val
  let c2_i32 : BitVec 32 := 2#32
  let v3 : BitVec 32 := Scalar.remsi arg0 c2_i32
  let v49 : Index := Scalar.indexCast v3
  let c0_16 : Index := 0#32
  let c384 : Index := 384#32
  ![v49.toNat, 0, 384]
def k0_off19 (i : grid0.Coords) : Fin 3 → Nat :=
  let arg0 : BitVec 32 := BitVec.ofNat 32 (i 0).val
  let c2_i32 : BitVec 32 := 2#32
  let v3 : BitVec 32 := Scalar.remsi arg0 c2_i32
  let v61 : Index := Scalar.indexCast v3
  let c0_19 : Index := 0#32
  let c512 : Index := 512#32
  ![v61.toNat, 0, 512]
def k0_off20 (i : grid0.Coords) : Fin 3 → Nat :=
  let arg0 : BitVec 32 := BitVec.ofNat 32 (i 0).val
  let c2_i32 : BitVec 32 := 2#32
  let v3 : BitVec 32 := Scalar.remsi arg0 c2_i32
  let v73 : Index := Scalar.indexCast v3
  let c0_22 : Index := 0#32
  let c640 : Index := 640#32
  ![v73.toNat, 0, 640]
def k0_off21 (i : grid0.Coords) : Fin 3 → Nat :=
  let arg0 : BitVec 32 := BitVec.ofNat 32 (i 0).val
  let c2_i32 : BitVec 32 := 2#32
  let v3 : BitVec 32 := Scalar.remsi arg0 c2_i32
  let v85 : Index := Scalar.indexCast v3
  let c0_25 : Index := 0#32
  let c768 : Index := 768#32
  ![v85.toNat, 0, 768]
def k0_off22 (i : grid0.Coords) : Fin 3 → Nat :=
  let arg0 : BitVec 32 := BitVec.ofNat 32 (i 0).val
  let c2_i32 : BitVec 32 := 2#32
  let v3 : BitVec 32 := Scalar.remsi arg0 c2_i32
  let v97 : Index := Scalar.indexCast v3
  let c0_28 : Index := 0#32
  let c896 : Index := 896#32
  ![v97.toNat, 0, 896]
def k0_off23 (i : grid0.Coords) : Fin 3 → Nat :=
  let arg0 : BitVec 32 := BitVec.ofNat 32 (i 0).val
  let c2_i32 : BitVec 32 := 2#32
  let v3 : BitVec 32 := Scalar.remsi arg0 c2_i32
  let v109 : Index := Scalar.indexCast v3
  let c0_31 : Index := 0#32
  let c1024 : Index := 1024#32
  ![v109.toNat, 0, 1024]
def k0_off24 (i : grid0.Coords) : Fin 3 → Nat :=
  let arg0 : BitVec 32 := BitVec.ofNat 32 (i 0).val
  let c2_i32 : BitVec 32 := 2#32
  let v3 : BitVec 32 := Scalar.remsi arg0 c2_i32
  let v121 : Index := Scalar.indexCast v3
  let c0_34 : Index := 0#32
  let c1152 : Index := 1152#32
  ![v121.toNat, 0, 1152]
def k0_off25 (i : grid0.Coords) : Fin 3 → Nat :=
  let arg0 : BitVec 32 := BitVec.ofNat 32 (i 0).val
  let c2_i32 : BitVec 32 := 2#32
  let v3 : BitVec 32 := Scalar.remsi arg0 c2_i32
  let v133 : Index := Scalar.indexCast v3
  let c0_37 : Index := 0#32
  let c1280 : Index := 1280#32
  ![v133.toNat, 0, 1280]
def k0_off26 (i : grid0.Coords) : Fin 3 → Nat :=
  let arg0 : BitVec 32 := BitVec.ofNat 32 (i 0).val
  let c2_i32 : BitVec 32 := 2#32
  let v3 : BitVec 32 := Scalar.remsi arg0 c2_i32
  let v145 : Index := Scalar.indexCast v3
  let c0_40 : Index := 0#32
  let c1408 : Index := 1408#32
  ![v145.toNat, 0, 1408]
def k0_off27 (i : grid0.Coords) : Fin 3 → Nat :=
  let arg0 : BitVec 32 := BitVec.ofNat 32 (i 0).val
  let c2_i32 : BitVec 32 := 2#32
  let v3 : BitVec 32 := Scalar.remsi arg0 c2_i32
  let v157 : Index := Scalar.indexCast v3
  let c0_43 : Index := 0#32
  let c1536 : Index := 1536#32
  ![v157.toNat, 0, 1536]
def k0_off28 (i : grid0.Coords) : Fin 3 → Nat :=
  let arg0 : BitVec 32 := BitVec.ofNat 32 (i 0).val
  let c2_i32 : BitVec 32 := 2#32
  let v3 : BitVec 32 := Scalar.remsi arg0 c2_i32
  let v169 : Index := Scalar.indexCast v3
  let c0_46 : Index := 0#32
  let c1664 : Index := 1664#32
  ![v169.toNat, 0, 1664]
def k0_off29 (i : grid0.Coords) : Fin 3 → Nat :=
  let arg0 : BitVec 32 := BitVec.ofNat 32 (i 0).val
  let c2_i32 : BitVec 32 := 2#32
  let v3 : BitVec 32 := Scalar.remsi arg0 c2_i32
  let v181 : Index := Scalar.indexCast v3
  let c0_49 : Index := 0#32
  let c1792 : Index := 1792#32
  ![v181.toNat, 0, 1792]
def k0_off30 (i : grid0.Coords) : Fin 3 → Nat :=
  let arg0 : BitVec 32 := BitVec.ofNat 32 (i 0).val
  let c2_i32 : BitVec 32 := 2#32
  let v3 : BitVec 32 := Scalar.remsi arg0 c2_i32
  let v193 : Index := Scalar.indexCast v3
  let c0_52 : Index := 0#32
  let c1920 : Index := 1920#32
  ![v193.toNat, 0, 1920]
def k0_off31 (i : grid0.Coords) : Fin 3 → Nat :=
  let arg0 : BitVec 32 := BitVec.ofNat 32 (i 0).val
  let c2_i32 : BitVec 32 := 2#32
  let v3 : BitVec 32 := Scalar.remsi arg0 c2_i32
  let v216 : Index := Scalar.indexCast v3
  let c128_62 : Index := 128#32
  let c0_63 : Index := 0#32
  ![v216.toNat, 128, 0]
def k0_off32 (i : grid0.Coords) : Fin 3 → Nat :=
  let arg0 : BitVec 32 := BitVec.ofNat 32 (i 0).val
  let c2_i32 : BitVec 32 := 2#32
  let v3 : BitVec 32 := Scalar.remsi arg0 c2_i32
  let v220 : Index := Scalar.indexCast v3
  let c128_65 : Index := 128#32
  let c0_66 : Index := 0#32
  ![v220.toNat, 128, 0]
def k0_off33 (i : grid0.Coords) : Fin 3 → Nat :=
  let arg0 : BitVec 32 := BitVec.ofNat 32 (i 0).val
  let c2_i32 : BitVec 32 := 2#32
  let v3 : BitVec 32 := Scalar.remsi arg0 c2_i32
  let v232 : Index := Scalar.indexCast v3
  let c128_69 : Index := 128#32
  let c128_70 : Index := 128#32
  ![v232.toNat, 128, 128]
def k0_off34 (i : grid0.Coords) : Fin 3 → Nat :=
  let arg0 : BitVec 32 := BitVec.ofNat 32 (i 0).val
  let c2_i32 : BitVec 32 := 2#32
  let v3 : BitVec 32 := Scalar.remsi arg0 c2_i32
  let v244 : Index := Scalar.indexCast v3
  let c128_73 : Index := 128#32
  let c256_74 : Index := 256#32
  ![v244.toNat, 128, 256]
def k0_off35 (i : grid0.Coords) : Fin 3 → Nat :=
  let arg0 : BitVec 32 := BitVec.ofNat 32 (i 0).val
  let c2_i32 : BitVec 32 := 2#32
  let v3 : BitVec 32 := Scalar.remsi arg0 c2_i32
  let v256 : Index := Scalar.indexCast v3
  let c128_77 : Index := 128#32
  let c384_78 : Index := 384#32
  ![v256.toNat, 128, 384]
def k0_off36 (i : grid0.Coords) : Fin 3 → Nat :=
  let arg0 : BitVec 32 := BitVec.ofNat 32 (i 0).val
  let c2_i32 : BitVec 32 := 2#32
  let v3 : BitVec 32 := Scalar.remsi arg0 c2_i32
  let v268 : Index := Scalar.indexCast v3
  let c128_81 : Index := 128#32
  let c512_82 : Index := 512#32
  ![v268.toNat, 128, 512]
def k0_off37 (i : grid0.Coords) : Fin 3 → Nat :=
  let arg0 : BitVec 32 := BitVec.ofNat 32 (i 0).val
  let c2_i32 : BitVec 32 := 2#32
  let v3 : BitVec 32 := Scalar.remsi arg0 c2_i32
  let v280 : Index := Scalar.indexCast v3
  let c128_85 : Index := 128#32
  let c640_86 : Index := 640#32
  ![v280.toNat, 128, 640]
def k0_off38 (i : grid0.Coords) : Fin 3 → Nat :=
  let arg0 : BitVec 32 := BitVec.ofNat 32 (i 0).val
  let c2_i32 : BitVec 32 := 2#32
  let v3 : BitVec 32 := Scalar.remsi arg0 c2_i32
  let v292 : Index := Scalar.indexCast v3
  let c128_89 : Index := 128#32
  let c768_90 : Index := 768#32
  ![v292.toNat, 128, 768]
def k0_off39 (i : grid0.Coords) : Fin 3 → Nat :=
  let arg0 : BitVec 32 := BitVec.ofNat 32 (i 0).val
  let c2_i32 : BitVec 32 := 2#32
  let v3 : BitVec 32 := Scalar.remsi arg0 c2_i32
  let v304 : Index := Scalar.indexCast v3
  let c128_93 : Index := 128#32
  let c896_94 : Index := 896#32
  ![v304.toNat, 128, 896]
def k0_off40 (i : grid0.Coords) : Fin 3 → Nat :=
  let arg0 : BitVec 32 := BitVec.ofNat 32 (i 0).val
  let c2_i32 : BitVec 32 := 2#32
  let v3 : BitVec 32 := Scalar.remsi arg0 c2_i32
  let v316 : Index := Scalar.indexCast v3
  let c128_97 : Index := 128#32
  let c1024_98 : Index := 1024#32
  ![v316.toNat, 128, 1024]
def k0_off41 (i : grid0.Coords) : Fin 3 → Nat :=
  let arg0 : BitVec 32 := BitVec.ofNat 32 (i 0).val
  let c2_i32 : BitVec 32 := 2#32
  let v3 : BitVec 32 := Scalar.remsi arg0 c2_i32
  let v328 : Index := Scalar.indexCast v3
  let c128_101 : Index := 128#32
  let c1152_102 : Index := 1152#32
  ![v328.toNat, 128, 1152]
def k0_off42 (i : grid0.Coords) : Fin 3 → Nat :=
  let arg0 : BitVec 32 := BitVec.ofNat 32 (i 0).val
  let c2_i32 : BitVec 32 := 2#32
  let v3 : BitVec 32 := Scalar.remsi arg0 c2_i32
  let v340 : Index := Scalar.indexCast v3
  let c128_105 : Index := 128#32
  let c1280_106 : Index := 1280#32
  ![v340.toNat, 128, 1280]
def k0_off43 (i : grid0.Coords) : Fin 3 → Nat :=
  let arg0 : BitVec 32 := BitVec.ofNat 32 (i 0).val
  let c2_i32 : BitVec 32 := 2#32
  let v3 : BitVec 32 := Scalar.remsi arg0 c2_i32
  let v352 : Index := Scalar.indexCast v3
  let c128_109 : Index := 128#32
  let c1408_110 : Index := 1408#32
  ![v352.toNat, 128, 1408]
def k0_off44 (i : grid0.Coords) : Fin 3 → Nat :=
  let arg0 : BitVec 32 := BitVec.ofNat 32 (i 0).val
  let c2_i32 : BitVec 32 := 2#32
  let v3 : BitVec 32 := Scalar.remsi arg0 c2_i32
  let v364 : Index := Scalar.indexCast v3
  let c128_113 : Index := 128#32
  let c1536_114 : Index := 1536#32
  ![v364.toNat, 128, 1536]
def k0_off45 (i : grid0.Coords) : Fin 3 → Nat :=
  let arg0 : BitVec 32 := BitVec.ofNat 32 (i 0).val
  let c2_i32 : BitVec 32 := 2#32
  let v3 : BitVec 32 := Scalar.remsi arg0 c2_i32
  let v376 : Index := Scalar.indexCast v3
  let c128_117 : Index := 128#32
  let c1664_118 : Index := 1664#32
  ![v376.toNat, 128, 1664]
def k0_off46 (i : grid0.Coords) : Fin 3 → Nat :=
  let arg0 : BitVec 32 := BitVec.ofNat 32 (i 0).val
  let c2_i32 : BitVec 32 := 2#32
  let v3 : BitVec 32 := Scalar.remsi arg0 c2_i32
  let v388 : Index := Scalar.indexCast v3
  let c128_121 : Index := 128#32
  let c1792_122 : Index := 1792#32
  ![v388.toNat, 128, 1792]
def k0_off47 (i : grid0.Coords) : Fin 3 → Nat :=
  let arg0 : BitVec 32 := BitVec.ofNat 32 (i 0).val
  let c2_i32 : BitVec 32 := 2#32
  let v3 : BitVec 32 := Scalar.remsi arg0 c2_i32
  let v400 : Index := Scalar.indexCast v3
  let c128_125 : Index := 128#32
  let c1920_126 : Index := 1920#32
  ![v400.toNat, 128, 1920]
def k0_off48 (i : grid0.Coords) : Fin 3 → Nat :=
  let arg0 : BitVec 32 := BitVec.ofNat 32 (i 0).val
  let c2_i32 : BitVec 32 := 2#32
  let v3 : BitVec 32 := Scalar.remsi arg0 c2_i32
  let v423 : Index := Scalar.indexCast v3
  let c256_136 : Index := 256#32
  let c0_137 : Index := 0#32
  ![v423.toNat, 256, 0]
def k0_off49 (i : grid0.Coords) : Fin 3 → Nat :=
  let arg0 : BitVec 32 := BitVec.ofNat 32 (i 0).val
  let c2_i32 : BitVec 32 := 2#32
  let v3 : BitVec 32 := Scalar.remsi arg0 c2_i32
  let v427 : Index := Scalar.indexCast v3
  let c256_139 : Index := 256#32
  let c0_140 : Index := 0#32
  ![v427.toNat, 256, 0]
def k0_off50 (i : grid0.Coords) : Fin 3 → Nat :=
  let arg0 : BitVec 32 := BitVec.ofNat 32 (i 0).val
  let c2_i32 : BitVec 32 := 2#32
  let v3 : BitVec 32 := Scalar.remsi arg0 c2_i32
  let v439 : Index := Scalar.indexCast v3
  let c256_143 : Index := 256#32
  let c128_144 : Index := 128#32
  ![v439.toNat, 256, 128]
def k0_off51 (i : grid0.Coords) : Fin 3 → Nat :=
  let arg0 : BitVec 32 := BitVec.ofNat 32 (i 0).val
  let c2_i32 : BitVec 32 := 2#32
  let v3 : BitVec 32 := Scalar.remsi arg0 c2_i32
  let v451 : Index := Scalar.indexCast v3
  let c256_147 : Index := 256#32
  let c256_148 : Index := 256#32
  ![v451.toNat, 256, 256]
def k0_off52 (i : grid0.Coords) : Fin 3 → Nat :=
  let arg0 : BitVec 32 := BitVec.ofNat 32 (i 0).val
  let c2_i32 : BitVec 32 := 2#32
  let v3 : BitVec 32 := Scalar.remsi arg0 c2_i32
  let v463 : Index := Scalar.indexCast v3
  let c256_151 : Index := 256#32
  let c384_152 : Index := 384#32
  ![v463.toNat, 256, 384]
def k0_off53 (i : grid0.Coords) : Fin 3 → Nat :=
  let arg0 : BitVec 32 := BitVec.ofNat 32 (i 0).val
  let c2_i32 : BitVec 32 := 2#32
  let v3 : BitVec 32 := Scalar.remsi arg0 c2_i32
  let v475 : Index := Scalar.indexCast v3
  let c256_155 : Index := 256#32
  let c512_156 : Index := 512#32
  ![v475.toNat, 256, 512]
def k0_off54 (i : grid0.Coords) : Fin 3 → Nat :=
  let arg0 : BitVec 32 := BitVec.ofNat 32 (i 0).val
  let c2_i32 : BitVec 32 := 2#32
  let v3 : BitVec 32 := Scalar.remsi arg0 c2_i32
  let v487 : Index := Scalar.indexCast v3
  let c256_159 : Index := 256#32
  let c640_160 : Index := 640#32
  ![v487.toNat, 256, 640]
def k0_off55 (i : grid0.Coords) : Fin 3 → Nat :=
  let arg0 : BitVec 32 := BitVec.ofNat 32 (i 0).val
  let c2_i32 : BitVec 32 := 2#32
  let v3 : BitVec 32 := Scalar.remsi arg0 c2_i32
  let v499 : Index := Scalar.indexCast v3
  let c256_163 : Index := 256#32
  let c768_164 : Index := 768#32
  ![v499.toNat, 256, 768]
def k0_off56 (i : grid0.Coords) : Fin 3 → Nat :=
  let arg0 : BitVec 32 := BitVec.ofNat 32 (i 0).val
  let c2_i32 : BitVec 32 := 2#32
  let v3 : BitVec 32 := Scalar.remsi arg0 c2_i32
  let v511 : Index := Scalar.indexCast v3
  let c256_167 : Index := 256#32
  let c896_168 : Index := 896#32
  ![v511.toNat, 256, 896]
def k0_off57 (i : grid0.Coords) : Fin 3 → Nat :=
  let arg0 : BitVec 32 := BitVec.ofNat 32 (i 0).val
  let c2_i32 : BitVec 32 := 2#32
  let v3 : BitVec 32 := Scalar.remsi arg0 c2_i32
  let v523 : Index := Scalar.indexCast v3
  let c256_171 : Index := 256#32
  let c1024_172 : Index := 1024#32
  ![v523.toNat, 256, 1024]
def k0_off58 (i : grid0.Coords) : Fin 3 → Nat :=
  let arg0 : BitVec 32 := BitVec.ofNat 32 (i 0).val
  let c2_i32 : BitVec 32 := 2#32
  let v3 : BitVec 32 := Scalar.remsi arg0 c2_i32
  let v535 : Index := Scalar.indexCast v3
  let c256_175 : Index := 256#32
  let c1152_176 : Index := 1152#32
  ![v535.toNat, 256, 1152]
def k0_off59 (i : grid0.Coords) : Fin 3 → Nat :=
  let arg0 : BitVec 32 := BitVec.ofNat 32 (i 0).val
  let c2_i32 : BitVec 32 := 2#32
  let v3 : BitVec 32 := Scalar.remsi arg0 c2_i32
  let v547 : Index := Scalar.indexCast v3
  let c256_179 : Index := 256#32
  let c1280_180 : Index := 1280#32
  ![v547.toNat, 256, 1280]
def k0_off60 (i : grid0.Coords) : Fin 3 → Nat :=
  let arg0 : BitVec 32 := BitVec.ofNat 32 (i 0).val
  let c2_i32 : BitVec 32 := 2#32
  let v3 : BitVec 32 := Scalar.remsi arg0 c2_i32
  let v559 : Index := Scalar.indexCast v3
  let c256_183 : Index := 256#32
  let c1408_184 : Index := 1408#32
  ![v559.toNat, 256, 1408]
def k0_off61 (i : grid0.Coords) : Fin 3 → Nat :=
  let arg0 : BitVec 32 := BitVec.ofNat 32 (i 0).val
  let c2_i32 : BitVec 32 := 2#32
  let v3 : BitVec 32 := Scalar.remsi arg0 c2_i32
  let v571 : Index := Scalar.indexCast v3
  let c256_187 : Index := 256#32
  let c1536_188 : Index := 1536#32
  ![v571.toNat, 256, 1536]
def k0_off62 (i : grid0.Coords) : Fin 3 → Nat :=
  let arg0 : BitVec 32 := BitVec.ofNat 32 (i 0).val
  let c2_i32 : BitVec 32 := 2#32
  let v3 : BitVec 32 := Scalar.remsi arg0 c2_i32
  let v583 : Index := Scalar.indexCast v3
  let c256_191 : Index := 256#32
  let c1664_192 : Index := 1664#32
  ![v583.toNat, 256, 1664]
def k0_off63 (i : grid0.Coords) : Fin 3 → Nat :=
  let arg0 : BitVec 32 := BitVec.ofNat 32 (i 0).val
  let c2_i32 : BitVec 32 := 2#32
  let v3 : BitVec 32 := Scalar.remsi arg0 c2_i32
  let v595 : Index := Scalar.indexCast v3
  let c256_195 : Index := 256#32
  let c1792_196 : Index := 1792#32
  ![v595.toNat, 256, 1792]
def k0_off64 (i : grid0.Coords) : Fin 3 → Nat :=
  let arg0 : BitVec 32 := BitVec.ofNat 32 (i 0).val
  let c2_i32 : BitVec 32 := 2#32
  let v3 : BitVec 32 := Scalar.remsi arg0 c2_i32
  let v607 : Index := Scalar.indexCast v3
  let c256_199 : Index := 256#32
  let c1920_200 : Index := 1920#32
  ![v607.toNat, 256, 1920]
def k0_off65 (i : grid0.Coords) : Fin 3 → Nat :=
  let arg0 : BitVec 32 := BitVec.ofNat 32 (i 0).val
  let c2_i32 : BitVec 32 := 2#32
  let v3 : BitVec 32 := Scalar.remsi arg0 c2_i32
  let v630 : Index := Scalar.indexCast v3
  let c384_210 : Index := 384#32
  let c0_211 : Index := 0#32
  ![v630.toNat, 384, 0]
def k0_off66 (i : grid0.Coords) : Fin 3 → Nat :=
  let arg0 : BitVec 32 := BitVec.ofNat 32 (i 0).val
  let c2_i32 : BitVec 32 := 2#32
  let v3 : BitVec 32 := Scalar.remsi arg0 c2_i32
  let v634 : Index := Scalar.indexCast v3
  let c384_213 : Index := 384#32
  let c0_214 : Index := 0#32
  ![v634.toNat, 384, 0]
def k0_off67 (i : grid0.Coords) : Fin 3 → Nat :=
  let arg0 : BitVec 32 := BitVec.ofNat 32 (i 0).val
  let c2_i32 : BitVec 32 := 2#32
  let v3 : BitVec 32 := Scalar.remsi arg0 c2_i32
  let v646 : Index := Scalar.indexCast v3
  let c384_217 : Index := 384#32
  let c128_218 : Index := 128#32
  ![v646.toNat, 384, 128]
def k0_off68 (i : grid0.Coords) : Fin 3 → Nat :=
  let arg0 : BitVec 32 := BitVec.ofNat 32 (i 0).val
  let c2_i32 : BitVec 32 := 2#32
  let v3 : BitVec 32 := Scalar.remsi arg0 c2_i32
  let v658 : Index := Scalar.indexCast v3
  let c384_221 : Index := 384#32
  let c256_222 : Index := 256#32
  ![v658.toNat, 384, 256]
def k0_off69 (i : grid0.Coords) : Fin 3 → Nat :=
  let arg0 : BitVec 32 := BitVec.ofNat 32 (i 0).val
  let c2_i32 : BitVec 32 := 2#32
  let v3 : BitVec 32 := Scalar.remsi arg0 c2_i32
  let v670 : Index := Scalar.indexCast v3
  let c384_225 : Index := 384#32
  let c384_226 : Index := 384#32
  ![v670.toNat, 384, 384]
def k0_off70 (i : grid0.Coords) : Fin 3 → Nat :=
  let arg0 : BitVec 32 := BitVec.ofNat 32 (i 0).val
  let c2_i32 : BitVec 32 := 2#32
  let v3 : BitVec 32 := Scalar.remsi arg0 c2_i32
  let v682 : Index := Scalar.indexCast v3
  let c384_229 : Index := 384#32
  let c512_230 : Index := 512#32
  ![v682.toNat, 384, 512]
def k0_off71 (i : grid0.Coords) : Fin 3 → Nat :=
  let arg0 : BitVec 32 := BitVec.ofNat 32 (i 0).val
  let c2_i32 : BitVec 32 := 2#32
  let v3 : BitVec 32 := Scalar.remsi arg0 c2_i32
  let v694 : Index := Scalar.indexCast v3
  let c384_233 : Index := 384#32
  let c640_234 : Index := 640#32
  ![v694.toNat, 384, 640]
def k0_off72 (i : grid0.Coords) : Fin 3 → Nat :=
  let arg0 : BitVec 32 := BitVec.ofNat 32 (i 0).val
  let c2_i32 : BitVec 32 := 2#32
  let v3 : BitVec 32 := Scalar.remsi arg0 c2_i32
  let v706 : Index := Scalar.indexCast v3
  let c384_237 : Index := 384#32
  let c768_238 : Index := 768#32
  ![v706.toNat, 384, 768]
def k0_off73 (i : grid0.Coords) : Fin 3 → Nat :=
  let arg0 : BitVec 32 := BitVec.ofNat 32 (i 0).val
  let c2_i32 : BitVec 32 := 2#32
  let v3 : BitVec 32 := Scalar.remsi arg0 c2_i32
  let v718 : Index := Scalar.indexCast v3
  let c384_241 : Index := 384#32
  let c896_242 : Index := 896#32
  ![v718.toNat, 384, 896]
def k0_off74 (i : grid0.Coords) : Fin 3 → Nat :=
  let arg0 : BitVec 32 := BitVec.ofNat 32 (i 0).val
  let c2_i32 : BitVec 32 := 2#32
  let v3 : BitVec 32 := Scalar.remsi arg0 c2_i32
  let v730 : Index := Scalar.indexCast v3
  let c384_245 : Index := 384#32
  let c1024_246 : Index := 1024#32
  ![v730.toNat, 384, 1024]
def k0_off75 (i : grid0.Coords) : Fin 3 → Nat :=
  let arg0 : BitVec 32 := BitVec.ofNat 32 (i 0).val
  let c2_i32 : BitVec 32 := 2#32
  let v3 : BitVec 32 := Scalar.remsi arg0 c2_i32
  let v742 : Index := Scalar.indexCast v3
  let c384_249 : Index := 384#32
  let c1152_250 : Index := 1152#32
  ![v742.toNat, 384, 1152]
def k0_off76 (i : grid0.Coords) : Fin 3 → Nat :=
  let arg0 : BitVec 32 := BitVec.ofNat 32 (i 0).val
  let c2_i32 : BitVec 32 := 2#32
  let v3 : BitVec 32 := Scalar.remsi arg0 c2_i32
  let v754 : Index := Scalar.indexCast v3
  let c384_253 : Index := 384#32
  let c1280_254 : Index := 1280#32
  ![v754.toNat, 384, 1280]
def k0_off77 (i : grid0.Coords) : Fin 3 → Nat :=
  let arg0 : BitVec 32 := BitVec.ofNat 32 (i 0).val
  let c2_i32 : BitVec 32 := 2#32
  let v3 : BitVec 32 := Scalar.remsi arg0 c2_i32
  let v766 : Index := Scalar.indexCast v3
  let c384_257 : Index := 384#32
  let c1408_258 : Index := 1408#32
  ![v766.toNat, 384, 1408]
def k0_off78 (i : grid0.Coords) : Fin 3 → Nat :=
  let arg0 : BitVec 32 := BitVec.ofNat 32 (i 0).val
  let c2_i32 : BitVec 32 := 2#32
  let v3 : BitVec 32 := Scalar.remsi arg0 c2_i32
  let v778 : Index := Scalar.indexCast v3
  let c384_261 : Index := 384#32
  let c1536_262 : Index := 1536#32
  ![v778.toNat, 384, 1536]
def k0_off79 (i : grid0.Coords) : Fin 3 → Nat :=
  let arg0 : BitVec 32 := BitVec.ofNat 32 (i 0).val
  let c2_i32 : BitVec 32 := 2#32
  let v3 : BitVec 32 := Scalar.remsi arg0 c2_i32
  let v790 : Index := Scalar.indexCast v3
  let c384_265 : Index := 384#32
  let c1664_266 : Index := 1664#32
  ![v790.toNat, 384, 1664]
def k0_off80 (i : grid0.Coords) : Fin 3 → Nat :=
  let arg0 : BitVec 32 := BitVec.ofNat 32 (i 0).val
  let c2_i32 : BitVec 32 := 2#32
  let v3 : BitVec 32 := Scalar.remsi arg0 c2_i32
  let v802 : Index := Scalar.indexCast v3
  let c384_269 : Index := 384#32
  let c1792_270 : Index := 1792#32
  ![v802.toNat, 384, 1792]
def k0_off81 (i : grid0.Coords) : Fin 3 → Nat :=
  let arg0 : BitVec 32 := BitVec.ofNat 32 (i 0).val
  let c2_i32 : BitVec 32 := 2#32
  let v3 : BitVec 32 := Scalar.remsi arg0 c2_i32
  let v814 : Index := Scalar.indexCast v3
  let c384_273 : Index := 384#32
  let c1920_274 : Index := 1920#32
  ![v814.toNat, 384, 1920]
def k0_cond3 (i : grid0.Coords) : BitVec 1 :=
  let arg0 : BitVec 32 := BitVec.ofNat 32 (i 0).val
  let c29_i32 : BitVec 32 := 29#32
  let v882 : BitVec 1 := Scalar.cmpi .eq arg0 c29_i32
  let v883 : BitVec 32 := Scalar.extui v882
  let c0_i32_305 : BitVec 32 := 0#32
  let v884 : BitVec 1 := Scalar.cmpi .ne v883 c0_i32_305
  v884

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S128256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S24x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x12 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x12 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S24x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x12 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x12 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FinishIdeal.lean ====
variable {F : FTy → Type} [FloatOps F] [Named F]
def κ : String → Option EReal := fun
  | "log2_e" => some (((Real.log 2)⁻¹ : ℝ) : EReal)
  | _ => none
-- ==== FinishReferenceIdeal.lean ====
abbrev S6x2560 : Shape := ⟨2, ![6, 2560]⟩
abbrev S128256 : Shape := ⟨1, ![128256]⟩
abbrev S128256x2048 : Shape := ⟨2, ![128256, 2048]⟩
abbrev S6x2560x2048 : Shape := ⟨3, ![6, 2560, 2048]⟩
abbrev S8x15360 : Shape := ⟨2, ![8, 15360]⟩
abbrev S24 : Shape := ⟨1, ![24]⟩
abbrev S12 : Shape := ⟨1, ![12]⟩
abbrev S15360 : Shape := ⟨1, ![15360]⟩
abbrev S15360x2048 : Shape := ⟨2, ![15360, 2048]⟩
abbrev S15360x1 : Shape := ⟨2, ![15360, 1]⟩
abbrev S_ : Shape := ⟨0, ![]⟩
abbrev S1x15360 : Shape := ⟨2, ![1, 15360]⟩
abbrev S24x15360 : Shape := ⟨2, ![24, 15360]⟩
abbrev S12x1 : Shape := ⟨2, ![12, 1]⟩
abbrev S24x1 : Shape := ⟨2, ![24, 1]⟩
abbrev S1x12 : Shape := ⟨2, ![1, 12]⟩

abbrev nBuf : Space → Nat
  | .hbm => 70
  | .vmem => 3
  | .smem => 0
  | _ => 0

abbrev bufTy : (tb : Table) → Fin (tcTables nBuf tb) → BufTy
  | .hbm, ⟨0, _⟩ => ⟨S6x2560, .i32⟩
  | .hbm, ⟨1, _⟩ => ⟨S128256, .f32⟩
  | .hbm, ⟨2, _⟩ => ⟨S128256x2048, .i8⟩
  | .hbm, ⟨3, _⟩ => ⟨S6x2560x2048, .fp8e4m3⟩
  | .hbm, ⟨4, _⟩ => ⟨S6x2560, .f32⟩
  | .hbm, ⟨5, _⟩ => ⟨S8x15360, .f32⟩
  | .hbm, ⟨6, _⟩ => ⟨S8x15360, .f32⟩
  | .hbm, ⟨7, _⟩ => ⟨S6x2560, .i32⟩
  | .hbm, ⟨8, _⟩ => ⟨S6x2560, .i32⟩
  | .hbm, ⟨9, _⟩ => ⟨S24, .f32⟩
  | .hbm, ⟨10, _⟩ => ⟨S12, .i32⟩
  | .hbm, ⟨11, _⟩ => ⟨S12, .i32⟩
  | .hbm, ⟨12, _⟩ => ⟨S15360, .i32⟩
  | .hbm, ⟨13, _⟩ => ⟨S15360x2048, .fp8e4m3⟩
  | .hbm, ⟨14, _⟩ => ⟨S15360x1, .i32⟩
  | .hbm, ⟨15, _⟩ => ⟨S15360x2048, .i8⟩
  | .hbm, ⟨16, _⟩ => ⟨S15360, .f32⟩
  | .hbm, ⟨17, _⟩ => ⟨S15360, .f32⟩
  | .hbm, ⟨18, _⟩ => ⟨S15360, .f32⟩
  | .hbm, ⟨19, _⟩ => ⟨S15360x1, .i32⟩
  | .hbm, ⟨20, _⟩ => ⟨S15360, .f32⟩
  | .hbm, ⟨21, _⟩ => ⟨S15360, .f32⟩
  | .hbm, ⟨22, _⟩ => ⟨S_, .f32⟩
  | .hbm, ⟨23, _⟩ => ⟨S15360, .f32⟩
  | .hbm, ⟨24, _⟩ => ⟨S1x15360, .f32⟩
  | .hbm, ⟨25, _⟩ => ⟨S8x15360, .f32⟩
  | .hbm, ⟨26, _⟩ => ⟨S8x15360, .f32⟩
  | .hbm, ⟨27, _⟩ => ⟨S8x15360, .f32⟩
  | .hbm, ⟨28, _⟩ => ⟨S8x15360, .f32⟩
  | .hbm, ⟨29, _⟩ => ⟨S_, .f32⟩
  | .hbm, ⟨30, _⟩ => ⟨S15360, .f32⟩
  | .hbm, ⟨31, _⟩ => ⟨S15360, .f32⟩
  | .hbm, ⟨32, _⟩ => ⟨S15360, .f32⟩
  | .hbm, ⟨33, _⟩ => ⟨S15360, .f32⟩
  | .hbm, ⟨34, _⟩ => ⟨S15360, .i32⟩
  | .hbm, ⟨35, _⟩ => ⟨S15360, .f32⟩
  | .hbm, ⟨36, _⟩ => ⟨S15360, .f32⟩
  | .hbm, ⟨37, _⟩ => ⟨S1x15360, .i32⟩
  | .hbm, ⟨38, _⟩ => ⟨S24x15360, .i32⟩
  | .hbm, ⟨39, _⟩ => ⟨S24x15360, .i32⟩
  | .hbm, ⟨40, _⟩ => ⟨S24x15360, .i1⟩
  | .hbm, ⟨41, _⟩ => ⟨S24x15360, .f32⟩
  | .hbm, ⟨42, _⟩ => ⟨S_, .f32⟩
  | .hbm, ⟨43, _⟩ => ⟨S24x15360, .f32⟩
  | .hbm, ⟨44, _⟩ => ⟨S24x15360, .f32⟩
  | .hbm, ⟨45, _⟩ => ⟨S_, .f32⟩
  | .hbm, ⟨46, _⟩ => ⟨S24, .f32⟩
  | .hbm, ⟨47, _⟩ => ⟨S24, .f32⟩
  | .hbm, ⟨48, _⟩ => ⟨S12x1, .i32⟩
  | .hbm, ⟨49, _⟩ => ⟨S12, .f32⟩
  | .hbm, ⟨50, _⟩ => ⟨S12x1, .i32⟩
  | .hbm, ⟨51, _⟩ => ⟨S12, .f32⟩
  | .hbm, ⟨52, _⟩ => ⟨S12, .f32⟩
  | .hbm, ⟨53, _⟩ => ⟨S_, .f32⟩
  | .hbm, ⟨54, _⟩ => ⟨S12, .f32⟩
  | .hbm, ⟨55, _⟩ => ⟨S12, .f32⟩
  | .hbm, ⟨56, _⟩ => ⟨S12, .f32⟩
  | .hbm, ⟨57, _⟩ => ⟨S_, .f32⟩
  | .hbm, ⟨58, _⟩ => ⟨S12, .f32⟩
  | .hbm, ⟨59, _⟩ => ⟨S12, .f32⟩
  | .hbm, ⟨60, _⟩ => ⟨S12, .f32⟩
  | .hbm, ⟨61, _⟩ => ⟨S12, .f32⟩
  | .hbm, ⟨62, _⟩ => ⟨S12, .f32⟩
  | .hbm, ⟨63, _⟩ => ⟨S12, .f32⟩
  | .hbm, ⟨64, _⟩ => ⟨S12, .f32⟩
  | .hbm, ⟨65, _⟩ => ⟨S1x15360, .f32⟩
  | .hbm, ⟨66, _⟩ => ⟨S1x15360, .f32⟩
  | .hbm, ⟨67, _⟩ => ⟨S24x1, .f32⟩
  | .hbm, ⟨68, _⟩ => ⟨S1x12, .f32⟩
  | .hbm, ⟨69, _⟩ => ⟨S1x12, .f32⟩
  | .local _ .vmem, ⟨0, _⟩ => ⟨S15360x2048, .fp8e4m3⟩
  | .local _ .vmem, ⟨1, _⟩ => ⟨S15360x2048, .i8⟩
  | .local _ .vmem, ⟨2, _⟩ => ⟨S15360, .f32⟩
  | _, _ => ⟨S6x2560, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S15360x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S15360x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Template.lean ====
/- The kernel's body written once as loops: the printed body is the same program with every loop unrolled and cut into
   parts, and the equations at the end say so. Each definition takes the rest of the program as its last
   argument, so that no `bind` is left between two memory operations. -/
module

public import proofs.«01_k».proof.Proof.Gen.Kernel.Frame

@[expose] public section

set_option maxRecDepth 16384

noncomputable section

namespace Cert.Kernel.Gen

open Idealize.ShloMosaic Idealize.ShloMosaic.TcCoe Idealize.ShloMosaic.Tactic
open Idealize.SL.Sem

variable {F : FTy → Type} [FloatOps F]

/-- Programs of the kernel's body. -/
abbrev BodyProg (F : FTy → Type) [FloatOps F] := Prog (TpuEff nD τ sig (Elt F) Λ₀ .tc) PUnit

/-- The factor that turns `exp2` into `exp`. -/
def log2e : F .f32 := Scalar.ofBits .f32 0x3FB8AA3B#32

/-! ## Offsets -/

/-- Row group `k` of the 96 groups of eight rows. -/
theorem inbWs (k : Fin 96) : ∀ a, (![8 * k.val, 0] : Fin 2 → Nat) a + S8x128.size a ≤ S768x128.size a := by
  intro a; have := k.isLt
  match a with
  | ⟨0, _⟩ => show 8 * k.val + 8 ≤ 768; omega
  | ⟨1, _⟩ => show 0 + 128 ≤ 128; omega

theorem slWs (k : Fin 96) : S8x96.Slices ![0, k.val] S8x1 := by
  revert k; decide +kernel

/-- The half of the chunk's rows that dot `d` (of four) takes, -/
theorem inbW (d : Fin 4) : ∀ a, (![384 * (d.val / 2), 0] : Fin 2 → Nat) a + S384x2048.size a ≤ S768x2048.size a := by
  intro a; have := d.isLt
  match a with
  | ⟨0, _⟩ => show 384 * (d.val / 2) + 384 ≤ 768; omega
  | ⟨1, _⟩ => show 0 + 2048 ≤ 2048; omega

/-- and the half of the block's tokens. -/
theorem inbH (d : Fin 4) : ∀ a, (![512 * (d.val % 2), 0] : Fin 2 → Nat) a + S512x2048.size a ≤ S1024x2048.size a := by
  intro a; have := d.isLt
  match a with
  | ⟨0, _⟩ => show 512 * (d.val % 2) + 512 ≤ 1024; omega
  | ⟨1, _⟩ => show 0 + 2048 ≤ 2048; omega

/-- The lane group (of eight) of dot `d`'s lane group `q`. -/
def laneOf (d q : Fin 4) : Fin 8 := ⟨4 * (d.val % 2) + q.val, by omega⟩
/-- The 96-row group of the chunk (of eight) of dot `d`'s group `u`. -/
def subOf (d u : Fin 4) : Fin 8 := ⟨4 * (d.val / 2) + u.val, by omega⟩

theorem inbHs (l : Fin 8) : ∀ a, (![0, 128 * l.val] : Fin 2 → Nat) a + S1x128.size a ≤ S1x1024.size a := by
  intro a; have := l.isLt
  match a with
  | ⟨0, _⟩ => show 0 + 1 ≤ 1; omega
  | ⟨1, _⟩ => show 128 * l.val + 128 ≤ 1024; omega

/-- The shard that the 96-row group `n` of point `i`'s chunk lies in, as the kernel computes it. -/
def shardW (i : grid0.Coords) (n : BitVec 32) : Nat := k0_off1 i n 0

/-- Where a block of scratch lies: the shard of row group `n`, all sublanes, lane group `l`. -/
def offS (i : grid0.Coords) (n l : Fin 8) : Fin 3 → Nat := ![shardW i (BitVec.ofNat 32 n.val), 0, 128 * l.val]

theorem inbS (i : grid0.Coords) (n l : Fin 8) : ∀ a, offS i n l a + S1x8x128.size a ≤ S8x8x1024.size a := by
  intro a; have := l.isLt
  match a with
  | ⟨0, _⟩ => exact k0_off1_inb i n 0
  | ⟨1, _⟩ => show 0 + 8 ≤ 8; omega
  | ⟨2, _⟩ => show 128 * l.val + 128 ≤ 1024; omega

theorem slRaw (u q : Fin 4) (k : Fin 12) : S384x512.Slices ![96 * u.val + 8 * k.val, 128 * q.val] S8x128 := by
  revert u q k; decide +kernel

/-- Row group `k` of dot `d`'s group `u`, among the 96 of the chunk. -/
def rowG (d u : Fin 4) (k : Fin 12) : Fin 96 := ⟨48 * (d.val / 2) + 12 * u.val + k.val, by omega⟩

theorem inbG3 (g : Fin 8) : ∀ a, (![g.val, 0, 0] : Fin 3 → Nat) a + S1x8x1024.size a ≤ S8x8x1024.size a := by
  intro a; have := g.isLt
  match a with
  | ⟨0, _⟩ => show g.val + 1 ≤ 8; omega
  | ⟨1, _⟩ => show 0 + 8 ≤ 8; omega
  | ⟨2, _⟩ => show 0 + 1024 ≤ 1024; omega

theorem inbG2 (g : Fin 8) : ∀ a, (![g.val, 0] : Fin 2 → Nat) a + S1x1024.size a ≤ S8x1024.size a := by
  intro a; have := g.isLt
  match a with
  | ⟨0, _⟩ => show g.val + 1 ≤ 8; omega
  | ⟨1, _⟩ => show 0 + 1024 ≤ 1024; omega

/-! ## Values -/

/-- Eight row scales spread over the lanes. -/
def wsVal (v4 : FVec F S8x96 .f32) (k : Fin 96) : FVec F S8x128 .f32 :=
  shapeCast S8x128 (broadcastTo S8x128 (shapeCast S8x1 (extractStridedSlice S8x1 ![0, k.val] v4 (slWs k)) shapeCasts_S8x1_S8x1) broadcasts_S8x1_S8x128) shapeCasts_S8x128_S8x128

/-- Eight rows of logits over 128 tokens. -/
def xVal (raw : FVec F S384x512 .f32) (u q : Fin 4) (k : Fin 12) (hs : FVec F S1x128 .f32) (wsv : FVec F S8x128 .f32) : FVec F S8x128 .f32 :=
  mulf (mulf (extractStridedSlice S8x128 ![96 * u.val + 8 * k.val, 128 * q.val] raw (slRaw u q k)) (broadcastTo S8x128 hs broadcasts_S1x128_S8x128)) wsv

/-- `exp (x - m)`, as the kernel computes it. -/
def expVal (x m : FVec F S8x128 .f32) : FVec F S8x128 .f32 :=
  exp2 (mulf (subf x m) (broadcast S8x128 log2e))

/-- The new running maximum. -/
def newM (m x0 x1 x2 x3 x4 x5 x6 x7 x8 x9 x10 x11 : FVec F S8x128 .f32) : FVec F S8x128 .f32 :=
  maximumf (maximumf (maximumf (maximumf (maximumf (maximumf (maximumf (maximumf (maximumf (maximumf (maximumf (maximumf m x0) x1) x2) x3) x4) x5) x6) x7) x8) x9) x10) x11

/-- The new running sum, relative to the new maximum `t`. -/
def newS (s m t x0 x1 x2 x3 x4 x5 x6 x7 x8 x9 x10 x11 : FVec F S8x128 .f32) : FVec F S8x128 .f32 :=
  addf (addf (addf (addf (addf (addf (addf (addf (addf (addf (addf (addf (mulf s (expVal m t)) (expVal x0 t)) (expVal x1 t)) (expVal x2 t)) (expVal x3 t)) (expVal x4 t)) (expVal x5 t)) (expVal x6 t)) (expVal x7 t)) (expVal x8 t)) (expVal x9 t)) (expVal x10 t)) (expVal x11 t)

/-- The products of 384 rows with 512 tokens. -/
def rawVal (w : Vec F S384x2048 .fp8e4m3) (h : Vec F S512x2048 .fp8e4m3) : FVec F S384x512 .f32 :=
  matmul dot_S384x2048_S512x2048_S384x512_1_1_0_0_n_n none w (shapeCast S512x2048 h shapeCasts_S512x2048_S512x2048) (constant S384x512 .f32 0x00000000#32)

/-- The maximum over the eight sublanes. -/
def topVal (m : FVec F S8x1024 .f32) : FVec F S1x1024 .f32 :=
  shapeCast S1x1024 (multiReduction .maximumf [0] S1024 m 0xFF800000#32 reduces_S8x1024_S1024 (.inl rfl) rfl) shapeCasts_S1024_S1x1024

/-- The sum over the eight sublanes, relative to that maximum. -/
def sumVal (m s : FVec F S8x1024 .f32) : FVec F S1x1024 .f32 :=
  shapeCast S1x1024 (multiReduction .add [0] S1024 (mulf s (exp2 (mulf (subf m (broadcastTo S8x1024 (topVal m) broadcasts_S1x1024_S8x1024)) (broadcast S8x1024 log2e)))) 0x00000000#32 reduces_S8x1024_S1024 (.inl rfl) rfl) shapeCasts_S1024_S1x1024

/-! ## The program -/

variable (i : grid0.Coords) (arg2 : Memref sig .tc .vmem S768x2048 .fp8e4m3) (arg3 : Memref sig .tc .vmem S1x8x96 .f32)
  (arg4 : Memref sig .tc .vmem S1024x2048 .fp8e4m3) (arg5 : Memref sig .tc .vmem S1x1024 .f32)
  (arg6 arg7 : Memref sig .tc .vmem S8x1024 .f32) (arg8 arg9 : Memref sig .tc .vmem S8x8x1024 .f32)
  (arg10 : Memref sig .tc .vmem S768x128 .f32)

/-- At a token block's first chunk: the maxima are minus infinity, the sums zero. -/
def initK (K : BodyProg F) : BodyProg F :=
  .op (.load arg8 (Rect.unit (s := S8x8x1024) ![0, 0, 0] S8x8x1024.size inb_S8x8x1024_S8x8x1024_0_0_0).toLoadRect (View.loadsAt_vmem h_S8x8x1024)) fun _ =>
  .op (.store arg8 (Rect.unit (s := S8x8x1024) ![0, 0, 0] S8x8x1024.size inb_S8x8x1024_S8x8x1024_0_0_0) (shapeCast S8x8x1024 (broadcast S8x8x1024 (Scalar.ofBits (F := F) .f32 0xFF800000#32)) shapeCasts_S8x8x1024_S8x8x1024) Finset.univ (View.stores_vmem_bits_univ h_S8x8x1024 rfl) (.inl rfl)) fun _ =>
  .op (.load arg9 (Rect.unit (s := S8x8x1024) ![0, 0, 0] S8x8x1024.size inb_S8x8x1024_S8x8x1024_0_0_0).toLoadRect (View.loadsAt_vmem h_S8x8x1024)) fun _ =>
  .op (.store arg9 (Rect.unit (s := S8x8x1024) ![0, 0, 0] S8x8x1024.size inb_S8x8x1024_S8x8x1024_0_0_0) (shapeCast S8x8x1024 (broadcast S8x8x1024 (Scalar.ofBits (F := F) .f32 0x00000000#32)) shapeCasts_S8x8x1024_S8x8x1024) Finset.univ (View.stores_vmem_bits_univ h_S8x8x1024 rfl) (.inl rfl)) fun _ =>
  K

/-- One group of eight row scales is spread over the lanes. -/
def wsK (v4 : FVec F S8x96 .f32) (k : Fin 96) (K : BodyProg F) : BodyProg F :=
  .op (.load arg10 (Rect.unit (s := S768x128) ![8 * k.val, 0] S8x128.size (inbWs k)).toLoadRect (View.loadsAt_vmem h_S8x128)) fun _ =>
  .op (.store arg10 (Rect.unit (s := S768x128) ![8 * k.val, 0] S8x128.size (inbWs k)) (wsVal v4 k) Finset.univ (View.stores_vmem_bits_univ h_S8x128 rfl) (.inl rfl)) fun _ =>
  K

/-- Read back the spread row scales of group `k`. -/
def ldWsK (k : Fin 96) (K : Vec F S8x128 .f32 → BodyProg F) : BodyProg F :=
  .op (.load arg10 (Rect.unit (s := S768x128) ![8 * k.val, 0] S8x128.size (inbWs k)).toLoadRect (View.loadsAt_vmem h_S8x128)) K

/-- One block: 96 rows of logits over 128 tokens enter the running maximum and the running sum of their shard. -/
def blkK (d : Fin 4) (raw : FVec F S384x512 .f32) (u q : Fin 4) (K : BodyProg F) : BodyProg F :=
  .op (.load arg5 (Rect.unit (s := S1x1024) ![0, 128 * (laneOf d q).val] S1x128.size (inbHs (laneOf d q))).toLoadRect (View.loadsAt_vmem h_S1x128)) fun v =>
  ldWsK arg10 (rowG d u 0) fun w0 => ldWsK arg10 (rowG d u 1) fun w1 => ldWsK arg10 (rowG d u 2) fun w2 =>
  ldWsK arg10 (rowG d u 3) fun w3 => ldWsK arg10 (rowG d u 4) fun w4 => ldWsK arg10 (rowG d u 5) fun w5 =>
  ldWsK arg10 (rowG d u 6) fun w6 => ldWsK arg10 (rowG d u 7) fun w7 => ldWsK arg10 (rowG d u 8) fun w8 =>
  ldWsK arg10 (rowG d u 9) fun w9 => ldWsK arg10 (rowG d u 10) fun w10 => ldWsK arg10 (rowG d u 11) fun w11 =>
  .op (.load arg8 (Rect.unit (s := S8x8x1024) (offS i (subOf d u) (laneOf d q)) S1x8x128.size (inbS i (subOf d u) (laneOf d q))).toLoadRect (View.loadsAt_vmem h_S1x8x128)) fun m =>
  .op (.load arg9 (Rect.unit (s := S8x8x1024) (offS i (subOf d u) (laneOf d q)) S1x8x128.size (inbS i (subOf d u) (laneOf d q))).toLoadRect (View.loadsAt_vmem h_S1x8x128)) fun s =>
  .op (.load arg9 (Rect.unit (s := S8x8x1024) (offS i (subOf d u) (laneOf d q)) S1x8x128.size (inbS i (subOf d u) (laneOf d q))).toLoadRect (View.loadsAt_vmem h_S1x8x128)) fun _ =>
  .op (.store arg9 (Rect.unit (s := S8x8x1024) (offS i (subOf d u) (laneOf d q)) S1x8x128.size (inbS i (subOf d u) (laneOf d q)))
    (shapeCast S1x8x128 (newS (shapeCast S8x128 s shapeCasts_S1x8x128_S8x128) (shapeCast S8x128 m shapeCasts_S1x8x128_S8x128)
      (newM (shapeCast S8x128 m shapeCasts_S1x8x128_S8x128) (xVal raw u q 0 (shapeCast S1x128 v shapeCasts_S1x128_S1x128) w0) (xVal raw u q 1 (shapeCast S1x128 v shapeCasts_S1x128_S1x128) w1) (xVal raw u q 2 (shapeCast S1x128 v shapeCasts_S1x128_S1x128) w2) (xVal raw u q 3 (shapeCast S1x128 v shapeCasts_S1x128_S1x128) w3) (xVal raw u q 4 (shapeCast S1x128 v shapeCasts_S1x128_S1x128) w4) (xVal raw u q 5 (shapeCast S1x128 v shapeCasts_S1x128_S1x128) w5) (xVal raw u q 6 (shapeCast S1x128 v shapeCasts_S1x128_S1x128) w6) (xVal raw u q 7 (shapeCast S1x128 v shapeCasts_S1x128_S1x128) w7) (xVal raw u q 8 (shapeCast S1x128 v shapeCasts_S1x128_S1x128) w8) (xVal raw u q 9 (shapeCast S1x128 v shapeCasts_S1x128_S1x128) w9) (xVal raw u q 10 (shapeCast S1x128 v shapeCasts_S1x128_S1x128) w10) (xVal raw u q 11 (shapeCast S1x128 v shapeCasts_S1x128_S1x128) w11))
      (xVal raw u q 0 (shapeCast S1x128 v shapeCasts_S1x128_S1x128) w0) (xVal raw u q 1 (shapeCast S1x128 v shapeCasts_S1x128_S1x128) w1) (xVal raw u q 2 (shapeCast S1x128 v shapeCasts_S1x128_S1x128) w2) (xVal raw u q 3 (shapeCast S1x128 v shapeCasts_S1x128_S1x128) w3) (xVal raw u q 4 (shapeCast S1x128 v shapeCasts_S1x128_S1x128) w4) (xVal raw u q 5 (shapeCast S1x128 v shapeCasts_S1x128_S1x128) w5) (xVal raw u q 6 (shapeCast S1x128 v shapeCasts_S1x128_S1x128) w6) (xVal raw u q 7 (shapeCast S1x128 v shapeCasts_S1x128_S1x128) w7) (xVal raw u q 8 (shapeCast S1x128 v shapeCasts_S1x128_S1x128) w8) (xVal raw u q 9 (shapeCast S1x128 v shapeCasts_S1x128_S1x128) w9) (xVal raw u q 10 (shapeCast S1x128 v shapeCasts_S1x128_S1x128) w10) (xVal raw u q 11 (shapeCast S1x128 v shapeCasts_S1x128_S1x128) w11))
      shapeCasts_S8x128_S1x8x128) Finset.univ (View.stores_vmem_bits_univ h_S1x8x128 rfl) (.inl rfl)) fun _ =>
  .op (.load arg8 (Rect.unit (s := S8x8x1024) (offS i (subOf d u) (laneOf d q)) S1x8x128.size (inbS i (subOf d u) (laneOf d q))).toLoadRect (View.loadsAt_vmem h_S1x8x128)) fun _ =>
  .op (.store arg8 (Rect.unit (s := S8x8x1024) (offS i (subOf d u) (laneOf d q)) S1x8x128.size (inbS i (subOf d u) (laneOf d q)))
    (shapeCast S1x8x128 (newM (shapeCast S8x128 m shapeCasts_S1x8x128_S8x128) (xVal raw u q 0 (shapeCast S1x128 v shapeCasts_S1x128_S1x128) w0) (xVal raw u q 1 (shapeCast S1x128 v shapeCasts_S1x128_S1x128) w1) (xVal raw u q 2 (shapeCast S1x128 v shapeCasts_S1x128_S1x128) w2) (xVal raw u q 3 (shapeCast S1x128 v shapeCasts_S1x128_S1x128) w3) (xVal raw u q 4 (shapeCast S1x128 v shapeCasts_S1x128_S1x128) w4) (xVal raw u q 5 (shapeCast S1x128 v shapeCasts_S1x128_S1x128) w5) (xVal raw u q 6 (shapeCast S1x128 v shapeCasts_S1x128_S1x128) w6) (xVal raw u q 7 (shapeCast S1x128 v shapeCasts_S1x128_S1x128) w7) (xVal raw u q 8 (shapeCast S1x128 v shapeCasts_S1x128_S1x128) w8) (xVal raw u q 9 (shapeCast S1x128 v shapeCasts_S1x128_S1x128) w9) (xVal raw u q 10 (shapeCast S1x128 v shapeCasts_S1x128_S1x128) w10) (xVal raw u q 11 (shapeCast S1x128 v shapeCasts_S1x128_S1x128) w11))
      shapeCasts_S8x128_S1x8x128) Finset.univ (View.stores_vmem_bits_univ h_S1x8x128 rfl) (.inl rfl)) fun _ =>
  K

/-- The blocks of one dot, in the order the kernel takes them. -/
def blkPairs : List (Fin 4 × Fin 4) :=
  [(0, 0), (0, 1), (0, 2), (0, 3), (1, 0), (1, 1), (1, 2), (1, 3), (2, 0), (2, 1), (2, 2), (2, 3), (3, 0), (3, 1), (3, 2), (3, 3)]

/-- One dot and its sixteen blocks. -/
def dotK (d : Fin 4) (K : BodyProg F) : BodyProg F :=
  .op (.load arg2 (Rect.unit (s := S768x2048) ![384 * (d.val / 2), 0] S384x2048.size (inbW d)).toLoadRect (View.loadsAt_vmem h_S384x2048)) fun w =>
  .op (.load arg4 (Rect.unit (s := S1024x2048) ![512 * (d.val % 2), 0] S512x2048.size (inbH d)).toLoadRect (View.loadsAt_vmem h_S512x2048)) fun h =>
  blkPairs.foldr (fun p K => blkK i arg5 arg8 arg9 arg10 d (rawVal w h) p.1 p.2 K) K

/-- The four dots. -/
def dotsK (K : BodyProg F) : BodyProg F :=
  ([0, 1, 2, 3] : List (Fin 4)).foldr (fun d K => dotK i arg2 arg4 arg5 arg8 arg9 arg10 d K) K

/-- The row scales, spread over the lanes, group by group. -/
def wsAllK (v4 : FVec F S8x96 .f32) (K : BodyProg F) : BodyProg F :=
  (List.finRange 96).foldr (fun k K => wsK arg10 v4 k K) K

/-- One shard's results at the last chunk. -/
def finK (g : Fin 8) (K : BodyProg F) : BodyProg F :=
  .op (.load arg8 (Rect.unit (s := S8x8x1024) ![g.val, 0, 0] S1x8x1024.size (inbG3 g)).toLoadRect (View.loadsAt_vmem h_S1x8x1024)) fun m =>
  .op (.load arg6 (Rect.unit (s := S8x1024) ![g.val, 0] S1x1024.size (inbG2 g)).toLoadRect (View.loadsAt_vmem h_S1x1024)) fun _ =>
  .op (.store arg6 (Rect.unit (s := S8x1024) ![g.val, 0] S1x1024.size (inbG2 g)) (topVal (shapeCast S8x1024 m shapeCasts_S1x8x1024_S8x1024)) Finset.univ (View.stores_vmem_bits_univ h_S1x1024 rfl) (.inl rfl)) fun _ =>
  .op (.load arg9 (Rect.unit (s := S8x8x1024) ![g.val, 0, 0] S1x8x1024.size (inbG3 g)).toLoadRect (View.loadsAt_vmem h_S1x8x1024)) fun s =>
  .op (.load arg7 (Rect.unit (s := S8x1024) ![g.val, 0] S1x1024.size (inbG2 g)).toLoadRect (View.loadsAt_vmem h_S1x1024)) fun _ =>
  .op (.store arg7 (Rect.unit (s := S8x1024) ![g.val, 0] S1x1024.size (inbG2 g)) (sumVal (shapeCast S8x1024 m shapeCasts_S1x8x1024_S8x1024) (shapeCast S8x1024 s shapeCasts_S1x8x1024_S8x1024)) Finset.univ (View.stores_vmem_bits_univ h_S1x1024 rfl) (.inl rfl)) fun _ =>
  K

/-- All shards' results. -/
def finAllK (K : BodyProg F) : BodyProg F :=
  ([0, 1, 2, 3, 4, 5, 6, 7] : List (Fin 8)).foldr (fun g K => finK arg6 arg7 arg8 arg9 g K) K

/-- What follows the initialisation. -/
def mainK : BodyProg F :=
  .op (.load arg3 (Rect.unit (s := S1x8x96) ![0, 0, 0] S1x8x96.size inb_S1x8x96_S1x8x96_0_0_0).toLoadRect (View.loadsAt_vmem h_S1x8x96)) fun v3 =>
  wsAllK arg10 (shapeCast S8x96 v3 shapeCasts_S1x8x96_S8x96) <|
  dotsK i arg2 arg4 arg5 arg8 arg9 arg10 <|
  if _h : k0_cond2 i = 1#1 then finAllK arg6 arg7 arg8 arg9 (.ret ⟨⟩) else .ret ⟨⟩

end Cert.Kernel.Gen

end
-- ==== Proof.Kernel.BodyEq.lean ====
/- The printed body is the template of Template.lean. -/
module

public import proofs.«01_k».proof.Proof.Kernel.Template

@[expose] public section

set_option maxRecDepth 16384

noncomputable section

namespace Cert.Kernel.Gen

open Idealize.ShloMosaic Idealize.ShloMosaic.TcCoe Idealize.ShloMosaic.Tactic
open Idealize.SL.Sem

variable {F : FTy → Type} [FloatOps F]

/-- The condition of the body's first conditional. -/
abbrev condFirst (i : grid0.Coords) : Prop :=
  Scalar.cmpi .ne (Scalar.extui (Scalar.cmpi .eq (BitVec.ofNat 32 (i 1).val) 0#32)) 0#32 = 1#1

variable (i : grid0.Coords) (arg2 : Memref sig .tc .vmem S768x2048 .fp8e4m3) (harg2 : arg2.IsWhole) (arg3 : Memref sig .tc .vmem S1x8x96 .f32) (harg3 : arg3.IsWhole) (arg4 : Memref sig .tc .vmem S1024x2048 .fp8e4m3) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x8x1024 .f32) (harg8 : arg8.IsWhole) (arg9 : Memref sig .tc .vmem S8x8x1024 .f32) (harg9 : arg9.IsWhole) (arg10 : Memref sig .tc .vmem S768x128 .f32) (harg10 : arg10.IsWhole)

theorem body_first (h : condFirst i) :
    cc0_head_lse (F := F) i arg2 harg2 arg3 harg3 arg4 harg4 arg5 harg5 arg6 harg6 arg7 harg7 arg8 harg8 arg9 harg9 arg10 harg10
      = initK arg8 arg9 (mainK i arg2 arg3 arg4 arg5 arg6 arg7 arg8 arg9 arg10) := by
  unfold cc0_head_lse k0_part243 k0_part5
  simp only [dif_pos h]
  sl_kernel_rfl

theorem body_later (h : ¬ condFirst i) :
    cc0_head_lse (F := F) i arg2 harg2 arg3 harg3 arg4 harg4 arg5 harg5 arg6 harg6 arg7 harg7 arg8 harg8 arg9 harg9 arg10 harg10
      = mainK i arg2 arg3 arg4 arg5 arg6 arg7 arg8 arg9 arg10 := by
  unfold cc0_head_lse k0_part243 k0_part5
  simp only [dif_neg h]
  sl_kernel_rfl

end Cert.Kernel.Gen

end
-- ==== Proof.VecRules.lean ====
/- Loads and stores through a unit-stride rectangle, stated of what the memref holds as a vector: a load reads a
   window of it, a store puts a window into it. -/
module

public import Idealize.ShloMosaic.Lib.VecWindow
public import Idealize.ShloMosaic.Lib.Writes
public import Idealize.ShloMosaic.Lib.Tactic

@[expose] public section

noncomputable section

namespace Cert.VecRules

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A window of the whole shape, put at the origin, is what is held afterwards. -/
theorem put_full {s : Shape} {α : Type} (x : s.Idx → α) (off : Fin s.rank → ℕ) (h : ∀ a, off a = 0) (w : s.Idx → α) :
    VecWindow.put x off s.size w = w := by
  funext y
  have hy : ∀ a, off a ≤ (y a).val ∧ (y a).val < off a + s.size a := fun a => by
    rw [h a, Nat.zero_add]; exact ⟨Nat.zero_le _, (y a).isLt⟩
  exact (dif_pos hy).trans (congrArg w (funext fun a => Fin.ext (by
    rw [Rect.unitLocal_val, h a, Nat.sub_zero])))

/-- Puts that miss a place leave it alone. -/
theorem foldl_put_miss {s : Shape} {α ι : Type} (ks : List ι) (off : ι → Fin s.rank → ℕ) (size : Fin s.rank → ℕ)
    (w : ι → ((a : Fin s.rank) → Fin (size a)) → α) (x : s.Idx → α) (y : s.Idx)
    (h : ∀ k ∈ ks, ¬ ∀ a, off k a ≤ (y a).val ∧ (y a).val < off k a + size a) :
    ks.foldl (fun b k => VecWindow.put b (off k) size (w k)) x y = x y := by
  induction ks generalizing x with
  | nil => rfl
  | cons k ks ih =>
    rw [List.foldl_cons, ih _ fun k' hk' => h k' (List.mem_cons_of_mem _ hk')]
    exact dif_neg (h k List.mem_cons_self)

/-- Of puts side by side, the one that holds a place says what is there. -/
theorem foldl_put_hit {s : Shape} {α ι : Type} [DecidableEq ι] (ks : List ι) (off : ι → Fin s.rank → ℕ) (size : Fin s.rank → ℕ)
    (w : ι → ((a : Fin s.rank) → Fin (size a)) → α) (x : s.Idx → α) (y : s.Idx) (k : ι) (hk : k ∈ ks)
    (hy : ∀ a, off k a ≤ (y a).val ∧ (y a).val < off k a + size a)
    (hu : ∀ k' ∈ ks, (∀ a, off k' a ≤ (y a).val ∧ (y a).val < off k' a + size a) → k' = k) :
    ks.foldl (fun b k => VecWindow.put b (off k) size (w k)) x y = w k (Rect.unitLocal y hy) := by
  induction ks generalizing x with
  | nil => cases hk
  | cons k' ks ih =>
    rw [List.foldl_cons]
    by_cases hm : k ∈ ks
    · exact ih _ hm fun k'' h'' => hu k'' (List.mem_cons_of_mem _ h'')
    · obtain rfl : k = k' := (List.mem_cons.mp hk).resolve_right hm
      rw [foldl_put_miss ks off size w _ y fun k'' h'' hc => hm (hu k'' (List.mem_cons_of_mem _ h'') hc ▸ h'')]
      exact dif_pos hy

/-- A load reads a window of what is held. -/
theorem wp_ld {cs : CoreSpace} {m : Memref sig c.2.kind cs s e} {off size : Fin s.rank → ℕ}
    {inb : ∀ a, off a + size a ≤ s.size a} {hl : m.view.LoadsAt (Rect.unit off size inb).toLoadRect}
    {k : ((Rect.unit off size inb).toLoadRect.shape.Idx → Val e) → Prog (TpuEff nD τ sig Val Λ c.2) α}
    {q : PosShare TreeShare} {x : s.Idx → Val e} :
    owns c m q x
      ⊢ iprop((owns c m q x -∗ wp frame (wpE defs 𝒱 c bd) E (k (VecWindow.window x off size inb)) Q)
        -∗ wp frame (wpE defs 𝒱 c bd) E (.op (.load m (Rect.unit off size inb).toLoadRect hl) k) Q) := by
  unfold owns
  iintro ⟨%f, %hf, H⟩ HK
  iapply (wp_load 𝒱 c bd E (m := m) (View.setOn_subset_set _ _)) $$ H
  iintro H
  rw [View.readAt_unit m.view f inb rfl inb, hf]
  iapply HK
  iexists f
  isplitr
  · ipureintro; exact hf
  · iexact H

/-- A store puts a window into what is held. -/
theorem wp_st {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1}
    {k : PUnit → Prog (TpuEff nD τ sig Val Λ c.2) α} {x : s.Idx → Val e} :
    owns c m fullShare x
      ⊢ iprop((owns c m fullShare (VecWindow.put x off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ HK
  iapply (wp_store_writes₀ 𝒱 c bd E (m := m) (r := Rect.unit off size inb) (View.set_slice_subset _ _)) $$ H
  iintro H
  iapply HK
  iexists (m.view.writes Val f [⟨Rect.unit off size inb, w⟩])
  isplitr
  · ipureintro
    rw [View.read_writes_cons_put m.view f inb w [] rfl, View.writes_nil, hf]
  · iexact H

end Cert.VecRules

end
-- ==== Proof.Kernel.Run.lean ====
/- What one run of the body leaves: the two scratch accumulators and, at the last chunk, the two results, as functions
   of what the memrefs hold before it. -/
module

public import proofs.«01_k».proof.Proof.Kernel.BodyEq
public import proofs.«01_k».proof.Proof.VecRules

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.VecRules

variable {F : FTy → Type} [FloatOps F]

local notation "𝕄" => MT nD τ sig Unit (Elt F) ℕ (UR sig nD τ) ℕ

/-- The running maxima and the running sums. -/
abbrev Acc (F : FTy → Type) [FloatOps F] := Vec F S8x8x1024 .f32 × Vec F S8x8x1024 .f32

/-- Before a token block's first chunk. -/
def acc0 : Acc F :=
  (shapeCast S8x8x1024 (broadcast S8x8x1024 (Scalar.ofBits (F := F) .f32 0xFF800000#32)) shapeCasts_S8x8x1024_S8x8x1024,
   shapeCast S8x8x1024 (broadcast S8x8x1024 (Scalar.ofBits (F := F) .f32 0x00000000#32)) shapeCasts_S8x8x1024_S8x8x1024)

/-- The logits of row group `k` of block `(u, q)` of dot `d`. -/
def blkX (d : Fin 4) (raw : FVec F S384x512 .f32) (hs : Vec F S1x1024 .f32) (b : Vec F S768x128 .f32) (u q : Fin 4) (k : Fin 12) : FVec F S8x128 .f32 :=
  xVal raw u q k (shapeCast S1x128 (VecWindow.window hs ![0, 128 * (laneOf d q).val] S1x128.size (inbHs (laneOf d q))) shapeCasts_S1x128_S1x128)
    (VecWindow.window b ![8 * (rowG d u k).val, 0] S8x128.size (inbWs (rowG d u k)))

/-- A block of an accumulator. -/
def blkOf (i : grid0.Coords) (n l : Fin 8) (x : Vec F S8x8x1024 .f32) : FVec F S8x128 .f32 :=
  shapeCast S8x128 (VecWindow.window x (offS i n l) S1x8x128.size (inbS i n l)) shapeCasts_S1x8x128_S8x128

/-- The accumulator with a block replaced. -/
def blkPut (i : grid0.Coords) (n l : Fin 8) (x : Vec F S8x8x1024 .f32) (y : FVec F S8x128 .f32) : Vec F S8x8x1024 .f32 :=
  VecWindow.put x (offS i n l) S1x8x128.size (shapeCast S1x8x128 y shapeCasts_S8x128_S1x8x128)

/-- The running maximum after a block. -/
def blkM (m : FVec F S8x128 .f32) (x : Fin 12 → FVec F S8x128 .f32) : FVec F S8x128 .f32 :=
  newM m (x 0) (x 1) (x 2) (x 3) (x 4) (x 5) (x 6) (x 7) (x 8) (x 9) (x 10) (x 11)

/-- The running sum after a block. -/
def blkS (s m : FVec F S8x128 .f32) (x : Fin 12 → FVec F S8x128 .f32) : FVec F S8x128 .f32 :=
  newS s m (blkM m x) (x 0) (x 1) (x 2) (x 3) (x 4) (x 5) (x 6) (x 7) (x 8) (x 9) (x 10) (x 11)

/-- One block. -/
def blkStep (i : grid0.Coords) (d : Fin 4) (raw : FVec F S384x512 .f32) (hs : Vec F S1x1024 .f32) (b : Vec F S768x128 .f32) (a : Acc F) (p : Fin 4 × Fin 4) : Acc F :=
  (blkPut i (subOf d p.1) (laneOf d p.2) a.1 (blkM (blkOf i (subOf d p.1) (laneOf d p.2) a.1) (blkX d raw hs b p.1 p.2)),
   blkPut i (subOf d p.1) (laneOf d p.2) a.2 (blkS (blkOf i (subOf d p.1) (laneOf d p.2) a.2) (blkOf i (subOf d p.1) (laneOf d p.2) a.1) (blkX d raw hs b p.1 p.2)))

/-- The products of dot `d`. -/
def rawOf (d : Fin 4) (w : Vec F S768x2048 .fp8e4m3) (h : Vec F S1024x2048 .fp8e4m3) : FVec F S384x512 .f32 :=
  rawVal (VecWindow.window w ![384 * (d.val / 2), 0] S384x2048.size (inbW d)) (VecWindow.window h ![512 * (d.val % 2), 0] S512x2048.size (inbH d))

/-- One dot and its blocks. -/
def dotStep (i : grid0.Coords) (w : Vec F S768x2048 .fp8e4m3) (h : Vec F S1024x2048 .fp8e4m3) (hs : Vec F S1x1024 .f32) (b : Vec F S768x128 .f32) (a : Acc F) (d : Fin 4) : Acc F :=
  blkPairs.foldl (blkStep i d (rawOf d w h) hs b) a

/-- The four dots. -/
def dotsStep (i : grid0.Coords) (w : Vec F S768x2048 .fp8e4m3) (h : Vec F S1024x2048 .fp8e4m3) (hs : Vec F S1x1024 .f32) (b : Vec F S768x128 .f32) (a : Acc F) : Acc F :=
  ([0, 1, 2, 3] : List (Fin 4)).foldl (dotStep i w h hs b) a

/-- The row scales spread over the lanes, written over `b`. -/
def wsAll (ws : Vec F S1x8x96 .f32) (b : Vec F S768x128 .f32) : Vec F S768x128 .f32 :=
  (List.finRange 96).foldl (fun b k => VecWindow.put b ![8 * k.val, 0] S8x128.size
    (wsVal (shapeCast S8x96 (VecWindow.window ws ![0, 0, 0] S1x8x96.size inb_S1x8x96_S1x8x96_0_0_0) shapeCasts_S1x8x96_S8x96) k)) b

/-- A shard of an accumulator. -/
def shardOf (g : Fin 8) (x : Vec F S8x8x1024 .f32) : FVec F S8x1024 .f32 :=
  shapeCast S8x1024 (VecWindow.window x ![g.val, 0, 0] S1x8x1024.size (inbG3 g)) shapeCasts_S1x8x1024_S8x1024

/-- One shard's results. -/
def finStep (a : Acc F) (o : Vec F S8x1024 .f32 × Vec F S8x1024 .f32) (g : Fin 8) : Vec F S8x1024 .f32 × Vec F S8x1024 .f32 :=
  (VecWindow.put o.1 ![g.val, 0] S1x1024.size (topVal (shardOf g a.1)),
   VecWindow.put o.2 ![g.val, 0] S1x1024.size (sumVal (shardOf g a.1) (shardOf g a.2)))

/-- All shards' results. -/
def finAll (a : Acc F) (o : Vec F S8x1024 .f32 × Vec F S8x1024 .f32) : Vec F S8x1024 .f32 × Vec F S8x1024 .f32 :=
  ([0, 1, 2, 3, 4, 5, 6, 7] : List (Fin 8)).foldl (finStep a) o

/-- Weakest preconditions of a part of the body on core `c`. -/
abbrev bwp (c : Dev nD) (E : Set ℕ) (Q : PUnit.{1} → sProp (MT nD τ sig Unit (Elt F) ℕ (UR sig nD τ) ℕ)) (p : BodyProg F) : sProp (MT nD τ sig Unit (Elt F) ℕ (UR sig nD τ) ℕ) :=
  wp frame (wpE (defs₀ (F := F)) Variants.none (c : Thread nD τ) none) E p Q

variable (c : Dev nD) (E : Set ℕ) (Q : PUnit.{1} → sProp (MT nD τ sig Unit (Elt F) ℕ (UR sig nD τ) ℕ))
variable (i : grid0.Coords) (arg2 : Memref sig .tc .vmem S768x2048 .fp8e4m3) (arg3 : Memref sig .tc .vmem S1x8x96 .f32)
  (arg4 : Memref sig .tc .vmem S1024x2048 .fp8e4m3) (arg5 : Memref sig .tc .vmem S1x1024 .f32)
  (arg6 arg7 : Memref sig .tc .vmem S8x1024 .f32) (arg8 arg9 : Memref sig .tc .vmem S8x8x1024 .f32)
  (arg10 : Memref sig .tc .vmem S768x128 .f32)

theorem initK_wp (a : Acc F) (K : BodyProg F) :
    iprop(owns (c : Thread nD τ) arg8 fullShare a.1 ∗ owns (c : Thread nD τ) arg9 fullShare a.2)
      ⊢ iprop((owns (c : Thread nD τ) arg8 fullShare (acc0 (F := F)).1 ∗ owns (c : Thread nD τ) arg9 fullShare (acc0 (F := F)).2 -∗ bwp (F := F) c E Q K)
        -∗ bwp (F := F) c E Q (initK arg8 arg9 K)) := by
  iintro ⟨H8, H9⟩ HK
  unfold initK
  iapply (wp_ld Variants.none (c : Thread nD τ) none E (m := arg8)) $$ H8
  iintro H8
  iapply (wp_st Variants.none (c : Thread nD τ) none E (m := arg8)) $$ H8
  iintro H8
  iapply (wp_ld Variants.none (c : Thread nD τ) none E (m := arg9)) $$ H9
  iintro H9
  iapply (wp_st Variants.none (c : Thread nD τ) none E (m := arg9)) $$ H9
  iintro H9
  iapply HK
  rw [put_full _ _ (by decide), put_full _ _ (by decide)]
  isplitl [H8]
  · iexact H8
  · iexact H9

theorem ldWsK_wp (b : Vec F S768x128 .f32) (k : Fin 96) (K : Vec F S8x128 .f32 → BodyProg F) :
    owns (c : Thread nD τ) arg10 fullShare b
      ⊢ iprop((owns (c : Thread nD τ) arg10 fullShare b -∗ bwp (F := F) c E Q (K (VecWindow.window b ![8 * k.val, 0] S8x128.size (inbWs k))))
        -∗ bwp (F := F) c E Q (ldWsK arg10 k K)) :=
  wp_ld Variants.none (c : Thread nD τ) none E (m := arg10)

set_option maxHeartbeats 1000000 in
theorem blkK_wp (d : Fin 4) (raw : FVec F S384x512 .f32) (hs : Vec F S1x1024 .f32) (b : Vec F S768x128 .f32) (a : Acc F) (p : Fin 4 × Fin 4) (K : BodyProg F) :
    iprop(owns (c : Thread nD τ) arg5 fullShare hs ∗ owns (c : Thread nD τ) arg8 fullShare a.1 ∗ owns (c : Thread nD τ) arg9 fullShare a.2 ∗ owns (c : Thread nD τ) arg10 fullShare b)
      ⊢ iprop((owns (c : Thread nD τ) arg5 fullShare hs ∗ owns (c : Thread nD τ) arg8 fullShare (blkStep i d raw hs b a p).1 ∗ owns (c : Thread nD τ) arg9 fullShare (blkStep i d raw hs b a p).2 ∗ owns (c : Thread nD τ) arg10 fullShare b
          -∗ bwp (F := F) c E Q K)
        -∗ bwp (F := F) c E Q (blkK i arg5 arg8 arg9 arg10 d raw p.1 p.2 K)) := by
  iintro ⟨H5, H8, H9, H10⟩ HK
  unfold blkK
  iapply (wp_ld Variants.none (c : Thread nD τ) none E (m := arg5)) $$ H5
  iintro H5
  iapply (ldWsK_wp c E Q arg10 b (rowG d p.1 0)) $$ H10; iintro H10
  iapply (ldWsK_wp c E Q arg10 b (rowG d p.1 1)) $$ H10; iintro H10
  iapply (ldWsK_wp c E Q arg10 b (rowG d p.1 2)) $$ H10; iintro H10
  iapply (ldWsK_wp c E Q arg10 b (rowG d p.1 3)) $$ H10; iintro H10
  iapply (ldWsK_wp c E Q arg10 b (rowG d p.1 4)) $$ H10; iintro H10
  iapply (ldWsK_wp c E Q arg10 b (rowG d p.1 5)) $$ H10; iintro H10
  iapply (ldWsK_wp c E Q arg10 b (rowG d p.1 6)) $$ H10; iintro H10
  iapply (ldWsK_wp c E Q arg10 b (rowG d p.1 7)) $$ H10; iintro H10
  iapply (ldWsK_wp c E Q arg10 b (rowG d p.1 8)) $$ H10; iintro H10
  iapply (ldWsK_wp c E Q arg10 b (rowG d p.1 9)) $$ H10; iintro H10
  iapply (ldWsK_wp c E Q arg10 b (rowG d p.1 10)) $$ H10; iintro H10
  iapply (ldWsK_wp c E Q arg10 b (rowG d p.1 11)) $$ H10; iintro H10
  iapply (wp_ld Variants.none (c : Thread nD τ) none E (m := arg8)) $$ H8
  iintro H8
  iapply (wp_ld Variants.none (c : Thread nD τ) none E (m := arg9)) $$ H9
  iintro H9
  iapply (wp_ld Variants.none (c : Thread nD τ) none E (m := arg9)) $$ H9
  iintro H9
  iapply (wp_st Variants.none (c : Thread nD τ) none E (m := arg9)) $$ H9
  iintro H9
  iapply (wp_ld Variants.none (c : Thread nD τ) none E (m := arg8)) $$ H8
  iintro H8
  iapply (wp_st Variants.none (c : Thread nD τ) none E (m := arg8)) $$ H8
  iintro H8
  iapply HK
  isplitl [H5]; · iexact H5
  isplitl [H8]; · iexact H8
  isplitl [H9]; · iexact H9
  iexact H10

theorem blks_wp (d : Fin 4) (raw : FVec F S384x512 .f32) (hs : Vec F S1x1024 .f32) (b : Vec F S768x128 .f32) (K : BodyProg F) (ps : List (Fin 4 × Fin 4)) (a : Acc F) :
    iprop(owns (c : Thread nD τ) arg5 fullShare hs ∗ owns (c : Thread nD τ) arg8 fullShare a.1 ∗ owns (c : Thread nD τ) arg9 fullShare a.2 ∗ owns (c : Thread nD τ) arg10 fullShare b)
      ⊢ iprop((owns (c : Thread nD τ) arg5 fullShare hs ∗ owns (c : Thread nD τ) arg8 fullShare (ps.foldl (blkStep i d raw hs b) a).1 ∗ owns (c : Thread nD τ) arg9 fullShare (ps.foldl (blkStep i d raw hs b) a).2 ∗ owns (c : Thread nD τ) arg10 fullShare b
          -∗ bwp (F := F) c E Q K)
        -∗ bwp (F := F) c E Q (ps.foldr (fun p (K : BodyProg F) => blkK i arg5 arg8 arg9 arg10 d raw p.1 p.2 K) K)) := by
  induction ps generalizing a with
  | nil => iintro H HK; iapply HK; iexact H
  | cons p ps ih =>
    iintro H HK
    rw [List.foldr_cons, List.foldl_cons]
    iapply (blkK_wp c E Q i arg5 arg8 arg9 arg10 d raw hs b a p) $$ H
    iintro H
    iapply (ih (blkStep i d raw hs b a p)) $$ H
    iexact HK

theorem dots_wp (w : Vec F S768x2048 .fp8e4m3) (h : Vec F S1024x2048 .fp8e4m3) (hs : Vec F S1x1024 .f32) (b : Vec F S768x128 .f32) (K : BodyProg F) (ds : List (Fin 4)) (a : Acc F) :
    iprop(owns (c : Thread nD τ) arg2 fullShare w ∗ owns (c : Thread nD τ) arg4 fullShare h ∗ owns (c : Thread nD τ) arg5 fullShare hs ∗ owns (c : Thread nD τ) arg8 fullShare a.1 ∗ owns (c : Thread nD τ) arg9 fullShare a.2 ∗ owns (c : Thread nD τ) arg10 fullShare b)
      ⊢ iprop((owns (c : Thread nD τ) arg2 fullShare w ∗ owns (c : Thread nD τ) arg4 fullShare h ∗ owns (c : Thread nD τ) arg5 fullShare hs ∗ owns (c : Thread nD τ) arg8 fullShare (ds.foldl (dotStep i w h hs b) a).1 ∗ owns (c : Thread nD τ) arg9 fullShare (ds.foldl (dotStep i w h hs b) a).2 ∗ owns (c : Thread nD τ) arg10 fullShare b
          -∗ bwp (F := F) c E Q K)
        -∗ bwp (F := F) c E Q (ds.foldr (fun d (K : BodyProg F) => dotK i arg2 arg4 arg5 arg8 arg9 arg10 d K) K)) := by
  induction ds generalizing a with
  | nil => iintro H HK; iapply HK; iexact H
  | cons d ds ih =>
    iintro ⟨H2, H4, H⟩ HK
    rw [List.foldr_cons, List.foldl_cons]
    unfold dotK
    iapply (wp_ld Variants.none (c : Thread nD τ) none E (m := arg2)) $$ H2
    iintro H2
    iapply (wp_ld Variants.none (c : Thread nD τ) none E (m := arg4)) $$ H4
    iintro H4
    iapply (blks_wp c E Q i arg5 arg8 arg9 arg10 d (rawOf d w h) hs b _ blkPairs a) $$ H
    iintro H
    iapply (ih (dotStep i w h hs b a d)) $$ [H2 H4 H]
    · isplitl [H2]; · iexact H2
      isplitl [H4]; · iexact H4
      iexact H
    iexact HK

theorem wss_wp (v4 : FVec F S8x96 .f32) (K : BodyProg F) (ks : List (Fin 96)) (b : Vec F S768x128 .f32) :
    owns (c : Thread nD τ) arg10 fullShare b
      ⊢ iprop((owns (c : Thread nD τ) arg10 fullShare (ks.foldl (fun b k => VecWindow.put b ![8 * k.val, 0] S8x128.size (wsVal v4 k)) b) -∗ bwp (F := F) c E Q K)
        -∗ bwp (F := F) c E Q (ks.foldr (fun k (K : BodyProg F) => wsK arg10 v4 k K) K)) := by
  induction ks generalizing b with
  | nil => iintro H HK; iapply HK; iexact H
  | cons k ks ih =>
    iintro H HK
    rw [List.foldr_cons, List.foldl_cons]
    unfold wsK
    iapply (wp_ld Variants.none (c : Thread nD τ) none E (m := arg10)) $$ H
    iintro H
    iapply (wp_st Variants.none (c : Thread nD τ) none E (m := arg10)) $$ H
    iintro H
    iapply (ih _) $$ H
    iexact HK

theorem fins_wp (a : Acc F) (K : BodyProg F) (gs : List (Fin 8)) (o : Vec F S8x1024 .f32 × Vec F S8x1024 .f32) :
    iprop(owns (c : Thread nD τ) arg6 fullShare o.1 ∗ owns (c : Thread nD τ) arg7 fullShare o.2 ∗ owns (c : Thread nD τ) arg8 fullShare a.1 ∗ owns (c : Thread nD τ) arg9 fullShare a.2)
      ⊢ iprop((owns (c : Thread nD τ) arg6 fullShare (gs.foldl (finStep a) o).1 ∗ owns (c : Thread nD τ) arg7 fullShare (gs.foldl (finStep a) o).2 ∗ owns (c : Thread nD τ) arg8 fullShare a.1 ∗ owns (c : Thread nD τ) arg9 fullShare a.2 -∗ bwp (F := F) c E Q K)
        -∗ bwp (F := F) c E Q (gs.foldr (fun g (K : BodyProg F) => finK arg6 arg7 arg8 arg9 g K) K)) := by
  induction gs generalizing o with
  | nil => iintro H HK; iapply HK; iexact H
  | cons g gs ih =>
    iintro ⟨H6, H7, H8, H9⟩ HK
    rw [List.foldr_cons, List.foldl_cons]
    unfold finK
    iapply (wp_ld Variants.none (c : Thread nD τ) none E (m := arg8)) $$ H8
    iintro H8
    iapply (wp_ld Variants.none (c : Thread nD τ) none E (m := arg6)) $$ H6
    iintro H6
    iapply (wp_st Variants.none (c : Thread nD τ) none E (m := arg6)) $$ H6
    iintro H6
    iapply (wp_ld Variants.none (c : Thread nD τ) none E (m := arg9)) $$ H9
    iintro H9
    iapply (wp_ld Variants.none (c : Thread nD τ) none E (m := arg7)) $$ H7
    iintro H7
    iapply (wp_st Variants.none (c : Thread nD τ) none E (m := arg7)) $$ H7
    iintro H7
    iapply (ih (finStep a o g)) $$ [H6 H7 H8 H9]
    · isplitl [H6]; · iexact H6
      isplitl [H7]; · iexact H7
      isplitl [H8]; · iexact H8
      iexact H9
    iexact HK

end Cert.Kernel.Gen

end
-- ==== Proof.Kernel.Body.lean ====
/- One run of the body, whole: what it leaves in the scratch and in the results. -/
module

public import proofs.«01_k».proof.Proof.Kernel.Run

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.VecRules

variable {F : FTy → Type} [FloatOps F]

/-- The row scales spread over the lanes: the 96 groups of eight rows cover the scratch. -/
theorem wsAll_apply (ws : Vec F S1x8x96 .f32) (b : Vec F S768x128 .f32) (y : S768x128.Idx) (k : Fin 96)
    (hy : ∀ a, (![8 * k.val, 0] : Fin 2 → ℕ) a ≤ (y a).val ∧ (y a).val < (![8 * k.val, 0] : Fin 2 → ℕ) a + S8x128.size a) :
    wsAll ws b y = wsVal (shapeCast S8x96 (VecWindow.window ws ![0, 0, 0] S1x8x96.size inb_S1x8x96_S1x8x96_0_0_0) shapeCasts_S1x8x96_S8x96) k (Rect.unitLocal (s := S768x128) y hy) :=
  foldl_put_hit (s := S768x128) (List.finRange 96) (fun k => ![8 * k.val, 0]) S8x128.size _ b y k (List.mem_finRange k) hy fun k' _ h' => by
    have h0 : 8 * k.val ≤ (y 0).val ∧ (y 0).val < 8 * k.val + 8 := hy 0
    have h1 : 8 * k'.val ≤ (y 0).val ∧ (y 0).val < 8 * k'.val + 8 := h' 0
    exact Fin.ext (by omega)

/-- What the scratch held before does not enter. -/
theorem wsAll_eq (ws : Vec F S1x8x96 .f32) (b b' : Vec F S768x128 .f32) : wsAll ws b = wsAll ws b' := by
  funext y
  have h0 : (y 0).val < 768 := (y 0).isLt
  have h1 : (y 1).val < 128 := (y 1).isLt
  have hy : ∀ a, (![8 * ((y 0).val / 8), 0] : Fin 2 → ℕ) a ≤ (y a).val ∧ (y a).val < (![8 * ((y 0).val / 8), 0] : Fin 2 → ℕ) a + S8x128.size a := by
    intro a
    match a with
    | ⟨0, _⟩ => show 8 * ((y 0).val / 8) ≤ (y 0).val ∧ (y 0).val < 8 * ((y 0).val / 8) + 8; omega
    | ⟨1, _⟩ => show 0 ≤ (y 1).val ∧ (y 1).val < 0 + 128; omega
  exact (wsAll_apply ws b y ⟨(y 0).val / 8, by omega⟩ hy).trans (wsAll_apply ws b' y ⟨(y 0).val / 8, by omega⟩ hy).symm

/-- The spread row scales. -/
def wsFull (ws : Vec F S1x8x96 .f32) : Vec F S768x128 .f32 := wsAll ws (broadcast S768x128 (Scalar.ofBits (F := F) .f32 0x00000000#32))

theorem foldl_fst_eq (a : Acc F) (gs : List (Fin 8)) (o : Vec F S8x1024 .f32 × Vec F S8x1024 .f32) :
    (gs.foldl (finStep a) o).1 = gs.foldl (fun b g => VecWindow.put (s := S8x1024) b ![g.val, 0] S1x1024.size (topVal (shardOf g a.1))) o.1 := by
  induction gs generalizing o with
  | nil => rfl
  | cons g gs ih => rw [List.foldl_cons, List.foldl_cons, ih]; rfl

theorem foldl_snd_eq (a : Acc F) (gs : List (Fin 8)) (o : Vec F S8x1024 .f32 × Vec F S8x1024 .f32) :
    (gs.foldl (finStep a) o).2 = gs.foldl (fun b g => VecWindow.put (s := S8x1024) b ![g.val, 0] S1x1024.size (sumVal (shardOf g a.1) (shardOf g a.2))) o.2 := by
  induction gs generalizing o with
  | nil => rfl
  | cons g gs ih => rw [List.foldl_cons, List.foldl_cons, ih]; rfl

theorem mem_shards (g : Fin 8) : g ∈ ([0, 1, 2, 3, 4, 5, 6, 7] : List (Fin 8)) := by revert g; decide

theorem row_inside (y : S8x1024.Idx) : ∀ a, (![(y 0).val, 0] : Fin 2 → ℕ) a ≤ (y a).val ∧ (y a).val < (![(y 0).val, 0] : Fin 2 → ℕ) a + S1x1024.size a := by
  have h1 : (y 1).val < 1024 := (y 1).isLt
  intro a
  match a with
  | ⟨0, _⟩ => show (y 0).val ≤ (y 0).val ∧ (y 0).val < (y 0).val + 1; omega
  | ⟨1, _⟩ => show 0 ≤ (y 1).val ∧ (y 1).val < 0 + 1024; omega

/-- The results, row by row: the eight rows cover each of them. -/
theorem finAll_fst (a : Acc F) (o : Vec F S8x1024 .f32 × Vec F S8x1024 .f32) (y : S8x1024.Idx) :
    (finAll a o).1 y = topVal (shardOf (y 0) a.1) (Rect.unitLocal (s := S8x1024) y (row_inside y)) := by
  unfold finAll
  rw [foldl_fst_eq]
  exact foldl_put_hit (s := S8x1024) _ (fun g : Fin 8 => ![g.val, 0]) S1x1024.size _ o.1 y (y 0) (mem_shards _) (row_inside y) fun g _ h => by
    have h0 : g.val ≤ (y 0).val ∧ (y 0).val < g.val + 1 := h 0
    exact Fin.ext (by omega)

theorem finAll_snd (a : Acc F) (o : Vec F S8x1024 .f32 × Vec F S8x1024 .f32) (y : S8x1024.Idx) :
    (finAll a o).2 y = sumVal (shardOf (y 0) a.1) (shardOf (y 0) a.2) (Rect.unitLocal (s := S8x1024) y (row_inside y)) := by
  unfold finAll
  rw [foldl_snd_eq]
  exact foldl_put_hit (s := S8x1024) _ (fun g : Fin 8 => ![g.val, 0]) S1x1024.size _ o.2 y (y 0) (mem_shards _) (row_inside y) fun g _ h => by
    have h0 : g.val ≤ (y 0).val ∧ (y 0).val < g.val + 1 := h 0
    exact Fin.ext (by omega)

/-- The results after a token block's last chunk. -/
def finFull (a : Acc F) : Vec F S8x1024 .f32 × Vec F S8x1024 .f32 :=
  finAll a (broadcast S8x1024 (Scalar.ofBits (F := F) .f32 0x00000000#32), broadcast S8x1024 (Scalar.ofBits (F := F) .f32 0x00000000#32))

theorem finAll_eq (a : Acc F) (o : Vec F S8x1024 .f32 × Vec F S8x1024 .f32) : finAll a o = finFull a :=
  Prod.ext (funext fun y => (finAll_fst a o y).trans (finAll_fst a _ y).symm) (funext fun y => (finAll_snd a o y).trans (finAll_snd a _ y).symm)

/-- One chunk. -/
def chunkStep (i : grid0.Coords) (w : Vec F S768x2048 .fp8e4m3) (ws : Vec F S1x8x96 .f32) (h : Vec F S1024x2048 .fp8e4m3) (hs : Vec F S1x1024 .f32) (a : Acc F) : Acc F :=
  dotsStep i w h hs (wsFull ws) a

variable (c : Dev nD) (E : Set ℕ) (Q : PUnit.{1} → sProp (MT nD τ sig Unit (Elt F) ℕ (UR sig nD τ) ℕ))
variable (i : grid0.Coords) (arg2 : Memref sig .tc .vmem S768x2048 .fp8e4m3) (arg3 : Memref sig .tc .vmem S1x8x96 .f32)
  (arg4 : Memref sig .tc .vmem S1024x2048 .fp8e4m3) (arg5 : Memref sig .tc .vmem S1x1024 .f32)
  (arg6 arg7 : Memref sig .tc .vmem S8x1024 .f32) (arg8 arg9 : Memref sig .tc .vmem S8x8x1024 .f32)
  (arg10 : Memref sig .tc .vmem S768x128 .f32)
variable (w : Vec F S768x2048 .fp8e4m3) (ws : Vec F S1x8x96 .f32) (h : Vec F S1024x2048 .fp8e4m3) (hs : Vec F S1x1024 .f32)
  (a : Acc F) (b : Vec F S768x128 .f32)

/-- The inputs, the two accumulators and the spread row scales, owned. -/
abbrev held (a : Acc F) (b : Vec F S768x128 .f32) : sProp (MT nD τ sig Unit (Elt F) ℕ (UR sig nD τ) ℕ) :=
  iprop(owns (c : Thread nD τ) arg2 fullShare w ∗ owns (c : Thread nD τ) arg3 fullShare ws ∗ owns (c : Thread nD τ) arg4 fullShare h
    ∗ owns (c : Thread nD τ) arg5 fullShare hs ∗ owns (c : Thread nD τ) arg8 fullShare a.1 ∗ owns (c : Thread nD τ) arg9 fullShare a.2
    ∗ owns (c : Thread nD τ) arg10 fullShare b)

/-- The spread of the row scales, -/
theorem wsAllK_wp (K : BodyProg F) :
    owns (c : Thread nD τ) arg10 fullShare b
      ⊢ iprop((owns (c : Thread nD τ) arg10 fullShare (wsFull ws) -∗ bwp (F := F) c E Q K)
        -∗ bwp (F := F) c E Q (wsAllK arg10 (shapeCast S8x96 (VecWindow.window ws ![0, 0, 0] S1x8x96.size inb_S1x8x96_S1x8x96_0_0_0) shapeCasts_S1x8x96_S8x96) K)) := by
  rw [show wsFull ws = wsAll ws b from wsAll_eq ws _ b]
  exact wss_wp c E Q arg10 _ K (List.finRange 96) b

/-- the four dots with their blocks, -/
theorem dotsK_wp (K : BodyProg F) :
    iprop(owns (c : Thread nD τ) arg2 fullShare w ∗ owns (c : Thread nD τ) arg4 fullShare h ∗ owns (c : Thread nD τ) arg5 fullShare hs ∗ owns (c : Thread nD τ) arg8 fullShare a.1 ∗ owns (c : Thread nD τ) arg9 fullShare a.2 ∗ owns (c : Thread nD τ) arg10 fullShare (wsFull ws))
      ⊢ iprop((owns (c : Thread nD τ) arg2 fullShare w ∗ owns (c : Thread nD τ) arg4 fullShare h ∗ owns (c : Thread nD τ) arg5 fullShare hs ∗ owns (c : Thread nD τ) arg8 fullShare (chunkStep i w ws h hs a).1 ∗ owns (c : Thread nD τ) arg9 fullShare (chunkStep i w ws h hs a).2 ∗ owns (c : Thread nD τ) arg10 fullShare (wsFull ws)
          -∗ bwp (F := F) c E Q K)
        -∗ bwp (F := F) c E Q (dotsK i arg2 arg4 arg5 arg8 arg9 arg10 K)) := by
  unfold dotsK chunkStep dotsStep
  generalize wsFull ws = b
  generalize ([0, 1, 2, 3] : List (Fin 4)) = ds
  exact dots_wp c E Q i arg2 arg4 arg5 arg8 arg9 arg10 w h hs b K ds a

/-- the results, -/
theorem finAllK_wp (o : Vec F S8x1024 .f32 × Vec F S8x1024 .f32) (K : BodyProg F) :
    iprop(owns (c : Thread nD τ) arg6 fullShare o.1 ∗ owns (c : Thread nD τ) arg7 fullShare o.2 ∗ owns (c : Thread nD τ) arg8 fullShare a.1 ∗ owns (c : Thread nD τ) arg9 fullShare a.2)
      ⊢ iprop((owns (c : Thread nD τ) arg6 fullShare (finFull a).1 ∗ owns (c : Thread nD τ) arg7 fullShare (finFull a).2 ∗ owns (c : Thread nD τ) arg8 fullShare a.1 ∗ owns (c : Thread nD τ) arg9 fullShare a.2 -∗ bwp (F := F) c E Q K)
        -∗ bwp (F := F) c E Q (finAllK arg6 arg7 arg8 arg9 K)) := by
  rw [← finAll_eq a o]
  exact fins_wp c E Q arg6 arg7 arg8 arg9 a K [0, 1, 2, 3, 4, 5, 6, 7] o

/-- and the end. -/
theorem ret_wp : Q ⟨⟩ ⊢ bwp (F := F) c E Q (.ret ⟨⟩) := by
  rw [bwp, wp_ret]
  exact fupd_intro

/-- A chunk that is not a token block's last. -/
theorem mainK_wp_mid (hc : ¬ k0_cond2 i = 1#1) :
    held c arg2 arg3 arg4 arg5 arg8 arg9 arg10 w ws h hs a b
      ⊢ iprop((held c arg2 arg3 arg4 arg5 arg8 arg9 arg10 w ws h hs (chunkStep i w ws h hs a) (wsFull ws) -∗ Q ⟨⟩)
        -∗ bwp (F := F) c E Q (mainK i arg2 arg3 arg4 arg5 arg6 arg7 arg8 arg9 arg10)) := by
  iintro ⟨H2, H3, H4, H5, H8, H9, H10⟩ HK
  unfold mainK
  iapply (wp_ld Variants.none (c : Thread nD τ) none E (m := arg3)) $$ H3
  iintro H3
  iapply (wsAllK_wp c E Q arg10 ws b) $$ H10
  iintro H10
  iapply (dotsK_wp c E Q i arg2 arg4 arg5 arg8 arg9 arg10 w ws h hs a) $$ [H2 H4 H5 H8 H9 H10]
  · isplitl [H2]; · iexact H2
    isplitl [H4]; · iexact H4
    isplitl [H5]; · iexact H5
    isplitl [H8]; · iexact H8
    isplitl [H9]; · iexact H9
    iexact H10
  iintro ⟨H2, H4, H5, H8, H9, H10⟩
  rw [dif_neg hc]
  iapply (ret_wp c E Q)
  iapply HK
  isplitl [H2]; · iexact H2
  isplitl [H3]; · iexact H3
  isplitl [H4]; · iexact H4
  isplitl [H5]; · iexact H5
  isplitl [H8]; · iexact H8
  isplitl [H9]; · iexact H9
  iexact H10

/-- A token block's last chunk. -/
theorem mainK_wp_last (hc : k0_cond2 i = 1#1) (o : Vec F S8x1024 .f32 × Vec F S8x1024 .f32) :
    iprop(held c arg2 arg3 arg4 arg5 arg8 arg9 arg10 w ws h hs a b ∗ owns (c : Thread nD τ) arg6 fullShare o.1 ∗ owns (c : Thread nD τ) arg7 fullShare o.2)
      ⊢ iprop((held c arg2 arg3 arg4 arg5 arg8 arg9 arg10 w ws h hs (chunkStep i w ws h hs a) (wsFull ws)
            ∗ owns (c : Thread nD τ) arg6 fullShare (finFull (chunkStep i w ws h hs a)).1 ∗ owns (c : Thread nD τ) arg7 fullShare (finFull (chunkStep i w ws h hs a)).2 -∗ Q ⟨⟩)
        -∗ bwp (F := F) c E Q (mainK i arg2 arg3 arg4 arg5 arg6 arg7 arg8 arg9 arg10)) := by
  iintro ⟨⟨H2, H3, H4, H5, H8, H9, H10⟩, H6, H7⟩ HK
  unfold mainK
  iapply (wp_ld Variants.none (c : Thread nD τ) none E (m := arg3)) $$ H3
  iintro H3
  iapply (wsAllK_wp c E Q arg10 ws b) $$ H10
  iintro H10
  iapply (dotsK_wp c E Q i arg2 arg4 arg5 arg8 arg9 arg10 w ws h hs a) $$ [H2 H4 H5 H8 H9 H10]
  · isplitl [H2]; · iexact H2
    isplitl [H4]; · iexact H4
    isplitl [H5]; · iexact H5
    isplitl [H8]; · iexact H8
    isplitl [H9]; · iexact H9
    iexact H10
  iintro ⟨H2, H4, H5, H8, H9, H10⟩
  rw [dif_pos hc]
  iapply (finAllK_wp c E Q arg6 arg7 arg8 arg9 (chunkStep i w ws h hs a) o) $$ [H6 H7 H8 H9]
  · isplitl [H6]; · iexact H6
    isplitl [H7]; · iexact H7
    isplitl [H8]; · iexact H8
    iexact H9
  iintro ⟨H6, H7, H8, H9⟩
  iapply (ret_wp c E Q)
  iapply HK
  isplitl [H2 H3 H4 H5 H8 H9 H10]
  · isplitl [H2]; · iexact H2
    isplitl [H3]; · iexact H3
    isplitl [H4]; · iexact H4
    isplitl [H5]; · iexact H5
    isplitl [H8]; · iexact H8
    isplitl [H9]; · iexact H9
    iexact H10
  isplitl [H6]; · iexact H6
  iexact H7

end Cert.Kernel.Gen

end
-- ==== Proof.Kernel.Frame.lean ====
/- The run of the pipeline: what the scratch holds after every point, what is written back, and that the arguments end
   unchanged. -/
module

public import proofs.«01_k».proof.Proof.Kernel.Body
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, and where the results' windows are idle -/

theorem lt_2505 (t : Fin cfg0.N) : t.val < 2505 := Nat.lt_of_lt_of_eq t.isLt N_0

theorem coords0 (t : Fin cfg0.N) : (grid0.coords t 0).val = t.val / 167 := by
  have e0 : (grid0.coords t 0).val = t.val / 167 % 15 := Pipeline.Grid.coords_val t 0 (by decide) rfl
  have := lt_2505 t
  omega

theorem coords1 (t : Fin cfg0.N) : (grid0.coords t 1).val = t.val % 167 := by
  have e1 : (grid0.coords t 1).val = t.val / 1 % 167 := Pipeline.Grid.coords_val t 1 (by decide) rfl
  omega

/-- The scratch starts afresh at a token block's first chunk. -/
theorem first_iff (t : Fin cfg0.N) : condFirst (grid0.coords t) ↔ t.val % 167 = 0 := by
  have ht := lt_2505 t
  have e1 := coords1 t
  simp only [condFirst, e1]
  word_cmp

/-- The results are stored at its last. -/
theorem last_iff (t : Fin cfg0.N) : k0_cond2 (grid0.coords t) = 1#1 ↔ t.val % 167 = 166 := by
  have ht := lt_2505 t
  have e1 := coords1 t
  simp only [k0_cond2, e1]
  word_cmp

theorem idle4 (t : Fin cfg0.N) (h : ¬ t.val % 167 = 166) : cfg0.idle 4 (grid0.coords t) = true := by
  show (!(k0_cond2 (grid0.coords t) == 1#1)) = true
  have h' : ¬ k0_cond2 (grid0.coords t) = 1#1 := fun e => h ((last_iff t).mp e)
  simpa using h'

theorem idle5 (t : Fin cfg0.N) (h : ¬ t.val % 167 = 166) : cfg0.idle 5 (grid0.coords t) = true := by
  show (!(k0_cond2 (grid0.coords t) == 1#1)) = true
  have h' : ¬ k0_cond2 (grid0.coords t) = 1#1 := fun e => h ((last_iff t).mp e)
  simpa using h'

theorem live4 (t : Fin cfg0.N) (h : t.val % 167 = 166) : cfg0.idle 4 (grid0.coords t) = false := by
  show (!(k0_cond2 (grid0.coords t) == 1#1)) = false
  have h' : k0_cond2 (grid0.coords t) = 1#1 := (last_iff t).mpr h
  simpa using h'

theorem live5 (t : Fin cfg0.N) (h : t.val % 167 = 166) : cfg0.idle 5 (grid0.coords t) = false := by
  show (!(k0_cond2 (grid0.coords t) == 1#1)) = false
  have h' : k0_cond2 (grid0.coords t) = 1#1 := (last_iff t).mpr h
  simpa using h'

theorem noFlush4 (t : Fin cfg0.N) (h : ¬ t.val % 167 = 166) : (cfg0.win 4).flush t = false :=
  Bool.eq_false_iff.mpr fun e => h ((flush0_4 t).mp e)

theorem noFlush5 (t : Fin cfg0.N) (h : ¬ t.val % 167 = 166) : (cfg0.win 5).flush t = false :=
  Bool.eq_false_iff.mpr fun e => h ((flush0_5 t).mp e)

/-! ## The memrefs of a point -/

abbrev ms0 (t : Fin cfg0.N) : Memref sig .tc .vmem S768x2048 .fp8e4m3 := win0_0.stage (cfg0.slots t 0)
abbrev ms1 (t : Fin cfg0.N) : Memref sig .tc .vmem S1x8x96 .f32 := win0_1.stage (cfg0.slots t 1)
abbrev ms2 (t : Fin cfg0.N) : Memref sig .tc .vmem S1024x2048 .fp8e4m3 := win0_2.stage (cfg0.slots t 2)
abbrev ms3 (t : Fin cfg0.N) : Memref sig .tc .vmem S1x1024 .f32 := win0_3.stage (cfg0.slots t 3)
abbrev ms4 (t : Fin cfg0.N) : Memref sig .tc .vmem S8x1024 .f32 := win0_4.stage (cfg0.slots t 4)
abbrev ms5 (t : Fin cfg0.N) : Memref sig .tc .vmem S8x1024 .f32 := win0_5.stage (cfg0.slots t 5)
abbrev sc0 : Memref sig .tc .vmem S8x8x1024 .f32 := Memref.whole cc0_scratch0
abbrev sc1 : Memref sig .tc .vmem S8x8x1024 .f32 := Memref.whole cc0_scratch1
abbrev sc2 : Memref sig .tc .vmem S768x128 .f32 := Memref.whole cc0_scratch2

/-! ## What the scratch holds after each point -/

/-- The chunk of point `t`, over accumulators `a`. -/
def stepAt (c : Dev nD) (t : Fin cfg0.N) (a : Acc F) : Acc F :=
  chunkStep (grid0.coords t) (iblk m c 0 t) (iblk m c 1 t) (iblk m c 2 t) (iblk m c 3 t) a

/-- The accumulators after point `n`. -/
def accAt (c : Dev nD) : (n : ℕ) → n < cfg0.N → Acc F
  | 0, hn => stepAt m c ⟨0, hn⟩ acc0
  | n + 1, hn => stepAt m c ⟨n + 1, hn⟩ (if (n + 1) % 167 = 0 then acc0 else accAt c n (Nat.lt_of_succ_lt hn))

theorem accAt_first (c : Dev nD) (t : Fin cfg0.N) (h : t.val % 167 = 0) : accAt m c t.val t.isLt = stepAt m c t acc0 := by
  obtain ⟨n, hn⟩ := t
  cases n with
  | zero => rfl
  | succ n => exact congrArg (stepAt m c ⟨n + 1, hn⟩) (if_pos h)

theorem accAt_later (c : Dev nD) (t : Fin cfg0.N) (h : ¬ t.val % 167 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n => exact congrArg (stepAt m c ⟨n + 1, hn⟩) (if_neg h)

/-- Before the first point anything; afterwards the accumulators at `accAt`. -/
def PhiS (c : Dev nD) : (n : ℕ) → n ≤ cfg0.N → sProp 𝕄
  | 0, _ => Pipeline.ΦA spec0 c
  | n + 1, hn => iprop(iprop(owns (c : Thread nD τ) sc0 fullShare (accAt m c n hn).1 ∗ owns (c : Thread nD τ) sc1 fullShare (accAt m c n hn).2 ∗ (∃ d, owns (c : Thread nD τ) sc2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (accAt m c n hn).1 ∗ owns (c : Thread nD τ) sc1 fullShare (accAt m c n hn).2 ∗ (∃ d, owns (c : Thread nD τ) sc2 fullShare d)) ∗ (∃ r, prngReg c r)) := rfl

theorem PhiS_pos (c : Dev nD) (n : ℕ) (h : n ≤ cfg0.N) (hz : n ≠ 0) :
    PhiS m c n h = iprop(iprop(owns (c : Thread nD τ) sc0 fullShare (accAt m c (n - 1) (by omega)).1 ∗ owns (c : Thread nD τ) sc1 fullShare (accAt m c (n - 1) (by omega)).2 ∗ (∃ d, owns (c : Thread nD τ) sc2 fullShare d)) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- Before any point the accumulators hold something. -/
theorem PhiS_some (c : Dev nD) (n : ℕ) (h : n ≤ cfg0.N) :
    PhiS m c n h ⊢ iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  by_cases hz : n = 0
  · rw [PhiS_zero m c n h hz, PhiA_eq]
  · rw [PhiS_pos m c n h hz]
    iintro ⟨⟨H0, H1, H2⟩, Hg⟩
    isplitl [H0 H1 H2]
    · isplitl [H0]
      · iexists _; iexact H0
      isplitl [H1]
      · iexists _; iexact H1
      iexact H2
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (finFull (accAt m c t.val t.isLt)).1
    | ⟨5, _⟩ => (finFull (accAt m c t.val t.isLt)).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (finFull (accAt m c t.val t.isLt)).1 := by dsimp only [dats]
theorem after5 (c : Dev nD) (t : Fin cfg0.N) : (dats m 0 c).after 5 t = (finFull (accAt m c t.val t.isLt)).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from rfl, after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from rfl, after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from rfl, after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from rfl, after3]
theorem leaves4 (c : Dev nD) (t : Fin cfg0.N) (h : t.val % 167 = 166) :
    (dats m 0 c).leavesExact 4 t = owns (c : Thread nD τ) (ms4 t) fullShare (finFull (accAt m c t.val t.isLt)).1 := by
  rw [show (dats m 0 c).leavesExact 4 t = owns (c : Thread nD τ) (ms4 t) fullShare ((dats m 0 c).after 4 t) from by
    unfold Dat.leavesExact; rw [live4 t h], after4]
theorem leaves5 (c : Dev nD) (t : Fin cfg0.N) (h : t.val % 167 = 166) :
    (dats m 0 c).leavesExact 5 t = owns (c : Thread nD τ) (ms5 t) fullShare (finFull (accAt m c t.val t.isLt)).2 := by
  rw [show (dats m 0 c).leavesExact 5 t = owns (c : Thread nD τ) (ms5 t) fullShare ((dats m 0 c).after 5 t) from by
    unfold Dat.leavesExact; rw [live5 t h], after5]

/-- The state of the scratch after a point, from the accumulators. -/
theorem phi_succ (c : Dev nD) (t : Fin cfg0.N) :
    (dats m 0 c).Φ t.succ = iprop(iprop(owns (c : Thread nD τ) sc0 fullShare (accAt m c t.val t.isLt).1 ∗ owns (c : Thread nD τ) sc1 fullShare (accAt m c t.val t.isLt).2 ∗ (∃ d, owns (c : Thread nD τ) sc2 fullShare d)) ∗ (∃ r, prngReg c r)) := by
  rw [show (dats m 0 c).Φ t.succ = PhiS m c (t.val + 1) t.isLt from rfl, PhiS_succ]

/-- The body after its first conditional, at any point: from accumulators `a` to the point's step. -/
theorem sound_main (c : Dev nD) (t : Fin cfg0.N) (a : Acc F) (ha : accAt m c t.val t.isLt = stepAt m c t a) :
    iprop((iprop(owns (c : Thread nD τ) sc0 fullShare a.1 ∗ owns (c : Thread nD τ) sc1 fullShare a.2 ∗ (∃ d, owns (c : Thread nD τ) sc2 fullShare d)) ∗ (∃ r, prngReg c r))
      ∗ (dats m 0 c).owesAt () t.castSucc
      ∗ owns (c : Thread nD τ) (ms0 t) fullShare (iblk m c 0 t)
      ∗ owns (c : Thread nD τ) (ms1 t) fullShare (iblk m c 1 t)
      ∗ owns (c : Thread nD τ) (ms2 t) fullShare (iblk m c 2 t)
      ∗ owns (c : Thread nD τ) (ms3 t) fullShare (iblk m c 3 t)
      ∗ (∃ d, owns (c : Thread nD τ) (ms4 t) fullShare ((dats m 0 c).before 4 t d))
      ∗ (∃ d, owns (c : Thread nD τ) (ms5 t) fullShare ((dats m 0 c).before 5 t d)))
    ⊢ bwp (F := F) c Set.univ (fun _ => bodyPost m c t) (mainK (grid0.coords t) (ms0 t) (ms1 t) (ms2 t) (ms3 t) (ms4 t) (ms5 t) sc0 sc1 sc2) := by
  unfold bodyPost
  rw [show (dats m 0 c).owesAt () t.succ = (dats m 0 c).owesAt () t.castSucc from rfl]
  rw [phi_succ, leaves0, leaves1, leaves2, leaves3, ha]
  by_cases h : t.val % 167 = 166
  · rw [leaves4 m c t h, leaves5 m c t h, ha]
    unfold stepAt
    iintro ⟨⟨⟨S0, S1, ⟨%b, S2⟩⟩, Hg⟩, Ho, H0, H1, H2, H3, ⟨%d4, H4⟩, ⟨%d5, H5⟩⟩
    iapply (mainK_wp_last c Set.univ _ (grid0.coords t) (ms0 t) (ms1 t) (ms2 t) (ms3 t) (ms4 t) (ms5 t) sc0 sc1 sc2
      (iblk m c 0 t) (iblk m c 1 t) (iblk m c 2 t) (iblk m c 3 t) a b ((last_iff t).mpr h) ((dats m 0 c).before 4 t d4, (dats m 0 c).before 5 t d5)) $$ [S0 S1 S2 H0 H1 H2 H3 H4 H5]
    · isplitl [S0 S1 S2 H0 H1 H2 H3]
      · isplitl [H0]; · iexact H0
        isplitl [H1]; · iexact H1
        isplitl [H2]; · iexact H2
        isplitl [H3]; · iexact H3
        isplitl [S0]; · iexact S0
        isplitl [S1]; · iexact S1
        iexact S2
      isplitl [H4]; · iexact H4
      iexact H5
    iintro ⟨⟨H0, H1, H2, H3, S0, S1, S2⟩, H4, H5⟩
    isplitl [S0 S1 S2 Hg]
    · isplitl [S0 S1 S2]
      · isplitl [S0]; · iexact S0
        isplitl [S1]; · iexact S1
        iexists _; iexact S2
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 4 t (idle4 t h) (noFlush4 t h), Dat.leavesExact_idle (dats m 0 c) 5 t (idle5 t h) (noFlush5 t h)]
    unfold stepAt
    iintro ⟨⟨⟨S0, S1, ⟨%b, S2⟩⟩, Hg⟩, Ho, H0, H1, H2, H3, ⟨%d4, H4⟩, ⟨%d5, H5⟩⟩
    iapply (mainK_wp_mid c Set.univ _ (grid0.coords t) (ms0 t) (ms1 t) (ms2 t) (ms3 t) (ms4 t) (ms5 t) sc0 sc1 sc2
      (iblk m c 0 t) (iblk m c 1 t) (iblk m c 2 t) (iblk m c 3 t) a b (fun e => h ((last_iff t).mp e))) $$ [S0 S1 S2 H0 H1 H2 H3]
    · isplitl [H0]; · iexact H0
      isplitl [H1]; · iexact H1
      isplitl [H2]; · iexact H2
      isplitl [H3]; · iexact H3
      isplitl [S0]; · iexact S0
      isplitl [S1]; · iexact S1
      iexact S2
    iintro ⟨H0, H1, H2, H3, S0, S1, S2⟩
    isplitl [S0 S1 S2 Hg]
    · isplitl [S0 S1 S2]
      · isplitl [S0]; · iexact S0
        isplitl [S1]; · iexact S1
        iexists _; iexact S2
      iexact Hg
    isplitl [Ho]; · iexact Ho
    isplitl [H0]; · iexact H0
    isplitl [H1]; · iexact H1
    isplitl [H2]; · iexact H2
    isplitl [H3]; · iexact H3
    isplitl [H4]
    · iexists _; iexact H4
    iexists _; iexact H5

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0, before1, before2, before3]
  rw [PhiS_castSucc]
  by_cases h : t.val % 167 = 0
  · rw [body_first (F := F) (h := (first_iff t).mpr h)]
    refine (sep_mono (PhiS_some m c t.val (Nat.le_of_lt t.isLt)) .rfl).trans ?_
    iintro ⟨⟨⟨⟨%m0, S0⟩, ⟨%s0, S1⟩, S2⟩, Hg⟩, Ho, ⟨%d0, H0⟩, ⟨%d1, H1⟩, ⟨%d2, H2⟩, ⟨%d3, H3⟩, H4, H5⟩
    iapply (initK_wp c Set.univ _ sc0 sc1 (m0, s0)) $$ [S0 S1]
    · isplitl [S0]; · iexact S0
      iexact S1
    iintro ⟨S0, S1⟩
    iapply (sound_main m c t acc0 (accAt_first m c t h))
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [body_later (F := F) (h := fun e => h ((first_iff t).mp e))]
    rw [PhiS_pos m c t.val (Nat.le_of_lt t.isLt) (fun e => h (by rw [e]))]
    iintro ⟨HS, Ho, ⟨%d0, H0⟩, ⟨%d1, H1⟩, ⟨%d2, H2⟩, ⟨%d3, H3⟩, H4, H5⟩
    iapply (sound_main m c t _ (accAt_later m c t h))
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_some m c _ _

/-! ## The run -/

set_option backward.isDefEq.respectTransparency.types false in
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Gen

end
-- ==== Proof.KernelIdeal.Template.lean ====
/- The kernel's body written once as loops: the printed body is the same program with every loop unrolled and cut into
   parts, and the equations at the end say so. Each definition takes the rest of the program as its last
   argument, so that no `bind` is left between two memory operations. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F] [Named F]

/-- Programs of the kernel's body. -/
abbrev BodyProg (F : FTy → Type) [FloatOps F] := Prog (TpuEff nD τ sig (Elt F) Λ₀ .tc) PUnit

/-- The factor that turns `exp2` into `exp`. -/
def log2e : F .f32 := Named.named κ "log2_e" 0x3FB8AA3B#32

/-! ## Offsets -/

/-- Row group `k` of the 96 groups of eight rows. -/
theorem inbWs (k : Fin 96) : ∀ a, (![8 * k.val, 0] : Fin 2 → Nat) a + S8x128.size a ≤ S768x128.size a := by
  intro a; have := k.isLt
  match a with
  | ⟨0, _⟩ => show 8 * k.val + 8 ≤ 768; omega
  | ⟨1, _⟩ => show 0 + 128 ≤ 128; omega

theorem slWs (k : Fin 96) : S8x96.Slices ![0, k.val] S8x1 := by
  revert k; decide +kernel

/-- The half of the chunk's rows that dot `d` (of four) takes, -/
theorem inbW (d : Fin 4) : ∀ a, (![384 * (d.val / 2), 0] : Fin 2 → Nat) a + S384x2048.size a ≤ S768x2048.size a := by
  intro a; have := d.isLt
  match a with
  | ⟨0, _⟩ => show 384 * (d.val / 2) + 384 ≤ 768; omega
  | ⟨1, _⟩ => show 0 + 2048 ≤ 2048; omega

/-- and the half of the block's tokens. -/
theorem inbH (d : Fin 4) : ∀ a, (![512 * (d.val % 2), 0] : Fin 2 → Nat) a + S512x2048.size a ≤ S1024x2048.size a := by
  intro a; have := d.isLt
  match a with
  | ⟨0, _⟩ => show 512 * (d.val % 2) + 512 ≤ 1024; omega
  | ⟨1, _⟩ => show 0 + 2048 ≤ 2048; omega

/-- The lane group (of eight) of dot `d`'s lane group `q`. -/
def laneOf (d q : Fin 4) : Fin 8 := ⟨4 * (d.val % 2) + q.val, by omega⟩
/-- The 96-row group of the chunk (of eight) of dot `d`'s group `u`. -/
def subOf (d u : Fin 4) : Fin 8 := ⟨4 * (d.val / 2) + u.val, by omega⟩

theorem inbHs (l : Fin 8) : ∀ a, (![0, 128 * l.val] : Fin 2 → Nat) a + S1x128.size a ≤ S1x1024.size a := by
  intro a; have := l.isLt
  match a with
  | ⟨0, _⟩ => show 0 + 1 ≤ 1; omega
  | ⟨1, _⟩ => show 128 * l.val + 128 ≤ 1024; omega

/-- The shard that the 96-row group `n` of point `i`'s chunk lies in, as the kernel computes it. -/
def shardW (i : grid0.Coords) (n : BitVec 32) : Nat := k0_off1 i n 0

/-- Where a block of scratch lies: the shard of row group `n`, all sublanes, lane group `l`. -/
def offS (i : grid0.Coords) (n l : Fin 8) : Fin 3 → Nat := ![shardW i (BitVec.ofNat 32 n.val), 0, 128 * l.val]

theorem inbS (i : grid0.Coords) (n l : Fin 8) : ∀ a, offS i n l a + S1x8x128.size a ≤ S8x8x1024.size a := by
  intro a; have := l.isLt
  match a with
  | ⟨0, _⟩ => exact k0_off1_inb i n 0
  | ⟨1, _⟩ => show 0 + 8 ≤ 8; omega
  | ⟨2, _⟩ => show 128 * l.val + 128 ≤ 1024; omega

theorem slRaw (u q : Fin 4) (k : Fin 12) : S384x512.Slices ![96 * u.val + 8 * k.val, 128 * q.val] S8x128 := by
  revert u q k; decide +kernel

/-- Row group `k` of dot `d`'s group `u`, among the 96 of the chunk. -/
def rowG (d u : Fin 4) (k : Fin 12) : Fin 96 := ⟨48 * (d.val / 2) + 12 * u.val + k.val, by omega⟩

theorem inbG3 (g : Fin 8) : ∀ a, (![g.val, 0, 0] : Fin 3 → Nat) a + S1x8x1024.size a ≤ S8x8x1024.size a := by
  intro a; have := g.isLt
  match a with
  | ⟨0, _⟩ => show g.val + 1 ≤ 8; omega
  | ⟨1, _⟩ => show 0 + 8 ≤ 8; omega
  | ⟨2, _⟩ => show 0 + 1024 ≤ 1024; omega

theorem inbG2 (g : Fin 8) : ∀ a, (![g.val, 0] : Fin 2 → Nat) a + S1x1024.size a ≤ S8x1024.size a := by
  intro a; have := g.isLt
  match a with
  | ⟨0, _⟩ => show g.val + 1 ≤ 8; omega
  | ⟨1, _⟩ => show 0 + 1024 ≤ 1024; omega

/-! ## Values -/

/-- Eight row scales spread over the lanes. -/
def wsVal (v4 : FVec F S8x96 .f32) (k : Fin 96) : FVec F S8x128 .f32 :=
  shapeCast S8x128 (broadcastTo S8x128 (shapeCast S8x1 (extractStridedSlice S8x1 ![0, k.val] v4 (slWs k)) shapeCasts_S8x1_S8x1) broadcasts_S8x1_S8x128) shapeCasts_S8x128_S8x128

/-- Eight rows of logits over 128 tokens. -/
def xVal (raw : FVec F S384x512 .f32) (u q : Fin 4) (k : Fin 12) (hs : FVec F S1x128 .f32) (wsv : FVec F S8x128 .f32) : FVec F S8x128 .f32 :=
  mulf (mulf (extractStridedSlice S8x128 ![96 * u.val + 8 * k.val, 128 * q.val] raw (slRaw u q k)) (broadcastTo S8x128 hs broadcasts_S1x128_S8x128)) wsv

/-- `exp (x - m)`, as the kernel computes it. -/
def expVal (x m : FVec F S8x128 .f32) : FVec F S8x128 .f32 :=
  exp2 (mulf (subf x m) (broadcast S8x128 log2e))

/-- The new running maximum. -/
def newM (m x0 x1 x2 x3 x4 x5 x6 x7 x8 x9 x10 x11 : FVec F S8x128 .f32) : FVec F S8x128 .f32 :=
  maximumf (maximumf (maximumf (maximumf (maximumf (maximumf (maximumf (maximumf (maximumf (maximumf (maximumf (maximumf m x0) x1) x2) x3) x4) x5) x6) x7) x8) x9) x10) x11

/-- The new running sum, relative to the new maximum `t`. -/
def newS (s m t x0 x1 x2 x3 x4 x5 x6 x7 x8 x9 x10 x11 : FVec F S8x128 .f32) : FVec F S8x128 .f32 :=
  addf (addf (addf (addf (addf (addf (addf (addf (addf (addf (addf (addf (mulf s (expVal m t)) (expVal x0 t)) (expVal x1 t)) (expVal x2 t)) (expVal x3 t)) (expVal x4 t)) (expVal x5 t)) (expVal x6 t)) (expVal x7 t)) (expVal x8 t)) (expVal x9 t)) (expVal x10 t)) (expVal x11 t)

/-- The products of 384 rows with 512 tokens. -/
def rawVal (w : Vec F S384x2048 .fp8e4m3) (h : Vec F S512x2048 .fp8e4m3) : FVec F S384x512 .f32 :=
  matmul dot_S384x2048_S512x2048_S384x512_1_1_0_0_n_n none w (shapeCast S512x2048 h shapeCasts_S512x2048_S512x2048) (constant S384x512 .f32 0x00000000#32)

/-- The maximum over the eight sublanes. -/
def topVal (m : FVec F S8x1024 .f32) : FVec F S1x1024 .f32 :=
  shapeCast S1x1024 (multiReduction .maximumf [0] S1024 m 0xFF800000#32 reduces_S8x1024_S1024 (.inl rfl) rfl) shapeCasts_S1024_S1x1024

/-- The sum over the eight sublanes, relative to that maximum. -/
def sumVal (m s : FVec F S8x1024 .f32) : FVec F S1x1024 .f32 :=
  shapeCast S1x1024 (multiReduction .add [0] S1024 (mulf s (exp2 (mulf (subf m (broadcastTo S8x1024 (topVal m) broadcasts_S1x1024_S8x1024)) (broadcast S8x1024 log2e)))) 0x00000000#32 reduces_S8x1024_S1024 (.inl rfl) rfl) shapeCasts_S1024_S1x1024

/-! ## The program -/

variable (i : grid0.Coords) (arg2 : Memref sig .tc .vmem S768x2048 .fp8e4m3) (arg3 : Memref sig .tc .vmem S1x8x96 .f32)
  (arg4 : Memref sig .tc .vmem S1024x2048 .fp8e4m3) (arg5 : Memref sig .tc .vmem S1x1024 .f32)
  (arg6 arg7 : Memref sig .tc .vmem S8x1024 .f32) (arg8 arg9 : Memref sig .tc .vmem S8x8x1024 .f32)
  (arg10 : Memref sig .tc .vmem S768x128 .f32)

/-- At a token block's first chunk: the maxima are minus infinity, the sums zero. -/
def initK (K : BodyProg F) : BodyProg F :=
  .op (.load arg8 (Rect.unit (s := S8x8x1024) ![0, 0, 0] S8x8x1024.size inb_S8x8x1024_S8x8x1024_0_0_0).toLoadRect (View.loadsAt_vmem h_S8x8x1024)) fun _ =>
  .op (.store arg8 (Rect.unit (s := S8x8x1024) ![0, 0, 0] S8x8x1024.size inb_S8x8x1024_S8x8x1024_0_0_0) (shapeCast S8x8x1024 (broadcast S8x8x1024 (Scalar.ofBits (F := F) .f32 0xFF800000#32)) shapeCasts_S8x8x1024_S8x8x1024) Finset.univ (View.stores_vmem_bits_univ h_S8x8x1024 rfl) (.inl rfl)) fun _ =>
  .op (.load arg9 (Rect.unit (s := S8x8x1024) ![0, 0, 0] S8x8x1024.size inb_S8x8x1024_S8x8x1024_0_0_0).toLoadRect (View.loadsAt_vmem h_S8x8x1024)) fun _ =>
  .op (.store arg9 (Rect.unit (s := S8x8x1024) ![0, 0, 0] S8x8x1024.size inb_S8x8x1024_S8x8x1024_0_0_0) (shapeCast S8x8x1024 (broadcast S8x8x1024 (Scalar.ofBits (F := F) .f32 0x00000000#32)) shapeCasts_S8x8x1024_S8x8x1024) Finset.univ (View.stores_vmem_bits_univ h_S8x8x1024 rfl) (.inl rfl)) fun _ =>
  K

/-- One group of eight row scales is spread over the lanes. -/
def wsK (v4 : FVec F S8x96 .f32) (k : Fin 96) (K : BodyProg F) : BodyProg F :=
  .op (.load arg10 (Rect.unit (s := S768x128) ![8 * k.val, 0] S8x128.size (inbWs k)).toLoadRect (View.loadsAt_vmem h_S8x128)) fun _ =>
  .op (.store arg10 (Rect.unit (s := S768x128) ![8 * k.val, 0] S8x128.size (inbWs k)) (wsVal v4 k) Finset.univ (View.stores_vmem_bits_univ h_S8x128 rfl) (.inl rfl)) fun _ =>
  K

/-- Read back the spread row scales of group `k`. -/
def ldWsK (k : Fin 96) (K : Vec F S8x128 .f32 → BodyProg F) : BodyProg F :=
  .op (.load arg10 (Rect.unit (s := S768x128) ![8 * k.val, 0] S8x128.size (inbWs k)).toLoadRect (View.loadsAt_vmem h_S8x128)) K

/-- One block: 96 rows of logits over 128 tokens enter the running maximum and the running sum of their shard. -/
def blkK (d : Fin 4) (raw : FVec F S384x512 .f32) (u q : Fin 4) (K : BodyProg F) : BodyProg F :=
  .op (.load arg5 (Rect.unit (s := S1x1024) ![0, 128 * (laneOf d q).val] S1x128.size (inbHs (laneOf d q))).toLoadRect (View.loadsAt_vmem h_S1x128)) fun v =>
  ldWsK arg10 (rowG d u 0) fun w0 => ldWsK arg10 (rowG d u 1) fun w1 => ldWsK arg10 (rowG d u 2) fun w2 =>
  ldWsK arg10 (rowG d u 3) fun w3 => ldWsK arg10 (rowG d u 4) fun w4 => ldWsK arg10 (rowG d u 5) fun w5 =>
  ldWsK arg10 (rowG d u 6) fun w6 => ldWsK arg10 (rowG d u 7) fun w7 => ldWsK arg10 (rowG d u 8) fun w8 =>
  ldWsK arg10 (rowG d u 9) fun w9 => ldWsK arg10 (rowG d u 10) fun w10 => ldWsK arg10 (rowG d u 11) fun w11 =>
  .op (.load arg8 (Rect.unit (s := S8x8x1024) (offS i (subOf d u) (laneOf d q)) S1x8x128.size (inbS i (subOf d u) (laneOf d q))).toLoadRect (View.loadsAt_vmem h_S1x8x128)) fun m =>
  .op (.load arg9 (Rect.unit (s := S8x8x1024) (offS i (subOf d u) (laneOf d q)) S1x8x128.size (inbS i (subOf d u) (laneOf d q))).toLoadRect (View.loadsAt_vmem h_S1x8x128)) fun s =>
  .op (.load arg9 (Rect.unit (s := S8x8x1024) (offS i (subOf d u) (laneOf d q)) S1x8x128.size (inbS i (subOf d u) (laneOf d q))).toLoadRect (View.loadsAt_vmem h_S1x8x128)) fun _ =>
  .op (.store arg9 (Rect.unit (s := S8x8x1024) (offS i (subOf d u) (laneOf d q)) S1x8x128.size (inbS i (subOf d u) (laneOf d q)))
    (shapeCast S1x8x128 (newS (shapeCast S8x128 s shapeCasts_S1x8x128_S8x128) (shapeCast S8x128 m shapeCasts_S1x8x128_S8x128)
      (newM (shapeCast S8x128 m shapeCasts_S1x8x128_S8x128) (xVal raw u q 0 (shapeCast S1x128 v shapeCasts_S1x128_S1x128) w0) (xVal raw u q 1 (shapeCast S1x128 v shapeCasts_S1x128_S1x128) w1) (xVal raw u q 2 (shapeCast S1x128 v shapeCasts_S1x128_S1x128) w2) (xVal raw u q 3 (shapeCast S1x128 v shapeCasts_S1x128_S1x128) w3) (xVal raw u q 4 (shapeCast S1x128 v shapeCasts_S1x128_S1x128) w4) (xVal raw u q 5 (shapeCast S1x128 v shapeCasts_S1x128_S1x128) w5) (xVal raw u q 6 (shapeCast S1x128 v shapeCasts_S1x128_S1x128) w6) (xVal raw u q 7 (shapeCast S1x128 v shapeCasts_S1x128_S1x128) w7) (xVal raw u q 8 (shapeCast S1x128 v shapeCasts_S1x128_S1x128) w8) (xVal raw u q 9 (shapeCast S1x128 v shapeCasts_S1x128_S1x128) w9) (xVal raw u q 10 (shapeCast S1x128 v shapeCasts_S1x128_S1x128) w10) (xVal raw u q 11 (shapeCast S1x128 v shapeCasts_S1x128_S1x128) w11))
      (xVal raw u q 0 (shapeCast S1x128 v shapeCasts_S1x128_S1x128) w0) (xVal raw u q 1 (shapeCast S1x128 v shapeCasts_S1x128_S1x128) w1) (xVal raw u q 2 (shapeCast S1x128 v shapeCasts_S1x128_S1x128) w2) (xVal raw u q 3 (shapeCast S1x128 v shapeCasts_S1x128_S1x128) w3) (xVal raw u q 4 (shapeCast S1x128 v shapeCasts_S1x128_S1x128) w4) (xVal raw u q 5 (shapeCast S1x128 v shapeCasts_S1x128_S1x128) w5) (xVal raw u q 6 (shapeCast S1x128 v shapeCasts_S1x128_S1x128) w6) (xVal raw u q 7 (shapeCast S1x128 v shapeCasts_S1x128_S1x128) w7) (xVal raw u q 8 (shapeCast S1x128 v shapeCasts_S1x128_S1x128) w8) (xVal raw u q 9 (shapeCast S1x128 v shapeCasts_S1x128_S1x128) w9) (xVal raw u q 10 (shapeCast S1x128 v shapeCasts_S1x128_S1x128) w10) (xVal raw u q 11 (shapeCast S1x128 v shapeCasts_S1x128_S1x128) w11))
      shapeCasts_S8x128_S1x8x128) Finset.univ (View.stores_vmem_bits_univ h_S1x8x128 rfl) (.inl rfl)) fun _ =>
  .op (.load arg8 (Rect.unit (s := S8x8x1024) (offS i (subOf d u) (laneOf d q)) S1x8x128.size (inbS i (subOf d u) (laneOf d q))).toLoadRect (View.loadsAt_vmem h_S1x8x128)) fun _ =>
  .op (.store arg8 (Rect.unit (s := S8x8x1024) (offS i (subOf d u) (laneOf d q)) S1x8x128.size (inbS i (subOf d u) (laneOf d q)))
    (shapeCast S1x8x128 (newM (shapeCast S8x128 m shapeCasts_S1x8x128_S8x128) (xVal raw u q 0 (shapeCast S1x128 v shapeCasts_S1x128_S1x128) w0) (xVal raw u q 1 (shapeCast S1x128 v shapeCasts_S1x128_S1x128) w1) (xVal raw u q 2 (shapeCast S1x128 v shapeCasts_S1x128_S1x128) w2) (xVal raw u q 3 (shapeCast S1x128 v shapeCasts_S1x128_S1x128) w3) (xVal raw u q 4 (shapeCast S1x128 v shapeCasts_S1x128_S1x128) w4) (xVal raw u q 5 (shapeCast S1x128 v shapeCasts_S1x128_S1x128) w5) (xVal raw u q 6 (shapeCast S1x128 v shapeCasts_S1x128_S1x128) w6) (xVal raw u q 7 (shapeCast S1x128 v shapeCasts_S1x128_S1x128) w7) (xVal raw u q 8 (shapeCast S1x128 v shapeCasts_S1x128_S1x128) w8) (xVal raw u q 9 (shapeCast S1x128 v shapeCasts_S1x128_S1x128) w9) (xVal raw u q 10 (shapeCast S1x128 v shapeCasts_S1x128_S1x128) w10) (xVal raw u q 11 (shapeCast S1x128 v shapeCasts_S1x128_S1x128) w11))
      shapeCasts_S8x128_S1x8x128) Finset.univ (View.stores_vmem_bits_univ h_S1x8x128 rfl) (.inl rfl)) fun _ =>
  K

/-- The blocks of one dot, in the order the kernel takes them. -/
def blkPairs : List (Fin 4 × Fin 4) :=
  [(0, 0), (0, 1), (0, 2), (0, 3), (1, 0), (1, 1), (1, 2), (1, 3), (2, 0), (2, 1), (2, 2), (2, 3), (3, 0), (3, 1), (3, 2), (3, 3)]

/-- One dot and its sixteen blocks. -/
def dotK (d : Fin 4) (K : BodyProg F) : BodyProg F :=
  .op (.load arg2 (Rect.unit (s := S768x2048) ![384 * (d.val / 2), 0] S384x2048.size (inbW d)).toLoadRect (View.loadsAt_vmem h_S384x2048)) fun w =>
  .op (.load arg4 (Rect.unit (s := S1024x2048) ![512 * (d.val % 2), 0] S512x2048.size (inbH d)).toLoadRect (View.loadsAt_vmem h_S512x2048)) fun h =>
  blkPairs.foldr (fun p K => blkK i arg5 arg8 arg9 arg10 d (rawVal w h) p.1 p.2 K) K

/-- The four dots. -/
def dotsK (K : BodyProg F) : BodyProg F :=
  ([0, 1, 2, 3] : List (Fin 4)).foldr (fun d K => dotK i arg2 arg4 arg5 arg8 arg9 arg10 d K) K

/-- The row scales, spread over the lanes, group by group. -/
def wsAllK (v4 : FVec F S8x96 .f32) (K : BodyProg F) : BodyProg F :=
  (List.finRange 96).foldr (fun k K => wsK arg10 v4 k K) K

/-- One shard's results at the last chunk. -/
def finK (g : Fin 8) (K : BodyProg F) : BodyProg F :=
  .op (.load arg8 (Rect.unit (s := S8x8x1024) ![g.val, 0, 0] S1x8x1024.size (inbG3 g)).toLoadRect (View.loadsAt_vmem h_S1x8x1024)) fun m =>
  .op (.load arg6 (Rect.unit (s := S8x1024) ![g.val, 0] S1x1024.size (inbG2 g)).toLoadRect (View.loadsAt_vmem h_S1x1024)) fun _ =>
  .op (.store arg6 (Rect.unit (s := S8x1024) ![g.val, 0] S1x1024.size (inbG2 g)) (topVal (shapeCast S8x1024 m shapeCasts_S1x8x1024_S8x1024)) Finset.univ (View.stores_vmem_bits_univ h_S1x1024 rfl) (.inl rfl)) fun _ =>
  .op (.load arg9 (Rect.unit (s := S8x8x1024) ![g.val, 0, 0] S1x8x1024.size (inbG3 g)).toLoadRect (View.loadsAt_vmem h_S1x8x1024)) fun s =>
  .op (.load arg7 (Rect.unit (s := S8x1024) ![g.val, 0] S1x1024.size (inbG2 g)).toLoadRect (View.loadsAt_vmem h_S1x1024)) fun _ =>
  .op (.store arg7 (Rect.unit (s := S8x1024) ![g.val, 0] S1x1024.size (inbG2 g)) (sumVal (shapeCast S8x1024 m shapeCasts_S1x8x1024_S8x1024) (shapeCast S8x1024 s shapeCasts_S1x8x1024_S8x1024)) Finset.univ (View.stores_vmem_bits_univ h_S1x1024 rfl) (.inl rfl)) fun _ =>
  K

/-- All shards' results. -/
def finAllK (K : BodyProg F) : BodyProg F :=
  ([0, 1, 2, 3, 4, 5, 6, 7] : List (Fin 8)).foldr (fun g K => finK arg6 arg7 arg8 arg9 g K) K

/-- What follows the initialisation. -/
def mainK : BodyProg F :=
  .op (.load arg3 (Rect.unit (s := S1x8x96) ![0, 0, 0] S1x8x96.size inb_S1x8x96_S1x8x96_0_0_0).toLoadRect (View.loadsAt_vmem h_S1x8x96)) fun v3 =>
  wsAllK arg10 (shapeCast S8x96 v3 shapeCasts_S1x8x96_S8x96) <|
  dotsK i arg2 arg4 arg5 arg8 arg9 arg10 <|
  if _h : k0_cond2 i = 1#1 then finAllK arg6 arg7 arg8 arg9 (.ret ⟨⟩) else .ret ⟨⟩

end Cert.KernelIdeal.Gen

end
-- ==== Proof.KernelIdeal.BodyEq.lean ====
/- The printed body is the template of Template.lean. -/
module

public import proofs.«01_k».proof.Proof.KernelIdeal.Template

@[expose] public section

set_option maxRecDepth 16384

noncomputable section

namespace Cert.KernelIdeal.Gen

open Idealize.ShloMosaic Idealize.ShloMosaic.TcCoe Idealize.ShloMosaic.Tactic
open Idealize.SL.Sem

variable {F : FTy → Type} [FloatOps F] [Named F]

/-- The condition of the body's first conditional. -/
abbrev condFirst (i : grid0.Coords) : Prop :=
  Scalar.cmpi .ne (Scalar.extui (Scalar.cmpi .eq (BitVec.ofNat 32 (i 1).val) 0#32)) 0#32 = 1#1

variable (i : grid0.Coords) (arg2 : Memref sig .tc .vmem S768x2048 .fp8e4m3) (harg2 : arg2.IsWhole) (arg3 : Memref sig .tc .vmem S1x8x96 .f32) (harg3 : arg3.IsWhole) (arg4 : Memref sig .tc .vmem S1024x2048 .fp8e4m3) (harg4 : arg4.IsWhole) (arg5 : Memref sig .tc .vmem S1x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x8x1024 .f32) (harg8 : arg8.IsWhole) (arg9 : Memref sig .tc .vmem S8x8x1024 .f32) (harg9 : arg9.IsWhole) (arg10 : Memref sig .tc .vmem S768x128 .f32) (harg10 : arg10.IsWhole)

theorem body_first (h : condFirst i) :
    cc0_head_lse (F := F) i arg2 harg2 arg3 harg3 arg4 harg4 arg5 harg5 arg6 harg6 arg7 harg7 arg8 harg8 arg9 harg9 arg10 harg10
      = initK arg8 arg9 (mainK i arg2 arg3 arg4 arg5 arg6 arg7 arg8 arg9 arg10) := by
  unfold cc0_head_lse k0_part243 k0_part5
  simp only [dif_pos h]
  sl_kernel_rfl

theorem body_later (h : ¬ condFirst i) :
    cc0_head_lse (F := F) i arg2 harg2 arg3 harg3 arg4 harg4 arg5 harg5 arg6 harg6 arg7 harg7 arg8 harg8 arg9 harg9 arg10 harg10
      = mainK i arg2 arg3 arg4 arg5 arg6 arg7 arg8 arg9 arg10 := by
  unfold cc0_head_lse k0_part243 k0_part5
  simp only [dif_neg h]
  sl_kernel_rfl

end Cert.KernelIdeal.Gen

end
-- ==== Proof.KernelIdeal.Run.lean ====
/- What one run of the body leaves: the two scratch accumulators and, at the last chunk, the two results, as functions
   of what the memrefs hold before it. -/
module

public import proofs.«01_k».proof.Proof.KernelIdeal.BodyEq
public import proofs.«01_k».proof.Proof.VecRules

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.VecRules

variable {F : FTy → Type} [FloatOps F] [Named F]

local notation "𝕄" => MT nD τ sig Unit (Elt F) ℕ (UR sig nD τ) ℕ

/-- The running maxima and the running sums. -/
abbrev Acc (F : FTy → Type) [FloatOps F] := Vec F S8x8x1024 .f32 × Vec F S8x8x1024 .f32

/-- Before a token block's first chunk. -/
def acc0 : Acc F :=
  (shapeCast S8x8x1024 (broadcast S8x8x1024 (Scalar.ofBits (F := F) .f32 0xFF800000#32)) shapeCasts_S8x8x1024_S8x8x1024,
   shapeCast S8x8x1024 (broadcast S8x8x1024 (Scalar.ofBits (F := F) .f32 0x00000000#32)) shapeCasts_S8x8x1024_S8x8x1024)

/-- The logits of row group `k` of block `(u, q)` of dot `d`. -/
def blkX (d : Fin 4) (raw : FVec F S384x512 .f32) (hs : Vec F S1x1024 .f32) (b : Vec F S768x128 .f32) (u q : Fin 4) (k : Fin 12) : FVec F S8x128 .f32 :=
  xVal raw u q k (shapeCast S1x128 (VecWindow.window hs ![0, 128 * (laneOf d q).val] S1x128.size (inbHs (laneOf d q))) shapeCasts_S1x128_S1x128)
    (VecWindow.window b ![8 * (rowG d u k).val, 0] S8x128.size (inbWs (rowG d u k)))

/-- A block of an accumulator. -/
def blkOf (i : grid0.Coords) (n l : Fin 8) (x : Vec F S8x8x1024 .f32) : FVec F S8x128 .f32 :=
  shapeCast S8x128 (VecWindow.window x (offS i n l) S1x8x128.size (inbS i n l)) shapeCasts_S1x8x128_S8x128

/-- The accumulator with a block replaced. -/
def blkPut (i : grid0.Coords) (n l : Fin 8) (x : Vec F S8x8x1024 .f32) (y : FVec F S8x128 .f32) : Vec F S8x8x1024 .f32 :=
  VecWindow.put x (offS i n l) S1x8x128.size (shapeCast S1x8x128 y shapeCasts_S8x128_S1x8x128)

/-- The running maximum after a block. -/
def blkM (m : FVec F S8x128 .f32) (x : Fin 12 → FVec F S8x128 .f32) : FVec F S8x128 .f32 :=
  newM m (x 0) (x 1) (x 2) (x 3) (x 4) (x 5) (x 6) (x 7) (x 8) (x 9) (x 10) (x 11)

/-- The running sum after a block. -/
def blkS (s m : FVec F S8x128 .f32) (x : Fin 12 → FVec F S8x128 .f32) : FVec F S8x128 .f32 :=
  newS s m (blkM m x) (x 0) (x 1) (x 2) (x 3) (x 4) (x 5) (x 6) (x 7) (x 8) (x 9) (x 10) (x 11)

/-- One block. -/
def blkStep (i : grid0.Coords) (d : Fin 4) (raw : FVec F S384x512 .f32) (hs : Vec F S1x1024 .f32) (b : Vec F S768x128 .f32) (a : Acc F) (p : Fin 4 × Fin 4) : Acc F :=
  (blkPut i (subOf d p.1) (laneOf d p.2) a.1 (blkM (blkOf i (subOf d p.1) (laneOf d p.2) a.1) (blkX d raw hs b p.1 p.2)),
   blkPut i (subOf d p.1) (laneOf d p.2) a.2 (blkS (blkOf i (subOf d p.1) (laneOf d p.2) a.2) (blkOf i (subOf d p.1) (laneOf d p.2) a.1) (blkX d raw hs b p.1 p.2)))

/-- The products of dot `d`. -/
def rawOf (d : Fin 4) (w : Vec F S768x2048 .fp8e4m3) (h : Vec F S1024x2048 .fp8e4m3) : FVec F S384x512 .f32 :=
  rawVal (VecWindow.window w ![384 * (d.val / 2), 0] S384x2048.size (inbW d)) (VecWindow.window h ![512 * (d.val % 2), 0] S512x2048.size (inbH d))

/-- One dot and its blocks. -/
def dotStep (i : grid0.Coords) (w : Vec F S768x2048 .fp8e4m3) (h : Vec F S1024x2048 .fp8e4m3) (hs : Vec F S1x1024 .f32) (b : Vec F S768x128 .f32) (a : Acc F) (d : Fin 4) : Acc F :=
  blkPairs.foldl (blkStep i d (rawOf d w h) hs b) a

/-- The four dots. -/
def dotsStep (i : grid0.Coords) (w : Vec F S768x2048 .fp8e4m3) (h : Vec F S1024x2048 .fp8e4m3) (hs : Vec F S1x1024 .f32) (b : Vec F S768x128 .f32) (a : Acc F) : Acc F :=
  ([0, 1, 2, 3] : List (Fin 4)).foldl (dotStep i w h hs b) a

/-- The row scales spread over the lanes, written over `b`. -/
def wsAll (ws : Vec F S1x8x96 .f32) (b : Vec F S768x128 .f32) : Vec F S768x128 .f32 :=
  (List.finRange 96).foldl (fun b k => VecWindow.put b ![8 * k.val, 0] S8x128.size
    (wsVal (shapeCast S8x96 (VecWindow.window ws ![0, 0, 0] S1x8x96.size inb_S1x8x96_S1x8x96_0_0_0) shapeCasts_S1x8x96_S8x96) k)) b

/-- A shard of an accumulator. -/
def shardOf (g : Fin 8) (x : Vec F S8x8x1024 .f32) : FVec F S8x1024 .f32 :=
  shapeCast S8x1024 (VecWindow.window x ![g.val, 0, 0] S1x8x1024.size (inbG3 g)) shapeCasts_S1x8x1024_S8x1024

/-- One shard's results. -/
def finStep (a : Acc F) (o : Vec F S8x1024 .f32 × Vec F S8x1024 .f32) (g : Fin 8) : Vec F S8x1024 .f32 × Vec F S8x1024 .f32 :=
  (VecWindow.put o.1 ![g.val, 0] S1x1024.size (topVal (shardOf g a.1)),
   VecWindow.put o.2 ![g.val, 0] S1x1024.size (sumVal (shardOf g a.1) (shardOf g a.2)))

/-- All shards' results. -/
def finAll (a : Acc F) (o : Vec F S8x1024 .f32 × Vec F S8x1024 .f32) : Vec F S8x1024 .f32 × Vec F S8x1024 .f32 :=
  ([0, 1, 2, 3, 4, 5, 6, 7] : List (Fin 8)).foldl (finStep a) o

/-- Weakest preconditions of a part of the body on core `c`. -/
abbrev bwp (c : Dev nD) (E : Set ℕ) (Q : PUnit.{1} → sProp (MT nD τ sig Unit (Elt F) ℕ (UR sig nD τ) ℕ)) (p : BodyProg F) : sProp (MT nD τ sig Unit (Elt F) ℕ (UR sig nD τ) ℕ) :=
  wp frame (wpE (defs₀ (F := F)) Variants.none (c : Thread nD τ) none) E p Q

variable (c : Dev nD) (E : Set ℕ) (Q : PUnit.{1} → sProp (MT nD τ sig Unit (Elt F) ℕ (UR sig nD τ) ℕ))
variable (i : grid0.Coords) (arg2 : Memref sig .tc .vmem S768x2048 .fp8e4m3) (arg3 : Memref sig .tc .vmem S1x8x96 .f32)
  (arg4 : Memref sig .tc .vmem S1024x2048 .fp8e4m3) (arg5 : Memref sig .tc .vmem S1x1024 .f32)
  (arg6 arg7 : Memref sig .tc .vmem S8x1024 .f32) (arg8 arg9 : Memref sig .tc .vmem S8x8x1024 .f32)
  (arg10 : Memref sig .tc .vmem S768x128 .f32)

theorem initK_wp (a : Acc F) (K : BodyProg F) :
    iprop(owns (c : Thread nD τ) arg8 fullShare a.1 ∗ owns (c : Thread nD τ) arg9 fullShare a.2)
      ⊢ iprop((owns (c : Thread nD τ) arg8 fullShare (acc0 (F := F)).1 ∗ owns (c : Thread nD τ) arg9 fullShare (acc0 (F := F)).2 -∗ bwp (F := F) c E Q K)
        -∗ bwp (F := F) c E Q (initK arg8 arg9 K)) := by
  iintro ⟨H8, H9⟩ HK
  unfold initK
  iapply (wp_ld Variants.none (c : Thread nD τ) none E (m := arg8)) $$ H8
  iintro H8
  iapply (wp_st Variants.none (c : Thread nD τ) none E (m := arg8)) $$ H8
  iintro H8
  iapply (wp_ld Variants.none (c : Thread nD τ) none E (m := arg9)) $$ H9
  iintro H9
  iapply (wp_st Variants.none (c : Thread nD τ) none E (m := arg9)) $$ H9
  iintro H9
  iapply HK
  rw [put_full _ _ (by decide), put_full _ _ (by decide)]
  isplitl [H8]
  · iexact H8
  · iexact H9

theorem ldWsK_wp (b : Vec F S768x128 .f32) (k : Fin 96) (K : Vec F S8x128 .f32 → BodyProg F) :
    owns (c : Thread nD τ) arg10 fullShare b
      ⊢ iprop((owns (c : Thread nD τ) arg10 fullShare b -∗ bwp (F := F) c E Q (K (VecWindow.window b ![8 * k.val, 0] S8x128.size (inbWs k))))
        -∗ bwp (F := F) c E Q (ldWsK arg10 k K)) :=
  wp_ld Variants.none (c : Thread nD τ) none E (m := arg10)

set_option maxHeartbeats 1000000 in
theorem blkK_wp (d : Fin 4) (raw : FVec F S384x512 .f32) (hs : Vec F S1x1024 .f32) (b : Vec F S768x128 .f32) (a : Acc F) (p : Fin 4 × Fin 4) (K : BodyProg F) :
    iprop(owns (c : Thread nD τ) arg5 fullShare hs ∗ owns (c : Thread nD τ) arg8 fullShare a.1 ∗ owns (c : Thread nD τ) arg9 fullShare a.2 ∗ owns (c : Thread nD τ) arg10 fullShare b)
      ⊢ iprop((owns (c : Thread nD τ) arg5 fullShare hs ∗ owns (c : Thread nD τ) arg8 fullShare (blkStep i d raw hs b a p).1 ∗ owns (c : Thread nD τ) arg9 fullShare (blkStep i d raw hs b a p).2 ∗ owns (c : Thread nD τ) arg10 fullShare b
          -∗ bwp (F := F) c E Q K)
        -∗ bwp (F := F) c E Q (blkK i arg5 arg8 arg9 arg10 d raw p.1 p.2 K)) := by
  iintro ⟨H5, H8, H9, H10⟩ HK
  unfold blkK
  iapply (wp_ld Variants.none (c : Thread nD τ) none E (m := arg5)) $$ H5
  iintro H5
  iapply (ldWsK_wp c E Q arg10 b (rowG d p.1 0)) $$ H10; iintro H10
  iapply (ldWsK_wp c E Q arg10 b (rowG d p.1 1)) $$ H10; iintro H10
  iapply (ldWsK_wp c E Q arg10 b (rowG d p.1 2)) $$ H10; iintro H10
  iapply (ldWsK_wp c E Q arg10 b (rowG d p.1 3)) $$ H10; iintro H10
  iapply (ldWsK_wp c E Q arg10 b (rowG d p.1 4)) $$ H10; iintro H10
  iapply (ldWsK_wp c E Q arg10 b (rowG d p.1 5)) $$ H10; iintro H10
  iapply (ldWsK_wp c E Q arg10 b (rowG d p.1 6)) $$ H10; iintro H10
  iapply (ldWsK_wp c E Q arg10 b (rowG d p.1 7)) $$ H10; iintro H10
  iapply (ldWsK_wp c E Q arg10 b (rowG d p.1 8)) $$ H10; iintro H10
  iapply (ldWsK_wp c E Q arg10 b (rowG d p.1 9)) $$ H10; iintro H10
  iapply (ldWsK_wp c E Q arg10 b (rowG d p.1 10)) $$ H10; iintro H10
  iapply (ldWsK_wp c E Q arg10 b (rowG d p.1 11)) $$ H10; iintro H10
  iapply (wp_ld Variants.none (c : Thread nD τ) none E (m := arg8)) $$ H8
  iintro H8
  iapply (wp_ld Variants.none (c : Thread nD τ) none E (m := arg9)) $$ H9
  iintro H9
  iapply (wp_ld Variants.none (c : Thread nD τ) none E (m := arg9)) $$ H9
  iintro H9
  iapply (wp_st Variants.none (c : Thread nD τ) none E (m := arg9)) $$ H9
  iintro H9
  iapply (wp_ld Variants.none (c : Thread nD τ) none E (m := arg8)) $$ H8
  iintro H8
  iapply (wp_st Variants.none (c : Thread nD τ) none E (m := arg8)) $$ H8
  iintro H8
  iapply HK
  isplitl [H5]; · iexact H5
  isplitl [H8]; · iexact H8
  isplitl [H9]; · iexact H9
  iexact H10

theorem blks_wp (d : Fin 4) (raw : FVec F S384x512 .f32) (hs : Vec F S1x1024 .f32) (b : Vec F S768x128 .f32) (K : BodyProg F) (ps : List (Fin 4 × Fin 4)) (a : Acc F) :
    iprop(owns (c : Thread nD τ) arg5 fullShare hs ∗ owns (c : Thread nD τ) arg8 fullShare a.1 ∗ owns (c : Thread nD τ) arg9 fullShare a.2 ∗ owns (c : Thread nD τ) arg10 fullShare b)
      ⊢ iprop((owns (c : Thread nD τ) arg5 fullShare hs ∗ owns (c : Thread nD τ) arg8 fullShare (ps.foldl (blkStep i d raw hs b) a).1 ∗ owns (c : Thread nD τ) arg9 fullShare (ps.foldl (blkStep i d raw hs b) a).2 ∗ owns (c : Thread nD τ) arg10 fullShare b
          -∗ bwp (F := F) c E Q K)
        -∗ bwp (F := F) c E Q (ps.foldr (fun p (K : BodyProg F) => blkK i arg5 arg8 arg9 arg10 d raw p.1 p.2 K) K)) := by
  induction ps generalizing a with
  | nil => iintro H HK; iapply HK; iexact H
  | cons p ps ih =>
    iintro H HK
    rw [List.foldr_cons, List.foldl_cons]
    iapply (blkK_wp c E Q i arg5 arg8 arg9 arg10 d raw hs b a p) $$ H
    iintro H
    iapply (ih (blkStep i d raw hs b a p)) $$ H
    iexact HK

theorem dots_wp (w : Vec F S768x2048 .fp8e4m3) (h : Vec F S1024x2048 .fp8e4m3) (hs : Vec F S1x1024 .f32) (b : Vec F S768x128 .f32) (K : BodyProg F) (ds : List (Fin 4)) (a : Acc F) :
    iprop(owns (c : Thread nD τ) arg2 fullShare w ∗ owns (c : Thread nD τ) arg4 fullShare h ∗ owns (c : Thread nD τ) arg5 fullShare hs ∗ owns (c : Thread nD τ) arg8 fullShare a.1 ∗ owns (c : Thread nD τ) arg9 fullShare a.2 ∗ owns (c : Thread nD τ) arg10 fullShare b)
      ⊢ iprop((owns (c : Thread nD τ) arg2 fullShare w ∗ owns (c : Thread nD τ) arg4 fullShare h ∗ owns (c : Thread nD τ) arg5 fullShare hs ∗ owns (c : Thread nD τ) arg8 fullShare (ds.foldl (dotStep i w h hs b) a).1 ∗ owns (c : Thread nD τ) arg9 fullShare (ds.foldl (dotStep i w h hs b) a).2 ∗ owns (c : Thread nD τ) arg10 fullShare b
          -∗ bwp (F := F) c E Q K)
        -∗ bwp (F := F) c E Q (ds.foldr (fun d (K : BodyProg F) => dotK i arg2 arg4 arg5 arg8 arg9 arg10 d K) K)) := by
  induction ds generalizing a with
  | nil => iintro H HK; iapply HK; iexact H
  | cons d ds ih =>
    iintro ⟨H2, H4, H⟩ HK
    rw [List.foldr_cons, List.foldl_cons]
    unfold dotK
    iapply (wp_ld Variants.none (c : Thread nD τ) none E (m := arg2)) $$ H2
    iintro H2
    iapply (wp_ld Variants.none (c : Thread nD τ) none E (m := arg4)) $$ H4
    iintro H4
    iapply (blks_wp c E Q i arg5 arg8 arg9 arg10 d (rawOf d w h) hs b _ blkPairs a) $$ H
    iintro H
    iapply (ih (dotStep i w h hs b a d)) $$ [H2 H4 H]
    · isplitl [H2]; · iexact H2
      isplitl [H4]; · iexact H4
      iexact H
    iexact HK

theorem wss_wp (v4 : FVec F S8x96 .f32) (K : BodyProg F) (ks : List (Fin 96)) (b : Vec F S768x128 .f32) :
    owns (c : Thread nD τ) arg10 fullShare b
      ⊢ iprop((owns (c : Thread nD τ) arg10 fullShare (ks.foldl (fun b k => VecWindow.put b ![8 * k.val, 0] S8x128.size (wsVal v4 k)) b) -∗ bwp (F := F) c E Q K)
        -∗ bwp (F := F) c E Q (ks.foldr (fun k (K : BodyProg F) => wsK arg10 v4 k K) K)) := by
  induction ks generalizing b with
  | nil => iintro H HK; iapply HK; iexact H
  | cons k ks ih =>
    iintro H HK
    rw [List.foldr_cons, List.foldl_cons]
    unfold wsK
    iapply (wp_ld Variants.none (c : Thread nD τ) none E (m := arg10)) $$ H
    iintro H
    iapply (wp_st Variants.none (c : Thread nD τ) none E (m := arg10)) $$ H
    iintro H
    iapply (ih _) $$ H
    iexact HK

theorem fins_wp (a : Acc F) (K : BodyProg F) (gs : List (Fin 8)) (o : Vec F S8x1024 .f32 × Vec F S8x1024 .f32) :
    iprop(owns (c : Thread nD τ) arg6 fullShare o.1 ∗ owns (c : Thread nD τ) arg7 fullShare o.2 ∗ owns (c : Thread nD τ) arg8 fullShare a.1 ∗ owns (c : Thread nD τ) arg9 fullShare a.2)
      ⊢ iprop((owns (c : Thread nD τ) arg6 fullShare (gs.foldl (finStep a) o).1 ∗ owns (c : Thread nD τ) arg7 fullShare (gs.foldl (finStep a) o).2 ∗ owns (c : Thread nD τ) arg8 fullShare a.1 ∗ owns (c : Thread nD τ) arg9 fullShare a.2 -∗ bwp (F := F) c E Q K)
        -∗ bwp (F := F) c E Q (gs.foldr (fun g (K : BodyProg F) => finK arg6 arg7 arg8 arg9 g K) K)) := by
  induction gs generalizing o with
  | nil => iintro H HK; iapply HK; iexact H
  | cons g gs ih =>
    iintro ⟨H6, H7, H8, H9⟩ HK
    rw [List.foldr_cons, List.foldl_cons]
    unfold finK
    iapply (wp_ld Variants.none (c : Thread nD τ) none E (m := arg8)) $$ H8
    iintro H8
    iapply (wp_ld Variants.none (c : Thread nD τ) none E (m := arg6)) $$ H6
    iintro H6
    iapply (wp_st Variants.none (c : Thread nD τ) none E (m := arg6)) $$ H6
    iintro H6
    iapply (wp_ld Variants.none (c : Thread nD τ) none E (m := arg9)) $$ H9
    iintro H9
    iapply (wp_ld Variants.none (c : Thread nD τ) none E (m := arg7)) $$ H7
    iintro H7
    iapply (wp_st Variants.none (c : Thread nD τ) none E (m := arg7)) $$ H7
    iintro H7
    iapply (ih (finStep a o g)) $$ [H6 H7 H8 H9]
    · isplitl [H6]; · iexact H6
      isplitl [H7]; · iexact H7
      isplitl [H8]; · iexact H8
      iexact H9
    iexact HK

end Cert.KernelIdeal.Gen

end
-- ==== Proof.KernelIdeal.Body.lean ====
/- One run of the body, whole: what it leaves in the scratch and in the results. -/
module

public import proofs.«01_k».proof.Proof.KernelIdeal.Run

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.VecRules

variable {F : FTy → Type} [FloatOps F] [Named F]

/-- The row scales spread over the lanes: the 96 groups of eight rows cover the scratch. -/
theorem wsAll_apply (ws : Vec F S1x8x96 .f32) (b : Vec F S768x128 .f32) (y : S768x128.Idx) (k : Fin 96)
    (hy : ∀ a, (![8 * k.val, 0] : Fin 2 → ℕ) a ≤ (y a).val ∧ (y a).val < (![8 * k.val, 0] : Fin 2 → ℕ) a + S8x128.size a) :
    wsAll ws b y = wsVal (shapeCast S8x96 (VecWindow.window ws ![0, 0, 0] S1x8x96.size inb_S1x8x96_S1x8x96_0_0_0) shapeCasts_S1x8x96_S8x96) k (Rect.unitLocal (s := S768x128) y hy) :=
  foldl_put_hit (s := S768x128) (List.finRange 96) (fun k => ![8 * k.val, 0]) S8x128.size _ b y k (List.mem_finRange k) hy fun k' _ h' => by
    have h0 : 8 * k.val ≤ (y 0).val ∧ (y 0).val < 8 * k.val + 8 := hy 0
    have h1 : 8 * k'.val ≤ (y 0).val ∧ (y 0).val < 8 * k'.val + 8 := h' 0
    exact Fin.ext (by omega)

/-- What the scratch held before does not enter. -/
theorem wsAll_eq (ws : Vec F S1x8x96 .f32) (b b' : Vec F S768x128 .f32) : wsAll ws b = wsAll ws b' := by
  funext y
  have h0 : (y 0).val < 768 := (y 0).isLt
  have h1 : (y 1).val < 128 := (y 1).isLt
  have hy : ∀ a, (![8 * ((y 0).val / 8), 0] : Fin 2 → ℕ) a ≤ (y a).val ∧ (y a).val < (![8 * ((y 0).val / 8), 0] : Fin 2 → ℕ) a + S8x128.size a := by
    intro a
    match a with
    | ⟨0, _⟩ => show 8 * ((y 0).val / 8) ≤ (y 0).val ∧ (y 0).val < 8 * ((y 0).val / 8) + 8; omega
    | ⟨1, _⟩ => show 0 ≤ (y 1).val ∧ (y 1).val < 0 + 128; omega
  exact (wsAll_apply ws b y ⟨(y 0).val / 8, by omega⟩ hy).trans (wsAll_apply ws b' y ⟨(y 0).val / 8, by omega⟩ hy).symm

/-- The spread row scales. -/
def wsFull (ws : Vec F S1x8x96 .f32) : Vec F S768x128 .f32 := wsAll ws (broadcast S768x128 (Scalar.ofBits (F := F) .f32 0x00000000#32))

theorem foldl_fst_eq (a : Acc F) (gs : List (Fin 8)) (o : Vec F S8x1024 .f32 × Vec F S8x1024 .f32) :
    (gs.foldl (finStep a) o).1 = gs.foldl (fun b g => VecWindow.put (s := S8x1024) b ![g.val, 0] S1x1024.size (topVal (shardOf g a.1))) o.1 := by
  induction gs generalizing o with
  | nil => rfl
  | cons g gs ih => rw [List.foldl_cons, List.foldl_cons, ih]; rfl

theorem foldl_snd_eq (a : Acc F) (gs : List (Fin 8)) (o : Vec F S8x1024 .f32 × Vec F S8x1024 .f32) :
    (gs.foldl (finStep a) o).2 = gs.foldl (fun b g => VecWindow.put (s := S8x1024) b ![g.val, 0] S1x1024.size (sumVal (shardOf g a.1) (shardOf g a.2))) o.2 := by
  induction gs generalizing o with
  | nil => rfl
  | cons g gs ih => rw [List.foldl_cons, List.foldl_cons, ih]; rfl

theorem mem_shards (g : Fin 8) : g ∈ ([0, 1, 2, 3, 4, 5, 6, 7] : List (Fin 8)) := by revert g; decide

theorem row_inside (y : S8x1024.Idx) : ∀ a, (![(y 0).val, 0] : Fin 2 → ℕ) a ≤ (y a).val ∧ (y a).val < (![(y 0).val, 0] : Fin 2 → ℕ) a + S1x1024.size a := by
  have h1 : (y 1).val < 1024 := (y 1).isLt
  intro a
  match a with
  | ⟨0, _⟩ => show (y 0).val ≤ (y 0).val ∧ (y 0).val < (y 0).val + 1; omega
  | ⟨1, _⟩ => show 0 ≤ (y 1).val ∧ (y 1).val < 0 + 1024; omega

/-- The results, row by row: the eight rows cover each of them. -/
theorem finAll_fst (a : Acc F) (o : Vec F S8x1024 .f32 × Vec F S8x1024 .f32) (y : S8x1024.Idx) :
    (finAll a o).1 y = topVal (shardOf (y 0) a.1) (Rect.unitLocal (s := S8x1024) y (row_inside y)) := by
  unfold finAll
  rw [foldl_fst_eq]
  exact foldl_put_hit (s := S8x1024) _ (fun g : Fin 8 => ![g.val, 0]) S1x1024.size _ o.1 y (y 0) (mem_shards _) (row_inside y) fun g _ h => by
    have h0 : g.val ≤ (y 0).val ∧ (y 0).val < g.val + 1 := h 0
    exact Fin.ext (by omega)

theorem finAll_snd (a : Acc F) (o : Vec F S8x1024 .f32 × Vec F S8x1024 .f32) (y : S8x1024.Idx) :
    (finAll a o).2 y = sumVal (shardOf (y 0) a.1) (shardOf (y 0) a.2) (Rect.unitLocal (s := S8x1024) y (row_inside y)) := by
  unfold finAll
  rw [foldl_snd_eq]
  exact foldl_put_hit (s := S8x1024) _ (fun g : Fin 8 => ![g.val, 0]) S1x1024.size _ o.2 y (y 0) (mem_shards _) (row_inside y) fun g _ h => by
    have h0 : g.val ≤ (y 0).val ∧ (y 0).val < g.val + 1 := h 0
    exact Fin.ext (by omega)

/-- The results after a token block's last chunk. -/
def finFull (a : Acc F) : Vec F S8x1024 .f32 × Vec F S8x1024 .f32 :=
  finAll a (broadcast S8x1024 (Scalar.ofBits (F := F) .f32 0x00000000#32), broadcast S8x1024 (Scalar.ofBits (F := F) .f32 0x00000000#32))

theorem finAll_eq (a : Acc F) (o : Vec F S8x1024 .f32 × Vec F S8x1024 .f32) : finAll a o = finFull a :=
  Prod.ext (funext fun y => (finAll_fst a o y).trans (finAll_fst a _ y).symm) (funext fun y => (finAll_snd a o y).trans (finAll_snd a _ y).symm)

/-- One chunk. -/
def chunkStep (i : grid0.Coords) (w : Vec F S768x2048 .fp8e4m3) (ws : Vec F S1x8x96 .f32) (h : Vec F S1024x2048 .fp8e4m3) (hs : Vec F S1x1024 .f32) (a : Acc F) : Acc F :=
  dotsStep i w h hs (wsFull ws) a

variable (c : Dev nD) (E : Set ℕ) (Q : PUnit.{1} → sProp (MT nD τ sig Unit (Elt F) ℕ (UR sig nD τ) ℕ))
variable (i : grid0.Coords) (arg2 : Memref sig .tc .vmem S768x2048 .fp8e4m3) (arg3 : Memref sig .tc .vmem S1x8x96 .f32)
  (arg4 : Memref sig .tc .vmem S1024x2048 .fp8e4m3) (arg5 : Memref sig .tc .vmem S1x1024 .f32)
  (arg6 arg7 : Memref sig .tc .vmem S8x1024 .f32) (arg8 arg9 : Memref sig .tc .vmem S8x8x1024 .f32)
  (arg10 : Memref sig .tc .vmem S768x128 .f32)
variable (w : Vec F S768x2048 .fp8e4m3) (ws : Vec F S1x8x96 .f32) (h : Vec F S1024x2048 .fp8e4m3) (hs : Vec F S1x1024 .f32)
  (a : Acc F) (b : Vec F S768x128 .f32)

/-- The inputs, the two accumulators and the spread row scales, owned. -/
abbrev held (a : Acc F) (b : Vec F S768x128 .f32) : sProp (MT nD τ sig Unit (Elt F) ℕ (UR sig nD τ) ℕ) :=
  iprop(owns (c : Thread nD τ) arg2 fullShare w ∗ owns (c : Thread nD τ) arg3 fullShare ws ∗ owns (c : Thread nD τ) arg4 fullShare h
    ∗ owns (c : Thread nD τ) arg5 fullShare hs ∗ owns (c : Thread nD τ) arg8 fullShare a.1 ∗ owns (c : Thread nD τ) arg9 fullShare a.2
    ∗ owns (c : Thread nD τ) arg10 fullShare b)

/-- The spread of the row scales, -/
theorem wsAllK_wp (K : BodyProg F) :
    owns (c : Thread nD τ) arg10 fullShare b
      ⊢ iprop((owns (c : Thread nD τ) arg10 fullShare (wsFull ws) -∗ bwp (F := F) c E Q K)
        -∗ bwp (F := F) c E Q (wsAllK arg10 (shapeCast S8x96 (VecWindow.window ws ![0, 0, 0] S1x8x96.size inb_S1x8x96_S1x8x96_0_0_0) shapeCasts_S1x8x96_S8x96) K)) := by
  rw [show wsFull ws = wsAll ws b from wsAll_eq ws _ b]
  exact wss_wp c E Q arg10 _ K (List.finRange 96) b

/-- the four dots with their blocks, -/
theorem dotsK_wp (K : BodyProg F) :
    iprop(owns (c : Thread nD τ) arg2 fullShare w ∗ owns (c : Thread nD τ) arg4 fullShare h ∗ owns (c : Thread nD τ) arg5 fullShare hs ∗ owns (c : Thread nD τ) arg8 fullShare a.1 ∗ owns (c : Thread nD τ) arg9 fullShare a.2 ∗ owns (c : Thread nD τ) arg10 fullShare (wsFull ws))
      ⊢ iprop((owns (c : Thread nD τ) arg2 fullShare w ∗ owns (c : Thread nD τ) arg4 fullShare h ∗ owns (c : Thread nD τ) arg5 fullShare hs ∗ owns (c : Thread nD τ) arg8 fullShare (chunkStep i w ws h hs a).1 ∗ owns (c : Thread nD τ) arg9 fullShare (chunkStep i w ws h hs a).2 ∗ owns (c : Thread nD τ) arg10 fullShare (wsFull ws)
          -∗ bwp (F := F) c E Q K)
        -∗ bwp (F := F) c E Q (dotsK i arg2 arg4 arg5 arg8 arg9 arg10 K)) := by
  unfold dotsK chunkStep dotsStep
  generalize wsFull ws = b
  generalize ([0, 1, 2, 3] : List (Fin 4)) = ds
  exact dots_wp c E Q i arg2 arg4 arg5 arg8 arg9 arg10 w h hs b K ds a

/-- the results, -/
theorem finAllK_wp (o : Vec F S8x1024 .f32 × Vec F S8x1024 .f32) (K : BodyProg F) :
    iprop(owns (c : Thread nD τ) arg6 fullShare o.1 ∗ owns (c : Thread nD τ) arg7 fullShare o.2 ∗ owns (c : Thread nD τ) arg8 fullShare a.1 ∗ owns (c : Thread nD τ) arg9 fullShare a.2)
      ⊢ iprop((owns (c : Thread nD τ) arg6 fullShare (finFull a).1 ∗ owns (c : Thread nD τ) arg7 fullShare (finFull a).2 ∗ owns (c : Thread nD τ) arg8 fullShare a.1 ∗ owns (c : Thread nD τ) arg9 fullShare a.2 -∗ bwp (F := F) c E Q K)
        -∗ bwp (F := F) c E Q (finAllK arg6 arg7 arg8 arg9 K)) := by
  rw [← finAll_eq a o]
  exact fins_wp c E Q arg6 arg7 arg8 arg9 a K [0, 1, 2, 3, 4, 5, 6, 7] o

/-- and the end. -/
theorem ret_wp : Q ⟨⟩ ⊢ bwp (F := F) c E Q (.ret ⟨⟩) := by
  rw [bwp, wp_ret]
  exact fupd_intro

/-- A chunk that is not a token block's last. -/
theorem mainK_wp_mid (hc : ¬ k0_cond2 i = 1#1) :
    held c arg2 arg3 arg4 arg5 arg8 arg9 arg10 w ws h hs a b
      ⊢ iprop((held c arg2 arg3 arg4 arg5 arg8 arg9 arg10 w ws h hs (chunkStep i w ws h hs a) (wsFull ws) -∗ Q ⟨⟩)
        -∗ bwp (F := F) c E Q (mainK i arg2 arg3 arg4 arg5 arg6 arg7 arg8 arg9 arg10)) := by
  iintro ⟨H2, H3, H4, H5, H8, H9, H10⟩ HK
  unfold mainK
  iapply (wp_ld Variants.none (c : Thread nD τ) none E (m := arg3)) $$ H3
  iintro H3
  iapply (wsAllK_wp c E Q arg10 ws b) $$ H10
  iintro H10
  iapply (dotsK_wp c E Q i arg2 arg4 arg5 arg8 arg9 arg10 w ws h hs a) $$ [H2 H4 H5 H8 H9 H10]
  · isplitl [H2]; · iexact H2
    isplitl [H4]; · iexact H4
    isplitl [H5]; · iexact H5
    isplitl [H8]; · iexact H8
    isplitl [H9]; · iexact H9
    iexact H10
  iintro ⟨H2, H4, H5, H8, H9, H10⟩
  rw [dif_neg hc]
  iapply (ret_wp c E Q)
  iapply HK
  isplitl [H2]; · iexact H2
  isplitl [H3]; · iexact H3
  isplitl [H4]; · iexact H4
  isplitl [H5]; · iexact H5
  isplitl [H8]; · iexact H8
  isplitl [H9]; · iexact H9
  iexact H10

/-- A token block's last chunk. -/
theorem mainK_wp_last (hc : k0_cond2 i = 1#1) (o : Vec F S8x1024 .f32 × Vec F S8x1024 .f32) :
    iprop(held c arg2 arg3 arg4 arg5 arg8 arg9 arg10 w ws h hs a b ∗ owns (c : Thread nD τ) arg6 fullShare o.1 ∗ owns (c : Thread nD τ) arg7 fullShare o.2)
      ⊢ iprop((held c arg2 arg3 arg4 arg5 arg8 arg9 arg10 w ws h hs (chunkStep i w ws h hs a) (wsFull ws)
            ∗ owns (c : Thread nD τ) arg6 fullShare (finFull (chunkStep i w ws h hs a)).1 ∗ owns (c : Thread nD τ) arg7 fullShare (finFull (chunkStep i w ws h hs a)).2 -∗ Q ⟨⟩)
        -∗ bwp (F := F) c E Q (mainK i arg2 arg3 arg4 arg5 arg6 arg7 arg8 arg9 arg10)) := by
  iintro ⟨⟨H2, H3, H4, H5, H8, H9, H10⟩, H6, H7⟩ HK
  unfold mainK
  iapply (wp_ld Variants.none (c : Thread nD τ) none E (m := arg3)) $$ H3
  iintro H3
  iapply (wsAllK_wp c E Q arg10 ws b) $$ H10
  iintro H10
  iapply (dotsK_wp c E Q i arg2 arg4 arg5 arg8 arg9 arg10 w ws h hs a) $$ [H2 H4 H5 H8 H9 H10]
  · isplitl [H2]; · iexact H2
    isplitl [H4]; · iexact H4
    isplitl [H5]; · iexact H5
    isplitl [H8]; · iexact H8
    isplitl [H9]; · iexact H9
    iexact H10
  iintro ⟨H2, H4, H5, H8, H9, H10⟩
  rw [dif_pos hc]
  iapply (finAllK_wp c E Q arg6 arg7 arg8 arg9 (chunkStep i w ws h hs a) o) $$ [H6 H7 H8 H9]
  · isplitl [H6]; · iexact H6
    isplitl [H7]; · iexact H7
    isplitl [H8]; · iexact H8
    iexact H9
  iintro ⟨H6, H7, H8, H9⟩
  iapply (ret_wp c E Q)
  iapply HK
  isplitl [H2 H3 H4 H5 H8 H9 H10]
  · isplitl [H2]; · iexact H2
    isplitl [H3]; · iexact H3
    isplitl [H4]; · iexact H4
    isplitl [H5]; · iexact H5
    isplitl [H8]; · iexact H8
    isplitl [H9]; · iexact H9
    iexact H10
  isplitl [H6]; · iexact H6
  iexact H7

end Cert.KernelIdeal.Gen

end
-- ==== Proof.KernelIdeal.Frame.lean ====
/- The run of the pipeline: what the scratch holds after every point, what is written back, and that the arguments end
   unchanged. -/
module

public import proofs.«01_k».proof.Proof.KernelIdeal.Body
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions, and where the results' windows are idle -/

theorem lt_2505 (t : Fin cfg0.N) : t.val < 2505 := Nat.lt_of_lt_of_eq t.isLt N_0

theorem coords0 (t : Fin cfg0.N) : (grid0.coords t 0).val = t.val / 167 := by
  have e0 : (grid0.coords t 0).val = t.val / 167 % 15 := Pipeline.Grid.coords_val t 0 (by decide) rfl
  have := lt_2505 t
  omega

theorem coords1 (t : Fin cfg0.N) : (grid0.coords t 1).val = t.val % 167 := by
  have e1 : (grid0.coords t 1).val = t.val / 1 % 167 := Pipeline.Grid.coords_val t 1 (by decide) rfl
  omega

/-- The scratch starts afresh at a token block's first chunk. -/
theorem first_iff (t : Fin cfg0.N) : condFirst (grid0.coords t) ↔ t.val % 167 = 0 := by
  have ht := lt_2505 t
  have e1 := coords1 t
  simp only [condFirst, e1]
  word_cmp

/-- The results are stored at its last. -/
theorem last_iff (t : Fin cfg0.N) : k0_cond2 (grid0.coords t) = 1#1 ↔ t.val % 167 = 166 := by
  have ht := lt_2505 t
  have e1 := coords1 t
  simp only [k0_cond2, e1]
  word_cmp

theorem idle4 (t : Fin cfg0.N) (h : ¬ t.val % 167 = 166) : cfg0.idle 4 (grid0.coords t) = true := by
  show (!(k0_cond2 (grid0.coords t) == 1#1)) = true
  have h' : ¬ k0_cond2 (grid0.coords t) = 1#1 := fun e => h ((last_iff t).mp e)
  simpa using h'

theorem idle5 (t : Fin cfg0.N) (h : ¬ t.val % 167 = 166) : cfg0.idle 5 (grid0.coords t) = true := by
  show (!(k0_cond2 (grid0.coords t) == 1#1)) = true
  have h' : ¬ k0_cond2 (grid0.coords t) = 1#1 := fun e => h ((last_iff t).mp e)
  simpa using h'

theorem live4 (t : Fin cfg0.N) (h : t.val % 167 = 166) : cfg0.idle 4 (grid0.coords t) = false := by
  show (!(k0_cond2 (grid0.coords t) == 1#1)) = false
  have h' : k0_cond2 (grid0.coords t) = 1#1 := (last_iff t).mpr h
  simpa using h'

theorem live5 (t : Fin cfg0.N) (h : t.val % 167 = 166) : cfg0.idle 5 (grid0.coords t) = false := by
  show (!(k0_cond2 (grid0.coords t) == 1#1)) = false
  have h' : k0_cond2 (grid0.coords t) = 1#1 := (last_iff t).mpr h
  simpa using h'

theorem noFlush4 (t : Fin cfg0.N) (h : ¬ t.val % 167 = 166) : (cfg0.win 4).flush t = false :=
  Bool.eq_false_iff.mpr fun e => h ((flush0_4 t).mp e)

theorem noFlush5 (t : Fin cfg0.N) (h : ¬ t.val % 167 = 166) : (cfg0.win 5).flush t = false :=
  Bool.eq_false_iff.mpr fun e => h ((flush0_5 t).mp e)

/-! ## The memrefs of a point -/

abbrev ms0 (t : Fin cfg0.N) : Memref sig .tc .vmem S768x2048 .fp8e4m3 := win0_0.stage (cfg0.slots t 0)
abbrev ms1 (t : Fin cfg0.N) : Memref sig .tc .vmem S1x8x96 .f32 := win0_1.stage (cfg0.slots t 1)
abbrev ms2 (t : Fin cfg0.N) : Memref sig .tc .vmem S1024x2048 .fp8e4m3 := win0_2.stage (cfg0.slots t 2)
abbrev ms3 (t : Fin cfg0.N) : Memref sig .tc .vmem S1x1024 .f32 := win0_3.stage (cfg0.slots t 3)
abbrev ms4 (t : Fin cfg0.N) : Memref sig .tc .vmem S8x1024 .f32 := win0_4.stage (cfg0.slots t 4)
abbrev ms5 (t : Fin cfg0.N) : Memref sig .tc .vmem S8x1024 .f32 := win0_5.stage (cfg0.slots t 5)
abbrev sc0 : Memref sig .tc .vmem S8x8x1024 .f32 := Memref.whole cc0_scratch0
abbrev sc1 : Memref sig .tc .vmem S8x8x1024 .f32 := Memref.whole cc0_scratch1
abbrev sc2 : Memref sig .tc .vmem S768x128 .f32 := Memref.whole cc0_scratch2

/-! ## What the scratch holds after each point -/

/-- The chunk of point `t`, over accumulators `a`. -/
def stepAt (c : Dev nD) (t : Fin cfg0.N) (a : Acc F) : Acc F :=
  chunkStep (grid0.coords t) (iblk m c 0 t) (iblk m c 1 t) (iblk m c 2 t) (iblk m c 3 t) a

/-- The accumulators after point `n`. -/
def accAt (c : Dev nD) : (n : ℕ) → n < cfg0.N → Acc F
  | 0, hn => stepAt m c ⟨0, hn⟩ acc0
  | n + 1, hn => stepAt m c ⟨n + 1, hn⟩ (if (n + 1) % 167 = 0 then acc0 else accAt c n (Nat.lt_of_succ_lt hn))

theorem accAt_first (c : Dev nD) (t : Fin cfg0.N) (h : t.val % 167 = 0) : accAt m c t.val t.isLt = stepAt m c t acc0 := by
  obtain ⟨n, hn⟩ := t
  cases n with
  | zero => rfl
  | succ n => exact congrArg (stepAt m c ⟨n + 1, hn⟩) (if_pos h)

theorem accAt_later (c : Dev nD) (t : Fin cfg0.N) (h : ¬ t.val % 167 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n => exact congrArg (stepAt m c ⟨n + 1, hn⟩) (if_neg h)

/-- Before the first point anything; afterwards the accumulators at `accAt`. -/
def PhiS (c : Dev nD) : (n : ℕ) → n ≤ cfg0.N → sProp 𝕄
  | 0, _ => Pipeline.ΦA spec0 c
  | n + 1, hn => iprop(iprop(owns (c : Thread nD τ) sc0 fullShare (accAt m c n hn).1 ∗ owns (c : Thread nD τ) sc1 fullShare (accAt m c n hn).2 ∗ (∃ d, owns (c : Thread nD τ) sc2 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) sc0 fullShare (accAt m c n hn).1 ∗ owns (c : Thread nD τ) sc1 fullShare (accAt m c n hn).2 ∗ (∃ d, owns (c : Thread nD τ) sc2 fullShare d)) ∗ (∃ r, prngReg c r)) := rfl

theorem PhiS_pos (c : Dev nD) (n : ℕ) (h : n ≤ cfg0.N) (hz : n ≠ 0) :
    PhiS m c n h = iprop(iprop(owns (c : Thread nD τ) sc0 fullShare (accAt m c (n - 1) (by omega)).1 ∗ owns (c : Thread nD τ) sc1 fullShare (accAt m c (n - 1) (by omega)).2 ∗ (∃ d, owns (c : Thread nD τ) sc2 fullShare d)) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- Before any point the accumulators hold something. -/
theorem PhiS_some (c : Dev nD) (n : ℕ) (h : n ≤ cfg0.N) :
    PhiS m c n h ⊢ iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  by_cases hz : n = 0
  · rw [PhiS_zero m c n h hz, PhiA_eq]
  · rw [PhiS_pos m c n h hz]
    iintro ⟨⟨H0, H1, H2⟩, Hg⟩
    isplitl [H0 H1 H2]
    · isplitl [H0]
      · iexists _; iexact H0
      isplitl [H1]
      · iexists _; iexact H1
      iexact H2
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (finFull (accAt m c t.val t.isLt)).1
    | ⟨5, _⟩ => (finFull (accAt m c t.val t.isLt)).2
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (finFull (accAt m c t.val t.isLt)).1 := by dsimp only [dats]
theorem after5 (c : Dev nD) (t : Fin cfg0.N) : (dats m 0 c).after 5 t = (finFull (accAt m c t.val t.isLt)).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from rfl, after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from rfl, after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from rfl, after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from rfl, after3]
theorem leaves4 (c : Dev nD) (t : Fin cfg0.N) (h : t.val % 167 = 166) :
    (dats m 0 c).leavesExact 4 t = owns (c : Thread nD τ) (ms4 t) fullShare (finFull (accAt m c t.val t.isLt)).1 := by
  rw [show (dats m 0 c).leavesExact 4 t = owns (c : Thread nD τ) (ms4 t) fullShare ((dats m 0 c).after 4 t) from by
    unfold Dat.leavesExact; rw [live4 t h], after4]
theorem leaves5 (c : Dev nD) (t : Fin cfg0.N) (h : t.val % 167 = 166) :
    (dats m 0 c).leavesExact 5 t = owns (c : Thread nD τ) (ms5 t) fullShare (finFull (accAt m c t.val t.isLt)).2 := by
  rw [show (dats m 0 c).leavesExact 5 t = owns (c : Thread nD τ) (ms5 t) fullShare ((dats m 0 c).after 5 t) from by
    unfold Dat.leavesExact; rw [live5 t h], after5]

/-- The state of the scratch after a point, from the accumulators. -/
theorem phi_succ (c : Dev nD) (t : Fin cfg0.N) :
    (dats m 0 c).Φ t.succ = iprop(iprop(owns (c : Thread nD τ) sc0 fullShare (accAt m c t.val t.isLt).1 ∗ owns (c : Thread nD τ) sc1 fullShare (accAt m c t.val t.isLt).2 ∗ (∃ d, owns (c : Thread nD τ) sc2 fullShare d)) ∗ (∃ r, prngReg c r)) := by
  rw [show (dats m 0 c).Φ t.succ = PhiS m c (t.val + 1) t.isLt from rfl, PhiS_succ]

/-- The body after its first conditional, at any point: from accumulators `a` to the point's step. -/
theorem sound_main (c : Dev nD) (t : Fin cfg0.N) (a : Acc F) (ha : accAt m c t.val t.isLt = stepAt m c t a) :
    iprop((iprop(owns (c : Thread nD τ) sc0 fullShare a.1 ∗ owns (c : Thread nD τ) sc1 fullShare a.2 ∗ (∃ d, owns (c : Thread nD τ) sc2 fullShare d)) ∗ (∃ r, prngReg c r))
      ∗ (dats m 0 c).owesAt () t.castSucc
      ∗ owns (c : Thread nD τ) (ms0 t) fullShare (iblk m c 0 t)
      ∗ owns (c : Thread nD τ) (ms1 t) fullShare (iblk m c 1 t)
      ∗ owns (c : Thread nD τ) (ms2 t) fullShare (iblk m c 2 t)
      ∗ owns (c : Thread nD τ) (ms3 t) fullShare (iblk m c 3 t)
      ∗ (∃ d, owns (c : Thread nD τ) (ms4 t) fullShare ((dats m 0 c).before 4 t d))
      ∗ (∃ d, owns (c : Thread nD τ) (ms5 t) fullShare ((dats m 0 c).before 5 t d)))
    ⊢ bwp (F := F) c Set.univ (fun _ => bodyPost m c t) (mainK (grid0.coords t) (ms0 t) (ms1 t) (ms2 t) (ms3 t) (ms4 t) (ms5 t) sc0 sc1 sc2) := by
  unfold bodyPost
  rw [show (dats m 0 c).owesAt () t.succ = (dats m 0 c).owesAt () t.castSucc from rfl]
  rw [phi_succ, leaves0, leaves1, leaves2, leaves3, ha]
  by_cases h : t.val % 167 = 166
  · rw [leaves4 m c t h, leaves5 m c t h, ha]
    unfold stepAt
    iintro ⟨⟨⟨S0, S1, ⟨%b, S2⟩⟩, Hg⟩, Ho, H0, H1, H2, H3, ⟨%d4, H4⟩, ⟨%d5, H5⟩⟩
    iapply (mainK_wp_last c Set.univ _ (grid0.coords t) (ms0 t) (ms1 t) (ms2 t) (ms3 t) (ms4 t) (ms5 t) sc0 sc1 sc2
      (iblk m c 0 t) (iblk m c 1 t) (iblk m c 2 t) (iblk m c 3 t) a b ((last_iff t).mpr h) ((dats m 0 c).before 4 t d4, (dats m 0 c).before 5 t d5)) $$ [S0 S1 S2 H0 H1 H2 H3 H4 H5]
    · isplitl [S0 S1 S2 H0 H1 H2 H3]
      · isplitl [H0]; · iexact H0
        isplitl [H1]; · iexact H1
        isplitl [H2]; · iexact H2
        isplitl [H3]; · iexact H3
        isplitl [S0]; · iexact S0
        isplitl [S1]; · iexact S1
        iexact S2
      isplitl [H4]; · iexact H4
      iexact H5
    iintro ⟨⟨H0, H1, H2, H3, S0, S1, S2⟩, H4, H5⟩
    isplitl [S0 S1 S2 Hg]
    · isplitl [S0 S1 S2]
      · isplitl [S0]; · iexact S0
        isplitl [S1]; · iexact S1
        iexists _; iexact S2
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m 0 c) 4 t (idle4 t h) (noFlush4 t h), Dat.leavesExact_idle (dats m 0 c) 5 t (idle5 t h) (noFlush5 t h)]
    unfold stepAt
    iintro ⟨⟨⟨S0, S1, ⟨%b, S2⟩⟩, Hg⟩, Ho, H0, H1, H2, H3, ⟨%d4, H4⟩, ⟨%d5, H5⟩⟩
    iapply (mainK_wp_mid c Set.univ _ (grid0.coords t) (ms0 t) (ms1 t) (ms2 t) (ms3 t) (ms4 t) (ms5 t) sc0 sc1 sc2
      (iblk m c 0 t) (iblk m c 1 t) (iblk m c 2 t) (iblk m c 3 t) a b (fun e => h ((last_iff t).mp e))) $$ [S0 S1 S2 H0 H1 H2 H3]
    · isplitl [H0]; · iexact H0
      isplitl [H1]; · iexact H1
      isplitl [H2]; · iexact H2
      isplitl [H3]; · iexact H3
      isplitl [S0]; · iexact S0
      isplitl [S1]; · iexact S1
      iexact S2
    iintro ⟨H0, H1, H2, H3, S0, S1, S2⟩
    isplitl [S0 S1 S2 Hg]
    · isplitl [S0 S1 S2]
      · isplitl [S0]; · iexact S0
        isplitl [S1]; · iexact S1
        iexists _; iexact S2
      iexact Hg
    isplitl [Ho]; · iexact Ho
    isplitl [H0]; · iexact H0
    isplitl [H1]; · iexact H1
    isplitl [H2]; · iexact H2
    isplitl [H3]; · iexact H3
    isplitl [H4]
    · iexists _; iexact H4
    iexists _; iexact H5

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyAt0
  simp only [before0, before1, before2, before3]
  rw [PhiS_castSucc]
  by_cases h : t.val % 167 = 0
  · rw [body_first (F := F) (h := (first_iff t).mpr h)]
    refine (sep_mono (PhiS_some m c t.val (Nat.le_of_lt t.isLt)) .rfl).trans ?_
    iintro ⟨⟨⟨⟨%m0, S0⟩, ⟨%s0, S1⟩, S2⟩, Hg⟩, Ho, ⟨%d0, H0⟩, ⟨%d1, H1⟩, ⟨%d2, H2⟩, ⟨%d3, H3⟩, H4, H5⟩
    iapply (initK_wp c Set.univ _ sc0 sc1 (m0, s0)) $$ [S0 S1]
    · isplitl [S0]; · iexact S0
      iexact S1
    iintro ⟨S0, S1⟩
    iapply (sound_main m c t acc0 (accAt_first m c t h))
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [body_later (F := F) (h := fun e => h ((first_iff t).mp e))]
    rw [PhiS_pos m c t.val (Nat.le_of_lt t.isLt) (fun e => h (by rw [e]))]
    iintro ⟨HS, Ho, ⟨%d0, H0⟩, ⟨%d1, H1⟩, ⟨%d2, H2⟩, ⟨%d3, H3⟩, H4, H5⟩
    iapply (sound_main m c t _ (accAt_later m c t h))
    isplitl [HS]; · iexact HS
    isplitl [Ho]; · iexact Ho
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  exact PhiS_some m c _ _

/-! ## The run -/

set_option backward.isDefEq.respectTransparency.types false in
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Math.lean ====
/- The mathematics of a running maximum with a running sum of exponentials, over the extended reals.

   For a finite set of places `S` and numbers `x v`, the pair `(m, s)` tracks `S` when `m` is the maximum of the numbers and `s` is the sum
   of `exp (x v - m)`.  More places may be taken in by rescaling `s`, and several tracked sets may be put together. -/
module

public import Idealize.ShloMosaic.PureOps.Ideal

@[expose] public section

noncomputable section

namespace Cert.SoftMath

open Idealize.ShloMosaic

/-- A power of two of a number over the logarithm of two is its exponential. -/
theorem exp2_log2e (y : EReal) : Ideal.exp2 (y * (((Real.log 2)⁻¹ : ℝ) : EReal)) = Ideal.exp y := by
  have hpos : (0 : ℝ) < (Real.log 2)⁻¹ := inv_pos.mpr (Real.log_pos one_lt_two)
  induction y using EReal.rec with
  | bot => rw [EReal.bot_mul_coe_of_pos hpos]; rfl
  | top => rw [EReal.top_mul_coe_of_pos hpos]; rfl
  | coe r =>
    rw [← EReal.coe_mul, Ideal.exp2_coe, Ideal.exp_coe]
    congr 1
    change (2 : ℝ) ^ (r * (Real.log 2)⁻¹) = _
    rw [Real.rpow_def_of_pos two_pos]
    congr 1
    have := (Real.log_pos one_lt_two).ne'
    field_simp

theorem exp_nonneg (y : EReal) : 0 ≤ Ideal.exp y := by
  induction y using EReal.rec with
  | bot => exact le_refl _
  | top => exact le_top
  | coe r => exact EReal.coe_nonneg.mpr (Real.exp_nonneg r)

/-- Moving an exponential from one bound to a larger one. -/
theorem exp_rescale {x M M' : EReal} (h : x ≤ M) (h' : M ≤ M') :
    Ideal.exp (x - M) * Ideal.exp (M - M') = Ideal.exp (x - M') := by
  induction M' using EReal.rec with
  | bot =>
    obtain rfl := le_bot_iff.mp h'
    obtain rfl := le_bot_iff.mp h
    change (0 : EReal) * 0 = 0
    exact zero_mul _
  | top =>
    have e : ∀ y : EReal, Ideal.exp (y - ⊤) = 0 := fun y => by rw [EReal.sub_top]; rfl
    rw [e, e, mul_zero]
  | coe r' =>
    induction M using EReal.rec with
    | bot =>
      obtain rfl := le_bot_iff.mp h
      rw [EReal.bot_sub, EReal.bot_sub]
      exact zero_mul _
    | top => exact absurd (top_le_iff.mp h') (EReal.coe_ne_top r')
    | coe r =>
      induction x using EReal.rec with
      | bot => rw [EReal.bot_sub, EReal.bot_sub]; exact zero_mul _
      | top => exact absurd (top_le_iff.mp h) (EReal.coe_ne_top r)
      | coe a =>
        rw [← EReal.coe_sub, ← EReal.coe_sub, ← EReal.coe_sub, Ideal.exp_coe, Ideal.exp_coe, Ideal.exp_coe, ← EReal.coe_mul, ← Real.exp_add]
        congr 2
        ring

variable {ι : Type}

/-- A sum of nonnegative terms, times a factor. -/
theorem sum_mul_nonneg (S : Finset ι) (f : ι → EReal) (hf : ∀ v, 0 ≤ f v) (b : EReal) : (∑ v ∈ S, f v) * b = ∑ v ∈ S, f v * b := by
  classical
  induction S using Finset.induction_on with
  | empty => rw [Finset.sum_empty, Finset.sum_empty, zero_mul]
  | insert a S ha ih =>
    rw [Finset.sum_insert ha, Finset.sum_insert ha, EReal.right_distrib_of_nonneg (hf a) (Finset.sum_nonneg fun v _ => hf v), ih]

/-- The sum of the exponentials of the numbers over `S`, less `M`. -/
def esum (x : ι → EReal) (S : Finset ι) (M : EReal) : EReal := ∑ v ∈ S, Ideal.exp (x v - M)

/-- A sum of exponentials moves from one bound to a larger one. -/
theorem esum_rescale (x : ι → EReal) (S : Finset ι) {M M' : EReal} (h : ∀ v ∈ S, x v ≤ M) (h' : M ≤ M') :
    esum x S M * Ideal.exp (M - M') = esum x S M' := by
  rw [esum, sum_mul_nonneg _ _ fun v => exp_nonneg _]
  exact Finset.sum_congr rfl fun v hv => exp_rescale (h v hv) h'

/-- `m` is the maximum of the numbers over `S`, and `s` the sum of their exponentials less `m`. -/
structure Tracks (x : ι → EReal) (S : Finset ι) (m s : EReal) : Prop where
  max_eq : m = S.sup x
  sum_eq : s = esum x S m

/-- Nothing seen yet. -/
theorem Tracks.empty (x : ι → EReal) : Tracks x ∅ ⊥ 0 := ⟨rfl, rfl⟩

theorem Tracks.le {x : ι → EReal} {S : Finset ι} {m s : EReal} (h : Tracks x S m s) {v : ι} (hv : v ∈ S) : x v ≤ m := by
  rw [h.max_eq]; exact Finset.le_sup hv

/-- Taking in further places. -/
theorem Tracks.union [DecidableEq ι] {x : ι → EReal} {S : Finset ι} {m s : EReal} (h : Tracks x S m s) (T : Finset ι) (hd : Disjoint S T)
    {m' s' : EReal} (hm : m' = m ⊔ T.sup x) (hs : s' = s * Ideal.exp (m - m') + esum x T m') : Tracks x (S ∪ T) m' s' := by
  refine ⟨by rw [hm, h.max_eq, Finset.sup_union], ?_⟩
  rw [hs, h.sum_eq, esum_rescale x S (fun v hv => h.le hv) (hm ▸ le_sup_left), esum, esum, esum, Finset.sum_union hd]

/-- Taking in the places `f k`, one for each `k`. -/
theorem Tracks.extend [DecidableEq ι] {x : ι → EReal} {S : Finset ι} {m s : EReal} (h : Tracks x S m s) {κ : Type} [Fintype κ] (f : κ → ι)
    (hf : Function.Injective f) (hd : ∀ k, f k ∉ S) {m' s' : EReal} (hm : m' = m ⊔ Finset.univ.sup fun k => x (f k))
    (hs : s' = s * Ideal.exp (m - m') + ∑ k, Ideal.exp (x (f k) - m')) : Tracks x (S ∪ Finset.univ.image f) m' s' := by
  refine h.union _ ?_ ?_ ?_
  · rw [Finset.disjoint_left]
    intro v hv hv'
    obtain ⟨k, -, rfl⟩ := Finset.mem_image.mp hv'
    exact hd k hv
  · rw [hm, Finset.sup_image]; rfl
  · rw [hs, esum, Finset.sum_image fun a _ b _ e => hf e]

/-- Putting tracked sets together: the maximum. -/
theorem sup_of_tracks [DecidableEq ι] {κ : Type} [Fintype κ] {x : ι → EReal} {S : κ → Finset ι} {m s : κ → EReal} (h : ∀ j, Tracks x (S j) (m j) (s j)) :
    (Finset.univ.sup m) = (Finset.univ.biUnion S).sup x := by
  rw [Finset.sup_biUnion]
  exact Finset.sup_congr rfl fun j _ => (h j).max_eq

/-- Putting tracked sets together: the sum. -/
theorem sum_of_tracks [DecidableEq ι] {κ : Type} [Fintype κ] {x : ι → EReal} {S : κ → Finset ι} {m s : κ → EReal} (h : ∀ j, Tracks x (S j) (m j) (s j))
    (hd : ∀ j k, j ≠ k → Disjoint (S j) (S k)) :
    (∑ j, s j * Ideal.exp (m j - Finset.univ.sup m)) = esum x (Finset.univ.biUnion S) (Finset.univ.sup m) := by
  rw [esum, Finset.sum_biUnion fun j _ k _ e => hd j k e]
  refine Finset.sum_congr rfl fun j _ => ?_
  rw [(h j).sum_eq]
  exact esum_rescale x (S j) (fun v hv => (h j).le hv) (Finset.le_sup (f := m) (Finset.mem_univ j))

end Cert.SoftMath
-- ==== Proof.KernelIdeal.Block.lean ====
/- One block of the kernel's body at the extended reals, place by place: which logits it takes in, and what it leaves in the accumulators. -/
module

public import proofs.«01_k».proof.Proof.KernelIdeal.Frame
public import proofs.«01_k».proof.Proof.Math
public import Idealize.ShloMosaic.Lib.ValueIdx
public import Idealize.ShloMosaic.Lib.ValueLayout
public import Idealize.ShloMosaic.Lib.Pipeline.Value
public import Idealize.ShloMosaic.PureOps.Ideal.Laws
public import Idealize.ShloMosaic.Lib.MatmulPlain

@[expose] public section

set_option maxRecDepth 16384

noncomputable section

namespace Cert.KernelIdeal.Gen

open Idealize.ShloMosaic Idealize.ShloMosaic.ValueIdx
open Cert.SoftMath

/-! ## Where a block lies -/

/-- The shard of the 96-row group `n` of a chunk. -/
theorem shardW_eq (i : grid0.Coords) (n : Fin 8) : shardW i (BitVec.ofNat 32 n.val) = (8 * (i 1).val + n.val) / 167 := by
  have e : ∀ (c : Fin 167) (n : Fin 8), k0_off1 (fun a => match a with | ⟨0, _⟩ => (0 : Fin 15) | ⟨1, _⟩ => c) (BitVec.ofNat 32 n.val) 0 = (8 * c.val + n.val) / 167 := by
    decide +kernel
  exact e (i 1) n

theorem blkOf_apply (i : grid0.Coords) (n l : Fin 8) (x : Vec Ideal S8x8x1024 .f32) (j : Fin 8) (t : Fin 128) (g : Fin 8) (τ : Fin 1024)
    (hg : (8 * (i 1).val + n.val) / 167 = g.val) (hτ : τ.val = 128 * l.val + t.val) : blkOf i n l x (ix2 j t) = x (ix3 g j τ) := by
  refine (shapeCast_1ab_ab_apply (a := 8) (b := 128) _ _ j t).trans (congrArg x (funext fun a => Fin.ext ?_))
  match a with
  | ⟨0, _⟩ => exact (congrArg (· + 1 * 0) (shardW_eq i n)).trans hg
  | ⟨1, _⟩ => show 0 + 1 * j.val = j.val; omega
  | ⟨2, _⟩ => show 128 * l.val + 1 * t.val = τ.val; omega

theorem blkPut_hit (i : grid0.Coords) (n l : Fin 8) (x : Vec Ideal S8x8x1024 .f32) (w : FVec Ideal S8x128 .f32) (j : Fin 8) (t : Fin 128) (g : Fin 8) (τ : Fin 1024)
    (hg : (8 * (i 1).val + n.val) / 167 = g.val) (hτ : τ.val = 128 * l.val + t.val) : blkPut i n l x w (ix3 g j τ) = w (ix2 j t) := by
  have hs := shardW_eq i n
  have hj := j.isLt
  have ht := t.isLt
  have h : ∀ a, offS i n l a ≤ ((ix3 g j τ : S8x8x1024.Idx) a).val ∧ ((ix3 g j τ : S8x8x1024.Idx) a).val < offS i n l a + S1x8x128.size a := by
    intro a
    match a with
    | ⟨0, _⟩ => show shardW i _ ≤ g.val ∧ g.val < shardW i _ + 1; omega
    | ⟨1, _⟩ => show 0 ≤ j.val ∧ j.val < 0 + 8; omega
    | ⟨2, _⟩ => show 128 * l.val ≤ τ.val ∧ τ.val < 128 * l.val + 128; omega
  refine (dif_pos h).trans ?_
  have e : (Rect.unitLocal (s := S8x8x1024) (off := offS i n l) (size := S1x8x128.size) (ix3 g j τ) h : S1x8x128.Idx) = ix3 (0 : Fin 1) j t := by
    funext a
    refine Fin.ext ?_
    match a with
    | ⟨0, _⟩ => show g.val - shardW i _ = 0; omega
    | ⟨1, _⟩ => show j.val - 0 = j.val; omega
    | ⟨2, _⟩ => show τ.val - 128 * l.val = t.val; omega
  exact (congrArg _ e).trans (shapeCast_ab_1ab_apply (a := 8) (b := 128) w _ 0 j t)

theorem blkPut_miss (i : grid0.Coords) (n l : Fin 8) (x : Vec Ideal S8x8x1024 .f32) (w : FVec Ideal S8x128 .f32) (g j : Fin 8) (τ : Fin 1024)
    (h : ¬ ((8 * (i 1).val + n.val) / 167 = g.val ∧ τ.val / 128 = l.val)) : blkPut i n l x w (ix3 g j τ) = x (ix3 g j τ) := by
  refine dif_neg fun hall => h ?_
  have h0 : shardW i _ ≤ g.val ∧ g.val < shardW i _ + 1 := hall 0
  have h2 : 128 * l.val ≤ τ.val ∧ τ.val < 128 * l.val + 128 := hall 2
  rw [shardW_eq i n] at h0
  omega

/-! ## The logits of a block -/

/-- A logit of a chunk: row `r` of its 768 vocabulary rows, token `τ` of the 1024 of the token block. -/
def chunkX (w : Vec Ideal S768x2048 .fp8e4m3) (ws : Vec Ideal S1x8x96 .f32) (h : Vec Ideal S1024x2048 .fp8e4m3) (hs : Vec Ideal S1x1024 .f32)
    (r : Fin 768) (τ : Fin 1024) : EReal :=
  (∑ k : Fin 2048, w (ix2 r k) * h (ix2 τ k)) * hs (ix2 (0 : Fin 1) τ) * ws (ix3 (0 : Fin 1) (⟨r.val % 8, by omega⟩ : Fin 8) (⟨r.val / 8, by omega⟩ : Fin 96))

theorem dot_eq : dot_S384x2048_S512x2048_S384x512_1_1_0_0_n_n = DotDims.transposedRhs 384 2048 512 := rfl

theorem rawOf_apply (d : Fin 4) (w : Vec Ideal S768x2048 .fp8e4m3) (h : Vec Ideal S1024x2048 .fp8e4m3) (a : Fin 384) (b : Fin 512) (r : Fin 768) (τ : Fin 1024)
    (hr : r.val = 384 * (d.val / 2) + a.val) (hτ : τ.val = 512 * (d.val % 2) + b.val) :
    rawOf d w h (ix2 a b) = ∑ k : Fin 2048, w (ix2 r k) * h (ix2 τ k) := by
  refine (Ideal.matmul_transposedRhs_apply (M := 384) (K := 2048) (N := 512) none _ _ _ a b).trans ?_
  refine (congrArg (· + _) Ideal.ofBits_zero_f32).trans ((zero_add _).trans (Finset.sum_congr rfl fun k _ => ?_))
  congr 1
  · refine congrArg w (funext fun ax => Fin.ext ?_)
    match ax with
    | ⟨0, _⟩ => show 384 * (d.val / 2) + 1 * a.val = r.val; omega
    | ⟨1, _⟩ => show 0 + 1 * k.val = k.val; omega
  · refine (congrFun (shapeCast_self _ _) _).trans (congrArg h (funext fun ax => Fin.ext ?_))
    match ax with
    | ⟨0, _⟩ => show 512 * (d.val % 2) + 1 * b.val = τ.val; omega
    | ⟨1, _⟩ => show 0 + 1 * k.val = k.val; omega

/-- The spread row scales: lane `t` of row `8 k + j` holds scale `k` of sublane `j`. -/
theorem wsFull_apply (ws : Vec Ideal S1x8x96 .f32) (r : Fin 768) (t : Fin 128) :
    wsFull ws (ix2 r t) = ws (ix3 (0 : Fin 1) (⟨r.val % 8, by omega⟩ : Fin 8) (⟨r.val / 8, by omega⟩ : Fin 96)) := by
  have hr := r.isLt
  have ht := t.isLt
  have hy : ∀ a, (![8 * (⟨r.val / 8, by omega⟩ : Fin 96).val, 0] : Fin 2 → ℕ) a ≤ ((ix2 r t : S768x128.Idx) a).val
      ∧ ((ix2 r t : S768x128.Idx) a).val < (![8 * (⟨r.val / 8, by omega⟩ : Fin 96).val, 0] : Fin 2 → ℕ) a + S8x128.size a := by
    intro a
    match a with
    | ⟨0, _⟩ => show 8 * (r.val / 8) ≤ r.val ∧ r.val < 8 * (r.val / 8) + 8; omega
    | ⟨1, _⟩ => show 0 ≤ t.val ∧ t.val < 0 + 128; omega
  refine (wsAll_apply ws _ (ix2 r t) ⟨r.val / 8, by omega⟩ hy).trans ?_
  have e : (Rect.unitLocal (s := S768x128) (size := S8x128.size) (ix2 r t) hy : S8x128.Idx) = ix2 (⟨r.val % 8, by omega⟩ : Fin 8) t := by
    funext a
    refine Fin.ext ?_
    match a with
    | ⟨0, _⟩ => show r.val - 8 * (r.val / 8) = r.val % 8; omega
    | ⟨1, _⟩ => show t.val - 0 = t.val; omega
  refine (congrArg _ e).trans ?_
  unfold wsVal
  rw [shapeCast_self]
  refine (broadcastTo_apply _ _ _ (ix2 (⟨r.val % 8, by omega⟩ : Fin 8) (0 : Fin 1)) fun a => ?_).trans ?_
  · match a with
    | ⟨0, _⟩ => rfl
    | ⟨1, _⟩ => rfl
  rw [shapeCast_self]
  refine (extractStridedSlice_apply _ _ _ _ (ix2 (⟨r.val % 8, by omega⟩ : Fin 8) (⟨r.val / 8, by omega⟩ : Fin 96)) fun a => ?_).trans ?_
  · match a with
    | ⟨0, _⟩ => show r.val % 8 = 0 + r.val % 8; omega
    | ⟨1, _⟩ => show r.val / 8 = r.val / 8 + 0; omega
  refine (shapeCast_1ab_ab_apply (a := 8) (b := 96) _ _ _ _).trans (congrArg ws (funext fun a => Fin.ext ?_))
  match a with
  | ⟨0, _⟩ => rfl
  | ⟨1, _⟩ => show 0 + 1 * (r.val % 8) = r.val % 8; omega
  | ⟨2, _⟩ => show 0 + 1 * (r.val / 8) = r.val / 8; omega

/-- Row group `k` of block `(u, q)` of dot `d`. -/
theorem blkX_apply (d : Fin 4) (w : Vec Ideal S768x2048 .fp8e4m3) (ws : Vec Ideal S1x8x96 .f32) (h : Vec Ideal S1024x2048 .fp8e4m3) (hs : Vec Ideal S1x1024 .f32)
    (u q : Fin 4) (k : Fin 12) (j : Fin 8) (t : Fin 128) (r : Fin 768) (τ : Fin 1024)
    (hr : r.val = 96 * (subOf d u).val + 8 * k.val + j.val) (hτ : τ.val = 128 * (laneOf d q).val + t.val) :
    blkX d (rawOf d w h) hs (wsFull ws) u q k (ix2 j t) = chunkX w ws h hs r τ := by
  have hj := j.isLt
  have hk := k.isLt
  have ht := t.isLt
  have hu : (subOf d u).val = 4 * (d.val / 2) + u.val := rfl
  have hq : (laneOf d q).val = 4 * (d.val % 2) + q.val := rfl
  have hg : (rowG d u k).val = 48 * (d.val / 2) + 12 * u.val + k.val := rfl
  unfold chunkX
  refine congr (congrArg HMul.hMul (congr (congrArg HMul.hMul ?_) ?_)) ?_
  · refine (extractStridedSlice_apply _ _ _ _ (ix2 (⟨96 * u.val + 8 * k.val + j.val, by omega⟩ : Fin 384) (⟨128 * q.val + t.val, by omega⟩ : Fin 512)) fun a => ?_).trans ?_
    · match a with
      | ⟨0, _⟩ => rfl
      | ⟨1, _⟩ => rfl
    · refine rawOf_apply d w h _ _ r τ ?_ ?_
      · show r.val = 384 * (d.val / 2) + (96 * u.val + 8 * k.val + j.val); omega
      · show τ.val = 512 * (d.val % 2) + (128 * q.val + t.val); omega
  · refine (broadcastTo_1b_ab_apply (a := 8) (b := 128) _ _ j t).trans ?_
    refine (congrFun (shapeCast_self _ _) _).trans (congrArg hs (funext fun a => Fin.ext ?_))
    match a with
    | ⟨0, _⟩ => rfl
    | ⟨1, _⟩ => show 128 * (laneOf d q).val + 1 * t.val = τ.val; omega
  · refine Eq.trans (congrArg (wsFull ws) (funext fun a => Fin.ext ?_)) (wsFull_apply ws r t)
    match a with
    | ⟨0, _⟩ => show 8 * (rowG d u k).val + 1 * j.val = r.val; omega
    | ⟨1, _⟩ => show 0 + 1 * t.val = t.val; omega

/-! ## The running maximum and sum -/

theorem log2e_eq : (log2e (F := Ideal)) = (((Real.log 2)⁻¹ : ℝ) : EReal) :=
  IdealRules.named_const.ideal_named_scalar _ _ _ _ rfl

theorem expVal_apply (x m : FVec Ideal S8x128 .f32) (y : S8x128.Idx) : expVal x m y = Ideal.exp (x y - m y) := by
  refine Eq.trans ?_ (exp2_log2e (x y - m y))
  exact congrArg (fun b => Ideal.exp2 ((x y - m y) * b)) log2e_eq

theorem sup12 (f : Fin 12 → EReal) : Finset.univ.sup f = f 0 ⊔ f 1 ⊔ f 2 ⊔ f 3 ⊔ f 4 ⊔ f 5 ⊔ f 6 ⊔ f 7 ⊔ f 8 ⊔ f 9 ⊔ f 10 ⊔ f 11 := by
  have e : (Finset.univ : Finset (Fin 12)) = {0, 1, 2, 3, 4, 5, 6, 7, 8, 9, 10, 11} := by decide
  rw [e]
  simp only [Finset.sup_insert, Finset.sup_singleton, sup_assoc]

theorem sum12 (f : Fin 12 → EReal) : ∑ k, f k = f 0 + f 1 + f 2 + f 3 + f 4 + f 5 + f 6 + f 7 + f 8 + f 9 + f 10 + f 11 := by
  simp only [Fin.sum_univ_castSucc, Finset.univ_eq_empty, Finset.sum_empty, zero_add]
  rfl

theorem blkM_apply (m : FVec Ideal S8x128 .f32) (x : Fin 12 → FVec Ideal S8x128 .f32) (y : S8x128.Idx) :
    blkM m x y = m y ⊔ Finset.univ.sup fun k => x k y := by
  rw [sup12]
  simp only [← sup_assoc]
  rfl

theorem blkS_apply (s m : FVec Ideal S8x128 .f32) (x : Fin 12 → FVec Ideal S8x128 .f32) (y : S8x128.Idx) :
    blkS s m x y = s y * Ideal.exp (m y - blkM m x y) + ∑ k, Ideal.exp (x k y - blkM m x y) := by
  rw [sum12]
  simp only [← add_assoc, ← expVal_apply]
  rfl

end Cert.KernelIdeal.Gen
-- ==== Proof.KernelIdeal.Chunk.lean ====
/- A chunk of the vocabulary: its 64 blocks take the chunk's rows into the running maxima and sums, lane group by lane group. -/
module

public import proofs.«01_k».proof.Proof.KernelIdeal.Block

@[expose] public section

set_option maxRecDepth 16384

noncomputable section

namespace Cert.KernelIdeal.Gen

open Idealize.ShloMosaic Idealize.ShloMosaic.ValueIdx
open Cert.SoftMath

/-- The vocabulary rows below `b` that lie in shard `g` and in sublane `j`. -/
def rowsBelow (b : ℕ) (g j : Fin 8) : Finset (Fin 128256) :=
  Finset.univ.filter fun v => v.val < b ∧ v.val / 16032 = g.val ∧ v.val % 8 = j.val

theorem mem_rowsBelow (b : ℕ) (g j : Fin 8) (v : Fin 128256) : v ∈ rowsBelow b g j ↔ v.val < b ∧ v.val / 16032 = g.val ∧ v.val % 8 = j.val := by
  simp [rowsBelow]

theorem rowsBelow_zero (g j : Fin 8) : rowsBelow 0 g j = ∅ := by
  ext v; simp [mem_rowsBelow]

/-- The rows of sublane `j` in the 96-row group `N` of the vocabulary. -/
def groupRow (N : ℕ) (hN : N < 1336) (j : Fin 8) (k : Fin 12) : Fin 128256 := ⟨96 * N + 8 * k.val + j.val, by omega⟩

theorem groupRow_inj (N : ℕ) (hN : N < 1336) (j : Fin 8) : Function.Injective (groupRow N hN j) := fun k k' e => by
  have h : 96 * N + 8 * k.val + j.val = 96 * N + 8 * k'.val + j.val := congrArg Fin.val e
  exact Fin.ext (by omega)

theorem groupRow_fresh (N : ℕ) (hN : N < 1336) (g j : Fin 8) (k : Fin 12) : groupRow N hN j k ∉ rowsBelow (96 * N) g j := fun h => by
  have h1 : 96 * N + 8 * k.val + j.val < 96 * N := ((mem_rowsBelow _ _ _ _).mp h).1
  omega

/-- A 96-row group lies in one shard: there its rows are taken in, -/
theorem rowsBelow_hit (N : ℕ) (hN : N < 1336) (g j : Fin 8) (hg : N / 167 = g.val) :
    rowsBelow (96 * (N + 1)) g j = rowsBelow (96 * N) g j ∪ Finset.univ.image (groupRow N hN j) := by
  ext v
  have hv := v.isLt
  have hj := j.isLt
  rw [Finset.mem_union, mem_rowsBelow, mem_rowsBelow, Finset.mem_image]
  constructor
  · intro h
    by_cases hb : v.val < 96 * N
    · exact .inl ⟨hb, h.2⟩
    · refine .inr ⟨⟨(v.val - 96 * N) / 8, by omega⟩, Finset.mem_univ _, Fin.ext ?_⟩
      show 96 * N + 8 * ((v.val - 96 * N) / 8) + j.val = v.val
      omega
  · rintro (h | ⟨k, -, rfl⟩)
    · exact ⟨by omega, h.2⟩
    · have hk := k.isLt
      show 96 * N + 8 * k.val + j.val < 96 * (N + 1) ∧ (96 * N + 8 * k.val + j.val) / 16032 = g.val ∧ (96 * N + 8 * k.val + j.val) % 8 = j.val
      omega

/-- and elsewhere nothing is. -/
theorem rowsBelow_miss (N : ℕ) (g j : Fin 8) (hg : ¬ N / 167 = g.val) : rowsBelow (96 * (N + 1)) g j = rowsBelow (96 * N) g j := by
  ext v
  rw [mem_rowsBelow, mem_rowsBelow]
  constructor
  · intro h; exact ⟨by omega, h.2⟩
  · intro h; exact ⟨by omega, h.2⟩

variable (x : Fin 128256 → Fin 1024 → EReal)

/-- The accumulators have taken in the first `N l` groups of 96 rows in lane group `l`. -/
def Inv (N : Fin 8 → ℕ) (a : Acc Ideal) : Prop :=
  ∀ (g j : Fin 8) (τ : Fin 1024) (l : Fin 8), τ.val / 128 = l.val →
    Tracks (fun v => x v τ) (rowsBelow (96 * N l) g j) (a.1 (ix3 g j τ)) (a.2 (ix3 g j τ))

/-- The word of minus infinity. -/
theorem negInf_eq : Ideal.ofBits .f32 0xFF800000#32 = ⊥ := by
  simp [Ideal.ofBits, Ideal.ieee, -EReal.coe_mul]

theorem inv_zero : Inv x (fun _ => 0) acc0 := by
  intro g j τ l hl
  have h1 : (acc0 (F := Ideal)).1 (ix3 g j τ) = ⊥ := by
    unfold acc0; rw [shapeCast_self]; exact negInf_eq
  have h2 : (acc0 (F := Ideal)).2 (ix3 g j τ) = 0 := by
    unfold acc0; rw [shapeCast_self]; exact Ideal.ofBits_zero_f32
  rw [h1, h2]
  show Tracks _ (rowsBelow 0 g j) _ _
  rw [rowsBelow_zero]
  exact Tracks.empty _

section Step

variable (i : grid0.Coords) (w : Vec Ideal S768x2048 .fp8e4m3) (ws : Vec Ideal S1x8x96 .f32) (h : Vec Ideal S1024x2048 .fp8e4m3) (hs : Vec Ideal S1x1024 .f32)

/-- Block `p` of dot `d` takes in one group of 96 rows in its lane group. -/
def adv (d : Fin 4) (N : Fin 8 → ℕ) (p : Fin 4 × Fin 4) : Fin 8 → ℕ :=
  Function.update N (laneOf d p.2) (N (laneOf d p.2) + 1)

theorem blkStep_inv (hx : ∀ (r : Fin 768) (τ : Fin 1024) (v : Fin 128256), v.val = 768 * (i 1).val + r.val → chunkX w ws h hs r τ = x v τ)
    (d : Fin 4) (p : Fin 4 × Fin 4) (N : Fin 8 → ℕ) (a : Acc Ideal) (ha : Inv x N a) (hN : N (laneOf d p.2) = 8 * (i 1).val + (subOf d p.1).val) :
    Inv x (adv d N p) (blkStep i d (rawOf d w h) hs (wsFull ws) a p) := by
  intro g j τ l hl
  have hi : (i 1).val < 167 := (i 1).isLt
  have hsub := (subOf d p.1).isLt
  have hτ := τ.isLt
  have old := ha g j τ l hl
  by_cases hlane : l = laneOf d p.2
  · subst hlane
    have hadv : adv d N p (laneOf d p.2) = N (laneOf d p.2) + 1 := Function.update_self ..
    by_cases hg : (8 * (i 1).val + (subOf d p.1).val) / 167 = g.val
    · have ht : τ.val = 128 * (laneOf d p.2).val + (⟨τ.val % 128, by omega⟩ : Fin 128).val := by
        show τ.val = 128 * (laneOf d p.2).val + τ.val % 128
        omega
      have eM : (blkStep i d (rawOf d w h) hs (wsFull ws) a p).1 (ix3 g j τ) = _ := blkPut_hit i _ _ _ _ j _ g τ hg ht
      have eS : (blkStep i d (rawOf d w h) hs (wsFull ws) a p).2 (ix3 g j τ) = _ := blkPut_hit i _ _ _ _ j _ g τ hg ht
      rw [blkM_apply] at eM
      rw [blkS_apply, blkM_apply] at eS
      rw [blkOf_apply i _ _ a.1 j _ g τ hg ht] at eM eS
      rw [blkOf_apply i _ _ a.2 j _ g τ hg ht] at eS
      have ex : ∀ k : Fin 12, blkX d (rawOf d w h) hs (wsFull ws) p.1 p.2 k (ix2 j (⟨τ.val % 128, by omega⟩ : Fin 128))
          = x (groupRow (8 * (i 1).val + (subOf d p.1).val) (by omega) j k) τ := fun k => by
        have hj := j.isLt
        have hk := k.isLt
        refine (blkX_apply d w ws h hs p.1 p.2 k j _ ⟨96 * (subOf d p.1).val + 8 * k.val + j.val, by omega⟩ τ rfl ht).trans (hx _ τ _ ?_)
        show 96 * (8 * (i 1).val + (subOf d p.1).val) + 8 * k.val + j.val = 768 * (i 1).val + (96 * (subOf d p.1).val + 8 * k.val + j.val)
        omega
      simp only [ex] at eM eS
      rw [← eM] at eS
      rw [hadv, hN, rowsBelow_hit _ (by omega) g j hg]
      rw [hN] at old
      exact old.extend _ (groupRow_inj _ _ j) (groupRow_fresh _ _ g j) eM eS
    · have eM : (blkStep i d (rawOf d w h) hs (wsFull ws) a p).1 (ix3 g j τ) = _ := blkPut_miss i _ _ _ _ g j τ fun hh => hg hh.1
      have eS : (blkStep i d (rawOf d w h) hs (wsFull ws) a p).2 (ix3 g j τ) = _ := blkPut_miss i _ _ _ _ g j τ fun hh => hg hh.1
      rw [eM, eS, hadv, hN, rowsBelow_miss _ g j hg, ← hN]
      exact old
  · have hadv : adv d N p l = N l := Function.update_of_ne hlane _ _
    have hne : ¬ τ.val / 128 = (laneOf d p.2).val := fun e => hlane (Fin.ext (hl.symm.trans e))
    have eM : (blkStep i d (rawOf d w h) hs (wsFull ws) a p).1 (ix3 g j τ) = _ := blkPut_miss i _ _ _ _ g j τ fun hh => hne hh.2
    have eS : (blkStep i d (rawOf d w h) hs (wsFull ws) a p).2 (ix3 g j τ) = _ := blkPut_miss i _ _ _ _ g j τ fun hh => hne hh.2
    rw [eM, eS, hadv]
    exact old

/-- Every block of a list comes when its lane group has taken in exactly the groups before it. -/
def inOrder (d : Fin 4) : (Fin 8 → ℕ) → List (Fin 4 × Fin 4) → Bool
  | _, [] => true
  | n, p :: ps => (n (laneOf d p.2) == (subOf d p.1).val) && inOrder d (adv d n p) ps

theorem blks_inv (hx : ∀ (r : Fin 768) (τ : Fin 1024) (v : Fin 128256), v.val = 768 * (i 1).val + r.val → chunkX w ws h hs r τ = x v τ)
    (d : Fin 4) (ps : List (Fin 4 × Fin 4)) (n : Fin 8 → ℕ) (a : Acc Ideal) (ha : Inv x (fun l => 8 * (i 1).val + n l) a) (ok : inOrder d n ps = true) :
    Inv x (fun l => 8 * (i 1).val + ps.foldl (adv d) n l) (ps.foldl (blkStep i d (rawOf d w h) hs (wsFull ws)) a) := by
  induction ps generalizing n a with
  | nil => exact ha
  | cons p ps ih =>
    have ok' := (Bool.and_eq_true _ _).mp ok
    refine ih (adv d n p) _ ?_ ok'.2
    have hN : n (laneOf d p.2) = (subOf d p.1).val := beq_iff_eq.mp ok'.1
    have := blkStep_inv x i w ws h hs hx d p _ a ha (congrArg (8 * (i 1).val + ·) hN)
    refine cast (congrArg (fun N => Inv x N _) (funext fun l => ?_)) this
    unfold adv
    by_cases e : l = laneOf d p.2
    · subst e; rw [Function.update_self, Function.update_self]; rfl
    · rw [Function.update_of_ne e, Function.update_of_ne e]

/-- A dot takes in four groups of 96 rows in each of its four lane groups. -/
theorem dotStep_inv (hx : ∀ (r : Fin 768) (τ : Fin 1024) (v : Fin 128256), v.val = 768 * (i 1).val + r.val → chunkX w ws h hs r τ = x v τ)
    (d : Fin 4) (n n' : Fin 8 → ℕ) (a : Acc Ideal) (ok : inOrder d n blkPairs = true) (e : ∀ l, blkPairs.foldl (adv d) n l = n' l)
    (ha : Inv x (fun l => 8 * (i 1).val + n l) a) : Inv x (fun l => 8 * (i 1).val + n' l) (dotStep i w h hs (wsFull ws) a d) := by
  have s := blks_inv x i w ws h hs hx d blkPairs n a ha ok
  have e' : (fun l => 8 * (i 1).val + blkPairs.foldl (adv d) n l) = fun l => 8 * (i 1).val + n' l := funext fun l => congrArg (8 * (i 1).val + ·) (e l)
  rw [e'] at s
  exact s

/-- The groups taken in after half of a pair of dots. -/
def half (p q : ℕ) (l : Fin 8) : ℕ := if l.val < 4 then p else q

/-- A chunk takes in eight groups of 96 rows in every lane group. -/
theorem chunkStep_inv (hx : ∀ (r : Fin 768) (τ : Fin 1024) (v : Fin 128256), v.val = 768 * (i 1).val + r.val → chunkX w ws h hs r τ = x v τ)
    (a : Acc Ideal) (ha : Inv x (fun _ => 8 * (i 1).val) a) : Inv x (fun _ => 8 * ((i 1).val + 1)) (chunkStep i w ws h hs a) := by
  have h0 : (fun _ : Fin 8 => 8 * (i 1).val) = fun l => 8 * (i 1).val + half 0 0 l := funext fun l => by unfold half; split <;> rfl
  have h4 : (fun _ : Fin 8 => 8 * ((i 1).val + 1)) = fun l => 8 * (i 1).val + half 8 8 l := funext fun l => by unfold half; split <;> omega
  rw [h0] at ha
  rw [h4]
  unfold chunkStep dotsStep
  simp only [List.foldl_cons, List.foldl_nil]
  refine dotStep_inv x i w ws h hs hx 3 (half 8 4) _ _ (by decide +kernel) (by decide +kernel) ?_
  refine dotStep_inv x i w ws h hs hx 2 (half 4 4) _ _ (by decide +kernel) (by decide +kernel) ?_
  refine dotStep_inv x i w ws h hs hx 1 (half 4 0) _ _ (by decide +kernel) (by decide +kernel) ?_
  exact dotStep_inv x i w ws h hs hx 0 (half 0 0) _ _ (by decide +kernel) (by decide +kernel) ha

end Step

end Cert.KernelIdeal.Gen
-- ==== Proof.Logit.lean ====
/- The logits and the two results in plain terms, over the four arguments: hidden states (six sequences of 2560 tokens), their scales,
   the vocabulary's rows and their scales. -/
module

public import proofs.«01_k».proof.Proof.Math
public import Idealize.ShloMosaic.Lib.ValueIdx

@[expose] public section

noncomputable section

namespace Cert.SoftMath

open Idealize.ShloMosaic Idealize.ShloMosaic.ValueIdx

/-- The logit of vocabulary row `v` at token `t`. -/
def logit (h : (⟨3, ![6, 2560, 2048]⟩ : Shape).Idx → EReal) (hs : (⟨2, ![6, 2560]⟩ : Shape).Idx → EReal)
    (w : (⟨2, ![128256, 2048]⟩ : Shape).Idx → EReal) (ws : (⟨1, ![128256]⟩ : Shape).Idx → EReal) (v : Fin 128256) (t : Fin 15360) : EReal :=
  (∑ k : Fin 2048, w (ix2 v k) * h (ix3 (⟨t.val / 2560, by omega⟩ : Fin 6) (⟨t.val % 2560, by omega⟩ : Fin 2560) k))
    * hs (ix2 (⟨t.val / 2560, by omega⟩ : Fin 6) (⟨t.val % 2560, by omega⟩ : Fin 2560)) * ws (ix1 v)

/-- The rows of shard `g`. -/
def shardRows (g : Fin 8) : Finset (Fin 128256) := Finset.univ.filter fun v => v.val / 16032 = g.val

/-- A shard's largest logit, -/
def shardMax (x : Fin 128256 → Fin 15360 → EReal) (g : Fin 8) (t : Fin 15360) : EReal := (shardRows g).sup fun v => x v t

/-- and the sum of its exponentials, less that. -/
def shardSum (x : Fin 128256 → Fin 15360 → EReal) (g : Fin 8) (t : Fin 15360) : EReal := esum (fun v => x v t) (shardRows g) (shardMax x g t)

/-- A table of shards and tokens, laid out by sequence, place and shard. -/
def byPlace (f : Fin 8 → Fin 15360 → EReal) : (⟨3, ![6, 2560, 8]⟩ : Shape).Idx → EReal :=
  fun i => f (i 2) ⟨2560 * (i 0).val + (i 1).val, by
    have h0 : (i 0).val < 6 := (i 0).isLt
    have h1 : (i 1).val < 2560 := (i 1).isLt
    omega⟩

end Cert.SoftMath
-- ==== Proof.KernelIdeal.Entry.lean ====
/- The blocks the pipeline stages, read in the kernel's arguments. -/
module

public import proofs.«01_k».proof.Proof.KernelIdeal.Chunk
public import proofs.«01_k».proof.Proof.Logit

@[expose] public section

set_option maxRecDepth 16384

noncomputable section

namespace Cert.KernelIdeal.Gen

open Idealize.ShloMosaic Idealize.ShloMosaic.TcCoe Idealize.ShloMosaic.ValueIdx Idealize.SL.Sem
open Cert.SoftMath

variable (m : (ℓ : Loc nD τ sig) → Buf (Elt Ideal) ℓ) (c : Dev nD)

/-- The logits of the arguments. -/
def argLogit (v : Fin 128256) (t : Fin 15360) : EReal :=
  logit (m ((c : Thread nD τ).loc main_arg0)) (m ((c : Thread nD τ).loc main_arg1)) (m ((c : Thread nD τ).loc main_arg2)) (m ((c : Thread nD τ).loc main_arg3)) v t

/-- The printed index maps. -/
theorem idx_facts : ∀ t : Fin cfg0.N, win0_0.index t = ![t.val % 167, 0] ∧ win0_1.index t = ![t.val % 167, 0, 0] ∧ win0_2.index t = ![t.val / 167, 0]
    ∧ win0_3.index t = ![0, t.val / 167] ∧ win0_4.index t = ![0, t.val / 167] ∧ win0_5.index t = ![0, t.val / 167] :=
  (by decide +kernel : ∀ t : Fin grid0.N, win0_0.index t = ![t.val % 167, 0] ∧ win0_1.index t = ![t.val % 167, 0, 0] ∧ win0_2.index t = ![t.val / 167, 0]
    ∧ win0_3.index t = ![0, t.val / 167] ∧ win0_4.index t = ![0, t.val / 167] ∧ win0_5.index t = ![0, t.val / 167])

/-- The vocabulary's rows. -/
theorem iblk0_apply (t : Fin cfg0.N) (r : Fin 768) (k : Fin 2048) (v : Fin 128256) (hv : v.val = 768 * (t.val % 167) + r.val) :
    (iblk m c 0 t : Vec Ideal S768x2048 .fp8e4m3) (ix2 r k) = m ((c : Thread nD τ).loc main_arg2) (ix2 v k) := by
  have e := (idx_facts t).1
  have e0 : win0_0.index t (0 : Fin 2) = t.val % 167 := congrFun e 0
  have e1 : win0_0.index t (1 : Fin 2) = 0 := congrFun e 1
  refine (congrArg (fun X => X (((cfg0.win 0).blk t).view.emb (ix2 r k))) (V_main_arg2 m c)).trans (congrArg (m ((c : Thread nD τ).loc main_arg2)) (funext fun a => Fin.ext ?_))
  match a with
  | ⟨0, _⟩ => show win0_0.index t (0 : Fin 2) * 768 + 1 * r.val = v.val; omega
  | ⟨1, _⟩ => show win0_0.index t (1 : Fin 2) * 2048 + 1 * k.val = k.val; omega

/-- Their scales. -/
theorem iblk1_apply (t : Fin cfg0.N) (j : Fin 8) (k : Fin 96) (v : Fin 128256) (hv : v.val = 768 * (t.val % 167) + 8 * k.val + j.val) :
    (iblk m c 1 t : Vec Ideal S1x8x96 .f32) (ix3 (0 : Fin 1) j k) = m ((c : Thread nD τ).loc main_arg3) (ix1 v) := by
  have e := (idx_facts t).2.1
  have e0 : win0_1.index t (0 : Fin 3) = t.val % 167 := congrFun e 0
  have e1 : win0_1.index t (1 : Fin 3) = 0 := congrFun e 1
  have e2 : win0_1.index t (2 : Fin 3) = 0 := congrFun e 2
  show V m c main_v2 (((cfg0.win 1).blk t).view.emb (ix3 (0 : Fin 1) j k)) = _
  entry_read
  have ei : ((cfg0.win 1).blk t).view.emb (ix3 (0 : Fin 1) j k) = (ix3 (⟨t.val % 167, by omega⟩ : Fin 167) j k : S167x8x96.Idx) := funext fun a => Fin.ext (by
    match a with
    | ⟨0, _⟩ => show win0_1.index t (0 : Fin 3) * 1 + 1 * 0 = t.val % 167; omega
    | ⟨1, _⟩ => show win0_1.index t (1 : Fin 3) * 8 + 1 * j.val = j.val; omega
    | ⟨2, _⟩ => show win0_1.index t (2 : Fin 3) * 96 + 1 * k.val = k.val; omega)
  refine (congrArg _ ei).trans ((transpose_ix3_021_apply _ _ _ _ _).trans (shapeCast_apply _ _ _ (ix1 v) ?_))
  refine (Shape.rowMajor_val_one (ix1 v)).trans (Eq.trans ?_ (Shape.rowMajor_val_three (ix3 (⟨t.val % 167, by omega⟩ : Fin 167) k j)).symm)
  show v.val = ((t.val % 167) * 96 + k.val) * 8 + j.val
  omega

/-- The hidden states. -/
theorem iblk2_apply (t : Fin cfg0.N) (r : Fin 1024) (k : Fin 2048) (s : Fin 15360) (hs : s.val = 1024 * (t.val / 167) + r.val) :
    (iblk m c 2 t : Vec Ideal S1024x2048 .fp8e4m3) (ix2 r k)
      = m ((c : Thread nD τ).loc main_arg0) (ix3 (⟨s.val / 2560, by omega⟩ : Fin 6) (⟨s.val % 2560, by omega⟩ : Fin 2560) k) := by
  have e := (idx_facts t).2.2.1
  have e0 : win0_2.index t (0 : Fin 2) = t.val / 167 := congrFun e 0
  have e1 : win0_2.index t (1 : Fin 2) = 0 := congrFun e 1
  show V m c main_v0 (((cfg0.win 2).blk t).view.emb (ix2 r k)) = _
  entry_read
  have ei : ((cfg0.win 2).blk t).view.emb (ix2 r k) = (ix2 s k : S15360x2048.Idx) := funext fun a => Fin.ext (by
    match a with
    | ⟨0, _⟩ => show win0_2.index t (0 : Fin 2) * 1024 + 1 * r.val = s.val; omega
    | ⟨1, _⟩ => show win0_2.index t (1 : Fin 2) * 2048 + 1 * k.val = k.val; omega)
  refine (congrArg _ ei).trans (shapeCast_apply _ _ _ _ ?_)
  refine (Shape.rowMajor_val_three (ix3 (⟨s.val / 2560, by omega⟩ : Fin 6) (⟨s.val % 2560, by omega⟩ : Fin 2560) k)).trans (Eq.trans ?_ (Shape.rowMajor_val_two (ix2 s k)).symm)
  show ((s.val / 2560) * 2560 + s.val % 2560) * 2048 + k.val = s.val * 2048 + k.val
  omega

/-- Their scales. -/
theorem iblk3_apply (t : Fin cfg0.N) (r : Fin 1024) (s : Fin 15360) (hs : s.val = 1024 * (t.val / 167) + r.val) :
    (iblk m c 3 t : Vec Ideal S1x1024 .f32) (ix2 (0 : Fin 1) r)
      = m ((c : Thread nD τ).loc main_arg1) (ix2 (⟨s.val / 2560, by omega⟩ : Fin 6) (⟨s.val % 2560, by omega⟩ : Fin 2560)) := by
  have e := (idx_facts t).2.2.2.1
  have e0 : win0_3.index t (0 : Fin 2) = 0 := congrFun e 0
  have e1 : win0_3.index t (1 : Fin 2) = t.val / 167 := congrFun e 1
  show V m c main_v3 (((cfg0.win 3).blk t).view.emb (ix2 (0 : Fin 1) r)) = _
  entry_read
  have ei : ((cfg0.win 3).blk t).view.emb (ix2 (0 : Fin 1) r) = (ix2 (0 : Fin 1) s : S1x15360.Idx) := funext fun a => Fin.ext (by
    match a with
    | ⟨0, _⟩ => show win0_3.index t (0 : Fin 2) * 1 + 1 * 0 = 0; omega
    | ⟨1, _⟩ => show win0_3.index t (1 : Fin 2) * 1024 + 1 * r.val = s.val; omega)
  refine (congrArg _ ei).trans (shapeCast_apply _ _ _ _ ?_)
  refine (Shape.rowMajor_val_two (ix2 (⟨s.val / 2560, by omega⟩ : Fin 6) (⟨s.val % 2560, by omega⟩ : Fin 2560))).trans (Eq.trans ?_ (Shape.rowMajor_val_two (ix2 (0 : Fin 1) s)).symm)
  show (s.val / 2560) * 2560 + s.val % 2560 = 0 * 15360 + s.val
  omega

/-- Token `τ` of the token block of point `t`. -/
def tokenOf (t : Fin cfg0.N) (τ : Fin 1024) : Fin 15360 := ⟨1024 * (t.val / 167) + τ.val, by have := lt_2505 t; omega⟩

/-- The logits of point `t`'s chunk. -/
theorem chunkX_apply (t : Fin cfg0.N) (r : Fin 768) (τ : Fin 1024) (v : Fin 128256) (hv : v.val = 768 * (t.val % 167) + r.val) :
    chunkX (iblk m c 0 t) (iblk m c 1 t) (iblk m c 2 t) (iblk m c 3 t) r τ = argLogit m c v (tokenOf t τ) := by
  unfold chunkX argLogit logit
  refine congr (congrArg HMul.hMul (congr (congrArg HMul.hMul (Finset.sum_congr rfl fun k _ => ?_)) ?_)) ?_
  · exact congr (congrArg HMul.hMul (iblk0_apply m c t r k v hv)) (iblk2_apply m c t τ k (tokenOf t τ) rfl)
  · exact iblk3_apply m c t τ (tokenOf t τ) rfl
  · refine iblk1_apply m c t _ _ v ?_
    show v.val = 768 * (t.val % 167) + 8 * (r.val / 8) + r.val % 8
    omega

/-- After a point the accumulators have taken in every chunk of its token block so far. -/
theorem accAt_inv (t : Fin cfg0.N) : Inv (fun v τ => argLogit m c v (tokenOf t τ)) (fun _ => 8 * (t.val % 167 + 1)) (accAt m c t.val t.isLt) := by
  obtain ⟨n, hn⟩ := t
  induction n with
  | zero =>
    rw [accAt_first m c ⟨0, hn⟩ rfl]
    have h := chunkStep_inv (fun v τ => argLogit m c v (tokenOf ⟨0, hn⟩ τ)) (grid0.coords (⟨0, hn⟩ : Fin cfg0.N)) (iblk m c 0 ⟨0, hn⟩) (iblk m c 1 ⟨0, hn⟩) (iblk m c 2 ⟨0, hn⟩) (iblk m c 3 ⟨0, hn⟩)
      (fun r τ v hv => chunkX_apply m c ⟨0, hn⟩ r τ v (by rw [coords1] at hv; exact hv)) acc0 (by rw [coords1]; exact inv_zero _)
    rw [coords1] at h
    exact h
  | succ n ih =>
    have h := fun a => chunkStep_inv (fun v τ => argLogit m c v (tokenOf ⟨n + 1, hn⟩ τ)) (grid0.coords (⟨n + 1, hn⟩ : Fin cfg0.N)) (iblk m c 0 ⟨n + 1, hn⟩) (iblk m c 1 ⟨n + 1, hn⟩) (iblk m c 2 ⟨n + 1, hn⟩) (iblk m c 3 ⟨n + 1, hn⟩)
      (fun r τ v hv => chunkX_apply m c ⟨n + 1, hn⟩ r τ v (by rw [coords1] at hv; exact hv)) a
    rw [coords1] at h
    by_cases h0 : (n + 1) % 167 = 0
    · rw [accAt_first m c ⟨n + 1, hn⟩ h0]
      refine h acc0 ?_
      show Inv _ (fun _ => 8 * ((n + 1) % 167)) _
      rw [h0]
      exact inv_zero _
    · rw [accAt_later m c ⟨n + 1, hn⟩ h0]
      refine h _ ?_
      have prev := ih (Nat.lt_of_succ_lt hn)
      have e1 : n % 167 + 1 = (n + 1) % 167 := by omega
      have e2 : ∀ τ, tokenOf ⟨n, Nat.lt_of_succ_lt hn⟩ τ = tokenOf ⟨n + 1, hn⟩ τ := fun τ => Fin.ext (by
        show 1024 * (n / 167) + τ.val = 1024 * ((n + 1) / 167) + τ.val
        omega)
      simp only [e2, e1] at prev
      exact prev

end Cert.KernelIdeal.Gen
-- ==== Proof.KernelIdeal.Results.lean ====
/- What the kernel's two result arrays hold after the run: every shard's largest logit and the sum of its exponentials, less that. -/
module

public import proofs.«01_k».proof.Proof.KernelIdeal.Entry

@[expose] public section

set_option maxRecDepth 16384

noncomputable section

namespace Cert.KernelIdeal.Gen

open Idealize.ShloMosaic Idealize.ShloMosaic.TcCoe Idealize.ShloMosaic.ValueIdx Idealize.SL.Sem
open Cert.SoftMath

/-! ## Combining the sublanes -/

theorem shardOf_apply (g : Fin 8) (x : Vec Ideal S8x8x1024 .f32) (j : Fin 8) (τ : Fin 1024) : shardOf g x (ix2 j τ) = x (ix3 g j τ) := by
  refine (shapeCast_1ab_ab_apply (a := 8) (b := 1024) _ _ j τ).trans (congrArg x (funext fun a => Fin.ext ?_))
  match a with
  | ⟨0, _⟩ => show g.val + 1 * 0 = g.val; omega
  | ⟨1, _⟩ => show 0 + 1 * j.val = j.val; omega
  | ⟨2, _⟩ => show 0 + 1 * τ.val = τ.val; omega

theorem topVal_apply (x : FVec Ideal S8x1024 .f32) (u : Fin 1) (τ : Fin 1024) : topVal x (ix2 u τ) = Finset.univ.sup fun j : Fin 8 => x (ix2 j τ) := by
  refine (shapeCast_a_1a_apply (a := 1024) _ _ u τ).trans ((Ideal.multiReduction_maximumf_single _ _ _ _ _ (ix1 τ)).trans ?_)
  refine (congrArg (fun b => (Finset.univ : Finset (Fin 8)).fold max b _) negInf_eq).trans ?_
  refine Finset.fold_congr fun j _ => congrArg x (funext fun a => Fin.ext ?_)
  match a with
  | ⟨0, _⟩ => rfl
  | ⟨1, _⟩ => rfl

theorem sumVal_apply (x s : FVec Ideal S8x1024 .f32) (u : Fin 1) (τ : Fin 1024) :
    sumVal x s (ix2 u τ) = ∑ j : Fin 8, s (ix2 j τ) * Ideal.exp (x (ix2 j τ) - Finset.univ.sup fun j : Fin 8 => x (ix2 j τ)) := by
  refine (shapeCast_a_1a_apply (a := 1024) _ _ u τ).trans ((Ideal.multiReduction_add_single _ _ _ _ _ (ix1 τ)).trans ?_)
  refine Finset.sum_congr rfl fun j _ => ?_
  have ei : reduces_S8x1024_S1024.lift (ix1 τ) j = (ix2 j τ : S8x1024.Idx) := funext fun a => Fin.ext (by
    match a with
    | ⟨0, _⟩ => rfl
    | ⟨1, _⟩ => rfl)
  refine (congrArg _ ei).trans ?_
  refine congrArg (s (ix2 j τ) * ·) ?_
  have et : broadcastTo S8x1024 (topVal x) broadcasts_S1x1024_S8x1024 (ix2 j τ) = Finset.univ.sup fun j : Fin 8 => x (ix2 j τ) :=
    (broadcastTo_1b_ab_apply (a := 8) (b := 1024) _ _ j τ).trans (topVal_apply x 0 τ)
  rw [← et]
  refine Eq.trans ?_ (exp2_log2e _)
  exact congrArg (fun b => Ideal.exp2 ((x (ix2 j τ) - broadcastTo S8x1024 (topVal x) broadcasts_S1x1024_S8x1024 (ix2 j τ)) * b)) log2e_eq

theorem unitLocal_row (g : Fin 8) (τ : Fin 1024) :
    (Rect.unitLocal (s := S8x1024) (size := S1x1024.size) (ix2 g τ) (row_inside (ix2 g τ)) : S1x1024.Idx) = ix2 (0 : Fin 1) τ := by
  funext a
  refine Fin.ext ?_
  match a with
  | ⟨0, _⟩ => show g.val - g.val = 0; omega
  | ⟨1, _⟩ => show τ.val - 0 = τ.val; omega

theorem finFull_fst (a : Acc Ideal) (g : Fin 8) (τ : Fin 1024) : (finFull a).1 (ix2 g τ) = Finset.univ.sup fun j : Fin 8 => a.1 (ix3 g j τ) := by
  refine (finAll_fst a _ (ix2 g τ)).trans ((congrArg _ (unitLocal_row g τ)).trans ((topVal_apply _ 0 τ).trans ?_))
  exact Finset.sup_congr rfl fun j _ => shardOf_apply g a.1 j τ

theorem finFull_snd (a : Acc Ideal) (g : Fin 8) (τ : Fin 1024) :
    (finFull a).2 (ix2 g τ) = ∑ j : Fin 8, a.2 (ix3 g j τ) * Ideal.exp (a.1 (ix3 g j τ) - Finset.univ.sup fun j : Fin 8 => a.1 (ix3 g j τ)) := by
  refine (finAll_snd a _ (ix2 g τ)).trans ((congrArg _ (unitLocal_row g τ)).trans ((sumVal_apply _ _ 0 τ).trans ?_))
  have e1 : ∀ j : Fin 8, shardOf g a.1 (ix2 j τ) = a.1 (ix3 g j τ) := fun j => shardOf_apply g a.1 j τ
  have e2 : ∀ j : Fin 8, shardOf g a.2 (ix2 j τ) = a.2 (ix3 g j τ) := fun j => shardOf_apply g a.2 j τ
  show (∑ j : Fin 8, shardOf g a.2 (ix2 j τ) * Ideal.exp (shardOf g a.1 (ix2 j τ) - Finset.univ.sup fun j : Fin 8 => shardOf g a.1 (ix2 j τ))) = _
  simp only [e1, e2]

/-- A shard's rows, put together from its sublanes. -/
theorem biUnion_rows (g : Fin 8) : (Finset.univ.biUnion fun j => rowsBelow 128256 g j) = shardRows g := by
  ext v
  have hv := v.isLt
  simp only [Finset.mem_biUnion, Finset.mem_univ, true_and, mem_rowsBelow, shardRows, Finset.mem_filter]
  constructor
  · rintro ⟨j, h⟩; exact h.2.1
  · intro h; exact ⟨⟨v.val % 8, by omega⟩, hv, h, rfl⟩

theorem disjoint_rows (g j k : Fin 8) (h : j ≠ k) : Disjoint (rowsBelow 128256 g j) (rowsBelow 128256 g k) := by
  rw [Finset.disjoint_left]
  intro v hv hv'
  exact h (Fin.ext (((mem_rowsBelow _ _ _ _).mp hv).2.2.symm.trans ((mem_rowsBelow _ _ _ _).mp hv').2.2))

variable (m : (ℓ : Loc nD τ sig) → Buf (Elt Ideal) ℓ) (ρ : Dev nD → PrngReg) (c : Dev nD)

/-- At a token block's last chunk the results are those of every shard. -/
theorem fin_apply (t : Fin cfg0.N) (ht : t.val % 167 = 166) (g : Fin 8) (τ : Fin 1024) :
    (finFull (accAt m c t.val t.isLt)).1 (ix2 g τ) = shardMax (argLogit m c) g (tokenOf t τ)
      ∧ (finFull (accAt m c t.val t.isLt)).2 (ix2 g τ) = shardSum (argLogit m c) g (tokenOf t τ) := by
  have h := accAt_inv m c t
  rw [ht] at h
  have hτ := τ.isLt
  have tr : ∀ j : Fin 8, Tracks (fun v => argLogit m c v (tokenOf t τ)) (rowsBelow 128256 g j) ((accAt m c t.val t.isLt).1 (ix3 g j τ)) ((accAt m c t.val t.isLt).2 (ix3 g j τ)) :=
    fun j => h g j τ ⟨τ.val / 128, by omega⟩ rfl
  have eM := sup_of_tracks tr
  have eS := sum_of_tracks tr (disjoint_rows g)
  rw [biUnion_rows] at eM eS
  rw [eM] at eS
  refine ⟨(finFull_fst _ g τ).trans eM, (finFull_snd _ g τ).trans ?_⟩
  rw [eM]
  exact eS

/-! ## The arrays after the run -/

/-- The maxima, -/
def outMax : Buf (Elt Ideal) ((c : Thread nD τ).loc main_v4_0) := fun i : S8x15360.Idx => shardMax (argLogit m c) (i 0) (i 1)
/-- and the sums. -/
def outSum : Buf (Elt Ideal) ((c : Thread nD τ).loc main_v4_1) := fun i : S8x15360.Idx => shardSum (argLogit m c) (i 0) (i 1)

theorem outMax_apply (g : Fin 8) (s : Fin 15360) : outMax m c (ix2 g s) = shardMax (argLogit m c) g s := rfl
theorem outSum_apply (g : Fin 8) (s : Fin 15360) : outSum m c (ix2 g s) = shardSum (argLogit m c) g s := rfl

/-- Where place `(g, τ)` of a token block's results goes. -/
theorem emb4 (t : Fin cfg0.N) (g : Fin 8) (τ : Fin 1024) : ((cfg0.win 4).blk t).view.emb (ix2 g τ) = (ix2 g (tokenOf t τ) : S8x15360.Idx) := by
  have e := (idx_facts t).2.2.2.2.1
  have e0 : win0_4.index t (0 : Fin 2) = 0 := congrFun e 0
  have e1 : win0_4.index t (1 : Fin 2) = t.val / 167 := congrFun e 1
  funext a
  refine Fin.ext ?_
  match a with
  | ⟨0, _⟩ => show win0_4.index t (0 : Fin 2) * 8 + 1 * g.val = g.val; omega
  | ⟨1, _⟩ => show win0_4.index t (1 : Fin 2) * 1024 + 1 * τ.val = 1024 * (t.val / 167) + τ.val; omega

theorem emb5 (t : Fin cfg0.N) (g : Fin 8) (τ : Fin 1024) : ((cfg0.win 5).blk t).view.emb (ix2 g τ) = (ix2 g (tokenOf t τ) : S8x15360.Idx) := by
  have e := (idx_facts t).2.2.2.2.2
  have e0 : win0_5.index t (0 : Fin 2) = 0 := congrFun e 0
  have e1 : win0_5.index t (1 : Fin 2) = t.val / 167 := congrFun e 1
  funext a
  refine Fin.ext ?_
  match a with
  | ⟨0, _⟩ => show win0_5.index t (0 : Fin 2) * 8 + 1 * g.val = g.val; omega
  | ⟨1, _⟩ => show win0_5.index t (1 : Fin 2) * 1024 + 1 * τ.val = 1024 * (t.val / 167) + τ.val; omega

/-- What a token block's last point writes back is its block of the maxima, -/
theorem flushed4_eq (t : Fin cfg0.N) (hf : (cfg0.win 4).flush t = true) :
    (dats m 0 c).flushed 4 t = ((cfg0.win 4).blk t).view.read (Elt Ideal) (outMax m c) := by
  show (cfg0.win 4).cut (grid0.coords t) ((dats m 0 c).after 4 t) = _
  rw [after4]
  funext y
  have hx : (cfg0.win 4).xinj (grid0.coords t) y = (ix2 (n0 := 8) (n1 := 1024) (y 0) (y 1) : S8x1024.Idx) := eq_ix2 (n0 := 8) (n1 := 1024) _
  have hy : y = (ix2 (n0 := 8) (n1 := 1024) (y 0) (y 1) : S8x1024.Idx) := eq_ix2 (n0 := 8) (n1 := 1024) y
  have he : ((cfg0.win 4).blk t).view.emb y = (ix2 (y 0) (tokenOf t (y 1)) : S8x15360.Idx) := (congrArg ((cfg0.win 4).blk t).view.emb hy).trans (emb4 t (y 0) (y 1))
  have hf := (fin_apply m c t ((flush0_4 t).mp hf) (y 0) (y 1)).1
  have cut_eq : ∀ Z : Vec Ideal S8x1024 .f32, (cfg0.win 4).cut (grid0.coords t) Z y = Z ((cfg0.win 4).xinj (grid0.coords t) y) := fun _ => rfl
  have read_eq : ∀ X : Vec Ideal S8x15360 .f32, ((cfg0.win 4).blk t).view.read (Elt Ideal) X y = X (((cfg0.win 4).blk t).view.emb y) := fun _ => rfl
  refine (cut_eq _).trans (Eq.trans ?_ (read_eq (outMax m c)).symm)
  refine (congrArg (finFull (accAt m c t.val t.isLt)).1 hx).trans ?_
  refine hf.trans ?_
  exact ((congrArg (outMax m c) he).trans (outMax_apply m c (y 0) (tokenOf t (y 1)))).symm

/-- and of the sums. -/
theorem flushed5_eq (t : Fin cfg0.N) (hf : (cfg0.win 5).flush t = true) :
    (dats m 0 c).flushed 5 t = ((cfg0.win 5).blk t).view.read (Elt Ideal) (outSum m c) := by
  show (cfg0.win 5).cut (grid0.coords t) ((dats m 0 c).after 5 t) = _
  rw [after5]
  funext y
  have hx : (cfg0.win 5).xinj (grid0.coords t) y = (ix2 (n0 := 8) (n1 := 1024) (y 0) (y 1) : S8x1024.Idx) := eq_ix2 (n0 := 8) (n1 := 1024) _
  have hy : y = (ix2 (n0 := 8) (n1 := 1024) (y 0) (y 1) : S8x1024.Idx) := eq_ix2 (n0 := 8) (n1 := 1024) y
  have he : ((cfg0.win 5).blk t).view.emb y = (ix2 (y 0) (tokenOf t (y 1)) : S8x15360.Idx) := (congrArg ((cfg0.win 5).blk t).view.emb hy).trans (emb5 t (y 0) (y 1))
  have hf := (fin_apply m c t ((flush0_5 t).mp hf) (y 0) (y 1)).2
  have cut_eq : ∀ Z : Vec Ideal S8x1024 .f32, (cfg0.win 5).cut (grid0.coords t) Z y = Z ((cfg0.win 5).xinj (grid0.coords t) y) := fun _ => rfl
  have read_eq : ∀ X : Vec Ideal S8x15360 .f32, ((cfg0.win 5).blk t).view.read (Elt Ideal) X y = X (((cfg0.win 5).blk t).view.emb y) := fun _ => rfl
  refine (cut_eq _).trans (Eq.trans ?_ (read_eq (outSum m c)).symm)
  refine (congrArg (finFull (accAt m c t.val t.isLt)).2 hx).trans ?_
  refine hf.trans ?_
  exact ((congrArg (outSum m c) he).trans (outSum_apply m c (y 0) (tokenOf t (y 1)))).symm

/-- The point that writes token `s` back. -/
def lastPt (s : Fin 15360) : Fin cfg0.N := ⟨167 * (s.val / 1024) + 166, lt_of_lt_of_eq (by omega) N_0.symm⟩

theorem covered4 (i : S8x15360.Idx) : ∃ t : Fin cfg0.N, (cfg0.win 4).flush t = true ∧ i ∈ ((cfg0.win 4).blk t).view.set := by
  have h0 : (i 0).val < 8 := (i 0).isLt
  have h1 : (i 1).val < 15360 := (i 1).isLt
  have hp : (lastPt (i 1)).val = 167 * ((i 1).val / 1024) + 166 := rfl
  have e := (idx_facts (lastPt (i 1))).2.2.2.2.1
  have e0 : win0_4.index (lastPt (i 1)) (0 : Fin 2) = 0 := congrFun e 0
  have e1 : win0_4.index (lastPt (i 1)) (1 : Fin 2) = (lastPt (i 1)).val / 167 := congrFun e 1
  refine ⟨lastPt (i 1), (flush0_4 _).mpr (by omega), ?_⟩
  show i ∈ ((View.whole main_v4_0).slice (win0_4.rect (lastPt (i 1)))).set
  rw [View.set_slice_whole, Rect.mem_set_unit]
  intro a
  match a with
  | ⟨0, _⟩ => show win0_4.index (lastPt (i 1)) (0 : Fin 2) * 8 ≤ (i 0).val ∧ (i 0).val < win0_4.index (lastPt (i 1)) (0 : Fin 2) * 8 + 8; omega
  | ⟨1, _⟩ => show win0_4.index (lastPt (i 1)) (1 : Fin 2) * 1024 ≤ (i 1).val ∧ (i 1).val < win0_4.index (lastPt (i 1)) (1 : Fin 2) * 1024 + 1024; omega

theorem covered5 (i : S8x15360.Idx) : ∃ t : Fin cfg0.N, (cfg0.win 5).flush t = true ∧ i ∈ ((cfg0.win 5).blk t).view.set := by
  have h0 : (i 0).val < 8 := (i 0).isLt
  have h1 : (i 1).val < 15360 := (i 1).isLt
  have hp : (lastPt (i 1)).val = 167 * ((i 1).val / 1024) + 166 := rfl
  have e := (idx_facts (lastPt (i 1))).2.2.2.2.2
  have e0 : win0_5.index (lastPt (i 1)) (0 : Fin 2) = 0 := congrFun e 0
  have e1 : win0_5.index (lastPt (i 1)) (1 : Fin 2) = (lastPt (i 1)).val / 167 := congrFun e 1
  refine ⟨lastPt (i 1), (flush0_5 _).mpr (by omega), ?_⟩
  show i ∈ ((View.whole main_v4_1).slice (win0_5.rect (lastPt (i 1)))).set
  rw [View.set_slice_whole, Rect.mem_set_unit]
  intro a
  match a with
  | ⟨0, _⟩ => show win0_5.index (lastPt (i 1)) (0 : Fin 2) * 8 ≤ (i 0).val ∧ (i 0).val < win0_5.index (lastPt (i 1)) (0 : Fin 2) * 8 + 8; omega
  | ⟨1, _⟩ => show win0_5.index (lastPt (i 1)) (1 : Fin 2) * 1024 ≤ (i 1).val ∧ (i 1).val < win0_5.index (lastPt (i 1)) (1 : Fin 2) * 1024 + 1024; omega

theorem final4 : (dats m 0 c).arrAt 4 cfg0.N = outMax m c :=
  (dats m 0 c).arrAt_eq_of_cover 4 _ (fun t hf => flushed4_eq m c t hf) covered4

theorem final5 : (dats m 0 c).arrAt 5 cfg0.N = outSum m c :=
  (dats m 0 c).arrAt_eq_of_cover 5 _ (fun t hf => flushed5_eq m c t hf) covered5

/-! ## The results after the host's transposes and reshapes -/

/-- The transpose and the reshape lay a table out by sequence, place and shard. -/
theorem tail_apply (f : Fin 8 → Fin 15360 → EReal) (X : FVec Ideal S8x15360 .f32) (hX : ∀ g s, X (ix2 g s) = f g s) (h h') :
    shapeCast S6x2560x8 (transpose S15360x8 [1, 0] X h) h' = byPlace f := by
  funext i
  obtain ⟨b, p, g, rfl⟩ : ∃ (b : Fin 6) (p : Fin 2560) (g : Fin 8), i = ix3 b p g := ⟨i 0, i 1, i 2, eq_ix3 i⟩
  refine (shapeCast_apply _ _ _ (ix2 (⟨2560 * b.val + p.val, by omega⟩ : Fin 15360) g) ?_).trans ((transpose_ix2_apply _ _ _ _).trans (hX _ _))
  refine (Shape.rowMajor_val_two (ix2 (⟨2560 * b.val + p.val, by omega⟩ : Fin 15360) g)).trans (Eq.trans ?_ (Shape.rowMajor_val_three (ix3 b p g)).symm)
  show (2560 * b.val + p.val) * 8 + g.val = (b.val * 2560 + p.val) * 8 + g.val
  omega

theorem arrRef_injective : Function.Injective (Pipeline.arrRef cfg0.spec) := by decide

/-- The maxima at the end, -/
theorem tail4 : Pipeline.afterTail₀ cfgs (dats m) 0 (V0 m) [hostOps1] c main_v6 = byPlace (shardMax (argLogit m c)) := by
  unfold Pipeline.afterTail₀
  have e := Pipeline.withArrays_arr cfg0.spec arrRef_injective c (V0 m c) (fun w => (dats m 0 c).arrAt w cfg0.N) 4
  rw [final4] at e
  simp only [List.flatten_cons, List.flatten_nil, List.append_nil]
  after_results
  refine (congrArg (fun X : FVec Ideal S8x15360 .f32 => shapeCast S6x2560x8 (transpose S15360x8 [1, 0] X transposes_S8x15360_S15360x8_1_0) shapeCasts_S15360x8_S6x2560x8) e).trans ?_
  exact tail_apply _ _ (outMax_apply m c) _ _

/-- and the sums. -/
theorem tail5 : Pipeline.afterTail₀ cfgs (dats m) 0 (V0 m) [hostOps1] c main_v8 = byPlace (shardSum (argLogit m c)) := by
  unfold Pipeline.afterTail₀
  have e := Pipeline.withArrays_arr cfg0.spec arrRef_injective c (V0 m c) (fun w => (dats m 0 c).arrAt w cfg0.N) 5
  rw [final5] at e
  simp only [List.flatten_cons, List.flatten_nil, List.append_nil]
  after_results
  refine (congrArg (fun X : FVec Ideal S8x15360 .f32 => shapeCast S6x2560x8 (transpose S15360x8 [1, 0] X transposes_S8x15360_S15360x8_1_0) shapeCasts_S15360x8_S6x2560x8) e).trans ?_
  exact tail_apply _ _ (outSum_apply m c) _ _

/-- The run: the results hold every shard's maximum and sum, and the arguments end unchanged. -/
theorem run : θ_run defs (onTc (τ := τ) (main (F := Ideal))) ⟨m, fun _ => 0, ρ⟩ fun r => ∀ c : Dev nD,
      r.2.mem ((c : Thread nD τ).loc main_v6) = byPlace (shardMax (argLogit m c))
      ∧ r.2.mem ((c : Thread nD τ).loc main_v8) = byPlace (shardSum (argLogit m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.2 c).2 main_v6 (Pipeline.mem_restRefs_of main_v6 (by decide) (by decide))).trans (tail4 m c),
      ((h.2 c).2 main_v8 (Pipeline.mem_restRefs_of main_v8 (by decide) (by decide))).trans (tail5 m c), h.1.1 c⟩)
    (θ_run_and (frame m ρ) (run_main m ρ))

end Cert.KernelIdeal.Gen
-- ==== Proof.Reference.lean ====
/- What the reference's two result arrays hold after its run: every shard's largest logit and the sum of its exponentials, less that. -/
module

public import proofs.«01_k».proof.Proof.Gen.ReferenceIdeal.Frame
public import Idealize.ShloMosaic.Lib.Pipeline.Value
public import proofs.«01_k».proof.Proof.Logit
public import Idealize.ShloMosaic.Lib.Claim
public import Idealize.ShloMosaic.Lib.ValueLayout
public import Idealize.ShloMosaic.PureOps.Ideal.Laws
public import Idealize.ShloMosaic.Lib.MatmulPlain

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.ValueIdx
open Cert.SoftMath
open Idealize.ShloMosaic.Pipeline (Dat)

/-! ## The rows of a shard -/

/-- Row `r` of shard `g`. -/
def shardRow (g : Fin 8) (r : Fin 16032) : Fin 128256 := ⟨16032 * g.val + r.val, by omega⟩

theorem shardRow_inj (g : Fin 8) : Function.Injective (shardRow g) := fun r r' e => by
  have h : 16032 * g.val + r.val = 16032 * g.val + r'.val := congrArg Fin.val e
  exact Fin.ext (by omega)

theorem image_shardRow (g : Fin 8) : Finset.univ.image (shardRow g) = shardRows g := by
  ext v
  have hv := v.isLt
  simp only [Finset.mem_image, Finset.mem_univ, true_and, shardRows, Finset.mem_filter]
  constructor
  · rintro ⟨r, rfl⟩
    have hr := r.isLt
    show (16032 * g.val + r.val) / 16032 = g.val
    omega
  · intro h
    exact ⟨⟨v.val - 16032 * g.val, by omega⟩, Fin.ext (by show 16032 * g.val + (v.val - 16032 * g.val) = v.val; omega)⟩

theorem shardMax_eq (x : Fin 128256 → Fin 15360 → EReal) (g : Fin 8) (t : Fin 15360) :
    shardMax x g t = Finset.univ.sup fun r : Fin 16032 => x (shardRow g r) t := by
  rw [shardMax, ← image_shardRow, Finset.sup_image]; rfl

theorem shardSum_eq (x : Fin 128256 → Fin 15360 → EReal) (g : Fin 8) (t : Fin 15360) :
    shardSum x g t = ∑ r : Fin 16032, Ideal.exp (x (shardRow g r) t - shardMax x g t) := by
  rw [shardSum, esum, ← image_shardRow, Finset.sum_image fun a _ b _ e => shardRow_inj g e]

/-! ## The body's values -/

section Body

variable (P0 : Vec Ideal S15360x2048 .fp8e4m3) (P1 : Vec Ideal S128256x2048 .fp8e4m3) (P2 : Vec Ideal S15360x1 .f32) (P3 : Vec Ideal S1x128256 .f32)
variable (x : Fin 128256 → Fin 15360 → EReal)

/-- The logits, shard by shard. -/
theorem pay1_apply (hx : ∀ v t, (∑ k : Fin 2048, P0 (ix2 t k) * P1 (ix2 v k)) * P2 (ix2 t (0 : Fin 1)) * P3 (ix2 (0 : Fin 1) v) = x v t)
    (t : Fin 15360) (g : Fin 8) (r : Fin 16032) : k0_pay1 P0 P1 P2 P3 (ix3 t g r) = x (shardRow g r) t := by
  rw [← hx]
  unfold k0_pay1
  refine (shapeCast_apply _ _ (ix3 t g r : S15360x8x16032.Idx) (ix2 t (shardRow g r) : S15360x128256.Idx) ?_).trans ?_
  · refine (Shape.rowMajor_val_two (ix2 t (shardRow g r))).trans (Eq.trans ?_ (Shape.rowMajor_val_three (ix3 t g r)).symm)
    show t.val * 128256 + (16032 * g.val + r.val) = (t.val * 8 + g.val) * 16032 + r.val
    omega
  · refine congr (congrArg HMul.hMul (congr (congrArg HMul.hMul ?_) ?_)) ?_
    · refine (Ideal.matmul_transposedRhs_apply (M := 15360) (K := 2048) (N := 128256) none _ _ _ t (shardRow g r)).trans ?_
      refine (congrArg (· + _) Ideal.ofBits_zero_f32).trans ((zero_add _).trans (Finset.sum_congr rfl fun k _ => ?_))
      exact congrArg (· * _) (congrFun (shapeCast_self _ _) _)
    · refine (broadcastTo_apply _ _ _ (ix2 t (0 : Fin 1)) fun a => ?_).trans (congrFun (shapeCast_self _ _) _)
      match a with
      | ⟨0, _⟩ => rfl
      | ⟨1, _⟩ => rfl
    · exact (broadcastTo_1b_ab_apply (a := 15360) (b := 128256) _ _ t (shardRow g r)).trans (congrFun (shapeCast_self _ _) _)

theorem lift_eq (t : Fin 15360) (g : Fin 8) (r : Fin 16032) :
    reduces_S15360x8x16032_S15360x8.lift (ix2 t g) r = (ix3 t g r : S15360x8x16032.Idx) := funext fun a => Fin.ext (by
  match a with
  | ⟨0, _⟩ => rfl
  | ⟨1, _⟩ => rfl
  | ⟨2, _⟩ => rfl)

/-- The word of minus infinity. -/
theorem negInf_eq : Ideal.ofBits .f32 0xFF800000#32 = ⊥ := by
  simp [Ideal.ofBits, Ideal.ieee, -EReal.coe_mul]

theorem max_apply (hx : ∀ v t, (∑ k : Fin 2048, P0 (ix2 t k) * P1 (ix2 v k)) * P2 (ix2 t (0 : Fin 1)) * P3 (ix2 (0 : Fin 1) v) = x v t)
    (t : Fin 15360) (g : Fin 8) :
    multiReduction .maximumf [2] S15360x8 (k0_pay1 P0 P1 P2 P3) 0xFF800000#32 reduces_S15360x8x16032_S15360x8 (.inl rfl) rfl (ix2 t g) = shardMax x g t := by
  refine (Ideal.multiReduction_maximumf_single _ _ _ _ _ (ix2 t g)).trans ?_
  refine (congrArg (fun b => (Finset.univ : Finset (Fin 16032)).fold max b _) negInf_eq).trans ?_
  rw [shardMax_eq]
  exact Finset.fold_congr fun r _ => (congrArg _ (lift_eq t g r)).trans (pay1_apply P0 P1 P2 P3 x hx t g r)

theorem pay2_apply (hx : ∀ v t, (∑ k : Fin 2048, P0 (ix2 t k) * P1 (ix2 v k)) * P2 (ix2 t (0 : Fin 1)) * P3 (ix2 (0 : Fin 1) v) = x v t)
    (t : Fin 15360) (g : Fin 8) : k0_pay2 P0 P1 P2 P3 (ix2 t g) = shardMax x g t := by
  unfold k0_pay2
  exact max_apply P0 P1 P2 P3 x hx t g

theorem pay3_apply (hx : ∀ v t, (∑ k : Fin 2048, P0 (ix2 t k) * P1 (ix2 v k)) * P2 (ix2 t (0 : Fin 1)) * P3 (ix2 (0 : Fin 1) v) = x v t)
    (t : Fin 15360) (g : Fin 8) : k0_pay3 P0 P1 P2 P3 (ix2 t g) = shardSum x g t := by
  have em : ∀ r : Fin 16032, broadcastTo S15360x8x16032 (shapeCast S15360x8x1 (k0_pay2 P0 P1 P2 P3) shapeCasts_S15360x8_S15360x8x1) broadcasts_S15360x8x1_S15360x8x16032 (ix3 t g r) = shardMax x g t := fun r => by
    refine (broadcastTo_apply _ _ (ix3 t g r : S15360x8x16032.Idx) (ix3 t g (0 : Fin 1) : S15360x8x1.Idx) fun a => ?_).trans ?_
    · match a with
      | ⟨0, _⟩ => rfl
      | ⟨1, _⟩ => rfl
      | ⟨2, _⟩ => rfl
    refine (shapeCast_apply _ _ (ix3 t g (0 : Fin 1) : S15360x8x1.Idx) (ix2 t g : S15360x8.Idx) ?_).trans ?_
    · refine (Shape.rowMajor_val_two (ix2 t g)).trans (Eq.trans ?_ (Shape.rowMajor_val_three (ix3 t g (0 : Fin 1))).symm)
      show t.val * 8 + g.val = (t.val * 8 + g.val) * 1 + 0
      omega
    · exact pay2_apply P0 P1 P2 P3 x hx t g
  have e1 := pay1_apply P0 P1 P2 P3 x hx t g
  unfold k0_pay3
  revert em e1
  generalize broadcastTo S15360x8x16032 (shapeCast S15360x8x1 (k0_pay2 P0 P1 P2 P3) shapeCasts_S15360x8_S15360x8x1) broadcasts_S15360x8x1_S15360x8x16032 = B
  generalize k0_pay1 P0 P1 P2 P3 = A
  intro em e1
  refine (Ideal.multiReduction_add_single _ _ _ _ _ (ix2 t g)).trans ?_
  rw [shardSum_eq]
  refine Finset.sum_congr rfl fun r _ => (congrArg (exp (subf A B)) (lift_eq t g r)).trans ?_
  rw [← e1 r, ← em r]
  rfl

/-- What one store over the whole of a result leaves. -/
theorem canon_apply (P : Vec Ideal S15360x8 .f32) (y : S15360x8.Idx) : View.canon (Val := Elt Ideal) [⟨r0_4, P⟩] y = P y := by
  refine View.canon_apply_of_pieces (e := .f32) P _ ?_ y (cover0_4 _ y)
  intro pc hpc
  rcases List.mem_cons.mp hpc with rfl | hpc
  · exact fun z => congrArg P (funext fun a => Fin.ext (by
      show (z a).val = (![0, 0] : Fin 2 → ℕ) a + 1 * (z a).val
      match a with
      | ⟨0, _⟩ => show (z 0).val = 0 + 1 * (z 0).val; omega
      | ⟨1, _⟩ => show (z 1).val = 0 + 1 * (z 1).val; omega))
  · nomatch hpc

end Body

/-! ## The blocks staged -/

variable (m : (ℓ : Loc nD τ sig) → Buf (Elt Ideal) ℓ) (ρ : Dev nD → PrngReg) (c : Dev nD)

/-- The logits of the arguments. -/
def argLogit (v : Fin 128256) (t : Fin 15360) : EReal :=
  logit (m ((c : Thread nD τ).loc main_arg0)) (m ((c : Thread nD τ).loc main_arg1)) (m ((c : Thread nD τ).loc main_arg2)) (m ((c : Thread nD τ).loc main_arg3)) v t

theorem iblk0_apply (t : Fin cfg0.N) (s : Fin 15360) (k : Fin 2048) :
    (iblk m c 0 t : Vec Ideal S15360x2048 .fp8e4m3) (ix2 s k)
      = m ((c : Thread nD τ).loc main_arg0) (ix3 (⟨s.val / 2560, by omega⟩ : Fin 6) (⟨s.val % 2560, by omega⟩ : Fin 2560) k) := by
  show V m c main_v0 (((cfg0.win 0).blk t).view.emb (ix2 s k)) = _
  entry_read
  have ei : ((cfg0.win 0).blk t).view.emb (ix2 s k) = (ix2 s k : S15360x2048.Idx) := funext fun a => Fin.ext (by
    match a with
    | ⟨0, _⟩ => show 0 * 15360 + 1 * s.val = s.val; omega
    | ⟨1, _⟩ => show 0 * 2048 + 1 * k.val = k.val; omega)
  refine (congrArg _ ei).trans (shapeCast_apply _ _ _ _ ?_)
  refine (Shape.rowMajor_val_three (ix3 (⟨s.val / 2560, by omega⟩ : Fin 6) (⟨s.val % 2560, by omega⟩ : Fin 2560) k)).trans (Eq.trans ?_ (Shape.rowMajor_val_two (ix2 s k)).symm)
  show ((s.val / 2560) * 2560 + s.val % 2560) * 2048 + k.val = s.val * 2048 + k.val
  omega

theorem iblk1_apply (t : Fin cfg0.N) (s : Fin 15360) :
    (iblk m c 1 t : Vec Ideal S15360x1 .f32) (ix2 s (0 : Fin 1))
      = m ((c : Thread nD τ).loc main_arg1) (ix2 (⟨s.val / 2560, by omega⟩ : Fin 6) (⟨s.val % 2560, by omega⟩ : Fin 2560)) := by
  show V m c main_v1 (((cfg0.win 1).blk t).view.emb (ix2 s (0 : Fin 1))) = _
  entry_read
  have ei : ((cfg0.win 1).blk t).view.emb (ix2 s (0 : Fin 1)) = (ix2 s (0 : Fin 1) : S15360x1.Idx) := funext fun a => Fin.ext (by
    match a with
    | ⟨0, _⟩ => show 0 * 15360 + 1 * s.val = s.val; omega
    | ⟨1, _⟩ => show 0 * 1 + 1 * 0 = 0; omega)
  refine (congrArg _ ei).trans (shapeCast_apply _ _ _ _ ?_)
  refine (Shape.rowMajor_val_two (ix2 (⟨s.val / 2560, by omega⟩ : Fin 6) (⟨s.val % 2560, by omega⟩ : Fin 2560))).trans (Eq.trans ?_ (Shape.rowMajor_val_two (ix2 s (0 : Fin 1))).symm)
  show (s.val / 2560) * 2560 + s.val % 2560 = s.val * 1 + 0
  omega

theorem iblk2_apply (t : Fin cfg0.N) (v : Fin 128256) (k : Fin 2048) :
    (iblk m c 2 t : Vec Ideal S128256x2048 .fp8e4m3) (ix2 v k) = m ((c : Thread nD τ).loc main_arg2) (ix2 v k) := by
  refine (congrArg (fun X => X (((cfg0.win 2).blk t).view.emb (ix2 v k))) (V_main_arg2 m c)).trans (congrArg (m ((c : Thread nD τ).loc main_arg2)) (funext fun a => Fin.ext ?_))
  match a with
  | ⟨0, _⟩ => show 0 * 128256 + 1 * v.val = v.val; omega
  | ⟨1, _⟩ => show 0 * 2048 + 1 * k.val = k.val; omega

theorem iblk3_apply (t : Fin cfg0.N) (v : Fin 128256) :
    (iblk m c 3 t : Vec Ideal S1x128256 .f32) (ix2 (0 : Fin 1) v) = m ((c : Thread nD τ).loc main_arg3) (ix1 v) := by
  show V m c main_v2 (((cfg0.win 3).blk t).view.emb (ix2 (0 : Fin 1) v)) = _
  entry_read
  have ei : ((cfg0.win 3).blk t).view.emb (ix2 (0 : Fin 1) v) = (ix2 (0 : Fin 1) v : S1x128256.Idx) := funext fun a => Fin.ext (by
    match a with
    | ⟨0, _⟩ => show 0 * 1 + 1 * 0 = 0; omega
    | ⟨1, _⟩ => show 0 * 128256 + 1 * v.val = v.val; omega)
  exact (congrArg _ ei).trans (shapeCast_a_1a_apply (a := 128256) _ _ 0 v)

/-! ## The arrays after the run -/

/-- The maxima, -/
def outMax : Buf (Elt Ideal) ((c : Thread nD τ).loc main_v3_0) := fun i : S15360x8.Idx => shardMax (argLogit m c) (i 1) (i 0)
/-- and the sums. -/
def outSum : Buf (Elt Ideal) ((c : Thread nD τ).loc main_v3_1) := fun i : S15360x8.Idx => shardSum (argLogit m c) (i 1) (i 0)

theorem outMax_apply (s : Fin 15360) (g : Fin 8) : outMax m c (ix2 s g) = shardMax (argLogit m c) g s := rfl
theorem outSum_apply (s : Fin 15360) (g : Fin 8) : outSum m c (ix2 s g) = shardSum (argLogit m c) g s := rfl

/-- A load of the whole of an operand is the operand. -/
theorem ld_whole {e : EltTy} {a b : ℕ} (x : (⟨2, ![a, b]⟩ : Shape).Idx → Elt Ideal e) (inb) (i : Fin a) (j : Fin b) :
    View.ld (Val := Elt Ideal) x (Rect.unit (s := ⟨2, ![a, b]⟩) ![0, 0] (⟨2, ![a, b]⟩ : Shape).size inb) (ix2 i j) = x (ix2 i j) :=
  congrArg x (funext fun ax => Fin.ext (by
    match ax with
    | ⟨0, _⟩ => show 0 + 1 * i.val = i.val; omega
    | ⟨1, _⟩ => show 0 + 1 * j.val = j.val; omega))

/-- What the body loads: the hidden states, the vocabulary's rows, and the scales of each. -/
abbrev ldH (t : Fin cfg0.N) : Vec Ideal S15360x2048 .fp8e4m3 := View.ld (Val := Elt Ideal) (e' := .fp8e4m3) (iblk m c 0 t) r0_0
abbrev ldW (t : Fin cfg0.N) : Vec Ideal S128256x2048 .fp8e4m3 := View.ld (Val := Elt Ideal) (e' := .fp8e4m3) (iblk m c 2 t) r0_1
abbrev ldHs (t : Fin cfg0.N) : Vec Ideal S15360x1 .f32 := View.ld (Val := Elt Ideal) (e' := .f32) (iblk m c 1 t) r0_2
abbrev ldWs (t : Fin cfg0.N) : Vec Ideal S1x128256 .f32 := View.ld (Val := Elt Ideal) (e' := .f32) (iblk m c 3 t) r0_3

/-- The logits of the blocks are those of the arguments. -/
theorem logits (t : Fin cfg0.N) (v : Fin 128256) (s : Fin 15360) :
    (∑ k : Fin 2048, ldH m c t (ix2 s k) * ldW m c t (ix2 v k)) * ldHs m c t (ix2 s (0 : Fin 1)) * ldWs m c t (ix2 (0 : Fin 1) v) = argLogit m c v s := by
  unfold argLogit logit
  refine congr (congrArg HMul.hMul (congr (congrArg HMul.hMul (Finset.sum_congr rfl fun k _ => ?_)) ?_)) ?_
  · refine (congrArg₂ (fun a b : EReal => a * b) ((ld_whole _ _ s k).trans (iblk0_apply m c t s k)) ((ld_whole _ _ v k).trans (iblk2_apply m c t v k))).trans ?_
    exact mul_comm (G := EReal) _ _
  · exact (ld_whole _ _ s 0).trans (iblk1_apply m c t s)
  · exact (ld_whole _ _ 0 v).trans (iblk3_apply m c t v)

theorem flushed4_eq (t : Fin cfg0.N) (hf : (cfg0.win 4).flush t = true) :
    (dats m 0 c).flushed 4 t = ((cfg0.win 4).blk t).view.read (Elt Ideal) (outMax m c) := by
  show (cfg0.win 4).cut (grid0.coords t) ((dats m 0 c).after 4 t) = _
  rw [after0_4]
  funext y
  have cut_eq : ∀ Z : Vec Ideal S15360x8 .f32, (cfg0.win 4).cut (grid0.coords t) Z y = Z ((cfg0.win 4).xinj (grid0.coords t) y) := fun _ => rfl
  have read_eq : ∀ X : Vec Ideal S15360x8 .f32, ((cfg0.win 4).blk t).view.read (Elt Ideal) X y = X (((cfg0.win 4).blk t).view.emb y) := fun _ => rfl
  have hx : (cfg0.win 4).xinj (grid0.coords t) y = (ix2 (n0 := 15360) (n1 := 8) (y 0) (y 1) : S15360x8.Idx) := eq_ix2 (n0 := 15360) (n1 := 8) _
  have he : ((cfg0.win 4).blk t).view.emb y = (ix2 (n0 := 15360) (n1 := 8) (y 0) (y 1) : S15360x8.Idx) := funext fun a => Fin.ext (by
    match a with
    | ⟨0, _⟩ => show 0 * 15360 + 1 * (y 0).val = (y 0).val; omega
    | ⟨1, _⟩ => show 0 * 8 + 1 * (y 1).val = (y 1).val; omega)
  refine (cut_eq _).trans (Eq.trans ?_ (read_eq (outMax m c)).symm)
  refine (congrArg (out0_4 _ _ _ _) hx).trans ?_
  refine Eq.trans ?_ ((congrArg (outMax m c) he).trans (outMax_apply m c (y 0) (y 1))).symm
  exact (canon_apply _ _).trans (pay2_apply _ _ _ _ _ (logits m c t) (y 0) (y 1))

theorem covered4 (i : S15360x8.Idx) : ∃ t : Fin cfg0.N, (cfg0.win 4).flush t = true ∧ i ∈ ((cfg0.win 4).blk t).view.set := by
  have h0 : (i 0).val < 15360 := (i 0).isLt
  have h1 : (i 1).val < 8 := (i 1).isLt
  have ht : ∃ t : Fin grid0.N, win0_4.flush t = true := by decide +kernel
  obtain ⟨t, hf⟩ := ht
  refine ⟨t, hf, ?_⟩
  show i ∈ ((View.whole main_v3_0).slice (win0_4.rect t)).set
  rw [View.set_slice_whole, Rect.mem_set_unit]
  intro a
  match a with
  | ⟨0, _⟩ => show 0 * 15360 ≤ (i 0).val ∧ (i 0).val < 0 * 15360 + 15360; omega
  | ⟨1, _⟩ => show 0 * 8 ≤ (i 1).val ∧ (i 1).val < 0 * 8 + 8; omega

theorem final4 : (dats m 0 c).arrAt 4 cfg0.N = outMax m c :=
  (dats m 0 c).arrAt_eq_of_cover 4 _ (fun t hf => flushed4_eq m c t hf) covered4

theorem flushed5_eq (t : Fin cfg0.N) (hf : (cfg0.win 5).flush t = true) :
    (dats m 0 c).flushed 5 t = ((cfg0.win 5).blk t).view.read (Elt Ideal) (outSum m c) := by
  show (cfg0.win 5).cut (grid0.coords t) ((dats m 0 c).after 5 t) = _
  rw [after0_5]
  funext y
  have cut_eq : ∀ Z : Vec Ideal S15360x8 .f32, (cfg0.win 5).cut (grid0.coords t) Z y = Z ((cfg0.win 5).xinj (grid0.coords t) y) := fun _ => rfl
  have read_eq : ∀ X : Vec Ideal S15360x8 .f32, ((cfg0.win 5).blk t).view.read (Elt Ideal) X y = X (((cfg0.win 5).blk t).view.emb y) := fun _ => rfl
  have hx : (cfg0.win 5).xinj (grid0.coords t) y = (ix2 (n0 := 15360) (n1 := 8) (y 0) (y 1) : S15360x8.Idx) := eq_ix2 (n0 := 15360) (n1 := 8) _
  have he : ((cfg0.win 5).blk t).view.emb y = (ix2 (n0 := 15360) (n1 := 8) (y 0) (y 1) : S15360x8.Idx) := funext fun a => Fin.ext (by
    match a with
    | ⟨0, _⟩ => show 0 * 15360 + 1 * (y 0).val = (y 0).val; omega
    | ⟨1, _⟩ => show 0 * 8 + 1 * (y 1).val = (y 1).val; omega)
  refine (cut_eq _).trans (Eq.trans ?_ (read_eq (outSum m c)).symm)
  refine (congrArg (out0_5 _ _ _ _) hx).trans ?_
  refine Eq.trans ?_ ((congrArg (outSum m c) he).trans (outSum_apply m c (y 0) (y 1))).symm
  exact (canon_apply _ _).trans (pay3_apply _ _ _ _ _ (logits m c t) (y 0) (y 1))

theorem covered5 (i : S15360x8.Idx) : ∃ t : Fin cfg0.N, (cfg0.win 5).flush t = true ∧ i ∈ ((cfg0.win 5).blk t).view.set := by
  have h0 : (i 0).val < 15360 := (i 0).isLt
  have h1 : (i 1).val < 8 := (i 1).isLt
  have ht : ∃ t : Fin grid0.N, win0_5.flush t = true := by decide +kernel
  obtain ⟨t, hf⟩ := ht
  refine ⟨t, hf, ?_⟩
  show i ∈ ((View.whole main_v3_1).slice (win0_5.rect t)).set
  rw [View.set_slice_whole, Rect.mem_set_unit]
  intro a
  match a with
  | ⟨0, _⟩ => show 0 * 15360 ≤ (i 0).val ∧ (i 0).val < 0 * 15360 + 15360; omega
  | ⟨1, _⟩ => show 0 * 8 ≤ (i 1).val ∧ (i 1).val < 0 * 8 + 8; omega

theorem final5 : (dats m 0 c).arrAt 5 cfg0.N = outSum m c :=
  (dats m 0 c).arrAt_eq_of_cover 5 _ (fun t hf => flushed5_eq m c t hf) covered5

/-! ## The results after the host's reshapes -/

/-- The reshape lays a table out by sequence, place and shard. -/
theorem tail_apply (f : Fin 8 → Fin 15360 → EReal) (X : FVec Ideal S15360x8 .f32) (hX : ∀ s g, X (ix2 s g) = f g s) (h) :
    shapeCast S6x2560x8 X h = byPlace f := by
  funext i
  obtain ⟨b, p, g, rfl⟩ : ∃ (b : Fin 6) (p : Fin 2560) (g : Fin 8), i = ix3 b p g := ⟨i 0, i 1, i 2, eq_ix3 i⟩
  refine (shapeCast_apply _ _ _ (ix2 (⟨2560 * b.val + p.val, by omega⟩ : Fin 15360) g) ?_).trans (hX _ _)
  refine (Shape.rowMajor_val_two (ix2 (⟨2560 * b.val + p.val, by omega⟩ : Fin 15360) g)).trans (Eq.trans ?_ (Shape.rowMajor_val_three (ix3 b p g)).symm)
  show (2560 * b.val + p.val) * 8 + g.val = (b.val * 2560 + p.val) * 8 + g.val
  omega

theorem arrRef_injective : Function.Injective (Pipeline.arrRef cfg0.spec) := by decide

/-- The maxima at the end, -/
theorem tail4 : Pipeline.afterTail₀ cfgs (dats m) 0 (V0 m) [hostOps1] c main_v4 = byPlace (shardMax (argLogit m c)) := by
  unfold Pipeline.afterTail₀
  have e := Pipeline.withArrays_arr cfg0.spec arrRef_injective c (V0 m c) (fun w => (dats m 0 c).arrAt w cfg0.N) 4
  rw [final4] at e
  simp only [List.flatten_cons, List.flatten_nil, List.append_nil]
  after_results
  refine (congrArg (fun X : FVec Ideal S15360x8 .f32 => shapeCast S6x2560x8 X shapeCasts_S15360x8_S6x2560x8) e).trans ?_
  exact tail_apply _ _ (outMax_apply m c) _

/-- and the sums. -/
theorem tail5 : Pipeline.afterTail₀ cfgs (dats m) 0 (V0 m) [hostOps1] c main_v5 = byPlace (shardSum (argLogit m c)) := by
  unfold Pipeline.afterTail₀
  have e := Pipeline.withArrays_arr cfg0.spec arrRef_injective c (V0 m c) (fun w => (dats m 0 c).arrAt w cfg0.N) 5
  rw [final5] at e
  simp only [List.flatten_cons, List.flatten_nil, List.append_nil]
  after_results
  refine (congrArg (fun X : FVec Ideal S15360x8 .f32 => shapeCast S6x2560x8 X shapeCasts_S15360x8_S6x2560x8) e).trans ?_
  exact tail_apply _ _ (outSum_apply m c) _

/-- The run: the results hold every shard's maximum and sum, and the arguments end unchanged. -/
theorem run : θ_run defs (onTc (τ := τ) (main (F := Ideal))) ⟨m, fun _ => 0, ρ⟩ fun r => ∀ c : Dev nD,
      r.2.mem ((c : Thread nD τ).loc main_v4) = byPlace (shardMax (argLogit m c))
      ∧ r.2.mem ((c : Thread nD τ).loc main_v5) = byPlace (shardSum (argLogit m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.2 c).2 main_v4 (Pipeline.mem_restRefs_of main_v4 (by decide) (by decide))).trans (tail4 m c),
      ((h.2 c).2 main_v5 (Pipeline.mem_restRefs_of main_v5 (by decide) (by decide))).trans (tail5 m c), h.1.1 c⟩)
    (θ_run_and (frame m ρ) (run_main m ρ))

end Cert.ReferenceIdeal.Value
-- ==== Proof.Finish.Template.lean ====
/- The kernel's body written once as loops: the printed body is the same program with the row blocks and the column blocks
   unrolled and cut into parts, and BodyEq.lean says so. -/
module

public import proofs.«01_k».proof.Proof.Gen.Finish.Launch
public import proofs.«01_k».proof.Proof.Gen.Finish.Loops

@[expose] public section

set_option maxRecDepth 16384

noncomputable section

namespace Cert.Finish.Gen

open Idealize.ShloMosaic Idealize.ShloMosaic.TcCoe Idealize.ShloMosaic.Tactic
open Idealize.SL.Sem

variable {F : FTy → Type} [FloatOps F]

/-- Programs of the kernel's body. -/
abbrev BodyProg (F : FTy → Type) [FloatOps F] := Prog (TpuEff nD τ sig (Elt F) Λ₀ .tc) PUnit

/-! ## Offsets -/

/-- The slot of the scratch that a point's rows lie in, as the kernel computes it. -/
def slotW (i : grid0.Coords) : Nat := k0_off14 i 0

/-- 128 rows of the slot. -/
theorem inbSc (i : grid0.Coords) (r : Fin 4) : ∀ a, (![slotW i, 128 * r.val, 0] : Fin 3 → Nat) a + S1x128x128.size a ≤ S2x512x128.size a := by
  intro a; have := r.isLt
  match a with
  | ⟨0, _⟩ => exact k0_off14_inb i 0
  | ⟨1, _⟩ => show 128 * r.val + 128 ≤ 512; omega
  | ⟨2, _⟩ => show 0 + 128 ≤ 128; omega

/-- 128 columns of 128 rows of the slot, -/
theorem inbRw (i : grid0.Coords) (r : Fin 4) (j : Fin 16) : ∀ a, (![slotW i, 128 * r.val, 128 * j.val] : Fin 3 → Nat) a + S1x128x128.size a ≤ S2x512x2048.size a := by
  intro a; have := r.isLt; have := j.isLt
  match a with
  | ⟨0, _⟩ => exact k0_off14_inb i 0
  | ⟨1, _⟩ => show 128 * r.val + 128 ≤ 512; omega
  | ⟨2, _⟩ => show 128 * j.val + 128 ≤ 2048; omega

/-- of the point's tokens, -/
theorem inbHh (r : Fin 4) (j : Fin 16) : ∀ a, (![128 * r.val, 128 * j.val] : Fin 2 → Nat) a + S128x128.size a ≤ S512x2048.size a := by
  intro a; have := r.isLt; have := j.isLt
  match a with
  | ⟨0, _⟩ => show 128 * r.val + 128 ≤ 512; omega
  | ⟨1, _⟩ => show 128 * j.val + 128 ≤ 2048; omega

/-- and 128 entries of a row over the tokens. -/
theorem inbTk (r : Fin 4) : ∀ a, (![0, 128 * r.val] : Fin 2 → Nat) a + S1x128.size a ≤ S1x512.size a := by
  intro a; have := r.isLt
  match a with
  | ⟨0, _⟩ => show 0 + 1 ≤ 1; omega
  | ⟨1, _⟩ => show 128 * r.val + 128 ≤ 512; omega

/-! ## Values -/

/-- The code in each word, at its byte's shift. -/
def codeVal (sh : Vec F S1x128x128 .i32) (w : Vec F S1x128x128 .i32) : FVec F S128x128 .f32 :=
  extf .f32 (bitcastToFloat .fp8e4m3 (trunci 8 (shrui (shapeCast S128x128 w shapeCasts_S1x128x128_S128x128) (shapeCast S128x128 sh shapeCasts_S1x128x128_S128x128)) natLt_8_32)) bitsLt_fp8e4m3_f32

/-- The running lane products after a column block. -/
def dotVal (sh : Vec F S1x128x128 .i32) (acc : FVec F S128x128 .f32) (w : Vec F S1x128x128 .i32) (h : Vec F S128x128 .fp8e4m3) : FVec F S128x128 .f32 :=
  addf acc (mulf (codeVal sh w) (extf .f32 (shapeCast S128x128 h shapeCasts_S128x128_S128x128) bitsLt_fp8e4m3_f32))

/-- A row block's target logits. -/
def rowVal (acc : FVec F S128x128 .f32) (sc : Vec F S1x128x128 .f32) (hs : Vec F S1x128 .f32) : FVec F S1x128 .f32 :=
  mulf (shapeCast S1x128 (multiReduction .add [0] S128 (transpose S128x128 [1, 0] (mulf acc (shapeCast S128x128 sc shapeCasts_S1x128x128_S128x128)) transposes_S128x128_p1_0_S128x128) 0x00000000#32 reduces_S128x128_S128 (.inl rfl) rfl) shapeCasts_S128_S1x128)
    (shapeCast S1x128 hs shapeCasts_S1x128_S1x128)

/-! ## The program -/

/-- One row's fetch: its transfer, its scale and its byte's shift. -/
def fetchK (arg1 : Memref sig .tc .smem S15360 .i32) (arg2 : Memref sig .tc .smem S128256 .f32) (arg3 : Memref sig .tc .hbm S32064x2048 .i32)
    (arg18 : Memref sig .tc .vmem S2x512x2048 .i32) (arg19 : Memref sig .tc .vmem S2x512x128 .f32) (arg20 : Memref sig .tc .vmem S2x512x128 .i32)
    (sem : DmaSem sig) (offL : Fin 1 → Nat) (inbL : ∀ a, offL a + S1.size a ≤ S15360.size a)
    (offD : Fin 3 → Nat) (inbD : ∀ a, offD a + S1x1x2048.size a ≤ S2x512x2048.size a)
    (offR : Fin 3 → Nat) (inbR : ∀ a, offR a + S1x1x128.size a ≤ S2x512x128.size a)
    (P : BitVec 32 → Prop) (dec : ∀ v, Decidable (P v))
    (inbW : ∀ v, P v → ∀ a, (![(Scalar.shrsi v 2#32).toNat, 0] : Fin 2 → Nat) a + S1x2048.size a ≤ S32064x2048.size a)
    (inbS : ∀ v, P v → ∀ a, (![v.toNat] : Fin 1 → Nat) a + S1.size a ≤ S128256.size a) : BodyProg F :=
  smemLoad arg1 (Rect.unit (s := S15360) offL S1.size inbL) numel1_S1 rfl >>= fun (v : BitVec 32) =>
  .op (.assume (P v) (dec v)) fun h =>
  .op (.enqueueDma (arg3.slice (Rect.unit (s := S32064x2048) ![(Scalar.shrsi v 2#32).toNat, 0] S1x2048.size (inbW v h.down)) (fun _ => rfl))
    (.here ((arg18.slice (Rect.unit (s := S2x512x2048) offD S1x1x2048.size inbD) (fun _ => rfl)).squeeze S1x2048 squeezes_S1x1x2048_S1x2048))
    (.dma sem) (View.wordExact_bits rfl) ((View.wordExact_bits rfl).reshape _ _) ⟨Or.inl rfl, trivial⟩) fun _ =>
  smemLoad arg2 (Rect.unit (s := S128256) ![v.toNat] S1.size (inbS v h.down)) numel1_S1 rfl >>= fun (x : Elt F .f32) =>
  .op (.load arg19 (Rect.unit (s := S2x512x128) offR S1x1x128.size inbR).toLoadRect (View.loadsAt_vmem h_S1x1x128)) fun _ =>
  .op (.store arg19 (Rect.unit (s := S2x512x128) offR S1x1x128.size inbR) (k0_pay13 x) Finset.univ (View.stores_vmem_bits_univ h_S1x1x128 rfl) (.inl rfl)) fun _ =>
  .op (.load arg20 (Rect.unit (s := S2x512x128) offR S1x1x128.size inbR).toLoadRect (View.loadsAt_vmem h_S1x1x128)) fun _ =>
  .op (.store arg20 (Rect.unit (s := S2x512x128) offR S1x1x128.size inbR) (k0_pay14 (F := F) v) Finset.univ (View.stores_vmem_bits_univ h_S1x1x128 rfl) (.inl rfl)) fun _ =>
  .ret ⟨⟩

variable (i : grid0.Coords) (arg1 : Memref sig .tc .smem S15360 .i32) (arg2 : Memref sig .tc .smem S128256 .f32) (arg3 : Memref sig .tc .hbm S32064x2048 .i32)
  (arg4 : Memref sig .tc .vmem S512x2048 .fp8e4m3) (arg5 : Memref sig .tc .vmem S1x512 .f32) (arg6 arg7 : Memref sig .tc .vmem S8x512 .f32)
  (arg8 arg9 : Memref sig .tc .vmem S1x512 .i32) (arg10 : Memref sig .tc .vmem S24x1 .f32) (arg11 arg12 : Memref sig .tc .vmem S1x12 .i32)
  (arg13 arg14 : Memref sig .tc .vmem S1x512 .f32) (arg15 : Memref sig .tc .vmem S24x1 .f32) (arg16 arg17 : Memref sig .tc .vmem S1x12 .f32)
  (arg18 : Memref sig .tc .vmem S2x512x2048 .i32) (arg19 : Memref sig .tc .vmem S2x512x128 .f32) (arg20 : Memref sig .tc .vmem S2x512x128 .i32)
  (arg21 : Memref sig .tc .vmem S24x128 .f32) (arg22 : DmaSems sig S2)

/-- A trip of the first point's fetch of its own rows. -/
def fetch1 (h : k0_cond1 i = 1#1) (k : Fin k0_t1_loop.trips) (_ : Unit) : BodyProg F :=
  fetchK arg1 arg2 arg3 arg18 arg19 arg20
    ((arg22.slice (Rect.unit (s := S2) ![0] S1.size inb_S2_S1_0)).squeeze S_ squeezes_S1_S_).sem
    (k0_off1 k) (k0_off1_inb i k h) (k0_off2 k) (k0_off2_inb i k h) (k0_off5 k) (k0_off5_inb i k h) (k0_chk1 i) (k0_chk1.dec i)
    (fun v hv => k0_off3_inb i v hv h) (fun v hv => k0_off4_inb i v hv h)

/-- A trip of a point's fetch of the next point's rows. -/
def fetch2 (h : k0_cond2 i = 1#1) (k : Fin k0_t2_loop.trips) (_ : Unit) : BodyProg F :=
  fetchK arg1 arg2 arg3 arg18 arg19 arg20
    ((arg22.slice (Rect.unit (s := S2) (k0_off7 i) S1.size (k0_off7_inb i h))).squeeze S_ squeezes_S1_S_).sem
    (k0_off6 i k) (k0_off6_inb i k h) (k0_off8 i k) (k0_off8_inb i k h) (k0_off11 i k) (k0_off11_inb i k h) (k0_chk2 i) (k0_chk2.dec i)
    (fun v hv => k0_off9_inb i v hv h) (fun v hv => k0_off10_inb i v hv h)

/-- A trip of the wait for a point's rows. -/
def wait3 (k : Fin k0_t3_loop.trips) (_ : Unit) : BodyProg F :=
  .op (.waitDma2 ((arg22.slice (Rect.unit (s := S2) (k0_off12 i) S1.size (k0_off12_inb i))).squeeze S_ squeezes_S1_S_).sem
    (arg3.slice (Rect.unit (s := S32064x2048) ![0, 0] S1x2048.size inb_S32064x2048_S1x2048_0_0) (fun _ => rfl))
    ((arg18.slice (Rect.unit (s := S2x512x2048) (k0_off13 i k) S1x1x2048.size (k0_off13_inb i k)) (fun _ => rfl)).squeeze S1x2048 squeezes_S1x1x2048_S1x2048)
    (View.wordExact_bits rfl) ((View.wordExact_bits rfl).reshape _ _)) fun _ => .ret ⟨⟩

/-- The first point: the sums are zero, its own rows are fetched. -/
def initK : BodyProg F :=
  if h : k0_cond1 i = 1#1 then
    .op (.load arg21 (Rect.unit (s := S24x128) ![0, 0] S24x128.size inb_S24x128_S24x128_0_0).toLoadRect (View.loadsAt_vmem h_S24x128)) fun _ =>
    .op (.store arg21 (Rect.unit (s := S24x128) ![0, 0] S24x128.size inb_S24x128_S24x128_0_0) (k0_pay12 (F := F)) Finset.univ (View.stores_vmem_bits_univ h_S24x128 rfl) (.inl rfl)) fun _ =>
    Scf.Loop.for k0_t1_loop (k0_t1_ok i h) ⟨⟩ (fetch1 i arg1 arg2 arg3 arg18 arg19 arg20 arg22 h)
  else .ret ⟨⟩

/-- The next point's rows are fetched. -/
def nextK : BodyProg F :=
  if h : k0_cond2 i = 1#1 then
    Scf.Loop.for k0_t2_loop (k0_t2_ok i h) ⟨⟩ (fetch2 i arg1 arg2 arg3 arg18 arg19 arg20 arg22 h)
  else .ret ⟨⟩

/-- The point's own rows are waited for. -/
def waitK : BodyProg F := Scf.Loop.for k0_t3_loop k0_t3_ok ⟨⟩ (wait3 i arg3 arg18 arg22)

/-- A row block's lane products, column block by column block. -/
def dotsK (r : Fin 4) (sh : Vec F S1x128x128 .i32) : List (Fin 16) → FVec F S128x128 .f32 → (FVec F S128x128 .f32 → BodyProg F) → BodyProg F
  | [], acc, K => K acc
  | j :: js, acc, K =>
    .op (.load arg18 (Rect.unit (s := S2x512x2048) ![slotW i, 128 * r.val, 128 * j.val] S1x128x128.size (inbRw i r j)).toLoadRect (View.loadsAt_vmem h_S1x128x128)) fun w =>
    .op (.load arg4 (Rect.unit (s := S512x2048) ![128 * r.val, 128 * j.val] S128x128.size (inbHh r j)).toLoadRect (View.loadsAt_vmem h_S128x128)) fun h =>
    dotsK r sh js (dotVal sh acc w h) K

/-- The column blocks. -/
abbrev cols : List (Fin 16) := [0, 1, 2, 3, 4, 5, 6, 7, 8, 9, 10, 11, 12, 13, 14, 15]

/-- One row block. -/
def blockK (r : Fin 4) (K : BodyProg F) : BodyProg F :=
  .op (.load arg20 (Rect.unit (s := S2x512x128) ![slotW i, 128 * r.val, 0] S1x128x128.size (inbSc i r)).toLoadRect (View.loadsAt_vmem h_S1x128x128)) fun sh =>
  dotsK i arg4 arg18 r sh cols (broadcast S128x128 (Scalar.ofBits (F := F) .f32 0x00000000#32)) fun acc =>
  .op (.load arg19 (Rect.unit (s := S2x512x128) ![slotW i, 128 * r.val, 0] S1x128x128.size (inbSc i r)).toLoadRect (View.loadsAt_vmem h_S1x128x128)) fun sc =>
  .op (.load arg5 (Rect.unit (s := S1x512) ![0, 128 * r.val] S1x128.size (inbTk r)).toLoadRect (View.loadsAt_vmem h_S1x128)) fun hs =>
  .op (.load arg14 (Rect.unit (s := S1x512) ![0, 128 * r.val] S1x128.size (inbTk r)).toLoadRect (View.loadsAt_vmem h_S1x128)) fun _ =>
  .op (.store arg14 (Rect.unit (s := S1x512) ![0, 128 * r.val] S1x128.size (inbTk r)) (rowVal acc sc hs) Finset.univ (View.stores_vmem_bits_univ h_S1x128 rfl) (.inl rfl)) fun _ =>
  K

/-- The last point: the sequences' sums, and the pairs' margins and losses. -/
def lastK : BodyProg F :=
  if h : k0_cond3 i = 1#1 then
    .op (.load arg21 (Rect.unit (s := S24x128) ![0, 0] S24x128.size inb_S24x128_S24x128_0_0).toLoadRect (View.loadsAt_vmem h_S24x128)) fun a =>
    .op (.load arg15 (Rect.unit (s := S24x1) ![0, 0] S24x1.size inb_S24x1_S24x1_0_0).toLoadRect (View.loadsAt_vmem h_S24x1)) fun _ =>
    .op (.store arg15 (Rect.unit (s := S24x1) ![0, 0] S24x1.size inb_S24x1_S24x1_0_0) (k0_pay4 a) Finset.univ (View.stores_vmem_bits_univ h_S24x1 rfl) (.inl rfl)) fun _ =>
    .op (.load arg11 (Rect.unit (s := S1x12) ![0, 0] S1x12.size inb_S1x12_S1x12_0_0).toLoadRect (View.loadsAt_vmem h_S1x12)) fun p =>
    .op (.load arg12 (Rect.unit (s := S1x12) ![0, 0] S1x12.size inb_S1x12_S1x12_0_0).toLoadRect (View.loadsAt_vmem h_S1x12)) fun n =>
    .op (.load arg10 (Rect.unit (s := S24x1) ![0, 0] S24x1.size inb_S24x1_S24x1_0_0).toLoadRect (View.loadsAt_vmem h_S24x1)) fun r =>
    .op (.load arg17 (Rect.unit (s := S1x12) ![0, 0] S1x12.size inb_S1x12_S1x12_0_0).toLoadRect (View.loadsAt_vmem h_S1x12)) fun _ =>
    .op (.store arg17 (Rect.unit (s := S1x12) ![0, 0] S1x12.size inb_S1x12_S1x12_0_0) (k0_pay2 (k0_pay7 a p r) (k0_pay8 a n) (k0_pay9 (F := F) n) (k0_pay10 r) (k0_pay11 (F := F))) Finset.univ (View.stores_vmem_bits_univ h_S1x12 rfl) (.inl rfl)) fun _ =>
    .op (.load arg16 (Rect.unit (s := S1x12) ![0, 0] S1x12.size inb_S1x12_S1x12_0_0).toLoadRect (View.loadsAt_vmem h_S1x12)) fun _ =>
    .op (.store arg16 (Rect.unit (s := S1x12) ![0, 0] S1x12.size inb_S1x12_S1x12_0_0) (k0_pay3 (k0_pay7 a p r) (k0_pay8 a n) (k0_pay9 (F := F) n) (k0_pay10 r) (k0_pay11 (F := F))) Finset.univ (View.stores_vmem_bits_univ h_S1x12 rfl) (.inl rfl)) fun _ =>
    .ret ⟨⟩
  else .ret ⟨⟩

/-- From the target logits to the token log probabilities and the sequences' lane sums. -/
def tokK (K : BodyProg F) : BodyProg F :=
  .op (.load arg14 (Rect.unit (s := S1x512) ![0, 0] S1x512.size inb_S1x512_S1x512_0_0).toLoadRect (View.loadsAt_vmem h_S1x512)) fun t =>
  .op (.load arg6 (Rect.unit (s := S8x512) ![0, 0] S8x512.size inb_S8x512_S8x512_0_0).toLoadRect (View.loadsAt_vmem h_S8x512)) fun m =>
  .op (.load arg7 (Rect.unit (s := S8x512) ![0, 0] S8x512.size inb_S8x512_S8x512_0_0).toLoadRect (View.loadsAt_vmem h_S8x512)) fun s =>
  .op (.load arg13 (Rect.unit (s := S1x512) ![0, 0] S1x512.size inb_S1x512_S1x512_0_0).toLoadRect (View.loadsAt_vmem h_S1x512)) fun _ =>
  .op (.store arg13 (Rect.unit (s := S1x512) ![0, 0] S1x512.size inb_S1x512_S1x512_0_0) (k0_pay58 t m s) Finset.univ (View.stores_vmem_bits_univ h_S1x512 rfl) (.inl rfl)) fun _ =>
  .op (.load arg9 (Rect.unit (s := S1x512) ![0, 0] S1x512.size inb_S1x512_S1x512_0_0).toLoadRect (View.loadsAt_vmem h_S1x512)) fun k =>
  .op (.load arg8 (Rect.unit (s := S1x512) ![0, 0] S1x512.size inb_S1x512_S1x512_0_0).toLoadRect (View.loadsAt_vmem h_S1x512)) fun g =>
  .op (.load arg21 (Rect.unit (s := S24x128) ![0, 0] S24x128.size inb_S24x128_S24x128_0_0).toLoadRect (View.loadsAt_vmem h_S24x128)) fun a =>
  .op (.load arg21 (Rect.unit (s := S24x128) ![0, 0] S24x128.size inb_S24x128_S24x128_0_0).toLoadRect (View.loadsAt_vmem h_S24x128)) fun _ =>
  .op (.store arg21 (Rect.unit (s := S24x128) ![0, 0] S24x128.size inb_S24x128_S24x128_0_0) (k0_pay1 (k0_pay59 t m s k g) a) Finset.univ (View.stores_vmem_bits_univ h_S24x128 rfl) (.inl rfl)) fun _ =>
  K

/-- What a point does once its rows are there. -/
def mainK : BodyProg F :=
  ([0, 1, 2, 3] : List (Fin 4)).foldr (fun r (K : BodyProg F) => blockK i arg4 arg5 arg14 arg18 arg19 arg20 r K)
    (tokK arg6 arg7 arg8 arg9 arg13 arg14 arg21 (lastK i arg10 arg11 arg12 arg15 arg16 arg17 arg21))

end Cert.Finish.Gen

end
-- ==== Proof.Finish.BodyEq.lean ====
/- The printed body is the template of Template.lean. -/
module

public import proofs.«01_k».proof.Proof.Finish.Template

@[expose] public section

set_option maxRecDepth 16384

noncomputable section

namespace Cert.Finish.Gen

open Idealize.ShloMosaic Idealize.ShloMosaic.TcCoe Idealize.ShloMosaic.Tactic
open Idealize.SL.Sem

variable {F : FTy → Type} [FloatOps F]

variable (i : grid0.Coords) (arg1 : Memref sig .tc .smem S15360 .i32) (harg1 : arg1.IsWhole) (arg2 : Memref sig .tc .smem S128256 .f32) (harg2 : arg2.IsWhole) (arg3 : Memref sig .tc .hbm S32064x2048 .i32) (harg3 : arg3.IsWhole) (arg4 : Memref sig .tc .vmem S512x2048 .fp8e4m3) (harg4 : arg4.IsWhole) (arg5 : Memref sig .tc .vmem S1x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x512 .i32) (harg8 : arg8.IsWhole) (arg9 : Memref sig .tc .vmem S1x512 .i32) (harg9 : arg9.IsWhole) (arg10 : Memref sig .tc .vmem S24x1 .f32) (harg10 : arg10.IsWhole) (arg11 : Memref sig .tc .vmem S1x12 .i32) (harg11 : arg11.IsWhole) (arg12 : Memref sig .tc .vmem S1x12 .i32) (harg12 : arg12.IsWhole) (arg13 : Memref sig .tc .vmem S1x512 .f32) (harg13 : arg13.IsWhole) (arg14 : Memref sig .tc .vmem S1x512 .f32) (harg14 : arg14.IsWhole) (arg15 : Memref sig .tc .vmem S24x1 .f32) (harg15 : arg15.IsWhole) (arg16 : Memref sig .tc .vmem S1x12 .f32) (harg16 : arg16.IsWhole) (arg17 : Memref sig .tc .vmem S1x12 .f32) (harg17 : arg17.IsWhole) (arg18 : Memref sig .tc .vmem S2x512x2048 .i32) (harg18 : arg18.IsWhole) (arg19 : Memref sig .tc .vmem S2x512x128 .f32) (harg19 : arg19.IsWhole) (arg20 : Memref sig .tc .vmem S2x512x128 .i32) (harg20 : arg20.IsWhole) (arg21 : Memref sig .tc .vmem S24x128 .f32) (harg21 : arg21.IsWhole) (arg22 : DmaSems sig S2)

/-- The trips of the three loops. -/
theorem t1_eq (h : k0_cond1 i = 1#1) : k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 h = fetch1 i arg1 arg2 arg3 arg18 arg19 arg20 arg22 h := by
  sl_kernel_rfl

theorem t2_eq (h : k0_cond2 i = 1#1) : k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 h = fetch2 i arg1 arg2 arg3 arg18 arg19 arg20 arg22 h := by
  sl_kernel_rfl

theorem t3_eq : k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 = wait3 i arg3 arg18 arg22 := by
  sl_kernel_rfl

theorem body_eq :
    cc0_finish (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
      = initK i arg1 arg2 arg3 arg18 arg19 arg20 arg21 arg22 >>= fun _ => nextK i arg1 arg2 arg3 arg18 arg19 arg20 arg22 >>= fun _ =>
        waitK i arg3 arg18 arg22 >>= fun _ =>
        mainK i arg4 arg5 arg6 arg7 arg8 arg9 arg10 arg11 arg12 arg13 arg14 arg15 arg16 arg17 arg18 arg19 arg20 arg21 := by
  rw [cc0_finish_eq_skeleton]
  unfold cc0_finish_skel
  rw [k0_part2_eq_skeleton]
  unfold k0_part2_skel
  rw [t3_eq]
  unfold initK nextK waitK
  by_cases h1 : k0_cond1 i = 1#1 <;> by_cases h2 : k0_cond2 i = 1#1
  · simp only [dif_pos h1, dif_pos h2, t1_eq, t2_eq, bind_assoc, pure_bind, bind_pure_unit]
    sl_kernel_rfl
  · simp only [dif_pos h1, dif_neg h2, t1_eq, t2_eq, bind_assoc, pure_bind, bind_pure_unit]
    sl_kernel_rfl
  · simp only [dif_neg h1, dif_pos h2, t1_eq, t2_eq, bind_assoc, pure_bind, bind_pure_unit]
    sl_kernel_rfl
  · simp only [dif_neg h1, dif_neg h2, t1_eq, t2_eq, bind_assoc, pure_bind, bind_pure_unit]
    sl_kernel_rfl

end Cert.Finish.Gen

end
-- ==== Proof.FinishSets.lean ====
/- The rows' places, of either kernel: the rows of words a block's labels name, the slots' elements, and the words
   that count them. -/
module

public import Idealize.ShloMosaic.Lib.StableHlo
public import Idealize.ShloMosaic.PureOps
public import Idealize.ShloMosaic.Lib.WordCmp
public import proofs.«01_k».proof.Proof.VecRules

@[expose] public section

noncomputable section

namespace Cert.FinishSets

open Idealize.ShloMosaic

abbrev S15360 : Shape := ⟨1, ![15360]⟩
abbrev S128256 : Shape := ⟨1, ![128256]⟩
abbrev S32064x2048 : Shape := ⟨2, ![32064, 2048]⟩
abbrev S2x512x2048 : Shape := ⟨3, ![2, 512, 2048]⟩
abbrev S2x512x128 : Shape := ⟨3, ![2, 512, 128]⟩

variable {F : FTy → Type} [FloatOps F]

/-- The label of token `n`. -/
def labAt (lab : Vec F S15360 .i32) (n : Nat) : BitVec 32 :=
  lab (fun a => match a with | ⟨0, _⟩ => ⟨n % 15360, Nat.mod_lt _ (by decide)⟩)

/-- The row of words that holds a label's codes. -/
def rowNo (v : BitVec 32) : Nat := (Scalar.shrsi v 2#32).toNat

/-- The rows of block `t`'s tokens, in either slot. -/
def rowsAt (lab : Vec F S15360 .i32) (W : Vec F S32064x2048 .i32) (t : Nat) : Vec F S2x512x2048 .i32 := fun y =>
  W (fun a => match a with
    | ⟨0, _⟩ => ⟨rowNo (labAt lab (t * 512 + (y 1).val)) % 32064, Nat.mod_lt _ (by decide)⟩
    | ⟨1, _⟩ => y 2)

/-- A label's scale. -/
def scOf (wsc : Vec F S128256 .f32) (v : BitVec 32) : Elt F .f32 :=
  wsc (fun a => match a with | ⟨0, _⟩ => ⟨v.toNat % 128256, Nat.mod_lt _ (by decide)⟩)

/-- Block `t`'s scales, in either slot. -/
def scaleAt (lab : Vec F S15360 .i32) (wsc : Vec F S128256 .f32) (t : Nat) : Vec F S2x512x128 .f32 := fun y =>
  scOf wsc (labAt lab (t * 512 + (y 1).val))

/-- A slot. -/
def slotSet (s : Nat) : Finset S2x512x2048.Idx := Finset.univ.filter fun y => (y 0).val = s
/-- Its rows from `k` on. -/
def rowsFrom (s k : Nat) : Finset S2x512x2048.Idx := Finset.univ.filter fun y => (y 0).val = s ∧ k ≤ (y 1).val
/-- Its row `k`. -/
def rowSet (s k : Nat) : Finset S2x512x2048.Idx := Finset.univ.filter fun y => (y 0).val = s ∧ (y 1).val = k
/-- A row of words. -/
def wRow (n : Nat) : Finset S32064x2048.Idx := Finset.univ.filter fun y => (y 0).val = n

theorem rowSet_sub (s k : Nat) : rowSet s k ⊆ rowsFrom s k := by
  intro y hy
  rw [rowSet, Finset.mem_filter] at hy
  rw [rowsFrom, Finset.mem_filter]
  exact ⟨hy.1, hy.2.1, hy.2.2.ge⟩

theorem rowsFrom_sdiff (s k : Nat) : rowsFrom s k \ rowSet s k = rowsFrom s (k + 1) := by
  ext y
  rw [Finset.mem_sdiff, rowsFrom, rowSet, rowsFrom, Finset.mem_filter, Finset.mem_filter, Finset.mem_filter]
  constructor
  · rintro ⟨⟨h, h0, h1⟩, hn⟩
    refine ⟨h, h0, ?_⟩
    have : (y 1).val ≠ k := fun e => hn ⟨h, h0, e⟩
    omega
  · rintro ⟨h, h0, h1⟩
    exact ⟨⟨h, h0, by omega⟩, fun hn => by omega⟩

theorem rowsFrom_zero (s : Nat) : rowsFrom s 0 = slotSet s := by
  ext y
  rw [rowsFrom, slotSet, Finset.mem_filter, Finset.mem_filter]
  exact ⟨fun h => ⟨h.1, h.2.1⟩, fun h => ⟨h.1, h.2, Nat.zero_le _⟩⟩

theorem rowSet_biUnion (s : Nat) : (Finset.univ : Finset (Fin 512)).biUnion (fun k => rowSet s k.val) = slotSet s := by
  ext y
  rw [Finset.mem_biUnion, slotSet, Finset.mem_filter]
  constructor
  · rintro ⟨k, -, hk⟩
    rw [rowSet, Finset.mem_filter] at hk
    exact ⟨hk.1, hk.2.1⟩
  · rintro ⟨h, h0⟩
    refine ⟨⟨(y 1).val, (y 1).isLt⟩, Finset.mem_univ _, ?_⟩
    rw [rowSet, Finset.mem_filter]
    exact ⟨h, h0, rfl⟩

theorem rowSet_disjoint (s : Nat) : ∀ k ∈ (Finset.univ : Finset (Fin 512)), ∀ k' ∈ (Finset.univ : Finset (Fin 512)), k ≠ k' → Disjoint (rowSet s k.val) (rowSet s k'.val) := by
  intro k _ k' _ hne
  rw [Finset.disjoint_left]
  intro y hy hy'
  rw [rowSet, Finset.mem_filter] at hy hy'
  exact hne (Fin.ext (by omega))

/-- The slots are the whole buffer. -/
theorem slots_union : slotSet 0 ∪ slotSet 1 = (Finset.univ : Finset S2x512x2048.Idx) := by
  ext y
  have h0 : (y 0).val < 2 := (y 0).isLt
  rw [Finset.mem_union, slotSet, slotSet, Finset.mem_filter, Finset.mem_filter]
  constructor
  · intro _; exact Finset.mem_univ _
  · intro h
    rcases Nat.lt_or_ge (y 0).val 1 with h1 | h1
    · exact Or.inl ⟨h, by omega⟩
    · exact Or.inr ⟨h, by omega⟩

theorem slots_disjoint : Disjoint (slotSet 0) (slotSet 1) := by
  rw [Finset.disjoint_left]
  intro y hy hy'
  rw [slotSet, Finset.mem_filter] at hy hy'
  omega

/-! ## The kernel's arithmetic -/

theorem slot_rem (n : Nat) (h : n < 30) : (Scalar.remsi (BitVec.ofNat 32 n) 2#32 : BitVec 32).toNat = n % 2 := by
  have H : ∀ n : Fin 30, (Scalar.remsi (BitVec.ofNat 32 n.val) 2#32 : BitVec 32).toNat = n.val % 2 := by decide +kernel
  exact H ⟨n, h⟩

theorem slot_other (n : Nat) (h : n < 30) : (Scalar.subi 1#32 (Scalar.remsi (BitVec.ofNat 32 n) 2#32) : BitVec 32).toNat = (n + 1) % 2 := by
  have H : ∀ n : Fin 30, (Scalar.subi 1#32 (Scalar.remsi (BitVec.ofNat 32 n.val) 2#32) : BitVec 32).toNat = (n.val + 1) % 2 := by decide +kernel
  exact H ⟨n, h⟩

theorem row1 (k : Nat) (hk : k < 512) : (Scalar.addi 0#32 (Scalar.muli (Scf.iv 0#32 1#32 k) 1#32) : BitVec 32).toNat = k := by
  simp only [Scf.iv, Scalar.addi, Scalar.muli, IntOp.addi, IntOp.muli, BitVec.toNat_add, BitVec.toNat_mul, BitVec.toNat_ofNat]
  omega

theorem lab6 (n k : Nat) (hn : n < 30) (hk : k < 512) :
    (Scalar.addi (Scalar.muli (Scalar.addi (BitVec.ofNat 32 n) 1#32) 512#32) (Scalar.addi 0#32 (Scalar.muli (Scf.iv 0#32 1#32 k) 1#32)) : BitVec 32).toNat = (n + 1) * 512 + k := by
  simp only [Scf.iv, Scalar.addi, Scalar.muli, IntOp.addi, IntOp.muli, BitVec.toNat_add, BitVec.toNat_mul, BitVec.toNat_ofNat]
  omega

theorem lab1 (k : Nat) (hk : k < 512) :
    (Scalar.addi 0#32 (Scalar.addi 0#32 (Scalar.muli (Scf.iv 0#32 1#32 k) 1#32)) : BitVec 32).toNat = 0 * 512 + k := by
  simp only [Scf.iv, Scalar.addi, Scalar.muli, IntOp.addi, IntOp.muli, BitVec.toNat_add, BitVec.toNat_mul, BitVec.toNat_ofNat]
  omega

end Cert.FinishSets

end
-- ==== Proof.Finish.Sets.lean ====
/- The rows' places: which elements of the two slots and of the vocabulary's words a transfer names, and what the slots
   hold once a point's rows are there. -/
module

public import proofs.«01_k».proof.Proof.Finish.BodyEq
public import proofs.«01_k».proof.Proof.FinishSets

@[expose] public section

set_option maxRecDepth 16384

noncomputable section

namespace Cert.Finish.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.VecRules

variable {F : FTy → Type} [FloatOps F]

/-! ## What is fetched -/

export Cert.FinishSets (labAt rowNo rowsAt scOf slotSet rowsFrom rowSet wRow rowSet_sub rowsFrom_sdiff rowsFrom_zero rowSet_biUnion rowSet_disjoint slots_union slots_disjoint scaleAt)

/-- A label's byte's shift. -/
def shOf (v : BitVec 32) : Elt F .i32 := k0_pay14 (F := F) v (fun a => ⟨0, by fin_cases a <;> decide⟩)

/-- Block `t`'s shifts, in either slot. -/
def shiftAt (lab : Vec F S15360 .i32) (t : Nat) : Vec F S2x512x128 .i32 := fun y => shOf (labAt lab (t * 512 + (y 1).val))

/-! ## Element sets -/

/-- A row of a slot as the transfers name it. -/
abbrev dstM (off : Fin 3 → Nat) (inb : ∀ a, off a + S1x1x2048.size a ≤ S2x512x2048.size a) : Memref sig .tc .vmem S1x2048 .i32 :=
  ((Memref.whole cc0_scratch0).slice (Rect.unit (s := S2x512x2048) off S1x1x2048.size inb) (fun _ => rfl)).squeeze S1x2048 squeezes_S1x1x2048_S1x2048
/-- A row of words as they name it. -/
abbrev srcM (off : Fin 2 → Nat) (inb : ∀ a, off a + S1x2048.size a ≤ S32064x2048.size a) : Memref sig .tc .hbm S1x2048 .i32 :=
  (Memref.whole main_v2).slice (Rect.unit (s := S32064x2048) off S1x2048.size inb) (fun _ => rfl)

theorem dst_set (s k : Nat) (inb : ∀ a, (![s, k, 0] : Fin 3 → Nat) a + S1x1x2048.size a ≤ S2x512x2048.size a) :
    (dstM ![s, k, 0] inb).view.set = rowSet s k := by
  refine ((View.set_reshape _ _).trans (View.set_slice_whole _ _)).trans ?_
  ext y
  rw [Rect.mem_set_unit]
  have h2 : (y 2).val < 2048 := (y 2).isLt
  unfold rowSet
  rw [Finset.mem_filter]
  constructor
  · intro H
    have a0 : s ≤ (y 0).val ∧ (y 0).val < s + 1 := H 0
    have a1 : k ≤ (y 1).val ∧ (y 1).val < k + 1 := H 1
    exact ⟨Finset.mem_univ _, by omega, by omega⟩
  · rintro ⟨-, h0, h1⟩ a
    match a with
    | ⟨0, _⟩ => show s ≤ (y 0).val ∧ (y 0).val < s + 1; omega
    | ⟨1, _⟩ => show k ≤ (y 1).val ∧ (y 1).val < k + 1; omega
    | ⟨2, _⟩ => show 0 ≤ (y 2).val ∧ (y 2).val < 0 + 2048; omega

theorem src_set (n : Nat) (inb : ∀ a, (![n, 0] : Fin 2 → Nat) a + S1x2048.size a ≤ S32064x2048.size a) :
    (srcM ![n, 0] inb).view.set = wRow n := by
  refine (View.set_slice_whole _ _).trans ?_
  ext y
  rw [Rect.mem_set_unit]
  have h1 : (y 1).val < 2048 := (y 1).isLt
  unfold wRow
  rw [Finset.mem_filter]
  constructor
  · intro H
    have a0 : n ≤ (y 0).val ∧ (y 0).val < n + 1 := H 0
    exact ⟨Finset.mem_univ _, by omega⟩
  · rintro ⟨-, h0⟩ a
    match a with
    | ⟨0, _⟩ => show n ≤ (y 0).val ∧ (y 0).val < n + 1; omega
    | ⟨1, _⟩ => show 0 ≤ (y 1).val ∧ (y 1).val < 0 + 2048; omega

/-! ## What a transfer leaves -/

theorem landed (lab : Vec F S15360 .i32) (W : Vec F S32064x2048 .i32) (s t k : Nat)
    (inbD : ∀ a, (![s, k, 0] : Fin 3 → Nat) a + S1x1x2048.size a ≤ S2x512x2048.size a)
    (n : Nat) (inbS : ∀ a, (![n, 0] : Fin 2 → Nat) a + S1x2048.size a ≤ S32064x2048.size a)
    (hn : n = rowNo (labAt lab (t * 512 + k))) (f : Vec F S2x512x2048 .i32) :
    ∀ y ∈ rowSet s k, (dstM ![s, k, 0] inbD).view.write (Elt F) f ((srcM ![n, 0] inbS).view.read (Elt F) W) Finset.univ y = rowsAt lab W t y := by
  intro y hy
  have hy' := hy
  rw [← dst_set s k inbD] at hy
  obtain ⟨j, -, hj⟩ := Finset.mem_map.mp hy
  rw [rowSet, Finset.mem_filter] at hy'
  rw [← hj, View.write_emb_of_mem _ _ (Finset.mem_univ j), View.read_apply, hj]
  show W _ = W _
  have hlt : n < 32064 := by have := inbS 0; exact (by simpa using this : n + 1 ≤ 32064)
  congr 1
  have hj1 : (y 2).val = (j 1).val := by
    rw [← hj]
    have e := Shape.reshapeEquiv_cons_one (n := 2) (d := ![1, 2048]) squeezes_S1x1x2048_S1x2048.numel_eq j
    refine (congrArg (fun z : S1x1x2048.Idx => 0 + 1 * (z 2).val) e).trans ?_
    show 0 + 1 * (j 1).val = (j 1).val
    omega
  funext a
  match a with
  | ⟨0, _⟩ =>
    apply Fin.ext
    show n + 1 * (j 0).val = rowNo (labAt lab (t * 512 + (y 1).val)) % 32064
    have : (j 0).val < 1 := (j 0).isLt
    rw [hy'.2.2, ← hn, Nat.mod_eq_of_lt hlt]; omega
  | ⟨1, _⟩ =>
    apply Fin.ext
    show 0 + 1 * (j 1).val = (y 2).val
    omega

end Cert.Finish.Gen

end
-- ==== Proof.Finish.Fetch.lean ====
/- The fetch of a block's rows into a slot, row by row, and the wait for them: the transfers of a block are one batch on
   the slot's semaphore. -/
module

public import proofs.«01_k».proof.Proof.Finish.Sets
public import Idealize.ShloMosaic.Lib.Ring

@[expose] public section

set_option maxRecDepth 16384

noncomputable section

namespace Cert.Finish.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.VecRules

variable {F : FTy → Type} [FloatOps F]

local notation "𝕄" => MT nD τ sig Unit (Elt F) ℕ (UD sig nD τ) ℕ

/-- The body's programs, of a core. -/
abbrev bwp (c : Dev nD) (p : BodyProg F) (Q : PUnit → sProp 𝕄) : sProp 𝕄 :=
  wp frame (wpE defs₀ Variants.none (c : Thread nD τ) none) Set.univ p Q

/-- A word of scalar memory. -/
theorem wp_sm (c : Dev nD) {s : Shape} {e : EltTy} {m : Memref sig .tc .smem s e} {r : Rect s} {h1 : r.shape.numel = 1} {hp : e.packing = 1}
    {q : PosShare TreeShare} {x : s.Idx → Elt F e} (v : Elt F e) (hv : ∀ j : r.shape.Idx, x (r.emb j) = v) {K : Elt F e → BodyProg F} {Q : PUnit → sProp 𝕄} :
    (owns (c : Thread nD τ) m q x : sProp 𝕄)
      ⊢ iprop((owns (c : Thread nD τ) m q x -∗ bwp c (K v) Q) -∗ bwp c (smemLoad m r h1 hp >>= K) Q) := by
  rw [show (smemLoad m r h1 hp >>= K : BodyProg F) = smemLoadElt m r (View.loads_smem_one hp h1) (Shape.Idx.first (h1.symm ▸ Nat.one_pos)) K from rfl]
  unfold owns
  iintro ⟨%f, %hf, H⟩ HK
  iapply (wp_smemLoadElt Variants.none (c : Thread nD τ) none Set.univ (m := m) (r := r) (hw := View.loads_smem_one hp h1) (x := Shape.Idx.first (h1.symm ▸ Nat.one_pos)) (k := K) (S := m.view.set) (q := q) (f := f) (View.set_slice_subset _ _)) $$ H
  iintro H
  have e : (m.access r).read (Elt F) f (Shape.Idx.first (h1.symm ▸ Nat.one_pos)) = v := by
    rw [← hv (Shape.Idx.first (h1.symm ▸ Nat.one_pos)), ← hf]; rfl
  rw [e]
  iapply HK
  iexists f
  isplitr
  · ipureintro; exact hf
  · iexact H

/-- The counters the transfers are counted by. -/
abbrev EC : UEmb Counters 𝕄 := countersEmb (U := UD sig nD τ)

/-- The two slots' buffer and the words' array, of a core. -/
abbrev rowsL (c : Dev nD) : Loc nD τ sig := (Memref.whole cc0_scratch0 : Memref sig .tc .vmem S2x512x2048 .i32).view.loc (c : Thread nD τ)
abbrev wordsL (c : Dev nD) : Loc nD τ sig := (Memref.whole main_v2 : Memref sig .tc .hbm S32064x2048 .i32).view.loc (c : Thread nD τ)

/-- One row's credit. -/
def NN : ℕ := (dstM ![0, 0, 0] (by decide)).view.dmaCredit
theorem NN_pos : 0 < NN := View.dmaCredit_pos _ (by decide)

section

variable (c : Dev nD) (lab : Vec F S15360 .i32) (W : Vec F S32064x2048 .i32) (wsc : Vec F S128256 .f32)

/-- The row of words of token `k` of block `t`. -/
abbrev rowK (t k : Nat) : Nat := rowNo (labAt lab (t * 512 + k))

/-- What the transfer of row `k` of block `t` into slot `s` delivers: the row, and the words' row it read. -/
abbrev delv (s t : Nat) (q : PosShare TreeShare) (k : Fin 512) : sProp 𝕄 :=
  iprop((rowsL c ↦[rowSet s k.val]{fullShare} rowsAt lab W t) ∗ (wordsL c ↦[wRow (rowK lab t k.val)]{Transfers.shareTokN q k.val} W))

/-- The batch of block `t`'s transfers into slot `s`, `j` issued and `u` consumed. -/
abbrev batch (sm : DmaSem sig) (s t : Nat) (q : PosShare TreeShare) (j u : ℕ) : sProp 𝕄 :=
  Transfers.Batch (EC (F := F)) (c : Thread nD τ) (.dma sm) () NN (delv c lab W s t q) j u

/-- What of the words no transfer of the first `k` reads. -/
abbrev wordsKept (t : Nat) (q : PosShare TreeShare) (k : Nat) : sProp 𝕄 :=
  iprop((wordsL c ↦[Finset.univ]{Transfers.shareDrop q k} W)
    ∗ bigSep (Finset.range k) fun j => wordsL c ↦[Finset.univ \ wRow (rowK lab t j)]{Transfers.shareTokN q j} W)

/-- The rows of slot `s` under `k` at block `t`, the other slot as it was. -/
def Upto {S : Shape} {e : EltTy} (d0 d1 : S.Idx → Nat) (s k : Nat) (new x0 x : S.Idx → Elt F e) : Prop :=
  ∀ y, (d0 y = s → d1 y < k → x y = new y) ∧ (d0 y ≠ s → x y = x0 y)

abbrev d0 (y : S2x512x128.Idx) : Nat := (y 0).val
abbrev d1 (y : S2x512x128.Idx) : Nat := (y 1).val

/-- Before trip `k` of the fetch. -/
def fetchInv (arg2 : Memref sig .tc .smem S128256 .f32) (ql q2 q : PosShare TreeShare) (sm : DmaSem sig) (s t : Nat)
    (sc0 : Vec F S2x512x128 .f32) (sh0 : Vec F S2x512x128 .i32) (k : Nat) (_ : PUnit) : sProp 𝕄 :=
  iprop(batch c lab W sm s t q k 0
    ∗ (∃ f, rowsL c ↦[rowsFrom s k]{fullShare} f)
    ∗ wordsKept c lab W t q k
    ∗ owns (c : Thread nD τ) (Memref.whole main_v4 : Memref sig .tc .smem S15360 .i32) ql lab
    ∗ owns (c : Thread nD τ) arg2 q2 wsc
    ∗ (∃ x, ⌜Upto (F := F) (e := .f32) d0 d1 s k (scaleAt lab wsc t) sc0 x⌝ ∗ owns (c : Thread nD τ) (Memref.whole cc0_scratch1 : Memref sig .tc .vmem S2x512x128 .f32) fullShare x)
    ∗ (∃ x, ⌜Upto (F := F) (e := .i32) d0 d1 s k (shiftAt lab t) sh0 x⌝ ∗ owns (c : Thread nD τ) (Memref.whole cc0_scratch2 : Memref sig .tc .vmem S2x512x128 .i32) fullShare x))

theorem upto_put {e : EltTy} (s k : Nat) (new x0 x : S2x512x128.Idx → Elt F e) (h : Upto (F := F) d0 d1 s k new x0 x)
    (w : S1x1x128.Idx → Elt F e) (v : Elt F e) (hw : ∀ j, w j = v) (hv : ∀ y : S2x512x128.Idx, d1 y = k → new y = v) :
    Upto (F := F) d0 d1 s (k + 1) new x0 (VecWindow.put x (![s, k, 0] : Fin 3 → Nat) S1x1x128.size w) := by
  intro y
  have h2 : (y 2).val < 128 := (y 2).isLt
  by_cases hy : ∀ a, (![s, k, 0] : Fin 3 → Nat) a ≤ (y a).val ∧ (y a).val < (![s, k, 0] : Fin 3 → Nat) a + S1x1x128.size a
  · have a0 : s ≤ (y 0).val ∧ (y 0).val < s + 1 := hy 0
    have a1 : k ≤ (y 1).val ∧ (y 1).val < k + 1 := hy 1
    refine ⟨fun h0 h1 => ?_, fun h0 => absurd (show d0 y = s by show (y 0).val = s; omega) h0⟩
    refine (dif_pos hy).trans ((hw _).trans (hv y ?_).symm)
    show (y 1).val = k; omega
  · have e : VecWindow.put x (![s, k, 0] : Fin 3 → Nat) S1x1x128.size w y = x y := dif_neg hy
    refine ⟨fun h0 h1 => e.trans ((h y).1 h0 ?_), fun h0 => e.trans ((h y).2 h0)⟩
    by_contra hc
    refine hy fun a => ?_
    have h0' : (y 0).val = s := h0
    have h1' : (y 1).val < k + 1 := h1
    have hc' : ¬ (y 1).val < k := hc
    match a with
    | ⟨0, _⟩ => show s ≤ (y 0).val ∧ (y 0).val < s + 1; omega
    | ⟨1, _⟩ => show k ≤ (y 1).val ∧ (y 1).val < k + 1; omega
    | ⟨2, _⟩ => show 0 ≤ (y 2).val ∧ (y 2).val < 0 + 128; omega

/-- One trip. -/
theorem fetch_step (arg2 : Memref sig .tc .smem S128256 .f32) (ql q2 q : PosShare TreeShare) (sm sm' : DmaSem sig) (hsm : sm' = sm) (s t : Nat)
    (sc0 : Vec F S2x512x128 .f32) (sh0 : Vec F S2x512x128 .i32) (k : Nat) (hk : k < 512) (ht : t < 30)
    (offL : Fin 1 → Nat) (inbL : ∀ a, offL a + S1.size a ≤ S15360.size a) (hL : offL = ![t * 512 + k])
    (offD : Fin 3 → Nat) (inbD : ∀ a, offD a + S1x1x2048.size a ≤ S2x512x2048.size a) (hD : offD = ![s, k, 0])
    (offR : Fin 3 → Nat) (inbR : ∀ a, offR a + S1x1x128.size a ≤ S2x512x128.size a) (hR : offR = ![s, k, 0])
    (P : BitVec 32 → Prop) (dec : ∀ v, Decidable (P v))
    (inbW : ∀ v, P v → ∀ a, (![(Scalar.shrsi v 2#32).toNat, 0] : Fin 2 → Nat) a + S1x2048.size a ≤ S32064x2048.size a)
    (inbS : ∀ v, P v → ∀ a, (![v.toNat] : Fin 1 → Nat) a + S1.size a ≤ S128256.size a)
    (hP : P (labAt lab (t * 512 + k))) :
    fetchInv c lab W wsc arg2 ql q2 q sm s t sc0 sh0 k ⟨⟩
      ⊢ bwp c (fetchK (Memref.whole main_v4) arg2 (Memref.whole main_v2) (Memref.whole cc0_scratch0) (Memref.whole cc0_scratch1) (Memref.whole cc0_scratch2)
          sm' offL inbL offD inbD offR inbR P dec inbW inbS)
        (fetchInv c lab W wsc arg2 ql q2 q sm s t sc0 sh0 (k + 1)) := by
  subst hsm hL hD hR
  unfold fetchInv fetchK
  iintro ⟨HB, ⟨%f, HR⟩, ⟨HWd, HWs⟩, HL, H2, ⟨%xs, %hxs, HS⟩, ⟨%xh, %hxh, HH⟩⟩
  iapply (wp_sm c (labAt lab (t * 512 + k)) (fun j => by
    refine congrArg lab (funext fun a => ?_)
    match a with
    | ⟨0, _⟩ =>
      apply Fin.ext
      show (t * 512 + k) + 1 * (j 0).val = (t * 512 + k) % 15360
      have : (j 0).val < 1 := (j 0).isLt
      rw [Nat.mod_eq_of_lt (by omega)]; omega)) $$ HL
  iintro HL
  iapply (wp_assume Variants.none (c : Thread nD τ) none Set.univ hP)
  have hn : rowNo (labAt lab (t * 512 + k)) = rowK lab t k := rfl
  have hv : (labAt lab (t * 512 + k)).toNat < 128256 := by
    have := inbS _ hP 0
    exact (by simpa using this : (labAt lab (t * 512 + k)).toNat + 1 ≤ 128256)
  ihave HR' := (show (rowsL c ↦[rowsFrom s k]{fullShare} f : sProp 𝕄) ⊢ iprop((rowsL c ↦[rowSet s k]{fullShare} f) ∗ rowsL c ↦[rowsFrom s (k + 1)]{fullShare} f) from by
    rw [← rowsFrom_sdiff]; exact (pointsTo_split_subset (rowSet_sub s k)).1) $$ HR
  icases HR' with ⟨HRk, HR⟩
  ihave HW' := (show (wordsL c ↦[Finset.univ]{Transfers.shareDrop q k} W : sProp 𝕄)
      ⊢ iprop((wordsL c ↦[Finset.univ]{Transfers.shareDrop q (k + 1)} W) ∗ (wordsL c ↦[wRow (rowK lab t k)]{Transfers.shareTokN q k} W)
        ∗ wordsL c ↦[Finset.univ \ wRow (rowK lab t k)]{Transfers.shareTokN q k} W) from
    (pointsTo_share (PosShare.mem_left_op_right _)).1.trans (sep_mono_right (pointsTo_split_subset (Finset.subset_univ _)).1)) $$ HWd
  icases HW' with ⟨HWd, HWk, HWc⟩
  iapply (Transfers.wp_dmaBatch EC Variants.none (c : Thread nD τ) none (src := srcM ![(Scalar.shrsi (labAt lab (t * 512 + k)) 2#32).toNat, 0] (inbW _ hP))
    (dst := dstM ![s, k, 0] inbD) (via := .same) (sm := .dma sm') (D := delv c lab W s t q) (j := k) (u := 0) (q := Transfers.shareTokN q k)
    (Sd := rowSet s k) () NN rfl (dst_set s k inbD).subset hk (Nat.zero_le _) (by
      rw [src_set]
      refine sep_mono_left (Entails.of_eq (pointsTo_congr fun y hy => ?_))
      exact landed lab W s t k inbD _ (inbW _ hP) rfl f y hy)) $$ [HWk HRk HB]
  · rw [src_set]
    isplitl [HWk]; · iexact HWk
    isplitl [HRk]; · iexact HRk
    iexact HB
  iintro HB
  iapply (wp_sm c (scOf wsc (labAt lab (t * 512 + k))) (fun j => by
    refine congrArg wsc (funext fun a => ?_)
    match a with
    | ⟨0, _⟩ =>
      apply Fin.ext
      show (labAt lab (t * 512 + k)).toNat + 1 * (j 0).val = (labAt lab (t * 512 + k)).toNat % 128256
      have : (j 0).val < 1 := (j 0).isLt
      rw [Nat.mod_eq_of_lt (by omega)]; omega)) $$ H2
  iintro H2
  iapply (wp_ld Variants.none (c : Thread nD τ) none Set.univ (m := (Memref.whole cc0_scratch1 : Memref sig .tc .vmem S2x512x128 .f32))) $$ HS
  iintro HS
  iapply (wp_st Variants.none (c : Thread nD τ) none Set.univ (m := (Memref.whole cc0_scratch1 : Memref sig .tc .vmem S2x512x128 .f32))) $$ HS
  iintro HS
  iapply (wp_ld Variants.none (c : Thread nD τ) none Set.univ (m := (Memref.whole cc0_scratch2 : Memref sig .tc .vmem S2x512x128 .i32))) $$ HH
  iintro HH
  iapply (wp_st Variants.none (c : Thread nD τ) none Set.univ (m := (Memref.whole cc0_scratch2 : Memref sig .tc .vmem S2x512x128 .i32))) $$ HH
  iintro HH
  rw [wp_ret]
  imodintro
  isplitl [HB]; · iexact HB
  isplitl [HR]; · iexists f; iexact HR
  isplitl [HWd HWs HWc]
  · isplitl [HWd]; · iexact HWd
    iapply (show iprop((wordsL c ↦[Finset.univ \ wRow (rowK lab t k)]{Transfers.shareTokN q k} W)
        ∗ bigSep (Finset.range k) (fun j => wordsL c ↦[Finset.univ \ wRow (rowK lab t j)]{Transfers.shareTokN q j} W))
        ⊢ (bigSep (Finset.range (k + 1)) (fun j => wordsL c ↦[Finset.univ \ wRow (rowK lab t j)]{Transfers.shareTokN q j} W) : sProp 𝕄) from
      Entails.of_eq (by rw [Finset.range_add_one, BI.bigSep_insert Finset.notMem_range_self]; rfl))
    isplitl [HWc]; · iexact HWc
    iexact HWs
  isplitl [HL]; · iexact HL
  isplitl [H2]; · iexact H2
  isplitl [HS]
  · iexists _
    isplitr
    rotate_left
    · iexact HS
    · ipureintro
      exact upto_put s k _ _ _ hxs _ (scOf wsc (labAt lab (t * 512 + k))) (fun j => rfl) (fun y hy => by
        show scOf wsc (labAt lab (t * 512 + (y 1).val)) = _
        rw [show (y 1).val = k from hy])
  · iexists _
    isplitr
    rotate_left
    · iexact HH
    · ipureintro
      exact upto_put s k _ _ _ hxh _ (shOf (F := F) (labAt lab (t * 512 + k))) (fun j => rfl) (fun y hy => by
        show shOf (F := F) (labAt lab (t * 512 + (y 1).val)) = _
        rw [show (y 1).val = k from hy])

/-! ## The wait -/

/-- Before trip `k` of the wait: some transfers consumed, or all of them back. -/
def waitInv (q : PosShare TreeShare) (sm : DmaSem sig) (s t : Nat) (k : Nat) (_ : PUnit) : sProp 𝕄 :=
  iprop((∃ Wt, owes (c : Thread nD τ) 0 Wt)
    ∗ (if k < 512 then batch c lab W sm s t q 512 (k * NN)
       else iprop(semVal ((c : Thread nD τ), SemLoc.dma sm) 0 ∗ bigSep Finset.univ (delv c lab W s t q))))

theorem wait_step (q : PosShare TreeShare) (sm sm' : DmaSem sig) (hsm : sm' = sm) (s t : Nat) (k : Nat) (hk : k < 512)
    (srcw : Memref sig .tc .hbm S1x2048 .i32) (hsrc : srcw.view.WordExact)
    (offD : Fin 3 → Nat) (inbD : ∀ a, offD a + S1x1x2048.size a ≤ S2x512x2048.size a) (hdst : (dstM offD inbD).view.WordExact) :
    waitInv c lab W q sm s t k ⟨⟩
      ⊢ bwp c (.op (.waitDma2 sm' srcw (dstM offD inbD) hsrc hdst) fun _ => .ret ⟨⟩) (waitInv c lab W q sm s t (k + 1)) := by
  subst hsm
  unfold waitInv
  rw [if_pos hk]
  by_cases h1 : k + 1 < 512
  · rw [if_pos h1]
    iintro ⟨⟨%Wt, HO⟩, HB⟩
    iapply (Transfers.wp_waitBatch EC Variants.none (c : Thread nD τ) none (srcw := srcw) (dstw := dstM offD inbD) (hsrc := hsrc) (hdst := hdst) (sem := sm') (D := delv c lab W s t q) (N := NN) () rfl
      (u := k * NN) (by rw [← Nat.succ_mul, Nat.mul_comm NN 512]; exact Nat.mul_lt_mul_of_pos_right h1 NN_pos)) $$ [HO HB]
    · isplitl [HB]; · iexact HB
      iexact HO
    iintro ⟨HB, HO⟩
    rw [wp_ret]
    imodintro
    isplitl [HO]; · iexists _; iexact HO
    rw [Nat.succ_mul]
    iexact HB
  · rw [if_neg h1]
    have hk' : k = 511 := by omega
    subst hk'
    iintro ⟨⟨%Wt, HO⟩, HB⟩
    iapply (Transfers.wp_waitBatchLast EC Variants.none (c : Thread nD τ) none (srcw := srcw) (dstw := dstM offD inbD) (hsrc := hsrc) (hdst := hdst) (sem := sm') (D := delv c lab W s t q) (N := NN) () rfl NN_pos
      (u := 511 * NN) (by omega)) $$ [HO HB]
    · isplitl [HB]; · iexact HB
      iexact HO
    iintro ⟨HD, HV, HO⟩
    rw [wp_ret]
    imodintro
    isplitl [HO]; · iexists _; iexact HO
    isplitl [HV]; · iexact HV
    iexact HD

/-! ## A slot at rest and in flight -/

/-- A slot at rest: its rows, its semaphore at zero, its share of the words. -/
def idle (q : PosShare TreeShare) (sm : DmaSem sig) (s : Nat) : sProp 𝕄 :=
  iprop((∃ f, rowsL c ↦[slotSet s]{fullShare} f) ∗ semVal ((c : Thread nD τ), SemLoc.dma sm) 0 ∗ (wordsL c ↦[Finset.univ]{q} W))

/-- A slot whose rows are on their way. -/
def fly (q : PosShare TreeShare) (sm : DmaSem sig) (s t : Nat) : sProp 𝕄 :=
  iprop(batch c lab W sm s t q 512 0 ∗ wordsKept c lab W t q 512)

/-- A slot whose rows are there. -/
def here (q : PosShare TreeShare) (sm : DmaSem sig) (s t : Nat) : sProp 𝕄 :=
  iprop((rowsL c ↦[slotSet s]{fullShare} rowsAt lab W t) ∗ semVal ((c : Thread nD τ), SemLoc.dma sm) 0 ∗ (wordsL c ↦[Finset.univ]{q} W))

theorem here_idle (q : PosShare TreeShare) (sm : DmaSem sig) (s t : Nat) : here c lab W q sm s t ⊢ idle c W q sm s := by
  unfold here idle
  iintro ⟨H, HV, HW⟩
  isplitl [H]; · iexists _; iexact H
  isplitl [HV]; · iexact HV
  iexact HW

/-- The batch opened. -/
theorem idle_open (arg2 : Memref sig .tc .smem S128256 .f32) (ql q2 q : PosShare TreeShare) (sm : DmaSem sig) (s t : Nat) (sc0 : Vec F S2x512x128 .f32) (sh0 : Vec F S2x512x128 .i32) :
    iprop(idle c W q sm s ∗ owns (c : Thread nD τ) (Memref.whole main_v4 : Memref sig .tc .smem S15360 .i32) ql lab ∗ owns (c : Thread nD τ) arg2 q2 wsc
        ∗ owns (c : Thread nD τ) (Memref.whole cc0_scratch1 : Memref sig .tc .vmem S2x512x128 .f32) fullShare sc0
        ∗ owns (c : Thread nD τ) (Memref.whole cc0_scratch2 : Memref sig .tc .vmem S2x512x128 .i32) fullShare sh0)
      ⊢ |={Set.univ}=> fetchInv c lab W wsc arg2 ql q2 q sm s t sc0 sh0 0 ⟨⟩ := by
  unfold idle fetchInv
  iintro ⟨⟨⟨%f, HR⟩, HV, HW⟩, HL, H2, HS, HH⟩
  imod (Transfers.batch_alloc' EC (c : Thread nD τ) () NN (delv c lab W s t q) (sm := .dma sm) (E := Set.univ)) $$ HV with HB
  imodintro
  isplitl [HB]; · iexact HB
  isplitl [HR]
  · iexists f; rw [rowsFrom_zero]; iexact HR
  isplitl [HW]
  · isplitl [HW]; · iexact HW
    rw [Finset.range_zero, BI.bigSep_empty]
    iempintro
  isplitl [HL]; · iexact HL
  isplitl [H2]; · iexact H2
  isplitl [HS]
  · iexists sc0
    isplitr
    · ipureintro; exact fun y => ⟨fun _ h => absurd h (Nat.not_lt_zero _), fun _ => rfl⟩
    · iexact HS
  · iexists sh0
    isplitr
    · ipureintro; exact fun y => ⟨fun _ h => absurd h (Nat.not_lt_zero _), fun _ => rfl⟩
    · iexact HH

/-- Every delivery back. -/
theorem fly_close (q : PosShare TreeShare) (sm : DmaSem sig) (s t : Nat) :
    iprop(wordsKept c lab W t q 512 ∗ semVal ((c : Thread nD τ), SemLoc.dma sm) 0 ∗ bigSep Finset.univ (delv c lab W s t q)) ⊢ here c lab W q sm s t := by
  unfold here wordsKept
  iintro ⟨⟨HW, HWc⟩, HV, HD⟩
  ihave HD' := (show (bigSep Finset.univ (delv c lab W s t q) : sProp 𝕄)
      ⊢ iprop(bigSep (Finset.univ : Finset (Fin 512)) (fun k => rowsL c ↦[rowSet s k.val]{fullShare} rowsAt lab W t)
        ∗ bigSep (Finset.univ : Finset (Fin 512)) (fun k => wordsL c ↦[wRow (rowK lab t k.val)]{Transfers.shareTokN q k.val} W)) from
    Entails.of_eq (BI.bigSep_sep _ _ _)) $$ HD
  icases HD' with ⟨HR, HT⟩
  isplitl [HR]
  · rw [← rowSet_biUnion s, pointsTo_biUnion _ _ (rowSet_disjoint s)]
    iexact HR
  isplitl [HV]; · iexact HV
  iapply (Transfers.pointsTo_toks_range q 512).2
  isplitl [HW]; · iexact HW
  iapply (show iprop(bigSep (Finset.range 512) (fun j => wordsL c ↦[Finset.univ \ wRow (rowK lab t j)]{Transfers.shareTokN q j} W)
      ∗ bigSep (Finset.univ : Finset (Fin 512)) (fun k => wordsL c ↦[wRow (rowK lab t k.val)]{Transfers.shareTokN q k.val} W))
      ⊢ (bigSep (Finset.range 512) (fun j => wordsL c ↦[Finset.univ]{Transfers.shareTokN q j} W) : sProp 𝕄) from by
    rw [Ring.bigSep_fin_eq_range 512 (fun k => wordsL c ↦[wRow (rowK lab t k.val)]{Transfers.shareTokN q k.val} W)
      (fun j => wordsL c ↦[wRow (rowK lab t j)]{Transfers.shareTokN q j} W) (fun _ _ => rfl)]
    refine (Entails.of_eq (BI.bigSep_sep _ _ _).symm).trans (BI.bigSep_mono fun j _ => ?_)
    exact sep_comm.1.trans (pointsTo_split_subset (Finset.subset_univ _)).2)
  isplitl [HWc]; · iexact HWc
  iexact HT

end

end Cert.Finish.Gen

end
-- ==== Proof.Finish.Stage.lean ====
/- The body's stages over the slots: the first point's fetch, the next point's fetch and the wait. -/
module

public import proofs.«01_k».proof.Proof.Finish.Fetch
public import Idealize.ShloMosaic.Lib.WordCmp
public import Idealize.ShloMosaic.Lib.Tactic.WordOmega

@[expose] public section

set_option maxRecDepth 16384

noncomputable section

namespace Cert.Finish.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.VecRules

variable {F : FTy → Type} [FloatOps F]

local notation "𝕄" => MT nD τ sig Unit (Elt F) ℕ (UD sig nD τ) ℕ

/-! ## The kernel's arithmetic -/

theorem lt30 (i : grid0.Coords) : (i 0).val < 30 := (i 0).isLt

theorem trips1 : k0_t1_loop.trips = 512 := by decide
theorem trips2 : k0_t2_loop.trips = 512 := by decide
theorem trips3 : k0_t3_loop.trips = 512 := by decide

theorem cond1_iff (i : grid0.Coords) : k0_cond1 i = 1#1 ↔ (i 0).val = 0 := by
  have := lt30 i
  simp only [k0_cond1]
  word_cmp

theorem cond2_iff (i : grid0.Coords) : k0_cond2 i = 1#1 ↔ (i 0).val < 29 := by
  have := lt30 i
  generalize hn : (i 0).val = n at *
  simp only [k0_cond2, hn]
  exact (by decide +kernel : ∀ n : Fin 30, Scalar.cmpi .ne (Scalar.extui (Scalar.cmpi .slt (Scalar.addi (BitVec.ofNat 32 n.val) 1#32) 30#32) : BitVec 32) 0#32 = 1#1 ↔ n.val < 29) ⟨n, this⟩

theorem cond3_iff (i : grid0.Coords) : k0_cond3 i = 1#1 ↔ (i 0).val = 29 := by
  have := lt30 i
  simp only [k0_cond3]
  word_cmp

export Cert.FinishSets (slot_rem slot_other row1 lab6 lab1)

theorem off1_eq (k : Fin k0_t1_loop.trips) : k0_off1 k = ![0 * 512 + k.val] :=
  congrArg (fun n : Nat => ![n]) (lab1 k.val (trips1 ▸ k.isLt))

theorem off2_eq (k : Fin k0_t1_loop.trips) : k0_off2 k = ![0, k.val, 0] :=
  congrArg (fun n : Nat => ![0, n, 0]) (row1 k.val (trips1 ▸ k.isLt))

theorem off5_eq (k : Fin k0_t1_loop.trips) : k0_off5 k = ![0, k.val, 0] :=
  congrArg (fun n : Nat => ![0, n, 0]) (row1 k.val (trips1 ▸ k.isLt))

theorem off6_eq (i : grid0.Coords) (k : Fin k0_t2_loop.trips) (h : k0_cond2 i = 1#1) :
    k0_off6 i k = ![((i 0).val + 1) * 512 + k.val] :=
  congrArg (fun n : Nat => ![n]) (lab6 _ k.val (lt30 i) (trips2 ▸ k.isLt))

theorem off8_eq (i : grid0.Coords) (k : Fin k0_t2_loop.trips) (h : k0_cond2 i = 1#1) :
    k0_off8 i k = ![((i 0).val + 1) % 2, k.val, 0] :=
  congrArg₂ (fun m n : Nat => ![m, n, 0]) (slot_other _ (lt30 i)) (row1 k.val (trips2 ▸ k.isLt))

theorem off11_eq (i : grid0.Coords) (k : Fin k0_t2_loop.trips) (h : k0_cond2 i = 1#1) :
    k0_off11 i k = ![((i 0).val + 1) % 2, k.val, 0] :=
  congrArg₂ (fun m n : Nat => ![m, n, 0]) (slot_other _ (lt30 i)) (row1 k.val (trips2 ▸ k.isLt))

theorem off14_eq (i : grid0.Coords) : k0_off14 i = ![(i 0).val % 2, 0, 0] :=
  congrArg (fun m : Nat => ![m, 0, 0]) (slot_rem _ (lt30 i))

theorem off7_eq (i : grid0.Coords) : k0_off7 i = ![((i 0).val + 1) % 2] :=
  congrArg (fun m : Nat => ![m]) (slot_other _ (lt30 i))

theorem off12_eq (i : grid0.Coords) : k0_off12 i = ![(i 0).val % 2] :=
  congrArg (fun m : Nat => ![m]) (slot_rem _ (lt30 i))

/-- A slot's semaphore, -/
def semS (s : Nat) : DmaSem sig := (cc0_scratch4 : DmaSems sig S2).ix (fun a => match a with | ⟨0, _⟩ => ⟨s % 2, Nat.mod_lt _ (by decide)⟩)
/-- and its share of the words. -/
def qS (s : Nat) : PosShare TreeShare := if s % 2 = 0 then fullShare.left else fullShare.right

theorem sem_eq (s : Nat) (hs : s < 2) (off : Fin 1 → Nat) (inb : ∀ a, off a + S1.size a ≤ S2.size a) (h : off = ![s]) :
    (((cc0_scratch4 : DmaSems sig S2).slice (Rect.unit (s := S2) off S1.size inb)).squeeze S_ squeezes_S1_S_).sem = semS s := by
  subst h
  show (cc0_scratch4 : DmaSems sig S2).ix _ = (cc0_scratch4 : DmaSems sig S2).ix _
  congr 1
  funext a
  match a with
  | ⟨0, _⟩ =>
    apply Fin.ext
    have h0 : ∀ z : Fin 1, s + 1 * z.val = s % 2 := fun z => by rw [Nat.mod_eq_of_lt hs]; omega
    exact h0 (Shape.reshapeEquiv squeezes_S1_S_.numel_eq (fun i => i.elim0) 0)

theorem row_inb (v : BitVec 32) (h : v.toNat < 128256) : ∀ a, (![(Scalar.shrsi v 2#32).toNat, 0] : Fin 2 → Nat) a + S1x2048.size a ≤ S32064x2048.size a := by
  have e : (Scalar.shrsi v 2#32).toNat ≤ 32063 := by
    have hm : v.msb = false := by rw [BitVec.msb_eq_false_iff_two_mul_lt]; omega
    show (IntOp.shrsi .scalar v 2#32 : BitVec 32).toNat ≤ 32063
    rw [show (IntOp.shrsi .scalar v 2#32 : BitVec 32) = v.sshiftRight 2 from rfl, BitVec.toNat_sshiftRight_of_msb_false hm, Nat.shiftRight_eq_div_pow]
    omega
  intro a
  match a with
  | ⟨0, _⟩ => show (Scalar.shrsi v 2#32).toNat + 1 ≤ 32064; omega
  | ⟨1, _⟩ => show 0 + 2048 ≤ 2048; omega

theorem scl_inb (v : BitVec 32) (h : v.toNat < 128256) : ∀ a, (![v.toNat] : Fin 1 → Nat) a + S1.size a ≤ S128256.size a := by
  intro a
  match a with
  | ⟨0, _⟩ => show v.toNat + 1 ≤ 128256; omega

theorem chk1 (i : grid0.Coords) (v : BitVec 32) (h : v.toNat < 128256) : k0_chk1 i v := ⟨fun _ => row_inb v h, fun _ => scl_inb v h⟩
theorem chk2 (i : grid0.Coords) (v : BitVec 32) (h : v.toNat < 128256) : k0_chk2 i v := ⟨fun _ => row_inb v h, fun _ => scl_inb v h⟩

/-- A stage ahead of the rest. -/
theorem stage (c : Dev nD) (p K : BodyProg F) (P P' : sProp 𝕄) (h : P ⊢ bwp c p (fun _ => P')) (Q : PUnit → sProp 𝕄) :
    P ⊢ iprop((P' -∗ bwp c K Q) -∗ bwp c (p >>= fun _ => K) Q) := by
  rw [show bwp c (p >>= fun _ => K) Q = bwp c p (fun _ => bwp c K Q) from wp_bind _ _ _ _ _ _]
  iintro HP HK
  iapply (show iprop(bwp c p (fun _ => P') ∗ (P' -∗ bwp c K Q)) ⊢ bwp c p (fun _ => bwp c K Q) from
    (wp_frame_r _ _ _).trans (wp_mono _ _ _ fun _ => by
      iintro ⟨H, HK⟩; iapply HK; iexact H))
  isplitl [HP]
  · iapply h; iexact HP
  · iexact HK

section

variable (c : Dev nD) (lab : Vec F S15360 .i32) (W : Vec F S32064x2048 .i32) (wsc : Vec F S128256 .f32)
  (arg2 : Memref sig .tc .smem S128256 .f32) (ql q2 : PosShare TreeShare)

/-- A slot filled at block `t`, its scales and shifts written. -/
def filled (s t : Nat) (sc0 : Vec F S2x512x128 .f32) (sh0 : Vec F S2x512x128 .i32) : sProp 𝕄 :=
  iprop(fly c lab W (qS s) (semS s) s t
    ∗ owns (c : Thread nD τ) (Memref.whole main_v4 : Memref sig .tc .smem S15360 .i32) ql lab
    ∗ owns (c : Thread nD τ) arg2 q2 wsc
    ∗ (∃ x, ⌜Upto (F := F) (e := .f32) d0 d1 s 512 (scaleAt lab wsc t) sc0 x⌝ ∗ owns (c : Thread nD τ) (Memref.whole cc0_scratch1 : Memref sig .tc .vmem S2x512x128 .f32) fullShare x)
    ∗ (∃ x, ⌜Upto (F := F) (e := .i32) d0 d1 s 512 (shiftAt lab t) sh0 x⌝ ∗ owns (c : Thread nD τ) (Memref.whole cc0_scratch2 : Memref sig .tc .vmem S2x512x128 .i32) fullShare x))

theorem fetchInv_filled (s t : Nat) (sc0 : Vec F S2x512x128 .f32) (sh0 : Vec F S2x512x128 .i32) (u : PUnit) :
    fetchInv c lab W wsc arg2 ql q2 (qS s) (semS s) s t sc0 sh0 512 u ⊢ filled c lab W wsc arg2 ql q2 s t sc0 sh0 := by
  unfold fetchInv filled fly
  iintro ⟨HB, -, HW, HL, H2, HS, HH⟩
  isplitl [HB HW]
  · isplitl [HB]; · iexact HB
    iexact HW
  isplitl [HL]; · iexact HL
  isplitl [H2]; · iexact H2
  isplitl [HS]; · iexact HS
  iexact HH

/-- What a fetch starts from. -/
abbrev empt (s : Nat) (sc0 : Vec F S2x512x128 .f32) (sh0 : Vec F S2x512x128 .i32) : sProp 𝕄 :=
  iprop(idle c W (qS s) (semS s) s ∗ owns (c : Thread nD τ) (Memref.whole main_v4 : Memref sig .tc .smem S15360 .i32) ql lab ∗ owns (c : Thread nD τ) arg2 q2 wsc
        ∗ owns (c : Thread nD τ) (Memref.whole cc0_scratch1 : Memref sig .tc .vmem S2x512x128 .f32) fullShare sc0
        ∗ owns (c : Thread nD τ) (Memref.whole cc0_scratch2 : Memref sig .tc .vmem S2x512x128 .i32) fullShare sh0)

theorem loop1_wp (i : grid0.Coords) (h : k0_cond1 i = 1#1) (hlab : ∀ n, (labAt lab n).toNat < 128256) (sc0 : Vec F S2x512x128 .f32) (sh0 : Vec F S2x512x128 .i32) :
    empt c lab W wsc arg2 ql q2 0 sc0 sh0
      ⊢ bwp c (Scf.Loop.for k0_t1_loop (k0_t1_ok i h) ⟨⟩ (fetch1 i (Memref.whole main_v4) arg2 (Memref.whole main_v2) (Memref.whole cc0_scratch0) (Memref.whole cc0_scratch1) (Memref.whole cc0_scratch2) cc0_scratch4 h))
          (fun _ => filled c lab W wsc arg2 ql q2 0 0 sc0 sh0) := by
  iintro H
  iapply fupd_wp
  imod (idle_open c lab W wsc arg2 ql q2 (qS 0) (semS 0) 0 0 sc0 sh0) $$ H with H
  imodintro
  iapply (Scf.wp_for _ _ _ _ _ _ (k0_t1_ok i h) ⟨⟩ _ (fetchInv c lab W wsc arg2 ql q2 (qS 0) (semS 0) 0 0 sc0 sh0) (fun k acc =>
    fetch_step c lab W wsc arg2 ql q2 (qS 0) (semS 0) _ (sem_eq 0 (by decide) _ _ rfl) 0 0 sc0 sh0 k.val (trips1 ▸ k.isLt) (by decide)
      (k0_off1 k) _ (off1_eq k) (k0_off2 k) _ (off2_eq k) (k0_off5 k) _ (off5_eq k) _ _ _ _ (chk1 i _ (hlab _))))
  isplitl [H]; · iexact H
  iintro %acc H
  iapply (fetchInv_filled c lab W wsc arg2 ql q2 0 0 sc0 sh0 acc)
  iapply (show fetchInv c lab W wsc arg2 ql q2 (qS 0) (semS 0) 0 0 sc0 sh0 (k0_t1_loop.trips) acc ⊢ fetchInv c lab W wsc arg2 ql q2 (qS 0) (semS 0) 0 0 sc0 sh0 512 acc from by rw [trips1])
  iexact H

theorem nextK_wp (i : grid0.Coords) (h : k0_cond2 i = 1#1) (hlab : ∀ n, (labAt lab n).toNat < 128256) (sc0 : Vec F S2x512x128 .f32) (sh0 : Vec F S2x512x128 .i32) :
    empt c lab W wsc arg2 ql q2 (((i 0).val + 1) % 2) sc0 sh0
      ⊢ bwp c (nextK i (Memref.whole main_v4) arg2 (Memref.whole main_v2) (Memref.whole cc0_scratch0) (Memref.whole cc0_scratch1) (Memref.whole cc0_scratch2) cc0_scratch4)
          (fun _ => filled c lab W wsc arg2 ql q2 (((i 0).val + 1) % 2) ((i 0).val + 1) sc0 sh0) := by
  unfold nextK
  rw [dif_pos h]
  have hlt := (cond2_iff i).mp h
  iintro H
  iapply fupd_wp
  imod (idle_open c lab W wsc arg2 ql q2 (qS (((i 0).val + 1) % 2)) (semS (((i 0).val + 1) % 2)) (((i 0).val + 1) % 2) ((i 0).val + 1) sc0 sh0) $$ H with H
  imodintro
  iapply (Scf.wp_for _ _ _ _ _ _ (k0_t2_ok i h) ⟨⟩ _ (fetchInv c lab W wsc arg2 ql q2 (qS (((i 0).val + 1) % 2)) (semS (((i 0).val + 1) % 2)) (((i 0).val + 1) % 2) ((i 0).val + 1) sc0 sh0) (fun k acc =>
    fetch_step c lab W wsc arg2 ql q2 (qS (((i 0).val + 1) % 2)) (semS (((i 0).val + 1) % 2)) _ (sem_eq _ (Nat.mod_lt _ (by decide)) _ _ (off7_eq i)) (((i 0).val + 1) % 2) ((i 0).val + 1) sc0 sh0 k.val (trips2 ▸ k.isLt) (by omega)
      (k0_off6 i k) _ (off6_eq i k h) (k0_off8 i k) _ (off8_eq i k h) (k0_off11 i k) _ (off11_eq i k h) _ _ _ _ (chk2 i _ (hlab _))))
  isplitl [H]; · iexact H
  iintro %acc H
  iapply (fetchInv_filled c lab W wsc arg2 ql q2 (((i 0).val + 1) % 2) ((i 0).val + 1) sc0 sh0 acc)
  iapply (show fetchInv c lab W wsc arg2 ql q2 (qS (((i 0).val + 1) % 2)) (semS (((i 0).val + 1) % 2)) (((i 0).val + 1) % 2) ((i 0).val + 1) sc0 sh0 (k0_t2_loop.trips) acc
    ⊢ fetchInv c lab W wsc arg2 ql q2 (qS (((i 0).val + 1) % 2)) (semS (((i 0).val + 1) % 2)) (((i 0).val + 1) % 2) ((i 0).val + 1) sc0 sh0 512 acc from by rw [trips2])
  iexact H

theorem waitK_wp (i : grid0.Coords) (t : Nat) :
    iprop((∃ Wt, owes (c : Thread nD τ) 0 Wt) ∗ fly c lab W (qS ((i 0).val % 2)) (semS ((i 0).val % 2)) ((i 0).val % 2) t)
      ⊢ bwp c (waitK i (Memref.whole main_v2) (Memref.whole cc0_scratch0) cc0_scratch4)
          (fun _ => iprop((∃ Wt, owes (c : Thread nD τ) 0 Wt) ∗ here c lab W (qS ((i 0).val % 2)) (semS ((i 0).val % 2)) ((i 0).val % 2) t)) := by
  unfold waitK fly
  iintro ⟨HO, HB, HW⟩
  iapply (Scf.wp_for _ _ _ _ _ _ k0_t3_ok ⟨⟩ _ (waitInv c lab W (qS ((i 0).val % 2)) (semS ((i 0).val % 2)) ((i 0).val % 2) t) (fun k acc =>
    wait_step c lab W (qS ((i 0).val % 2)) (semS ((i 0).val % 2)) _ (sem_eq _ (Nat.mod_lt _ (by decide)) _ _ (off12_eq i)) ((i 0).val % 2) t k.val (trips3 ▸ k.isLt) _ _ _ _ _))
  isplitl [HO HB]
  · unfold waitInv
    isplitl [HO]; · iexact HO
    rw [if_pos (by decide), Nat.zero_mul]
    iexact HB
  iintro %acc H
  ihave H' := (show waitInv c lab W (qS ((i 0).val % 2)) (semS ((i 0).val % 2)) ((i 0).val % 2) t (k0_t3_loop.trips) acc
    ⊢ iprop((∃ Wt, owes (c : Thread nD τ) 0 Wt) ∗ semVal ((c : Thread nD τ), SemLoc.dma (semS ((i 0).val % 2))) 0
      ∗ bigSep Finset.univ (delv c lab W ((i 0).val % 2) t (qS ((i 0).val % 2)))) from by rw [trips3]; unfold waitInv; rw [if_neg (by decide)]) $$ H
  icases H' with ⟨HO, HV, HD⟩
  isplitl [HO]; · iexact HO
  iapply (fly_close c lab W (qS ((i 0).val % 2)) (semS ((i 0).val % 2)) ((i 0).val % 2) t)
  isplitl [HW]; · iexact HW
  isplitl [HV]; · iexact HV
  iexact HD

end

end Cert.Finish.Gen

end
-- ==== Proof.Finish.Run.lean ====
/- What a point computes once its rows are there: the targets' logits row block by row block, the token log probabilities,
   the sequences' sums, and at the last point the pairs' margins and losses. -/
module

public import proofs.«01_k».proof.Proof.Finish.Stage

@[expose] public section

set_option maxRecDepth 16384

noncomputable section

namespace Cert.Finish.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.VecRules

variable {F : FTy → Type} [FloatOps F]

local notation "𝕄" => MT nD τ sig Unit (Elt F) ℕ (UD sig nD τ) ℕ

/-! ## Values -/

/-- A row block's lane products over column blocks `js`. -/
def accOf (i : grid0.Coords) (r : Fin 4) (sh : Vec F S1x128x128 .i32) (x18 : Vec F S2x512x2048 .i32) (x4 : Vec F S512x2048 .fp8e4m3)
    (js : List (Fin 16)) (acc : FVec F S128x128 .f32) : FVec F S128x128 .f32 :=
  js.foldl (fun acc j => dotVal sh acc (VecWindow.window x18 ![slotW i, 128 * r.val, 128 * j.val] S1x128x128.size (inbRw i r j))
    (VecWindow.window x4 ![128 * r.val, 128 * j.val] S128x128.size (inbHh r j))) acc

/-- A row block's targets' logits. -/
def blkVal (i : grid0.Coords) (r : Fin 4) (x4 : Vec F S512x2048 .fp8e4m3) (x5 : Vec F S1x512 .f32) (x18 : Vec F S2x512x2048 .i32)
    (x19 : Vec F S2x512x128 .f32) (x20 : Vec F S2x512x128 .i32) : FVec F S1x128 .f32 :=
  rowVal (accOf i r (VecWindow.window x20 ![slotW i, 128 * r.val, 0] S1x128x128.size (inbSc i r)) x18 x4 cols
      (broadcast S128x128 (Scalar.ofBits (F := F) .f32 0x00000000#32)))
    (VecWindow.window x19 ![slotW i, 128 * r.val, 0] S1x128x128.size (inbSc i r)) (VecWindow.window x5 ![0, 128 * r.val] S1x128.size (inbTk r))

/-- The point's targets' logits, over what the block held. -/
def tgtOver (i : grid0.Coords) (x4 : Vec F S512x2048 .fp8e4m3) (x5 : Vec F S1x512 .f32) (x18 : Vec F S2x512x2048 .i32)
    (x19 : Vec F S2x512x128 .f32) (x20 : Vec F S2x512x128 .i32) (rs : List (Fin 4)) (o : Vec F S1x512 .f32) : Vec F S1x512 .f32 :=
  rs.foldl (fun o r => VecWindow.put o ![0, 128 * r.val] S1x128.size (blkVal i r x4 x5 x18 x19 x20)) o

/-- The point's targets' logits. -/
def tgtVal (i : grid0.Coords) (x4 : Vec F S512x2048 .fp8e4m3) (x5 : Vec F S1x512 .f32) (x18 : Vec F S2x512x2048 .i32)
    (x19 : Vec F S2x512x128 .f32) (x20 : Vec F S2x512x128 .i32) : Vec F S1x512 .f32 := fun y =>
  blkVal i ⟨(y 1).val / 128, by have h : (y 1).val < 512 := (y 1).isLt; omega⟩ x4 x5 x18 x19 x20
    (fun a => match a with
      | ⟨0, _⟩ => y 0
      | ⟨1, _⟩ => ⟨(y 1).val % 128, Nat.mod_lt _ (by decide)⟩)

theorem tgtOver_eq (i : grid0.Coords) (x4 : Vec F S512x2048 .fp8e4m3) (x5 : Vec F S1x512 .f32) (x18 : Vec F S2x512x2048 .i32)
    (x19 : Vec F S2x512x128 .f32) (x20 : Vec F S2x512x128 .i32) (o : Vec F S1x512 .f32) :
    tgtOver i x4 x5 x18 x19 x20 [0, 1, 2, 3] o = tgtVal i x4 x5 x18 x19 x20 := by
  funext y
  have h0 : (y 0).val < 1 := (y 0).isLt
  have h1 : (y 1).val < 512 := (y 1).isLt
  unfold tgtOver tgtVal
  refine (foldl_put_hit (s := S1x512) [0, 1, 2, 3] (fun r : Fin 4 => ![0, 128 * r.val]) S1x128.size (fun r => blkVal i r x4 x5 x18 x19 x20) o y
    ⟨(y 1).val / 128, by omega⟩ (by
      have : ∀ r : Fin 4, r ∈ ([0, 1, 2, 3] : List (Fin 4)) := by decide
      exact this _) (fun a => by
      match a with
      | ⟨0, _⟩ => show 0 ≤ (y 0).val ∧ (y 0).val < 0 + 1; omega
      | ⟨1, _⟩ => show 128 * ((y 1).val / 128) ≤ (y 1).val ∧ (y 1).val < 128 * ((y 1).val / 128) + 128; omega)
    (fun r _ hr => by
      have : 128 * r.val ≤ (y 1).val ∧ (y 1).val < 128 * r.val + 128 := hr 1
      apply Fin.ext
      show r.val = (y 1).val / 128
      omega)).trans ?_
  refine congrArg (blkVal i _ x4 x5 x18 x19 x20) (funext fun a => ?_)
  match a with
  | ⟨0, _⟩ => apply Fin.ext; rw [Rect.unitLocal_val]; rfl
  | ⟨1, _⟩ =>
    apply Fin.ext; rw [Rect.unitLocal_val]
    show (y 1).val - 128 * ((y 1).val / 128) = (y 1).val % 128
    omega

theorem slotW_eq (i : grid0.Coords) : slotW i = (i 0).val % 2 := congrFun (off14_eq i) 0

/-- It reads the point's slot only. -/
theorem tgtVal_congr (i : grid0.Coords) (x4 : Vec F S512x2048 .fp8e4m3) (x5 : Vec F S1x512 .f32) (x18 : Vec F S2x512x2048 .i32)
    (x19 x19' : Vec F S2x512x128 .f32) (x20 x20' : Vec F S2x512x128 .i32) (h19 : ∀ y, d0 y = (i 0).val % 2 → x19 y = x19' y)
    (h20 : ∀ y, d0 y = (i 0).val % 2 → x20 y = x20' y) : tgtVal i x4 x5 x18 x19 x20 = tgtVal i x4 x5 x18 x19' x20' := by
  have w : ∀ {e : EltTy} (x x' : Vec F S2x512x128 e) (h : ∀ y, d0 y = (i 0).val % 2 → x y = x' y) (r : Fin 4),
      VecWindow.window x ![slotW i, 128 * r.val, 0] S1x128x128.size (inbSc i r) = VecWindow.window x' ![slotW i, 128 * r.val, 0] S1x128x128.size (inbSc i r) := by
    intro e x x' h r
    funext y
    refine h _ ?_
    show slotW i + 1 * (y 0).val = (i 0).val % 2
    have hy : (y 0).val < 1 := (y 0).isLt
    have := slotW_eq i; omega
  unfold tgtVal blkVal
  funext y
  rw [w x19 x19' h19, w x20 x20' h20]

/-- The pairs' margins from the sequences' lane sums, -/
def marginVal (a : Vec F S24x128 .f32) (p n : Vec F S1x12 .i32) (r : Vec F S24x1 .f32) : FVec F S1x12 .f32 :=
  k0_pay2 (k0_pay7 a p r) (k0_pay8 a n) (k0_pay9 (F := F) n) (k0_pay10 r) (k0_pay11 (F := F))
/-- and their losses. -/
def lossVal (a : Vec F S24x128 .f32) (p n : Vec F S1x12 .i32) (r : Vec F S24x1 .f32) : FVec F S1x12 .f32 :=
  k0_pay3 (k0_pay7 a p r) (k0_pay8 a n) (k0_pay9 (F := F) n) (k0_pay10 r) (k0_pay11 (F := F))

/-! ## The rules -/

section

variable (c : Dev nD) (i : grid0.Coords) (arg4 : Memref sig .tc .vmem S512x2048 .fp8e4m3) (arg5 : Memref sig .tc .vmem S1x512 .f32) (arg6 arg7 : Memref sig .tc .vmem S8x512 .f32)
  (arg8 arg9 : Memref sig .tc .vmem S1x512 .i32) (arg10 : Memref sig .tc .vmem S24x1 .f32) (arg11 arg12 : Memref sig .tc .vmem S1x12 .i32)
  (arg13 arg14 : Memref sig .tc .vmem S1x512 .f32) (arg15 : Memref sig .tc .vmem S24x1 .f32) (arg16 arg17 : Memref sig .tc .vmem S1x12 .f32)
  (arg19 : Memref sig .tc .vmem S2x512x128 .f32) (arg20 : Memref sig .tc .vmem S2x512x128 .i32)
  (arg21 : Memref sig .tc .vmem S24x128 .f32)

/-- A load from the point's slot. -/
theorem ld_slot (Q : PUnit → sProp 𝕄) (r : Fin 4) (j : Fin 16) {hl} {K : Vec F S1x128x128 .i32 → BodyProg F} {x : Vec F S2x512x2048 .i32} :
    (rowsL c ↦[slotSet ((i 0).val % 2)]{fullShare} x : sProp 𝕄)
      ⊢ iprop(((rowsL c ↦[slotSet ((i 0).val % 2)]{fullShare} x)
          -∗ bwp c (K (VecWindow.window x ![slotW i, 128 * r.val, 128 * j.val] S1x128x128.size (inbRw i r j))) Q)
        -∗ bwp c (.op (.load (Memref.whole cc0_scratch0) (Rect.unit (s := S2x512x2048) ![slotW i, 128 * r.val, 128 * j.val] S1x128x128.size (inbRw i r j)).toLoadRect hl) K) Q) := by
  iintro H HK
  iapply (wp_load Variants.none (c : Thread nD τ) none Set.univ (m := Memref.whole cc0_scratch0) (by
    intro y hy
    obtain ⟨z, hz, rfl⟩ := Finset.mem_map.mp hy
    have hz' : z ∈ (Rect.unit (s := S2x512x2048) ![slotW i, 128 * r.val, 128 * j.val] S1x128x128.size (inbRw i r j)).set := by
      exact hz
    have h0 : slotW i ≤ (z 0).val ∧ (z 0).val < slotW i + 1 := (Rect.mem_set_unit.mp hz') 0
    rw [slotSet, Finset.mem_filter]
    refine ⟨Finset.mem_univ _, ?_⟩
    show (z 0).val = (i 0).val % 2
    rw [← slotW_eq]; omega)) $$ H
  iintro H
  rw [View.readAt_unit (Memref.whole cc0_scratch0).view x (inbRw i r j) rfl (inbRw i r j)]
  iapply HK
  iexact H

theorem dots_wp (Q : PUnit → sProp 𝕄) (r : Fin 4) (sh : Vec F S1x128x128 .i32) (x18 : Vec F S2x512x2048 .i32) (x4 : Vec F S512x2048 .fp8e4m3) (js : List (Fin 16)) (acc : FVec F S128x128 .f32)
    (K : FVec F S128x128 .f32 → BodyProg F) :
    iprop((rowsL c ↦[slotSet ((i 0).val % 2)]{fullShare} x18) ∗ owns (c : Thread nD τ) arg4 fullShare x4)
      ⊢ iprop(((rowsL c ↦[slotSet ((i 0).val % 2)]{fullShare} x18) ∗ owns (c : Thread nD τ) arg4 fullShare x4 -∗ bwp c (K (accOf i r sh x18 x4 js acc)) Q)
        -∗ bwp c (dotsK i arg4 (Memref.whole cc0_scratch0) r sh js acc K) Q) := by
  induction js generalizing acc with
  | nil => iintro H HK; iapply HK; iexact H
  | cons j js ih =>
    iintro ⟨HR, H4⟩ HK
    unfold dotsK
    iapply (ld_slot c i Q r j) $$ HR
    iintro HR
    iapply (wp_ld Variants.none (c : Thread nD τ) none Set.univ (m := arg4)) $$ H4
    iintro H4
    iapply (ih _) $$ [HR H4]
    · isplitl [HR]; · iexact HR
      iexact H4
    iexact HK

theorem blocks_wp (Q : PUnit → sProp 𝕄) (x4 : Vec F S512x2048 .fp8e4m3) (x5 : Vec F S1x512 .f32) (x18 : Vec F S2x512x2048 .i32)
    (x19 : Vec F S2x512x128 .f32) (x20 : Vec F S2x512x128 .i32) (K : BodyProg F) (rs : List (Fin 4)) (o : Vec F S1x512 .f32) :
    iprop((rowsL c ↦[slotSet ((i 0).val % 2)]{fullShare} x18) ∗ owns (c : Thread nD τ) arg4 fullShare x4 ∗ owns (c : Thread nD τ) arg5 fullShare x5
        ∗ owns (c : Thread nD τ) arg19 fullShare x19 ∗ owns (c : Thread nD τ) arg20 fullShare x20 ∗ owns (c : Thread nD τ) arg14 fullShare o)
      ⊢ iprop(((rowsL c ↦[slotSet ((i 0).val % 2)]{fullShare} x18) ∗ owns (c : Thread nD τ) arg4 fullShare x4 ∗ owns (c : Thread nD τ) arg5 fullShare x5
          ∗ owns (c : Thread nD τ) arg19 fullShare x19 ∗ owns (c : Thread nD τ) arg20 fullShare x20 ∗ owns (c : Thread nD τ) arg14 fullShare (tgtOver i x4 x5 x18 x19 x20 rs o) -∗ bwp c K Q)
        -∗ bwp c (rs.foldr (fun r (K : BodyProg F) => blockK i arg4 arg5 arg14 (Memref.whole cc0_scratch0) arg19 arg20 r K) K) Q) := by
  induction rs generalizing o with
  | nil => iintro H HK; iapply HK; iexact H
  | cons r rs ih =>
    iintro ⟨HR, H4, H5, H19, H20, HO⟩ HK
    rw [List.foldr_cons]
    unfold blockK
    iapply (wp_ld Variants.none (c : Thread nD τ) none Set.univ (m := arg20)) $$ H20
    iintro H20
    iapply (dots_wp c i arg4 Q r _ x18 x4 cols _) $$ [HR H4]
    · isplitl [HR]; · iexact HR
      iexact H4
    iintro ⟨HR, H4⟩
    iapply (wp_ld Variants.none (c : Thread nD τ) none Set.univ (m := arg19)) $$ H19
    iintro H19
    iapply (wp_ld Variants.none (c : Thread nD τ) none Set.univ (m := arg5)) $$ H5
    iintro H5
    iapply (wp_ld Variants.none (c : Thread nD τ) none Set.univ (m := arg14)) $$ HO
    iintro HO
    iapply (wp_st Variants.none (c : Thread nD τ) none Set.univ (m := arg14)) $$ HO
    iintro HO
    iapply (ih _) $$ [HR H4 H5 H19 H20 HO]
    · isplitl [HR]; · iexact HR
      isplitl [H4]; · iexact H4
      isplitl [H5]; · iexact H5
      isplitl [H19]; · iexact H19
      isplitl [H20]; · iexact H20
      iexact HO
    iexact HK

/-- A load of the whole, -/
theorem ld_full (Q : PUnit → sProp 𝕄) {s : Shape} {e : EltTy} {m : Memref sig .tc .vmem s e} {off : Fin s.rank → Nat} (h0 : ∀ d, off d = 0) {inb : ∀ d, off d + s.size d ≤ s.size d} {hl}
    {q : PosShare TreeShare} {x : Vec F s e} {K : Vec F s e → BodyProg F} :
    (owns (c : Thread nD τ) m q x : sProp 𝕄)
      ⊢ iprop((owns (c : Thread nD τ) m q x -∗ bwp c (K x) Q) -∗ bwp c (.op (.load m (Rect.unit (s := s) off s.size inb).toLoadRect hl) K) Q) := by
  iintro H HK
  iapply (wp_ld Variants.none (c : Thread nD τ) none Set.univ (m := m)) $$ H
  iintro H
  have e : VecWindow.window x off s.size inb = x := by
    funext y
    refine congrArg x (funext fun d => Fin.ext ?_)
    show off d + 1 * (y d).val = (y d).val
    rw [h0 d]; omega
  rw [e]
  iapply HK
  iexact H

/-- and a store. -/
theorem st_full (Q : PUnit → sProp 𝕄) {s : Shape} {e : EltTy} {m : Memref sig .tc .vmem s e} {off : Fin s.rank → Nat} (h0 : ∀ d, off d = 0) {inb : ∀ d, off d + s.size d ≤ s.size d} {hx hm}
    {x w : Vec F s e} {K : PUnit → BodyProg F} :
    (owns (c : Thread nD τ) m fullShare x : sProp 𝕄)
      ⊢ iprop((owns (c : Thread nD τ) m fullShare w -∗ bwp c (K ⟨⟩) Q) -∗ bwp c (.op (.store m (Rect.unit (s := s) off s.size inb) w Finset.univ hx hm) K) Q) := by
  iintro H HK
  iapply (wp_st Variants.none (c : Thread nD τ) none Set.univ (m := m)) $$ H
  iintro H
  rw [put_full x off h0 w]
  iapply HK
  iexact H

theorem zero2 : ∀ d : Fin 2, (![0, 0] : Fin 2 → Nat) d = 0 := by decide

theorem tok_wp (Q : PUnit → sProp 𝕄) (t : Vec F S1x512 .f32) (x6 x7 : Vec F S8x512 .f32) (x8 x9 : Vec F S1x512 .i32) (a : Vec F S24x128 .f32) (o : Vec F S1x512 .f32) (K : BodyProg F) :
    iprop(owns (c : Thread nD τ) arg14 fullShare t ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg13 fullShare o ∗ owns (c : Thread nD τ) arg21 fullShare a)
      ⊢ iprop((owns (c : Thread nD τ) arg14 fullShare t ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg13 fullShare (k0_pay58 t x6 x7)
        ∗ owns (c : Thread nD τ) arg21 fullShare (k0_pay1 (k0_pay59 t x6 x7 x9 x8) a) -∗ bwp c K Q)
        -∗ bwp c (tokK arg6 arg7 arg8 arg9 arg13 arg14 arg21 K) Q) := by
  unfold tokK
  iintro ⟨H14, H6, H7, H8, H9, H13, H21⟩ HK
  iapply (ld_full c _ (m := arg14) zero2) $$ H14
  iintro H14
  iapply (ld_full c _ (m := arg6) zero2) $$ H6
  iintro H6
  iapply (ld_full c _ (m := arg7) zero2) $$ H7
  iintro H7
  iapply (ld_full c _ (m := arg13) zero2) $$ H13
  iintro H13
  iapply (st_full c _ (m := arg13) zero2) $$ H13
  iintro H13
  iapply (ld_full c _ (m := arg9) zero2) $$ H9
  iintro H9
  iapply (ld_full c _ (m := arg8) zero2) $$ H8
  iintro H8
  iapply (ld_full c _ (m := arg21) zero2) $$ H21
  iintro H21
  iapply (ld_full c _ (m := arg21) zero2) $$ H21
  iintro H21
  iapply (st_full c _ (m := arg21) zero2) $$ H21
  iintro H21
  iapply HK
  isplitl [H14]; · iexact H14
  isplitl [H6]; · iexact H6
  isplitl [H7]; · iexact H7
  isplitl [H8]; · iexact H8
  isplitl [H9]; · iexact H9
  isplitl [H13]; · iexact H13
  iexact H21

theorem last_wp (h : k0_cond3 i = 1#1) (a : Vec F S24x128 .f32) (x10 : Vec F S24x1 .f32) (x11 x12 : Vec F S1x12 .i32) (o15 : Vec F S24x1 .f32) (o16 o17 : Vec F S1x12 .f32) (P : sProp 𝕄) :
    iprop(owns (c : Thread nD τ) arg21 fullShare a ∗ owns (c : Thread nD τ) arg10 fullShare x10 ∗ owns (c : Thread nD τ) arg11 fullShare x11
        ∗ owns (c : Thread nD τ) arg12 fullShare x12 ∗ owns (c : Thread nD τ) arg15 fullShare o15 ∗ owns (c : Thread nD τ) arg16 fullShare o16 ∗ owns (c : Thread nD τ) arg17 fullShare o17)
      ⊢ iprop((owns (c : Thread nD τ) arg21 fullShare a ∗ owns (c : Thread nD τ) arg10 fullShare x10 ∗ owns (c : Thread nD τ) arg11 fullShare x11
        ∗ owns (c : Thread nD τ) arg12 fullShare x12 ∗ owns (c : Thread nD τ) arg15 fullShare (k0_pay4 a) ∗ owns (c : Thread nD τ) arg16 fullShare (lossVal a x11 x12 x10)
        ∗ owns (c : Thread nD τ) arg17 fullShare (marginVal a x11 x12 x10) -∗ P)
        -∗ bwp c (lastK i arg10 arg11 arg12 arg15 arg16 arg17 arg21) (fun _ => P)) := by
  unfold lastK
  rw [dif_pos h]
  iintro ⟨H21, H10, H11, H12, H15, H16, H17⟩ HK
  iapply (ld_full c _ (m := arg21) zero2) $$ H21
  iintro H21
  iapply (ld_full c _ (m := arg15) zero2) $$ H15
  iintro H15
  iapply (st_full c _ (m := arg15) zero2) $$ H15
  iintro H15
  iapply (ld_full c _ (m := arg11) zero2) $$ H11
  iintro H11
  iapply (ld_full c _ (m := arg12) zero2) $$ H12
  iintro H12
  iapply (ld_full c _ (m := arg10) zero2) $$ H10
  iintro H10
  iapply (ld_full c _ (m := arg17) zero2) $$ H17
  iintro H17
  iapply (st_full c _ (m := arg17) zero2) $$ H17
  iintro H17
  iapply (ld_full c _ (m := arg16) zero2) $$ H16
  iintro H16
  iapply (st_full c _ (m := arg16) zero2) $$ H16
  iintro H16
  iapply (show P ⊢ bwp c (.ret ⟨⟩) (fun _ => P) from by
    rw [show bwp c (.ret ⟨⟩) (fun _ => P) = _ from wp_ret _ _ _ _ _]; exact fupd_intro)
  iapply HK
  isplitl [H21]; · iexact H21
  isplitl [H10]; · iexact H10
  isplitl [H11]; · iexact H11
  isplitl [H12]; · iexact H12
  isplitl [H15]; · iexact H15
  isplitl [H16]; · iexact H16
  iexact H17

end

end Cert.Finish.Gen

end
-- ==== Proof.Finish.Body.lean ====
/- A point of the pipeline: from a slot whose rows are on their way and an idle one, to the other slot's rows on their way and
   this one idle, the results of the point written. -/
module

public import proofs.«01_k».proof.Proof.Finish.Run
public import proofs.«01_k».proof.Proof.Finish.BodyEq

@[expose] public section

set_option maxRecDepth 16384

noncomputable section

namespace Cert.Finish.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.VecRules

variable {F : FTy → Type} [FloatOps F]

local notation "𝕄" => MT nD τ sig Unit (Elt F) ℕ (UD sig nD τ) ℕ

abbrev sc0 : Memref sig .tc .vmem S2x512x2048 .i32 := Memref.whole cc0_scratch0
abbrev sc1 : Memref sig .tc .vmem S2x512x128 .f32 := Memref.whole cc0_scratch1
abbrev sc2 : Memref sig .tc .vmem S2x512x128 .i32 := Memref.whole cc0_scratch2
abbrev sc3 : Memref sig .tc .vmem S24x128 .f32 := Memref.whole cc0_scratch3
abbrev lbl : Memref sig .tc .smem S15360 .i32 := Memref.whole main_v4

section

variable (c : Dev nD) (lab : Vec F S15360 .i32) (W : Vec F S32064x2048 .i32) (wsc : Vec F S128256 .f32)
  (ql : PosShare TreeShare)

/-- A program's end, -/
theorem wp_ret' (P : sProp 𝕄) : P ⊢ bwp c (.ret ⟨⟩) (fun _ => P) := by
  rw [show bwp c (.ret ⟨⟩) (fun _ => P) = _ from wp_ret _ _ _ _ _]
  exact fupd_intro

/-- and what follows from it. -/
theorem conseq (p : BodyProg F) (P P' : sProp 𝕄) (h : P ⊢ bwp c p (fun _ => P')) {R : sProp 𝕄} :
    P ⊢ iprop((P' -∗ R) -∗ bwp c p (fun _ => R)) := by
  iintro HP HK
  iapply (show iprop(bwp c p (fun _ => P') ∗ (P' -∗ R)) ⊢ bwp c p (fun _ => R) from
    (wp_frame_r _ _ _).trans (wp_mono _ _ _ fun _ => by
      iintro ⟨H, HK⟩; iapply HK; iexact H))
  isplitl [HP]
  · iapply h; iexact HP
  · iexact HK

/-- The slot of block `t`: its rows on their way, past the last block idle. -/
def cur (t : Nat) : sProp 𝕄 :=
  if t < 30 then fly c lab W (qS (t % 2)) (semS (t % 2)) (t % 2) t else idle c W (qS (t % 2)) (semS (t % 2)) (t % 2)

theorem cur_lt (t : Nat) (h : t < 30) : cur c lab W t = fly c lab W (qS (t % 2)) (semS (t % 2)) (t % 2) t := if_pos h
theorem cur_ge (t : Nat) (h : ¬ t < 30) : cur c lab W t = idle c W (qS (t % 2)) (semS (t % 2)) (t % 2) := if_neg h

/-- The slot of block `t` holds `new`. -/
def Slot {e : EltTy} (t : Nat) (new x : Vec F S2x512x128 e) : Prop := t < 30 → ∀ y : S2x512x128.Idx, d0 y = t % 2 → x y = new y

/-- Before point `t`, the initial fetch of the first point done: `a` the sequences' sums. -/
def inv (t : Nat) (a : Vec F S24x128 .f32) : sProp 𝕄 :=
  iprop(cur c lab W t ∗ idle c W (qS ((t + 1) % 2)) (semS ((t + 1) % 2)) ((t + 1) % 2) ∗ owns (c : Thread nD τ) lbl ql lab
    ∗ (∃ x, ⌜Slot (F := F) (e := .f32) t (scaleAt lab wsc t) x⌝ ∗ owns (c : Thread nD τ) sc1 fullShare x)
    ∗ (∃ x, ⌜Slot (F := F) (e := .i32) t (shiftAt lab t) x⌝ ∗ owns (c : Thread nD τ) sc2 fullShare x)
    ∗ owns (c : Thread nD τ) sc3 fullShare a)

/-- In point `t`, the next point's rows on their way and this one's there. -/
def mid (t : Nat) (a : Vec F S24x128 .f32) : sProp 𝕄 :=
  iprop(here c lab W (qS (t % 2)) (semS (t % 2)) (t % 2) t ∗ cur c lab W (t + 1) ∗ owns (c : Thread nD τ) lbl ql lab
    ∗ (∃ x, ⌜Slot (F := F) (e := .f32) t (scaleAt lab wsc t) x ∧ Slot (F := F) (e := .f32) (t + 1) (scaleAt lab wsc (t + 1)) x⌝ ∗ owns (c : Thread nD τ) sc1 fullShare x)
    ∗ (∃ x, ⌜Slot (F := F) (e := .i32) t (shiftAt lab t) x ∧ Slot (F := F) (e := .i32) (t + 1) (shiftAt lab (t + 1)) x⌝ ∗ owns (c : Thread nD τ) sc2 fullShare x)
    ∗ owns (c : Thread nD τ) sc3 fullShare a)

theorem slot_of_upto {e : EltTy} (t : Nat) (new x0 x : Vec F S2x512x128 e) (h : Upto (F := F) d0 d1 (t % 2) 512 new x0 x) : Slot (F := F) t new x :=
  fun _ y hy => (h y).1 hy (y 1).isLt

theorem slot_keep {e : EltTy} (t : Nat) (old new x0 x : Vec F S2x512x128 e) (h : Upto (F := F) d0 d1 ((t + 1) % 2) 512 new x0 x) (h0 : Slot (F := F) t old x0) : Slot (F := F) t old x :=
  fun ht y hy => ((h y).2 (by omega)).trans (h0 ht y hy)

variable (arg2 : Memref sig .tc .smem S128256 .f32)

/-- The first point's own fetch. -/
theorem initK_first (i : grid0.Coords) (h : (i 0).val = 0) (hlab : ∀ n, (labAt lab n).toNat < 128256)
    (x1 : Vec F S2x512x128 .f32) (x2 : Vec F S2x512x128 .i32) (x3 : Vec F S24x128 .f32) :
    iprop(idle c W (qS 0) (semS 0) 0 ∗ idle c W (qS 1) (semS 1) 1 ∗ owns (c : Thread nD τ) lbl ql lab ∗ owns (c : Thread nD τ) arg2 fullShare wsc
      ∗ owns (c : Thread nD τ) sc1 fullShare x1 ∗ owns (c : Thread nD τ) sc2 fullShare x2 ∗ owns (c : Thread nD τ) sc3 fullShare x3)
      ⊢ bwp c (initK i lbl arg2 (Memref.whole main_v2) sc0 sc1 sc2 sc3 cc0_scratch4) (fun _ => iprop(inv c lab W wsc ql 0 (k0_pay12 (F := F)) ∗ owns (c : Thread nD τ) arg2 fullShare wsc)) := by
  have h1 := (cond1_iff i).mpr h
  unfold initK
  rw [dif_pos h1]
  iintro ⟨H0, H1, HL, H2, HS, HH, HA⟩
  iapply (ld_full c _ (m := sc3) zero2) $$ HA
  iintro HA
  iapply (st_full c _ (m := sc3) zero2) $$ HA
  iintro HA
  iapply (conseq c _ _ _ (loop1_wp c lab W wsc arg2 ql fullShare i h1 hlab x1 x2)) $$ [H0 HL H2 HS HH]
  · isplitl [H0]; · iexact H0
    isplitl [HL]; · iexact HL
    isplitl [H2]; · iexact H2
    isplitl [HS]; · iexact HS
    iexact HH
  unfold filled inv
  iintro ⟨H0, HL, H2, ⟨%y1, %e1, HS⟩, ⟨%y2, %e2, HH⟩⟩
  isplitr [H2]
  · isplitl [H0]
    · rw [cur_lt c lab W 0 (by decide)]; iexact H0
    isplitl [H1]; · iexact H1
    isplitl [HL]; · iexact HL
    isplitl [HS]
    · iexists y1
      isplitr [HS]; · ipureintro; exact slot_of_upto 0 _ _ _ e1
      iexact HS
    isplitl [HH]
    · iexists y2
      isplitr [HH]; · ipureintro; exact slot_of_upto 0 _ _ _ e2
      iexact HH
    iexact HA
  iexact H2

/-- At a later point it is a step of nothing. -/
theorem initK_later (i : grid0.Coords) (h : ¬ (i 0).val = 0) (P : sProp 𝕄) :
    P ⊢ bwp c (initK i lbl arg2 (Memref.whole main_v2) sc0 sc1 sc2 sc3 cc0_scratch4) (fun _ => P) := by
  unfold initK
  rw [dif_neg (fun e => h ((cond1_iff i).mp e))]
  exact wp_ret' c P

/-- The next point's fetch. -/
theorem nextK_any (i : grid0.Coords) (hlab : ∀ n, (labAt lab n).toNat < 128256) (a : Vec F S24x128 .f32) :
    iprop(inv c lab W wsc ql (i 0).val a ∗ owns (c : Thread nD τ) arg2 fullShare wsc)
      ⊢ bwp c (nextK i lbl arg2 (Memref.whole main_v2) sc0 sc1 sc2 cc0_scratch4)
        (fun _ => iprop(fly c lab W (qS ((i 0).val % 2)) (semS ((i 0).val % 2)) ((i 0).val % 2) (i 0).val ∗ cur c lab W ((i 0).val + 1) ∗ owns (c : Thread nD τ) lbl ql lab
    ∗ (∃ x, ⌜Slot (F := F) (e := .f32) (i 0).val (scaleAt lab wsc (i 0).val) x ∧ Slot (F := F) (e := .f32) ((i 0).val + 1) (scaleAt lab wsc ((i 0).val + 1)) x⌝ ∗ owns (c : Thread nD τ) sc1 fullShare x)
    ∗ (∃ x, ⌜Slot (F := F) (e := .i32) (i 0).val (shiftAt lab (i 0).val) x ∧ Slot (F := F) (e := .i32) ((i 0).val + 1) (shiftAt lab ((i 0).val + 1)) x⌝ ∗ owns (c : Thread nD τ) sc2 fullShare x)
    ∗ owns (c : Thread nD τ) sc3 fullShare a ∗ owns (c : Thread nD τ) arg2 fullShare wsc)) := by
  have h30 := lt30 i
  unfold inv
  rw [cur_lt c lab W _ h30]
  iintro ⟨⟨HF, HI, HL, ⟨%x1, %e1, HS⟩, ⟨%x2, %e2, HH⟩, HA⟩, H2⟩
  by_cases h : (i 0).val < 29
  · have h2 := (cond2_iff i).mpr h
    iapply (conseq c _ _ _ (nextK_wp c lab W wsc arg2 ql fullShare i h2 hlab x1 x2)) $$ [HI HL H2 HS HH]
    · isplitl [HI]; · iexact HI
      isplitl [HL]; · iexact HL
      isplitl [H2]; · iexact H2
      isplitl [HS]; · iexact HS
      iexact HH
    unfold filled
    rw [cur_lt c lab W ((i 0).val + 1) (by omega)]
    iintro ⟨HN, HL, H2, ⟨%y1, %f1, HS⟩, ⟨%y2, %f2, HH⟩⟩
    isplitl [HF]; · iexact HF
    isplitl [HN]; · iexact HN
    isplitl [HL]; · iexact HL
    isplitl [HS]
    · iexists y1
      isplitr [HS]; · ipureintro; exact ⟨slot_keep _ _ _ _ _ f1 e1, slot_of_upto _ _ _ _ f1⟩
      iexact HS
    isplitl [HH]
    · iexists y2
      isplitr [HH]; · ipureintro; exact ⟨slot_keep _ _ _ _ _ f2 e2, slot_of_upto _ _ _ _ f2⟩
      iexact HH
    isplitl [HA]; · iexact HA
    iexact H2
  · unfold nextK
    rw [dif_neg (fun e => h ((cond2_iff i).mp e)), cur_ge c lab W ((i 0).val + 1) (by omega)]
    iapply (wp_ret' c _)
    isplitl [HF]; · iexact HF
    isplitl [HI]; · iexact HI
    isplitl [HL]; · iexact HL
    isplitl [HS]
    · iexists x1
      isplitr [HS]; · ipureintro; exact ⟨e1, fun hh => absurd hh (by omega)⟩
      iexact HS
    isplitl [HH]
    · iexists x2
      isplitr [HH]; · ipureintro; exact ⟨e2, fun hh => absurd hh (by omega)⟩
      iexact HH
    isplitl [HA]; · iexact HA
    iexact H2

/-- The two fetches and the wait. -/
theorem fetched_wp (i : grid0.Coords) (hlab : ∀ n, (labAt lab n).toNat < 128256) (a : Vec F S24x128 .f32) (K : BodyProg F) (Q : PUnit → sProp 𝕄) :
    iprop(inv c lab W wsc ql (i 0).val a ∗ owns (c : Thread nD τ) arg2 fullShare wsc ∗ (∃ Wt, owes (c : Thread nD τ) 0 Wt))
      ⊢ iprop((mid c lab W wsc ql (i 0).val a ∗ owns (c : Thread nD τ) arg2 fullShare wsc ∗ (∃ Wt, owes (c : Thread nD τ) 0 Wt) -∗ bwp c K Q)
        -∗ bwp c (nextK i lbl arg2 (Memref.whole main_v2) sc0 sc1 sc2 cc0_scratch4 >>= fun _ =>
          waitK i (Memref.whole main_v2) sc0 cc0_scratch4 >>= fun _ => K) Q) := by
  iintro ⟨HI, H2, HO⟩ HK
  iapply (stage c _ _ _ _ (nextK_any c lab W wsc ql arg2 i hlab a) Q) $$ [HI H2]
  · isplitl [HI]; · iexact HI
    iexact H2
  iintro ⟨HF, HN, HL, HS, HH, HA, H2⟩
  iapply (stage c _ _ _ _ (waitK_wp c lab W i (i 0).val) Q) $$ [HF HO]
  · isplitl [HO]; · iexact HO
    iexact HF
  iintro ⟨HO, HR⟩
  iapply HK
  unfold mid
  isplitr [H2 HO]
  · isplitl [HR]; · iexact HR
    isplitl [HN]; · iexact HN
    isplitl [HL]; · iexact HL
    isplitl [HS]; · iexact HS
    isplitl [HH]; · iexact HH
    iexact HA
  isplitl [H2]; · iexact H2
  iexact HO

/-! ## The computation -/

variable (arg4 : Memref sig .tc .vmem S512x2048 .fp8e4m3) (arg5 : Memref sig .tc .vmem S1x512 .f32) (arg6 arg7 : Memref sig .tc .vmem S8x512 .f32)
  (arg8 arg9 : Memref sig .tc .vmem S1x512 .i32) (arg10 : Memref sig .tc .vmem S24x1 .f32) (arg11 arg12 : Memref sig .tc .vmem S1x12 .i32)
  (arg13 arg14 : Memref sig .tc .vmem S1x512 .f32) (arg15 : Memref sig .tc .vmem S24x1 .f32) (arg16 arg17 : Memref sig .tc .vmem S1x12 .f32)
  (x4 : Vec F S512x2048 .fp8e4m3) (x5 : Vec F S1x512 .f32) (x6 x7 : Vec F S8x512 .f32) (x8 x9 : Vec F S1x512 .i32)
  (x10 : Vec F S24x1 .f32) (x11 x12 : Vec F S1x12 .i32)

/-- The blocks read at a point, the last call's arguments apart. -/
abbrev ins : sProp 𝕄 :=
  iprop(owns (c : Thread nD τ) arg4 fullShare x4 ∗ owns (c : Thread nD τ) arg5 fullShare x5 ∗ owns (c : Thread nD τ) arg6 fullShare x6 ∗ owns (c : Thread nD τ) arg7 fullShare x7
    ∗ owns (c : Thread nD τ) arg8 fullShare x8 ∗ owns (c : Thread nD τ) arg9 fullShare x9)

/-- A point's targets' logits. -/
def tgtAt (i : grid0.Coords) : Vec F S1x512 .f32 :=
  tgtVal i x4 x5 (rowsAt lab W (i 0).val) (scaleAt lab wsc (i 0).val) (shiftAt lab (i 0).val)

/-- The sequences' sums past it. -/
def accStep (t : Vec F S1x512 .f32) (a : Vec F S24x128 .f32) : Vec F S24x128 .f32 := k0_pay1 (k0_pay59 t x6 x7 x9 x8) a

theorem main_wp (i : grid0.Coords) (a : Vec F S24x128 .f32) (o13 o14 : Vec F S1x512 .f32) (Q : PUnit → sProp 𝕄) :
    iprop(mid c lab W wsc ql (i 0).val a ∗ ins c arg4 arg5 arg6 arg7 arg8 arg9 x4 x5 x6 x7 x8 x9 ∗ owns (c : Thread nD τ) arg13 fullShare o13 ∗ owns (c : Thread nD τ) arg14 fullShare o14)
      ⊢ iprop((inv c lab W wsc ql ((i 0).val + 1) (accStep x6 x7 x8 x9 (tgtAt lab W wsc x4 x5 i) a) ∗ ins c arg4 arg5 arg6 arg7 arg8 arg9 x4 x5 x6 x7 x8 x9
          ∗ owns (c : Thread nD τ) arg13 fullShare (k0_pay58 (tgtAt lab W wsc x4 x5 i) x6 x7) ∗ owns (c : Thread nD τ) arg14 fullShare (tgtAt lab W wsc x4 x5 i)
          -∗ bwp c (lastK i arg10 arg11 arg12 arg15 arg16 arg17 sc3) Q)
        -∗ bwp c (mainK i arg4 arg5 arg6 arg7 arg8 arg9 arg10 arg11 arg12 arg13 arg14 arg15 arg16 arg17 sc0 sc1 sc2 sc3) Q) := by
  have h30 := lt30 i
  unfold mid here
  iintro ⟨⟨⟨HR, HV, HW⟩, HN, HL, ⟨%x1, %e1, HS⟩, ⟨%x2, %e2, HH⟩, HA⟩, ⟨H4, H5, H6, H7, H8, H9⟩, H13, H14⟩ HK
  unfold mainK
  iapply (blocks_wp c i arg4 arg5 arg14 sc1 sc2 Q x4 x5 (rowsAt lab W (i 0).val) x1 x2 _ [0, 1, 2, 3] o14) $$ [HR H4 H5 HS HH H14]
  · isplitl [HR]; · iexact HR
    isplitl [H4]; · iexact H4
    isplitl [H5]; · iexact H5
    isplitl [HS]; · iexact HS
    isplitl [HH]; · iexact HH
    iexact H14
  rw [tgtOver_eq, tgtVal_congr i x4 x5 (rowsAt lab W (i 0).val) x1 (scaleAt lab wsc (i 0).val) x2 (shiftAt lab (i 0).val) (e1.1 h30) (e2.1 h30)]
  rw [show tgtVal i x4 x5 (rowsAt lab W (i 0).val) (scaleAt lab wsc (i 0).val) (shiftAt lab (i 0).val) = tgtAt lab W wsc x4 x5 i from rfl]
  iintro ⟨HR, H4, H5, HS, HH, H14⟩
  iapply (tok_wp c arg6 arg7 arg8 arg9 arg13 arg14 sc3 Q (tgtAt lab W wsc x4 x5 i) x6 x7 x8 x9 a o13 _) $$ [H14 H6 H7 H8 H9 H13 HA]
  · isplitl [H14]; · iexact H14
    isplitl [H6]; · iexact H6
    isplitl [H7]; · iexact H7
    isplitl [H8]; · iexact H8
    isplitl [H9]; · iexact H9
    isplitl [H13]; · iexact H13
    iexact HA
  iintro ⟨H14, H6, H7, H8, H9, H13, HA⟩
  iapply HK
  isplitr [H4 H5 H6 H7 H8 H9 H13 H14]
  · unfold inv
    isplitl [HN]; · iexact HN
    isplitl [HR HV HW]
    · rw [show ((i 0).val + 1 + 1) % 2 = (i 0).val % 2 from by omega]
      iapply (here_idle c lab W (qS ((i 0).val % 2)) (semS ((i 0).val % 2)) ((i 0).val % 2) (i 0).val)
      unfold here
      isplitl [HR]; · iexact HR
      isplitl [HV]; · iexact HV
      iexact HW
    isplitl [HL]; · iexact HL
    isplitl [HS]
    · iexists x1
      isplitr [HS]; · ipureintro; exact e1.2
      iexact HS
    isplitl [HH]
    · iexists x2
      isplitr [HH]; · ipureintro; exact e2.2
      iexact HH
    iexact HA
  isplitr [H13 H14]
  · isplitl [H4]; · iexact H4
    isplitl [H5]; · iexact H5
    isplitl [H6]; · iexact H6
    isplitl [H7]; · iexact H7
    isplitl [H8]; · iexact H8
    iexact H9
  isplitl [H13]; · iexact H13
  iexact H14

/-- Before the last point nothing follows. -/
theorem last_skip (i : grid0.Coords) (h : ¬ (i 0).val = 29) (P : sProp 𝕄) :
    P ⊢ bwp c (lastK i arg10 arg11 arg12 arg15 arg16 arg17 sc3) (fun _ => P) := by
  unfold lastK
  rw [dif_neg (fun e => h ((cond3_iff i).mp e))]
  exact wp_ret' c P

end

end Cert.Finish.Gen

end
-- ==== Proof.Finish.Entry.lean ====
/- The entry of the pipeline: what its arrays hold after the host operations, the table it reads, the windows' blocks. -/
module

public import proofs.«01_k».proof.Proof.Finish.Body
public import proofs.«01_k».proof.Proof.Gen.Finish.Launch
public import Idealize.ShloMosaic.Lib.Pipeline.FrameBody
public import Idealize.ShloMosaic.Lib.Claim

@[expose] public section

set_option maxRecDepth 16384

noncomputable section

namespace Cert.Finish.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation cellOf)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The contents at the entry -/

/-- Core `c`'s buffers after the host operations, -/
abbrev V0 (c : Dev nD) : Valuation τ sig (Elt F) := StableHlo.after hostOps0 (fun b => m (c, b))
/-- read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The table of labels, as the pipeline holds it. -/
def adm (p : Fin 1) : (pcfgs (F := F) p).Adm := ⟨fun k => V m 0 (pre0.ref k), trivial⟩

/-- The pipeline at it. -/
abbrev cfgm : Cfg sig Λ₀ := Pipeline.pin (pcfgs (F := F)) (adm m) 0

theorem hpf (c : Dev nD) (k : Fin pre0.K) : V m c (pre0.ref k) = (adm m 0).1 k := by
  have : c = 0 := Subsingleton.elim _ _
  subst this; rfl

/-- The labels, -/
abbrev lab (c : Dev nD) : Vec F S15360 .i32 := V m c main_v4
/-- and the words. -/
abbrev wds (c : Dev nD) : Vec F S32064x2048 .i32 := V m c main_v2

/-! ## The windows' blocks -/

/-- Window `w`'s block at point `t`. -/
def iblk (c : Dev nD) (w : Fin (cfgm m).W) (t : Fin (cfgm m).N) : (((cfgm m).win w).xblock ((cfgm m).grid.coords t)).Idx → Elt F ((cfgm m).win w).elt :=
  (((cfgm m).win w).blk t).view.read (Elt F) (V m c (Pipeline.arrRef spec0 w))

theorem before0_0_of {c : Dev nD} (dat : Dat τ (Elt F) Unit ℕ (UD sig nD τ) ℕ (cfgm m) c) (hA : dat.A 0 = V m c (Pipeline.arrRef spec0 0))
    (hafter : ∀ t, dat.after 0 t = iblk m c 0 t) (t : Fin (cfgm m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UD sig nD τ) ℕ (cfgm m) c) (hA : dat.A 1 = V m c (Pipeline.arrRef spec0 1))
    (hafter : ∀ t, dat.after 1 t = iblk m c 1 t) (t : Fin (cfgm m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UD sig nD τ) ℕ (cfgm m) c) (hA : dat.A 2 = V m c (Pipeline.arrRef spec0 2))
    (hafter : ∀ t, dat.after 2 t = iblk m c 2 t) (t : Fin (cfgm m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UD sig nD τ) ℕ (cfgm m) c) (hA : dat.A 3 = V m c (Pipeline.arrRef spec0 3))
    (hafter : ∀ t, dat.after 3 t = iblk m c 3 t) (t : Fin (cfgm m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UD sig nD τ) ℕ (cfgm m) c) (hA : dat.A 4 = V m c (Pipeline.arrRef spec0 4))
    (hafter : ∀ t, dat.after 4 t = iblk m c 4 t) (t : Fin (cfgm m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UD sig nD τ) ℕ (cfgm m) c) (hA : dat.A 5 = V m c (Pipeline.arrRef spec0 5))
    (hafter : ∀ t, dat.after 5 t = iblk m c 5 t) (t : Fin (cfgm m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UD sig nD τ) ℕ (cfgm m) c) (hA : dat.A 6 = V m c (Pipeline.arrRef spec0 6))
    (hafter : ∀ t, dat.after 6 t = iblk m c 6 t) (t : Fin (cfgm m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UD sig nD τ) ℕ (cfgm m) c) (hA : dat.A 7 = V m c (Pipeline.arrRef spec0 7))
    (hafter : ∀ t, dat.after 7 t = iblk m c 7 t) (t : Fin (cfgm m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UD sig nD τ) ℕ (cfgm m) c) (hA : dat.A 8 = V m c (Pipeline.arrRef spec0 8))
    (hafter : ∀ t, dat.after 8 t = iblk m c 8 t) (t : Fin (cfgm m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UD sig nD τ) ℕ (cfgm m) c) (hA : dat.A 9 = V m c (Pipeline.arrRef spec0 9))
    (hafter : ∀ t, dat.after 9 t = iblk m c 9 t) (t : Fin (cfgm m).N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The points -/

theorem lt_30 (t : Fin (cfgm m).N) : t.val < 30 := Nat.lt_of_lt_of_eq t.isLt N_0

theorem coordsG (t : Fin grid0.N) : (grid0.coords t 0).val = t.val := by
  have e0 : (grid0.coords t 0).val = t.val / 1 % 30 := Pipeline.Grid.coords_val t 0 (by decide) rfl
  have : t.val < 30 := Nat.lt_of_lt_of_eq t.isLt N_0
  omega

theorem coords0 (t : Fin (cfgm m).N) : (((cfgm m).grid.coords t : grid0.Coords) 0).val = t.val := coordsG t

theorem idle12 (t : Fin (cfgm m).N) (h : ¬ t.val = 29) : (cfgm m).idle 12 ((cfgm m).grid.coords t) = true := by
  show (!(k0_cond3 (grid0.coords t) == 1#1)) = true
  have h' : ¬ k0_cond3 (grid0.coords t) = 1#1 := fun e => h ((coords0 m t).symm.trans ((cond3_iff _).mp e))
  simpa using h'
theorem live12 (t : Fin (cfgm m).N) (h : t.val = 29) : (cfgm m).idle 12 ((cfgm m).grid.coords t) = false := by
  show (!(k0_cond3 (grid0.coords t) == 1#1)) = false
  have h' : k0_cond3 (grid0.coords t) = 1#1 := (cond3_iff _).mpr ((coords0 m t).trans h)
  simpa using h'
theorem flush0_12 (t : Fin (cfgm m).N) : ((cfgm m).win 12).flush t = true ↔ t.val % 30 = 29 :=
  Pipeline.Window.flush_const ((cfgm m).win 12) rfl (fun _ _ => rfl) N_0 rfl t
theorem noFlush12 (t : Fin (cfgm m).N) (h : ¬ t.val = 29) : ((cfgm m).win 12).flush t = false :=
  Bool.eq_false_iff.mpr fun e => h (by have := (flush0_12 m t).mp e; have := lt_30 m t; omega)
theorem idle13 (t : Fin (cfgm m).N) (h : ¬ t.val = 29) : (cfgm m).idle 13 ((cfgm m).grid.coords t) = true := by
  show (!(k0_cond3 (grid0.coords t) == 1#1)) = true
  have h' : ¬ k0_cond3 (grid0.coords t) = 1#1 := fun e => h ((coords0 m t).symm.trans ((cond3_iff _).mp e))
  simpa using h'
theorem live13 (t : Fin (cfgm m).N) (h : t.val = 29) : (cfgm m).idle 13 ((cfgm m).grid.coords t) = false := by
  show (!(k0_cond3 (grid0.coords t) == 1#1)) = false
  have h' : k0_cond3 (grid0.coords t) = 1#1 := (cond3_iff _).mpr ((coords0 m t).trans h)
  simpa using h'
theorem flush0_13 (t : Fin (cfgm m).N) : ((cfgm m).win 13).flush t = true ↔ t.val % 30 = 29 :=
  Pipeline.Window.flush_const ((cfgm m).win 13) rfl (fun _ _ => rfl) N_0 rfl t
theorem noFlush13 (t : Fin (cfgm m).N) (h : ¬ t.val = 29) : ((cfgm m).win 13).flush t = false :=
  Bool.eq_false_iff.mpr fun e => h (by have := (flush0_13 m t).mp e; have := lt_30 m t; omega)
theorem idle14 (t : Fin (cfgm m).N) (h : ¬ t.val = 29) : (cfgm m).idle 14 ((cfgm m).grid.coords t) = true := by
  show (!(k0_cond3 (grid0.coords t) == 1#1)) = true
  have h' : ¬ k0_cond3 (grid0.coords t) = 1#1 := fun e => h ((coords0 m t).symm.trans ((cond3_iff _).mp e))
  simpa using h'
theorem live14 (t : Fin (cfgm m).N) (h : t.val = 29) : (cfgm m).idle 14 ((cfgm m).grid.coords t) = false := by
  show (!(k0_cond3 (grid0.coords t) == 1#1)) = false
  have h' : k0_cond3 (grid0.coords t) = 1#1 := (cond3_iff _).mpr ((coords0 m t).trans h)
  simpa using h'
theorem flush0_14 (t : Fin (cfgm m).N) : ((cfgm m).win 14).flush t = true ↔ t.val % 30 = 29 :=
  Pipeline.Window.flush_const ((cfgm m).win 14) rfl (fun _ _ => rfl) N_0 rfl t
theorem noFlush14 (t : Fin (cfgm m).N) (h : ¬ t.val = 29) : ((cfgm m).win 14).flush t = false :=
  Bool.eq_false_iff.mpr fun e => h (by have := (flush0_14 m t).mp e; have := lt_30 m t; omega)

end Cert.Finish.Gen

end
-- ==== Proof.Finish.Frame.lean ====
/- The run of the pipeline: what is on its way and what the sums hold before every point, what is written back, and that the
   arguments end unchanged. -/
module

public import proofs.«01_k».proof.Proof.Finish.Entry

@[expose] public section

set_option maxRecDepth 16384

noncomputable section

namespace Cert.Finish.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation cellOf)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-! ## The memrefs of a point and their blocks -/

abbrev ms0 (t : Fin (cfgm m).N) : Memref sig .tc .smem S128256 .f32 := ((cfgm m).win 0).stage ((cfgm m).slots t 0)
abbrev ms1 (t : Fin (cfgm m).N) : Memref sig .tc .vmem S512x2048 .fp8e4m3 := ((cfgm m).win 1).stage ((cfgm m).slots t 1)
abbrev ms2 (t : Fin (cfgm m).N) : Memref sig .tc .vmem S1x512 .f32 := ((cfgm m).win 2).stage ((cfgm m).slots t 2)
abbrev ms3 (t : Fin (cfgm m).N) : Memref sig .tc .vmem S8x512 .f32 := ((cfgm m).win 3).stage ((cfgm m).slots t 3)
abbrev ms4 (t : Fin (cfgm m).N) : Memref sig .tc .vmem S8x512 .f32 := ((cfgm m).win 4).stage ((cfgm m).slots t 4)
abbrev ms5 (t : Fin (cfgm m).N) : Memref sig .tc .vmem S1x512 .i32 := ((cfgm m).win 5).stage ((cfgm m).slots t 5)
abbrev ms6 (t : Fin (cfgm m).N) : Memref sig .tc .vmem S1x512 .i32 := ((cfgm m).win 6).stage ((cfgm m).slots t 6)
abbrev ms7 (t : Fin (cfgm m).N) : Memref sig .tc .vmem S24x1 .f32 := ((cfgm m).win 7).stage ((cfgm m).slots t 7)
abbrev ms8 (t : Fin (cfgm m).N) : Memref sig .tc .vmem S1x12 .i32 := ((cfgm m).win 8).stage ((cfgm m).slots t 8)
abbrev ms9 (t : Fin (cfgm m).N) : Memref sig .tc .vmem S1x12 .i32 := ((cfgm m).win 9).stage ((cfgm m).slots t 9)
abbrev ms10 (t : Fin (cfgm m).N) : Memref sig .tc .vmem S1x512 .f32 := ((cfgm m).win 10).stage ((cfgm m).slots t 10)
abbrev ms11 (t : Fin (cfgm m).N) : Memref sig .tc .vmem S1x512 .f32 := ((cfgm m).win 11).stage ((cfgm m).slots t 11)
abbrev ms12 (t : Fin (cfgm m).N) : Memref sig .tc .vmem S24x1 .f32 := ((cfgm m).win 12).stage ((cfgm m).slots t 12)
abbrev ms13 (t : Fin (cfgm m).N) : Memref sig .tc .vmem S1x12 .f32 := ((cfgm m).win 13).stage ((cfgm m).slots t 13)
abbrev ms14 (t : Fin (cfgm m).N) : Memref sig .tc .vmem S1x12 .f32 := ((cfgm m).win 14).stage ((cfgm m).slots t 14)

abbrev ib0 (c : Dev nD) (t : Fin (cfgm m).N) : Vec F S128256 .f32 := iblk m c 0 t
abbrev ib1 (c : Dev nD) (t : Fin (cfgm m).N) : Vec F S512x2048 .fp8e4m3 := iblk m c 1 t
abbrev ib2 (c : Dev nD) (t : Fin (cfgm m).N) : Vec F S1x512 .f32 := iblk m c 2 t
abbrev ib3 (c : Dev nD) (t : Fin (cfgm m).N) : Vec F S8x512 .f32 := iblk m c 3 t
abbrev ib4 (c : Dev nD) (t : Fin (cfgm m).N) : Vec F S8x512 .f32 := iblk m c 4 t
abbrev ib5 (c : Dev nD) (t : Fin (cfgm m).N) : Vec F S1x512 .i32 := iblk m c 5 t
abbrev ib6 (c : Dev nD) (t : Fin (cfgm m).N) : Vec F S1x512 .i32 := iblk m c 6 t
abbrev ib7 (c : Dev nD) (t : Fin (cfgm m).N) : Vec F S24x1 .f32 := iblk m c 7 t
abbrev ib8 (c : Dev nD) (t : Fin (cfgm m).N) : Vec F S1x12 .i32 := iblk m c 8 t
abbrev ib9 (c : Dev nD) (t : Fin (cfgm m).N) : Vec F S1x12 .i32 := iblk m c 9 t

/-- The scales. -/
abbrev scl (c : Dev nD) : Vec F S128256 .f32 := V m c main_arg1

theorem ib0_eq (c : Dev nD) (t : Fin (cfgm m).N) : ib0 m c t = scl m c := by
  funext y
  refine congrArg (V m c main_arg1) (funext fun a => Fin.ext ?_)
  match a with
  | ⟨0, _⟩ =>
    show 0 * 128256 + 1 * (y 0).val = (y 0).val
    omega

/-! ## What a point leaves -/

/-- The targets' logits of point `t`. -/
def tgtB (c : Dev nD) (t : Fin (cfgm m).N) : Vec F S1x512 .f32 :=
  tgtAt (lab m c) (wds m c) (scl m c) (ib1 m c t) (ib2 m c t) ((cfgm m).grid.coords t)

/-- Its log probabilities. -/
def tokB (c : Dev nD) (t : Fin (cfgm m).N) : Vec F S1x512 .f32 := k0_pay58 (tgtB m c t) (ib3 m c t) (ib4 m c t)

/-- The sums past it. -/
def stepB (c : Dev nD) (t : Fin (cfgm m).N) (a : Vec F S24x128 .f32) : Vec F S24x128 .f32 :=
  accStep (ib3 m c t) (ib4 m c t) (ib5 m c t) (ib6 m c t) (tgtB m c t) a

/-- The sums after point `n`. -/
def accAt (c : Dev nD) : (n : ℕ) → n < (cfgm m).N → Vec F S24x128 .f32
  | 0, hn => stepB m c ⟨0, hn⟩ (k0_pay12 (F := F))
  | n + 1, hn => stepB m c ⟨n + 1, hn⟩ (accAt c n (Nat.lt_of_succ_lt hn))

/-- The sums before point `n`. -/
def accBef (c : Dev nD) : (n : ℕ) → n ≤ (cfgm m).N → Vec F S24x128 .f32
  | 0, _ => k0_pay12 (F := F)
  | n + 1, hn => accAt m c n hn

theorem accAt_eq (c : Dev nD) (n : ℕ) (hn : n < (cfgm m).N) : accAt m c n hn = stepB m c ⟨n, hn⟩ (accBef m c n (Nat.le_of_lt hn)) := by
  cases n <;> rfl

/-! ## The pipeline's invariant -/

/-- Before the first point both slots idle. -/
def start (c : Dev nD) : sProp 𝕄 :=
  iprop(idle c (wds m c) (qS 0) (semS 0) 0 ∗ idle c (wds m c) (qS 1) (semS 1) 1 ∗ owns (c : Thread nD τ) lbl fullShare.right (lab m c)
    ∗ (∃ x, owns (c : Thread nD τ) sc1 fullShare x) ∗ (∃ x, owns (c : Thread nD τ) sc2 fullShare x) ∗ (∃ x, owns (c : Thread nD τ) sc3 fullShare x))

def PhiS (c : Dev nD) : (n : ℕ) → n ≤ (cfgm m).N → sProp 𝕄
  | 0, _ => iprop(start m c ∗ (∃ r, prngReg c r))
  | n + 1, hn => iprop(inv c (lab m c) (wds m c) (scl m c) fullShare.right (n + 1) (accAt m c n hn) ∗ (∃ r, prngReg c r))

def dats (_ : Fin 1) (c : Dev nD) : Dat τ (Elt F) Unit ℕ (UD sig nD τ) ℕ (cfgm m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tokB m c t
    | ⟨11, _⟩ => tgtB m c t
    | ⟨12, _⟩ => k0_pay4 (accAt m c t.val t.isLt)
    | ⟨13, _⟩ => lossVal (accAt m c t.val t.isLt) (ib8 m c t) (ib9 m c t) (ib7 m c t)
    | ⟨14, _⟩ => marginVal (accAt m c t.val t.isLt) (ib8 m c t) (ib9 m c t) (ib7 m c t)
  Φ t := PhiS m c t.val (Nat.le_of_lt_succ t.isLt)
  q _ := fullShare
  owed _ := 0

theorem A_eq (c : Dev nD) (w : Fin (cfgm m).W) : (dats m 0 c).A w = V m c (Pipeline.arrRef spec0 w) := by
  dsimp only [dats]

theorem PhiS_castSucc (c : Dev nD) (t : Fin (cfgm m).N) :
    (dats m 0 c).Φ t.castSucc = PhiS m c t.val (Nat.le_of_lt t.isLt) := by
  dsimp only [dats]; exact Pipeline.Dat.Φ_castSucc (PhiS m c) t

theorem PhiS_succ (c : Dev nD) (t : Fin (cfgm m).N) :
    (dats m 0 c).Φ t.succ = iprop(inv c (lab m c) (wds m c) (scl m c) fullShare.right (t.val + 1) (accAt m c t.val t.isLt) ∗ (∃ r, prngReg c r)) := rfl

theorem after0 (c : Dev nD) (t : Fin (cfgm m).N) : (dats m 0 c).after 0 t = iblk m c 0 t := rfl
theorem after1 (c : Dev nD) (t : Fin (cfgm m).N) : (dats m 0 c).after 1 t = iblk m c 1 t := rfl
theorem after2 (c : Dev nD) (t : Fin (cfgm m).N) : (dats m 0 c).after 2 t = iblk m c 2 t := rfl
theorem after3 (c : Dev nD) (t : Fin (cfgm m).N) : (dats m 0 c).after 3 t = iblk m c 3 t := rfl
theorem after4 (c : Dev nD) (t : Fin (cfgm m).N) : (dats m 0 c).after 4 t = iblk m c 4 t := rfl
theorem after5 (c : Dev nD) (t : Fin (cfgm m).N) : (dats m 0 c).after 5 t = iblk m c 5 t := rfl
theorem after6 (c : Dev nD) (t : Fin (cfgm m).N) : (dats m 0 c).after 6 t = iblk m c 6 t := rfl
theorem after7 (c : Dev nD) (t : Fin (cfgm m).N) : (dats m 0 c).after 7 t = iblk m c 7 t := rfl
theorem after8 (c : Dev nD) (t : Fin (cfgm m).N) : (dats m 0 c).after 8 t = iblk m c 8 t := rfl
theorem after9 (c : Dev nD) (t : Fin (cfgm m).N) : (dats m 0 c).after 9 t = iblk m c 9 t := rfl
theorem after10 (c : Dev nD) (t : Fin (cfgm m).N) : (dats m 0 c).after 10 t = tokB m c t := rfl
theorem after11 (c : Dev nD) (t : Fin (cfgm m).N) : (dats m 0 c).after 11 t = tgtB m c t := rfl
theorem after12 (c : Dev nD) (t : Fin (cfgm m).N) : (dats m 0 c).after 12 t = k0_pay4 (accAt m c t.val t.isLt) := rfl
theorem after13 (c : Dev nD) (t : Fin (cfgm m).N) : (dats m 0 c).after 13 t = lossVal (accAt m c t.val t.isLt) (ib8 m c t) (ib9 m c t) (ib7 m c t) := rfl
theorem after14 (c : Dev nD) (t : Fin (cfgm m).N) : (dats m 0 c).after 14 t = marginVal (accAt m c t.val t.isLt) (ib8 m c t) (ib9 m c t) (ib7 m c t) := rfl
theorem before0 (c : Dev nD) (t : Fin (cfgm m).N) (d) : (dats m 0 c).before 0 t d = ib0 m c t :=
  before0_0_of m (dats m 0 c) (A_eq m c 0) (after0 m c) t d
theorem before1 (c : Dev nD) (t : Fin (cfgm m).N) (d) : (dats m 0 c).before 1 t d = ib1 m c t :=
  before0_1_of m (dats m 0 c) (A_eq m c 1) (after1 m c) t d
theorem before2 (c : Dev nD) (t : Fin (cfgm m).N) (d) : (dats m 0 c).before 2 t d = ib2 m c t :=
  before0_2_of m (dats m 0 c) (A_eq m c 2) (after2 m c) t d
theorem before3 (c : Dev nD) (t : Fin (cfgm m).N) (d) : (dats m 0 c).before 3 t d = ib3 m c t :=
  before0_3_of m (dats m 0 c) (A_eq m c 3) (after3 m c) t d
theorem before4 (c : Dev nD) (t : Fin (cfgm m).N) (d) : (dats m 0 c).before 4 t d = ib4 m c t :=
  before0_4_of m (dats m 0 c) (A_eq m c 4) (after4 m c) t d
theorem before5 (c : Dev nD) (t : Fin (cfgm m).N) (d) : (dats m 0 c).before 5 t d = ib5 m c t :=
  before0_5_of m (dats m 0 c) (A_eq m c 5) (after5 m c) t d
theorem before6 (c : Dev nD) (t : Fin (cfgm m).N) (d) : (dats m 0 c).before 6 t d = ib6 m c t :=
  before0_6_of m (dats m 0 c) (A_eq m c 6) (after6 m c) t d
theorem before7 (c : Dev nD) (t : Fin (cfgm m).N) (d) : (dats m 0 c).before 7 t d = ib7 m c t :=
  before0_7_of m (dats m 0 c) (A_eq m c 7) (after7 m c) t d
theorem before8 (c : Dev nD) (t : Fin (cfgm m).N) (d) : (dats m 0 c).before 8 t d = ib8 m c t :=
  before0_8_of m (dats m 0 c) (A_eq m c 8) (after8 m c) t d
theorem before9 (c : Dev nD) (t : Fin (cfgm m).N) (d) : (dats m 0 c).before 9 t d = ib9 m c t :=
  before0_9_of m (dats m 0 c) (A_eq m c 9) (after9 m c) t d
theorem leaves0 (c : Dev nD) (t : Fin (cfgm m).N) : (dats m 0 c).leavesExact 0 t = owns (c : Thread nD τ) (ms0 m t) fullShare (ib0 m c t) := by
  rw [show (dats m 0 c).leavesExact 0 t = owns (c : Thread nD τ) (ms0 m t) fullShare ((dats m 0 c).after 0 t) from rfl, after0]
theorem leaves1 (c : Dev nD) (t : Fin (cfgm m).N) : (dats m 0 c).leavesExact 1 t = owns (c : Thread nD τ) (ms1 m t) fullShare (ib1 m c t) := by
  rw [show (dats m 0 c).leavesExact 1 t = owns (c : Thread nD τ) (ms1 m t) fullShare ((dats m 0 c).after 1 t) from rfl, after1]
theorem leaves2 (c : Dev nD) (t : Fin (cfgm m).N) : (dats m 0 c).leavesExact 2 t = owns (c : Thread nD τ) (ms2 m t) fullShare (ib2 m c t) := by
  rw [show (dats m 0 c).leavesExact 2 t = owns (c : Thread nD τ) (ms2 m t) fullShare ((dats m 0 c).after 2 t) from rfl, after2]
theorem leaves3 (c : Dev nD) (t : Fin (cfgm m).N) : (dats m 0 c).leavesExact 3 t = owns (c : Thread nD τ) (ms3 m t) fullShare (ib3 m c t) := by
  rw [show (dats m 0 c).leavesExact 3 t = owns (c : Thread nD τ) (ms3 m t) fullShare ((dats m 0 c).after 3 t) from rfl, after3]
theorem leaves4 (c : Dev nD) (t : Fin (cfgm m).N) : (dats m 0 c).leavesExact 4 t = owns (c : Thread nD τ) (ms4 m t) fullShare (ib4 m c t) := by
  rw [show (dats m 0 c).leavesExact 4 t = owns (c : Thread nD τ) (ms4 m t) fullShare ((dats m 0 c).after 4 t) from rfl, after4]
theorem leaves5 (c : Dev nD) (t : Fin (cfgm m).N) : (dats m 0 c).leavesExact 5 t = owns (c : Thread nD τ) (ms5 m t) fullShare (ib5 m c t) := by
  rw [show (dats m 0 c).leavesExact 5 t = owns (c : Thread nD τ) (ms5 m t) fullShare ((dats m 0 c).after 5 t) from rfl, after5]
theorem leaves6 (c : Dev nD) (t : Fin (cfgm m).N) : (dats m 0 c).leavesExact 6 t = owns (c : Thread nD τ) (ms6 m t) fullShare (ib6 m c t) := by
  rw [show (dats m 0 c).leavesExact 6 t = owns (c : Thread nD τ) (ms6 m t) fullShare ((dats m 0 c).after 6 t) from rfl, after6]
theorem leaves7 (c : Dev nD) (t : Fin (cfgm m).N) : (dats m 0 c).leavesExact 7 t = owns (c : Thread nD τ) (ms7 m t) fullShare (ib7 m c t) := by
  rw [show (dats m 0 c).leavesExact 7 t = owns (c : Thread nD τ) (ms7 m t) fullShare ((dats m 0 c).after 7 t) from rfl, after7]
theorem leaves8 (c : Dev nD) (t : Fin (cfgm m).N) : (dats m 0 c).leavesExact 8 t = owns (c : Thread nD τ) (ms8 m t) fullShare (ib8 m c t) := by
  rw [show (dats m 0 c).leavesExact 8 t = owns (c : Thread nD τ) (ms8 m t) fullShare ((dats m 0 c).after 8 t) from rfl, after8]
theorem leaves9 (c : Dev nD) (t : Fin (cfgm m).N) : (dats m 0 c).leavesExact 9 t = owns (c : Thread nD τ) (ms9 m t) fullShare (ib9 m c t) := by
  rw [show (dats m 0 c).leavesExact 9 t = owns (c : Thread nD τ) (ms9 m t) fullShare ((dats m 0 c).after 9 t) from rfl, after9]
theorem leaves10 (c : Dev nD) (t : Fin (cfgm m).N) : (dats m 0 c).leavesExact 10 t = owns (c : Thread nD τ) (ms10 m t) fullShare (tokB m c t) := by
  rw [show (dats m 0 c).leavesExact 10 t = owns (c : Thread nD τ) (ms10 m t) fullShare ((dats m 0 c).after 10 t) from rfl, after10]
theorem leaves11 (c : Dev nD) (t : Fin (cfgm m).N) : (dats m 0 c).leavesExact 11 t = owns (c : Thread nD τ) (ms11 m t) fullShare (tgtB m c t) := by
  rw [show (dats m 0 c).leavesExact 11 t = owns (c : Thread nD τ) (ms11 m t) fullShare ((dats m 0 c).after 11 t) from rfl, after11]
theorem leaves12 (c : Dev nD) (t : Fin (cfgm m).N) (h : t.val = 29) : (dats m 0 c).leavesExact 12 t = owns (c : Thread nD τ) (ms12 m t) fullShare (k0_pay4 (accAt m c t.val t.isLt)) := by
  rw [show (dats m 0 c).leavesExact 12 t = owns (c : Thread nD τ) (ms12 m t) fullShare ((dats m 0 c).after 12 t) from by
    unfold Dat.leavesExact; rw [live12 m t h]; rfl, after12]
theorem leaves13 (c : Dev nD) (t : Fin (cfgm m).N) (h : t.val = 29) : (dats m 0 c).leavesExact 13 t = owns (c : Thread nD τ) (ms13 m t) fullShare (lossVal (accAt m c t.val t.isLt) (ib8 m c t) (ib9 m c t) (ib7 m c t)) := by
  rw [show (dats m 0 c).leavesExact 13 t = owns (c : Thread nD τ) (ms13 m t) fullShare ((dats m 0 c).after 13 t) from by
    unfold Dat.leavesExact; rw [live13 m t h]; rfl, after13]
theorem leaves14 (c : Dev nD) (t : Fin (cfgm m).N) (h : t.val = 29) : (dats m 0 c).leavesExact 14 t = owns (c : Thread nD τ) (ms14 m t) fullShare (marginVal (accAt m c t.val t.isLt) (ib8 m c t) (ib9 m c t) (ib7 m c t)) := by
  rw [show (dats m 0 c).leavesExact 14 t = owns (c : Thread nD τ) (ms14 m t) fullShare ((dats m 0 c).after 14 t) from by
    unfold Dat.leavesExact; rw [live14 m t h]; rfl, after14]

/-! ## The body obligation -/

def bodyPre (c : Dev nD) (t : Fin (cfgm m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d))
    ∗ (∃ d, owns (c : Thread nD τ) (ms9 m t) fullShare ((dats m 0 c).before 9 t d))
    ∗ (∃ d, owns (c : Thread nD τ) (ms10 m t) fullShare ((dats m 0 c).before 10 t d))
    ∗ (∃ d, owns (c : Thread nD τ) (ms11 m t) fullShare ((dats m 0 c).before 11 t d))
    ∗ (∃ d, owns (c : Thread nD τ) (ms12 m t) fullShare ((dats m 0 c).before 12 t d))
    ∗ (∃ d, owns (c : Thread nD τ) (ms13 m t) fullShare ((dats m 0 c).before 13 t d))
    ∗ (∃ d, owns (c : Thread nD τ) (ms14 m t) fullShare ((dats m 0 c).before 14 t d)))

def bodyPost (c : Dev nD) (t : Fin (cfgm m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

abbrev bodyAt (t : Fin (cfgm m).N) : BodyProg F :=
  cc0_finish ((cfgm m).grid.coords t) (Memref.whole main_v4) (Memref.isWhole_whole _) (ms0 m t) (hstage0_0 (((cfgm m).slots t 0).cast nbuf0_0)) (Memref.whole main_v2) (Memref.isWhole_whole _)
    (ms1 m t) (hstage0_1 (((cfgm m).slots t 1).cast nbuf0_1))
    (ms2 m t) (hstage0_2 (((cfgm m).slots t 2).cast nbuf0_2))
    (ms3 m t) (hstage0_3 (((cfgm m).slots t 3).cast nbuf0_3))
    (ms4 m t) (hstage0_4 (((cfgm m).slots t 4).cast nbuf0_4))
    (ms5 m t) (hstage0_5 (((cfgm m).slots t 5).cast nbuf0_5))
    (ms6 m t) (hstage0_6 (((cfgm m).slots t 6).cast nbuf0_6))
    (ms7 m t) (hstage0_7 (((cfgm m).slots t 7).cast nbuf0_7))
    (ms8 m t) (hstage0_8 (((cfgm m).slots t 8).cast nbuf0_8))
    (ms9 m t) (hstage0_9 (((cfgm m).slots t 9).cast nbuf0_9))
    (ms10 m t) (hstage0_10 (((cfgm m).slots t 10).cast nbuf0_10))
    (ms11 m t) (hstage0_11 (((cfgm m).slots t 11).cast nbuf0_11))
    (ms12 m t) (hstage0_12 (((cfgm m).slots t 12).cast nbuf0_12))
    (ms13 m t) (hstage0_13 (((cfgm m).slots t 13).cast nbuf0_13))
    (ms14 m t) (hstage0_14 (((cfgm m).slots t 14).cast nbuf0_14))
    (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

variable (hlab : ∀ c n, (labAt (lab m c) n).toNat < 128256)

include hlab in
/-- The first part of a point: from the invariant before it, its own initial fetch done if it is the first. -/
theorem init_any (c : Dev nD) (t : Fin (cfgm m).N) :
    iprop(PhiS m c t.val (Nat.le_of_lt t.isLt) ∗ owns (c : Thread nD τ) (ms0 m t) fullShare (scl m c))
      ⊢ bwp c (initK ((cfgm m).grid.coords t) lbl (ms0 m t) (Memref.whole main_v2) sc0 sc1 sc2 sc3 cc0_scratch4)
        (fun _ => iprop((inv c (lab m c) (wds m c) (scl m c) fullShare.right t.val (accBef m c t.val (Nat.le_of_lt t.isLt)) ∗ owns (c : Thread nD τ) (ms0 m t) fullShare (scl m c)) ∗ (∃ r, prngReg c r))) := by
  have hc := coords0 m t
  by_cases h : t.val = 0
  · obtain ⟨n, hn⟩ := t
    cases n with
    | succ n => exact absurd h (Nat.succ_ne_zero n)
    | zero =>
      unfold PhiS start accBef
      iintro ⟨⟨⟨H0, H1, HL, ⟨%x1, HS⟩, ⟨%x2, HH⟩, ⟨%x3, HA⟩⟩, Hg⟩, H2⟩
      iapply (conseq c _ _ _ (initK_first c (lab m c) (wds m c) (scl m c) fullShare.right (ms0 m ⟨0, hn⟩) ((cfgm m).grid.coords ⟨0, hn⟩) hc (hlab c) x1 x2 x3)) $$ [H0 H1 HL HS HH HA H2]
      · isplitl [H0]; · iexact H0
        isplitl [H1]; · iexact H1
        isplitl [HL]; · iexact HL
        isplitl [H2]; · iexact H2
        isplitl [HS]; · iexact HS
        isplitl [HH]; · iexact HH
        iexact HA
      iintro H
      isplitl [H]; · iexact H
      iexact Hg
  · refine BIBase.Entails.trans ?_ (initK_later c (ms0 m t) ((cfgm m).grid.coords t) (fun e => h (hc.symm.trans e)) _)
    obtain ⟨n, hn⟩ := t
    cases n with
    | zero => exact absurd rfl h
    | succ n =>
      unfold PhiS accBef
      iintro ⟨⟨HI, Hg⟩, H2⟩
      isplitr [Hg]
      · isplitl [HI]; · iexact HI
        iexact H2
      iexact Hg

include hlab in
set_option maxHeartbeats 1000000 in
/-- The body at any point. -/
theorem sound_body (c : Dev nD) (t : Fin (cfgm m).N) :
    bodyPre m c t ⊢ bwp c (bodyAt m t) (fun _ => bodyPost m c t) := by
  have hc := coords0 m t
  unfold bodyPre
  simp only [before0, before1, before2, before3, before4, before5, before6, before7, before8, before9]
  rw [PhiS_castSucc, show bodyAt m t = _ from body_eq _ _ _ _ _ _ _ _ _ _ _ _ _ _ _ _ _ _ _ _ _ _ _ _ _ _ _ _ _ _ _ _ _ _ _ _ _ _ _ _ _ _ _ _]
  iintro ⟨HP, ⟨%Wt, %hWt, Ho⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [show ib0 m c t = scl m c from ib0_eq m c t]
  iapply (stage c _ _ _ _ (init_any m hlab c t) _) $$ [HP H0]
  · isplitl [HP]; · iexact HP
    iexact H0
  iintro ⟨⟨HI, H0⟩, Hg⟩
  iapply (fetched_wp c (lab m c) (wds m c) (scl m c) fullShare.right (ms0 m t) ((cfgm m).grid.coords t) (hlab c) (accBef m c t.val (Nat.le_of_lt t.isLt)) _ _) $$ [HI H0 Ho]
  · rw [hc]
    isplitl [HI]; · iexact HI
    isplitl [H0]; · iexact H0
    iexists Wt; iexact Ho
  iintro ⟨HM, H0, ⟨%Wt', Ho⟩⟩
  iapply (main_wp c (lab m c) (wds m c) (scl m c) fullShare.right (ms1 m t) (ms2 m t) (ms3 m t) (ms4 m t) (ms5 m t) (ms6 m t) (ms7 m t) (ms8 m t) (ms9 m t) (ms10 m t) (ms11 m t) (ms12 m t) (ms13 m t) (ms14 m t)
    (ib1 m c t) (ib2 m c t) (ib3 m c t) (ib4 m c t) (ib5 m c t) (ib6 m c t) ((cfgm m).grid.coords t) (accBef m c t.val (Nat.le_of_lt t.isLt)) ((dats m 0 c).before 10 t d10) ((dats m 0 c).before 11 t d11) _) $$ [HM H1 H2 H3 H4 H5 H6 H10 H11]
  · isplitl [HM]; · iexact HM
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [H10]; · iexact H10
    iexact H11
  rw [show accStep (ib3 m c t) (ib4 m c t) (ib5 m c t) (ib6 m c t) (tgtAt (lab m c) (wds m c) (scl m c) (ib1 m c t) (ib2 m c t) ((cfgm m).grid.coords t)) (accBef m c t.val (Nat.le_of_lt t.isLt))
    = accAt m c t.val t.isLt from (accAt_eq m c t.val t.isLt).symm]
  rw [show k0_pay58 (tgtAt (lab m c) (wds m c) (scl m c) (ib1 m c t) (ib2 m c t) ((cfgm m).grid.coords t)) (ib3 m c t) (ib4 m c t) = tokB m c t from rfl,
    show tgtAt (lab m c) (wds m c) (scl m c) (ib1 m c t) (ib2 m c t) ((cfgm m).grid.coords t) = tgtB m c t from rfl, hc]
  iintro ⟨HI, ⟨H1, H2, H3, H4, H5, H6⟩, H10, H11⟩
  unfold bodyPost
  rw [PhiS_succ, leaves0, leaves1, leaves2, leaves3, leaves4, leaves5, leaves6, leaves7, leaves8, leaves9, leaves10, leaves11,
    show ib0 m c t = scl m c from ib0_eq m c t]
  by_cases h : t.val = 29
  · rw [leaves12 m c t h, leaves13 m c t h, leaves14 m c t h]
    unfold inv
    icases HI with ⟨HC, HD, HL, HS, HH, HA⟩
    iapply (last_wp c ((cfgm m).grid.coords t) (ms7 m t) (ms8 m t) (ms9 m t) (ms12 m t) (ms13 m t) (ms14 m t) sc3 ((cond3_iff _).mpr (hc.trans h)) (accAt m c t.val t.isLt) (ib7 m c t) (ib8 m c t) (ib9 m c t)
      ((dats m 0 c).before 12 t d12) ((dats m 0 c).before 13 t d13) ((dats m 0 c).before 14 t d14) _) $$ [HA H7 H8 H9 H12 H13 H14]
    · isplitl [HA]; · iexact HA
      isplitl [H7]; · iexact H7
      isplitl [H8]; · iexact H8
      isplitl [H9]; · iexact H9
      isplitl [H12]; · iexact H12
      isplitl [H13]; · iexact H13
      iexact H14
    iintro ⟨HA, H7, H8, H9, H12, H13, H14⟩
    isplitl [HC HD HL HS HH HA Hg]
    · isplitr [Hg]
      · isplitl [HC]; · iexact HC
        isplitl [HD]; · iexact HD
        isplitl [HL]; · iexact HL
        isplitl [HS]; · iexact HS
        isplitl [HH]; · iexact HH
        iexact HA
      iexact Hg
    isplitl [Ho]
    · iexists Wt'
      isplitr [Ho]; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [Dat.leavesExact_idle (dats m 0 c) 12 t (idle12 m t h) (noFlush12 m t h), Dat.leavesExact_idle (dats m 0 c) 13 t (idle13 m t h) (noFlush13 m t h), Dat.leavesExact_idle (dats m 0 c) 14 t (idle14 m t h) (noFlush14 m t h)]
    iapply (last_skip c (ms7 m t) (ms8 m t) (ms9 m t) (ms12 m t) (ms13 m t) (ms14 m t) ((cfgm m).grid.coords t) (fun e => h (hc.symm.trans e)) _)
    isplitl [HI Hg]
    · isplitl [HI]; · iexact HI
      iexact Hg
    isplitl [Ho]
    · iexists Wt'
      isplitr [Ho]; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists d12; iexact H12
    isplitl [H13]; · iexists d13; iexact H13
    iexists d14; iexact H14

theorem defs₀_row (t : Fin (cfgm m).N) :
    defs₀ (F := F) .tc (cfgm m).body ((cfgm m).bodyArgs t ((cfgm m).slots t)) = bodyAt m t := by
  unfold defs₀; rw [Defs.onTc_tc]; rfl

include hlab in
theorem body_obligation (c : Dev nD) : BodyObligation (dats (F := F) m 0 c) (defs₀ (F := F)) Variants.none () Set.univ := fun t => by
  rw [bigSep_W0, bigSep_W0, defs₀_row]
  exact triple_restated (sound_body m hlab c t) rfl .rfl fun _ => .rfl

end Cert.Finish.Gen

end
-- ==== Proof.Finish.Final.lean ====
/- The run of the whole program: from the entry's memory to the end, the arguments unchanged and every semaphore at zero. -/
module

public import proofs.«01_k».proof.Proof.Finish.Frame

@[expose] public section

set_option maxRecDepth 16384

noncomputable section

namespace Cert.Finish.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation cellOf)

variable {F : FTy → Type} [FloatOps F]

local notation "𝕄" => MT nD τ sig Unit (Elt F) ℕ (UD sig nD τ) ℕ

variable (m : (ℓ : Loc nD τ sig) → Buf (Elt F) ℓ) (ρ : Dev nD → PrngReg)

/-- The kernel's own semaphores, one a slot. -/
def osem (k : Fin 2) : SemLoc sig := SemLoc.dma (semS k.val)

theorem osemFacts : Pipeline.OwnSemFacts spec0 osem := by decide

/-- The words the kernel reads itself. -/
abbrev hbmRefs : Finset (Ref sig .tc) := {main_v2}

theorem hbmRefs_sub : hbmRefs ⊆ Pipeline.restRefsP sig pre0 spec0 := by decide

theorem ownSems_eq (c : Dev nD) :
    (Pipeline.ownSems0 (Ix := Unit) (Name := ℕ) (U := UD sig nD τ) (Lvl := ℕ) (Val := Elt F) (τ := τ) osem c : sProp 𝕄)
      = iprop(semVal ((c : Thread nD τ), SemLoc.dma (semS 0)) 0 ∗ semVal ((c : Thread nD τ), SemLoc.dma (semS 1)) 0) :=
  bigSep_univ_eq_bigSepL [(0 : Fin 2), (1 : Fin 2)] (by decide) (by decide) _

theorem words_eq (c : Dev nD) :
    (bigSep hbmRefs (fun b => ((c : Thread nD τ).loc b) ↦{fullShare} V m c b) : sProp 𝕄) = (wordsL c ↦[Finset.univ]{fullShare} wds m c) :=
  bigSep_singleton

theorem table_eq (c : Dev nD) :
    (Pipeline.ΦT (pcfgs (F := F) 0).pre (adm m 0).1 c : sProp 𝕄) = owns (c : Thread nD τ) lbl fullShare.right (lab m c) := by
  rw [owns_whole, show (Pipeline.ΦT (pcfgs (F := F) 0).pre (adm m 0).1 c : sProp 𝕄)
      = bigSep (Finset.univ : Finset (Fin 1)) fun k => ((c.tc : Thread nD τ).loc (pre0.ref k)) ↦{fullShare.right} (adm m 0).1 k from rfl,
    show (Finset.univ : Finset (Fin 1)) = {0} from rfl, bigSep_singleton]
  rw [← hpf m c 0]
  rfl

theorem hin (c : Dev nD) : iprop(Pipeline.ΦD osem (cfgm m).spec hbmRefs (V m) c ∗ Pipeline.ΦT (pcfgs (F := F) 0).pre (adm m 0).1 c) ⊢ (dats m 0 c).Φ 0 := by
  rw [show (dats m 0 c).Φ 0 = iprop(start m c ∗ (∃ r, prngReg c r)) from rfl, table_eq, Pipeline.ΦD_eq,
    show Pipeline.scopedRest (Ix := Unit) (Name := ℕ) (U := UD sig nD τ) (Lvl := ℕ) (Val := Elt F) (cfgm m).spec c = _ from scopedRest0_eq c, ownSems_eq, words_eq]
  unfold start idle
  iintro ⟨⟨⟨⟨%f0, HR⟩, ⟨%f1, HS⟩, ⟨%f2, HH⟩, ⟨%f3, HA⟩⟩, Hg, ⟨HV0, HV1⟩, HW⟩, HL⟩
  ihave HW := (pointsTo_share (PosShare.mem_left_op_right _)).1 $$ HW
  icases HW with ⟨HW0, HW1⟩
  ihave HR := (show ((c : Thread nD τ).loc cc0_scratch0 ↦{fullShare} f0 : sProp 𝕄) ⊢ (rowsL c ↦[slotSet 0 ∪ slotSet 1]{fullShare} f0) from by rw [slots_union]) $$ HR
  ihave HR := (pointsTo_union slots_disjoint).1 $$ HR
  icases HR with ⟨HR0, HR1⟩
  isplitr [Hg]
  · isplitl [HR0 HV0 HW0]
    · isplitl [HR0]; · iexists f0; iexact HR0
      isplitl [HV0]; · iexact HV0
      iexact HW0
    isplitl [HR1 HV1 HW1]
    · isplitl [HR1]; · iexists f0; iexact HR1
      isplitl [HV1]; · iexact HV1
      iexact HW1
    isplitl [HL]; · iexact HL
    isplitl [HS]; · iexists f1; rw [owns_whole]; iexact HS
    isplitl [HH]; · iexists f2; rw [owns_whole]; iexact HH
    iexists f3; rw [owns_whole]; iexact HA
  iexact Hg

theorem hout (c : Dev nD) : (dats m 0 c).Φ (Fin.last (cfgm m).N) ⊢ Pipeline.ΦD osem (cfgm m).spec hbmRefs (V m) c := by
  rw [show (dats m 0 c).Φ (Fin.last (cfgm m).N)
      = iprop(inv c (lab m c) (wds m c) (scl m c) fullShare.right 30 (accAt m c 29 (by decide : 29 < grid0.N)) ∗ (∃ r, prngReg c r)) from rfl, Pipeline.ΦD_eq,
    show Pipeline.scopedRest (Ix := Unit) (Name := ℕ) (U := UD sig nD τ) (Lvl := ℕ) (Val := Elt F) (cfgm m).spec c = _ from scopedRest0_eq c, ownSems_eq, words_eq]
  unfold inv
  rw [cur_ge _ _ _ 30 (by decide)]
  unfold idle
  iintro ⟨⟨⟨⟨%f0, HR0⟩, HV0, HW0⟩, ⟨⟨%f1, HR1⟩, HV1, HW1⟩, -, ⟨%x1, %h1, HS⟩, ⟨%x2, %h2, HH⟩, HA⟩, Hg⟩
  isplitl [HR0 HR1 HS HH HA]
  · isplitl [HR0 HR1]
    · ihave HR := (pointsTo_join (ℓ := rowsL c) (q := fullShare) slots_disjoint) $$ [HR0 HR1]
      · isplitl [HR0]; · iexact HR0
        iexact HR1
      iexists _
      rw [show (Finset.univ : Finset S2x512x2048.Idx) = slotSet 0 ∪ slotSet 1 from slots_union.symm]
      iexact HR
    isplitl [HS]; · iexists x1; rw [← owns_whole]; iexact HS
    isplitl [HH]; · iexists x2; rw [← owns_whole]; iexact HH
    iexists _; rw [← owns_whole]; iexact HA
  isplitl [Hg]; · iexact Hg
  isplitl [HV0 HV1]
  · isplitl [HV0]; · iexact HV0
    iexact HV1
  iapply (pointsTo_share (PosShare.mem_left_op_right _)).2
  isplitl [HW0]; · iexact HW0
  iexact HW1

/-! ## The run -/

variable (hlab : ∀ c n, (labAt (lab m c) n).toNat < 128256)

include hlab in
set_option backward.isDefEq.respectTransparency.types false in
theorem run_main_quiescent : θ_run defs (onTc (τ := τ) (main (F := F))) (s₀ m ρ)
    (fun r => Pipeline.FramePost (Pipeline.pin pcfgs (adm m)) (dats m) 0 (V m) r ∧ r.2.sem = fun _ => 0) :=
  Pipeline.θ_run_frameP_dma (Q' := _) pcfgs (adm m) (dats m) (0 : Fin 1) launch0 osem defs₀ Variants.none osemFacts hbmRefs hbmRefs_sub m ρ main
    (hbody := fun c => (body_obligation m hlab c).loose) (hshare := fun c => (dats m 0 c).share_full fun _ => rfl)
    (howed := fun _ _ => rfl) (V := V m) (hmain := hmain m Variants.none) (hA := A_eq m) (hpf := hpf m) (hin := hin m) (hout := hout m)
    (hQ' := fun _ h => h)

/-- A buffer that is no array of a window's ends as the host operations left it. -/
theorem rest_end (c : Dev nD) (b : Ref sig .tc) (hb : b ∈ Pipeline.restRefs sig spec0) (r : PUnit × MemSt nD τ sig (Elt F))
    (h : Pipeline.FramePost (Pipeline.pin pcfgs (adm m)) (dats m) 0 (V m) r) : r.2.mem ((c : Thread nD τ).loc b) = V m c b :=
  (h c).2 b hb

include hlab in
/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨
    (rest_end m c main_arg0 (Pipeline.mem_restRefs_of main_arg0 (by decide) (by decide)) r h.1).trans (V_main_arg0 m c),
    ((h.1 c).1 0).trans (((dats m 0 c).arrAt_in 0 rfl _).trans ((A_eq m c 0).trans (V_main_arg1 m c))),
    (rest_end m c main_arg2 (Pipeline.mem_restRefs_of main_arg2 (by decide) (by decide)) r h.1).trans (V_main_arg2 m c),
    (rest_end m c main_arg3 (Pipeline.mem_restRefs_of main_arg3 (by decide) (by decide)) r h.1).trans (V_main_arg3 m c),
    (rest_end m c main_arg4 (Pipeline.mem_restRefs_of main_arg4 (by decide) (by decide)) r h.1).trans (V_main_arg4 m c),
    ((h.1 c).1 3).trans (((dats m 0 c).arrAt_in 3 rfl _).trans ((A_eq m c 3).trans (V_main_arg5 m c))),
    ((h.1 c).1 4).trans (((dats m 0 c).arrAt_in 4 rfl _).trans ((A_eq m c 4).trans (V_main_arg6 m c))),
    (rest_end m c main_arg7 (Pipeline.mem_restRefs_of main_arg7 (by decide) (by decide)) r h.1).trans (V_main_arg7 m c),
    (rest_end m c main_arg8 (Pipeline.mem_restRefs_of main_arg8 (by decide) (by decide)) r h.1).trans (V_main_arg8 m c),
    (rest_end m c main_arg9 (Pipeline.mem_restRefs_of main_arg9 (by decide) (by decide)) r h.1).trans (V_main_arg9 m c),
    (rest_end m c main_arg10 (Pipeline.mem_restRefs_of main_arg10 (by decide) (by decide)) r h.1).trans (V_main_arg10 m c),
    (rest_end m c main_arg11 (Pipeline.mem_restRefs_of main_arg11 (by decide) (by decide)) r h.1).trans (V_main_arg11 m c)⟩, h.2⟩) (run_main_quiescent m ρ hlab)

end Cert.Finish.Gen

end
-- ==== Proof.Finish.Labels.lean ====
/- The labels the kernel reads are the argument's. -/
module

public import proofs.«01_k».proof.Proof.Finish.Final
public import Idealize.ShloMosaic.Lib.KernelVsHost

@[expose] public section

set_option maxRecDepth 16384

noncomputable section

namespace Cert.Finish.Gen

open Idealize.ShloMosaic Idealize.ShloMosaic.TcCoe Idealize.ShloMosaic.ValueIdx Idealize.ShloMosaic.Tactic Idealize.SL.Sem

variable {F : FTy → Type} [FloatOps F]
variable (m : (ℓ : Loc nD τ sig) → Buf (Elt F) ℓ) (c : Dev nD)

theorem lab_of (n : ℕ) : labAt (lab m c) n
    = (m ((c : Thread nD τ).loc main_arg0) : S6x2560.Idx → BitVec 32) (ix2 (⟨n % 15360 / 2560, by omega⟩ : Fin 6) (⟨n % 15360 % 2560, by omega⟩ : Fin 2560)) := by
  show V m c main_v4 _ = _
  entry_read
  refine shapeCast_apply _ _ _ _ ?_
  refine (Shape.rowMajor_val_two (ix2 (⟨n % 15360 / 2560, by omega⟩ : Fin 6) (⟨n % 15360 % 2560, by omega⟩ : Fin 2560))).trans (Eq.trans ?_ (Shape.rowMajor_val_one _).symm)
  show (n % 15360 / 2560) * 2560 + n % 15360 % 2560 = n % 15360
  omega

/-- Labels of the vocabulary stay so when flattened. -/
theorem labs_of (h : ∀ (c : Dev nD) i, ((m ((c : Thread nD τ).loc main_arg0) : S6x2560.Idx → BitVec 32) i).toNat < 128256) :
    ∀ c n, (labAt (lab m c) n).toNat < 128256 := fun c n => by
  rw [lab_of m c n]
  exact h c _

end Cert.Finish.Gen

end
-- ==== Proof.FinishTerms.lean ====
/- The second call's results in plain terms, and the two facts about the extended reals that they rest on. -/
module

public import proofs.«01_k».proof.Proof.Math
public import Idealize.ShloMosaic.Lib.Pipeline.Value
public import Idealize.ShloMosaic.Lib.ValueLayout
public import Idealize.ShloMosaic.Lib.IdealHost
public import Idealize.ShloMosaic.PureOps.Ideal.Laws

@[expose] public section

set_option maxRecDepth 16384

noncomputable section

namespace Cert.FinishTerms

open Idealize.ShloMosaic Idealize.ShloMosaic.ValueIdx
open scoped BigOperators

/-! ## The extended reals -/

/-- A nonnegative real factor goes into a sum. -/
theorem sum_mul_real {ι : Type} (S : Finset ι) (f : ι → EReal) (b : EReal) (h0 : 0 ≤ b) (h1 : b ≠ ⊤) :
    (∑ v ∈ S, f v) * b = ∑ v ∈ S, f v * b := by
  classical
  induction S using Finset.induction_on with
  | empty => rw [Finset.sum_empty, Finset.sum_empty, zero_mul]
  | insert v S hv ih =>
    rw [Finset.sum_insert hv, Finset.sum_insert hv, ← ih]
    exact EReal.right_distrib_of_nonneg_of_ne_top h0 h1 _ _

/-- Of a sum with one term that is not zero that term is left. -/
theorem sum_pick {n : ℕ} (f : Fin n → EReal) (p : Fin n) : (∑ s : Fin n, if s = p then f s else 0) = f p := by
  rw [Finset.sum_ite_eq' Finset.univ p f, if_pos (Finset.mem_univ p)]

/-- A value taken where two words agree. -/
theorem select_eq {w : ℕ} (u v : BitVec w) (x y : EReal) : Scalar.select (IntOp.cmpi .eq u v) x y = if u = v then x else y := by
  by_cases h : u = v
  · subst h; simp [Scalar.select, IntOp.cmpi]
  · have e : (u == v) = false := by simpa using h
    simp [Scalar.select, IntOp.cmpi, h, e]

/-! ## The arguments -/

/-- The arguments: labels, the scales of the vocabulary's rows, their codes, the hidden states and the scales of these, the
    maxima and the sums of the shards, every token's sequence and whether it counts, the reference model's log-probabilities,
    and the pairs. -/
structure Args where
  lab : (⟨2, ![6, 2560]⟩ : Shape).Idx → BitVec 32
  wsc : (⟨1, ![128256]⟩ : Shape).Idx → EReal
  W : (⟨2, ![128256, 2048]⟩ : Shape).Idx → BitVec 8
  h : (⟨3, ![6, 2560, 2048]⟩ : Shape).Idx → EReal
  hs : (⟨2, ![6, 2560]⟩ : Shape).Idx → EReal
  smax : (⟨2, ![8, 15360]⟩ : Shape).Idx → EReal
  ssum : (⟨2, ![8, 15360]⟩ : Shape).Idx → EReal
  seg : (⟨2, ![6, 2560]⟩ : Shape).Idx → BitVec 32
  mask : (⟨2, ![6, 2560]⟩ : Shape).Idx → BitVec 32
  ref : (⟨1, ![24]⟩ : Shape).Idx → EReal
  chosen : (⟨1, ![12]⟩ : Shape).Idx → BitVec 32
  rejected : (⟨1, ![12]⟩ : Shape).Idx → BitVec 32

/-- Token `n`'s entry of an array by sequence and place. -/
def flat {α : Type} (x : (⟨2, ![6, 2560]⟩ : Shape).Idx → α) (n : Fin 15360) : α :=
  x (ix2 (⟨n.val / 2560, by omega⟩ : Fin 6) (⟨n.val % 2560, by omega⟩ : Fin 2560))

/-- A word as a place of `N`, read signed and kept inside. -/
def place (N : ℕ) (hN : 0 < N) (v : BitVec 32) : Fin N := ⟨min v.toInt.toNat (N - 1), by omega⟩

theorem place_of_lt (N : ℕ) (hN : 0 < N) (v : BitVec 32) (h0 : 0 ≤ v.toInt) (h1 : v.toInt < N) : (place N hN v).val = v.toNat := by
  show min v.toInt.toNat (N - 1) = v.toNat
  have hv := v.isLt
  have e := BitVec.toInt_eq_toNat_cond v
  split at e <;> omega

/-- The value of an eight-bit code. -/
def codeOf (b : BitVec 8) : EReal := Ideal.ofBits .fp8e4m3 b

namespace Args

variable (a : Args)

def row (n : Fin 15360) : Fin 128256 := place 128256 (by decide) (flat a.lab n)

/-- The hidden state of token `n` against its label's codes, -/
def raw (n : Fin 15360) : EReal :=
  ∑ k : Fin 2048, a.h (ix3 (⟨n.val / 2560, by omega⟩ : Fin 6) (⟨n.val % 2560, by omega⟩ : Fin 2560) k) * codeOf (a.W (ix2 (a.row n) k))

/-- its logit, -/
def tgt (n : Fin 15360) : EReal := a.raw n * flat a.hs n * a.wsc (ix1 (a.row n))

def top (n : Fin 15360) : EReal := Finset.univ.sup fun g : Fin 8 => a.smax (ix2 g n)

/-- the logarithm of the sum of the exponentials of all its logits, -/
def lse (n : Fin 15360) : EReal := a.top n + Ideal.log (∑ g : Fin 8, a.ssum (ix2 g n) * Ideal.exp (a.smax (ix2 g n) - a.top n))

/-- and the log-probability of its label. -/
def tok (n : Fin 15360) : EReal := a.tgt n - a.lse n

/-- What token `n` gives to sequence `s`, -/
def term (s : Fin 24) (n : Fin 15360) : EReal :=
  if flat a.seg n = BitVec.ofNat 32 s.val then a.tok n * (FloatOps.sitofp (F := Ideal) .f32 (flat a.mask n) : EReal) else 0

/-- the log-probability of the sequence, -/
def pol (s : Fin 24) : EReal := ∑ n : Fin 15360, a.term s n

def ratio (s : Fin 24) : EReal := a.pol s - a.ref (ix1 s)

def ch (p : Fin 12) : Fin 24 := place 24 (by decide) (a.chosen (ix1 p))
def rj (p : Fin 12) : Fin 24 := place 24 (by decide) (a.rejected (ix1 p))

/-- the pairs' margins -/
def margin (p : Fin 12) : EReal := Ideal.ofBits .f32 0x3DCCCCCD#32 * (a.ratio (a.ch p) - a.ratio (a.rj p))

/-- and losses. -/
def loss (p : Fin 12) : EReal := max (-a.margin p) 0 + Ideal.log1p (Ideal.exp (-(max (a.margin p) (-a.margin p))))

end Args

/-! ## The arrays -/

def rowArr {n : ℕ} (f : Fin n → EReal) : (⟨2, ![1, n]⟩ : Shape).Idx → EReal := fun i => f ⟨(i 1).val, idx2_lt1 i⟩
def colArr {n : ℕ} (f : Fin n → EReal) : (⟨2, ![n, 1]⟩ : Shape).Idx → EReal := fun i => f ⟨(i 0).val, idx2_lt0 i⟩

end Cert.FinishTerms
-- ==== Proof.FinishIdeal.Template.lean ====
/- The kernel's body written once as loops: the printed body is the same program with the row blocks and the column blocks
   unrolled and cut into parts, and BodyEq.lean says so. -/
module

public import proofs.«01_k».proof.Proof.Gen.FinishIdeal.Launch
public import proofs.«01_k».proof.Proof.Gen.FinishIdeal.Loops

@[expose] public section

set_option maxRecDepth 16384

noncomputable section

namespace Cert.FinishIdeal.Gen

open Idealize.ShloMosaic Idealize.ShloMosaic.TcCoe Idealize.ShloMosaic.Tactic
open Idealize.SL.Sem

variable {F : FTy → Type} [FloatOps F] [Named F]

/-- Programs of the kernel's body. -/
abbrev BodyProg (F : FTy → Type) [FloatOps F] := Prog (TpuEff nD τ sig (Elt F) Λ₀ .tc) PUnit

/-! ## Offsets -/

/-- The slot of the scratch that a point's rows lie in, as the kernel computes it. -/
def slotW (i : grid0.Coords) : Nat := k0_off14 i 0

/-- 128 rows of the slot. -/
theorem inbSc (i : grid0.Coords) (r : Fin 4) : ∀ a, (![slotW i, 128 * r.val, 0] : Fin 3 → Nat) a + S1x128x128.size a ≤ S2x512x128.size a := by
  intro a; have := r.isLt
  match a with
  | ⟨0, _⟩ => exact k0_off14_inb i 0
  | ⟨1, _⟩ => show 128 * r.val + 128 ≤ 512; omega
  | ⟨2, _⟩ => show 0 + 128 ≤ 128; omega

/-- 128 columns of 128 rows of the slot, -/
theorem inbRw (i : grid0.Coords) (r : Fin 4) (j : Fin 16) : ∀ a, (![slotW i, 128 * r.val, 128 * j.val] : Fin 3 → Nat) a + S1x128x128.size a ≤ S2x512x2048.size a := by
  intro a; have := r.isLt; have := j.isLt
  match a with
  | ⟨0, _⟩ => exact k0_off14_inb i 0
  | ⟨1, _⟩ => show 128 * r.val + 128 ≤ 512; omega
  | ⟨2, _⟩ => show 128 * j.val + 128 ≤ 2048; omega

/-- of the point's tokens, -/
theorem inbHh (r : Fin 4) (j : Fin 16) : ∀ a, (![128 * r.val, 128 * j.val] : Fin 2 → Nat) a + S128x128.size a ≤ S512x2048.size a := by
  intro a; have := r.isLt; have := j.isLt
  match a with
  | ⟨0, _⟩ => show 128 * r.val + 128 ≤ 512; omega
  | ⟨1, _⟩ => show 128 * j.val + 128 ≤ 2048; omega

/-- and 128 entries of a row over the tokens. -/
theorem inbTk (r : Fin 4) : ∀ a, (![0, 128 * r.val] : Fin 2 → Nat) a + S1x128.size a ≤ S1x512.size a := by
  intro a; have := r.isLt
  match a with
  | ⟨0, _⟩ => show 0 + 1 ≤ 1; omega
  | ⟨1, _⟩ => show 128 * r.val + 128 ≤ 512; omega

/-! ## Values -/

/-- The code in each word, at its byte's shift. -/
def codeVal (sh : Vec F S1x128x128 .i32) (w : Vec F S1x128x128 .i32) : FVec F S128x128 .f32 :=
  extf .f32 (bitcastToFloat .fp8e4m3 (trunci 8 (shrui (shapeCast S128x128 w shapeCasts_S1x128x128_S128x128) (shapeCast S128x128 sh shapeCasts_S1x128x128_S128x128)) natLt_8_32)) bitsLt_fp8e4m3_f32

/-- The running lane products after a column block. -/
def dotVal (sh : Vec F S1x128x128 .i32) (acc : FVec F S128x128 .f32) (w : Vec F S1x128x128 .i32) (h : Vec F S128x128 .fp8e4m3) : FVec F S128x128 .f32 :=
  addf acc (mulf (codeVal sh w) (extf .f32 (shapeCast S128x128 h shapeCasts_S128x128_S128x128) bitsLt_fp8e4m3_f32))

/-- A row block's target logits. -/
def rowVal (acc : FVec F S128x128 .f32) (sc : Vec F S1x128x128 .f32) (hs : Vec F S1x128 .f32) : FVec F S1x128 .f32 :=
  mulf (shapeCast S1x128 (multiReduction .add [0] S128 (transpose S128x128 [1, 0] (mulf acc (shapeCast S128x128 sc shapeCasts_S1x128x128_S128x128)) transposes_S128x128_p1_0_S128x128) 0x00000000#32 reduces_S128x128_S128 (.inl rfl) rfl) shapeCasts_S128_S1x128)
    (shapeCast S1x128 hs shapeCasts_S1x128_S1x128)

/-! ## The program -/

/-- One row's fetch: its transfer, its scale and its byte's shift. -/
def fetchK (arg1 : Memref sig .tc .smem S15360 .i32) (arg2 : Memref sig .tc .smem S128256 .f32) (arg3 : Memref sig .tc .hbm S32064x2048 .i32)
    (arg18 : Memref sig .tc .vmem S2x512x2048 .i32) (arg19 : Memref sig .tc .vmem S2x512x128 .f32) (arg20 : Memref sig .tc .vmem S2x512x128 .i32)
    (sem : DmaSem sig) (offL : Fin 1 → Nat) (inbL : ∀ a, offL a + S1.size a ≤ S15360.size a)
    (offD : Fin 3 → Nat) (inbD : ∀ a, offD a + S1x1x2048.size a ≤ S2x512x2048.size a)
    (offR : Fin 3 → Nat) (inbR : ∀ a, offR a + S1x1x128.size a ≤ S2x512x128.size a)
    (P : BitVec 32 → Prop) (dec : ∀ v, Decidable (P v))
    (inbW : ∀ v, P v → ∀ a, (![(Scalar.shrsi v 2#32).toNat, 0] : Fin 2 → Nat) a + S1x2048.size a ≤ S32064x2048.size a)
    (inbS : ∀ v, P v → ∀ a, (![v.toNat] : Fin 1 → Nat) a + S1.size a ≤ S128256.size a) : BodyProg F :=
  smemLoad arg1 (Rect.unit (s := S15360) offL S1.size inbL) numel1_S1 rfl >>= fun (v : BitVec 32) =>
  .op (.assume (P v) (dec v)) fun h =>
  .op (.enqueueDma (arg3.slice (Rect.unit (s := S32064x2048) ![(Scalar.shrsi v 2#32).toNat, 0] S1x2048.size (inbW v h.down)) (fun _ => rfl))
    (.here ((arg18.slice (Rect.unit (s := S2x512x2048) offD S1x1x2048.size inbD) (fun _ => rfl)).squeeze S1x2048 squeezes_S1x1x2048_S1x2048))
    (.dma sem) (View.wordExact_bits rfl) ((View.wordExact_bits rfl).reshape _ _) ⟨Or.inl rfl, trivial⟩) fun _ =>
  smemLoad arg2 (Rect.unit (s := S128256) ![v.toNat] S1.size (inbS v h.down)) numel1_S1 rfl >>= fun (x : Elt F .f32) =>
  .op (.load arg19 (Rect.unit (s := S2x512x128) offR S1x1x128.size inbR).toLoadRect (View.loadsAt_vmem h_S1x1x128)) fun _ =>
  .op (.store arg19 (Rect.unit (s := S2x512x128) offR S1x1x128.size inbR) (k0_pay13 x) Finset.univ (View.stores_vmem_bits_univ h_S1x1x128 rfl) (.inl rfl)) fun _ =>
  .op (.load arg20 (Rect.unit (s := S2x512x128) offR S1x1x128.size inbR).toLoadRect (View.loadsAt_vmem h_S1x1x128)) fun _ =>
  .op (.store arg20 (Rect.unit (s := S2x512x128) offR S1x1x128.size inbR) (k0_pay14 (F := F) v) Finset.univ (View.stores_vmem_bits_univ h_S1x1x128 rfl) (.inl rfl)) fun _ =>
  .ret ⟨⟩

variable (i : grid0.Coords) (arg1 : Memref sig .tc .smem S15360 .i32) (arg2 : Memref sig .tc .smem S128256 .f32) (arg3 : Memref sig .tc .hbm S32064x2048 .i32)
  (arg4 : Memref sig .tc .vmem S512x2048 .fp8e4m3) (arg5 : Memref sig .tc .vmem S1x512 .f32) (arg6 arg7 : Memref sig .tc .vmem S8x512 .f32)
  (arg8 arg9 : Memref sig .tc .vmem S1x512 .i32) (arg10 : Memref sig .tc .vmem S24x1 .f32) (arg11 arg12 : Memref sig .tc .vmem S1x12 .i32)
  (arg13 arg14 : Memref sig .tc .vmem S1x512 .f32) (arg15 : Memref sig .tc .vmem S24x1 .f32) (arg16 arg17 : Memref sig .tc .vmem S1x12 .f32)
  (arg18 : Memref sig .tc .vmem S2x512x2048 .i32) (arg19 : Memref sig .tc .vmem S2x512x128 .f32) (arg20 : Memref sig .tc .vmem S2x512x128 .i32)
  (arg21 : Memref sig .tc .vmem S24x128 .f32) (arg22 : DmaSems sig S2)

/-- A trip of the first point's fetch of its own rows. -/
def fetch1 (h : k0_cond1 i = 1#1) (k : Fin k0_t1_loop.trips) (_ : Unit) : BodyProg F :=
  fetchK arg1 arg2 arg3 arg18 arg19 arg20
    ((arg22.slice (Rect.unit (s := S2) ![0] S1.size inb_S2_S1_0)).squeeze S_ squeezes_S1_S_).sem
    (k0_off1 k) (k0_off1_inb i k h) (k0_off2 k) (k0_off2_inb i k h) (k0_off5 k) (k0_off5_inb i k h) (k0_chk1 i) (k0_chk1.dec i)
    (fun v hv => k0_off3_inb i v hv h) (fun v hv => k0_off4_inb i v hv h)

/-- A trip of a point's fetch of the next point's rows. -/
def fetch2 (h : k0_cond2 i = 1#1) (k : Fin k0_t2_loop.trips) (_ : Unit) : BodyProg F :=
  fetchK arg1 arg2 arg3 arg18 arg19 arg20
    ((arg22.slice (Rect.unit (s := S2) (k0_off7 i) S1.size (k0_off7_inb i h))).squeeze S_ squeezes_S1_S_).sem
    (k0_off6 i k) (k0_off6_inb i k h) (k0_off8 i k) (k0_off8_inb i k h) (k0_off11 i k) (k0_off11_inb i k h) (k0_chk2 i) (k0_chk2.dec i)
    (fun v hv => k0_off9_inb i v hv h) (fun v hv => k0_off10_inb i v hv h)

/-- A trip of the wait for a point's rows. -/
def wait3 (k : Fin k0_t3_loop.trips) (_ : Unit) : BodyProg F :=
  .op (.waitDma2 ((arg22.slice (Rect.unit (s := S2) (k0_off12 i) S1.size (k0_off12_inb i))).squeeze S_ squeezes_S1_S_).sem
    (arg3.slice (Rect.unit (s := S32064x2048) ![0, 0] S1x2048.size inb_S32064x2048_S1x2048_0_0) (fun _ => rfl))
    ((arg18.slice (Rect.unit (s := S2x512x2048) (k0_off13 i k) S1x1x2048.size (k0_off13_inb i k)) (fun _ => rfl)).squeeze S1x2048 squeezes_S1x1x2048_S1x2048)
    (View.wordExact_bits rfl) ((View.wordExact_bits rfl).reshape _ _)) fun _ => .ret ⟨⟩

/-- The first point: the sums are zero, its own rows are fetched. -/
def initK : BodyProg F :=
  if h : k0_cond1 i = 1#1 then
    .op (.load arg21 (Rect.unit (s := S24x128) ![0, 0] S24x128.size inb_S24x128_S24x128_0_0).toLoadRect (View.loadsAt_vmem h_S24x128)) fun _ =>
    .op (.store arg21 (Rect.unit (s := S24x128) ![0, 0] S24x128.size inb_S24x128_S24x128_0_0) (k0_pay12 (F := F)) Finset.univ (View.stores_vmem_bits_univ h_S24x128 rfl) (.inl rfl)) fun _ =>
    Scf.Loop.for k0_t1_loop (k0_t1_ok i h) ⟨⟩ (fetch1 i arg1 arg2 arg3 arg18 arg19 arg20 arg22 h)
  else .ret ⟨⟩

/-- The next point's rows are fetched. -/
def nextK : BodyProg F :=
  if h : k0_cond2 i = 1#1 then
    Scf.Loop.for k0_t2_loop (k0_t2_ok i h) ⟨⟩ (fetch2 i arg1 arg2 arg3 arg18 arg19 arg20 arg22 h)
  else .ret ⟨⟩

/-- The point's own rows are waited for. -/
def waitK : BodyProg F := Scf.Loop.for k0_t3_loop k0_t3_ok ⟨⟩ (wait3 i arg3 arg18 arg22)

/-- A row block's lane products, column block by column block. -/
def dotsK (r : Fin 4) (sh : Vec F S1x128x128 .i32) : List (Fin 16) → FVec F S128x128 .f32 → (FVec F S128x128 .f32 → BodyProg F) → BodyProg F
  | [], acc, K => K acc
  | j :: js, acc, K =>
    .op (.load arg18 (Rect.unit (s := S2x512x2048) ![slotW i, 128 * r.val, 128 * j.val] S1x128x128.size (inbRw i r j)).toLoadRect (View.loadsAt_vmem h_S1x128x128)) fun w =>
    .op (.load arg4 (Rect.unit (s := S512x2048) ![128 * r.val, 128 * j.val] S128x128.size (inbHh r j)).toLoadRect (View.loadsAt_vmem h_S128x128)) fun h =>
    dotsK r sh js (dotVal sh acc w h) K

/-- The column blocks. -/
abbrev cols : List (Fin 16) := [0, 1, 2, 3, 4, 5, 6, 7, 8, 9, 10, 11, 12, 13, 14, 15]

/-- One row block. -/
def blockK (r : Fin 4) (K : BodyProg F) : BodyProg F :=
  .op (.load arg20 (Rect.unit (s := S2x512x128) ![slotW i, 128 * r.val, 0] S1x128x128.size (inbSc i r)).toLoadRect (View.loadsAt_vmem h_S1x128x128)) fun sh =>
  dotsK i arg4 arg18 r sh cols (broadcast S128x128 (Scalar.ofBits (F := F) .f32 0x00000000#32)) fun acc =>
  .op (.load arg19 (Rect.unit (s := S2x512x128) ![slotW i, 128 * r.val, 0] S1x128x128.size (inbSc i r)).toLoadRect (View.loadsAt_vmem h_S1x128x128)) fun sc =>
  .op (.load arg5 (Rect.unit (s := S1x512) ![0, 128 * r.val] S1x128.size (inbTk r)).toLoadRect (View.loadsAt_vmem h_S1x128)) fun hs =>
  .op (.load arg14 (Rect.unit (s := S1x512) ![0, 128 * r.val] S1x128.size (inbTk r)).toLoadRect (View.loadsAt_vmem h_S1x128)) fun _ =>
  .op (.store arg14 (Rect.unit (s := S1x512) ![0, 128 * r.val] S1x128.size (inbTk r)) (rowVal acc sc hs) Finset.univ (View.stores_vmem_bits_univ h_S1x128 rfl) (.inl rfl)) fun _ =>
  K

/-- The last point: the sequences' sums, and the pairs' margins and losses. -/
def lastK : BodyProg F :=
  if h : k0_cond3 i = 1#1 then
    .op (.load arg21 (Rect.unit (s := S24x128) ![0, 0] S24x128.size inb_S24x128_S24x128_0_0).toLoadRect (View.loadsAt_vmem h_S24x128)) fun a =>
    .op (.load arg15 (Rect.unit (s := S24x1) ![0, 0] S24x1.size inb_S24x1_S24x1_0_0).toLoadRect (View.loadsAt_vmem h_S24x1)) fun _ =>
    .op (.store arg15 (Rect.unit (s := S24x1) ![0, 0] S24x1.size inb_S24x1_S24x1_0_0) (k0_pay4 a) Finset.univ (View.stores_vmem_bits_univ h_S24x1 rfl) (.inl rfl)) fun _ =>
    .op (.load arg11 (Rect.unit (s := S1x12) ![0, 0] S1x12.size inb_S1x12_S1x12_0_0).toLoadRect (View.loadsAt_vmem h_S1x12)) fun p =>
    .op (.load arg12 (Rect.unit (s := S1x12) ![0, 0] S1x12.size inb_S1x12_S1x12_0_0).toLoadRect (View.loadsAt_vmem h_S1x12)) fun n =>
    .op (.load arg10 (Rect.unit (s := S24x1) ![0, 0] S24x1.size inb_S24x1_S24x1_0_0).toLoadRect (View.loadsAt_vmem h_S24x1)) fun r =>
    .op (.load arg17 (Rect.unit (s := S1x12) ![0, 0] S1x12.size inb_S1x12_S1x12_0_0).toLoadRect (View.loadsAt_vmem h_S1x12)) fun _ =>
    .op (.store arg17 (Rect.unit (s := S1x12) ![0, 0] S1x12.size inb_S1x12_S1x12_0_0) (k0_pay2 (k0_pay7 a p r) (k0_pay8 a n) (k0_pay9 (F := F) n) (k0_pay10 r) (k0_pay11 (F := F))) Finset.univ (View.stores_vmem_bits_univ h_S1x12 rfl) (.inl rfl)) fun _ =>
    .op (.load arg16 (Rect.unit (s := S1x12) ![0, 0] S1x12.size inb_S1x12_S1x12_0_0).toLoadRect (View.loadsAt_vmem h_S1x12)) fun _ =>
    .op (.store arg16 (Rect.unit (s := S1x12) ![0, 0] S1x12.size inb_S1x12_S1x12_0_0) (k0_pay3 (k0_pay7 a p r) (k0_pay8 a n) (k0_pay9 (F := F) n) (k0_pay10 r) (k0_pay11 (F := F))) Finset.univ (View.stores_vmem_bits_univ h_S1x12 rfl) (.inl rfl)) fun _ =>
    .ret ⟨⟩
  else .ret ⟨⟩

/-- From the target logits to the token log probabilities and the sequences' lane sums. -/
def tokK (K : BodyProg F) : BodyProg F :=
  .op (.load arg14 (Rect.unit (s := S1x512) ![0, 0] S1x512.size inb_S1x512_S1x512_0_0).toLoadRect (View.loadsAt_vmem h_S1x512)) fun t =>
  .op (.load arg6 (Rect.unit (s := S8x512) ![0, 0] S8x512.size inb_S8x512_S8x512_0_0).toLoadRect (View.loadsAt_vmem h_S8x512)) fun m =>
  .op (.load arg7 (Rect.unit (s := S8x512) ![0, 0] S8x512.size inb_S8x512_S8x512_0_0).toLoadRect (View.loadsAt_vmem h_S8x512)) fun s =>
  .op (.load arg13 (Rect.unit (s := S1x512) ![0, 0] S1x512.size inb_S1x512_S1x512_0_0).toLoadRect (View.loadsAt_vmem h_S1x512)) fun _ =>
  .op (.store arg13 (Rect.unit (s := S1x512) ![0, 0] S1x512.size inb_S1x512_S1x512_0_0) (k0_pay58 t m s) Finset.univ (View.stores_vmem_bits_univ h_S1x512 rfl) (.inl rfl)) fun _ =>
  .op (.load arg9 (Rect.unit (s := S1x512) ![0, 0] S1x512.size inb_S1x512_S1x512_0_0).toLoadRect (View.loadsAt_vmem h_S1x512)) fun k =>
  .op (.load arg8 (Rect.unit (s := S1x512) ![0, 0] S1x512.size inb_S1x512_S1x512_0_0).toLoadRect (View.loadsAt_vmem h_S1x512)) fun g =>
  .op (.load arg21 (Rect.unit (s := S24x128) ![0, 0] S24x128.size inb_S24x128_S24x128_0_0).toLoadRect (View.loadsAt_vmem h_S24x128)) fun a =>
  .op (.load arg21 (Rect.unit (s := S24x128) ![0, 0] S24x128.size inb_S24x128_S24x128_0_0).toLoadRect (View.loadsAt_vmem h_S24x128)) fun _ =>
  .op (.store arg21 (Rect.unit (s := S24x128) ![0, 0] S24x128.size inb_S24x128_S24x128_0_0) (k0_pay1 (k0_pay59 t m s k g) a) Finset.univ (View.stores_vmem_bits_univ h_S24x128 rfl) (.inl rfl)) fun _ =>
  K

/-- What a point does once its rows are there. -/
def mainK : BodyProg F :=
  ([0, 1, 2, 3] : List (Fin 4)).foldr (fun r (K : BodyProg F) => blockK i arg4 arg5 arg14 arg18 arg19 arg20 r K)
    (tokK arg6 arg7 arg8 arg9 arg13 arg14 arg21 (lastK i arg10 arg11 arg12 arg15 arg16 arg17 arg21))

end Cert.FinishIdeal.Gen

end
-- ==== Proof.FinishIdeal.BodyEq.lean ====
/- The printed body is the template of Template.lean. -/
module

public import proofs.«01_k».proof.Proof.FinishIdeal.Template

@[expose] public section

set_option maxRecDepth 16384

noncomputable section

namespace Cert.FinishIdeal.Gen

open Idealize.ShloMosaic Idealize.ShloMosaic.TcCoe Idealize.ShloMosaic.Tactic
open Idealize.SL.Sem

variable {F : FTy → Type} [FloatOps F] [Named F]

variable (i : grid0.Coords) (arg1 : Memref sig .tc .smem S15360 .i32) (harg1 : arg1.IsWhole) (arg2 : Memref sig .tc .smem S128256 .f32) (harg2 : arg2.IsWhole) (arg3 : Memref sig .tc .hbm S32064x2048 .i32) (harg3 : arg3.IsWhole) (arg4 : Memref sig .tc .vmem S512x2048 .fp8e4m3) (harg4 : arg4.IsWhole) (arg5 : Memref sig .tc .vmem S1x512 .f32) (harg5 : arg5.IsWhole) (arg6 : Memref sig .tc .vmem S8x512 .f32) (harg6 : arg6.IsWhole) (arg7 : Memref sig .tc .vmem S8x512 .f32) (harg7 : arg7.IsWhole) (arg8 : Memref sig .tc .vmem S1x512 .i32) (harg8 : arg8.IsWhole) (arg9 : Memref sig .tc .vmem S1x512 .i32) (harg9 : arg9.IsWhole) (arg10 : Memref sig .tc .vmem S24x1 .f32) (harg10 : arg10.IsWhole) (arg11 : Memref sig .tc .vmem S1x12 .i32) (harg11 : arg11.IsWhole) (arg12 : Memref sig .tc .vmem S1x12 .i32) (harg12 : arg12.IsWhole) (arg13 : Memref sig .tc .vmem S1x512 .f32) (harg13 : arg13.IsWhole) (arg14 : Memref sig .tc .vmem S1x512 .f32) (harg14 : arg14.IsWhole) (arg15 : Memref sig .tc .vmem S24x1 .f32) (harg15 : arg15.IsWhole) (arg16 : Memref sig .tc .vmem S1x12 .f32) (harg16 : arg16.IsWhole) (arg17 : Memref sig .tc .vmem S1x12 .f32) (harg17 : arg17.IsWhole) (arg18 : Memref sig .tc .vmem S2x512x2048 .i32) (harg18 : arg18.IsWhole) (arg19 : Memref sig .tc .vmem S2x512x128 .f32) (harg19 : arg19.IsWhole) (arg20 : Memref sig .tc .vmem S2x512x128 .i32) (harg20 : arg20.IsWhole) (arg21 : Memref sig .tc .vmem S24x128 .f32) (harg21 : arg21.IsWhole) (arg22 : DmaSems sig S2)

/-- The trips of the three loops. -/
theorem t1_eq (h : k0_cond1 i = 1#1) : k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 h = fetch1 i arg1 arg2 arg3 arg18 arg19 arg20 arg22 h := by
  sl_kernel_rfl

theorem t2_eq (h : k0_cond2 i = 1#1) : k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 h = fetch2 i arg1 arg2 arg3 arg18 arg19 arg20 arg22 h := by
  sl_kernel_rfl

theorem t3_eq : k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 = wait3 i arg3 arg18 arg22 := by
  sl_kernel_rfl

theorem body_eq :
    cc0_finish (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22
      = initK i arg1 arg2 arg3 arg18 arg19 arg20 arg21 arg22 >>= fun _ => nextK i arg1 arg2 arg3 arg18 arg19 arg20 arg22 >>= fun _ =>
        waitK i arg3 arg18 arg22 >>= fun _ =>
        mainK i arg4 arg5 arg6 arg7 arg8 arg9 arg10 arg11 arg12 arg13 arg14 arg15 arg16 arg17 arg18 arg19 arg20 arg21 := by
  rw [cc0_finish_eq_skeleton]
  unfold cc0_finish_skel
  rw [k0_part2_eq_skeleton]
  unfold k0_part2_skel
  rw [t3_eq]
  unfold initK nextK waitK
  by_cases h1 : k0_cond1 i = 1#1 <;> by_cases h2 : k0_cond2 i = 1#1
  · simp only [dif_pos h1, dif_pos h2, t1_eq, t2_eq, bind_assoc, pure_bind, bind_pure_unit]
    sl_kernel_rfl
  · simp only [dif_pos h1, dif_neg h2, t1_eq, t2_eq, bind_assoc, pure_bind, bind_pure_unit]
    sl_kernel_rfl
  · simp only [dif_neg h1, dif_pos h2, t1_eq, t2_eq, bind_assoc, pure_bind, bind_pure_unit]
    sl_kernel_rfl
  · simp only [dif_neg h1, dif_neg h2, t1_eq, t2_eq, bind_assoc, pure_bind, bind_pure_unit]
    sl_kernel_rfl

end Cert.FinishIdeal.Gen

end
-- ==== Proof.FinishIdeal.Sets.lean ====
/- The rows' places: which elements of the two slots and of the vocabulary's words a transfer names, and what the slots
   hold once a point's rows are there. -/
module

public import proofs.«01_k».proof.Proof.FinishIdeal.BodyEq
public import proofs.«01_k».proof.Proof.FinishSets

@[expose] public section

set_option maxRecDepth 16384

noncomputable section

namespace Cert.FinishIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.VecRules

variable {F : FTy → Type} [FloatOps F] [Named F]

/-! ## What is fetched -/

export Cert.FinishSets (labAt rowNo rowsAt scOf slotSet rowsFrom rowSet wRow rowSet_sub rowsFrom_sdiff rowsFrom_zero rowSet_biUnion rowSet_disjoint slots_union slots_disjoint scaleAt)

/-- A label's byte's shift. -/
def shOf (v : BitVec 32) : Elt F .i32 := k0_pay14 (F := F) v (fun a => ⟨0, by fin_cases a <;> decide⟩)

/-- Block `t`'s shifts, in either slot. -/
def shiftAt (lab : Vec F S15360 .i32) (t : Nat) : Vec F S2x512x128 .i32 := fun y => shOf (labAt lab (t * 512 + (y 1).val))

/-! ## Element sets -/

/-- A row of a slot as the transfers name it. -/
abbrev dstM (off : Fin 3 → Nat) (inb : ∀ a, off a + S1x1x2048.size a ≤ S2x512x2048.size a) : Memref sig .tc .vmem S1x2048 .i32 :=
  ((Memref.whole cc0_scratch0).slice (Rect.unit (s := S2x512x2048) off S1x1x2048.size inb) (fun _ => rfl)).squeeze S1x2048 squeezes_S1x1x2048_S1x2048
/-- A row of words as they name it. -/
abbrev srcM (off : Fin 2 → Nat) (inb : ∀ a, off a + S1x2048.size a ≤ S32064x2048.size a) : Memref sig .tc .hbm S1x2048 .i32 :=
  (Memref.whole main_v2).slice (Rect.unit (s := S32064x2048) off S1x2048.size inb) (fun _ => rfl)

theorem dst_set (s k : Nat) (inb : ∀ a, (![s, k, 0] : Fin 3 → Nat) a + S1x1x2048.size a ≤ S2x512x2048.size a) :
    (dstM ![s, k, 0] inb).view.set = rowSet s k := by
  refine ((View.set_reshape _ _).trans (View.set_slice_whole _ _)).trans ?_
  ext y
  rw [Rect.mem_set_unit]
  have h2 : (y 2).val < 2048 := (y 2).isLt
  unfold rowSet
  rw [Finset.mem_filter]
  constructor
  · intro H
    have a0 : s ≤ (y 0).val ∧ (y 0).val < s + 1 := H 0
    have a1 : k ≤ (y 1).val ∧ (y 1).val < k + 1 := H 1
    exact ⟨Finset.mem_univ _, by omega, by omega⟩
  · rintro ⟨-, h0, h1⟩ a
    match a with
    | ⟨0, _⟩ => show s ≤ (y 0).val ∧ (y 0).val < s + 1; omega
    | ⟨1, _⟩ => show k ≤ (y 1).val ∧ (y 1).val < k + 1; omega
    | ⟨2, _⟩ => show 0 ≤ (y 2).val ∧ (y 2).val < 0 + 2048; omega

theorem src_set (n : Nat) (inb : ∀ a, (![n, 0] : Fin 2 → Nat) a + S1x2048.size a ≤ S32064x2048.size a) :
    (srcM ![n, 0] inb).view.set = wRow n := by
  refine (View.set_slice_whole _ _).trans ?_
  ext y
  rw [Rect.mem_set_unit]
  have h1 : (y 1).val < 2048 := (y 1).isLt
  unfold wRow
  rw [Finset.mem_filter]
  constructor
  · intro H
    have a0 : n ≤ (y 0).val ∧ (y 0).val < n + 1 := H 0
    exact ⟨Finset.mem_univ _, by omega⟩
  · rintro ⟨-, h0⟩ a
    match a with
    | ⟨0, _⟩ => show n ≤ (y 0).val ∧ (y 0).val < n + 1; omega
    | ⟨1, _⟩ => show 0 ≤ (y 1).val ∧ (y 1).val < 0 + 2048; omega

/-! ## What a transfer leaves -/

theorem landed (lab : Vec F S15360 .i32) (W : Vec F S32064x2048 .i32) (s t k : Nat)
    (inbD : ∀ a, (![s, k, 0] : Fin 3 → Nat) a + S1x1x2048.size a ≤ S2x512x2048.size a)
    (n : Nat) (inbS : ∀ a, (![n, 0] : Fin 2 → Nat) a + S1x2048.size a ≤ S32064x2048.size a)
    (hn : n = rowNo (labAt lab (t * 512 + k))) (f : Vec F S2x512x2048 .i32) :
    ∀ y ∈ rowSet s k, (dstM ![s, k, 0] inbD).view.write (Elt F) f ((srcM ![n, 0] inbS).view.read (Elt F) W) Finset.univ y = rowsAt lab W t y := by
  intro y hy
  have hy' := hy
  rw [← dst_set s k inbD] at hy
  obtain ⟨j, -, hj⟩ := Finset.mem_map.mp hy
  rw [rowSet, Finset.mem_filter] at hy'
  rw [← hj, View.write_emb_of_mem _ _ (Finset.mem_univ j), View.read_apply, hj]
  show W _ = W _
  have hlt : n < 32064 := by have := inbS 0; exact (by simpa using this : n + 1 ≤ 32064)
  congr 1
  have hj1 : (y 2).val = (j 1).val := by
    rw [← hj]
    have e := Shape.reshapeEquiv_cons_one (n := 2) (d := ![1, 2048]) squeezes_S1x1x2048_S1x2048.numel_eq j
    refine (congrArg (fun z : S1x1x2048.Idx => 0 + 1 * (z 2).val) e).trans ?_
    show 0 + 1 * (j 1).val = (j 1).val
    omega
  funext a
  match a with
  | ⟨0, _⟩ =>
    apply Fin.ext
    show n + 1 * (j 0).val = rowNo (labAt lab (t * 512 + (y 1).val)) % 32064
    have : (j 0).val < 1 := (j 0).isLt
    rw [hy'.2.2, ← hn, Nat.mod_eq_of_lt hlt]; omega
  | ⟨1, _⟩ =>
    apply Fin.ext
    show 0 + 1 * (j 1).val = (y 2).val
    omega

end Cert.FinishIdeal.Gen

end
-- ==== Proof.FinishIdeal.Fetch.lean ====
/- The fetch of a block's rows into a slot, row by row, and the wait for them: the transfers of a block are one batch on
   the slot's semaphore. -/
module

public import proofs.«01_k».proof.Proof.FinishIdeal.Sets
public import Idealize.ShloMosaic.Lib.Ring

@[expose] public section

set_option maxRecDepth 16384

noncomputable section

namespace Cert.FinishIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.VecRules

variable {F : FTy → Type} [FloatOps F] [Named F]

local notation "𝕄" => MT nD τ sig Unit (Elt F) ℕ (UD sig nD τ) ℕ

/-- The body's programs, of a core. -/
abbrev bwp (c : Dev nD) (p : BodyProg F) (Q : PUnit → sProp 𝕄) : sProp 𝕄 :=
  wp frame (wpE defs₀ Variants.none (c : Thread nD τ) none) Set.univ p Q

/-- A word of scalar memory. -/
theorem wp_sm (c : Dev nD) {s : Shape} {e : EltTy} {m : Memref sig .tc .smem s e} {r : Rect s} {h1 : r.shape.numel = 1} {hp : e.packing = 1}
    {q : PosShare TreeShare} {x : s.Idx → Elt F e} (v : Elt F e) (hv : ∀ j : r.shape.Idx, x (r.emb j) = v) {K : Elt F e → BodyProg F} {Q : PUnit → sProp 𝕄} :
    (owns (c : Thread nD τ) m q x : sProp 𝕄)
      ⊢ iprop((owns (c : Thread nD τ) m q x -∗ bwp c (K v) Q) -∗ bwp c (smemLoad m r h1 hp >>= K) Q) := by
  rw [show (smemLoad m r h1 hp >>= K : BodyProg F) = smemLoadElt m r (View.loads_smem_one hp h1) (Shape.Idx.first (h1.symm ▸ Nat.one_pos)) K from rfl]
  unfold owns
  iintro ⟨%f, %hf, H⟩ HK
  iapply (wp_smemLoadElt Variants.none (c : Thread nD τ) none Set.univ (m := m) (r := r) (hw := View.loads_smem_one hp h1) (x := Shape.Idx.first (h1.symm ▸ Nat.one_pos)) (k := K) (S := m.view.set) (q := q) (f := f) (View.set_slice_subset _ _)) $$ H
  iintro H
  have e : (m.access r).read (Elt F) f (Shape.Idx.first (h1.symm ▸ Nat.one_pos)) = v := by
    rw [← hv (Shape.Idx.first (h1.symm ▸ Nat.one_pos)), ← hf]; rfl
  rw [e]
  iapply HK
  iexists f
  isplitr
  · ipureintro; exact hf
  · iexact H

/-- The counters the transfers are counted by. -/
abbrev EC : UEmb Counters 𝕄 := countersEmb (U := UD sig nD τ)

/-- The two slots' buffer and the words' array, of a core. -/
abbrev rowsL (c : Dev nD) : Loc nD τ sig := (Memref.whole cc0_scratch0 : Memref sig .tc .vmem S2x512x2048 .i32).view.loc (c : Thread nD τ)
abbrev wordsL (c : Dev nD) : Loc nD τ sig := (Memref.whole main_v2 : Memref sig .tc .hbm S32064x2048 .i32).view.loc (c : Thread nD τ)

/-- One row's credit. -/
def NN : ℕ := (dstM ![0, 0, 0] (by decide)).view.dmaCredit
theorem NN_pos : 0 < NN := View.dmaCredit_pos _ (by decide)

section

variable (c : Dev nD) (lab : Vec F S15360 .i32) (W : Vec F S32064x2048 .i32) (wsc : Vec F S128256 .f32)

/-- The row of words of token `k` of block `t`. -/
abbrev rowK (t k : Nat) : Nat := rowNo (labAt lab (t * 512 + k))

/-- What the transfer of row `k` of block `t` into slot `s` delivers: the row, and the words' row it read. -/
abbrev delv (s t : Nat) (q : PosShare TreeShare) (k : Fin 512) : sProp 𝕄 :=
  iprop((rowsL c ↦[rowSet s k.val]{fullShare} rowsAt lab W t) ∗ (wordsL c ↦[wRow (rowK lab t k.val)]{Transfers.shareTokN q k.val} W))

/-- The batch of block `t`'s transfers into slot `s`, `j` issued and `u` consumed. -/
abbrev batch (sm : DmaSem sig) (s t : Nat) (q : PosShare TreeShare) (j u : ℕ) : sProp 𝕄 :=
  Transfers.Batch (EC (F := F)) (c : Thread nD τ) (.dma sm) () NN (delv c lab W s t q) j u

/-- What of the words no transfer of the first `k` reads. -/
abbrev wordsKept (t : Nat) (q : PosShare TreeShare) (k : Nat) : sProp 𝕄 :=
  iprop((wordsL c ↦[Finset.univ]{Transfers.shareDrop q k} W)
    ∗ bigSep (Finset.range k) fun j => wordsL c ↦[Finset.univ \ wRow (rowK lab t j)]{Transfers.shareTokN q j} W)

/-- The rows of slot `s` under `k` at block `t`, the other slot as it was. -/
def Upto {S : Shape} {e : EltTy} (d0 d1 : S.Idx → Nat) (s k : Nat) (new x0 x : S.Idx → Elt F e) : Prop :=
  ∀ y, (d0 y = s → d1 y < k → x y = new y) ∧ (d0 y ≠ s → x y = x0 y)

abbrev d0 (y : S2x512x128.Idx) : Nat := (y 0).val
abbrev d1 (y : S2x512x128.Idx) : Nat := (y 1).val

/-- Before trip `k` of the fetch. -/
def fetchInv (arg2 : Memref sig .tc .smem S128256 .f32) (ql q2 q : PosShare TreeShare) (sm : DmaSem sig) (s t : Nat)
    (sc0 : Vec F S2x512x128 .f32) (sh0 : Vec F S2x512x128 .i32) (k : Nat) (_ : PUnit) : sProp 𝕄 :=
  iprop(batch c lab W sm s t q k 0
    ∗ (∃ f, rowsL c ↦[rowsFrom s k]{fullShare} f)
    ∗ wordsKept c lab W t q k
    ∗ owns (c : Thread nD τ) (Memref.whole main_v4 : Memref sig .tc .smem S15360 .i32) ql lab
    ∗ owns (c : Thread nD τ) arg2 q2 wsc
    ∗ (∃ x, ⌜Upto (F := F) (e := .f32) d0 d1 s k (scaleAt lab wsc t) sc0 x⌝ ∗ owns (c : Thread nD τ) (Memref.whole cc0_scratch1 : Memref sig .tc .vmem S2x512x128 .f32) fullShare x)
    ∗ (∃ x, ⌜Upto (F := F) (e := .i32) d0 d1 s k (shiftAt lab t) sh0 x⌝ ∗ owns (c : Thread nD τ) (Memref.whole cc0_scratch2 : Memref sig .tc .vmem S2x512x128 .i32) fullShare x))

theorem upto_put {e : EltTy} (s k : Nat) (new x0 x : S2x512x128.Idx → Elt F e) (h : Upto (F := F) d0 d1 s k new x0 x)
    (w : S1x1x128.Idx → Elt F e) (v : Elt F e) (hw : ∀ j, w j = v) (hv : ∀ y : S2x512x128.Idx, d1 y = k → new y = v) :
    Upto (F := F) d0 d1 s (k + 1) new x0 (VecWindow.put x (![s, k, 0] : Fin 3 → Nat) S1x1x128.size w) := by
  intro y
  have h2 : (y 2).val < 128 := (y 2).isLt
  by_cases hy : ∀ a, (![s, k, 0] : Fin 3 → Nat) a ≤ (y a).val ∧ (y a).val < (![s, k, 0] : Fin 3 → Nat) a + S1x1x128.size a
  · have a0 : s ≤ (y 0).val ∧ (y 0).val < s + 1 := hy 0
    have a1 : k ≤ (y 1).val ∧ (y 1).val < k + 1 := hy 1
    refine ⟨fun h0 h1 => ?_, fun h0 => absurd (show d0 y = s by show (y 0).val = s; omega) h0⟩
    refine (dif_pos hy).trans ((hw _).trans (hv y ?_).symm)
    show (y 1).val = k; omega
  · have e : VecWindow.put x (![s, k, 0] : Fin 3 → Nat) S1x1x128.size w y = x y := dif_neg hy
    refine ⟨fun h0 h1 => e.trans ((h y).1 h0 ?_), fun h0 => e.trans ((h y).2 h0)⟩
    by_contra hc
    refine hy fun a => ?_
    have h0' : (y 0).val = s := h0
    have h1' : (y 1).val < k + 1 := h1
    have hc' : ¬ (y 1).val < k := hc
    match a with
    | ⟨0, _⟩ => show s ≤ (y 0).val ∧ (y 0).val < s + 1; omega
    | ⟨1, _⟩ => show k ≤ (y 1).val ∧ (y 1).val < k + 1; omega
    | ⟨2, _⟩ => show 0 ≤ (y 2).val ∧ (y 2).val < 0 + 128; omega

/-- One trip. -/
theorem fetch_step (arg2 : Memref sig .tc .smem S128256 .f32) (ql q2 q : PosShare TreeShare) (sm sm' : DmaSem sig) (hsm : sm' = sm) (s t : Nat)
    (sc0 : Vec F S2x512x128 .f32) (sh0 : Vec F S2x512x128 .i32) (k : Nat) (hk : k < 512) (ht : t < 30)
    (offL : Fin 1 → Nat) (inbL : ∀ a, offL a + S1.size a ≤ S15360.size a) (hL : offL = ![t * 512 + k])
    (offD : Fin 3 → Nat) (inbD : ∀ a, offD a + S1x1x2048.size a ≤ S2x512x2048.size a) (hD : offD = ![s, k, 0])
    (offR : Fin 3 → Nat) (inbR : ∀ a, offR a + S1x1x128.size a ≤ S2x512x128.size a) (hR : offR = ![s, k, 0])
    (P : BitVec 32 → Prop) (dec : ∀ v, Decidable (P v))
    (inbW : ∀ v, P v → ∀ a, (![(Scalar.shrsi v 2#32).toNat, 0] : Fin 2 → Nat) a + S1x2048.size a ≤ S32064x2048.size a)
    (inbS : ∀ v, P v → ∀ a, (![v.toNat] : Fin 1 → Nat) a + S1.size a ≤ S128256.size a)
    (hP : P (labAt lab (t * 512 + k))) :
    fetchInv c lab W wsc arg2 ql q2 q sm s t sc0 sh0 k ⟨⟩
      ⊢ bwp c (fetchK (Memref.whole main_v4) arg2 (Memref.whole main_v2) (Memref.whole cc0_scratch0) (Memref.whole cc0_scratch1) (Memref.whole cc0_scratch2)
          sm' offL inbL offD inbD offR inbR P dec inbW inbS)
        (fetchInv c lab W wsc arg2 ql q2 q sm s t sc0 sh0 (k + 1)) := by
  subst hsm hL hD hR
  unfold fetchInv fetchK
  iintro ⟨HB, ⟨%f, HR⟩, ⟨HWd, HWs⟩, HL, H2, ⟨%xs, %hxs, HS⟩, ⟨%xh, %hxh, HH⟩⟩
  iapply (wp_sm c (labAt lab (t * 512 + k)) (fun j => by
    refine congrArg lab (funext fun a => ?_)
    match a with
    | ⟨0, _⟩ =>
      apply Fin.ext
      show (t * 512 + k) + 1 * (j 0).val = (t * 512 + k) % 15360
      have : (j 0).val < 1 := (j 0).isLt
      rw [Nat.mod_eq_of_lt (by omega)]; omega)) $$ HL
  iintro HL
  iapply (wp_assume Variants.none (c : Thread nD τ) none Set.univ hP)
  have hn : rowNo (labAt lab (t * 512 + k)) = rowK lab t k := rfl
  have hv : (labAt lab (t * 512 + k)).toNat < 128256 := by
    have := inbS _ hP 0
    exact (by simpa using this : (labAt lab (t * 512 + k)).toNat + 1 ≤ 128256)
  ihave HR' := (show (rowsL c ↦[rowsFrom s k]{fullShare} f : sProp 𝕄) ⊢ iprop((rowsL c ↦[rowSet s k]{fullShare} f) ∗ rowsL c ↦[rowsFrom s (k + 1)]{fullShare} f) from by
    rw [← rowsFrom_sdiff]; exact (pointsTo_split_subset (rowSet_sub s k)).1) $$ HR
  icases HR' with ⟨HRk, HR⟩
  ihave HW' := (show (wordsL c ↦[Finset.univ]{Transfers.shareDrop q k} W : sProp 𝕄)
      ⊢ iprop((wordsL c ↦[Finset.univ]{Transfers.shareDrop q (k + 1)} W) ∗ (wordsL c ↦[wRow (rowK lab t k)]{Transfers.shareTokN q k} W)
        ∗ wordsL c ↦[Finset.univ \ wRow (rowK lab t k)]{Transfers.shareTokN q k} W) from
    (pointsTo_share (PosShare.mem_left_op_right _)).1.trans (sep_mono_right (pointsTo_split_subset (Finset.subset_univ _)).1)) $$ HWd
  icases HW' with ⟨HWd, HWk, HWc⟩
  iapply (Transfers.wp_dmaBatch EC Variants.none (c : Thread nD τ) none (src := srcM ![(Scalar.shrsi (labAt lab (t * 512 + k)) 2#32).toNat, 0] (inbW _ hP))
    (dst := dstM ![s, k, 0] inbD) (via := .same) (sm := .dma sm') (D := delv c lab W s t q) (j := k) (u := 0) (q := Transfers.shareTokN q k)
    (Sd := rowSet s k) () NN rfl (dst_set s k inbD).subset hk (Nat.zero_le _) (by
      rw [src_set]
      refine sep_mono_left (Entails.of_eq (pointsTo_congr fun y hy => ?_))
      exact landed lab W s t k inbD _ (inbW _ hP) rfl f y hy)) $$ [HWk HRk HB]
  · rw [src_set]
    isplitl [HWk]; · iexact HWk
    isplitl [HRk]; · iexact HRk
    iexact HB
  iintro HB
  iapply (wp_sm c (scOf wsc (labAt lab (t * 512 + k))) (fun j => by
    refine congrArg wsc (funext fun a => ?_)
    match a with
    | ⟨0, _⟩ =>
      apply Fin.ext
      show (labAt lab (t * 512 + k)).toNat + 1 * (j 0).val = (labAt lab (t * 512 + k)).toNat % 128256
      have : (j 0).val < 1 := (j 0).isLt
      rw [Nat.mod_eq_of_lt (by omega)]; omega)) $$ H2
  iintro H2
  iapply (wp_ld Variants.none (c : Thread nD τ) none Set.univ (m := (Memref.whole cc0_scratch1 : Memref sig .tc .vmem S2x512x128 .f32))) $$ HS
  iintro HS
  iapply (wp_st Variants.none (c : Thread nD τ) none Set.univ (m := (Memref.whole cc0_scratch1 : Memref sig .tc .vmem S2x512x128 .f32))) $$ HS
  iintro HS
  iapply (wp_ld Variants.none (c : Thread nD τ) none Set.univ (m := (Memref.whole cc0_scratch2 : Memref sig .tc .vmem S2x512x128 .i32))) $$ HH
  iintro HH
  iapply (wp_st Variants.none (c : Thread nD τ) none Set.univ (m := (Memref.whole cc0_scratch2 : Memref sig .tc .vmem S2x512x128 .i32))) $$ HH
  iintro HH
  rw [wp_ret]
  imodintro
  isplitl [HB]; · iexact HB
  isplitl [HR]; · iexists f; iexact HR
  isplitl [HWd HWs HWc]
  · isplitl [HWd]; · iexact HWd
    iapply (show iprop((wordsL c ↦[Finset.univ \ wRow (rowK lab t k)]{Transfers.shareTokN q k} W)
        ∗ bigSep (Finset.range k) (fun j => wordsL c ↦[Finset.univ \ wRow (rowK lab t j)]{Transfers.shareTokN q j} W))
        ⊢ (bigSep (Finset.range (k + 1)) (fun j => wordsL c ↦[Finset.univ \ wRow (rowK lab t j)]{Transfers.shareTokN q j} W) : sProp 𝕄) from
      Entails.of_eq (by rw [Finset.range_add_one, BI.bigSep_insert Finset.notMem_range_self]; rfl))
    isplitl [HWc]; · iexact HWc
    iexact HWs
  isplitl [HL]; · iexact HL
  isplitl [H2]; · iexact H2
  isplitl [HS]
  · iexists _
    isplitr
    rotate_left
    · iexact HS
    · ipureintro
      exact upto_put s k _ _ _ hxs _ (scOf wsc (labAt lab (t * 512 + k))) (fun j => rfl) (fun y hy => by
        show scOf wsc (labAt lab (t * 512 + (y 1).val)) = _
        rw [show (y 1).val = k from hy])
  · iexists _
    isplitr
    rotate_left
    · iexact HH
    · ipureintro
      exact upto_put s k _ _ _ hxh _ (shOf (F := F) (labAt lab (t * 512 + k))) (fun j => rfl) (fun y hy => by
        show shOf (F := F) (labAt lab (t * 512 + (y 1).val)) = _
        rw [show (y 1).val = k from hy])

/-! ## The wait -/

/-- Before trip `k` of the wait: some transfers consumed, or all of them back. -/
def waitInv (q : PosShare TreeShare) (sm : DmaSem sig) (s t : Nat) (k : Nat) (_ : PUnit) : sProp 𝕄 :=
  iprop((∃ Wt, owes (c : Thread nD τ) 0 Wt)
    ∗ (if k < 512 then batch c lab W sm s t q 512 (k * NN)
       else iprop(semVal ((c : Thread nD τ), SemLoc.dma sm) 0 ∗ bigSep Finset.univ (delv c lab W s t q))))

theorem wait_step (q : PosShare TreeShare) (sm sm' : DmaSem sig) (hsm : sm' = sm) (s t : Nat) (k : Nat) (hk : k < 512)
    (srcw : Memref sig .tc .hbm S1x2048 .i32) (hsrc : srcw.view.WordExact)
    (offD : Fin 3 → Nat) (inbD : ∀ a, offD a + S1x1x2048.size a ≤ S2x512x2048.size a) (hdst : (dstM offD inbD).view.WordExact) :
    waitInv c lab W q sm s t k ⟨⟩
      ⊢ bwp c (.op (.waitDma2 sm' srcw (dstM offD inbD) hsrc hdst) fun _ => .ret ⟨⟩) (waitInv c lab W q sm s t (k + 1)) := by
  subst hsm
  unfold waitInv
  rw [if_pos hk]
  by_cases h1 : k + 1 < 512
  · rw [if_pos h1]
    iintro ⟨⟨%Wt, HO⟩, HB⟩
    iapply (Transfers.wp_waitBatch EC Variants.none (c : Thread nD τ) none (srcw := srcw) (dstw := dstM offD inbD) (hsrc := hsrc) (hdst := hdst) (sem := sm') (D := delv c lab W s t q) (N := NN) () rfl
      (u := k * NN) (by have := NN_pos; nlinarith)) $$ [HO HB]
    · isplitl [HB]; · iexact HB
      iexact HO
    iintro ⟨HB, HO⟩
    rw [wp_ret]
    imodintro
    isplitl [HO]; · iexists _; iexact HO
    rw [Nat.succ_mul]
    iexact HB
  · rw [if_neg h1]
    have hk' : k = 511 := by omega
    subst hk'
    iintro ⟨⟨%Wt, HO⟩, HB⟩
    iapply (Transfers.wp_waitBatchLast EC Variants.none (c : Thread nD τ) none (srcw := srcw) (dstw := dstM offD inbD) (hsrc := hsrc) (hdst := hdst) (sem := sm') (D := delv c lab W s t q) (N := NN) () rfl NN_pos
      (u := 511 * NN) (by omega)) $$ [HO HB]
    · isplitl [HB]; · iexact HB
      iexact HO
    iintro ⟨HD, HV, HO⟩
    rw [wp_ret]
    imodintro
    isplitl [HO]; · iexists _; iexact HO
    isplitl [HV]; · iexact HV
    iexact HD

/-! ## A slot at rest and in flight -/

/-- A slot at rest: its rows, its semaphore at zero, its share of the words. -/
def idle (q : PosShare TreeShare) (sm : DmaSem sig) (s : Nat) : sProp 𝕄 :=
  iprop((∃ f, rowsL c ↦[slotSet s]{fullShare} f) ∗ semVal ((c : Thread nD τ), SemLoc.dma sm) 0 ∗ (wordsL c ↦[Finset.univ]{q} W))

/-- A slot whose rows are on their way. -/
def fly (q : PosShare TreeShare) (sm : DmaSem sig) (s t : Nat) : sProp 𝕄 :=
  iprop(batch c lab W sm s t q 512 0 ∗ wordsKept c lab W t q 512)

/-- A slot whose rows are there. -/
def here (q : PosShare TreeShare) (sm : DmaSem sig) (s t : Nat) : sProp 𝕄 :=
  iprop((rowsL c ↦[slotSet s]{fullShare} rowsAt lab W t) ∗ semVal ((c : Thread nD τ), SemLoc.dma sm) 0 ∗ (wordsL c ↦[Finset.univ]{q} W))

theorem here_idle (q : PosShare TreeShare) (sm : DmaSem sig) (s t : Nat) : here c lab W q sm s t ⊢ idle c W q sm s := by
  unfold here idle
  iintro ⟨H, HV, HW⟩
  isplitl [H]; · iexists _; iexact H
  isplitl [HV]; · iexact HV
  iexact HW

/-- The batch opened. -/
theorem idle_open (arg2 : Memref sig .tc .smem S128256 .f32) (ql q2 q : PosShare TreeShare) (sm : DmaSem sig) (s t : Nat) (sc0 : Vec F S2x512x128 .f32) (sh0 : Vec F S2x512x128 .i32) :
    iprop(idle c W q sm s ∗ owns (c : Thread nD τ) (Memref.whole main_v4 : Memref sig .tc .smem S15360 .i32) ql lab ∗ owns (c : Thread nD τ) arg2 q2 wsc
        ∗ owns (c : Thread nD τ) (Memref.whole cc0_scratch1 : Memref sig .tc .vmem S2x512x128 .f32) fullShare sc0
        ∗ owns (c : Thread nD τ) (Memref.whole cc0_scratch2 : Memref sig .tc .vmem S2x512x128 .i32) fullShare sh0)
      ⊢ |={Set.univ}=> fetchInv c lab W wsc arg2 ql q2 q sm s t sc0 sh0 0 ⟨⟩ := by
  unfold idle fetchInv
  iintro ⟨⟨⟨%f, HR⟩, HV, HW⟩, HL, H2, HS, HH⟩
  imod (Transfers.batch_alloc' EC (c : Thread nD τ) () NN (delv c lab W s t q) (sm := .dma sm) (E := Set.univ)) $$ HV with HB
  imodintro
  isplitl [HB]; · iexact HB
  isplitl [HR]
  · iexists f; rw [rowsFrom_zero]; iexact HR
  isplitl [HW]
  · isplitl [HW]; · iexact HW
    rw [Finset.range_zero, BI.bigSep_empty]
    iempintro
  isplitl [HL]; · iexact HL
  isplitl [H2]; · iexact H2
  isplitl [HS]
  · iexists sc0
    isplitr
    · ipureintro; exact fun y => ⟨fun _ h => absurd h (Nat.not_lt_zero _), fun _ => rfl⟩
    · iexact HS
  · iexists sh0
    isplitr
    · ipureintro; exact fun y => ⟨fun _ h => absurd h (Nat.not_lt_zero _), fun _ => rfl⟩
    · iexact HH

/-- Every delivery back. -/
theorem fly_close (q : PosShare TreeShare) (sm : DmaSem sig) (s t : Nat) :
    iprop(wordsKept c lab W t q 512 ∗ semVal ((c : Thread nD τ), SemLoc.dma sm) 0 ∗ bigSep Finset.univ (delv c lab W s t q)) ⊢ here c lab W q sm s t := by
  unfold here wordsKept
  iintro ⟨⟨HW, HWc⟩, HV, HD⟩
  ihave HD' := (show (bigSep Finset.univ (delv c lab W s t q) : sProp 𝕄)
      ⊢ iprop(bigSep (Finset.univ : Finset (Fin 512)) (fun k => rowsL c ↦[rowSet s k.val]{fullShare} rowsAt lab W t)
        ∗ bigSep (Finset.univ : Finset (Fin 512)) (fun k => wordsL c ↦[wRow (rowK lab t k.val)]{Transfers.shareTokN q k.val} W)) from
    Entails.of_eq (BI.bigSep_sep _ _ _)) $$ HD
  icases HD' with ⟨HR, HT⟩
  isplitl [HR]
  · rw [← rowSet_biUnion s, pointsTo_biUnion _ _ (rowSet_disjoint s)]
    iexact HR
  isplitl [HV]; · iexact HV
  iapply (Transfers.pointsTo_toks_range q 512).2
  isplitl [HW]; · iexact HW
  iapply (show iprop(bigSep (Finset.range 512) (fun j => wordsL c ↦[Finset.univ \ wRow (rowK lab t j)]{Transfers.shareTokN q j} W)
      ∗ bigSep (Finset.univ : Finset (Fin 512)) (fun k => wordsL c ↦[wRow (rowK lab t k.val)]{Transfers.shareTokN q k.val} W))
      ⊢ (bigSep (Finset.range 512) (fun j => wordsL c ↦[Finset.univ]{Transfers.shareTokN q j} W) : sProp 𝕄) from by
    rw [Ring.bigSep_fin_eq_range 512 (fun k => wordsL c ↦[wRow (rowK lab t k.val)]{Transfers.shareTokN q k.val} W)
      (fun j => wordsL c ↦[wRow (rowK lab t j)]{Transfers.shareTokN q j} W) (fun _ _ => rfl)]
    refine (Entails.of_eq (BI.bigSep_sep _ _ _).symm).trans (BI.bigSep_mono fun j _ => ?_)
    exact sep_comm.1.trans (pointsTo_split_subset (Finset.subset_univ _)).2)
  isplitl [HWc]; · iexact HWc
  iexact HT

end

end Cert.FinishIdeal.Gen

end
-- ==== Proof.FinishIdeal.Stage.lean ====
/- The body's stages over the slots: the first point's fetch, the next point's fetch and the wait. -/
module

public import proofs.«01_k».proof.Proof.FinishIdeal.Fetch
public import Idealize.ShloMosaic.Lib.WordCmp
public import Idealize.ShloMosaic.Lib.Tactic.WordOmega

@[expose] public section

set_option maxRecDepth 16384

noncomputable section

namespace Cert.FinishIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.VecRules

variable {F : FTy → Type} [FloatOps F] [Named F]

local notation "𝕄" => MT nD τ sig Unit (Elt F) ℕ (UD sig nD τ) ℕ

/-! ## The kernel's arithmetic -/

theorem lt30 (i : grid0.Coords) : (i 0).val < 30 := (i 0).isLt

theorem trips1 : k0_t1_loop.trips = 512 := by decide
theorem trips2 : k0_t2_loop.trips = 512 := by decide
theorem trips3 : k0_t3_loop.trips = 512 := by decide

theorem cond1_iff (i : grid0.Coords) : k0_cond1 i = 1#1 ↔ (i 0).val = 0 := by
  have := lt30 i
  simp only [k0_cond1]
  word_cmp

theorem cond2_iff (i : grid0.Coords) : k0_cond2 i = 1#1 ↔ (i 0).val < 29 := by
  have := lt30 i
  generalize hn : (i 0).val = n at *
  simp only [k0_cond2, hn]
  exact (by decide +kernel : ∀ n : Fin 30, Scalar.cmpi .ne (Scalar.extui (Scalar.cmpi .slt (Scalar.addi (BitVec.ofNat 32 n.val) 1#32) 30#32) : BitVec 32) 0#32 = 1#1 ↔ n.val < 29) ⟨n, this⟩

theorem cond3_iff (i : grid0.Coords) : k0_cond3 i = 1#1 ↔ (i 0).val = 29 := by
  have := lt30 i
  simp only [k0_cond3]
  word_cmp

export Cert.FinishSets (slot_rem slot_other row1 lab6 lab1)

theorem off1_eq (k : Fin k0_t1_loop.trips) : k0_off1 k = ![0 * 512 + k.val] :=
  congrArg (fun n : Nat => ![n]) (lab1 k.val (trips1 ▸ k.isLt))

theorem off2_eq (k : Fin k0_t1_loop.trips) : k0_off2 k = ![0, k.val, 0] :=
  congrArg (fun n : Nat => ![0, n, 0]) (row1 k.val (trips1 ▸ k.isLt))

theorem off5_eq (k : Fin k0_t1_loop.trips) : k0_off5 k = ![0, k.val, 0] :=
  congrArg (fun n : Nat => ![0, n, 0]) (row1 k.val (trips1 ▸ k.isLt))

theorem off6_eq (i : grid0.Coords) (k : Fin k0_t2_loop.trips) (h : k0_cond2 i = 1#1) :
    k0_off6 i k = ![((i 0).val + 1) * 512 + k.val] :=
  congrArg (fun n : Nat => ![n]) (lab6 _ k.val (lt30 i) (trips2 ▸ k.isLt))

theorem off8_eq (i : grid0.Coords) (k : Fin k0_t2_loop.trips) (h : k0_cond2 i = 1#1) :
    k0_off8 i k = ![((i 0).val + 1) % 2, k.val, 0] :=
  congrArg₂ (fun m n : Nat => ![m, n, 0]) (slot_other _ (lt30 i)) (row1 k.val (trips2 ▸ k.isLt))

theorem off11_eq (i : grid0.Coords) (k : Fin k0_t2_loop.trips) (h : k0_cond2 i = 1#1) :
    k0_off11 i k = ![((i 0).val + 1) % 2, k.val, 0] :=
  congrArg₂ (fun m n : Nat => ![m, n, 0]) (slot_other _ (lt30 i)) (row1 k.val (trips2 ▸ k.isLt))

theorem off14_eq (i : grid0.Coords) : k0_off14 i = ![(i 0).val % 2, 0, 0] :=
  congrArg (fun m : Nat => ![m, 0, 0]) (slot_rem _ (lt30 i))

theorem off7_eq (i : grid0.Coords) : k0_off7 i = ![((i 0).val + 1) % 2] :=
  congrArg (fun m : Nat => ![m]) (slot_other _ (lt30 i))

theorem off12_eq (i : grid0.Coords) : k0_off12 i = ![(i 0).val % 2] :=
  congrArg (fun m : Nat => ![m]) (slot_rem _ (lt30 i))

/-- A slot's semaphore, -/
def semS (s : Nat) : DmaSem sig := (cc0_scratch4 : DmaSems sig S2).ix (fun a => match a with | ⟨0, _⟩ => ⟨s % 2, Nat.mod_lt _ (by decide)⟩)
/-- and its share of the words. -/
def qS (s : Nat) : PosShare TreeShare := if s % 2 = 0 then fullShare.left else fullShare.right

theorem sem_eq (s : Nat) (hs : s < 2) (off : Fin 1 → Nat) (inb : ∀ a, off a + S1.size a ≤ S2.size a) (h : off = ![s]) :
    (((cc0_scratch4 : DmaSems sig S2).slice (Rect.unit (s := S2) off S1.size inb)).squeeze S_ squeezes_S1_S_).sem = semS s := by
  subst h
  show (cc0_scratch4 : DmaSems sig S2).ix _ = (cc0_scratch4 : DmaSems sig S2).ix _
  congr 1
  funext a
  match a with
  | ⟨0, _⟩ =>
    apply Fin.ext
    have h0 : ∀ z : Fin 1, s + 1 * z.val = s % 2 := fun z => by rw [Nat.mod_eq_of_lt hs]; omega
    exact h0 (Shape.reshapeEquiv squeezes_S1_S_.numel_eq (fun i => i.elim0) 0)

theorem row_inb (v : BitVec 32) (h : v.toNat < 128256) : ∀ a, (![(Scalar.shrsi v 2#32).toNat, 0] : Fin 2 → Nat) a + S1x2048.size a ≤ S32064x2048.size a := by
  have e : (Scalar.shrsi v 2#32).toNat ≤ 32063 := by
    have hm : v.msb = false := by rw [BitVec.msb_eq_false_iff_two_mul_lt]; omega
    show (IntOp.shrsi .scalar v 2#32 : BitVec 32).toNat ≤ 32063
    rw [show (IntOp.shrsi .scalar v 2#32 : BitVec 32) = v.sshiftRight 2 from rfl, BitVec.toNat_sshiftRight_of_msb_false hm, Nat.shiftRight_eq_div_pow]
    omega
  intro a
  match a with
  | ⟨0, _⟩ => show (Scalar.shrsi v 2#32).toNat + 1 ≤ 32064; omega
  | ⟨1, _⟩ => show 0 + 2048 ≤ 2048; omega

theorem scl_inb (v : BitVec 32) (h : v.toNat < 128256) : ∀ a, (![v.toNat] : Fin 1 → Nat) a + S1.size a ≤ S128256.size a := by
  intro a
  match a with
  | ⟨0, _⟩ => show v.toNat + 1 ≤ 128256; omega

theorem chk1 (i : grid0.Coords) (v : BitVec 32) (h : v.toNat < 128256) : k0_chk1 i v := ⟨fun _ => row_inb v h, fun _ => scl_inb v h⟩
theorem chk2 (i : grid0.Coords) (v : BitVec 32) (h : v.toNat < 128256) : k0_chk2 i v := ⟨fun _ => row_inb v h, fun _ => scl_inb v h⟩

/-- A stage ahead of the rest. -/
theorem stage (c : Dev nD) (p K : BodyProg F) (P P' : sProp 𝕄) (h : P ⊢ bwp c p (fun _ => P')) (Q : PUnit → sProp 𝕄) :
    P ⊢ iprop((P' -∗ bwp c K Q) -∗ bwp c (p >>= fun _ => K) Q) := by
  rw [show bwp c (p >>= fun _ => K) Q = bwp c p (fun _ => bwp c K Q) from wp_bind _ _ _ _ _ _]
  iintro HP HK
  iapply (show iprop(bwp c p (fun _ => P') ∗ (P' -∗ bwp c K Q)) ⊢ bwp c p (fun _ => bwp c K Q) from
    (wp_frame_r _ _ _).trans (wp_mono _ _ _ fun _ => by
      iintro ⟨H, HK⟩; iapply HK; iexact H))
  isplitl [HP]
  · iapply h; iexact HP
  · iexact HK

section

variable (c : Dev nD) (lab : Vec F S15360 .i32) (W : Vec F S32064x2048 .i32) (wsc : Vec F S128256 .f32)
  (arg2 : Memref sig .tc .smem S128256 .f32) (ql q2 : PosShare TreeShare)

/-- A slot filled at block `t`, its scales and shifts written. -/
def filled (s t : Nat) (sc0 : Vec F S2x512x128 .f32) (sh0 : Vec F S2x512x128 .i32) : sProp 𝕄 :=
  iprop(fly c lab W (qS s) (semS s) s t
    ∗ owns (c : Thread nD τ) (Memref.whole main_v4 : Memref sig .tc .smem S15360 .i32) ql lab
    ∗ owns (c : Thread nD τ) arg2 q2 wsc
    ∗ (∃ x, ⌜Upto (F := F) (e := .f32) d0 d1 s 512 (scaleAt lab wsc t) sc0 x⌝ ∗ owns (c : Thread nD τ) (Memref.whole cc0_scratch1 : Memref sig .tc .vmem S2x512x128 .f32) fullShare x)
    ∗ (∃ x, ⌜Upto (F := F) (e := .i32) d0 d1 s 512 (shiftAt lab t) sh0 x⌝ ∗ owns (c : Thread nD τ) (Memref.whole cc0_scratch2 : Memref sig .tc .vmem S2x512x128 .i32) fullShare x))

theorem fetchInv_filled (s t : Nat) (sc0 : Vec F S2x512x128 .f32) (sh0 : Vec F S2x512x128 .i32) (u : PUnit) :
    fetchInv c lab W wsc arg2 ql q2 (qS s) (semS s) s t sc0 sh0 512 u ⊢ filled c lab W wsc arg2 ql q2 s t sc0 sh0 := by
  unfold fetchInv filled fly
  iintro ⟨HB, -, HW, HL, H2, HS, HH⟩
  isplitl [HB HW]
  · isplitl [HB]; · iexact HB
    iexact HW
  isplitl [HL]; · iexact HL
  isplitl [H2]; · iexact H2
  isplitl [HS]; · iexact HS
  iexact HH

/-- What a fetch starts from. -/
abbrev empt (s : Nat) (sc0 : Vec F S2x512x128 .f32) (sh0 : Vec F S2x512x128 .i32) : sProp 𝕄 :=
  iprop(idle c W (qS s) (semS s) s ∗ owns (c : Thread nD τ) (Memref.whole main_v4 : Memref sig .tc .smem S15360 .i32) ql lab ∗ owns (c : Thread nD τ) arg2 q2 wsc
        ∗ owns (c : Thread nD τ) (Memref.whole cc0_scratch1 : Memref sig .tc .vmem S2x512x128 .f32) fullShare sc0
        ∗ owns (c : Thread nD τ) (Memref.whole cc0_scratch2 : Memref sig .tc .vmem S2x512x128 .i32) fullShare sh0)

theorem loop1_wp (i : grid0.Coords) (h : k0_cond1 i = 1#1) (hlab : ∀ n, (labAt lab n).toNat < 128256) (sc0 : Vec F S2x512x128 .f32) (sh0 : Vec F S2x512x128 .i32) :
    empt c lab W wsc arg2 ql q2 0 sc0 sh0
      ⊢ bwp c (Scf.Loop.for k0_t1_loop (k0_t1_ok i h) ⟨⟩ (fetch1 i (Memref.whole main_v4) arg2 (Memref.whole main_v2) (Memref.whole cc0_scratch0) (Memref.whole cc0_scratch1) (Memref.whole cc0_scratch2) cc0_scratch4 h))
          (fun _ => filled c lab W wsc arg2 ql q2 0 0 sc0 sh0) := by
  iintro H
  iapply fupd_wp
  imod (idle_open c lab W wsc arg2 ql q2 (qS 0) (semS 0) 0 0 sc0 sh0) $$ H with H
  imodintro
  iapply (Scf.wp_for _ _ _ _ _ _ (k0_t1_ok i h) ⟨⟩ _ (fetchInv c lab W wsc arg2 ql q2 (qS 0) (semS 0) 0 0 sc0 sh0) (fun k acc =>
    fetch_step c lab W wsc arg2 ql q2 (qS 0) (semS 0) _ (sem_eq 0 (by decide) _ _ rfl) 0 0 sc0 sh0 k.val (trips1 ▸ k.isLt) (by decide)
      (k0_off1 k) _ (off1_eq k) (k0_off2 k) _ (off2_eq k) (k0_off5 k) _ (off5_eq k) _ _ _ _ (chk1 i _ (hlab _))))
  isplitl [H]; · iexact H
  iintro %acc H
  iapply (fetchInv_filled c lab W wsc arg2 ql q2 0 0 sc0 sh0 acc)
  iapply (show fetchInv c lab W wsc arg2 ql q2 (qS 0) (semS 0) 0 0 sc0 sh0 (k0_t1_loop.trips) acc ⊢ fetchInv c lab W wsc arg2 ql q2 (qS 0) (semS 0) 0 0 sc0 sh0 512 acc from by rw [trips1])
  iexact H

theorem nextK_wp (i : grid0.Coords) (h : k0_cond2 i = 1#1) (hlab : ∀ n, (labAt lab n).toNat < 128256) (sc0 : Vec F S2x512x128 .f32) (sh0 : Vec F S2x512x128 .i32) :
    empt c lab W wsc arg2 ql q2 (((i 0).val + 1) % 2) sc0 sh0
      ⊢ bwp c (nextK i (Memref.whole main_v4) arg2 (Memref.whole main_v2) (Memref.whole cc0_scratch0) (Memref.whole cc0_scratch1) (Memref.whole cc0_scratch2) cc0_scratch4)
          (fun _ => filled c lab W wsc arg2 ql q2 (((i 0).val + 1) % 2) ((i 0).val + 1) sc0 sh0) := by
  unfold nextK
  rw [dif_pos h]
  have hlt := (cond2_iff i).mp h
  iintro H
  iapply fupd_wp
  imod (idle_open c lab W wsc arg2 ql q2 (qS (((i 0).val + 1) % 2)) (semS (((i 0).val + 1) % 2)) (((i 0).val + 1) % 2) ((i 0).val + 1) sc0 sh0) $$ H with H
  imodintro
  iapply (Scf.wp_for _ _ _ _ _ _ (k0_t2_ok i h) ⟨⟩ _ (fetchInv c lab W wsc arg2 ql q2 (qS (((i 0).val + 1) % 2)) (semS (((i 0).val + 1) % 2)) (((i 0).val + 1) % 2) ((i 0).val + 1) sc0 sh0) (fun k acc =>
    fetch_step c lab W wsc arg2 ql q2 (qS (((i 0).val + 1) % 2)) (semS (((i 0).val + 1) % 2)) _ (sem_eq _ (Nat.mod_lt _ (by decide)) _ _ (off7_eq i)) (((i 0).val + 1) % 2) ((i 0).val + 1) sc0 sh0 k.val (trips2 ▸ k.isLt) (by omega)
      (k0_off6 i k) _ (off6_eq i k h) (k0_off8 i k) _ (off8_eq i k h) (k0_off11 i k) _ (off11_eq i k h) _ _ _ _ (chk2 i _ (hlab _))))
  isplitl [H]; · iexact H
  iintro %acc H
  iapply (fetchInv_filled c lab W wsc arg2 ql q2 (((i 0).val + 1) % 2) ((i 0).val + 1) sc0 sh0 acc)
  iapply (show fetchInv c lab W wsc arg2 ql q2 (qS (((i 0).val + 1) % 2)) (semS (((i 0).val + 1) % 2)) (((i 0).val + 1) % 2) ((i 0).val + 1) sc0 sh0 (k0_t2_loop.trips) acc
    ⊢ fetchInv c lab W wsc arg2 ql q2 (qS (((i 0).val + 1) % 2)) (semS (((i 0).val + 1) % 2)) (((i 0).val + 1) % 2) ((i 0).val + 1) sc0 sh0 512 acc from by rw [trips2])
  iexact H

theorem waitK_wp (i : grid0.Coords) (t : Nat) :
    iprop((∃ Wt, owes (c : Thread nD τ) 0 Wt) ∗ fly c lab W (qS ((i 0).val % 2)) (semS ((i 0).val % 2)) ((i 0).val % 2) t)
      ⊢ bwp c (waitK i (Memref.whole main_v2) (Memref.whole cc0_scratch0) cc0_scratch4)
          (fun _ => iprop((∃ Wt, owes (c : Thread nD τ) 0 Wt) ∗ here c lab W (qS ((i 0).val % 2)) (semS ((i 0).val % 2)) ((i 0).val % 2) t)) := by
  unfold waitK fly
  iintro ⟨HO, HB, HW⟩
  iapply (Scf.wp_for _ _ _ _ _ _ k0_t3_ok ⟨⟩ _ (waitInv c lab W (qS ((i 0).val % 2)) (semS ((i 0).val % 2)) ((i 0).val % 2) t) (fun k acc =>
    wait_step c lab W (qS ((i 0).val % 2)) (semS ((i 0).val % 2)) _ (sem_eq _ (Nat.mod_lt _ (by decide)) _ _ (off12_eq i)) ((i 0).val % 2) t k.val (trips3 ▸ k.isLt) _ _ _ _ _))
  isplitl [HO HB]
  · unfold waitInv
    isplitl [HO]; · iexact HO
    rw [if_pos (by decide), Nat.zero_mul]
    iexact HB
  iintro %acc H
  ihave H' := (show waitInv c lab W (qS ((i 0).val % 2)) (semS ((i 0).val % 2)) ((i 0).val % 2) t (k0_t3_loop.trips) acc
    ⊢ iprop((∃ Wt, owes (c : Thread nD τ) 0 Wt) ∗ semVal ((c : Thread nD τ), SemLoc.dma (semS ((i 0).val % 2))) 0
      ∗ bigSep Finset.univ (delv c lab W ((i 0).val % 2) t (qS ((i 0).val % 2)))) from by rw [trips3]; unfold waitInv; rw [if_neg (by decide)]) $$ H
  icases H' with ⟨HO, HV, HD⟩
  isplitl [HO]; · iexact HO
  iapply (fly_close c lab W (qS ((i 0).val % 2)) (semS ((i 0).val % 2)) ((i 0).val % 2) t)
  isplitl [HW]; · iexact HW
  isplitl [HV]; · iexact HV
  iexact HD

end

end Cert.FinishIdeal.Gen

end
-- ==== Proof.FinishIdeal.Run.lean ====
/- What a point computes once its rows are there: the targets' logits row block by row block, the token log probabilities,
   the sequences' sums, and at the last point the pairs' margins and losses. -/
module

public import proofs.«01_k».proof.Proof.FinishIdeal.Stage

@[expose] public section

set_option maxRecDepth 16384

noncomputable section

namespace Cert.FinishIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.VecRules

variable {F : FTy → Type} [FloatOps F] [Named F]

local notation "𝕄" => MT nD τ sig Unit (Elt F) ℕ (UD sig nD τ) ℕ

/-! ## Values -/

/-- A row block's lane products over column blocks `js`. -/
def accOf (i : grid0.Coords) (r : Fin 4) (sh : Vec F S1x128x128 .i32) (x18 : Vec F S2x512x2048 .i32) (x4 : Vec F S512x2048 .fp8e4m3)
    (js : List (Fin 16)) (acc : FVec F S128x128 .f32) : FVec F S128x128 .f32 :=
  js.foldl (fun acc j => dotVal sh acc (VecWindow.window x18 ![slotW i, 128 * r.val, 128 * j.val] S1x128x128.size (inbRw i r j))
    (VecWindow.window x4 ![128 * r.val, 128 * j.val] S128x128.size (inbHh r j))) acc

/-- A row block's targets' logits. -/
def blkVal (i : grid0.Coords) (r : Fin 4) (x4 : Vec F S512x2048 .fp8e4m3) (x5 : Vec F S1x512 .f32) (x18 : Vec F S2x512x2048 .i32)
    (x19 : Vec F S2x512x128 .f32) (x20 : Vec F S2x512x128 .i32) : FVec F S1x128 .f32 :=
  rowVal (accOf i r (VecWindow.window x20 ![slotW i, 128 * r.val, 0] S1x128x128.size (inbSc i r)) x18 x4 cols
      (broadcast S128x128 (Scalar.ofBits (F := F) .f32 0x00000000#32)))
    (VecWindow.window x19 ![slotW i, 128 * r.val, 0] S1x128x128.size (inbSc i r)) (VecWindow.window x5 ![0, 128 * r.val] S1x128.size (inbTk r))

/-- The point's targets' logits, over what the block held. -/
def tgtOver (i : grid0.Coords) (x4 : Vec F S512x2048 .fp8e4m3) (x5 : Vec F S1x512 .f32) (x18 : Vec F S2x512x2048 .i32)
    (x19 : Vec F S2x512x128 .f32) (x20 : Vec F S2x512x128 .i32) (rs : List (Fin 4)) (o : Vec F S1x512 .f32) : Vec F S1x512 .f32 :=
  rs.foldl (fun o r => VecWindow.put o ![0, 128 * r.val] S1x128.size (blkVal i r x4 x5 x18 x19 x20)) o

/-- The point's targets' logits. -/
def tgtVal (i : grid0.Coords) (x4 : Vec F S512x2048 .fp8e4m3) (x5 : Vec F S1x512 .f32) (x18 : Vec F S2x512x2048 .i32)
    (x19 : Vec F S2x512x128 .f32) (x20 : Vec F S2x512x128 .i32) : Vec F S1x512 .f32 := fun y =>
  blkVal i ⟨(y 1).val / 128, by have h : (y 1).val < 512 := (y 1).isLt; omega⟩ x4 x5 x18 x19 x20
    (fun a => match a with
      | ⟨0, _⟩ => y 0
      | ⟨1, _⟩ => ⟨(y 1).val % 128, Nat.mod_lt _ (by decide)⟩)

theorem tgtOver_eq (i : grid0.Coords) (x4 : Vec F S512x2048 .fp8e4m3) (x5 : Vec F S1x512 .f32) (x18 : Vec F S2x512x2048 .i32)
    (x19 : Vec F S2x512x128 .f32) (x20 : Vec F S2x512x128 .i32) (o : Vec F S1x512 .f32) :
    tgtOver i x4 x5 x18 x19 x20 [0, 1, 2, 3] o = tgtVal i x4 x5 x18 x19 x20 := by
  funext y
  have h0 : (y 0).val < 1 := (y 0).isLt
  have h1 : (y 1).val < 512 := (y 1).isLt
  unfold tgtOver tgtVal
  refine (foldl_put_hit (s := S1x512) [0, 1, 2, 3] (fun r : Fin 4 => ![0, 128 * r.val]) S1x128.size (fun r => blkVal i r x4 x5 x18 x19 x20) o y
    ⟨(y 1).val / 128, by omega⟩ (by
      have : ∀ r : Fin 4, r ∈ ([0, 1, 2, 3] : List (Fin 4)) := by decide
      exact this _) (fun a => by
      match a with
      | ⟨0, _⟩ => show 0 ≤ (y 0).val ∧ (y 0).val < 0 + 1; omega
      | ⟨1, _⟩ => show 128 * ((y 1).val / 128) ≤ (y 1).val ∧ (y 1).val < 128 * ((y 1).val / 128) + 128; omega)
    (fun r _ hr => by
      have : 128 * r.val ≤ (y 1).val ∧ (y 1).val < 128 * r.val + 128 := hr 1
      apply Fin.ext
      show r.val = (y 1).val / 128
      omega)).trans ?_
  refine congrArg (blkVal i _ x4 x5 x18 x19 x20) (funext fun a => ?_)
  match a with
  | ⟨0, _⟩ => apply Fin.ext; rw [Rect.unitLocal_val]; rfl
  | ⟨1, _⟩ =>
    apply Fin.ext; rw [Rect.unitLocal_val]
    show (y 1).val - 128 * ((y 1).val / 128) = (y 1).val % 128
    omega

theorem slotW_eq (i : grid0.Coords) : slotW i = (i 0).val % 2 := congrFun (off14_eq i) 0

/-- It reads the point's slot only. -/
theorem tgtVal_congr (i : grid0.Coords) (x4 : Vec F S512x2048 .fp8e4m3) (x5 : Vec F S1x512 .f32) (x18 : Vec F S2x512x2048 .i32)
    (x19 x19' : Vec F S2x512x128 .f32) (x20 x20' : Vec F S2x512x128 .i32) (h19 : ∀ y, d0 y = (i 0).val % 2 → x19 y = x19' y)
    (h20 : ∀ y, d0 y = (i 0).val % 2 → x20 y = x20' y) : tgtVal i x4 x5 x18 x19 x20 = tgtVal i x4 x5 x18 x19' x20' := by
  have w : ∀ {e : EltTy} (x x' : Vec F S2x512x128 e) (h : ∀ y, d0 y = (i 0).val % 2 → x y = x' y) (r : Fin 4),
      VecWindow.window x ![slotW i, 128 * r.val, 0] S1x128x128.size (inbSc i r) = VecWindow.window x' ![slotW i, 128 * r.val, 0] S1x128x128.size (inbSc i r) := by
    intro e x x' h r
    funext y
    refine h _ ?_
    show slotW i + 1 * (y 0).val = (i 0).val % 2
    have hy : (y 0).val < 1 := (y 0).isLt
    have := slotW_eq i; omega
  unfold tgtVal blkVal
  funext y
  rw [w x19 x19' h19, w x20 x20' h20]

/-- The pairs' margins from the sequences' lane sums, -/
def marginVal (a : Vec F S24x128 .f32) (p n : Vec F S1x12 .i32) (r : Vec F S24x1 .f32) : FVec F S1x12 .f32 :=
  k0_pay2 (k0_pay7 a p r) (k0_pay8 a n) (k0_pay9 (F := F) n) (k0_pay10 r) (k0_pay11 (F := F))
/-- and their losses. -/
def lossVal (a : Vec F S24x128 .f32) (p n : Vec F S1x12 .i32) (r : Vec F S24x1 .f32) : FVec F S1x12 .f32 :=
  k0_pay3 (k0_pay7 a p r) (k0_pay8 a n) (k0_pay9 (F := F) n) (k0_pay10 r) (k0_pay11 (F := F))

/-! ## The rules -/

section

variable (c : Dev nD) (i : grid0.Coords) (arg4 : Memref sig .tc .vmem S512x2048 .fp8e4m3) (arg5 : Memref sig .tc .vmem S1x512 .f32) (arg6 arg7 : Memref sig .tc .vmem S8x512 .f32)
  (arg8 arg9 : Memref sig .tc .vmem S1x512 .i32) (arg10 : Memref sig .tc .vmem S24x1 .f32) (arg11 arg12 : Memref sig .tc .vmem S1x12 .i32)
  (arg13 arg14 : Memref sig .tc .vmem S1x512 .f32) (arg15 : Memref sig .tc .vmem S24x1 .f32) (arg16 arg17 : Memref sig .tc .vmem S1x12 .f32)
  (arg19 : Memref sig .tc .vmem S2x512x128 .f32) (arg20 : Memref sig .tc .vmem S2x512x128 .i32)
  (arg21 : Memref sig .tc .vmem S24x128 .f32)

/-- A load from the point's slot. -/
theorem ld_slot (Q : PUnit → sProp 𝕄) (r : Fin 4) (j : Fin 16) {hl} {K : Vec F S1x128x128 .i32 → BodyProg F} {x : Vec F S2x512x2048 .i32} :
    (rowsL c ↦[slotSet ((i 0).val % 2)]{fullShare} x : sProp 𝕄)
      ⊢ iprop(((rowsL c ↦[slotSet ((i 0).val % 2)]{fullShare} x)
          -∗ bwp c (K (VecWindow.window x ![slotW i, 128 * r.val, 128 * j.val] S1x128x128.size (inbRw i r j))) Q)
        -∗ bwp c (.op (.load (Memref.whole cc0_scratch0) (Rect.unit (s := S2x512x2048) ![slotW i, 128 * r.val, 128 * j.val] S1x128x128.size (inbRw i r j)).toLoadRect hl) K) Q) := by
  iintro H HK
  iapply (wp_load Variants.none (c : Thread nD τ) none Set.univ (m := Memref.whole cc0_scratch0) (by
    intro y hy
    obtain ⟨z, hz, rfl⟩ := Finset.mem_map.mp hy
    have hz' : z ∈ (Rect.unit (s := S2x512x2048) ![slotW i, 128 * r.val, 128 * j.val] S1x128x128.size (inbRw i r j)).set := by
      exact hz
    have h0 : slotW i ≤ (z 0).val ∧ (z 0).val < slotW i + 1 := (Rect.mem_set_unit.mp hz') 0
    rw [slotSet, Finset.mem_filter]
    refine ⟨Finset.mem_univ _, ?_⟩
    show (z 0).val = (i 0).val % 2
    rw [← slotW_eq]; omega)) $$ H
  iintro H
  rw [View.readAt_unit (Memref.whole cc0_scratch0).view x (inbRw i r j) rfl (inbRw i r j)]
  iapply HK
  iexact H

theorem dots_wp (Q : PUnit → sProp 𝕄) (r : Fin 4) (sh : Vec F S1x128x128 .i32) (x18 : Vec F S2x512x2048 .i32) (x4 : Vec F S512x2048 .fp8e4m3) (js : List (Fin 16)) (acc : FVec F S128x128 .f32)
    (K : FVec F S128x128 .f32 → BodyProg F) :
    iprop((rowsL c ↦[slotSet ((i 0).val % 2)]{fullShare} x18) ∗ owns (c : Thread nD τ) arg4 fullShare x4)
      ⊢ iprop(((rowsL c ↦[slotSet ((i 0).val % 2)]{fullShare} x18) ∗ owns (c : Thread nD τ) arg4 fullShare x4 -∗ bwp c (K (accOf i r sh x18 x4 js acc)) Q)
        -∗ bwp c (dotsK i arg4 (Memref.whole cc0_scratch0) r sh js acc K) Q) := by
  induction js generalizing acc with
  | nil => iintro H HK; iapply HK; iexact H
  | cons j js ih =>
    iintro ⟨HR, H4⟩ HK
    unfold dotsK
    iapply (ld_slot c i Q r j) $$ HR
    iintro HR
    iapply (wp_ld Variants.none (c : Thread nD τ) none Set.univ (m := arg4)) $$ H4
    iintro H4
    iapply (ih _) $$ [HR H4]
    · isplitl [HR]; · iexact HR
      iexact H4
    iexact HK

theorem blocks_wp (Q : PUnit → sProp 𝕄) (x4 : Vec F S512x2048 .fp8e4m3) (x5 : Vec F S1x512 .f32) (x18 : Vec F S2x512x2048 .i32)
    (x19 : Vec F S2x512x128 .f32) (x20 : Vec F S2x512x128 .i32) (K : BodyProg F) (rs : List (Fin 4)) (o : Vec F S1x512 .f32) :
    iprop((rowsL c ↦[slotSet ((i 0).val % 2)]{fullShare} x18) ∗ owns (c : Thread nD τ) arg4 fullShare x4 ∗ owns (c : Thread nD τ) arg5 fullShare x5
        ∗ owns (c : Thread nD τ) arg19 fullShare x19 ∗ owns (c : Thread nD τ) arg20 fullShare x20 ∗ owns (c : Thread nD τ) arg14 fullShare o)
      ⊢ iprop(((rowsL c ↦[slotSet ((i 0).val % 2)]{fullShare} x18) ∗ owns (c : Thread nD τ) arg4 fullShare x4 ∗ owns (c : Thread nD τ) arg5 fullShare x5
          ∗ owns (c : Thread nD τ) arg19 fullShare x19 ∗ owns (c : Thread nD τ) arg20 fullShare x20 ∗ owns (c : Thread nD τ) arg14 fullShare (tgtOver i x4 x5 x18 x19 x20 rs o) -∗ bwp c K Q)
        -∗ bwp c (rs.foldr (fun r (K : BodyProg F) => blockK i arg4 arg5 arg14 (Memref.whole cc0_scratch0) arg19 arg20 r K) K) Q) := by
  induction rs generalizing o with
  | nil => iintro H HK; iapply HK; iexact H
  | cons r rs ih =>
    iintro ⟨HR, H4, H5, H19, H20, HO⟩ HK
    rw [List.foldr_cons]
    unfold blockK
    iapply (wp_ld Variants.none (c : Thread nD τ) none Set.univ (m := arg20)) $$ H20
    iintro H20
    iapply (dots_wp c i arg4 Q r _ x18 x4 cols _) $$ [HR H4]
    · isplitl [HR]; · iexact HR
      iexact H4
    iintro ⟨HR, H4⟩
    iapply (wp_ld Variants.none (c : Thread nD τ) none Set.univ (m := arg19)) $$ H19
    iintro H19
    iapply (wp_ld Variants.none (c : Thread nD τ) none Set.univ (m := arg5)) $$ H5
    iintro H5
    iapply (wp_ld Variants.none (c : Thread nD τ) none Set.univ (m := arg14)) $$ HO
    iintro HO
    iapply (wp_st Variants.none (c : Thread nD τ) none Set.univ (m := arg14)) $$ HO
    iintro HO
    iapply (ih _) $$ [HR H4 H5 H19 H20 HO]
    · isplitl [HR]; · iexact HR
      isplitl [H4]; · iexact H4
      isplitl [H5]; · iexact H5
      isplitl [H19]; · iexact H19
      isplitl [H20]; · iexact H20
      iexact HO
    iexact HK

/-- A load of the whole, -/
theorem ld_full (Q : PUnit → sProp 𝕄) {s : Shape} {e : EltTy} {m : Memref sig .tc .vmem s e} {off : Fin s.rank → Nat} (h0 : ∀ d, off d = 0) {inb : ∀ d, off d + s.size d ≤ s.size d} {hl}
    {q : PosShare TreeShare} {x : Vec F s e} {K : Vec F s e → BodyProg F} :
    (owns (c : Thread nD τ) m q x : sProp 𝕄)
      ⊢ iprop((owns (c : Thread nD τ) m q x -∗ bwp c (K x) Q) -∗ bwp c (.op (.load m (Rect.unit (s := s) off s.size inb).toLoadRect hl) K) Q) := by
  iintro H HK
  iapply (wp_ld Variants.none (c : Thread nD τ) none Set.univ (m := m)) $$ H
  iintro H
  have e : VecWindow.window x off s.size inb = x := by
    funext y
    refine congrArg x (funext fun d => Fin.ext ?_)
    show off d + 1 * (y d).val = (y d).val
    rw [h0 d]; omega
  rw [e]
  iapply HK
  iexact H

/-- and a store. -/
theorem st_full (Q : PUnit → sProp 𝕄) {s : Shape} {e : EltTy} {m : Memref sig .tc .vmem s e} {off : Fin s.rank → Nat} (h0 : ∀ d, off d = 0) {inb : ∀ d, off d + s.size d ≤ s.size d} {hx hm}
    {x w : Vec F s e} {K : PUnit → BodyProg F} :
    (owns (c : Thread nD τ) m fullShare x : sProp 𝕄)
      ⊢ iprop((owns (c : Thread nD τ) m fullShare w -∗ bwp c (K ⟨⟩) Q) -∗ bwp c (.op (.store m (Rect.unit (s := s) off s.size inb) w Finset.univ hx hm) K) Q) := by
  iintro H HK
  iapply (wp_st Variants.none (c : Thread nD τ) none Set.univ (m := m)) $$ H
  iintro H
  rw [put_full x off h0 w]
  iapply HK
  iexact H

theorem zero2 : ∀ d : Fin 2, (![0, 0] : Fin 2 → Nat) d = 0 := by decide

theorem tok_wp (Q : PUnit → sProp 𝕄) (t : Vec F S1x512 .f32) (x6 x7 : Vec F S8x512 .f32) (x8 x9 : Vec F S1x512 .i32) (a : Vec F S24x128 .f32) (o : Vec F S1x512 .f32) (K : BodyProg F) :
    iprop(owns (c : Thread nD τ) arg14 fullShare t ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg13 fullShare o ∗ owns (c : Thread nD τ) arg21 fullShare a)
      ⊢ iprop((owns (c : Thread nD τ) arg14 fullShare t ∗ owns (c : Thread nD τ) arg6 fullShare x6 ∗ owns (c : Thread nD τ) arg7 fullShare x7
        ∗ owns (c : Thread nD τ) arg8 fullShare x8 ∗ owns (c : Thread nD τ) arg9 fullShare x9 ∗ owns (c : Thread nD τ) arg13 fullShare (k0_pay58 t x6 x7)
        ∗ owns (c : Thread nD τ) arg21 fullShare (k0_pay1 (k0_pay59 t x6 x7 x9 x8) a) -∗ bwp c K Q)
        -∗ bwp c (tokK arg6 arg7 arg8 arg9 arg13 arg14 arg21 K) Q) := by
  unfold tokK
  iintro ⟨H14, H6, H7, H8, H9, H13, H21⟩ HK
  iapply (ld_full c _ (m := arg14) zero2) $$ H14
  iintro H14
  iapply (ld_full c _ (m := arg6) zero2) $$ H6
  iintro H6
  iapply (ld_full c _ (m := arg7) zero2) $$ H7
  iintro H7
  iapply (ld_full c _ (m := arg13) zero2) $$ H13
  iintro H13
  iapply (st_full c _ (m := arg13) zero2) $$ H13
  iintro H13
  iapply (ld_full c _ (m := arg9) zero2) $$ H9
  iintro H9
  iapply (ld_full c _ (m := arg8) zero2) $$ H8
  iintro H8
  iapply (ld_full c _ (m := arg21) zero2) $$ H21
  iintro H21
  iapply (ld_full c _ (m := arg21) zero2) $$ H21
  iintro H21
  iapply (st_full c _ (m := arg21) zero2) $$ H21
  iintro H21
  iapply HK
  isplitl [H14]; · iexact H14
  isplitl [H6]; · iexact H6
  isplitl [H7]; · iexact H7
  isplitl [H8]; · iexact H8
  isplitl [H9]; · iexact H9
  isplitl [H13]; · iexact H13
  iexact H21

theorem last_wp (h : k0_cond3 i = 1#1) (a : Vec F S24x128 .f32) (x10 : Vec F S24x1 .f32) (x11 x12 : Vec F S1x12 .i32) (o15 : Vec F S24x1 .f32) (o16 o17 : Vec F S1x12 .f32) (P : sProp 𝕄) :
    iprop(owns (c : Thread nD τ) arg21 fullShare a ∗ owns (c : Thread nD τ) arg10 fullShare x10 ∗ owns (c : Thread nD τ) arg11 fullShare x11
        ∗ owns (c : Thread nD τ) arg12 fullShare x12 ∗ owns (c : Thread nD τ) arg15 fullShare o15 ∗ owns (c : Thread nD τ) arg16 fullShare o16 ∗ owns (c : Thread nD τ) arg17 fullShare o17)
      ⊢ iprop((owns (c : Thread nD τ) arg21 fullShare a ∗ owns (c : Thread nD τ) arg10 fullShare x10 ∗ owns (c : Thread nD τ) arg11 fullShare x11
        ∗ owns (c : Thread nD τ) arg12 fullShare x12 ∗ owns (c : Thread nD τ) arg15 fullShare (k0_pay4 a) ∗ owns (c : Thread nD τ) arg16 fullShare (lossVal a x11 x12 x10)
        ∗ owns (c : Thread nD τ) arg17 fullShare (marginVal a x11 x12 x10) -∗ P)
        -∗ bwp c (lastK i arg10 arg11 arg12 arg15 arg16 arg17 arg21) (fun _ => P)) := by
  unfold lastK
  rw [dif_pos h]
  iintro ⟨H21, H10, H11, H12, H15, H16, H17⟩ HK
  iapply (ld_full c _ (m := arg21) zero2) $$ H21
  iintro H21
  iapply (ld_full c _ (m := arg15) zero2) $$ H15
  iintro H15
  iapply (st_full c _ (m := arg15) zero2) $$ H15
  iintro H15
  iapply (ld_full c _ (m := arg11) zero2) $$ H11
  iintro H11
  iapply (ld_full c _ (m := arg12) zero2) $$ H12
  iintro H12
  iapply (ld_full c _ (m := arg10) zero2) $$ H10
  iintro H10
  iapply (ld_full c _ (m := arg17) zero2) $$ H17
  iintro H17
  iapply (st_full c _ (m := arg17) zero2) $$ H17
  iintro H17
  iapply (ld_full c _ (m := arg16) zero2) $$ H16
  iintro H16
  iapply (st_full c _ (m := arg16) zero2) $$ H16
  iintro H16
  iapply (show P ⊢ bwp c (.ret ⟨⟩) (fun _ => P) from by
    rw [show bwp c (.ret ⟨⟩) (fun _ => P) = _ from wp_ret _ _ _ _ _]; exact fupd_intro)
  iapply HK
  isplitl [H21]; · iexact H21
  isplitl [H10]; · iexact H10
  isplitl [H11]; · iexact H11
  isplitl [H12]; · iexact H12
  isplitl [H15]; · iexact H15
  isplitl [H16]; · iexact H16
  iexact H17

end

end Cert.FinishIdeal.Gen

end
-- ==== Proof.FinishIdeal.Body.lean ====
/- A point of the pipeline: from a slot whose rows are on their way and an idle one, to the other slot's rows on their way and
   this one idle, the results of the point written. -/
module

public import proofs.«01_k».proof.Proof.FinishIdeal.Run
public import proofs.«01_k».proof.Proof.FinishIdeal.BodyEq

@[expose] public section

set_option maxRecDepth 16384

noncomputable section

namespace Cert.FinishIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Cert.VecRules

variable {F : FTy → Type} [FloatOps F] [Named F]

local notation "𝕄" => MT nD τ sig Unit (Elt F) ℕ (UD sig nD τ) ℕ

abbrev sc0 : Memref sig .tc .vmem S2x512x2048 .i32 := Memref.whole cc0_scratch0
abbrev sc1 : Memref sig .tc .vmem S2x512x128 .f32 := Memref.whole cc0_scratch1
abbrev sc2 : Memref sig .tc .vmem S2x512x128 .i32 := Memref.whole cc0_scratch2
abbrev sc3 : Memref sig .tc .vmem S24x128 .f32 := Memref.whole cc0_scratch3
abbrev lbl : Memref sig .tc .smem S15360 .i32 := Memref.whole main_v4

section

variable (c : Dev nD) (lab : Vec F S15360 .i32) (W : Vec F S32064x2048 .i32) (wsc : Vec F S128256 .f32)
  (ql : PosShare TreeShare)

/-- A program's end, -/
theorem wp_ret' (P : sProp 𝕄) : P ⊢ bwp c (.ret ⟨⟩) (fun _ => P) := by
  rw [show bwp c (.ret ⟨⟩) (fun _ => P) = _ from wp_ret _ _ _ _ _]
  exact fupd_intro

/-- and what follows from it. -/
theorem conseq (p : BodyProg F) (P P' : sProp 𝕄) (h : P ⊢ bwp c p (fun _ => P')) {R : sProp 𝕄} :
    P ⊢ iprop((P' -∗ R) -∗ bwp c p (fun _ => R)) := by
  iintro HP HK
  iapply (show iprop(bwp c p (fun _ => P') ∗ (P' -∗ R)) ⊢ bwp c p (fun _ => R) from
    (wp_frame_r _ _ _).trans (wp_mono _ _ _ fun _ => by
      iintro ⟨H, HK⟩; iapply HK; iexact H))
  isplitl [HP]
  · iapply h; iexact HP
  · iexact HK

/-- The slot of block `t`: its rows on their way, past the last block idle. -/
def cur (t : Nat) : sProp 𝕄 :=
  if t < 30 then fly c lab W (qS (t % 2)) (semS (t % 2)) (t % 2) t else idle c W (qS (t % 2)) (semS (t % 2)) (t % 2)

theorem cur_lt (t : Nat) (h : t < 30) : cur c lab W t = fly c lab W (qS (t % 2)) (semS (t % 2)) (t % 2) t := if_pos h
theorem cur_ge (t : Nat) (h : ¬ t < 30) : cur c lab W t = idle c W (qS (t % 2)) (semS (t % 2)) (t % 2) := if_neg h

/-- The slot of block `t` holds `new`. -/
def Slot {e : EltTy} (t : Nat) (new x : Vec F S2x512x128 e) : Prop := t < 30 → ∀ y : S2x512x128.Idx, d0 y = t % 2 → x y = new y

/-- Before point `t`, the initial fetch of the first point done: `a` the sequences' sums. -/
def inv (t : Nat) (a : Vec F S24x128 .f32) : sProp 𝕄 :=
  iprop(cur c lab W t ∗ idle c W (qS ((t + 1) % 2)) (semS ((t + 1) % 2)) ((t + 1) % 2) ∗ owns (c : Thread nD τ) lbl ql lab
    ∗ (∃ x, ⌜Slot (F := F) (e := .f32) t (scaleAt lab wsc t) x⌝ ∗ owns (c : Thread nD τ) sc1 fullShare x)
    ∗ (∃ x, ⌜Slot (F := F) (e := .i32) t (shiftAt lab t) x⌝ ∗ owns (c : Thread nD τ) sc2 fullShare x)
    ∗ owns (c : Thread nD τ) sc3 fullShare a)

/-- In point `t`, the next point's rows on their way and this one's there. -/
def mid (t : Nat) (a : Vec F S24x128 .f32) : sProp 𝕄 :=
  iprop(here c lab W (qS (t % 2)) (semS (t % 2)) (t % 2) t ∗ cur c lab W (t + 1) ∗ owns (c : Thread nD τ) lbl ql lab
    ∗ (∃ x, ⌜Slot (F := F) (e := .f32) t (scaleAt lab wsc t) x ∧ Slot (F := F) (e := .f32) (t + 1) (scaleAt lab wsc (t + 1)) x⌝ ∗ owns (c : Thread nD τ) sc1 fullShare x)
    ∗ (∃ x, ⌜Slot (F := F) (e := .i32) t (shiftAt lab t) x ∧ Slot (F := F) (e := .i32) (t + 1) (shiftAt lab (t + 1)) x⌝ ∗ owns (c : Thread nD τ) sc2 fullShare x)
    ∗ owns (c : Thread nD τ) sc3 fullShare a)

theorem slot_of_upto {e : EltTy} (t : Nat) (new x0 x : Vec F S2x512x128 e) (h : Upto (F := F) d0 d1 (t % 2) 512 new x0 x) : Slot (F := F) t new x :=
  fun _ y hy => (h y).1 hy (y 1).isLt

theorem slot_keep {e : EltTy} (t : Nat) (old new x0 x : Vec F S2x512x128 e) (h : Upto (F := F) d0 d1 ((t + 1) % 2) 512 new x0 x) (h0 : Slot (F := F) t old x0) : Slot (F := F) t old x :=
  fun ht y hy => ((h y).2 (by omega)).trans (h0 ht y hy)

variable (arg2 : Memref sig .tc .smem S128256 .f32)

/-- The first point's own fetch. -/
theorem initK_first (i : grid0.Coords) (h : (i 0).val = 0) (hlab : ∀ n, (labAt lab n).toNat < 128256)
    (x1 : Vec F S2x512x128 .f32) (x2 : Vec F S2x512x128 .i32) (x3 : Vec F S24x128 .f32) :
    iprop(idle c W (qS 0) (semS 0) 0 ∗ idle c W (qS 1) (semS 1) 1 ∗ owns (c : Thread nD τ) lbl ql lab ∗ owns (c : Thread nD τ) arg2 fullShare wsc
      ∗ owns (c : Thread nD τ) sc1 fullShare x1 ∗ owns (c : Thread nD τ) sc2 fullShare x2 ∗ owns (c : Thread nD τ) sc3 fullShare x3)
      ⊢ bwp c (initK i lbl arg2 (Memref.whole main_v2) sc0 sc1 sc2 sc3 cc0_scratch4) (fun _ => iprop(inv c lab W wsc ql 0 (k0_pay12 (F := F)) ∗ owns (c : Thread nD τ) arg2 fullShare wsc)) := by
  have h1 := (cond1_iff i).mpr h
  unfold initK
  rw [dif_pos h1]
  iintro ⟨H0, H1, HL, H2, HS, HH, HA⟩
  iapply (ld_full c _ (m := sc3) zero2) $$ HA
  iintro HA
  iapply (st_full c _ (m := sc3) zero2) $$ HA
  iintro HA
  iapply (conseq c _ _ _ (loop1_wp c lab W wsc arg2 ql fullShare i h1 hlab x1 x2)) $$ [H0 HL H2 HS HH]
  · isplitl [H0]; · iexact H0
    isplitl [HL]; · iexact HL
    isplitl [H2]; · iexact H2
    isplitl [HS]; · iexact HS
    iexact HH
  unfold filled inv
  iintro ⟨H0, HL, H2, ⟨%y1, %e1, HS⟩, ⟨%y2, %e2, HH⟩⟩
  isplitr [H2]
  · isplitl [H0]
    · rw [cur_lt c lab W 0 (by decide)]; iexact H0
    isplitl [H1]; · iexact H1
    isplitl [HL]; · iexact HL
    isplitl [HS]
    · iexists y1
      isplitr [HS]; · ipureintro; exact slot_of_upto 0 _ _ _ e1
      iexact HS
    isplitl [HH]
    · iexists y2
      isplitr [HH]; · ipureintro; exact slot_of_upto 0 _ _ _ e2
      iexact HH
    iexact HA
  iexact H2

/-- At a later point it is a step of nothing. -/
theorem initK_later (i : grid0.Coords) (h : ¬ (i 0).val = 0) (P : sProp 𝕄) :
    P ⊢ bwp c (initK i lbl arg2 (Memref.whole main_v2) sc0 sc1 sc2 sc3 cc0_scratch4) (fun _ => P) := by
  unfold initK
  rw [dif_neg (fun e => h ((cond1_iff i).mp e))]
  exact wp_ret' c P

/-- The next point's fetch. -/
theorem nextK_any (i : grid0.Coords) (hlab : ∀ n, (labAt lab n).toNat < 128256) (a : Vec F S24x128 .f32) :
    iprop(inv c lab W wsc ql (i 0).val a ∗ owns (c : Thread nD τ) arg2 fullShare wsc)
      ⊢ bwp c (nextK i lbl arg2 (Memref.whole main_v2) sc0 sc1 sc2 cc0_scratch4)
        (fun _ => iprop(fly c lab W (qS ((i 0).val % 2)) (semS ((i 0).val % 2)) ((i 0).val % 2) (i 0).val ∗ cur c lab W ((i 0).val + 1) ∗ owns (c : Thread nD τ) lbl ql lab
    ∗ (∃ x, ⌜Slot (F := F) (e := .f32) (i 0).val (scaleAt lab wsc (i 0).val) x ∧ Slot (F := F) (e := .f32) ((i 0).val + 1) (scaleAt lab wsc ((i 0).val + 1)) x⌝ ∗ owns (c : Thread nD τ) sc1 fullShare x)
    ∗ (∃ x, ⌜Slot (F := F) (e := .i32) (i 0).val (shiftAt lab (i 0).val) x ∧ Slot (F := F) (e := .i32) ((i 0).val + 1) (shiftAt lab ((i 0).val + 1)) x⌝ ∗ owns (c : Thread nD τ) sc2 fullShare x)
    ∗ owns (c : Thread nD τ) sc3 fullShare a ∗ owns (c : Thread nD τ) arg2 fullShare wsc)) := by
  have h30 := lt30 i
  unfold inv
  rw [cur_lt c lab W _ h30]
  iintro ⟨⟨HF, HI, HL, ⟨%x1, %e1, HS⟩, ⟨%x2, %e2, HH⟩, HA⟩, H2⟩
  by_cases h : (i 0).val < 29
  · have h2 := (cond2_iff i).mpr h
    iapply (conseq c _ _ _ (nextK_wp c lab W wsc arg2 ql fullShare i h2 hlab x1 x2)) $$ [HI HL H2 HS HH]
    · isplitl [HI]; · iexact HI
      isplitl [HL]; · iexact HL
      isplitl [H2]; · iexact H2
      isplitl [HS]; · iexact HS
      iexact HH
    unfold filled
    rw [cur_lt c lab W ((i 0).val + 1) (by omega)]
    iintro ⟨HN, HL, H2, ⟨%y1, %f1, HS⟩, ⟨%y2, %f2, HH⟩⟩
    isplitl [HF]; · iexact HF
    isplitl [HN]; · iexact HN
    isplitl [HL]; · iexact HL
    isplitl [HS]
    · iexists y1
      isplitr [HS]; · ipureintro; exact ⟨slot_keep _ _ _ _ _ f1 e1, slot_of_upto _ _ _ _ f1⟩
      iexact HS
    isplitl [HH]
    · iexists y2
      isplitr [HH]; · ipureintro; exact ⟨slot_keep _ _ _ _ _ f2 e2, slot_of_upto _ _ _ _ f2⟩
      iexact HH
    isplitl [HA]; · iexact HA
    iexact H2
  · unfold nextK
    rw [dif_neg (fun e => h ((cond2_iff i).mp e)), cur_ge c lab W ((i 0).val + 1) (by omega)]
    iapply (wp_ret' c _)
    isplitl [HF]; · iexact HF
    isplitl [HI]; · iexact HI
    isplitl [HL]; · iexact HL
    isplitl [HS]
    · iexists x1
      isplitr [HS]; · ipureintro; exact ⟨e1, fun hh => absurd hh (by omega)⟩
      iexact HS
    isplitl [HH]
    · iexists x2
      isplitr [HH]; · ipureintro; exact ⟨e2, fun hh => absurd hh (by omega)⟩
      iexact HH
    isplitl [HA]; · iexact HA
    iexact H2

/-- The two fetches and the wait. -/
theorem fetched_wp (i : grid0.Coords) (hlab : ∀ n, (labAt lab n).toNat < 128256) (a : Vec F S24x128 .f32) (K : BodyProg F) (Q : PUnit → sProp 𝕄) :
    iprop(inv c lab W wsc ql (i 0).val a ∗ owns (c : Thread nD τ) arg2 fullShare wsc ∗ (∃ Wt, owes (c : Thread nD τ) 0 Wt))
      ⊢ iprop((mid c lab W wsc ql (i 0).val a ∗ owns (c : Thread nD τ) arg2 fullShare wsc ∗ (∃ Wt, owes (c : Thread nD τ) 0 Wt) -∗ bwp c K Q)
        -∗ bwp c (nextK i lbl arg2 (Memref.whole main_v2) sc0 sc1 sc2 cc0_scratch4 >>= fun _ =>
          waitK i (Memref.whole main_v2) sc0 cc0_scratch4 >>= fun _ => K) Q) := by
  iintro ⟨HI, H2, HO⟩ HK
  iapply (stage c _ _ _ _ (nextK_any c lab W wsc ql arg2 i hlab a) Q) $$ [HI H2]
  · isplitl [HI]; · iexact HI
    iexact H2
  iintro ⟨HF, HN, HL, HS, HH, HA, H2⟩
  iapply (stage c _ _ _ _ (waitK_wp c lab W i (i 0).val) Q) $$ [HF HO]
  · isplitl [HO]; · iexact HO
    iexact HF
  iintro ⟨HO, HR⟩
  iapply HK
  unfold mid
  isplitr [H2 HO]
  · isplitl [HR]; · iexact HR
    isplitl [HN]; · iexact HN
    isplitl [HL]; · iexact HL
    isplitl [HS]; · iexact HS
    isplitl [HH]; · iexact HH
    iexact HA
  isplitl [H2]; · iexact H2
  iexact HO

/-! ## The computation -/

variable (arg4 : Memref sig .tc .vmem S512x2048 .fp8e4m3) (arg5 : Memref sig .tc .vmem S1x512 .f32) (arg6 arg7 : Memref sig .tc .vmem S8x512 .f32)
  (arg8 arg9 : Memref sig .tc .vmem S1x512 .i32) (arg10 : Memref sig .tc .vmem S24x1 .f32) (arg11 arg12 : Memref sig .tc .vmem S1x12 .i32)
  (arg13 arg14 : Memref sig .tc .vmem S1x512 .f32) (arg15 : Memref sig .tc .vmem S24x1 .f32) (arg16 arg17 : Memref sig .tc .vmem S1x12 .f32)
  (x4 : Vec F S512x2048 .fp8e4m3) (x5 : Vec F S1x512 .f32) (x6 x7 : Vec F S8x512 .f32) (x8 x9 : Vec F S1x512 .i32)
  (x10 : Vec F S24x1 .f32) (x11 x12 : Vec F S1x12 .i32)

/-- The blocks read at a point, the last call's arguments apart. -/
abbrev ins : sProp 𝕄 :=
  iprop(owns (c : Thread nD τ) arg4 fullShare x4 ∗ owns (c : Thread nD τ) arg5 fullShare x5 ∗ owns (c : Thread nD τ) arg6 fullShare x6 ∗ owns (c : Thread nD τ) arg7 fullShare x7
    ∗ owns (c : Thread nD τ) arg8 fullShare x8 ∗ owns (c : Thread nD τ) arg9 fullShare x9)

/-- A point's targets' logits. -/
def tgtAt (i : grid0.Coords) : Vec F S1x512 .f32 :=
  tgtVal i x4 x5 (rowsAt lab W (i 0).val) (scaleAt lab wsc (i 0).val) (shiftAt lab (i 0).val)

/-- The sequences' sums past it. -/
def accStep (t : Vec F S1x512 .f32) (a : Vec F S24x128 .f32) : Vec F S24x128 .f32 := k0_pay1 (k0_pay59 t x6 x7 x9 x8) a

theorem main_wp (i : grid0.Coords) (a : Vec F S24x128 .f32) (o13 o14 : Vec F S1x512 .f32) (Q : PUnit → sProp 𝕄) :
    iprop(mid c lab W wsc ql (i 0).val a ∗ ins c arg4 arg5 arg6 arg7 arg8 arg9 x4 x5 x6 x7 x8 x9 ∗ owns (c : Thread nD τ) arg13 fullShare o13 ∗ owns (c : Thread nD τ) arg14 fullShare o14)
      ⊢ iprop((inv c lab W wsc ql ((i 0).val + 1) (accStep x6 x7 x8 x9 (tgtAt lab W wsc x4 x5 i) a) ∗ ins c arg4 arg5 arg6 arg7 arg8 arg9 x4 x5 x6 x7 x8 x9
          ∗ owns (c : Thread nD τ) arg13 fullShare (k0_pay58 (tgtAt lab W wsc x4 x5 i) x6 x7) ∗ owns (c : Thread nD τ) arg14 fullShare (tgtAt lab W wsc x4 x5 i)
          -∗ bwp c (lastK i arg10 arg11 arg12 arg15 arg16 arg17 sc3) Q)
        -∗ bwp c (mainK i arg4 arg5 arg6 arg7 arg8 arg9 arg10 arg11 arg12 arg13 arg14 arg15 arg16 arg17 sc0 sc1 sc2 sc3) Q) := by
  have h30 := lt30 i
  unfold mid here
  iintro ⟨⟨⟨HR, HV, HW⟩, HN, HL, ⟨%x1, %e1, HS⟩, ⟨%x2, %e2, HH⟩, HA⟩, ⟨H4, H5, H6, H7, H8, H9⟩, H13, H14⟩ HK
  unfold mainK
  iapply (blocks_wp c i arg4 arg5 arg14 sc1 sc2 Q x4 x5 (rowsAt lab W (i 0).val) x1 x2 _ [0, 1, 2, 3] o14) $$ [HR H4 H5 HS HH H14]
  · isplitl [HR]; · iexact HR
    isplitl [H4]; · iexact H4
    isplitl [H5]; · iexact H5
    isplitl [HS]; · iexact HS
    isplitl [HH]; · iexact HH
    iexact H14
  rw [tgtOver_eq, tgtVal_congr i x4 x5 (rowsAt lab W (i 0).val) x1 (scaleAt lab wsc (i 0).val) x2 (shiftAt lab (i 0).val) (e1.1 h30) (e2.1 h30)]
  rw [show tgtVal i x4 x5 (rowsAt lab W (i 0).val) (scaleAt lab wsc (i 0).val) (shiftAt lab (i 0).val) = tgtAt lab W wsc x4 x5 i from rfl]
  iintro ⟨HR, H4, H5, HS, HH, H14⟩
  iapply (tok_wp c arg6 arg7 arg8 arg9 arg13 arg14 sc3 Q (tgtAt lab W wsc x4 x5 i) x6 x7 x8 x9 a o13 _) $$ [H14 H6 H7 H8 H9 H13 HA]
  · isplitl [H14]; · iexact H14
    isplitl [H6]; · iexact H6
    isplitl [H7]; · iexact H7
    isplitl [H8]; · iexact H8
    isplitl [H9]; · iexact H9
    isplitl [H13]; · iexact H13
    iexact HA
  iintro ⟨H14, H6, H7, H8, H9, H13, HA⟩
  iapply HK
  isplitr [H4 H5 H6 H7 H8 H9 H13 H14]
  · unfold inv
    isplitl [HN]; · iexact HN
    isplitl [HR HV HW]
    · rw [show ((i 0).val + 1 + 1) % 2 = (i 0).val % 2 from by omega]
      iapply (here_idle c lab W (qS ((i 0).val % 2)) (semS ((i 0).val % 2)) ((i 0).val % 2) (i 0).val)
      unfold here
      isplitl [HR]; · iexact HR
      isplitl [HV]; · iexact HV
      iexact HW
    isplitl [HL]; · iexact HL
    isplitl [HS]
    · iexists x1
      isplitr [HS]; · ipureintro; exact e1.2
      iexact HS
    isplitl [HH]
    · iexists x2
      isplitr [HH]; · ipureintro; exact e2.2
      iexact HH
    iexact HA
  isplitr [H13 H14]
  · isplitl [H4]; · iexact H4
    isplitl [H5]; · iexact H5
    isplitl [H6]; · iexact H6
    isplitl [H7]; · iexact H7
    isplitl [H8]; · iexact H8
    iexact H9
  isplitl [H13]; · iexact H13
  iexact H14

/-- Before the last point nothing follows. -/
theorem last_skip (i : grid0.Coords) (h : ¬ (i 0).val = 29) (P : sProp 𝕄) :
    P ⊢ bwp c (lastK i arg10 arg11 arg12 arg15 arg16 arg17 sc3) (fun _ => P) := by
  unfold lastK
  rw [dif_neg (fun e => h ((cond3_iff i).mp e))]
  exact wp_ret' c P

end

end Cert.FinishIdeal.Gen

end
-- ==== Proof.FinishIdeal.Entry.lean ====
/- The entry of the pipeline: what its arrays hold after the host operations, the table it reads, the windows' blocks. -/
module

public import proofs.«01_k».proof.Proof.FinishIdeal.Body
public import proofs.«01_k».proof.Proof.Gen.FinishIdeal.Launch
public import Idealize.ShloMosaic.Lib.Pipeline.FrameBody
public import Idealize.ShloMosaic.Lib.Claim

@[expose] public section

set_option maxRecDepth 16384

noncomputable section

namespace Cert.FinishIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation cellOf)

variable {F : FTy → Type} [FloatOps F] [Named F]

local notation "𝕄" => MT nD τ sig Unit (Elt F) ℕ (UD sig nD τ) ℕ

variable (m : (ℓ : Loc nD τ sig) → Buf (Elt F) ℓ) (ρ : Dev nD → PrngReg)

/-! ## The contents at the entry -/

/-- Core `c`'s buffers after the host operations, -/
abbrev V0 (c : Dev nD) : Valuation τ sig (Elt F) := StableHlo.after hostOps0 (fun b => m (c, b))
/-- read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hmain (𝒱₀ : Variants) : Pipeline.HMainP (Ix := Unit) (Name := ℕ) (U := UD sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The table of labels, as the pipeline holds it. -/
def adm (p : Fin 1) : (pcfgs (F := F) p).Adm := ⟨fun k => V m 0 (pre0.ref k), trivial⟩

/-- The pipeline at it. -/
abbrev cfgm : Cfg sig Λ₀ := Pipeline.pin (pcfgs (F := F)) (adm m) 0

theorem hpf (c : Dev nD) (k : Fin pre0.K) : V m c (pre0.ref k) = (adm m 0).1 k := by
  have : c = 0 := Subsingleton.elim _ _
  subst this; rfl

/-- The labels, -/
abbrev lab (c : Dev nD) : Vec F S15360 .i32 := V m c main_v4
/-- and the words. -/
abbrev wds (c : Dev nD) : Vec F S32064x2048 .i32 := V m c main_v2

/-! ## The windows' blocks -/

/-- Window `w`'s block at point `t`. -/
def iblk (c : Dev nD) (w : Fin (cfgm m).W) (t : Fin (cfgm m).N) : (((cfgm m).win w).xblock ((cfgm m).grid.coords t)).Idx → Elt F ((cfgm m).win w).elt :=
  (((cfgm m).win w).blk t).view.read (Elt F) (V m c (Pipeline.arrRef spec0 w))

theorem before0_0_of {c : Dev nD} (dat : Dat τ (Elt F) Unit ℕ (UD sig nD τ) ℕ (cfgm m) c) (hA : dat.A 0 = V m c (Pipeline.arrRef spec0 0))
    (hafter : ∀ t, dat.after 0 t = iblk m c 0 t) (t : Fin (cfgm m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UD sig nD τ) ℕ (cfgm m) c) (hA : dat.A 1 = V m c (Pipeline.arrRef spec0 1))
    (hafter : ∀ t, dat.after 1 t = iblk m c 1 t) (t : Fin (cfgm m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UD sig nD τ) ℕ (cfgm m) c) (hA : dat.A 2 = V m c (Pipeline.arrRef spec0 2))
    (hafter : ∀ t, dat.after 2 t = iblk m c 2 t) (t : Fin (cfgm m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UD sig nD τ) ℕ (cfgm m) c) (hA : dat.A 3 = V m c (Pipeline.arrRef spec0 3))
    (hafter : ∀ t, dat.after 3 t = iblk m c 3 t) (t : Fin (cfgm m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UD sig nD τ) ℕ (cfgm m) c) (hA : dat.A 4 = V m c (Pipeline.arrRef spec0 4))
    (hafter : ∀ t, dat.after 4 t = iblk m c 4 t) (t : Fin (cfgm m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UD sig nD τ) ℕ (cfgm m) c) (hA : dat.A 5 = V m c (Pipeline.arrRef spec0 5))
    (hafter : ∀ t, dat.after 5 t = iblk m c 5 t) (t : Fin (cfgm m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UD sig nD τ) ℕ (cfgm m) c) (hA : dat.A 6 = V m c (Pipeline.arrRef spec0 6))
    (hafter : ∀ t, dat.after 6 t = iblk m c 6 t) (t : Fin (cfgm m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UD sig nD τ) ℕ (cfgm m) c) (hA : dat.A 7 = V m c (Pipeline.arrRef spec0 7))
    (hafter : ∀ t, dat.after 7 t = iblk m c 7 t) (t : Fin (cfgm m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UD sig nD τ) ℕ (cfgm m) c) (hA : dat.A 8 = V m c (Pipeline.arrRef spec0 8))
    (hafter : ∀ t, dat.after 8 t = iblk m c 8 t) (t : Fin (cfgm m).N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UD sig nD τ) ℕ (cfgm m) c) (hA : dat.A 9 = V m c (Pipeline.arrRef spec0 9))
    (hafter : ∀ t, dat.after 9 t = iblk m c 9 t) (t : Fin (cfgm m).N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The points -/

theorem lt_30 (t : Fin (cfgm m).N) : t.val < 30 := Nat.lt_of_lt_of_eq t.isLt N_0

theorem coordsG (t : Fin grid0.N) : (grid0.coords t 0).val = t.val := by
  have e0 : (grid0.coords t 0).val = t.val / 1 % 30 := Pipeline.Grid.coords_val t 0 (by decide) rfl
  have : t.val < 30 := Nat.lt_of_lt_of_eq t.isLt N_0
  omega

theorem coords0 (t : Fin (cfgm m).N) : (((cfgm m).grid.coords t : grid0.Coords) 0).val = t.val := coordsG t

theorem idle12 (t : Fin (cfgm m).N) (h : ¬ t.val = 29) : (cfgm m).idle 12 ((cfgm m).grid.coords t) = true := by
  show (!(k0_cond3 (grid0.coords t) == 1#1)) = true
  have h' : ¬ k0_cond3 (grid0.coords t) = 1#1 := fun e => h ((coords0 m t).symm.trans ((cond3_iff _).mp e))
  simpa using h'
theorem live12 (t : Fin (cfgm m).N) (h : t.val = 29) : (cfgm m).idle 12 ((cfgm m).grid.coords t) = false := by
  show (!(k0_cond3 (grid0.coords t) == 1#1)) = false
  have h' : k0_cond3 (grid0.coords t) = 1#1 := (cond3_iff _).mpr ((coords0 m t).trans h)
  simpa using h'
theorem flush0_12 (t : Fin (cfgm m).N) : ((cfgm m).win 12).flush t = true ↔ t.val % 30 = 29 :=
  Pipeline.Window.flush_const ((cfgm m).win 12) rfl (fun _ _ => rfl) N_0 rfl t
theorem noFlush12 (t : Fin (cfgm m).N) (h : ¬ t.val = 29) : ((cfgm m).win 12).flush t = false :=
  Bool.eq_false_iff.mpr fun e => h (by have := (flush0_12 m t).mp e; have := lt_30 m t; omega)
theorem idle13 (t : Fin (cfgm m).N) (h : ¬ t.val = 29) : (cfgm m).idle 13 ((cfgm m).grid.coords t) = true := by
  show (!(k0_cond3 (grid0.coords t) == 1#1)) = true
  have h' : ¬ k0_cond3 (grid0.coords t) = 1#1 := fun e => h ((coords0 m t).symm.trans ((cond3_iff _).mp e))
  simpa using h'
theorem live13 (t : Fin (cfgm m).N) (h : t.val = 29) : (cfgm m).idle 13 ((cfgm m).grid.coords t) = false := by
  show (!(k0_cond3 (grid0.coords t) == 1#1)) = false
  have h' : k0_cond3 (grid0.coords t) = 1#1 := (cond3_iff _).mpr ((coords0 m t).trans h)
  simpa using h'
theorem flush0_13 (t : Fin (cfgm m).N) : ((cfgm m).win 13).flush t = true ↔ t.val % 30 = 29 :=
  Pipeline.Window.flush_const ((cfgm m).win 13) rfl (fun _ _ => rfl) N_0 rfl t
theorem noFlush13 (t : Fin (cfgm m).N) (h : ¬ t.val = 29) : ((cfgm m).win 13).flush t = false :=
  Bool.eq_false_iff.mpr fun e => h (by have := (flush0_13 m t).mp e; have := lt_30 m t; omega)
theorem idle14 (t : Fin (cfgm m).N) (h : ¬ t.val = 29) : (cfgm m).idle 14 ((cfgm m).grid.coords t) = true := by
  show (!(k0_cond3 (grid0.coords t) == 1#1)) = true
  have h' : ¬ k0_cond3 (grid0.coords t) = 1#1 := fun e => h ((coords0 m t).symm.trans ((cond3_iff _).mp e))
  simpa using h'
theorem live14 (t : Fin (cfgm m).N) (h : t.val = 29) : (cfgm m).idle 14 ((cfgm m).grid.coords t) = false := by
  show (!(k0_cond3 (grid0.coords t) == 1#1)) = false
  have h' : k0_cond3 (grid0.coords t) = 1#1 := (cond3_iff _).mpr ((coords0 m t).trans h)
  simpa using h'
theorem flush0_14 (t : Fin (cfgm m).N) : ((cfgm m).win 14).flush t = true ↔ t.val % 30 = 29 :=
  Pipeline.Window.flush_const ((cfgm m).win 14) rfl (fun _ _ => rfl) N_0 rfl t
theorem noFlush14 (t : Fin (cfgm m).N) (h : ¬ t.val = 29) : ((cfgm m).win 14).flush t = false :=
  Bool.eq_false_iff.mpr fun e => h (by have := (flush0_14 m t).mp e; have := lt_30 m t; omega)
theorem flush0_10 (t : Fin (cfgm m).N) : ((cfgm m).win 10).flush t = true :=
  (Pipeline.Window.flush_reads ((cfgm m).win 10) rfl (0 : Fin 1) (by decide : 1 < grid0.bound 0) (by decide : grid0.fixedAfter reads0_10 0 = true) (Pipeline.Window.sep_of_coord (G := grid0) cc0_transform_11 0 1 (fun _ => rfl) (by decide)) (P := 1) (m := 0) (by decide : grid0.stride 0 = 1) rfl t).mpr (Nat.mod_one _)
theorem flush0_11 (t : Fin (cfgm m).N) : ((cfgm m).win 11).flush t = true :=
  (Pipeline.Window.flush_reads ((cfgm m).win 11) rfl (0 : Fin 1) (by decide : 1 < grid0.bound 0) (by decide : grid0.fixedAfter reads0_11 0 = true) (Pipeline.Window.sep_of_coord (G := grid0) cc0_transform_12 0 1 (fun _ => rfl) (by decide)) (P := 1) (m := 0) (by decide : grid0.stride 0 = 1) rfl t).mpr (Nat.mod_one _)

end Cert.FinishIdeal.Gen

end
-- ==== Proof.FinishIdeal.Frame.lean ====
/- The run of the pipeline: what is on its way and what the sums hold before every point, what is written back, and that the
   arguments end unchanged. -/
module

public import proofs.«01_k».proof.Proof.FinishIdeal.Entry

@[expose] public section

set_option maxRecDepth 16384

noncomputable section

namespace Cert.FinishIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation cellOf)

variable {F : FTy → Type} [FloatOps F] [Named F]

local notation "𝕄" => MT nD τ sig Unit (Elt F) ℕ (UD sig nD τ) ℕ

variable (m : (ℓ : Loc nD τ sig) → Buf (Elt F) ℓ) (ρ : Dev nD → PrngReg)

/-! ## The memrefs of a point and their blocks -/

abbrev ms0 (t : Fin (cfgm m).N) : Memref sig .tc .smem S128256 .f32 := ((cfgm m).win 0).stage ((cfgm m).slots t 0)
abbrev ms1 (t : Fin (cfgm m).N) : Memref sig .tc .vmem S512x2048 .fp8e4m3 := ((cfgm m).win 1).stage ((cfgm m).slots t 1)
abbrev ms2 (t : Fin (cfgm m).N) : Memref sig .tc .vmem S1x512 .f32 := ((cfgm m).win 2).stage ((cfgm m).slots t 2)
abbrev ms3 (t : Fin (cfgm m).N) : Memref sig .tc .vmem S8x512 .f32 := ((cfgm m).win 3).stage ((cfgm m).slots t 3)
abbrev ms4 (t : Fin (cfgm m).N) : Memref sig .tc .vmem S8x512 .f32 := ((cfgm m).win 4).stage ((cfgm m).slots t 4)
abbrev ms5 (t : Fin (cfgm m).N) : Memref sig .tc .vmem S1x512 .i32 := ((cfgm m).win 5).stage ((cfgm m).slots t 5)
abbrev ms6 (t : Fin (cfgm m).N) : Memref sig .tc .vmem S1x512 .i32 := ((cfgm m).win 6).stage ((cfgm m).slots t 6)
abbrev ms7 (t : Fin (cfgm m).N) : Memref sig .tc .vmem S24x1 .f32 := ((cfgm m).win 7).stage ((cfgm m).slots t 7)
abbrev ms8 (t : Fin (cfgm m).N) : Memref sig .tc .vmem S1x12 .i32 := ((cfgm m).win 8).stage ((cfgm m).slots t 8)
abbrev ms9 (t : Fin (cfgm m).N) : Memref sig .tc .vmem S1x12 .i32 := ((cfgm m).win 9).stage ((cfgm m).slots t 9)
abbrev ms10 (t : Fin (cfgm m).N) : Memref sig .tc .vmem S1x512 .f32 := ((cfgm m).win 10).stage ((cfgm m).slots t 10)
abbrev ms11 (t : Fin (cfgm m).N) : Memref sig .tc .vmem S1x512 .f32 := ((cfgm m).win 11).stage ((cfgm m).slots t 11)
abbrev ms12 (t : Fin (cfgm m).N) : Memref sig .tc .vmem S24x1 .f32 := ((cfgm m).win 12).stage ((cfgm m).slots t 12)
abbrev ms13 (t : Fin (cfgm m).N) : Memref sig .tc .vmem S1x12 .f32 := ((cfgm m).win 13).stage ((cfgm m).slots t 13)
abbrev ms14 (t : Fin (cfgm m).N) : Memref sig .tc .vmem S1x12 .f32 := ((cfgm m).win 14).stage ((cfgm m).slots t 14)

abbrev ib0 (c : Dev nD) (t : Fin (cfgm m).N) : Vec F S128256 .f32 := iblk m c 0 t
abbrev ib1 (c : Dev nD) (t : Fin (cfgm m).N) : Vec F S512x2048 .fp8e4m3 := iblk m c 1 t
abbrev ib2 (c : Dev nD) (t : Fin (cfgm m).N) : Vec F S1x512 .f32 := iblk m c 2 t
abbrev ib3 (c : Dev nD) (t : Fin (cfgm m).N) : Vec F S8x512 .f32 := iblk m c 3 t
abbrev ib4 (c : Dev nD) (t : Fin (cfgm m).N) : Vec F S8x512 .f32 := iblk m c 4 t
abbrev ib5 (c : Dev nD) (t : Fin (cfgm m).N) : Vec F S1x512 .i32 := iblk m c 5 t
abbrev ib6 (c : Dev nD) (t : Fin (cfgm m).N) : Vec F S1x512 .i32 := iblk m c 6 t
abbrev ib7 (c : Dev nD) (t : Fin (cfgm m).N) : Vec F S24x1 .f32 := iblk m c 7 t
abbrev ib8 (c : Dev nD) (t : Fin (cfgm m).N) : Vec F S1x12 .i32 := iblk m c 8 t
abbrev ib9 (c : Dev nD) (t : Fin (cfgm m).N) : Vec F S1x12 .i32 := iblk m c 9 t

/-- The scales. -/
abbrev scl (c : Dev nD) : Vec F S128256 .f32 := V m c main_arg1

theorem ib0_eq (c : Dev nD) (t : Fin (cfgm m).N) : ib0 m c t = scl m c := by
  funext y
  refine congrArg (V m c main_arg1) (funext fun a => Fin.ext ?_)
  match a with
  | ⟨0, _⟩ =>
    show 0 * 128256 + 1 * (y 0).val = (y 0).val
    omega

/-! ## What a point leaves -/

/-- The targets' logits of point `t`. -/
def tgtB (c : Dev nD) (t : Fin (cfgm m).N) : Vec F S1x512 .f32 :=
  tgtAt (lab m c) (wds m c) (scl m c) (ib1 m c t) (ib2 m c t) ((cfgm m).grid.coords t)

/-- Its log probabilities. -/
def tokB (c : Dev nD) (t : Fin (cfgm m).N) : Vec F S1x512 .f32 := k0_pay58 (tgtB m c t) (ib3 m c t) (ib4 m c t)

/-- The sums past it. -/
def stepB (c : Dev nD) (t : Fin (cfgm m).N) (a : Vec F S24x128 .f32) : Vec F S24x128 .f32 :=
  accStep (ib3 m c t) (ib4 m c t) (ib5 m c t) (ib6 m c t) (tgtB m c t) a

/-- The sums after point `n`. -/
def accAt (c : Dev nD) : (n : ℕ) → n < (cfgm m).N → Vec F S24x128 .f32
  | 0, hn => stepB m c ⟨0, hn⟩ (k0_pay12 (F := F))
  | n + 1, hn => stepB m c ⟨n + 1, hn⟩ (accAt c n (Nat.lt_of_succ_lt hn))

/-- The sums before point `n`. -/
def accBef (c : Dev nD) : (n : ℕ) → n ≤ (cfgm m).N → Vec F S24x128 .f32
  | 0, _ => k0_pay12 (F := F)
  | n + 1, hn => accAt m c n hn

theorem accAt_eq (c : Dev nD) (n : ℕ) (hn : n < (cfgm m).N) : accAt m c n hn = stepB m c ⟨n, hn⟩ (accBef m c n (Nat.le_of_lt hn)) := by
  cases n <;> rfl

/-! ## The pipeline's invariant -/

/-- Before the first point both slots idle. -/
def start (c : Dev nD) : sProp 𝕄 :=
  iprop(idle c (wds m c) (qS 0) (semS 0) 0 ∗ idle c (wds m c) (qS 1) (semS 1) 1 ∗ owns (c : Thread nD τ) lbl fullShare.right (lab m c)
    ∗ (∃ x, owns (c : Thread nD τ) sc1 fullShare x) ∗ (∃ x, owns (c : Thread nD τ) sc2 fullShare x) ∗ (∃ x, owns (c : Thread nD τ) sc3 fullShare x))

def PhiS (c : Dev nD) : (n : ℕ) → n ≤ (cfgm m).N → sProp 𝕄
  | 0, _ => iprop(start m c ∗ (∃ r, prngReg c r))
  | n + 1, hn => iprop(inv c (lab m c) (wds m c) (scl m c) fullShare.right (n + 1) (accAt m c n hn) ∗ (∃ r, prngReg c r))

def dats (_ : Fin 1) (c : Dev nD) : Dat τ (Elt F) Unit ℕ (UD sig nD τ) ℕ (cfgm m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => tokB m c t
    | ⟨11, _⟩ => tgtB m c t
    | ⟨12, _⟩ => k0_pay4 (accAt m c t.val t.isLt)
    | ⟨13, _⟩ => lossVal (accAt m c t.val t.isLt) (ib8 m c t) (ib9 m c t) (ib7 m c t)
    | ⟨14, _⟩ => marginVal (accAt m c t.val t.isLt) (ib8 m c t) (ib9 m c t) (ib7 m c t)
  Φ t := PhiS m c t.val (Nat.le_of_lt_succ t.isLt)
  q _ := fullShare
  owed _ := 0

theorem A_eq (c : Dev nD) (w : Fin (cfgm m).W) : (dats m 0 c).A w = V m c (Pipeline.arrRef spec0 w) := by
  dsimp only [dats]

theorem PhiS_castSucc (c : Dev nD) (t : Fin (cfgm m).N) :
    (dats m 0 c).Φ t.castSucc = PhiS m c t.val (Nat.le_of_lt t.isLt) := by
  dsimp only [dats]; exact Pipeline.Dat.Φ_castSucc (PhiS m c) t

theorem PhiS_succ (c : Dev nD) (t : Fin (cfgm m).N) :
    (dats m 0 c).Φ t.succ = iprop(inv c (lab m c) (wds m c) (scl m c) fullShare.right (t.val + 1) (accAt m c t.val t.isLt) ∗ (∃ r, prngReg c r)) := rfl

theorem after0 (c : Dev nD) (t : Fin (cfgm m).N) : (dats m 0 c).after 0 t = iblk m c 0 t := rfl
theorem after1 (c : Dev nD) (t : Fin (cfgm m).N) : (dats m 0 c).after 1 t = iblk m c 1 t := rfl
theorem after2 (c : Dev nD) (t : Fin (cfgm m).N) : (dats m 0 c).after 2 t = iblk m c 2 t := rfl
theorem after3 (c : Dev nD) (t : Fin (cfgm m).N) : (dats m 0 c).after 3 t = iblk m c 3 t := rfl
theorem after4 (c : Dev nD) (t : Fin (cfgm m).N) : (dats m 0 c).after 4 t = iblk m c 4 t := rfl
theorem after5 (c : Dev nD) (t : Fin (cfgm m).N) : (dats m 0 c).after 5 t = iblk m c 5 t := rfl
theorem after6 (c : Dev nD) (t : Fin (cfgm m).N) : (dats m 0 c).after 6 t = iblk m c 6 t := rfl
theorem after7 (c : Dev nD) (t : Fin (cfgm m).N) : (dats m 0 c).after 7 t = iblk m c 7 t := rfl
theorem after8 (c : Dev nD) (t : Fin (cfgm m).N) : (dats m 0 c).after 8 t = iblk m c 8 t := rfl
theorem after9 (c : Dev nD) (t : Fin (cfgm m).N) : (dats m 0 c).after 9 t = iblk m c 9 t := rfl
theorem after10 (c : Dev nD) (t : Fin (cfgm m).N) : (dats m 0 c).after 10 t = tokB m c t := rfl
theorem after11 (c : Dev nD) (t : Fin (cfgm m).N) : (dats m 0 c).after 11 t = tgtB m c t := rfl
theorem after12 (c : Dev nD) (t : Fin (cfgm m).N) : (dats m 0 c).after 12 t = k0_pay4 (accAt m c t.val t.isLt) := rfl
theorem after13 (c : Dev nD) (t : Fin (cfgm m).N) : (dats m 0 c).after 13 t = lossVal (accAt m c t.val t.isLt) (ib8 m c t) (ib9 m c t) (ib7 m c t) := rfl
theorem after14 (c : Dev nD) (t : Fin (cfgm m).N) : (dats m 0 c).after 14 t = marginVal (accAt m c t.val t.isLt) (ib8 m c t) (ib9 m c t) (ib7 m c t) := rfl
theorem before0 (c : Dev nD) (t : Fin (cfgm m).N) (d) : (dats m 0 c).before 0 t d = ib0 m c t :=
  before0_0_of m (dats m 0 c) (A_eq m c 0) (after0 m c) t d
theorem before1 (c : Dev nD) (t : Fin (cfgm m).N) (d) : (dats m 0 c).before 1 t d = ib1 m c t :=
  before0_1_of m (dats m 0 c) (A_eq m c 1) (after1 m c) t d
theorem before2 (c : Dev nD) (t : Fin (cfgm m).N) (d) : (dats m 0 c).before 2 t d = ib2 m c t :=
  before0_2_of m (dats m 0 c) (A_eq m c 2) (after2 m c) t d
theorem before3 (c : Dev nD) (t : Fin (cfgm m).N) (d) : (dats m 0 c).before 3 t d = ib3 m c t :=
  before0_3_of m (dats m 0 c) (A_eq m c 3) (after3 m c) t d
theorem before4 (c : Dev nD) (t : Fin (cfgm m).N) (d) : (dats m 0 c).before 4 t d = ib4 m c t :=
  before0_4_of m (dats m 0 c) (A_eq m c 4) (after4 m c) t d
theorem before5 (c : Dev nD) (t : Fin (cfgm m).N) (d) : (dats m 0 c).before 5 t d = ib5 m c t :=
  before0_5_of m (dats m 0 c) (A_eq m c 5) (after5 m c) t d
theorem before6 (c : Dev nD) (t : Fin (cfgm m).N) (d) : (dats m 0 c).before 6 t d = ib6 m c t :=
  before0_6_of m (dats m 0 c) (A_eq m c 6) (after6 m c) t d
theorem before7 (c : Dev nD) (t : Fin (cfgm m).N) (d) : (dats m 0 c).before 7 t d = ib7 m c t :=
  before0_7_of m (dats m 0 c) (A_eq m c 7) (after7 m c) t d
theorem before8 (c : Dev nD) (t : Fin (cfgm m).N) (d) : (dats m 0 c).before 8 t d = ib8 m c t :=
  before0_8_of m (dats m 0 c) (A_eq m c 8) (after8 m c) t d
theorem before9 (c : Dev nD) (t : Fin (cfgm m).N) (d) : (dats m 0 c).before 9 t d = ib9 m c t :=
  before0_9_of m (dats m 0 c) (A_eq m c 9) (after9 m c) t d
theorem leaves0 (c : Dev nD) (t : Fin (cfgm m).N) : (dats m 0 c).leavesExact 0 t = owns (c : Thread nD τ) (ms0 m t) fullShare (ib0 m c t) := by
  rw [show (dats m 0 c).leavesExact 0 t = owns (c : Thread nD τ) (ms0 m t) fullShare ((dats m 0 c).after 0 t) from rfl, after0]
theorem leaves1 (c : Dev nD) (t : Fin (cfgm m).N) : (dats m 0 c).leavesExact 1 t = owns (c : Thread nD τ) (ms1 m t) fullShare (ib1 m c t) := by
  rw [show (dats m 0 c).leavesExact 1 t = owns (c : Thread nD τ) (ms1 m t) fullShare ((dats m 0 c).after 1 t) from rfl, after1]
theorem leaves2 (c : Dev nD) (t : Fin (cfgm m).N) : (dats m 0 c).leavesExact 2 t = owns (c : Thread nD τ) (ms2 m t) fullShare (ib2 m c t) := by
  rw [show (dats m 0 c).leavesExact 2 t = owns (c : Thread nD τ) (ms2 m t) fullShare ((dats m 0 c).after 2 t) from rfl, after2]
theorem leaves3 (c : Dev nD) (t : Fin (cfgm m).N) : (dats m 0 c).leavesExact 3 t = owns (c : Thread nD τ) (ms3 m t) fullShare (ib3 m c t) := by
  rw [show (dats m 0 c).leavesExact 3 t = owns (c : Thread nD τ) (ms3 m t) fullShare ((dats m 0 c).after 3 t) from rfl, after3]
theorem leaves4 (c : Dev nD) (t : Fin (cfgm m).N) : (dats m 0 c).leavesExact 4 t = owns (c : Thread nD τ) (ms4 m t) fullShare (ib4 m c t) := by
  rw [show (dats m 0 c).leavesExact 4 t = owns (c : Thread nD τ) (ms4 m t) fullShare ((dats m 0 c).after 4 t) from rfl, after4]
theorem leaves5 (c : Dev nD) (t : Fin (cfgm m).N) : (dats m 0 c).leavesExact 5 t = owns (c : Thread nD τ) (ms5 m t) fullShare (ib5 m c t) := by
  rw [show (dats m 0 c).leavesExact 5 t = owns (c : Thread nD τ) (ms5 m t) fullShare ((dats m 0 c).after 5 t) from rfl, after5]
theorem leaves6 (c : Dev nD) (t : Fin (cfgm m).N) : (dats m 0 c).leavesExact 6 t = owns (c : Thread nD τ) (ms6 m t) fullShare (ib6 m c t) := by
  rw [show (dats m 0 c).leavesExact 6 t = owns (c : Thread nD τ) (ms6 m t) fullShare ((dats m 0 c).after 6 t) from rfl, after6]
theorem leaves7 (c : Dev nD) (t : Fin (cfgm m).N) : (dats m 0 c).leavesExact 7 t = owns (c : Thread nD τ) (ms7 m t) fullShare (ib7 m c t) := by
  rw [show (dats m 0 c).leavesExact 7 t = owns (c : Thread nD τ) (ms7 m t) fullShare ((dats m 0 c).after 7 t) from rfl, after7]
theorem leaves8 (c : Dev nD) (t : Fin (cfgm m).N) : (dats m 0 c).leavesExact 8 t = owns (c : Thread nD τ) (ms8 m t) fullShare (ib8 m c t) := by
  rw [show (dats m 0 c).leavesExact 8 t = owns (c : Thread nD τ) (ms8 m t) fullShare ((dats m 0 c).after 8 t) from rfl, after8]
theorem leaves9 (c : Dev nD) (t : Fin (cfgm m).N) : (dats m 0 c).leavesExact 9 t = owns (c : Thread nD τ) (ms9 m t) fullShare (ib9 m c t) := by
  rw [show (dats m 0 c).leavesExact 9 t = owns (c : Thread nD τ) (ms9 m t) fullShare ((dats m 0 c).after 9 t) from rfl, after9]
theorem leaves10 (c : Dev nD) (t : Fin (cfgm m).N) : (dats m 0 c).leavesExact 10 t = owns (c : Thread nD τ) (ms10 m t) fullShare (tokB m c t) := by
  rw [show (dats m 0 c).leavesExact 10 t = owns (c : Thread nD τ) (ms10 m t) fullShare ((dats m 0 c).after 10 t) from rfl, after10]
theorem leaves11 (c : Dev nD) (t : Fin (cfgm m).N) : (dats m 0 c).leavesExact 11 t = owns (c : Thread nD τ) (ms11 m t) fullShare (tgtB m c t) := by
  rw [show (dats m 0 c).leavesExact 11 t = owns (c : Thread nD τ) (ms11 m t) fullShare ((dats m 0 c).after 11 t) from rfl, after11]
theorem leaves12 (c : Dev nD) (t : Fin (cfgm m).N) (h : t.val = 29) : (dats m 0 c).leavesExact 12 t = owns (c : Thread nD τ) (ms12 m t) fullShare (k0_pay4 (accAt m c t.val t.isLt)) := by
  rw [show (dats m 0 c).leavesExact 12 t = owns (c : Thread nD τ) (ms12 m t) fullShare ((dats m 0 c).after 12 t) from by
    unfold Dat.leavesExact; rw [live12 m t h]; rfl, after12]
theorem leaves13 (c : Dev nD) (t : Fin (cfgm m).N) (h : t.val = 29) : (dats m 0 c).leavesExact 13 t = owns (c : Thread nD τ) (ms13 m t) fullShare (lossVal (accAt m c t.val t.isLt) (ib8 m c t) (ib9 m c t) (ib7 m c t)) := by
  rw [show (dats m 0 c).leavesExact 13 t = owns (c : Thread nD τ) (ms13 m t) fullShare ((dats m 0 c).after 13 t) from by
    unfold Dat.leavesExact; rw [live13 m t h]; rfl, after13]
theorem leaves14 (c : Dev nD) (t : Fin (cfgm m).N) (h : t.val = 29) : (dats m 0 c).leavesExact 14 t = owns (c : Thread nD τ) (ms14 m t) fullShare (marginVal (accAt m c t.val t.isLt) (ib8 m c t) (ib9 m c t) (ib7 m c t)) := by
  rw [show (dats m 0 c).leavesExact 14 t = owns (c : Thread nD τ) (ms14 m t) fullShare ((dats m 0 c).after 14 t) from by
    unfold Dat.leavesExact; rw [live14 m t h]; rfl, after14]

/-! ## The body obligation -/

def bodyPre (c : Dev nD) (t : Fin (cfgm m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d))
    ∗ (∃ d, owns (c : Thread nD τ) (ms9 m t) fullShare ((dats m 0 c).before 9 t d))
    ∗ (∃ d, owns (c : Thread nD τ) (ms10 m t) fullShare ((dats m 0 c).before 10 t d))
    ∗ (∃ d, owns (c : Thread nD τ) (ms11 m t) fullShare ((dats m 0 c).before 11 t d))
    ∗ (∃ d, owns (c : Thread nD τ) (ms12 m t) fullShare ((dats m 0 c).before 12 t d))
    ∗ (∃ d, owns (c : Thread nD τ) (ms13 m t) fullShare ((dats m 0 c).before 13 t d))
    ∗ (∃ d, owns (c : Thread nD τ) (ms14 m t) fullShare ((dats m 0 c).before 14 t d)))

def bodyPost (c : Dev nD) (t : Fin (cfgm m).N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

abbrev bodyAt (t : Fin (cfgm m).N) : BodyProg F :=
  cc0_finish ((cfgm m).grid.coords t) (Memref.whole main_v4) (Memref.isWhole_whole _) (ms0 m t) (hstage0_0 (((cfgm m).slots t 0).cast nbuf0_0)) (Memref.whole main_v2) (Memref.isWhole_whole _)
    (ms1 m t) (hstage0_1 (((cfgm m).slots t 1).cast nbuf0_1))
    (ms2 m t) (hstage0_2 (((cfgm m).slots t 2).cast nbuf0_2))
    (ms3 m t) (hstage0_3 (((cfgm m).slots t 3).cast nbuf0_3))
    (ms4 m t) (hstage0_4 (((cfgm m).slots t 4).cast nbuf0_4))
    (ms5 m t) (hstage0_5 (((cfgm m).slots t 5).cast nbuf0_5))
    (ms6 m t) (hstage0_6 (((cfgm m).slots t 6).cast nbuf0_6))
    (ms7 m t) (hstage0_7 (((cfgm m).slots t 7).cast nbuf0_7))
    (ms8 m t) (hstage0_8 (((cfgm m).slots t 8).cast nbuf0_8))
    (ms9 m t) (hstage0_9 (((cfgm m).slots t 9).cast nbuf0_9))
    (ms10 m t) (hstage0_10 (((cfgm m).slots t 10).cast nbuf0_10))
    (ms11 m t) (hstage0_11 (((cfgm m).slots t 11).cast nbuf0_11))
    (ms12 m t) (hstage0_12 (((cfgm m).slots t 12).cast nbuf0_12))
    (ms13 m t) (hstage0_13 (((cfgm m).slots t 13).cast nbuf0_13))
    (ms14 m t) (hstage0_14 (((cfgm m).slots t 14).cast nbuf0_14))
    (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

variable (hlab : ∀ c n, (labAt (lab m c) n).toNat < 128256)

include hlab in
/-- The first part of a point: from the invariant before it, its own initial fetch done if it is the first. -/
theorem init_any (c : Dev nD) (t : Fin (cfgm m).N) :
    iprop(PhiS m c t.val (Nat.le_of_lt t.isLt) ∗ owns (c : Thread nD τ) (ms0 m t) fullShare (scl m c))
      ⊢ bwp c (initK ((cfgm m).grid.coords t) lbl (ms0 m t) (Memref.whole main_v2) sc0 sc1 sc2 sc3 cc0_scratch4)
        (fun _ => iprop((inv c (lab m c) (wds m c) (scl m c) fullShare.right t.val (accBef m c t.val (Nat.le_of_lt t.isLt)) ∗ owns (c : Thread nD τ) (ms0 m t) fullShare (scl m c)) ∗ (∃ r, prngReg c r))) := by
  have hc := coords0 m t
  by_cases h : t.val = 0
  · obtain ⟨n, hn⟩ := t
    cases n with
    | succ n => exact absurd h (Nat.succ_ne_zero n)
    | zero =>
      unfold PhiS start accBef
      iintro ⟨⟨⟨H0, H1, HL, ⟨%x1, HS⟩, ⟨%x2, HH⟩, ⟨%x3, HA⟩⟩, Hg⟩, H2⟩
      iapply (conseq c _ _ _ (initK_first c (lab m c) (wds m c) (scl m c) fullShare.right (ms0 m ⟨0, hn⟩) ((cfgm m).grid.coords ⟨0, hn⟩) hc (hlab c) x1 x2 x3)) $$ [H0 H1 HL HS HH HA H2]
      · isplitl [H0]; · iexact H0
        isplitl [H1]; · iexact H1
        isplitl [HL]; · iexact HL
        isplitl [H2]; · iexact H2
        isplitl [HS]; · iexact HS
        isplitl [HH]; · iexact HH
        iexact HA
      iintro H
      isplitl [H]; · iexact H
      iexact Hg
  · refine BIBase.Entails.trans ?_ (initK_later c (ms0 m t) ((cfgm m).grid.coords t) (fun e => h (hc.symm.trans e)) _)
    obtain ⟨n, hn⟩ := t
    cases n with
    | zero => exact absurd rfl h
    | succ n =>
      unfold PhiS accBef
      iintro ⟨⟨HI, Hg⟩, H2⟩
      isplitr [Hg]
      · isplitl [HI]; · iexact HI
        iexact H2
      iexact Hg

include hlab in
set_option maxHeartbeats 1000000 in
/-- The body at any point. -/
theorem sound_body (c : Dev nD) (t : Fin (cfgm m).N) :
    bodyPre m c t ⊢ bwp c (bodyAt m t) (fun _ => bodyPost m c t) := by
  have hc := coords0 m t
  unfold bodyPre
  simp only [before0, before1, before2, before3, before4, before5, before6, before7, before8, before9]
  rw [PhiS_castSucc, show bodyAt m t = _ from body_eq _ _ _ _ _ _ _ _ _ _ _ _ _ _ _ _ _ _ _ _ _ _ _ _ _ _ _ _ _ _ _ _ _ _ _ _ _ _ _ _ _ _ _ _]
  iintro ⟨HP, ⟨%Wt, %hWt, Ho⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  rw [show ib0 m c t = scl m c from ib0_eq m c t]
  iapply (stage c _ _ _ _ (init_any m hlab c t) _) $$ [HP H0]
  · isplitl [HP]; · iexact HP
    iexact H0
  iintro ⟨⟨HI, H0⟩, Hg⟩
  iapply (fetched_wp c (lab m c) (wds m c) (scl m c) fullShare.right (ms0 m t) ((cfgm m).grid.coords t) (hlab c) (accBef m c t.val (Nat.le_of_lt t.isLt)) _ _) $$ [HI H0 Ho]
  · rw [hc]
    isplitl [HI]; · iexact HI
    isplitl [H0]; · iexact H0
    iexists Wt; iexact Ho
  iintro ⟨HM, H0, ⟨%Wt', Ho⟩⟩
  iapply (main_wp c (lab m c) (wds m c) (scl m c) fullShare.right (ms1 m t) (ms2 m t) (ms3 m t) (ms4 m t) (ms5 m t) (ms6 m t) (ms7 m t) (ms8 m t) (ms9 m t) (ms10 m t) (ms11 m t) (ms12 m t) (ms13 m t) (ms14 m t)
    (ib1 m c t) (ib2 m c t) (ib3 m c t) (ib4 m c t) (ib5 m c t) (ib6 m c t) ((cfgm m).grid.coords t) (accBef m c t.val (Nat.le_of_lt t.isLt)) ((dats m 0 c).before 10 t d10) ((dats m 0 c).before 11 t d11) _) $$ [HM H1 H2 H3 H4 H5 H6 H10 H11]
  · isplitl [HM]; · iexact HM
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [H10]; · iexact H10
    iexact H11
  rw [show accStep (ib3 m c t) (ib4 m c t) (ib5 m c t) (ib6 m c t) (tgtAt (lab m c) (wds m c) (scl m c) (ib1 m c t) (ib2 m c t) ((cfgm m).grid.coords t)) (accBef m c t.val (Nat.le_of_lt t.isLt))
    = accAt m c t.val t.isLt from (accAt_eq m c t.val t.isLt).symm]
  rw [show k0_pay58 (tgtAt (lab m c) (wds m c) (scl m c) (ib1 m c t) (ib2 m c t) ((cfgm m).grid.coords t)) (ib3 m c t) (ib4 m c t) = tokB m c t from rfl,
    show tgtAt (lab m c) (wds m c) (scl m c) (ib1 m c t) (ib2 m c t) ((cfgm m).grid.coords t) = tgtB m c t from rfl, hc]
  iintro ⟨HI, ⟨H1, H2, H3, H4, H5, H6⟩, H10, H11⟩
  unfold bodyPost
  rw [PhiS_succ, leaves0, leaves1, leaves2, leaves3, leaves4, leaves5, leaves6, leaves7, leaves8, leaves9, leaves10, leaves11,
    show ib0 m c t = scl m c from ib0_eq m c t]
  by_cases h : t.val = 29
  · rw [leaves12 m c t h, leaves13 m c t h, leaves14 m c t h]
    unfold inv
    icases HI with ⟨HC, HD, HL, HS, HH, HA⟩
    iapply (last_wp c ((cfgm m).grid.coords t) (ms7 m t) (ms8 m t) (ms9 m t) (ms12 m t) (ms13 m t) (ms14 m t) sc3 ((cond3_iff _).mpr (hc.trans h)) (accAt m c t.val t.isLt) (ib7 m c t) (ib8 m c t) (ib9 m c t)
      ((dats m 0 c).before 12 t d12) ((dats m 0 c).before 13 t d13) ((dats m 0 c).before 14 t d14) _) $$ [HA H7 H8 H9 H12 H13 H14]
    · isplitl [HA]; · iexact HA
      isplitl [H7]; · iexact H7
      isplitl [H8]; · iexact H8
      isplitl [H9]; · iexact H9
      isplitl [H12]; · iexact H12
      isplitl [H13]; · iexact H13
      iexact H14
    iintro ⟨HA, H7, H8, H9, H12, H13, H14⟩
    isplitl [HC HD HL HS HH HA Hg]
    · isplitr [Hg]
      · isplitl [HC]; · iexact HC
        isplitl [HD]; · iexact HD
        isplitl [HL]; · iexact HL
        isplitl [HS]; · iexact HS
        isplitl [HH]; · iexact HH
        iexact HA
      iexact Hg
    isplitl [Ho]
    · iexists Wt'
      isplitr [Ho]; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [Dat.leavesExact_idle (dats m 0 c) 12 t (idle12 m t h) (noFlush12 m t h), Dat.leavesExact_idle (dats m 0 c) 13 t (idle13 m t h) (noFlush13 m t h), Dat.leavesExact_idle (dats m 0 c) 14 t (idle14 m t h) (noFlush14 m t h)]
    iapply (last_skip c (ms7 m t) (ms8 m t) (ms9 m t) (ms12 m t) (ms13 m t) (ms14 m t) ((cfgm m).grid.coords t) (fun e => h (hc.symm.trans e)) _)
    isplitl [HI Hg]
    · isplitl [HI]; · iexact HI
      iexact Hg
    isplitl [Ho]
    · iexists Wt'
      isplitr [Ho]; · ipureintro; exact fun _ _ => Or.inl trivial
      iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists d12; iexact H12
    isplitl [H13]; · iexists d13; iexact H13
    iexists d14; iexact H14

theorem defs₀_row (t : Fin (cfgm m).N) :
    defs₀ (F := F) .tc (cfgm m).body ((cfgm m).bodyArgs t ((cfgm m).slots t)) = bodyAt m t := by
  unfold defs₀; rw [Defs.onTc_tc]; rfl

include hlab in
theorem body_obligation (c : Dev nD) : BodyObligation (dats (F := F) m 0 c) (defs₀ (F := F)) Variants.none () Set.univ := fun t => by
  rw [bigSep_W0, bigSep_W0, defs₀_row]
  exact triple_restated (sound_body m hlab c t) rfl .rfl fun _ => .rfl

end Cert.FinishIdeal.Gen

end
-- ==== Proof.FinishIdeal.Final.lean ====
/- The run of the whole program: from the entry's memory to the end, the arguments unchanged and every semaphore at zero. -/
module

public import proofs.«01_k».proof.Proof.FinishIdeal.Frame

@[expose] public section

set_option maxRecDepth 16384

noncomputable section

namespace Cert.FinishIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD Dat Cfg Window BodyObligation cellOf)

variable {F : FTy → Type} [FloatOps F] [Named F]

local notation "𝕄" => MT nD τ sig Unit (Elt F) ℕ (UD sig nD τ) ℕ

variable (m : (ℓ : Loc nD τ sig) → Buf (Elt F) ℓ) (ρ : Dev nD → PrngReg)

/-- The kernel's own semaphores, one a slot. -/
def osem (k : Fin 2) : SemLoc sig := SemLoc.dma (semS k.val)

theorem osemFacts : Pipeline.OwnSemFacts spec0 osem := by decide

/-- The words the kernel reads itself. -/
abbrev hbmRefs : Finset (Ref sig .tc) := {main_v2}

theorem hbmRefs_sub : hbmRefs ⊆ Pipeline.restRefsP sig pre0 spec0 := by decide

theorem ownSems_eq (c : Dev nD) :
    (Pipeline.ownSems0 (Ix := Unit) (Name := ℕ) (U := UD sig nD τ) (Lvl := ℕ) (Val := Elt F) (τ := τ) osem c : sProp 𝕄)
      = iprop(semVal ((c : Thread nD τ), SemLoc.dma (semS 0)) 0 ∗ semVal ((c : Thread nD τ), SemLoc.dma (semS 1)) 0) :=
  bigSep_univ_eq_bigSepL [(0 : Fin 2), (1 : Fin 2)] (by decide) (by decide) _

theorem words_eq (c : Dev nD) :
    (bigSep hbmRefs (fun b => ((c : Thread nD τ).loc b) ↦{fullShare} V m c b) : sProp 𝕄) = (wordsL c ↦[Finset.univ]{fullShare} wds m c) :=
  bigSep_singleton

theorem table_eq (c : Dev nD) :
    (Pipeline.ΦT (pcfgs (F := F) 0).pre (adm m 0).1 c : sProp 𝕄) = owns (c : Thread nD τ) lbl fullShare.right (lab m c) := by
  rw [owns_whole, show (Pipeline.ΦT (pcfgs (F := F) 0).pre (adm m 0).1 c : sProp 𝕄)
      = bigSep (Finset.univ : Finset (Fin 1)) fun k => ((c.tc : Thread nD τ).loc (pre0.ref k)) ↦{fullShare.right} (adm m 0).1 k from rfl,
    show (Finset.univ : Finset (Fin 1)) = {0} from rfl, bigSep_singleton]
  rw [← hpf m c 0]
  rfl

theorem hin (c : Dev nD) : iprop(Pipeline.ΦD osem (cfgm m).spec hbmRefs (V m) c ∗ Pipeline.ΦT (pcfgs (F := F) 0).pre (adm m 0).1 c) ⊢ (dats m 0 c).Φ 0 := by
  rw [show (dats m 0 c).Φ 0 = iprop(start m c ∗ (∃ r, prngReg c r)) from rfl, table_eq, Pipeline.ΦD_eq,
    show Pipeline.scopedRest (Ix := Unit) (Name := ℕ) (U := UD sig nD τ) (Lvl := ℕ) (Val := Elt F) (cfgm m).spec c = _ from scopedRest0_eq c, ownSems_eq, words_eq]
  unfold start idle
  iintro ⟨⟨⟨⟨%f0, HR⟩, ⟨%f1, HS⟩, ⟨%f2, HH⟩, ⟨%f3, HA⟩⟩, Hg, ⟨HV0, HV1⟩, HW⟩, HL⟩
  ihave HW := (pointsTo_share (PosShare.mem_left_op_right _)).1 $$ HW
  icases HW with ⟨HW0, HW1⟩
  ihave HR := (show ((c : Thread nD τ).loc cc0_scratch0 ↦{fullShare} f0 : sProp 𝕄) ⊢ (rowsL c ↦[slotSet 0 ∪ slotSet 1]{fullShare} f0) from by rw [slots_union]) $$ HR
  ihave HR := (pointsTo_union slots_disjoint).1 $$ HR
  icases HR with ⟨HR0, HR1⟩
  isplitr [Hg]
  · isplitl [HR0 HV0 HW0]
    · isplitl [HR0]; · iexists f0; iexact HR0
      isplitl [HV0]; · iexact HV0
      iexact HW0
    isplitl [HR1 HV1 HW1]
    · isplitl [HR1]; · iexists f0; iexact HR1
      isplitl [HV1]; · iexact HV1
      iexact HW1
    isplitl [HL]; · iexact HL
    isplitl [HS]; · iexists f1; rw [owns_whole]; iexact HS
    isplitl [HH]; · iexists f2; rw [owns_whole]; iexact HH
    iexists f3; rw [owns_whole]; iexact HA
  iexact Hg

theorem hout (c : Dev nD) : (dats m 0 c).Φ (Fin.last (cfgm m).N) ⊢ Pipeline.ΦD osem (cfgm m).spec hbmRefs (V m) c := by
  rw [show (dats m 0 c).Φ (Fin.last (cfgm m).N)
      = iprop(inv c (lab m c) (wds m c) (scl m c) fullShare.right 30 (accAt m c 29 (by decide : 29 < grid0.N)) ∗ (∃ r, prngReg c r)) from rfl, Pipeline.ΦD_eq,
    show Pipeline.scopedRest (Ix := Unit) (Name := ℕ) (U := UD sig nD τ) (Lvl := ℕ) (Val := Elt F) (cfgm m).spec c = _ from scopedRest0_eq c, ownSems_eq, words_eq]
  unfold inv
  rw [cur_ge _ _ _ 30 (by decide)]
  unfold idle
  iintro ⟨⟨⟨⟨%f0, HR0⟩, HV0, HW0⟩, ⟨⟨%f1, HR1⟩, HV1, HW1⟩, -, ⟨%x1, %h1, HS⟩, ⟨%x2, %h2, HH⟩, HA⟩, Hg⟩
  isplitl [HR0 HR1 HS HH HA]
  · isplitl [HR0 HR1]
    · ihave HR := (pointsTo_join (ℓ := rowsL c) (q := fullShare) slots_disjoint) $$ [HR0 HR1]
      · isplitl [HR0]; · iexact HR0
        iexact HR1
      iexists _
      rw [show (Finset.univ : Finset S2x512x2048.Idx) = slotSet 0 ∪ slotSet 1 from slots_union.symm]
      iexact HR
    isplitl [HS]; · iexists x1; rw [← owns_whole]; iexact HS
    isplitl [HH]; · iexists x2; rw [← owns_whole]; iexact HH
    iexists _; rw [← owns_whole]; iexact HA
  isplitl [Hg]; · iexact Hg
  isplitl [HV0 HV1]
  · isplitl [HV0]; · iexact HV0
    iexact HV1
  iapply (pointsTo_share (PosShare.mem_left_op_right _)).2
  isplitl [HW0]; · iexact HW0
  iexact HW1

/-! ## The run -/

variable (hlab : ∀ c n, (labAt (lab m c) n).toNat < 128256)

include hlab in
set_option backward.isDefEq.respectTransparency.types false in
theorem run_main_quiescent : θ_run defs (onTc (τ := τ) (main (F := F))) (s₀ m ρ)
    (fun r => Pipeline.FramePost (Pipeline.pin pcfgs (adm m)) (dats m) 0 (V m) r ∧ r.2.sem = fun _ => 0) :=
  Pipeline.θ_run_frameP_dma (Q' := _) pcfgs (adm m) (dats m) (0 : Fin 1) launch0 osem defs₀ Variants.none osemFacts hbmRefs hbmRefs_sub m ρ main
    (hbody := fun c => (body_obligation m hlab c).loose) (hshare := fun c => (dats m 0 c).share_full fun _ => rfl)
    (howed := fun _ _ => rfl) (V := V m) (hmain := hmain m Variants.none) (hA := A_eq m) (hpf := hpf m) (hin := hin m) (hout := hout m)
    (hQ' := fun _ h => h)

/-- A buffer that is no array of a window's ends as the host operations left it. -/
theorem rest_end (c : Dev nD) (b : Ref sig .tc) (hb : b ∈ Pipeline.restRefs sig spec0) (r : PUnit × MemSt nD τ sig (Elt F))
    (h : Pipeline.FramePost (Pipeline.pin pcfgs (adm m)) (dats m) 0 (V m) r) : r.2.mem ((c : Thread nD τ).loc b) = V m c b :=
  (h c).2 b hb

include hlab in
/-- The frame: the arguments end unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => ⟨
    (rest_end m c main_arg0 (Pipeline.mem_restRefs_of main_arg0 (by decide) (by decide)) r h.1).trans (V_main_arg0 m c),
    ((h.1 c).1 0).trans (((dats m 0 c).arrAt_in 0 rfl _).trans ((A_eq m c 0).trans (V_main_arg1 m c))),
    (rest_end m c main_arg2 (Pipeline.mem_restRefs_of main_arg2 (by decide) (by decide)) r h.1).trans (V_main_arg2 m c),
    (rest_end m c main_arg3 (Pipeline.mem_restRefs_of main_arg3 (by decide) (by decide)) r h.1).trans (V_main_arg3 m c),
    (rest_end m c main_arg4 (Pipeline.mem_restRefs_of main_arg4 (by decide) (by decide)) r h.1).trans (V_main_arg4 m c),
    ((h.1 c).1 3).trans (((dats m 0 c).arrAt_in 3 rfl _).trans ((A_eq m c 3).trans (V_main_arg5 m c))),
    ((h.1 c).1 4).trans (((dats m 0 c).arrAt_in 4 rfl _).trans ((A_eq m c 4).trans (V_main_arg6 m c))),
    (rest_end m c main_arg7 (Pipeline.mem_restRefs_of main_arg7 (by decide) (by decide)) r h.1).trans (V_main_arg7 m c),
    (rest_end m c main_arg8 (Pipeline.mem_restRefs_of main_arg8 (by decide) (by decide)) r h.1).trans (V_main_arg8 m c),
    (rest_end m c main_arg9 (Pipeline.mem_restRefs_of main_arg9 (by decide) (by decide)) r h.1).trans (V_main_arg9 m c),
    (rest_end m c main_arg10 (Pipeline.mem_restRefs_of main_arg10 (by decide) (by decide)) r h.1).trans (V_main_arg10 m c),
    (rest_end m c main_arg11 (Pipeline.mem_restRefs_of main_arg11 (by decide) (by decide)) r h.1).trans (V_main_arg11 m c)⟩, h.2⟩) (run_main_quiescent m ρ hlab)

end Cert.FinishIdeal.Gen

end
-- ==== Proof.FinishIdeal.Dots.lean ====
/- What the kernel's vector expressions are at a place: a token's logit out of its label's words, its log-probability, and what
   it gives to every sequence. -/
module

public import proofs.«01_k».proof.Proof.FinishTerms
public import proofs.«01_k».proof.Proof.FinishIdeal.Final

@[expose] public section

set_option maxRecDepth 16384

noncomputable section

namespace Cert.FinishIdeal.Gen

open Idealize.ShloMosaic Idealize.ShloMosaic.TcCoe Idealize.ShloMosaic.ValueIdx
open Cert.FinishTerms Cert.SoftMath
open scoped BigOperators

/-! ## Sums by blocks -/

/-- A sum over `a` blocks of `b`. -/
theorem sum_blocks {M : Type} [AddCommMonoid M] (a b N : ℕ) (hN : N = a * b) (f : ℕ → M) :
    (∑ k : Fin N, f k.val) = ∑ j : Fin a, ∑ l : Fin b, f (b * j.val + l.val) := by
  subst hN
  rw [← Finset.sum_product', Finset.univ_product_univ, ← Equiv.sum_comp finProdFinEquiv]
  refine Finset.sum_congr rfl fun p _ => congrArg f ?_
  show p.2.val + b * p.1.val = b * p.1.val + p.2.val
  omega

theorem cols_sum (f : Fin 16 → EReal) : (cols.map f).sum = ∑ j : Fin 16, f j := by
  have e : cols = List.finRange 16 := by decide
  rw [e, ← List.ofFn_eq_map, List.sum_ofFn]

/-! ## A byte of a word -/

/-- The byte of `w` that the shift `s` brings down. -/
def byteOf (w s : BitVec 32) : BitVec 8 := (IntOp.shrui .vector w s).setWidth 8

theorem codeVal_apply (sh w : Vec Ideal S1x128x128 .i32) (i l : Fin 128) :
    codeVal (F := Ideal) sh w (ix2 i l) = codeOf (byteOf (w (ix3 (0 : Fin 1) i l)) (sh (ix3 (0 : Fin 1) i l))) := by
  have e : ∀ x : Vec Ideal S1x128x128 .i32, shapeCast S128x128 x shapeCasts_S1x128x128_S128x128 (ix2 i l) = x (ix3 (0 : Fin 1) i l) :=
    fun x => shapeCast_1ab_ab_apply (a := 128) (b := 128) _ _ i l
  show Ideal.ofBits .fp8e4m3 (BitVec.setWidth 8 (IntOp.shrui .vector (shapeCast S128x128 w shapeCasts_S1x128x128_S128x128 (ix2 i l)) (shapeCast S128x128 sh shapeCasts_S1x128x128_S128x128 (ix2 i l)))) = _
  rw [e, e]
  rfl

theorem dotVal_apply (sh : Vec Ideal S1x128x128 .i32) (acc : FVec Ideal S128x128 .f32) (w : Vec Ideal S1x128x128 .i32) (h : Vec Ideal S128x128 .fp8e4m3) (i l : Fin 128) :
    dotVal (F := Ideal) sh acc w h (ix2 i l) = acc (ix2 i l) + codeOf (byteOf (w (ix3 (0 : Fin 1) i l)) (sh (ix3 (0 : Fin 1) i l))) * h (ix2 i l) := by
  show acc (ix2 i l) + codeVal (F := Ideal) sh w (ix2 i l) * shapeCast S128x128 h shapeCasts_S128x128_S128x128 (ix2 i l) = _
  rw [codeVal_apply, shapeCast_self]

theorem rowVal_apply (acc : FVec Ideal S128x128 .f32) (sc : Vec Ideal S1x128x128 .f32) (hs : Vec Ideal S1x128 .f32) (u : Fin 1) (i : Fin 128) :
    rowVal (F := Ideal) acc sc hs (ix2 u i) = (∑ l : Fin 128, acc (ix2 i l) * sc (ix3 (0 : Fin 1) i l)) * hs (ix2 u i) := by
  show shapeCast S1x128 (multiReduction .add [0] S128 (transpose S128x128 [1, 0] (mulf acc (shapeCast S128x128 sc shapeCasts_S1x128x128_S128x128)) transposes_S128x128_p1_0_S128x128) 0x00000000#32 reduces_S128x128_S128 (.inl rfl) rfl) shapeCasts_S128_S1x128 (ix2 u i)
      * shapeCast S1x128 hs shapeCasts_S1x128_S1x128 (ix2 u i) = _
  rw [shapeCast_self]
  refine congrArg (· * hs (ix2 u i)) ?_
  refine (shapeCast_a_1a_apply (a := 128) _ _ u i).trans ((Ideal.multiReduction_add_single _ _ _ _ _ (ix1 i)).trans ?_)
  refine Finset.sum_congr rfl fun l _ => ?_
  have ei : reduces_S128x128_S128.lift (ix1 i) l = (ix2 l i : S128x128.Idx) := funext fun a => Fin.ext (by
    match a with
    | ⟨0, _⟩ => rfl
    | ⟨1, _⟩ => rfl)
  refine (congrArg _ ei).trans ((transpose_ix2_apply _ _ _ _).trans ?_)
  exact congrArg (acc (ix2 i l) * ·) (shapeCast_1ab_ab_apply (a := 128) (b := 128) _ _ i l)

/-! ## A token's logit -/

section Logit

variable (i : grid0.Coords) (x4 : Vec Ideal S512x2048 .fp8e4m3) (x5 : Vec Ideal S1x512 .f32) (x18 : Vec Ideal S2x512x2048 .i32)
  (x19 : Vec Ideal S2x512x128 .f32) (x20 : Vec Ideal S2x512x128 .i32)

/-- The slot of the point's rows. -/
def slotF : Fin 2 := ⟨slotW i, by rw [slotW_eq]; omega⟩

theorem winSc_apply {α : Type} (x : S2x512x128.Idx → α) (r : Fin 4) (u : Fin 1) (t l : Fin 128) :
    VecWindow.window x ![slotW i, 128 * r.val, 0] S1x128x128.size (inbSc i r) (ix3 u t l) = x (ix3 (slotF i) (⟨128 * r.val + t.val, by omega⟩ : Fin 512) l) :=
  congrArg x (funext fun a => Fin.ext (by
    match a with
    | ⟨0, _⟩ => show slotW i + 1 * u.val = slotW i; omega
    | ⟨1, _⟩ => show 128 * r.val + 1 * t.val = 128 * r.val + t.val; omega
    | ⟨2, _⟩ => show 0 + 1 * l.val = l.val; omega))

theorem winRw_apply (r : Fin 4) (j : Fin 16) (u : Fin 1) (t l : Fin 128) :
    VecWindow.window x18 ![slotW i, 128 * r.val, 128 * j.val] S1x128x128.size (inbRw i r j) (ix3 u t l)
      = x18 (ix3 (slotF i) (⟨128 * r.val + t.val, by omega⟩ : Fin 512) (⟨128 * j.val + l.val, by omega⟩ : Fin 2048)) :=
  congrArg x18 (funext fun a => Fin.ext (by
    match a with
    | ⟨0, _⟩ => show slotW i + 1 * u.val = slotW i; omega
    | ⟨1, _⟩ => show 128 * r.val + 1 * t.val = 128 * r.val + t.val; omega
    | ⟨2, _⟩ => show 128 * j.val + 1 * l.val = 128 * j.val + l.val; omega))

theorem winHh_apply (r : Fin 4) (j : Fin 16) (t l : Fin 128) :
    VecWindow.window x4 ![128 * r.val, 128 * j.val] S128x128.size (inbHh r j) (ix2 t l)
      = x4 (ix2 (⟨128 * r.val + t.val, by omega⟩ : Fin 512) (⟨128 * j.val + l.val, by omega⟩ : Fin 2048)) :=
  congrArg x4 (funext fun a => Fin.ext (by
    match a with
    | ⟨0, _⟩ => show 128 * r.val + 1 * t.val = 128 * r.val + t.val; omega
    | ⟨1, _⟩ => show 128 * j.val + 1 * l.val = 128 * j.val + l.val; omega))

theorem winTk_apply (r : Fin 4) (u : Fin 1) (t : Fin 128) :
    VecWindow.window x5 ![0, 128 * r.val] S1x128.size (inbTk r) (ix2 u t) = x5 (ix2 (0 : Fin 1) (⟨128 * r.val + t.val, by omega⟩ : Fin 512)) :=
  congrArg x5 (funext fun a => Fin.ext (by
    match a with
    | ⟨0, _⟩ => show 0 + 1 * u.val = 0; omega
    | ⟨1, _⟩ => show 128 * r.val + 1 * t.val = 128 * r.val + t.val; omega))

theorem accOf_apply (r : Fin 4) (sh : Vec Ideal S1x128x128 .i32) (js : List (Fin 16)) (acc : FVec Ideal S128x128 .f32) (t l : Fin 128) :
    accOf (F := Ideal) i r sh x18 x4 js acc (ix2 t l)
      = acc (ix2 t l) + (js.map fun j : Fin 16 =>
          codeOf (byteOf (x18 (ix3 (slotF i) (⟨128 * r.val + t.val, by omega⟩ : Fin 512) (⟨128 * j.val + l.val, by omega⟩ : Fin 2048))) (sh (ix3 (0 : Fin 1) t l)))
            * x4 (ix2 (⟨128 * r.val + t.val, by omega⟩ : Fin 512) (⟨128 * j.val + l.val, by omega⟩ : Fin 2048))).sum := by
  unfold accOf
  induction js generalizing acc with
  | nil => simp
  | cons j js ih =>
    rw [List.foldl_cons, ih, List.map_cons, List.sum_cons, ← add_assoc]
    refine congrArg (· + _) ?_
    rw [dotVal_apply, winRw_apply, winHh_apply]

/-- A token's logit out of its row of words. -/
theorem tgtVal_apply (n : Fin 512) :
    tgtVal (F := Ideal) i x4 x5 x18 x19 x20 (ix2 (0 : Fin 1) n)
      = (∑ l : Fin 128, (∑ j : Fin 16, codeOf (byteOf (x18 (ix3 (slotF i) n (⟨128 * j.val + l.val, by omega⟩ : Fin 2048))) (x20 (ix3 (slotF i) n l)))
            * x4 (ix2 n (⟨128 * j.val + l.val, by omega⟩ : Fin 2048))) * x19 (ix3 (slotF i) n l)) * x5 (ix2 (0 : Fin 1) n) := by
  have hn : (⟨128 * (n.val / 128) + n.val % 128, by omega⟩ : Fin 512) = n := Fin.ext (by show 128 * (n.val / 128) + n.val % 128 = n.val; omega)
  show blkVal (F := Ideal) i ⟨n.val / 128, by omega⟩ x4 x5 x18 x19 x20 _ = _
  have ey : ∀ h, ((fun a => match a with
      | ⟨0, _⟩ => (ix2 (0 : Fin 1) n : S1x512.Idx) 0
      | ⟨1, _⟩ => ⟨n.val % 128, h⟩) : S1x128.Idx) = ix2 (0 : Fin 1) (⟨n.val % 128, by omega⟩ : Fin 128) := fun h => funext fun a => Fin.ext (by
    match a with
    | ⟨0, _⟩ => rfl
    | ⟨1, _⟩ => rfl)
  refine (congrArg (blkVal (F := Ideal) i ⟨n.val / 128, by omega⟩ x4 x5 x18 x19 x20) (ey (by omega))).trans ?_
  unfold blkVal
  refine (rowVal_apply _ _ _ _ _).trans ?_
  have e19 : ∀ l : Fin 128, VecWindow.window x19 ![slotW i, 128 * (⟨n.val / 128, by omega⟩ : Fin 4).val, 0] S1x128x128.size (inbSc i ⟨n.val / 128, by omega⟩)
      (ix3 (0 : Fin 1) (⟨n.val % 128, by omega⟩ : Fin 128) l) = x19 (ix3 (slotF i) n l) := fun l =>
    (winSc_apply i x19 ⟨n.val / 128, by omega⟩ 0 ⟨n.val % 128, by omega⟩ l).trans (congrArg (fun k => x19 (ix3 (slotF i) k l)) hn)
  have e20 : ∀ l : Fin 128, VecWindow.window x20 ![slotW i, 128 * (⟨n.val / 128, by omega⟩ : Fin 4).val, 0] S1x128x128.size (inbSc i ⟨n.val / 128, by omega⟩)
      (ix3 (0 : Fin 1) (⟨n.val % 128, by omega⟩ : Fin 128) l) = x20 (ix3 (slotF i) n l) := fun l =>
    (winSc_apply i x20 ⟨n.val / 128, by omega⟩ 0 ⟨n.val % 128, by omega⟩ l).trans (congrArg (fun k => x20 (ix3 (slotF i) k l)) hn)
  refine congrArg₂ (· * ·) (Finset.sum_congr rfl fun l _ => congrArg₂ (· * ·) ?_ (e19 l)) ((winTk_apply x5 _ _ _).trans (congrArg (fun k => x5 (ix2 (0 : Fin 1) k)) hn))
  refine (accOf_apply i x4 x18 _ _ _ _ _ l).trans ?_
  rw [e20 l, cols_sum]
  simp only [hn]
  refine Eq.trans ?_ (zero_add _)
  exact congrArg (· + _) Ideal.ofBits_zero_f32

end Logit

end Cert.FinishIdeal.Gen
-- ==== Proof.FinishIdeal.Pays.lean ====
/- What the kernel's remaining vector expressions are at a place: a token's log-probability, what it gives to every sequence, the
   sequences' sums, and what the pairs pick out of them. -/
module

public import proofs.«01_k».proof.Proof.FinishIdeal.Dots

@[expose] public section

set_option maxRecDepth 16384

noncomputable section

namespace Cert.FinishIdeal.Gen

open Idealize.ShloMosaic Idealize.ShloMosaic.TcCoe Idealize.ShloMosaic.ValueIdx
open Cert.FinishTerms Cert.SoftMath
open scoped BigOperators

theorem log2e_eq : (Named.named κ "log2_e" 0x3FB8AA3B#32 : Ideal .f32) = (((Real.log 2)⁻¹ : ℝ) : EReal) :=
  IdealRules.named_const.ideal_named_scalar _ _ _ _ rfl

theorem negInf_eq : Ideal.ofBits .f32 0xFF800000#32 = ⊥ := by
  simp [Ideal.ofBits, Ideal.ieee, -EReal.coe_mul]

/-! ## A token's log-probability -/

/-- The largest of eight maxima. -/
def topOf (x : FVec Ideal S8x512 .f32) : FVec Ideal S1x512 .f32 :=
  shapeCast S1x512 (multiReduction .maximumf [0] S512 x 0xFF800000#32 reduces_S8x512_S512 (.inl rfl) rfl) shapeCasts_S512_S1x512

theorem lift8 (n : Fin 512) (g : Fin 8) : reduces_S8x512_S512.lift (ix1 n) g = (ix2 g n : S8x512.Idx) := funext fun a => Fin.ext (by
  match a with
  | ⟨0, _⟩ => rfl
  | ⟨1, _⟩ => rfl)

theorem topOf_apply (x : FVec Ideal S8x512 .f32) (u : Fin 1) (n : Fin 512) : topOf x (ix2 u n) = Finset.univ.sup fun g : Fin 8 => x (ix2 g n) := by
  refine (shapeCast_a_1a_apply (a := 512) _ _ u n).trans ((Ideal.multiReduction_maximumf_single _ _ _ _ _ (ix1 n)).trans ?_)
  refine (congrArg (fun b => (Finset.univ : Finset (Fin 8)).fold max b _) negInf_eq).trans ?_
  exact Finset.fold_congr fun g _ => congrArg x (lift8 n g)

theorem pay58_apply (t : Vec Ideal S1x512 .f32) (x s : Vec Ideal S8x512 .f32) (u : Fin 1) (n : Fin 512) :
    k0_pay58 (F := Ideal) t x s (ix2 u n)
      = t (ix2 u n) - ((Finset.univ.sup fun g : Fin 8 => x (ix2 g n))
          + Ideal.log (∑ g : Fin 8, s (ix2 g n) * Ideal.exp (x (ix2 g n) - Finset.univ.sup fun g : Fin 8 => x (ix2 g n)))) := by
  refine congr (congrArg HSub.hSub (congrFun (shapeCast_self t _) _)) (congr (congrArg HAdd.hAdd (topOf_apply x u n)) (congrArg Ideal.log ?_))
  refine (shapeCast_a_1a_apply (a := 512) _ _ u n).trans ((Ideal.multiReduction_add_single _ _ _ _ _ (ix1 n)).trans ?_)
  refine Finset.sum_congr rfl fun g _ => (congrArg _ (lift8 n g)).trans ?_
  refine congrArg (s (ix2 g n) * ·) ?_
  have et : broadcastTo S8x512 (topOf x) broadcasts_S1x512_S8x512 (ix2 g n) = Finset.univ.sup fun g : Fin 8 => x (ix2 g n) :=
    (broadcastTo_1b_ab_apply (a := 8) (b := 512) _ _ g n).trans (topOf_apply x 0 n)
  rw [← et]
  refine Eq.trans ?_ (exp2_log2e _)
  exact congrArg (fun b => Ideal.exp2 ((x (ix2 g n) - broadcastTo S8x512 (topOf x) broadcasts_S1x512_S8x512 (ix2 g n)) * b)) log2e_eq

/-- What a token gives to a sequence. -/
theorem pay59_apply (t : Vec Ideal S1x512 .f32) (x s : Vec Ideal S8x512 .f32) (mk sg : Vec Ideal S1x512 .i32) (q : Fin 24) (n : Fin 512) :
    k0_pay59 (F := Ideal) t x s mk sg (ix2 q n)
      = if sg (ix2 (0 : Fin 1) n) = BitVec.ofNat 32 q.val then
          k0_pay58 (F := Ideal) t x s (ix2 (0 : Fin 1) n) * (FloatOps.sitofp (F := Ideal) .f32 (mk (ix2 (0 : Fin 1) n)) : EReal) else 0 := by
  have e1 : broadcastTo S24x512 (shapeCast S1x512 sg shapeCasts_S1x512_S1x512) broadcasts_S1x512_S24x512 (ix2 q n) = sg (ix2 (0 : Fin 1) n) := by
    rw [shapeCast_self]
    exact broadcastTo_1b_ab_apply (a := 24) (b := 512) _ _ q n
  have e2 : broadcastTo S24x512 (shapeCast S1x512 (mulf (k0_pay58 (F := Ideal) t x s) (sitofp .f32 (shapeCast S1x512 mk shapeCasts_S1x512_S1x512))) shapeCasts_S1x512_S1x512) broadcasts_S1x512_S24x512 (ix2 q n)
      = k0_pay58 (F := Ideal) t x s (ix2 (0 : Fin 1) n) * (FloatOps.sitofp (F := Ideal) .f32 (mk (ix2 (0 : Fin 1) n)) : EReal) := by
    rw [shapeCast_self, shapeCast_self]
    exact broadcastTo_1b_ab_apply (a := 24) (b := 512) _ _ q n
  show Scalar.select (IntOp.cmpi .eq (BitVec.ofNat 32 (0 * 24 + q.val)) (broadcastTo S24x512 (shapeCast S1x512 sg shapeCasts_S1x512_S1x512) broadcasts_S1x512_S24x512 (ix2 q n)))
    (broadcastTo S24x512 (shapeCast S1x512 (mulf (k0_pay58 (F := Ideal) t x s) (sitofp .f32 (shapeCast S1x512 mk shapeCasts_S1x512_S1x512))) shapeCasts_S1x512_S1x512) broadcasts_S1x512_S24x512 (ix2 q n))
    (Ideal.ofBits .f32 0x00000000#32) = _
  rw [e1, e2, Nat.zero_mul, Nat.zero_add]
  refine (select_eq (BitVec.ofNat 32 q.val) _ _ _).trans ?_
  refine if_congr eq_comm rfl Ideal.ofBits_zero_f32

/-! ## The sequences' sums -/

theorem slice_apply (v : FVec Ideal S24x512 .f32) (o : ℕ) (h : S24x512.Slices ![0, o] S24x128) (ho : o + 128 ≤ 512) (q : Fin 24) (l : Fin 128) :
    extractStridedSlice S24x128 ![0, o] v h (ix2 q l) = v (ix2 q (⟨o + l.val, by omega⟩ : Fin 512)) :=
  congrArg v (funext fun a => Fin.ext (by
    match a with
    | ⟨0, _⟩ => show 0 + q.val = q.val; omega
    | ⟨1, _⟩ => rfl))

theorem pay1_apply (v : FVec Ideal S24x512 .f32) (a : Vec Ideal S24x128 .f32) (q : Fin 24) (l : Fin 128) :
    k0_pay1 (F := Ideal) v a (ix2 q l) = a (ix2 q l) + ∑ j : Fin 4, v (ix2 q (⟨128 * j.val + l.val, by omega⟩ : Fin 512)) := by
  unfold k0_pay1
  refine (congrFun (shapeCast_self _ _) _).trans ?_
  refine congrArg (a (ix2 q l) + ·) ?_
  rw [Fin.sum_univ_four]
  refine congr (congrArg HAdd.hAdd (congr (congrArg HAdd.hAdd (congr (congrArg HAdd.hAdd ?_) ?_)) ?_)) ?_
  · refine (congr (congrArg HAdd.hAdd Ideal.ofBits_zero_f32) (slice_apply v 0 slices_S24x512_o0_0_S24x128 (by omega) q l)).trans (zero_add _)
  · exact slice_apply v 128 slices_S24x512_o0_128_S24x128 (by omega) q l
  · exact slice_apply v 256 slices_S24x512_o0_256_S24x128 (by omega) q l
  · exact slice_apply v 384 slices_S24x512_o0_384_S24x128 (by omega) q l

theorem pay12_apply (q : Fin 24) (l : Fin 128) : k0_pay12 (F := Ideal) (ix2 q l) = 0 := by
  unfold k0_pay12
  exact (congrFun (shapeCast_self _ _) _).trans Ideal.ofBits_zero_f32

theorem pay4_apply (a : Vec Ideal S24x128 .f32) (q : Fin 24) (u : Fin 1) : k0_pay4 (F := Ideal) a (ix2 q u) = ∑ l : Fin 128, a (ix2 q l) := by
  refine (shapeCast_apply _ _ _ (ix1 q) ?_).trans ((Ideal.multiReduction_add_single _ _ _ _ _ (ix1 q)).trans ?_)
  · refine (Shape.rowMajor_val_one (ix1 q)).trans (Eq.trans ?_ (Shape.rowMajor_val_two (ix2 q u)).symm)
    show q.val = q.val * 1 + u.val
    omega
  · refine Finset.sum_congr rfl fun l _ => congrArg a (funext fun b => Fin.ext ?_)
    match b with
    | ⟨0, _⟩ => rfl
    | ⟨1, _⟩ => rfl

/-! ## What the pairs pick -/

/-- The entries of `x` that the places `p` name. -/
def pickV (p : Vec Ideal S1x12 .i32) (x : FVec Ideal S24x1 .f32) : FVec Ideal S1x12 .f32 :=
  shapeCast S1x12 (multiReduction .add [0] S12 (select (cmpi .eq (iota .tc S24x12 32 [0] iota_S24x12_d0_w32) (broadcastTo S24x12 (shapeCast S1x12 p shapeCasts_S1x12_S1x12) broadcasts_S1x12_S24x12))
    (broadcastTo S24x12 (shapeCast S24x1 x shapeCasts_S24x1_S24x1) broadcasts_S24x1_S24x12) (broadcast S24x12 (Scalar.ofBits (F := Ideal) .f32 0x00000000#32))) 0x00000000#32 reduces_S24x12_S12 (.inl rfl) rfl) shapeCasts_S12_S1x12

theorem pickV_apply (p : Vec Ideal S1x12 .i32) (x : FVec Ideal S24x1 .f32) (u : Fin 1) (r : Fin 12) (h0 : 0 ≤ (p (ix2 (0 : Fin 1) r)).toInt) (h1 : (p (ix2 (0 : Fin 1) r)).toInt < 24) :
    pickV p x (ix2 u r) = x (ix2 (place 24 (by decide) (p (ix2 (0 : Fin 1) r))) (0 : Fin 1)) := by
  refine (shapeCast_a_1a_apply (a := 12) _ _ u r).trans ((Ideal.multiReduction_add_single _ _ _ _ _ (ix1 r)).trans ?_)
  refine Eq.trans (Finset.sum_congr rfl fun s _ => ?_) (sum_pick (fun s : Fin 24 => x (ix2 s (0 : Fin 1))) (place 24 (by decide) (p (ix2 (0 : Fin 1) r))))
  have ei : reduces_S24x12_S12.lift (ix1 r) s = (ix2 s r : S24x12.Idx) := funext fun b => Fin.ext (by
    match b with
    | ⟨0, _⟩ => rfl
    | ⟨1, _⟩ => rfl)
  refine (congrArg _ ei).trans ?_
  have e1 : broadcastTo S24x12 (shapeCast S1x12 p shapeCasts_S1x12_S1x12) broadcasts_S1x12_S24x12 (ix2 s r) = p (ix2 (0 : Fin 1) r) := by
    rw [shapeCast_self]
    exact broadcastTo_1b_ab_apply (a := 24) (b := 12) _ _ s r
  have e2 : broadcastTo S24x12 (shapeCast S24x1 x shapeCasts_S24x1_S24x1) broadcasts_S24x1_S24x12 (ix2 s r) = x (ix2 s (0 : Fin 1)) := by
    rw [shapeCast_self]
    refine congrArg x (funext fun b => Fin.ext ?_)
    match b with
    | ⟨0, _⟩ => rfl
    | ⟨1, _⟩ => rfl
  show Scalar.select (IntOp.cmpi .eq (BitVec.ofNat 32 (0 * 24 + s.val)) (broadcastTo S24x12 (shapeCast S1x12 p shapeCasts_S1x12_S1x12) broadcasts_S1x12_S24x12 (ix2 s r)))
    (broadcastTo S24x12 (shapeCast S24x1 x shapeCasts_S24x1_S24x1) broadcasts_S24x1_S24x12 (ix2 s r)) (Ideal.ofBits .f32 0x00000000#32) = _
  rw [e1, e2, Nat.zero_mul, Nat.zero_add]
  refine (select_eq (BitVec.ofNat 32 s.val) _ _ _).trans ?_
  have hp := place_of_lt 24 (by decide) _ h0 h1
  have hs : s.val < 24 := s.isLt
  have hiff : BitVec.ofNat 32 s.val = p (ix2 (0 : Fin 1) r) ↔ (s : Fin 24) = place 24 (by decide) (p (ix2 (0 : Fin 1) r)) := by
    constructor
    · intro h
      refine Fin.ext (Eq.trans ?_ hp.symm)
      rw [← h, BitVec.toNat_ofNat]
      omega
    · intro h
      apply BitVec.eq_of_toNat_eq
      rw [← hp, ← h, BitVec.toNat_ofNat]
      omega
  by_cases h : BitVec.ofNat 32 s.val = p (ix2 (0 : Fin 1) r)
  · rw [if_pos h]; exact (if_pos (hiff.mp h)).symm
  · rw [if_neg h]; exact Ideal.ofBits_zero_f32.trans (if_neg fun h' => h (hiff.mpr h')).symm

theorem marginVal_eq (a : Vec Ideal S24x128 .f32) (p n : Vec Ideal S1x12 .i32) (r : Vec Ideal S24x1 .f32) :
    marginVal (F := Ideal) a p n r = mulf (broadcast S1x12 (Scalar.ofBits (F := Ideal) .f32 0x3DCCCCCD#32))
      (subf (subf (pickV p (k0_pay4 (F := Ideal) a)) (pickV p (k0_pay6 (F := Ideal) r))) (subf (pickV n (k0_pay4 (F := Ideal) a)) (pickV n (k0_pay6 (F := Ideal) r)))) := rfl

theorem marginVal_apply (a : Vec Ideal S24x128 .f32) (p n : Vec Ideal S1x12 .i32) (x : Vec Ideal S24x1 .f32) (u : Fin 1) (r : Fin 12)
    (h0 : 0 ≤ (p (ix2 (0 : Fin 1) r)).toInt) (h1 : (p (ix2 (0 : Fin 1) r)).toInt < 24) (h2 : 0 ≤ (n (ix2 (0 : Fin 1) r)).toInt) (h3 : (n (ix2 (0 : Fin 1) r)).toInt < 24) :
    marginVal (F := Ideal) a p n x (ix2 u r) = Ideal.ofBits .f32 0x3DCCCCCD#32 *
      ((k0_pay4 (F := Ideal) a (ix2 (place 24 (by decide) (p (ix2 (0 : Fin 1) r))) (0 : Fin 1)) - x (ix2 (place 24 (by decide) (p (ix2 (0 : Fin 1) r))) (0 : Fin 1)))
        - (k0_pay4 (F := Ideal) a (ix2 (place 24 (by decide) (n (ix2 (0 : Fin 1) r))) (0 : Fin 1)) - x (ix2 (place 24 (by decide) (n (ix2 (0 : Fin 1) r))) (0 : Fin 1)))) := by
  rw [marginVal_eq]
  have e6 : k0_pay6 (F := Ideal) x = x := shapeCast_self _ _
  rw [e6]
  refine congrArg (Ideal.ofBits .f32 0x3DCCCCCD#32 * ·) ?_
  refine congr (congrArg HSub.hSub (congr (congrArg HSub.hSub ?_) ?_)) (congr (congrArg HSub.hSub ?_) ?_)
  · exact pickV_apply p _ u r h0 h1
  · exact pickV_apply p _ u r h0 h1
  · exact pickV_apply n _ u r h2 h3
  · exact pickV_apply n _ u r h2 h3

theorem lossVal_apply (a : Vec Ideal S24x128 .f32) (p n : Vec Ideal S1x12 .i32) (x : Vec Ideal S24x1 .f32) (j : S1x12.Idx) :
    lossVal (F := Ideal) a p n x j = max (-(marginVal (F := Ideal) a p n x j)) 0
      + Ideal.log1p (Ideal.exp (-(max (marginVal (F := Ideal) a p n x j) (-(marginVal (F := Ideal) a p n x j))))) := by
  have z : (Scalar.ofBits (F := Ideal) .f32 0x00000000#32 : EReal) = 0 := Ideal.ofBits_zero_f32
  show max ((Scalar.ofBits (F := Ideal) .f32 0x00000000#32 : EReal) - marginVal (F := Ideal) a p n x j) (Scalar.ofBits (F := Ideal) .f32 0x00000000#32 : EReal)
    + Ideal.log1p (Ideal.exp ((Scalar.ofBits (F := Ideal) .f32 0x00000000#32 : EReal) - max (marginVal (F := Ideal) a p n x j) (-(marginVal (F := Ideal) a p n x j)))) = _
  rw [z, zero_sub, zero_sub]

end Cert.FinishIdeal.Gen
-- ==== Proof.FinishIdeal.Blocks.lean ====
/- What every block of the kernel's arrays holds of the arguments, and a label's row of words as codes. -/
module

public import proofs.«01_k».proof.Proof.FinishIdeal.Pays
public import Idealize.ShloMosaic.Lib.BitcastConvert

@[expose] public section

set_option maxRecDepth 16384

noncomputable section

namespace Cert.FinishIdeal.Gen

open Idealize.ShloMosaic Idealize.ShloMosaic.TcCoe Idealize.ShloMosaic.ValueIdx Idealize.ShloMosaic.Tactic
open Cert.FinishTerms Cert.SoftMath
open scoped BigOperators

variable (m : (ℓ : Loc nD τ sig) → Buf (Elt Ideal) ℓ) (c : Dev nD)

/-- The arguments. -/
def args : Args where
  lab := m ((c : Thread nD τ).loc main_arg0)
  wsc := m ((c : Thread nD τ).loc main_arg1)
  W := m ((c : Thread nD τ).loc main_arg2)
  h := m ((c : Thread nD τ).loc main_arg3)
  hs := m ((c : Thread nD τ).loc main_arg4)
  smax := m ((c : Thread nD τ).loc main_arg5)
  ssum := m ((c : Thread nD τ).loc main_arg6)
  seg := m ((c : Thread nD τ).loc main_arg7)
  mask := m ((c : Thread nD τ).loc main_arg8)
  ref := m ((c : Thread nD τ).loc main_arg9)
  chosen := m ((c : Thread nD τ).loc main_arg10)
  rejected := m ((c : Thread nD τ).loc main_arg11)

/-- Token `n` of block `t`. -/
def tokOf (t : Fin (cfgm m).N) (n : Fin 512) : Fin 15360 := ⟨512 * t.val + n.val, by have := lt_30 m t; omega⟩

theorem idx_facts : ∀ t : Fin grid0.N, cc0_transform_2 (grid0.coords t) = ![t.val, 0] ∧ cc0_transform_3 (grid0.coords t) = ![0, t.val]
    ∧ cc0_transform_4 (grid0.coords t) = ![0, t.val] ∧ cc0_transform_5 (grid0.coords t) = ![0, t.val] ∧ cc0_transform_6 (grid0.coords t) = ![0, t.val]
    ∧ cc0_transform_7 (grid0.coords t) = ![0, t.val] ∧ cc0_transform_11 (grid0.coords t) = ![0, t.val] ∧ cc0_transform_12 (grid0.coords t) = ![0, t.val] := by
  decide +kernel

/-! ## The blocks -/

/-- Every token's row of a table by sequence and place. -/
theorem row_of {α : Type} (x : S6x2560.Idx → α) (h : S6x2560.ShapeCasts S1x15360) (u : Fin 1) (n : Fin 15360) :
    shapeCast S1x15360 x h (ix2 u n) = flat x n := by
  refine shapeCast_apply _ _ _ _ ?_
  refine (Shape.rowMajor_val_two (ix2 (⟨n.val / 2560, by omega⟩ : Fin 6) (⟨n.val % 2560, by omega⟩ : Fin 2560))).trans (Eq.trans ?_ (Shape.rowMajor_val_two (ix2 u n)).symm)
  show (n.val / 2560) * 2560 + n.val % 2560 = u.val * 15360 + n.val
  omega

theorem ib1_apply (t : Fin (cfgm m).N) (n : Fin 512) (k : Fin 2048) :
    ib1 m c t (ix2 n k) = (args m c).h (ix3 (⟨(tokOf m t n).val / 2560, by omega⟩ : Fin 6) (⟨(tokOf m t n).val % 2560, by omega⟩ : Fin 2560) k) := by
  have e := (idx_facts t).1
  have e0 : cc0_transform_2 (grid0.coords t) (0 : Fin 2) = t.val := congrFun e 0
  have e1 : cc0_transform_2 (grid0.coords t) (1 : Fin 2) = 0 := congrFun e 1
  show V m c main_v3 ((((cfgm m).win 1).blk t).view.emb (ix2 n k)) = _
  entry_read
  have ei : (((cfgm m).win 1).blk t).view.emb (ix2 n k) = (ix2 (tokOf m t n) k : S15360x2048.Idx) := funext fun a => Fin.ext (by
    match a with
    | ⟨0, _⟩ => show cc0_transform_2 (grid0.coords t) (0 : Fin 2) * 512 + 1 * n.val = 512 * t.val + n.val; omega
    | ⟨1, _⟩ => show cc0_transform_2 (grid0.coords t) (1 : Fin 2) * 2048 + 1 * k.val = k.val; omega)
  refine (congrArg _ ei).trans (shapeCast_apply _ _ _ _ ?_)
  refine (Shape.rowMajor_val_three (ix3 (⟨(tokOf m t n).val / 2560, by omega⟩ : Fin 6) (⟨(tokOf m t n).val % 2560, by omega⟩ : Fin 2560) k)).trans (Eq.trans ?_ (Shape.rowMajor_val_two (ix2 (tokOf m t n) k)).symm)
  show ((tokOf m t n).val / 2560 * 2560 + (tokOf m t n).val % 2560) * 2048 + k.val = (tokOf m t n).val * 2048 + k.val
  omega

theorem ib2_apply (t : Fin (cfgm m).N) (n : Fin 512) : ib2 m c t (ix2 (0 : Fin 1) n) = flat (args m c).hs (tokOf m t n) := by
  have e := (idx_facts t).2.1
  have e0 : cc0_transform_3 (grid0.coords t) (0 : Fin 2) = 0 := congrFun e 0
  have e1 : cc0_transform_3 (grid0.coords t) (1 : Fin 2) = t.val := congrFun e 1
  show V m c main_v5 ((((cfgm m).win 2).blk t).view.emb (ix2 (0 : Fin 1) n)) = _
  entry_read
  have ei : (((cfgm m).win 2).blk t).view.emb (ix2 (0 : Fin 1) n) = (ix2 (0 : Fin 1) (tokOf m t n) : S1x15360.Idx) := funext fun a => Fin.ext (by
    match a with
    | ⟨0, _⟩ => show cc0_transform_3 (grid0.coords t) (0 : Fin 2) * 1 + 1 * 0 = 0; omega
    | ⟨1, _⟩ => show cc0_transform_3 (grid0.coords t) (1 : Fin 2) * 512 + 1 * n.val = 512 * t.val + n.val; omega)
  exact (congrArg _ ei).trans (row_of _ _ _ _)

theorem ib5_apply (t : Fin (cfgm m).N) (n : Fin 512) : ib5 m c t (ix2 (0 : Fin 1) n) = flat (args m c).seg (tokOf m t n) := by
  have e := (idx_facts t).2.2.2.2.1
  have e0 : cc0_transform_6 (grid0.coords t) (0 : Fin 2) = 0 := congrFun e 0
  have e1 : cc0_transform_6 (grid0.coords t) (1 : Fin 2) = t.val := congrFun e 1
  show V m c main_v6 ((((cfgm m).win 5).blk t).view.emb (ix2 (0 : Fin 1) n)) = _
  entry_read
  have ei : (((cfgm m).win 5).blk t).view.emb (ix2 (0 : Fin 1) n) = (ix2 (0 : Fin 1) (tokOf m t n) : S1x15360.Idx) := funext fun a => Fin.ext (by
    match a with
    | ⟨0, _⟩ => show cc0_transform_6 (grid0.coords t) (0 : Fin 2) * 1 + 1 * 0 = 0; omega
    | ⟨1, _⟩ => show cc0_transform_6 (grid0.coords t) (1 : Fin 2) * 512 + 1 * n.val = 512 * t.val + n.val; omega)
  exact (congrArg _ ei).trans (row_of _ _ _ _)

theorem ib6_apply (t : Fin (cfgm m).N) (n : Fin 512) : ib6 m c t (ix2 (0 : Fin 1) n) = flat (args m c).mask (tokOf m t n) := by
  have e := (idx_facts t).2.2.2.2.2.1
  have e0 : cc0_transform_7 (grid0.coords t) (0 : Fin 2) = 0 := congrFun e 0
  have e1 : cc0_transform_7 (grid0.coords t) (1 : Fin 2) = t.val := congrFun e 1
  show V m c main_v7 ((((cfgm m).win 6).blk t).view.emb (ix2 (0 : Fin 1) n)) = _
  entry_read
  have ei : (((cfgm m).win 6).blk t).view.emb (ix2 (0 : Fin 1) n) = (ix2 (0 : Fin 1) (tokOf m t n) : S1x15360.Idx) := funext fun a => Fin.ext (by
    match a with
    | ⟨0, _⟩ => show cc0_transform_7 (grid0.coords t) (0 : Fin 2) * 1 + 1 * 0 = 0; omega
    | ⟨1, _⟩ => show cc0_transform_7 (grid0.coords t) (1 : Fin 2) * 512 + 1 * n.val = 512 * t.val + n.val; omega)
  exact (congrArg _ ei).trans (row_of _ _ _ _)

theorem ib3_apply (t : Fin (cfgm m).N) (g : Fin 8) (n : Fin 512) : ib3 m c t (ix2 g n) = (args m c).smax (ix2 g (tokOf m t n)) := by
  have e := (idx_facts t).2.2.1
  have e0 : cc0_transform_4 (grid0.coords t) (0 : Fin 2) = 0 := congrFun e 0
  have e1 : cc0_transform_4 (grid0.coords t) (1 : Fin 2) = t.val := congrFun e 1
  show V m c main_arg5 ((((cfgm m).win 3).blk t).view.emb (ix2 g n)) = _
  have ei : (((cfgm m).win 3).blk t).view.emb (ix2 g n) = (ix2 g (tokOf m t n) : S8x15360.Idx) := funext fun a => Fin.ext (by
    match a with
    | ⟨0, _⟩ => show cc0_transform_4 (grid0.coords t) (0 : Fin 2) * 8 + 1 * g.val = g.val; omega
    | ⟨1, _⟩ => show cc0_transform_4 (grid0.coords t) (1 : Fin 2) * 512 + 1 * n.val = 512 * t.val + n.val; omega)
  refine (congrArg _ ei).trans ?_
  entry_read
  rfl

theorem ib4_apply (t : Fin (cfgm m).N) (g : Fin 8) (n : Fin 512) : ib4 m c t (ix2 g n) = (args m c).ssum (ix2 g (tokOf m t n)) := by
  have e := (idx_facts t).2.2.2.1
  have e0 : cc0_transform_5 (grid0.coords t) (0 : Fin 2) = 0 := congrFun e 0
  have e1 : cc0_transform_5 (grid0.coords t) (1 : Fin 2) = t.val := congrFun e 1
  show V m c main_arg6 ((((cfgm m).win 4).blk t).view.emb (ix2 g n)) = _
  have ei : (((cfgm m).win 4).blk t).view.emb (ix2 g n) = (ix2 g (tokOf m t n) : S8x15360.Idx) := funext fun a => Fin.ext (by
    match a with
    | ⟨0, _⟩ => show cc0_transform_5 (grid0.coords t) (0 : Fin 2) * 8 + 1 * g.val = g.val; omega
    | ⟨1, _⟩ => show cc0_transform_5 (grid0.coords t) (1 : Fin 2) * 512 + 1 * n.val = 512 * t.val + n.val; omega)
  refine (congrArg _ ei).trans ?_
  entry_read
  rfl

theorem ib7_apply (t : Fin (cfgm m).N) (s : Fin 24) : ib7 m c t (ix2 s (0 : Fin 1)) = (args m c).ref (ix1 s) := by
  show V m c main_v8 ((((cfgm m).win 7).blk t).view.emb (ix2 s (0 : Fin 1))) = _
  entry_read
  have ei : (((cfgm m).win 7).blk t).view.emb (ix2 s (0 : Fin 1)) = (ix2 s (0 : Fin 1) : S24x1.Idx) := funext fun a => Fin.ext (by
    match a with
    | ⟨0, _⟩ => show 0 * 24 + 1 * s.val = s.val; omega
    | ⟨1, _⟩ => rfl)
  refine (congrArg _ ei).trans (shapeCast_apply _ _ _ (ix1 s) ?_)
  refine (Shape.rowMajor_val_one (ix1 s)).trans (Eq.trans ?_ (Shape.rowMajor_val_two (ix2 s (0 : Fin 1))).symm)
  show s.val = s.val * 1 + 0
  omega

theorem ib8_apply (t : Fin (cfgm m).N) (p : Fin 12) : ib8 m c t (ix2 (0 : Fin 1) p) = (args m c).chosen (ix1 p) := by
  show V m c main_v9 ((((cfgm m).win 8).blk t).view.emb (ix2 (0 : Fin 1) p)) = _
  entry_read
  have ei : (((cfgm m).win 8).blk t).view.emb (ix2 (0 : Fin 1) p) = (ix2 (0 : Fin 1) p : S1x12.Idx) := funext fun a => Fin.ext (by
    match a with
    | ⟨0, _⟩ => rfl
    | ⟨1, _⟩ => show 0 * 12 + 1 * p.val = p.val; omega)
  exact (congrArg _ ei).trans (shapeCast_a_1a_apply (a := 12) _ _ 0 p)

theorem ib9_apply (t : Fin (cfgm m).N) (p : Fin 12) : ib9 m c t (ix2 (0 : Fin 1) p) = (args m c).rejected (ix1 p) := by
  show V m c main_v10 ((((cfgm m).win 9).blk t).view.emb (ix2 (0 : Fin 1) p)) = _
  entry_read
  have ei : (((cfgm m).win 9).blk t).view.emb (ix2 (0 : Fin 1) p) = (ix2 (0 : Fin 1) p : S1x12.Idx) := funext fun a => Fin.ext (by
    match a with
    | ⟨0, _⟩ => rfl
    | ⟨1, _⟩ => show 0 * 12 + 1 * p.val = p.val; omega)
  exact (congrArg _ ei).trans (shapeCast_a_1a_apply (a := 12) _ _ 0 p)

/-! ## The labels, the scales and the words -/

theorem lab_apply (n : Fin 15360) : labAt (lab m c) n.val = flat (args m c).lab n := by
  have hn := n.isLt
  show V m c main_v4 _ = _
  entry_read
  refine shapeCast_apply _ _ _ _ ?_
  refine (Shape.rowMajor_val_two (ix2 (⟨n.val / 2560, by omega⟩ : Fin 6) (⟨n.val % 2560, by omega⟩ : Fin 2560))).trans (Eq.trans ?_ (Shape.rowMajor_val_one _).symm)
  show (n.val / 2560) * 2560 + n.val % 2560 = n.val % 15360
  omega

theorem labAt_mod (x : Vec Ideal S15360 .i32) (n : ℕ) : labAt x n = labAt x (n % 15360) := by
  unfold labAt
  simp only [Nat.mod_mod]

theorem scl_eq : scl m c = (args m c).wsc := by
  show V m c main_arg1 = _
  entry_read
  rfl

/-- A byte of a word of codes. -/
theorem wds_bit (r : Fin 32064) (k : Fin 2048) (b q : ℕ) (hb : b < 4) (hq : q < 8) :
    (wds m c (ix2 r k) : BitVec 32).getLsbD (q + 8 * b) = ((args m c).W (ix2 (⟨4 * r.val + b, by omega⟩ : Fin 128256) k)).getLsbD q := by
  show (V m c main_v2 (ix2 r k) : BitVec 32).getLsbD (q + 8 * b) = _
  entry_read
  try beta_reduce
  try after_results
  refine (Host.bitcastConvertWiden_getLsbD _ _ _ _ _ _ (by omega)).trans ?_
  have e8 : (q + 8 * b) % 8 = q := by omega
  have es : splits_S32064x2048_w32_S32064x2048x4_w8.snoc (ix2 r k) ⟨(q + 8 * b) / 8, splits_S32064x2048_w32_S32064x2048x4_w8.div_lt (by omega)⟩
      = (ix3 r k (⟨b, hb⟩ : Fin 4) : S32064x2048x4.Idx) := funext fun a => Fin.ext (by
    match a with
    | ⟨0, _⟩ => rfl
    | ⟨1, _⟩ => rfl
    | ⟨2, _⟩ => show (q + 8 * b) / 8 = b; omega)
  rw [es, e8]
  refine congrArg (fun x : BitVec 8 => x.getLsbD q) ((transpose_ix3_021_apply _ _ _ _ _).trans (shapeCast_apply _ _ _ _ ?_))
  refine (Shape.rowMajor_val_two (ix2 (⟨4 * r.val + b, by omega⟩ : Fin 128256) k)).trans (Eq.trans ?_ (Shape.rowMajor_val_three (ix3 r (⟨b, hb⟩ : Fin 4) k)).symm)
  show (4 * r.val + b) * 2048 + k.val = (r.val * 4 + b) * 2048 + k.val
  omega

theorem shOf_toNat (v : BitVec 32) : (shOf (F := Ideal) v : BitVec 32).toNat = 8 * (v.toNat % 4) := by
  show ((v &&& 3#32) * 8#32).toNat = _
  have e : v &&& 3#32 = BitVec.ofNat 32 (v.toNat % 4) := by
    apply BitVec.eq_of_toNat_eq
    rw [BitVec.toNat_and, BitVec.toNat_ofNat]
    show v.toNat &&& (2 ^ 2 - 1) = _
    rw [Nat.and_two_pow_sub_one_eq_mod, BitVec.toNat_ofNat]
    omega
  rw [e, BitVec.toNat_mul, BitVec.toNat_ofNat]
  show (v.toNat % 4 % 2 ^ 32 * 8) % 2 ^ 32 = _
  omega

theorem rowNo_eq (v : BitVec 32) (hv : v.toNat < 128256) : rowNo v = v.toNat / 4 := by
  have hm : v.msb = false := by rw [BitVec.msb_eq_false_iff_two_mul_lt]; omega
  show (IntOp.shrsi .scalar v 2#32).toNat = _
  unfold IntOp.shrsi
  rw [if_pos (by decide)]
  show (v.sshiftRight 2).toNat = _
  rw [BitVec.sshiftRight_eq_of_msb_false hm, BitVec.toNat_ushiftRight]
  rw [Nat.shiftRight_eq_div_pow]

/-- A label's byte of its row of words is its code. -/
theorem byteOf_wds (v : BitVec 32) (hv : v.toNat < 128256) (k : Fin 2048) :
    byteOf (wds m c (ix2 (⟨rowNo v % 32064, Nat.mod_lt _ (by decide)⟩ : Fin 32064) k)) (shOf (F := Ideal) v) = (args m c).W (ix2 (⟨v.toNat, hv⟩ : Fin 128256) k) := by
  apply BitVec.eq_of_getLsbD_eq
  intro q hq
  have hs := shOf_toNat v
  unfold byteOf IntOp.shrui
  rw [if_pos (by rw [hs]; omega), BitVec.getLsbD_setWidth, BitVec.ushiftRight_eq', BitVec.getLsbD_ushiftRight, hs]
  have hb := wds_bit m c (⟨rowNo v % 32064, Nat.mod_lt _ (by decide)⟩ : Fin 32064) k (v.toNat % 4) q (by omega) hq
  rw [show 8 * (v.toNat % 4) + q = q + 8 * (v.toNat % 4) from by omega, hb, decide_eq_true hq, Bool.true_and]
  have er := rowNo_eq v hv
  have ef : (⟨4 * (rowNo v % 32064) + v.toNat % 4, by omega⟩ : Fin 128256) = ⟨v.toNat, hv⟩ := Fin.ext (by show 4 * (rowNo v % 32064) + v.toNat % 4 = v.toNat; rw [er]; omega)
  exact congrArg (fun i : Fin 128256 => ((args m c).W (ix2 i k)).getLsbD q) ef

end Cert.FinishIdeal.Gen
-- ==== Proof.FinishIdeal.Values.lean ====
/- What the kernel leaves at every point: each token's logit and log-probability, and the sequences' sums so far. -/
module

public import proofs.«01_k».proof.Proof.FinishIdeal.Blocks

@[expose] public section

set_option maxRecDepth 16384

noncomputable section

namespace Cert.FinishIdeal.Gen

open Idealize.ShloMosaic Idealize.ShloMosaic.TcCoe Idealize.ShloMosaic.ValueIdx Idealize.ShloMosaic.Tactic
open Cert.FinishTerms Cert.SoftMath
open scoped BigOperators

theorem blk_lt {a b j l : ℕ} (hj : j < a) (hl : l < b) : b * j + l < a * b := by
  have h : b * (j + 1) ≤ b * a := Nat.mul_le_mul_left b hj
  rw [Nat.mul_succ, Nat.mul_comm b a] at h
  omega

/-- A sum over `a` blocks of `b`. -/
theorem sum_blocksF {M : Type} [AddCommMonoid M] (a b N : ℕ) (hN : N = a * b) (f : Fin N → M) :
    (∑ k : Fin N, f k) = ∑ j : Fin a, ∑ l : Fin b, f ⟨b * j.val + l.val, by rw [hN]; exact blk_lt j.isLt l.isLt⟩ := by
  have h := sum_blocks a b N hN (fun k => if hk : k < N then f ⟨k, hk⟩ else 0)
  refine Eq.trans (Finset.sum_congr rfl fun k _ => ?_) (h.trans (Finset.sum_congr rfl fun j _ => Finset.sum_congr rfl fun l _ => ?_))
  · simp only [k.isLt, dif_pos]
  · exact dif_pos _

variable (m : (ℓ : Loc nD τ sig) → Buf (Elt Ideal) ℓ) (c : Dev nD)

/-- Every label is a row of the vocabulary, -/
abbrev LabIn : Prop := ∀ n : Fin 15360, (flat (args m c).lab n).toNat < 128256
/-- the scales are nonnegative and real, -/
abbrev SclIn : Prop := ∀ v : Fin 128256, 0 ≤ (args m c).wsc (ix1 v) ∧ (args m c).wsc (ix1 v) ≠ ⊤
/-- and the pairs name sequences. -/
abbrev PairIn (x : S12.Idx → BitVec 32) : Prop := ∀ p : Fin 12, 0 ≤ (x (ix1 p)).toInt ∧ (x (ix1 p)).toInt < 24

variable (hlab : LabIn m c) (hscl : SclIn m c)

theorem lab_tok (t : Fin (cfgm m).N) (n : Fin 512) : labAt (lab m c) (t.val * 512 + n.val) = flat (args m c).lab (tokOf m t n) := by
  have e : t.val * 512 + n.val = (tokOf m t n).val := by show _ = 512 * t.val + n.val; omega
  rw [e]
  exact lab_apply m c _

include hlab in
theorem row_val (n : Fin 15360) : ((args m c).row n).val = (flat (args m c).lab n).toNat := by
  have h := hlab n
  have e : (flat (args m c).lab n).toInt = (flat (args m c).lab n).toNat := BitVec.toInt_eq_toNat_of_lt (by omega)
  exact place_of_lt 128256 (by decide) _ (by omega) (by omega)

include hlab hscl in
/-- A token's logit. -/
theorem tgtB_apply (t : Fin (cfgm m).N) (n : Fin 512) : tgtB m c t (ix2 (0 : Fin 1) n) = (args m c).tgt (tokOf m t n) := by
  have hc := coords0 m t
  have hv := hlab (tokOf m t n)
  have hr := row_val m c hlab (tokOf m t n)
  have hlt := lab_tok m c t n
  unfold tgtB tgtAt
  rw [hc]
  refine (tgtVal_apply _ _ _ _ _ _ n).trans ?_
  have e18 : ∀ k : Fin 2048, rowsAt (lab m c) (wds m c) t.val (ix3 (slotF ((cfgm m).grid.coords t)) n k)
      = wds m c (ix2 (⟨rowNo (flat (args m c).lab (tokOf m t n)) % 32064, Nat.mod_lt _ (by decide)⟩ : Fin 32064) k) := fun k =>
    congrArg (wds m c) (funext fun a => Fin.ext (by
      match a with
      | ⟨0, _⟩ => show rowNo (labAt (lab m c) (t.val * 512 + n.val)) % 32064 = _; rw [hlt]
      | ⟨1, _⟩ => rfl))
  have e20 : ∀ l : Fin 128, shiftAt (lab m c) t.val (ix3 (slotF ((cfgm m).grid.coords t)) n l) = shOf (F := Ideal) (flat (args m c).lab (tokOf m t n)) := fun l =>
    congrArg (shOf (F := Ideal)) hlt
  have e19 : ∀ l : Fin 128, scaleAt (lab m c) (scl m c) t.val (ix3 (slotF ((cfgm m).grid.coords t)) n l) = (args m c).wsc (ix1 ((args m c).row (tokOf m t n))) := fun l => by
    show scOf (scl m c) (labAt (lab m c) (t.val * 512 + n.val)) = _
    rw [hlt, scl_eq]
    refine congrArg (args m c).wsc (funext fun a => Fin.ext ?_)
    match a with
    | ⟨0, _⟩ => show (flat (args m c).lab (tokOf m t n)).toNat % 128256 = ((args m c).row (tokOf m t n)).val; omega
  have ew : ∀ k : Fin 2048, codeOf (byteOf (wds m c (ix2 (⟨rowNo (flat (args m c).lab (tokOf m t n)) % 32064, Nat.mod_lt _ (by decide)⟩ : Fin 32064) k)) (shOf (F := Ideal) (flat (args m c).lab (tokOf m t n))))
      = codeOf ((args m c).W (ix2 ((args m c).row (tokOf m t n)) k)) := fun k => by
    rw [byteOf_wds m c _ hv k]
    exact congrArg (fun i => codeOf ((args m c).W (ix2 i k))) (Fin.ext hr.symm)
  have hsum := sum_blocksF 16 128 2048 rfl fun k : Fin 2048 =>
    (args m c).h (ix3 (⟨(tokOf m t n).val / 2560, by omega⟩ : Fin 6) (⟨(tokOf m t n).val % 2560, by omega⟩ : Fin 2560) k) * codeOf ((args m c).W (ix2 ((args m c).row (tokOf m t n)) k))
  rw [Finset.sum_comm] at hsum
  unfold Args.tgt Args.raw
  rw [hsum, ib2_apply, mul_right_comm]
  refine congrArg (· * flat (args m c).hs (tokOf m t n)) ?_
  rw [sum_mul_real _ _ _ (hscl _).1 (hscl _).2]
  refine Finset.sum_congr rfl fun l _ => congrArg₂ (· * ·) (Finset.sum_congr rfl fun j _ => ?_) (e19 l)
  rw [e18, e20, ew, ib1_apply, mul_comm]

include hlab hscl in
/-- A token's log-probability. -/
theorem tokB_apply (t : Fin (cfgm m).N) (n : Fin 512) : tokB m c t (ix2 (0 : Fin 1) n) = (args m c).tok (tokOf m t n) := by
  have e3 : ∀ g : Fin 8, ib3 m c t (ix2 g n) = (args m c).smax (ix2 g (tokOf m t n)) := fun g => ib3_apply m c t g n
  have e4 : ∀ g : Fin 8, ib4 m c t (ix2 g n) = (args m c).ssum (ix2 g (tokOf m t n)) := fun g => ib4_apply m c t g n
  unfold tokB
  refine (pay58_apply _ _ _ _ _).trans ?_
  rw [tgtB_apply m c hlab hscl]
  simp only [e3, e4]
  rfl

include hlab hscl in
/-- The sums past a point. -/
theorem stepB_apply (t : Fin (cfgm m).N) (a : Vec Ideal S24x128 .f32) (q : Fin 24) (l : Fin 128) :
    stepB m c t a (ix2 q l) = a (ix2 q l) + ∑ j : Fin 4, (args m c).term q (tokOf m t (⟨128 * j.val + l.val, by omega⟩ : Fin 512)) := by
  unfold stepB accStep
  refine (pay1_apply _ _ _ _).trans (congrArg (a (ix2 q l) + ·) (Finset.sum_congr rfl fun j _ => ?_))
  refine (pay59_apply _ _ _ _ _ _ _).trans ?_
  have e := tokB_apply m c hlab hscl t (⟨128 * j.val + l.val, by omega⟩ : Fin 512)
  unfold tokB at e
  rw [e, ib5_apply, ib6_apply]
  rfl

/-- What a block of tokens gives to a sequence. -/
def blkTerm (q : Fin 24) (t : ℕ) : EReal := if h : t < 30 then ∑ n : Fin 512, (args m c).term q ⟨512 * t + n.val, by omega⟩ else 0

include hlab hscl in
theorem stepB_sum (t : Fin (cfgm m).N) (a : Vec Ideal S24x128 .f32) (q : Fin 24) :
    (∑ l : Fin 128, stepB m c t a (ix2 q l)) = (∑ l : Fin 128, a (ix2 q l)) + blkTerm m c q t.val := by
  unfold blkTerm
  rw [dif_pos (lt_30 m t), sum_blocksF 4 128 512 rfl, Finset.sum_comm, ← Finset.sum_add_distrib]
  exact Finset.sum_congr rfl fun l _ => stepB_apply m c hlab hscl t a q l

include hlab hscl in
/-- A sequence's sum so far. -/
theorem accAt_sum (q : Fin 24) : ∀ (n : ℕ) (hn : n < (cfgm m).N), (∑ l : Fin 128, accAt m c n hn (ix2 q l)) = ∑ t ∈ Finset.range (n + 1), blkTerm m c q t
  | 0, hn => by
    rw [Finset.sum_range_one]
    refine (stepB_sum m c hlab hscl ⟨0, hn⟩ _ q).trans ?_
    rw [Finset.sum_congr rfl fun l _ => pay12_apply q l, Finset.sum_const_zero, zero_add]
  | n + 1, hn => by
    rw [Finset.sum_range_succ]
    refine (stepB_sum m c hlab hscl ⟨n + 1, hn⟩ _ q).trans ?_
    rw [accAt_sum q n]

include hlab hscl in
/-- At the last point the sequences' sums are whole, -/
theorem pol_apply (t : Fin (cfgm m).N) (ht : t.val % 30 = 29) (q : Fin 24) (u : Fin 1) : k0_pay4 (F := Ideal) (accAt m c t.val t.isLt) (ix2 q u) = (args m c).pol q := by
  have h30 := lt_30 m t
  have e : t.val + 1 = 30 := by omega
  refine (pay4_apply _ q u).trans ((accAt_sum m c hlab hscl q t.val t.isLt).trans ?_)
  rw [e, Finset.sum_range]
  unfold Args.pol
  rw [sum_blocksF 30 512 15360 rfl]
  refine Finset.sum_congr rfl fun j _ => ?_
  unfold blkTerm
  exact dif_pos j.isLt

include hlab hscl in
/-- the margins are those of every pair, -/
theorem margin_apply (hch : PairIn (args m c).chosen) (hrj : PairIn (args m c).rejected) (t : Fin (cfgm m).N) (ht : t.val % 30 = 29) (p : Fin 12) :
    marginVal (F := Ideal) (accAt m c t.val t.isLt) (ib8 m c t) (ib9 m c t) (ib7 m c t) (ix2 (0 : Fin 1) p) = (args m c).margin p := by
  have e8 := ib8_apply m c t p
  have e9 := ib9_apply m c t p
  refine (marginVal_apply _ _ _ _ _ _ (by rw [e8]; exact (hch p).1) (by rw [e8]; exact (hch p).2) (by rw [e9]; exact (hrj p).1) (by rw [e9]; exact (hrj p).2)).trans ?_
  rw [e8, e9, pol_apply m c hlab hscl t ht, pol_apply m c hlab hscl t ht, ib7_apply, ib7_apply]
  rfl

include hlab hscl in
/-- and the losses. -/
theorem loss_apply (hch : PairIn (args m c).chosen) (hrj : PairIn (args m c).rejected) (t : Fin (cfgm m).N) (ht : t.val % 30 = 29) (p : Fin 12) :
    lossVal (F := Ideal) (accAt m c t.val t.isLt) (ib8 m c t) (ib9 m c t) (ib7 m c t) (ix2 (0 : Fin 1) p) = (args m c).loss p := by
  refine (lossVal_apply _ _ _ _ _).trans ?_
  rw [margin_apply m c hlab hscl hch hrj t ht p]
  rfl

end Cert.FinishIdeal.Gen
-- ==== Proof.FinishIdeal.Results.lean ====
/- What the kernel's five result arrays hold after the run. -/
module

public import proofs.«01_k».proof.Proof.FinishIdeal.Values

@[expose] public section

set_option maxRecDepth 16384

noncomputable section

namespace Cert.FinishIdeal.Gen

open Idealize.ShloMosaic Idealize.ShloMosaic.TcCoe Idealize.ShloMosaic.ValueIdx Idealize.ShloMosaic.Tactic Idealize.SL.Sem
open Cert.FinishTerms Cert.SoftMath
open scoped BigOperators

variable (m : (ℓ : Loc nD τ sig) → Buf (Elt Ideal) ℓ) (ρ : Dev nD → PrngReg) (c : Dev nD)
variable (hlab : LabIn m c) (hscl : SclIn m c)

/-- The point that writes token `s` back. -/
def ptOf (s : Fin 15360) : Fin (cfgm m).N := ⟨s.val / 512, by have h : (cfgm m).N = 30 := N_0; omega⟩

/-- The last point. -/
def lastPt : Fin (cfgm m).N := ⟨29, by have h : (cfgm m).N = 30 := N_0; omega⟩

theorem row_ix {k : ℕ} (z : (⟨2, ![1, k]⟩ : Shape).Idx) : z = ix2 (n0 := 1) (n1 := k) (0 : Fin 1) (z 1) :=
  (eq_ix2 (n0 := 1) (n1 := k) z).trans (congrArg (fun u => ix2 u (z 1)) (Subsingleton.elim (α := Fin 1) _ _))

/-! ## The tokens' log-probabilities -/

theorem emb10 (t : Fin (cfgm m).N) (u : Fin 1) (n : Fin 512) : (((cfgm m).win 10).blk t).view.emb (ix2 u n) = (ix2 u (tokOf m t n) : S1x15360.Idx) := by
  have e := (idx_facts t).2.2.2.2.2.2.1
  have e0 : cc0_transform_11 (grid0.coords t) (0 : Fin 2) = 0 := congrFun e 0
  have e1 : cc0_transform_11 (grid0.coords t) (1 : Fin 2) = t.val := congrFun e 1
  funext a
  refine Fin.ext ?_
  match a with
  | ⟨0, _⟩ => show cc0_transform_11 (grid0.coords t) (0 : Fin 2) * 1 + 1 * u.val = u.val; omega
  | ⟨1, _⟩ => show cc0_transform_11 (grid0.coords t) (1 : Fin 2) * 512 + 1 * n.val = 512 * t.val + n.val; omega

/-- The array. -/
def out10 : Buf (Elt Ideal) ((c : Thread nD τ).loc main_v11_0) := rowArr (args m c).tok

include hlab hscl in
theorem flushed10_eq (t : Fin (cfgm m).N) : (dats m 0 c).flushed 10 t = (((cfgm m).win 10).blk t).view.read (Elt Ideal) (out10 m c) := by
  show ((cfgm m).win 10).cut ((cfgm m).grid.coords t) ((dats m 0 c).after 10 t) = _
  rw [after10]
  refine funext fun (y : S1x512.Idx) => ?_
  have hx := row_ix (((cfgm m).win 10).xinj ((cfgm m).grid.coords t) y)
  have he : (((cfgm m).win 10).blk t).view.emb y = (ix2 (y 0) (tokOf m t (y 1)) : S1x15360.Idx) := (congrArg (((cfgm m).win 10).blk t).view.emb (eq_ix2 (n0 := 1) (n1 := 512) y)).trans (emb10 m t (y 0) (y 1))
  have cut_eq : ∀ Z : Vec Ideal S1x512 .f32, ((cfgm m).win 10).cut ((cfgm m).grid.coords t) Z y = Z (((cfgm m).win 10).xinj ((cfgm m).grid.coords t) y) := fun _ => rfl
  have read_eq : ∀ X : Vec Ideal S1x15360 .f32, (((cfgm m).win 10).blk t).view.read (Elt Ideal) X y = X ((((cfgm m).win 10).blk t).view.emb y) := fun _ => rfl
  refine (cut_eq _).trans (Eq.trans ?_ (read_eq (out10 m c)).symm)
  refine (congrArg (tokB m c t) hx).trans ?_
  refine (tokB_apply m c hlab hscl t (y 1)).trans ?_
  exact (congrArg (out10 m c) he).symm

theorem covered10 (i : S1x15360.Idx) : ∃ t : Fin (cfgm m).N, ((cfgm m).win 10).flush t = true ∧ i ∈ (((cfgm m).win 10).blk t).view.set := by
  obtain ⟨u, n, rfl⟩ : ∃ (u : Fin 1) (n : Fin 15360), i = ix2 u n := ⟨i 0, i 1, eq_ix2 i⟩
  have e : (((cfgm m).win 10).blk (ptOf m n)).view.emb (ix2 u (⟨n.val % 512, by omega⟩ : Fin 512)) = (ix2 u n : S1x15360.Idx) :=
    (emb10 m (ptOf m n) u ⟨n.val % 512, by omega⟩).trans (congrArg (fun k => (ix2 u k : S1x15360.Idx)) (Fin.ext (by show 512 * (n.val / 512) + n.val % 512 = n.val; omega)))
  refine ⟨ptOf m n, flush0_10 m _, ?_⟩
  rw [← e]
  exact View.emb_mem_set _ _

include hlab hscl in
theorem final10 : (dats m 0 c).arrAt 10 (cfgm m).N = out10 m c :=
  (dats m 0 c).arrAt_eq_of_cover 10 _ (fun t _ => flushed10_eq m c hlab hscl t) (covered10 m)

/-! ## The tokens' logits -/

theorem emb11 (t : Fin (cfgm m).N) (u : Fin 1) (n : Fin 512) : (((cfgm m).win 11).blk t).view.emb (ix2 u n) = (ix2 u (tokOf m t n) : S1x15360.Idx) := by
  have e := (idx_facts t).2.2.2.2.2.2.2
  have e0 : cc0_transform_12 (grid0.coords t) (0 : Fin 2) = 0 := congrFun e 0
  have e1 : cc0_transform_12 (grid0.coords t) (1 : Fin 2) = t.val := congrFun e 1
  funext a
  refine Fin.ext ?_
  match a with
  | ⟨0, _⟩ => show cc0_transform_12 (grid0.coords t) (0 : Fin 2) * 1 + 1 * u.val = u.val; omega
  | ⟨1, _⟩ => show cc0_transform_12 (grid0.coords t) (1 : Fin 2) * 512 + 1 * n.val = 512 * t.val + n.val; omega

/-- The array. -/
def out11 : Buf (Elt Ideal) ((c : Thread nD τ).loc main_v11_1) := rowArr (args m c).tgt

include hlab hscl in
theorem flushed11_eq (t : Fin (cfgm m).N) : (dats m 0 c).flushed 11 t = (((cfgm m).win 11).blk t).view.read (Elt Ideal) (out11 m c) := by
  show ((cfgm m).win 11).cut ((cfgm m).grid.coords t) ((dats m 0 c).after 11 t) = _
  rw [after11]
  refine funext fun (y : S1x512.Idx) => ?_
  have hx := row_ix (((cfgm m).win 11).xinj ((cfgm m).grid.coords t) y)
  have he : (((cfgm m).win 11).blk t).view.emb y = (ix2 (y 0) (tokOf m t (y 1)) : S1x15360.Idx) := (congrArg (((cfgm m).win 11).blk t).view.emb (eq_ix2 (n0 := 1) (n1 := 512) y)).trans (emb11 m t (y 0) (y 1))
  have cut_eq : ∀ Z : Vec Ideal S1x512 .f32, ((cfgm m).win 11).cut ((cfgm m).grid.coords t) Z y = Z (((cfgm m).win 11).xinj ((cfgm m).grid.coords t) y) := fun _ => rfl
  have read_eq : ∀ X : Vec Ideal S1x15360 .f32, (((cfgm m).win 11).blk t).view.read (Elt Ideal) X y = X ((((cfgm m).win 11).blk t).view.emb y) := fun _ => rfl
  refine (cut_eq _).trans (Eq.trans ?_ (read_eq (out11 m c)).symm)
  refine (congrArg (tgtB m c t) hx).trans ?_
  refine (tgtB_apply m c hlab hscl t (y 1)).trans ?_
  exact (congrArg (out11 m c) he).symm

theorem covered11 (i : S1x15360.Idx) : ∃ t : Fin (cfgm m).N, ((cfgm m).win 11).flush t = true ∧ i ∈ (((cfgm m).win 11).blk t).view.set := by
  obtain ⟨u, n, rfl⟩ : ∃ (u : Fin 1) (n : Fin 15360), i = ix2 u n := ⟨i 0, i 1, eq_ix2 i⟩
  have e : (((cfgm m).win 11).blk (ptOf m n)).view.emb (ix2 u (⟨n.val % 512, by omega⟩ : Fin 512)) = (ix2 u n : S1x15360.Idx) :=
    (emb11 m (ptOf m n) u ⟨n.val % 512, by omega⟩).trans (congrArg (fun k => (ix2 u k : S1x15360.Idx)) (Fin.ext (by show 512 * (n.val / 512) + n.val % 512 = n.val; omega)))
  refine ⟨ptOf m n, flush0_11 m _, ?_⟩
  rw [← e]
  exact View.emb_mem_set _ _

include hlab hscl in
theorem final11 : (dats m 0 c).arrAt 11 (cfgm m).N = out11 m c :=
  (dats m 0 c).arrAt_eq_of_cover 11 _ (fun t _ => flushed11_eq m c hlab hscl t) (covered11 m)

/-! ## The sequences' log-probabilities -/

theorem emb12 (t : Fin (cfgm m).N) (p : Fin 24) (q : Fin 1) : (((cfgm m).win 12).blk t).view.emb (ix2 p q) = (ix2 p q : S24x1.Idx) := by
  funext a
  refine Fin.ext ?_
  match a with
  | ⟨0, _⟩ => show 0 * 24 + 1 * p.val = p.val; omega
  | ⟨1, _⟩ => show 0 * 1 + 1 * q.val = q.val; omega

/-- The array. -/
def out12 : Buf (Elt Ideal) ((c : Thread nD τ).loc main_v11_2) := colArr (args m c).pol

include hlab hscl in
theorem flushed12_eq (t : Fin (cfgm m).N) (hf : ((cfgm m).win 12).flush t = true) :
    (dats m 0 c).flushed 12 t = (((cfgm m).win 12).blk t).view.read (Elt Ideal) (out12 m c) := by
  show ((cfgm m).win 12).cut ((cfgm m).grid.coords t) ((dats m 0 c).after 12 t) = _
  rw [after12]
  refine funext fun (y : S24x1.Idx) => ?_
  have hx : ((cfgm m).win 12).xinj ((cfgm m).grid.coords t) y = (ix2 (n0 := 24) (n1 := 1) (y 0) (y 1) : S24x1.Idx) := eq_ix2 (n0 := 24) (n1 := 1) _
  have he : (((cfgm m).win 12).blk t).view.emb y = (ix2 (y 0) (y 1) : S24x1.Idx) := (congrArg (((cfgm m).win 12).blk t).view.emb (eq_ix2 (n0 := 24) (n1 := 1) y)).trans (emb12 m t (y 0) (y 1))
  have cut_eq : ∀ Z : Vec Ideal S24x1 .f32, ((cfgm m).win 12).cut ((cfgm m).grid.coords t) Z y = Z (((cfgm m).win 12).xinj ((cfgm m).grid.coords t) y) := fun _ => rfl
  have read_eq : ∀ X : Vec Ideal S24x1 .f32, (((cfgm m).win 12).blk t).view.read (Elt Ideal) X y = X ((((cfgm m).win 12).blk t).view.emb y) := fun _ => rfl
  refine (cut_eq _).trans (Eq.trans ?_ (read_eq (out12 m c)).symm)
  refine (congrArg (k0_pay4 (F := Ideal) (accAt m c t.val t.isLt)) hx).trans ?_
  refine (pol_apply m c hlab hscl t ((flush0_12 m t).mp hf) (y 0) (y 1)).trans ?_
  exact (congrArg (out12 m c) he).symm

theorem covered12 (i : S24x1.Idx) : ∃ t : Fin (cfgm m).N, ((cfgm m).win 12).flush t = true ∧ i ∈ (((cfgm m).win 12).blk t).view.set := by
  obtain ⟨u, n, rfl⟩ : ∃ (u : Fin 24) (n : Fin 1), i = ix2 u n := ⟨i 0, i 1, eq_ix2 i⟩
  refine ⟨lastPt m, (flush0_12 m _).mpr rfl, ?_⟩
  rw [← emb12 m (lastPt m) u n]
  exact View.emb_mem_set _ _

include hlab hscl in
theorem final12 : (dats m 0 c).arrAt 12 (cfgm m).N = out12 m c :=
  (dats m 0 c).arrAt_eq_of_cover 12 _ (fun t hf => flushed12_eq m c hlab hscl t hf) (covered12 m)

/-! ## The pairs' losses -/

theorem emb13 (t : Fin (cfgm m).N) (p : Fin 1) (q : Fin 12) : (((cfgm m).win 13).blk t).view.emb (ix2 p q) = (ix2 p q : S1x12.Idx) := by
  funext a
  refine Fin.ext ?_
  match a with
  | ⟨0, _⟩ => show 0 * 1 + 1 * p.val = p.val; omega
  | ⟨1, _⟩ => show 0 * 12 + 1 * q.val = q.val; omega

/-- The array. -/
def out13 : Buf (Elt Ideal) ((c : Thread nD τ).loc main_v11_3) := rowArr (args m c).loss

include hlab hscl in
theorem flushed13_eq (hch : PairIn (args m c).chosen) (hrj : PairIn (args m c).rejected) (t : Fin (cfgm m).N) (hf : ((cfgm m).win 13).flush t = true) :
    (dats m 0 c).flushed 13 t = (((cfgm m).win 13).blk t).view.read (Elt Ideal) (out13 m c) := by
  show ((cfgm m).win 13).cut ((cfgm m).grid.coords t) ((dats m 0 c).after 13 t) = _
  rw [after13]
  refine funext fun (y : S1x12.Idx) => ?_
  have hx := row_ix (((cfgm m).win 13).xinj ((cfgm m).grid.coords t) y)
  have he : (((cfgm m).win 13).blk t).view.emb y = (ix2 (y 0) (y 1) : S1x12.Idx) := (congrArg (((cfgm m).win 13).blk t).view.emb (eq_ix2 (n0 := 1) (n1 := 12) y)).trans (emb13 m t (y 0) (y 1))
  have cut_eq : ∀ Z : Vec Ideal S1x12 .f32, ((cfgm m).win 13).cut ((cfgm m).grid.coords t) Z y = Z (((cfgm m).win 13).xinj ((cfgm m).grid.coords t) y) := fun _ => rfl
  have read_eq : ∀ X : Vec Ideal S1x12 .f32, (((cfgm m).win 13).blk t).view.read (Elt Ideal) X y = X ((((cfgm m).win 13).blk t).view.emb y) := fun _ => rfl
  refine (cut_eq _).trans (Eq.trans ?_ (read_eq (out13 m c)).symm)
  refine (congrArg (lossVal (F := Ideal) (accAt m c t.val t.isLt) (ib8 m c t) (ib9 m c t) (ib7 m c t)) hx).trans ?_
  refine (loss_apply m c hlab hscl hch hrj t ((flush0_13 m t).mp hf) (y 1)).trans ?_
  exact (congrArg (out13 m c) he).symm

theorem covered13 (i : S1x12.Idx) : ∃ t : Fin (cfgm m).N, ((cfgm m).win 13).flush t = true ∧ i ∈ (((cfgm m).win 13).blk t).view.set := by
  obtain ⟨u, n, rfl⟩ : ∃ (u : Fin 1) (n : Fin 12), i = ix2 u n := ⟨i 0, i 1, eq_ix2 i⟩
  refine ⟨lastPt m, (flush0_13 m _).mpr rfl, ?_⟩
  rw [← emb13 m (lastPt m) u n]
  exact View.emb_mem_set _ _

include hlab hscl in
theorem final13 (hch : PairIn (args m c).chosen) (hrj : PairIn (args m c).rejected) : (dats m 0 c).arrAt 13 (cfgm m).N = out13 m c :=
  (dats m 0 c).arrAt_eq_of_cover 13 _ (fun t hf => flushed13_eq m c hlab hscl hch hrj t hf) (covered13 m)

/-! ## The pairs' margins -/

theorem emb14 (t : Fin (cfgm m).N) (p : Fin 1) (q : Fin 12) : (((cfgm m).win 14).blk t).view.emb (ix2 p q) = (ix2 p q : S1x12.Idx) := by
  funext a
  refine Fin.ext ?_
  match a with
  | ⟨0, _⟩ => show 0 * 1 + 1 * p.val = p.val; omega
  | ⟨1, _⟩ => show 0 * 12 + 1 * q.val = q.val; omega

/-- The array. -/
def out14 : Buf (Elt Ideal) ((c : Thread nD τ).loc main_v11_4) := rowArr (args m c).margin

include hlab hscl in
theorem flushed14_eq (hch : PairIn (args m c).chosen) (hrj : PairIn (args m c).rejected) (t : Fin (cfgm m).N) (hf : ((cfgm m).win 14).flush t = true) :
    (dats m 0 c).flushed 14 t = (((cfgm m).win 14).blk t).view.read (Elt Ideal) (out14 m c) := by
  show ((cfgm m).win 14).cut ((cfgm m).grid.coords t) ((dats m 0 c).after 14 t) = _
  rw [after14]
  refine funext fun (y : S1x12.Idx) => ?_
  have hx := row_ix (((cfgm m).win 14).xinj ((cfgm m).grid.coords t) y)
  have he : (((cfgm m).win 14).blk t).view.emb y = (ix2 (y 0) (y 1) : S1x12.Idx) := (congrArg (((cfgm m).win 14).blk t).view.emb (eq_ix2 (n0 := 1) (n1 := 12) y)).trans (emb14 m t (y 0) (y 1))
  have cut_eq : ∀ Z : Vec Ideal S1x12 .f32, ((cfgm m).win 14).cut ((cfgm m).grid.coords t) Z y = Z (((cfgm m).win 14).xinj ((cfgm m).grid.coords t) y) := fun _ => rfl
  have read_eq : ∀ X : Vec Ideal S1x12 .f32, (((cfgm m).win 14).blk t).view.read (Elt Ideal) X y = X ((((cfgm m).win 14).blk t).view.emb y) := fun _ => rfl
  refine (cut_eq _).trans (Eq.trans ?_ (read_eq (out14 m c)).symm)
  refine (congrArg (marginVal (F := Ideal) (accAt m c t.val t.isLt) (ib8 m c t) (ib9 m c t) (ib7 m c t)) hx).trans ?_
  refine (margin_apply m c hlab hscl hch hrj t ((flush0_14 m t).mp hf) (y 1)).trans ?_
  exact (congrArg (out14 m c) he).symm

theorem covered14 (i : S1x12.Idx) : ∃ t : Fin (cfgm m).N, ((cfgm m).win 14).flush t = true ∧ i ∈ (((cfgm m).win 14).blk t).view.set := by
  obtain ⟨u, n, rfl⟩ : ∃ (u : Fin 1) (n : Fin 12), i = ix2 u n := ⟨i 0, i 1, eq_ix2 i⟩
  refine ⟨lastPt m, (flush0_14 m _).mpr rfl, ?_⟩
  rw [← emb14 m (lastPt m) u n]
  exact View.emb_mem_set _ _

include hlab hscl in
theorem final14 (hch : PairIn (args m c).chosen) (hrj : PairIn (args m c).rejected) : (dats m 0 c).arrAt 14 (cfgm m).N = out14 m c :=
  (dats m 0 c).arrAt_eq_of_cover 14 _ (fun t hf => flushed14_eq m c hlab hscl hch hrj t hf) (covered14 m)

/-! ## The run -/

/-- What is asked of the arguments, at every device. -/
structure InputsIn : Prop where
  lab : ∀ c, LabIn m c
  scl : ∀ c, SclIn m c
  chosen : ∀ c, PairIn (args m c).chosen
  rejected : ∀ c, PairIn (args m c).rejected

theorem labs_of (h : ∀ c, LabIn m c) : ∀ c n, (labAt (lab m c) n).toNat < 128256 := fun c n => by
  rw [labAt_mod, show n % 15360 = (⟨n % 15360, Nat.mod_lt _ (by decide)⟩ : Fin 15360).val from rfl, lab_apply]
  exact h c _

/-- The results hold every token's log-probability and logit, every sequence's log-probability and every pair's loss and margin,
    and the arguments end unchanged. -/
theorem run (h : InputsIn m) : θ_run defs (onTc (τ := τ) (main (F := Ideal))) ⟨m, fun _ => 0, ρ⟩ fun r => ∀ c : Dev nD,
      r.2.mem ((c : Thread nD τ).loc main_v11_0) = rowArr (args m c).tok
      ∧ r.2.mem ((c : Thread nD τ).loc main_v11_1) = rowArr (args m c).tgt
      ∧ r.2.mem ((c : Thread nD τ).loc main_v11_2) = colArr (args m c).pol
      ∧ r.2.mem ((c : Thread nD τ).loc main_v11_3) = rowArr (args m c).loss
      ∧ r.2.mem ((c : Thread nD τ).loc main_v11_4) = rowArr (args m c).margin
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ g c => ⟨
      ((g.2.1 c).1 10).trans (final10 m c (h.lab c) (h.scl c)),
      ((g.2.1 c).1 11).trans (final11 m c (h.lab c) (h.scl c)),
      ((g.2.1 c).1 12).trans (final12 m c (h.lab c) (h.scl c)),
      ((g.2.1 c).1 13).trans (final13 m c (h.lab c) (h.scl c) (h.chosen c) (h.rejected c)),
      ((g.2.1 c).1 14).trans (final14 m c (h.lab c) (h.scl c) (h.chosen c) (h.rejected c)),
      g.1.1 c⟩)
    (θ_run_and (frame m ρ (labs_of m h.lab)) (run_main_quiescent m ρ (labs_of m h.lab)))

end Cert.FinishIdeal.Gen
-- ==== Proof.FinishReference.lean ====
/- What the second call's reference leaves: the results in plain terms. -/
module

public import proofs.«01_k».proof.Proof.Gen.FinishReferenceIdeal.Frame
public import proofs.«01_k».proof.Proof.FinishTerms
public import Idealize.ShloMosaic.Lib.Claim
public import Idealize.ShloMosaic.Lib.KernelVsHost

@[expose] public section

set_option maxRecDepth 16384

noncomputable section

namespace Cert.FinishReferenceIdeal.Value

open Cert.FinishReferenceIdeal Cert.FinishReferenceIdeal.Gen Idealize.ShloMosaic Idealize.ShloMosaic.TcCoe Idealize.SL.Sem Idealize.ShloMosaic.ValueIdx
open Cert.FinishTerms
open scoped BigOperators

variable (m : (ℓ : Loc nD τ sig) → Buf (Elt Ideal) ℓ) (ρ : Dev nD → PrngReg) (c : Dev nD)

/-- The arguments. -/
def args : Args where
  lab := m ((c : Thread nD τ).loc main_arg0)
  wsc := m ((c : Thread nD τ).loc main_arg1)
  W := m ((c : Thread nD τ).loc main_arg2)
  h := m ((c : Thread nD τ).loc main_arg3)
  hs := m ((c : Thread nD τ).loc main_arg4)
  smax := m ((c : Thread nD τ).loc main_arg5)
  ssum := m ((c : Thread nD τ).loc main_arg6)
  seg := m ((c : Thread nD τ).loc main_arg7)
  mask := m ((c : Thread nD τ).loc main_arg8)
  ref := m ((c : Thread nD τ).loc main_arg9)
  chosen := m ((c : Thread nD τ).loc main_arg10)
  rejected := m ((c : Thread nD τ).loc main_arg11)

/-! ## Reshapes and rows looked up -/

theorem flat_apply {α : Type} (x : S6x2560.Idx → α) (h : S6x2560.ShapeCasts S15360) (n : Fin 15360) : shapeCast S15360 x h (ix1 n) = flat x n := by
  refine shapeCast_apply _ _ _ _ ?_
  refine (Shape.rowMajor_val_two (ix2 (⟨n.val / 2560, by omega⟩ : Fin 6) (⟨n.val % 2560, by omega⟩ : Fin 2560))).trans (Eq.trans ?_ (Shape.rowMajor_val_one (ix1 n)).symm)
  show (n.val / 2560) * 2560 + n.val % 2560 = n.val
  omega

/-- One entry looked up. -/
theorem gather_one {N R : ℕ} (hN : 0 < N) {α : Type} (d : GatherDims ⟨1, ![N]⟩ ⟨2, ![R, 1]⟩ ⟨1, ![R]⟩)
    (hd : d.offsetDims = [] ∧ d.collapsedSliceDims = [0] ∧ d.operandBatchingDims = [] ∧ d.startIndicesBatchingDims = [] ∧ d.startIndexMap = [0] ∧ d.indexVectorDim = 1 ∧ d.sliceSizes = ![1])
    (x : (⟨1, ![N]⟩ : Shape).Idx → α) (idx : IVec ⟨2, ![R, 1]⟩ 32) (y : Fin R) :
    Host.gather d x idx (ix1 y) = x (ix1 (place N hN (idx (ix2 y (0 : Fin 1))))) := by
  obtain ⟨od, cd, ob, sb, sm, iv, ss, wf⟩ := d
  obtain ⟨rfl, rfl, rfl, rfl, rfl, rfl, rfl⟩ := hd
  unfold Host.gather
  congr 1
  funext a
  obtain rfl : a = 0 := Subsingleton.elim _ _
  refine Fin.ext ?_
  rw [GatherDims.operandIdx]
  show GatherDims.start _ _ _ _ + GatherDims.batchCoord _ _ _ + GatherDims.offCoord _ _ _ = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ ([0] : List (Fin 1)) from List.mem_singleton.mpr rfl)]
  show min (idx _).toInt.toNat (N - 1) = min (idx _).toInt.toNat (N - 1)
  congr 3
  refine congrArg idx ?_
  funext b; refine Fin.ext ?_
  match b with
  | ⟨0, _⟩ => rfl
  | ⟨1, _⟩ => rfl

/-- One row looked up. -/
theorem gather_row {N R C : ℕ} (hN : 0 < N) {α : Type} (d : GatherDims ⟨2, ![N, C]⟩ ⟨2, ![R, 1]⟩ ⟨2, ![R, C]⟩)
    (hd : d.offsetDims = [1] ∧ d.collapsedSliceDims = [0] ∧ d.operandBatchingDims = [] ∧ d.startIndicesBatchingDims = [] ∧ d.startIndexMap = [0] ∧ d.indexVectorDim = 1 ∧ d.sliceSizes = ![1, C])
    (x : (⟨2, ![N, C]⟩ : Shape).Idx → α) (idx : IVec ⟨2, ![R, 1]⟩ 32) (y : Fin R) (k : Fin C) :
    Host.gather d x idx (ix2 y k) = x (ix2 (place N hN (idx (ix2 y (0 : Fin 1)))) k) := by
  obtain ⟨od, cd, ob, sb, sm, iv, ss, wf⟩ := d
  obtain ⟨rfl, rfl, rfl, rfl, rfl, rfl, rfl⟩ := hd
  unfold Host.gather
  congr 1
  funext a
  refine Fin.ext ?_
  rw [GatherDims.operandIdx]
  show GatherDims.start _ _ _ _ + GatherDims.batchCoord _ _ _ + GatherDims.offCoord _ _ _ = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ ([0] : List (Fin 2)) from List.mem_singleton.mpr rfl)]
    show min (idx _).toInt.toNat (N - 1) = min (idx _).toInt.toNat (N - 1)
    congr 3
    refine congrArg idx ?_
    funext b; refine Fin.ext ?_
    match b with
    | ⟨0, _⟩ => rfl
    | ⟨1, _⟩ => rfl
  · unfold GatherDims.start
    rw [dif_neg (show (1 : Fin 2) ∉ ([0] : List (Fin 2)) from by decide)]
    simp only [Nat.zero_add]
    rfl

/-! ## The region: a hidden state against a row of codes -/

/-- What one store over the whole of the result leaves. -/
theorem canon_apply (P : Vec Ideal S15360 .f32) (y : S15360.Idx) : View.canon (Val := Elt Ideal) [⟨r0_1, P⟩] y = P y := by
  refine View.canon_apply_of_pieces (e := .f32) P _ ?_ y (cover0_2 _ y)
  intro pc hpc
  rcases List.mem_cons.mp hpc with rfl | hpc
  · exact fun z => congrArg P (funext fun a => Fin.ext (by
      show (z a).val = (![0] : Fin 1 → ℕ) a + 1 * (z a).val
      match a with
      | ⟨0, _⟩ => show (z 0).val = 0 + 1 * (z 0).val; omega))
  · nomatch hpc

theorem ld_whole {e : EltTy} {a b : ℕ} (x : (⟨2, ![a, b]⟩ : Shape).Idx → Elt Ideal e) (inb) (i : Fin a) (j : Fin b) :
    View.ld (Val := Elt Ideal) x (Rect.unit (s := ⟨2, ![a, b]⟩) ![0, 0] (⟨2, ![a, b]⟩ : Shape).size inb) (ix2 i j) = x (ix2 i j) :=
  congrArg x (funext fun ax => Fin.ext (by
    match ax with
    | ⟨0, _⟩ => show 0 + 1 * i.val = i.val; omega
    | ⟨1, _⟩ => show 0 + 1 * j.val = j.val; omega))

theorem pay1_apply (x1 : Vec Ideal S15360x2048 .i8) (x0 : Vec Ideal S15360x2048 .fp8e4m3) (n : Fin 15360) :
    k0_pay1 x1 x0 (ix1 n) = ∑ k : Fin 2048, x0 (ix2 n k) * codeOf (x1 (ix2 n k)) := by
  unfold k0_pay1
  refine (Ideal.multiReduction_add_single _ _ _ _ _ (ix1 n)).trans (Finset.sum_congr rfl fun k _ => ?_)
  have ei : reduces_S15360x2048_S15360.lift (ix1 n) k = (ix2 n k : S15360x2048.Idx) := funext fun a => Fin.ext (by
    match a with
    | ⟨0, _⟩ => rfl
    | ⟨1, _⟩ => rfl)
  refine (congrArg _ ei).trans ?_
  have e0 := congrFun (shapeCast_self x0 shapeCasts_S15360x2048_S15360x2048) (ix2 n k)
  have e1 := congrFun (shapeCast_self x1 shapeCasts_S15360x2048_S15360x2048) (ix2 n k)
  exact congr (congrArg HMul.hMul e0) (congrArg codeOf e1)

theorem iblk0_apply (t : Fin cfg0.N) (n : Fin 15360) (k : Fin 2048) :
    (iblk m c 0 t : Vec Ideal S15360x2048 .fp8e4m3) (ix2 n k)
      = (args m c).h (ix3 (⟨n.val / 2560, by omega⟩ : Fin 6) (⟨n.val % 2560, by omega⟩ : Fin 2560) k) := by
  show V m c main_v1 (((cfg0.win 0).blk t).view.emb (ix2 n k)) = _
  entry_read
  have ei : ((cfg0.win 0).blk t).view.emb (ix2 n k) = (ix2 n k : S15360x2048.Idx) := funext fun a => Fin.ext (by
    match a with
    | ⟨0, _⟩ => show 0 * 15360 + 1 * n.val = n.val; omega
    | ⟨1, _⟩ => show 0 * 2048 + 1 * k.val = k.val; omega)
  refine (congrArg _ ei).trans (shapeCast_apply _ _ _ _ ?_)
  refine (Shape.rowMajor_val_three (ix3 (⟨n.val / 2560, by omega⟩ : Fin 6) (⟨n.val % 2560, by omega⟩ : Fin 2560) k)).trans (Eq.trans ?_ (Shape.rowMajor_val_two (ix2 n k)).symm)
  show ((n.val / 2560) * 2560 + n.val % 2560) * 2048 + k.val = n.val * 2048 + k.val
  omega

theorem col_apply {R : ℕ} (hR : R ≠ 1) {α : Type} (x : (⟨1, ![R]⟩ : Shape).Idx → α) (h : (⟨1, ![R]⟩ : Shape).BroadcastsInDim ⟨2, ![R, 1]⟩ ![0]) (n : Fin R) :
    broadcastInDim ⟨2, ![R, 1]⟩ ![0] h x (ix2 n (0 : Fin 1)) = x (ix1 n) := by
  refine broadcastInDim_apply (s := ⟨1, ![R]⟩) (t := ⟨2, ![R, 1]⟩) ![0] h x _ (ix1 n) fun a => ?_
  match a with
  | ⟨0, _⟩ => exact (if_neg hR).symm

theorem iblk1_apply (t : Fin cfg0.N) (n : Fin 15360) (k : Fin 2048) :
    (iblk m c 1 t : Vec Ideal S15360x2048 .i8) (ix2 n k) = (args m c).W (ix2 ((args m c).row n) k) := by
  show V m c main_v3 (((cfg0.win 1).blk t).view.emb (ix2 n k)) = _
  entry_read
  have ei : ((cfg0.win 1).blk t).view.emb (ix2 n k) = (ix2 n k : S15360x2048.Idx) := funext fun a => Fin.ext (by
    match a with
    | ⟨0, _⟩ => show 0 * 15360 + 1 * n.val = n.val; omega
    | ⟨1, _⟩ => show 0 * 2048 + 1 * k.val = k.val; omega)
  refine (congrArg _ ei).trans ((gather_row (N := 128256) (R := 15360) (C := 2048) (by decide) _ ⟨rfl, rfl, rfl, rfl, rfl, rfl, rfl⟩ _ _ n k).trans ?_)
  refine congrArg (fun v => (args m c).W (ix2 (place 128256 (by decide) v) k)) ?_
  beta_reduce
  after_results
  exact (col_apply (R := 15360) (by decide) _ _ n).trans (flat_apply _ _ n)

/-! ## The region's array after the run -/

def outRaw : Buf (Elt Ideal) ((c : Thread nD τ).loc main_v4) := fun i : S15360.Idx => (args m c).raw (i 0)

theorem outRaw_apply (n : Fin 15360) : outRaw m c (ix1 n) = (args m c).raw n := rfl

/-- What the body loads: the hidden states, and the rows of codes. -/
abbrev ldH (t : Fin cfg0.N) : Vec Ideal S15360x2048 .fp8e4m3 := View.ld (Val := Elt Ideal) (e' := .fp8e4m3) (iblk m c 0 t) r0_0
abbrev ldW (t : Fin cfg0.N) : Vec Ideal S15360x2048 .i8 := View.ld (Val := Elt Ideal) (e' := .i8) (iblk m c 1 t) r0_0

theorem ldRaw (t : Fin cfg0.N) (n : Fin 15360) : k0_pay1 (ldW m c t) (ldH m c t) (ix1 n) = (args m c).raw n := by
  refine (pay1_apply _ _ n).trans (Finset.sum_congr rfl fun k _ => ?_)
  exact congrArg₂ (fun (a : EReal) (b : BitVec 8) => a * codeOf b) ((ld_whole _ _ n k).trans (iblk0_apply m c t n k)) ((ld_whole _ _ n k).trans (iblk1_apply m c t n k))

theorem flushed2_eq (t : Fin cfg0.N) (hf : (cfg0.win 2).flush t = true) :
    (dats m 0 c).flushed 2 t = ((cfg0.win 2).blk t).view.read (Elt Ideal) (outRaw m c) := by
  show (cfg0.win 2).cut (grid0.coords t) ((dats m 0 c).after 2 t) = _
  rw [after0_2]
  funext y
  have cut_eq : ∀ Z : Vec Ideal S15360 .f32, (cfg0.win 2).cut (grid0.coords t) Z y = Z ((cfg0.win 2).xinj (grid0.coords t) y) := fun _ => rfl
  have read_eq : ∀ X : Vec Ideal S15360 .f32, ((cfg0.win 2).blk t).view.read (Elt Ideal) X y = X (((cfg0.win 2).blk t).view.emb y) := fun _ => rfl
  have hx : (cfg0.win 2).xinj (grid0.coords t) y = (ix1 (y 0) : S15360.Idx) := eq_ix1 (n := 15360) _
  have he : ((cfg0.win 2).blk t).view.emb y = (ix1 (y 0) : S15360.Idx) := funext fun a => Fin.ext (by
    match a with
    | ⟨0, _⟩ => show 0 * 15360 + 1 * (y 0).val = (y 0).val; omega)
  refine (cut_eq _).trans (Eq.trans ?_ (read_eq (outRaw m c)).symm)
  refine (congrArg (out0_2 _ _) hx).trans ?_
  refine Eq.trans ?_ ((congrArg (outRaw m c) he).trans (outRaw_apply m c (y 0))).symm
  exact (canon_apply _ _).trans (ldRaw m c t (y 0))

theorem covered2 (i : S15360.Idx) : ∃ t : Fin cfg0.N, (cfg0.win 2).flush t = true ∧ i ∈ ((cfg0.win 2).blk t).view.set := by
  have h0 : (i 0).val < 15360 := (i 0).isLt
  have ht : ∃ t : Fin grid0.N, win0_2.flush t = true := by decide +kernel
  obtain ⟨t, hf⟩ := ht
  refine ⟨t, hf, ?_⟩
  show i ∈ ((View.whole main_v4).slice (win0_2.rect t)).set
  rw [View.set_slice_whole, Rect.mem_set_unit]
  intro a
  match a with
  | ⟨0, _⟩ => show 0 * 15360 ≤ (i 0).val ∧ (i 0).val < 0 * 15360 + 15360; omega

theorem final2 : (dats m 0 c).arrAt 2 cfg0.N = outRaw m c :=
  (dats m 0 c).arrAt_eq_of_cover 2 _ (fun t hf => flushed2_eq m c t hf) covered2

/-! ## The host's operations after it -/

section Host

variable (a : Args) (raw : FVec Ideal S15360 .f32)

def hLab : IVec S15360x1 32 := broadcastInDim S15360x1 ![0] bcast_S15360_S15360x1_0 (shapeCast S15360 a.lab shapeCasts_S6x2560_S15360)

def hTgt : FVec Ideal S15360 .f32 :=
  mulf (mulf raw (shapeCast S15360 (a.hs : FVec Ideal S6x2560 .f32) shapeCasts_S6x2560_S15360))
    (Host.gather gather_S128256_S15360x1_S15360_n_0_n_n_0_1_1 (a.wsc : FVec Ideal S128256 .f32) (hLab a))

def hTop : FVec Ideal S15360 .f32 :=
  Host.reduce FloatOps.maximumf (a.smax : FVec Ideal S8x15360 .f32) (constant S_ .f32 0xFF800000#32) reducesTo_S8x15360_S15360_d0 h_S_

def hLse : FVec Ideal S15360 .f32 :=
  addf (hTop a) (Host.log (Host.reduceAdd (mulf (a.ssum : FVec Ideal S8x15360 .f32) (Host.exp (subf (a.smax : FVec Ideal S8x15360 .f32)
    (broadcastInDim S8x15360 ![0, 1] bcast_S1x15360_S8x15360_0_1 (broadcastInDim S1x15360 ![1] bcast_S15360_S1x15360_1 (hTop a))))))
    (constant S_ .f32 0x00000000#32) reducesTo_S8x15360_S15360_d0 h_S_))

def hTok : FVec Ideal S15360 .f32 := subf (hTgt a raw) (hLse a)

def hPol : FVec Ideal S24 .f32 :=
  Host.reduceAdd (select (cmpi .eq (broadcastInDim S24x15360 ![0, 1] bcast_S1x15360_S24x15360_0_1 (shapeCast S1x15360 a.seg shapeCasts_S6x2560_S1x15360)) (iotaInDim S24x15360 32 0))
    (broadcastInDim S24x15360 ![1] bcast_S15360_S24x15360_1 (mulf (hTok a raw) (sitofp .f32 (shapeCast S15360 a.mask shapeCasts_S6x2560_S15360))))
    (broadcastInDim S24x15360 ![] bcast_S_S24x15360 (constant (F := Ideal) S_ .f32 0x00000000#32)))
    (constant S_ .f32 0x00000000#32) reducesTo_S24x15360_S24_d1 h_S_

def hRatio : FVec Ideal S24 .f32 := subf (hPol a raw) (a.ref : FVec Ideal S24 .f32)

def hMargin : FVec Ideal S12 .f32 :=
  mulf (broadcastInDim S12 ![] bcast_S_S12 (constant S_ .f32 0x3DCCCCCD#32))
    (subf (Host.gather gather_S24_S12x1_S12_n_0_n_n_0_1_1 (hRatio a raw) (broadcastInDim S12x1 ![0] bcast_S12_S12x1_0 a.chosen))
      (Host.gather gather_S24_S12x1_S12_n_0_n_n_0_1_1 (hRatio a raw) (broadcastInDim S12x1 ![0] bcast_S12_S12x1_0 a.rejected)))

def hLoss : FVec Ideal S12 .f32 :=
  addf (maximumf (Host.negf (hMargin a raw)) (broadcastInDim S12 ![] bcast_S_S12 (constant S_ .f32 0x00000000#32)))
    (Host.log1p (Host.exp (Host.negf (Host.absf (hMargin a raw)))))

end Host

theorem arrRef_injective : Function.Injective (Pipeline.arrRef cfg0.spec) := by decide

/-- The buffers after the region. -/
abbrev Wt : Valuation τ sig (Elt Ideal) := Pipeline.withArrays cfg0.spec c (V0 m c) (fun w => (dats m 0 c).arrAt w cfg0.N)

theorem wt_v4 : Wt m c main_v4 = outRaw m c :=
  (Pipeline.withArrays_arr cfg0.spec arrRef_injective c (V0 m c) (fun w => (dats m 0 c).arrAt w cfg0.N) 2).trans (final2 m c)

theorem wt_v0 : Wt m c main_v0 = shapeCast S15360 (args m c).lab shapeCasts_S6x2560_S15360 := by
  refine (Pipeline.withArrays_of_ne cfg0.spec c (V0 m c) _ main_v0 (by decide)).trans ?_
  show V m c main_v0 = _
  entry_read
  rfl

theorem wt_arg1 : Wt m c main_arg1 = m ((c : Thread nD τ).loc main_arg1) :=
  (Pipeline.withArrays_of_ne cfg0.spec c (V0 m c) _ main_arg1 (by decide)).trans (V_main_arg1 m c)
theorem wt_arg4 : Wt m c main_arg4 = m ((c : Thread nD τ).loc main_arg4) :=
  (Pipeline.withArrays_of_ne cfg0.spec c (V0 m c) _ main_arg4 (by decide)).trans (V_main_arg4 m c)
theorem wt_arg5 : Wt m c main_arg5 = m ((c : Thread nD τ).loc main_arg5) :=
  (Pipeline.withArrays_of_ne cfg0.spec c (V0 m c) _ main_arg5 (by decide)).trans (V_main_arg5 m c)
theorem wt_arg6 : Wt m c main_arg6 = m ((c : Thread nD τ).loc main_arg6) :=
  (Pipeline.withArrays_of_ne cfg0.spec c (V0 m c) _ main_arg6 (by decide)).trans (V_main_arg6 m c)
theorem wt_arg7 : Wt m c main_arg7 = m ((c : Thread nD τ).loc main_arg7) :=
  (Pipeline.withArrays_of_ne cfg0.spec c (V0 m c) _ main_arg7 (by decide)).trans (V_main_arg7 m c)
theorem wt_arg8 : Wt m c main_arg8 = m ((c : Thread nD τ).loc main_arg8) :=
  (Pipeline.withArrays_of_ne cfg0.spec c (V0 m c) _ main_arg8 (by decide)).trans (V_main_arg8 m c)
theorem wt_arg9 : Wt m c main_arg9 = m ((c : Thread nD τ).loc main_arg9) :=
  (Pipeline.withArrays_of_ne cfg0.spec c (V0 m c) _ main_arg9 (by decide)).trans (V_main_arg9 m c)
theorem wt_arg10 : Wt m c main_arg10 = m ((c : Thread nD τ).loc main_arg10) :=
  (Pipeline.withArrays_of_ne cfg0.spec c (V0 m c) _ main_arg10 (by decide)).trans (V_main_arg10 m c)
theorem wt_arg11 : Wt m c main_arg11 = m ((c : Thread nD τ).loc main_arg11) :=
  (Pipeline.withArrays_of_ne cfg0.spec c (V0 m c) _ main_arg11 (by decide)).trans (V_main_arg11 m c)

theorem tail48 : Pipeline.afterTail₀ cfgs (dats m) 0 (V0 m) [hostOps1] c main_v48 = shapeCast S1x15360 (hTgt (args m c) (outRaw m c)) shapeCasts_S15360_S1x15360 := by
  unfold Pipeline.afterTail₀
  simp only [List.flatten_cons, List.flatten_nil, List.append_nil]
  have h_v0 := wt_v0 m c
  have h_v4 := wt_v4 m c
  have h_arg1 := wt_arg1 m c
  have h_arg4 := wt_arg4 m c
  unfold Wt at h_v0 h_v4 h_arg1 h_arg4
  change StableHlo.after hostOps1 (Pipeline.withArrays cfg0.spec c (V0 m c) (fun w => (dats m 0 c).arrAt w cfg0.N)) _ = _
  revert h_v0 h_v4 h_arg1 h_arg4
  generalize Pipeline.withArrays cfg0.spec c (V0 m c) (fun w => (dats m 0 c).arrAt w cfg0.N) = X
  intro h_v0 h_v4 h_arg1 h_arg4
  after_results
  rw [h_v0, h_v4, h_arg1, h_arg4]
  rfl

theorem tail47 : Pipeline.afterTail₀ cfgs (dats m) 0 (V0 m) [hostOps1] c main_v47 = shapeCast S1x15360 (hTok (args m c) (outRaw m c)) shapeCasts_S15360_S1x15360 := by
  unfold Pipeline.afterTail₀
  simp only [List.flatten_cons, List.flatten_nil, List.append_nil]
  have h_v0 := wt_v0 m c
  have h_v4 := wt_v4 m c
  have h_arg1 := wt_arg1 m c
  have h_arg4 := wt_arg4 m c
  have h_arg5 := wt_arg5 m c
  have h_arg6 := wt_arg6 m c
  unfold Wt at h_v0 h_v4 h_arg1 h_arg4 h_arg5 h_arg6
  change StableHlo.after hostOps1 (Pipeline.withArrays cfg0.spec c (V0 m c) (fun w => (dats m 0 c).arrAt w cfg0.N)) _ = _
  revert h_v0 h_v4 h_arg1 h_arg4 h_arg5 h_arg6
  generalize Pipeline.withArrays cfg0.spec c (V0 m c) (fun w => (dats m 0 c).arrAt w cfg0.N) = X
  intro h_v0 h_v4 h_arg1 h_arg4 h_arg5 h_arg6
  after_results
  rw [h_v0, h_v4, h_arg1, h_arg4, h_arg5, h_arg6]
  rfl

theorem tail49 : Pipeline.afterTail₀ cfgs (dats m) 0 (V0 m) [hostOps1] c main_v49 = shapeCast S24x1 (hPol (args m c) (outRaw m c)) shapeCasts_S24_S24x1 := by
  unfold Pipeline.afterTail₀
  simp only [List.flatten_cons, List.flatten_nil, List.append_nil]
  have h_v0 := wt_v0 m c
  have h_v4 := wt_v4 m c
  have h_arg1 := wt_arg1 m c
  have h_arg4 := wt_arg4 m c
  have h_arg5 := wt_arg5 m c
  have h_arg6 := wt_arg6 m c
  have h_arg7 := wt_arg7 m c
  have h_arg8 := wt_arg8 m c
  unfold Wt at h_v0 h_v4 h_arg1 h_arg4 h_arg5 h_arg6 h_arg7 h_arg8
  change StableHlo.after hostOps1 (Pipeline.withArrays cfg0.spec c (V0 m c) (fun w => (dats m 0 c).arrAt w cfg0.N)) _ = _
  revert h_v0 h_v4 h_arg1 h_arg4 h_arg5 h_arg6 h_arg7 h_arg8
  generalize Pipeline.withArrays cfg0.spec c (V0 m c) (fun w => (dats m 0 c).arrAt w cfg0.N) = X
  intro h_v0 h_v4 h_arg1 h_arg4 h_arg5 h_arg6 h_arg7 h_arg8
  after_results
  rw [h_v0, h_v4, h_arg1, h_arg4, h_arg5, h_arg6, h_arg7, h_arg8]
  rfl

theorem tail51 : Pipeline.afterTail₀ cfgs (dats m) 0 (V0 m) [hostOps1] c main_v51 = shapeCast S1x12 (hMargin (args m c) (outRaw m c)) shapeCasts_S12_S1x12 := by
  unfold Pipeline.afterTail₀
  simp only [List.flatten_cons, List.flatten_nil, List.append_nil]
  have h_v0 := wt_v0 m c
  have h_v4 := wt_v4 m c
  have h_arg1 := wt_arg1 m c
  have h_arg4 := wt_arg4 m c
  have h_arg5 := wt_arg5 m c
  have h_arg6 := wt_arg6 m c
  have h_arg7 := wt_arg7 m c
  have h_arg8 := wt_arg8 m c
  have h_arg9 := wt_arg9 m c
  have h_arg10 := wt_arg10 m c
  have h_arg11 := wt_arg11 m c
  unfold Wt at h_v0 h_v4 h_arg1 h_arg4 h_arg5 h_arg6 h_arg7 h_arg8 h_arg9 h_arg10 h_arg11
  change StableHlo.after hostOps1 (Pipeline.withArrays cfg0.spec c (V0 m c) (fun w => (dats m 0 c).arrAt w cfg0.N)) _ = _
  revert h_v0 h_v4 h_arg1 h_arg4 h_arg5 h_arg6 h_arg7 h_arg8 h_arg9 h_arg10 h_arg11
  generalize Pipeline.withArrays cfg0.spec c (V0 m c) (fun w => (dats m 0 c).arrAt w cfg0.N) = X
  intro h_v0 h_v4 h_arg1 h_arg4 h_arg5 h_arg6 h_arg7 h_arg8 h_arg9 h_arg10 h_arg11
  after_results
  rw [h_v0, h_v4, h_arg1, h_arg4, h_arg5, h_arg6, h_arg7, h_arg8, h_arg9, h_arg10, h_arg11]
  rfl

theorem tail50 : Pipeline.afterTail₀ cfgs (dats m) 0 (V0 m) [hostOps1] c main_v50 = shapeCast S1x12 (hLoss (args m c) (outRaw m c)) shapeCasts_S12_S1x12 := by
  unfold Pipeline.afterTail₀
  simp only [List.flatten_cons, List.flatten_nil, List.append_nil]
  have h_v0 := wt_v0 m c
  have h_v4 := wt_v4 m c
  have h_arg1 := wt_arg1 m c
  have h_arg4 := wt_arg4 m c
  have h_arg5 := wt_arg5 m c
  have h_arg6 := wt_arg6 m c
  have h_arg7 := wt_arg7 m c
  have h_arg8 := wt_arg8 m c
  have h_arg9 := wt_arg9 m c
  have h_arg10 := wt_arg10 m c
  have h_arg11 := wt_arg11 m c
  unfold Wt at h_v0 h_v4 h_arg1 h_arg4 h_arg5 h_arg6 h_arg7 h_arg8 h_arg9 h_arg10 h_arg11
  change StableHlo.after hostOps1 (Pipeline.withArrays cfg0.spec c (V0 m c) (fun w => (dats m 0 c).arrAt w cfg0.N)) _ = _
  revert h_v0 h_v4 h_arg1 h_arg4 h_arg5 h_arg6 h_arg7 h_arg8 h_arg9 h_arg10 h_arg11
  generalize Pipeline.withArrays cfg0.spec c (V0 m c) (fun w => (dats m 0 c).arrAt w cfg0.N) = X
  intro h_v0 h_v4 h_arg1 h_arg4 h_arg5 h_arg6 h_arg7 h_arg8 h_arg9 h_arg10 h_arg11
  after_results
  rw [h_v0, h_v4, h_arg1, h_arg4, h_arg5, h_arg6, h_arg7, h_arg8, h_arg9, h_arg10, h_arg11]
  rfl

/-! ## The values of these -/

section Values

variable (a : Args) (raw : FVec Ideal S15360 .f32) (hraw : ∀ n, raw (ix1 n) = a.raw n)

theorem hLab_apply (n : Fin 15360) : hLab a (ix2 n (0 : Fin 1)) = flat a.lab n :=
  (col_apply (R := 15360) (by decide) _ _ n).trans (flat_apply _ _ n)

include hraw in
theorem hTgt_apply (n : Fin 15360) : hTgt a raw (ix1 n) = a.tgt n := by
  have e1 := flat_apply a.hs shapeCasts_S6x2560_S15360 n
  have e2 := gather_one (N := 128256) (R := 15360) (by decide) gather_S128256_S15360x1_S15360_n_0_n_n_0_1_1 ⟨rfl, rfl, rfl, rfl, rfl, rfl, rfl⟩ a.wsc (hLab a) n
  rw [hLab_apply] at e2
  exact congr (congrArg HMul.hMul (congr (congrArg HMul.hMul (hraw n)) e1)) e2

theorem negInf_eq : Ideal.ofBits .f32 0xFF800000#32 = ⊥ := by
  simp [Ideal.ofBits, Ideal.ieee, -EReal.coe_mul]

theorem redTok : S8x15360.Reduces [0] S15360 := by decide

theorem lift_tok (n : Fin 15360) (g : Fin 8) : redTok.lift (ix1 n) g = (ix2 g n : S8x15360.Idx) := funext fun a => Fin.ext (by
  match a with
  | ⟨0, _⟩ => rfl
  | ⟨1, _⟩ => rfl)

theorem hTop_apply (n : Fin 15360) : hTop a (ix1 n) = a.top n := by
  unfold hTop
  have e := hostReduce_maximumf_eq_multiReduction (F := Ideal) (a.smax : FVec Ideal S8x15360 .f32) 0xFF800000#32 reducesTo_S8x15360_S15360_d0 h_S_ redTok (.inl rfl) rfl
  refine (congrFun e (ix1 n)).trans ?_
  refine (Ideal.multiReduction_maximumf_single _ _ _ _ _ (ix1 n)).trans ?_
  refine (congrArg (fun b => (Finset.univ : Finset (Fin 8)).fold max b _) negInf_eq).trans ?_
  exact Finset.fold_congr fun g _ => congrArg a.smax (lift_tok n g)

theorem hLse_apply (n : Fin 15360) : hLse a (ix1 n) = a.lse n := by
  unfold hLse
  refine congr (congrArg HAdd.hAdd (hTop_apply a n)) (congrArg Ideal.log ?_)
  refine (Ideal.hostReduceAdd_single reducesTo_S8x15360_S15360_d0 redTok _ _ (ix1 n)).trans ?_
  refine (congrArg (· + _) Ideal.ofBits_zero_f32).trans ((zero_add _).trans (Finset.sum_congr rfl fun g _ => (congrArg _ (lift_tok n g)).trans ?_))
  refine congrArg (fun b : EReal => a.ssum (ix2 g n) * Ideal.exp (a.smax (ix2 g n) - b)) ?_
  refine (broadcastInDim_apply (s := S1x15360) (t := S8x15360) ![0, 1] _ _ _ (ix2 (0 : Fin 1) n) fun b => ?_).trans ?_
  · match b with
    | ⟨0, _⟩ => rfl
    | ⟨1, _⟩ => rfl
  refine (broadcastInDim_apply (s := S15360) (t := S1x15360) ![1] _ _ _ (ix1 n) fun b => ?_).trans (hTop_apply a n)
  match b with
  | ⟨0, _⟩ => rfl

include hraw in
theorem hTok_apply (n : Fin 15360) : hTok a raw (ix1 n) = a.tok n :=
  congr (congrArg HSub.hSub (hTgt_apply a raw hraw n)) (hLse_apply a n)

theorem redSeq : S24x15360.Reduces [1] S24 := by decide

include hraw in
theorem hPol_apply (s : Fin 24) : hPol a raw (ix1 s) = a.pol s := by
  unfold hPol
  refine (Ideal.hostReduceAdd_single reducesTo_S24x15360_S24_d1 redSeq _ _ (ix1 s)).trans ?_
  refine (congrArg (· + _) Ideal.ofBits_zero_f32).trans ((zero_add _).trans (Finset.sum_congr rfl fun n _ => ?_))
  have hn : n.val < 15360 := n.isLt
  have ei : redSeq.lift (ix1 s) n = (ix2 s n : S24x15360.Idx) := funext fun b => Fin.ext (by
    match b with
    | ⟨0, _⟩ => rfl
    | ⟨1, _⟩ => rfl)
  refine (congrArg _ ei).trans ?_
  have e1 : broadcastInDim S24x15360 ![0, 1] bcast_S1x15360_S24x15360_0_1 (shapeCast S1x15360 a.seg shapeCasts_S6x2560_S1x15360) (ix2 s n) = flat a.seg n := by
    refine (broadcastInDim_apply (s := S1x15360) (t := S24x15360) ![0, 1] _ _ _ (ix2 (0 : Fin 1) n) fun b => ?_).trans (shapeCast_apply _ _ _ _ ?_)
    · match b with
      | ⟨0, _⟩ => rfl
      | ⟨1, _⟩ => rfl
    · refine (Shape.rowMajor_val_two (ix2 (⟨n.val / 2560, by omega⟩ : Fin 6) (⟨n.val % 2560, by omega⟩ : Fin 2560))).trans (Eq.trans ?_ (Shape.rowMajor_val_two (ix2 (0 : Fin 1) n)).symm)
      show (n.val / 2560) * 2560 + n.val % 2560 = 0 * 15360 + n.val
      omega
  have e2 : broadcastInDim S24x15360 ![1] bcast_S15360_S24x15360_1 (mulf (hTok a raw) (sitofp .f32 (shapeCast S15360 a.mask shapeCasts_S6x2560_S15360))) (ix2 s n)
      = a.tok n * (FloatOps.sitofp (F := Ideal) .f32 (flat a.mask n) : EReal) := by
    refine (broadcastInDim_apply (s := S15360) (t := S24x15360) ![1] _ _ _ (ix1 n) fun b => ?_).trans ?_
    · match b with
      | ⟨0, _⟩ => rfl
    · exact congr (congrArg HMul.hMul (hTok_apply a raw hraw n)) (congrArg (fun v => (FloatOps.sitofp (F := Ideal) .f32 v : EReal)) (flat_apply a.mask _ n))
  have e3 : broadcastInDim S24x15360 ![] bcast_S_S24x15360 (constant (F := Ideal) S_ .f32 0x00000000#32) (ix2 s n) = (0 : EReal) :=
    (broadcastInDim_scalar_apply _ _ _).trans Ideal.ofBits_zero_f32
  refine (congr (congr (congrArg Scalar.select (congrArg (fun v => IntOp.cmpi .eq v (BitVec.ofNat 32 s.val)) e1)) e2) e3).trans ?_
  exact select_eq _ _ _ _

include hraw in
theorem hRatio_apply (s : Fin 24) : hRatio a raw (ix1 s) = a.ratio s :=
  congrArg (fun b : EReal => b - a.ref (ix1 s)) (hPol_apply a raw hraw s)

include hraw in
theorem hMargin_apply (p : Fin 12) : hMargin a raw (ix1 p) = a.margin p := by
  have g1 := gather_one (N := 24) (R := 12) (by decide) gather_S24_S12x1_S12_n_0_n_n_0_1_1 ⟨rfl, rfl, rfl, rfl, rfl, rfl, rfl⟩ (hRatio a raw) (broadcastInDim S12x1 ![0] bcast_S12_S12x1_0 a.chosen) p
  have g2 := gather_one (N := 24) (R := 12) (by decide) gather_S24_S12x1_S12_n_0_n_n_0_1_1 ⟨rfl, rfl, rfl, rfl, rfl, rfl, rfl⟩ (hRatio a raw) (broadcastInDim S12x1 ![0] bcast_S12_S12x1_0 a.rejected) p
  rw [col_apply (R := 12) (by decide), hRatio_apply a raw hraw] at g1 g2
  have e0 : broadcastInDim S12 ![] bcast_S_S12 (constant (F := Ideal) S_ .f32 0x3DCCCCCD#32) (ix1 p) = Ideal.ofBits .f32 0x3DCCCCCD#32 := broadcastInDim_scalar_apply _ _ _
  exact congr (congrArg HMul.hMul e0) (congr (congrArg HSub.hSub g1) g2)

include hraw in
theorem hLoss_apply (p : Fin 12) : hLoss a raw (ix1 p) = a.loss p := by
  have e0 : broadcastInDim S12 ![] bcast_S_S12 (constant (F := Ideal) S_ .f32 0x00000000#32) (ix1 p) = (0 : EReal) := (broadcastInDim_scalar_apply _ _ _).trans Ideal.ofBits_zero_f32
  have e1 := hMargin_apply a raw hraw p
  unfold Args.loss
  rw [← e1, ← e0]
  rfl

end Values

theorem rowArr_of {n : ℕ} (f : Fin n → EReal) (X : (⟨1, ![n]⟩ : Shape).Idx → EReal) (hX : ∀ k, X (ix1 k) = f k) (h : (⟨1, ![n]⟩ : Shape).ShapeCasts ⟨2, ![1, n]⟩) :
    shapeCast ⟨2, ![1, n]⟩ X h = rowArr f := by
  funext i
  obtain ⟨u, k, rfl⟩ : ∃ (u : Fin 1) (k : Fin n), i = ix2 u k := ⟨i 0, i 1, eq_ix2 i⟩
  exact (shapeCast_a_1a_apply (a := n) _ _ u k).trans (hX k)

theorem colArr_of {n : ℕ} (f : Fin n → EReal) (X : (⟨1, ![n]⟩ : Shape).Idx → EReal) (hX : ∀ k, X (ix1 k) = f k) (h : (⟨1, ![n]⟩ : Shape).ShapeCasts ⟨2, ![n, 1]⟩) :
    shapeCast ⟨2, ![n, 1]⟩ X h = colArr f := by
  funext i
  obtain ⟨k, u, rfl⟩ : ∃ (k : Fin n) (u : Fin 1), i = ix2 k u := ⟨i 0, i 1, eq_ix2 i⟩
  refine (shapeCast_apply _ _ _ (ix1 k) ?_).trans (hX k)
  refine (Shape.rowMajor_val_one (ix1 k)).trans (Eq.trans ?_ (Shape.rowMajor_val_two (ix2 k u)).symm)
  show k.val = k.val * 1 + u.val
  omega

/-- The run: the results in plain terms, and the arguments unchanged. -/
theorem run : θ_run defs (onTc (τ := τ) (main (F := Ideal))) ⟨m, fun _ => 0, ρ⟩ fun r => ∀ c : Dev nD,
      r.2.mem ((c : Thread nD τ).loc main_v47) = rowArr (args m c).tok
      ∧ r.2.mem ((c : Thread nD τ).loc main_v48) = rowArr (args m c).tgt
      ∧ r.2.mem ((c : Thread nD τ).loc main_v49) = colArr (args m c).pol
      ∧ r.2.mem ((c : Thread nD τ).loc main_v50) = rowArr (args m c).loss
      ∧ r.2.mem ((c : Thread nD τ).loc main_v51) = rowArr (args m c).margin
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨
      ((h.2 c).2 main_v47 (Pipeline.mem_restRefs_of main_v47 (by decide) (by decide))).trans ((tail47 m c).trans (rowArr_of _ _ (hTok_apply (args m c) (outRaw m c) (outRaw_apply m c)) _)),
      ((h.2 c).2 main_v48 (Pipeline.mem_restRefs_of main_v48 (by decide) (by decide))).trans ((tail48 m c).trans (rowArr_of _ _ (hTgt_apply (args m c) (outRaw m c) (outRaw_apply m c)) _)),
      ((h.2 c).2 main_v49 (Pipeline.mem_restRefs_of main_v49 (by decide) (by decide))).trans ((tail49 m c).trans (colArr_of _ _ (hPol_apply (args m c) (outRaw m c) (outRaw_apply m c)) _)),
      ((h.2 c).2 main_v50 (Pipeline.mem_restRefs_of main_v50 (by decide) (by decide))).trans ((tail50 m c).trans (rowArr_of _ _ (hLoss_apply (args m c) (outRaw m c) (outRaw_apply m c)) _)),
      ((h.2 c).2 main_v51 (Pipeline.mem_restRefs_of main_v51 (by decide) (by decide))).trans ((tail51 m c).trans (rowArr_of _ _ (hMargin_apply (args m c) (outRaw m c) (outRaw_apply m c)) _)),
      h.1.1 c⟩)
    (θ_run_and (frame m ρ) (run_main m ρ))

end Cert.FinishReferenceIdeal.Value
-- ==== Proof.FinishPre.lean ====
/- What the second call's two predicates say, in plain terms. -/
module

public import proofs.«01_k».proof.Proof.Gen.Pre_labels_in_vocab
public import proofs.«01_k».proof.Proof.Gen.Pre_finish_inputs
public import Idealize.ShloMosaic.Lib.Claim
public import Idealize.ShloMosaic.Lib.KernelVsHost

@[expose] public section

noncomputable section

namespace Cert.FinishPre

open Idealize.ShloMosaic Idealize.ShloMosaic.ValueIdx

theorem ofBool_one {b : Bool} (h : BitVec.ofBool b = 1#1) : b = true := by cases b <;> simp_all

theorem both {x y : BitVec 1} (h : IntOp.andi x y = 1#1) : x = 1#1 ∧ y = 1#1 := by
  revert x y
  unfold IntOp.andi
  decide

/-- A word between zero and a bound, read as a signed number. -/
theorem word_in {x k : BitVec 32} (h : IntOp.andi (IntOp.cmpi .sge x 0#32) (IntOp.cmpi .slt x k) = 1#1) : 0 ≤ x.toInt ∧ x.toInt < k.toInt := by
  obtain ⟨h0, h1⟩ := both h
  have e0 : (0#32).sle x = true := ofBool_one h0
  have e1 : x.slt k = true := ofBool_one h1
  rw [BitVec.sle_iff_toInt_le] at e0
  rw [BitVec.slt_iff_toInt_lt] at e1
  exact ⟨e0, e1⟩

/-- and then as an unsigned one. -/
theorem toNat_of {x : BitVec 32} (k : Nat) (h : 0 ≤ x.toInt ∧ x.toInt < (k : Int)) : x.toNat < k := by
  obtain ⟨h0, h1⟩ := h
  rw [BitVec.toInt_eq_toNat_cond] at h0 h1
  have := x.isLt
  split at h0 <;> split at h1 <;> omega

theorem label_in {x : BitVec 32} (h : IntOp.andi (IntOp.cmpi .sge x 0#32) (IntOp.cmpi .slt x 128256#32) = 1#1) : x.toNat < 128256 :=
  toNat_of 128256 (word_in h)

theorem pair_in {x : BitVec 32} (h : IntOp.andi (IntOp.cmpi .sge x 0#32) (IntOp.cmpi .slt x 24#32) = 1#1) : 0 ≤ x.toInt ∧ x.toInt < 24 := word_in h

theorem inf_bits : Ideal.ofBits .f32 0x7F800000#32 = ⊤ := by simp [Ideal.ofBits, Ideal.ieee]

theorem scale_in {x : EReal} (h : IntOp.andi (Ideal.cmp .oge x (Ideal.ofBits .f32 0x00000000#32)) (Ideal.cmp .olt x (Ideal.ofBits .f32 0x7F800000#32)) = 1#1) :
    0 ≤ x ∧ x ≠ ⊤ := by
  rw [Ideal.ofBits_zero_f32, inf_bits] at h
  obtain ⟨h0, h1⟩ := both h
  exact ⟨of_decide_eq_true (ofBool_one h0), ne_of_lt (of_decide_eq_true (ofBool_one h1))⟩

/-- `labels_in_vocab`: every label is a row of the vocabulary. -/
theorem labels_in_vocab {F : FTy → Type} [FloatOps F] (a0 : IVec Cert.Pre_labels_in_vocab.S6x2560 32) (a1 a2 a3 a4 a5 a6 a7 a8 a9 a10 a11)
    (h : Cert.Pre_labels_in_vocab.fn (F := F) a0 a1 a2 a3 a4 a5 a6 a7 a8 a9 a10 a11 = fun _ => 1#1) (i : Cert.Pre_labels_in_vocab.S6x2560.Idx) :
    (a0 i).toNat < 128256 :=
  label_in (congrFun h i)

open Cert.Pre_finish_inputs in
/-- `finish_inputs`: besides, the scales are non-negative and finite and each pair names two of the sequences. -/
theorem finish_inputs (a0 : IVec S6x2560 32) (a1 : FVec Ideal S128256 .f32) (a2 a3 a4 a5 a6 a7 a8 a9) (a10 a11 : IVec S12 32)
    (h : (fn (F := Ideal) a0 a1 a2 a3 a4 a5 a6 a7 a8 a9 a10 a11).1 = (fun _ => 1#1) ∧ (fn (F := Ideal) a0 a1 a2 a3 a4 a5 a6 a7 a8 a9 a10 a11).2.1 = (fun _ => 1#1)
      ∧ (fn (F := Ideal) a0 a1 a2 a3 a4 a5 a6 a7 a8 a9 a10 a11).2.2.1 = (fun _ => 1#1) ∧ (fn (F := Ideal) a0 a1 a2 a3 a4 a5 a6 a7 a8 a9 a10 a11).2.2.2 = fun _ => 1#1) :
    (∀ i, (a0 i).toNat < 128256) ∧ (∀ v, (0 : EReal) ≤ a1 v ∧ (a1 v : EReal) ≠ ⊤)
      ∧ (∀ p, 0 ≤ (a10 p).toInt ∧ (a10 p).toInt < 24) ∧ ∀ p, 0 ≤ (a11 p).toInt ∧ (a11 p).toInt < 24 :=
  ⟨fun i => label_in (congrFun h.1 i), fun v => scale_in (congrFun h.2.1 v), fun p => pair_in (congrFun h.2.2.1 p), fun p => pair_in (congrFun h.2.2.2 p)⟩

end Cert.FinishPre

end
-- ==== Proof.lean ====
module

public import proofs.«01_k».proof.Defs
public import proofs.«01_k».proof.Proof.Kernel.Frame
public import proofs.«01_k».proof.Proof.KernelIdeal.Results
public import proofs.«01_k».proof.Proof.Reference
public import proofs.«01_k».proof.Proof.Finish.Labels
public import proofs.«01_k».proof.Proof.FinishIdeal.Results
public import proofs.«01_k».proof.Proof.FinishReference
public import proofs.«01_k».proof.Proof.FinishPre
public import Idealize.ShloMosaic.Adequacy
public import Idealize.ShloMosaic.Init

@[expose] public section

noncomputable section

namespace Cert.Proof

open Idealize.ShloMosaic Idealize.SL.Sem Cert.Kernel

/-- The name stands for the real whose literal the kernel holds. -/
theorem preserves : Cert.preserves_Kernel_KernelIdeal :=
  IdealRules.named_const.statement Cert.KernelIdeal.κ "log2_e" .f32 0x3FB8AA3B#32 (((Real.log 2)⁻¹ : ℝ) : EReal) rfl

/-- Kernel and reference leave the same maxima and sums: each is a shard's largest logit and the sum of the exponentials
    of its logits, less that. -/
theorem algebraic : Cert.algebraic_KernelIdeal_ReferenceIdeal := by
  intro m ρ m' ρ' _ hagree
  have hx : ∀ c, Cert.ReferenceIdeal.Value.argLogit m' c = Cert.KernelIdeal.Gen.argLogit m c := fun c => by
    obtain ⟨h0, h1, h2, h3⟩ := hagree c
    funext v t
    unfold Cert.ReferenceIdeal.Value.argLogit Cert.KernelIdeal.Gen.argLogit
    rw [h0, h1, h2, h3]
  refine ⟨fun c => SoftMath.byPlace (SoftMath.shardMax (Cert.KernelIdeal.Gen.argLogit m c)),
    fun c => SoftMath.byPlace (SoftMath.shardSum (Cert.KernelIdeal.Gen.argLogit m c)), Cert.KernelIdeal.Gen.run m ρ, ?_⟩
  refine (θ_run Cert.ReferenceIdeal.defs _ _).mono (fun _ h c => ?_) (Cert.ReferenceIdeal.Value.run m' ρ')
  have h := h c
  rw [hx c] at h
  exact h

/-! ## The second call -/

theorem finish_preserves : Cert.preserves_Finish_FinishIdeal :=
  IdealRules.named_const.statement Cert.FinishIdeal.κ "log2_e" .f32 0x3FB8AA3B#32 (((Real.log 2)⁻¹ : ℝ) : EReal) rfl

theorem finish_frame : Cert.quiescent_Finish := fun m ρ h =>
  Cert.Finish.Gen.frame m ρ (Cert.Finish.Gen.labs_of m fun c i => FinishPre.labels_in_vocab _ _ _ _ _ _ _ _ _ _ _ _ (h c) i)

theorem finishIdeal_frame : Cert.quiescent_FinishIdeal := fun m ρ h =>
  Cert.FinishIdeal.Gen.frame m ρ (Cert.FinishIdeal.Gen.labs_of m fun c n => FinishPre.labels_in_vocab _ _ _ _ _ _ _ _ _ _ _ _ (h c) _)

/-- What `finish_inputs` asks, of the kernel's arguments. -/
theorem inputs_of (m : (ℓ : Loc Cert.FinishIdeal.nD Cert.FinishIdeal.τ Cert.FinishIdeal.sig) → Buf (Elt Ideal) ℓ) (h : Cert.Pre_FinishIdeal_finish_inputs m) :
    Cert.FinishIdeal.Gen.InputsIn m where
  lab c n := (FinishPre.finish_inputs _ _ _ _ _ _ _ _ _ _ _ _ (h c)).1 _
  scl c v := (FinishPre.finish_inputs _ _ _ _ _ _ _ _ _ _ _ _ (h c)).2.1 _
  chosen c p := (FinishPre.finish_inputs _ _ _ _ _ _ _ _ _ _ _ _ (h c)).2.2.1 _
  rejected c p := (FinishPre.finish_inputs _ _ _ _ _ _ _ _ _ _ _ _ (h c)).2.2.2 _

theorem finishIdeal_frame' : Cert.quiescent_FinishIdeal_pre_finish_inputs := fun m ρ h =>
  Cert.FinishIdeal.Gen.frame m ρ (Cert.FinishIdeal.Gen.labs_of m (inputs_of m h).lab)

/-- Kernel and reference leave the same log-probabilities, logits, sums over the sequences, losses and margins. -/
theorem finish_algebraic : Cert.algebraic_FinishIdeal_FinishReferenceIdeal_pre_finish_inputs := by
  intro m ρ m' ρ' hpre hagree
  have hx : ∀ c, Cert.FinishReferenceIdeal.Value.args m' c = Cert.FinishIdeal.Gen.args m c := fun c => by
    obtain ⟨h0, h1, h2, h3, h4, h5, h6, h7, h8, h9, h10, h11⟩ := hagree c
    unfold Cert.FinishReferenceIdeal.Value.args Cert.FinishIdeal.Gen.args
    rw [h0, h1, h2, h3, h4, h5, h6, h7, h8, h9, h10, h11]
  refine ⟨fun c => FinishTerms.rowArr (Cert.FinishIdeal.Gen.args m c).tok, fun c => FinishTerms.rowArr (Cert.FinishIdeal.Gen.args m c).tgt,
    fun c => FinishTerms.colArr (Cert.FinishIdeal.Gen.args m c).pol, fun c => FinishTerms.rowArr (Cert.FinishIdeal.Gen.args m c).loss,
    fun c => FinishTerms.rowArr (Cert.FinishIdeal.Gen.args m c).margin, Cert.FinishIdeal.Gen.run m ρ (inputs_of m hpre), ?_⟩
  refine (θ_run Cert.FinishReferenceIdeal.defs _ _).mono (fun _ h c => ?_) (Cert.FinishReferenceIdeal.Value.run m' ρ')
  have h := h c
  rw [hx c] at h
  exact h

theorem claim : Cert.Claim :=
  ⟨Cert.Kernel.Gen.facts, Cert.KernelIdeal.Gen.facts, Cert.ReferenceIdeal.Gen.facts,
    Cert.Finish.Gen.facts, Cert.FinishIdeal.Gen.facts, Cert.FinishReferenceIdeal.Gen.facts,
    Cert.Pre_labels_in_vocab.Gen.facts, Cert.Pre_finish_inputs.Gen.facts,
    fun m ρ _ => Cert.Kernel.Gen.frame m ρ, fun m ρ _ => Cert.KernelIdeal.Gen.frame m ρ,
    fun m ρ _ => Cert.ReferenceIdeal.Gen.frame m ρ,
    finish_frame, finishIdeal_frame, finishIdeal_frame',
    fun m ρ _ => Cert.FinishReferenceIdeal.Gen.frame m ρ, fun m ρ _ => Cert.FinishReferenceIdeal.Gen.frame m ρ,
    preserves, algebraic, finish_preserves, finish_algebraic⟩

end Cert.Proof

end
